-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_gate [hPre_finite_gate : Cert.Pre_finite_gate.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_gate [hPre_finite_gate : Cert.Pre_finite_gate.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_gate.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_last [hPre_finite_last : Cert.Pre_finite_last.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_last.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_last [hPre_finite_last : Cert.Pre_finite_last.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_last.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Kernel2Ideal_pre_finite_gate [hKernel2Ideal : Cert.Kernel2Ideal.Facts] [hPre_finite_gate : Cert.Pre_finite_gate.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_gate m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Reference2Ideal_pre_finite_gate [hReference2Ideal : Cert.Reference2Ideal.Facts] [hPre_finite_gate : Cert.Pre_finite_gate.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_gate m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite_last [hKernel3Ideal : Cert.Kernel3Ideal.Facts] [hPre_finite_last : Cert.Pre_finite_last.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_last m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite_last [hReference3Ideal : Cert.Reference3Ideal.Facts] [hPre_finite_last : Cert.Pre_finite_last.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_last m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  IdealRules.named_const.Statement Cert.KernelIdeal.κ "q_scale" .f32 0x3E38AA3B#32 (((8 * (Real.log 2))⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  IdealRules.named_const.Statement Cert.Kernel2Ideal.κ "q_scale" .f32 0x3E38AA3B#32 (((8 * (Real.log 2))⁻¹ : ℝ) : EReal)

def algebraic_Kernel2Ideal_Reference2Ideal_pre_finite_gate [hKernel2Ideal : Cert.Kernel2Ideal.Facts] [hReference2Ideal : Cert.Reference2Ideal.Facts] [hPre_finite_gate : Cert.Pre_finite_gate.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_gate m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v61_0)) (v1 : (c : Dev Cert.Kernel2Ideal.nD) → Buf (Elt Ideal) ((c.tc : Thread Cert.Kernel2Ideal.nD Cert.Kernel2Ideal.τ).loc Cert.Kernel2Ideal.main_v61_1)) (v2 : (c : Dev Cert.Kernel2Ideal.nD) → Buf (Elt Ideal) ((c.tc : Thread Cert.Kernel2Ideal.nD Cert.Kernel2Ideal.τ).loc Cert.Kernel2Ideal.main_v61_2)) (v3 : (c : Dev Cert.Kernel2Ideal.nD) → Buf (Elt Ideal) ((c.tc : Thread Cert.Kernel2Ideal.nD Cert.Kernel2Ideal.τ).loc Cert.Kernel2Ideal.main_v61_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v61_0) = v0 c
          ∧ r.2.mem ((c.tc : Thread Cert.Kernel2Ideal.nD Cert.Kernel2Ideal.τ).loc Cert.Kernel2Ideal.main_v61_1) = v1 c
          ∧ r.2.mem ((c.tc : Thread Cert.Kernel2Ideal.nD Cert.Kernel2Ideal.τ).loc Cert.Kernel2Ideal.main_v61_2) = v2 c
          ∧ r.2.mem ((c.tc : Thread Cert.Kernel2Ideal.nD Cert.Kernel2Ideal.τ).loc Cert.Kernel2Ideal.main_v61_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v145) = v0 c
          ∧ r.2.mem ((c.tc : Thread Cert.Reference2Ideal.nD Cert.Reference2Ideal.τ).loc Cert.Reference2Ideal.main_v147) = v1 c
          ∧ r.2.mem ((c.tc : Thread Cert.Reference2Ideal.nD Cert.Reference2Ideal.τ).loc Cert.Reference2Ideal.main_v148) = v2 c
          ∧ r.2.mem ((c.tc : Thread Cert.Reference2Ideal.nD Cert.Reference2Ideal.τ).loc Cert.Reference2Ideal.main_v149) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal_pre_finite_last [hKernel3Ideal : Cert.Kernel3Ideal.Facts] [hReference3Ideal : Cert.Reference3Ideal.Facts] [hPre_finite_last : Cert.Pre_finite_last.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_last m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_v20) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v8_1)) (v1 : (c : Dev Cert.Kernel5Ideal.nD) → Buf (Elt Ideal) ((c.tc : Thread Cert.Kernel5Ideal.nD Cert.Kernel5Ideal.τ).loc Cert.Kernel5Ideal.main_v8_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_1) = v0 c
          ∧ r.2.mem ((c.tc : Thread Cert.Kernel5Ideal.nD Cert.Kernel5Ideal.τ).loc Cert.Kernel5Ideal.main_v8_2) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v5) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts) (hPre_finite_gate : Cert.Pre_finite_gate.Facts) (hPre_finite_last : Cert.Pre_finite_last.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_gate (hKernel2Ideal := hKernel2Ideal) (hPre_finite_gate := hPre_finite_gate)
    ∧ quiescent_Reference2Ideal (hReference2Ideal := hReference2Ideal)
    ∧ quiescent_Reference2Ideal_pre_finite_gate (hReference2Ideal := hReference2Ideal) (hPre_finite_gate := hPre_finite_gate)
    ∧ quiescent_Kernel3 (hKernel3 := hKernel3)
    ∧ quiescent_Kernel3Ideal (hKernel3Ideal := hKernel3Ideal)
    ∧ quiescent_Kernel3Ideal_pre_finite_last (hKernel3Ideal := hKernel3Ideal) (hPre_finite_last := hPre_finite_last)
    ∧ quiescent_Reference3Ideal (hReference3Ideal := hReference3Ideal)
    ∧ quiescent_Reference3Ideal_pre_finite_last (hReference3Ideal := hReference3Ideal) (hPre_finite_last := hPre_finite_last)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_gate (hKernel2Ideal := hKernel2Ideal) (hReference2Ideal := hReference2Ideal) (hPre_finite_gate := hPre_finite_gate)
    ∧ preserves_Kernel3_Kernel3Ideal
    ∧ algebraic_Kernel3Ideal_Reference3Ideal_pre_finite_last (hKernel3Ideal := hKernel3Ideal) (hReference3Ideal := hReference3Ideal) (hPre_finite_last := hPre_finite_last)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_gate.lean ====
abbrev S16x2048x1024 : Shape := ⟨3, ![16, 2048, 1024]⟩
abbrev S16x2048x2048 : Shape := ⟨3, ![16, 2048, 2048]⟩
abbrev S1x2048x1024 : Shape := ⟨3, ![1, 2048, 1024]⟩
abbrev S1024 : Shape := ⟨1, ![1024]⟩
abbrev S1024x256 : Shape := ⟨2, ![1024, 256]⟩
abbrev S1x1024 : Shape := ⟨2, ![1, 1024]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S_ : Shape := ⟨0, ![]⟩

class Facts : Prop where
  bcast_S_S2x1024 : S_.BroadcastsInDim S2x1024 (![] : Fin 0 → Fin S2x1024.rank)
  reducesTo_S2x1024_S_d0_1 : S2x1024.ReducesTo [0, 1] S_
  h_S_ : 0 < S_.numel
  bcast_S_S2x1024x2816 : S_.BroadcastsInDim S2x1024x2816 (![] : Fin 0 → Fin S2x1024x2816.rank)
  reducesTo_S2x1024x2816_S_d0_1_2 : S2x1024x2816.ReducesTo [0, 1, 2] S_

variable [Facts]

def fn {F : FTy → Type} [FloatOps F] (main_arg0 : FVec F S16x2048x1024 .f32) (main_arg1 : FVec F S16x2048x2048 .bf16) (main_arg2 : FVec F S1x2048x1024 .f32) (main_arg3 : FVec F S1024 .f32) (main_arg4 : FVec F S1024x256 .f32) (main_arg5 : FVec F S1024x256 .f32) (main_arg6 : FVec F S1x1024 .f32) (main_arg7 : FVec F S1x1024x1024 .f32) (main_arg8 : FVec F S2x1024 .f32) (main_arg9 : FVec F S2x1024x2816 .f32) (main_arg10 : FVec F S2x1024x2816 .f32) (main_arg11 : FVec F S2x2816x1024 .f32) : IVec S_ 1 :=
  let main_v0 : FVec F S2x1024 .f32 := Host.absf main_arg8
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_c : IVec S_ 1 := constantI S_ 1 1#1
  let main_v3 : IVec S_ 1 := (fun x v => Host.reduce IntOp.andi x v reducesTo_S2x1024_S_d0_1 h_S_) main_v2 main_c
  let main_v4 : FVec F S2x1024x2816 .f32 := Host.absf main_arg9
  let main_cst_0 : FVec F S_ .f32 := constant S_ .f32 0x7F800000#32
  let main_v5 : FVec F S2x1024x2816 .f32 := broadcastInDim S2x1024x2816 ![] bcast_S_S2x1024x2816 main_cst_0
  let main_v6 : IVec S2x1024x2816 1 := cmpf .olt main_v4 main_v5
  let main_c_1 : IVec S_ 1 := constantI S_ 1 1#1
  let main_v7 : IVec S_ 1 := (fun x v => Host.reduce IntOp.andi x v reducesTo_S2x1024x2816_S_d0_1_2 h_S_) main_v6 main_c_1
  let main_v8 : IVec S_ 1 := andi main_v3 main_v7
  main_v8
-- ==== Pre_finite_last.lean ====
abbrev S128x8x1024 : Shape := ⟨3, ![128, 8, 1024]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S_ : Shape := ⟨0, ![]⟩

class Facts : Prop where
  bcast_S_S2x1024 : S_.BroadcastsInDim S2x1024 (![] : Fin 0 → Fin S2x1024.rank)
  reducesTo_S2x1024_S_d0_1 : S2x1024.ReducesTo [0, 1] S_
  h_S_ : 0 < S_.numel
  bcast_S_S2x1024x2816 : S_.BroadcastsInDim S2x1024x2816 (![] : Fin 0 → Fin S2x1024x2816.rank)
  reducesTo_S2x1024x2816_S_d0_1_2 : S2x1024x2816.ReducesTo [0, 1, 2] S_

variable [Facts]

def fn {F : FTy → Type} [FloatOps F] (main_arg0 : FVec F S128x8x1024 .f32) (main_arg1 : FVec F S128x8x1024 .f32) (main_arg2 : FVec F S1x1024x1024 .f32) (main_arg3 : FVec F S2x1024 .f32) (main_arg4 : FVec F S2x1024x2816 .f32) (main_arg5 : FVec F S2x1024x2816 .f32) (main_arg6 : FVec F S2x2816x1024 .f32) (main_arg7 : FVec F S1024 .f32) : IVec S_ 1 :=
  let main_v0 : FVec F S2x1024 .f32 := Host.absf main_arg3
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_c : IVec S_ 1 := constantI S_ 1 1#1
  let main_v3 : IVec S_ 1 := (fun x v => Host.reduce IntOp.andi x v reducesTo_S2x1024_S_d0_1 h_S_) main_v2 main_c
  let main_v4 : FVec F S2x1024x2816 .f32 := Host.absf main_arg4
  let main_cst_0 : FVec F S_ .f32 := constant S_ .f32 0x7F800000#32
  let main_v5 : FVec F S2x1024x2816 .f32 := broadcastInDim S2x1024x2816 ![] bcast_S_S2x1024x2816 main_cst_0
  let main_v6 : IVec S2x1024x2816 1 := cmpf .olt main_v4 main_v5
  let main_c_1 : IVec S_ 1 := constantI S_ 1 1#1
  let main_v7 : IVec S_ 1 := (fun x v => Host.reduce IntOp.andi x v reducesTo_S2x1024x2816_S_d0_1_2 h_S_) main_v6 main_c_1
  let main_v8 : IVec S_ 1 := andi main_v3 main_v7
  main_v8
-- ==== Pre_finite_scores.lean ====
abbrev S16x2048x16x64 : Shape := ⟨4, ![16, 2048, 16, 64]⟩
abbrev S16x2048x4x64 : Shape := ⟨4, ![16, 2048, 4, 64]⟩
abbrev S1x128x4x64 : Shape := ⟨4, ![1, 128, 4, 64]⟩
abbrev S1x16 : Shape := ⟨2, ![1, 16]⟩
abbrev S16x2048x1024 : Shape := ⟨3, ![16, 2048, 1024]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S_ : Shape := ⟨0, ![]⟩

class Facts : Prop where
  bcast_S_S16x2048x16x64 : S_.BroadcastsInDim S16x2048x16x64 (![] : Fin 0 → Fin S16x2048x16x64.rank)
  reducesTo_S16x2048x16x64_S_d0_1_2_3 : S16x2048x16x64.ReducesTo [0, 1, 2, 3] S_
  h_S_ : 0 < S_.numel
  bcast_S_S16x2048x4x64 : S_.BroadcastsInDim S16x2048x4x64 (![] : Fin 0 → Fin S16x2048x4x64.rank)
  reducesTo_S16x2048x4x64_S_d0_1_2_3 : S16x2048x4x64.ReducesTo [0, 1, 2, 3] S_
  bcast_S_S1x128x4x64 : S_.BroadcastsInDim S1x128x4x64 (![] : Fin 0 → Fin S1x128x4x64.rank)
  reducesTo_S1x128x4x64_S_d0_1_2_3 : S1x128x4x64.ReducesTo [0, 1, 2, 3] S_
  bcast_S_S1x16 : S_.BroadcastsInDim S1x16 (![] : Fin 0 → Fin S1x16.rank)
  reducesTo_S1x16_S_d0_1 : S1x16.ReducesTo [0, 1] S_
  bcast_S_S2x1024 : S_.BroadcastsInDim S2x1024 (![] : Fin 0 → Fin S2x1024.rank)
  reducesTo_S2x1024_S_d0_1 : S2x1024.ReducesTo [0, 1] S_
  bcast_S_S2x1024x2816 : S_.BroadcastsInDim S2x1024x2816 (![] : Fin 0 → Fin S2x1024x2816.rank)
  reducesTo_S2x1024x2816_S_d0_1_2 : S2x1024x2816.ReducesTo [0, 1, 2] S_

variable [Facts]

def fn_part1 {F : FTy → Type} [FloatOps F] (main_arg8 : FVec F S2x1024 .f32) (main_arg9 : FVec F S2x1024x2816 .f32) (main_v13 : IVec S_ 1) (main_v16 : IVec S1x16 1) : IVec S_ 1 :=
  let main_c_5 : IVec S_ 1 := constantI S_ 1 1#1
  let main_v17 : IVec S_ 1 := (fun x v => Host.reduce IntOp.andi x v reducesTo_S1x16_S_d0_1 h_S_) main_v16 main_c_5
  let main_v18 : IVec S_ 1 := andi main_v13 main_v17
  let main_v19 : FVec F S2x1024 .f32 := Host.absf main_arg8
  let main_cst_6 : FVec F S_ .f32 := constant S_ .f32 0x7F800000#32
  let main_v20 : FVec F S2x1024 .f32 := broadcastInDim S2x1024 ![] bcast_S_S2x1024 main_cst_6
  let main_v21 : IVec S2x1024 1 := cmpf .olt main_v19 main_v20
  let main_c_7 : IVec S_ 1 := constantI S_ 1 1#1
  let main_v22 : IVec S_ 1 := (fun x v => Host.reduce IntOp.andi x v reducesTo_S2x1024_S_d0_1 h_S_) main_v21 main_c_7
  let main_v23 : IVec S_ 1 := andi main_v18 main_v22
  let main_v24 : FVec F S2x1024x2816 .f32 := Host.absf main_arg9
  let main_cst_8 : FVec F S_ .f32 := constant S_ .f32 0x7F800000#32
  let main_v25 : FVec F S2x1024x2816 .f32 := broadcastInDim S2x1024x2816 ![] bcast_S_S2x1024x2816 main_cst_8
  let main_v26 : IVec S2x1024x2816 1 := cmpf .olt main_v24 main_v25
  let main_c_9 : IVec S_ 1 := constantI S_ 1 1#1
  let main_v27 : IVec S_ 1 := (fun x v => Host.reduce IntOp.andi x v reducesTo_S2x1024x2816_S_d0_1_2 h_S_) main_v26 main_c_9
  let main_v28 : IVec S_ 1 := andi main_v23 main_v27
  main_v28

def fn {F : FTy → Type} [FloatOps F] (main_arg0 : FVec F S16x2048x16x64 .f32) (main_arg1 : FVec F S16x2048x4x64 .f32) (main_arg2 : FVec F S16x2048x4x64 .f32) (main_arg3 : FVec F S1x128x4x64 .f32) (main_arg4 : FVec F S1x128x4x64 .f32) (main_arg5 : FVec F S1x16 .f32) (main_arg6 : FVec F S16x2048x1024 .f32) (main_arg7 : FVec F S1x1024x1024 .f32) (main_arg8 : FVec F S2x1024 .f32) (main_arg9 : FVec F S2x1024x2816 .f32) (main_arg10 : FVec F S2x1024x2816 .f32) (main_arg11 : FVec F S2x2816x1024 .f32) (main_arg12 : FVec F S1024 .f32) : IVec S_ 1 :=
  let main_v0 : FVec F S16x2048x16x64 .f32 := Host.absf main_arg0
  let main_cst : FVec F S_ .f32 := constant S_ .f32 0x7F800000#32
  let main_v1 : FVec F S16x2048x16x64 .f32 := broadcastInDim S16x2048x16x64 ![] bcast_S_S16x2048x16x64 main_cst
  let main_v2 : IVec S16x2048x16x64 1 := cmpf .olt main_v0 main_v1
  let main_c : IVec S_ 1 := constantI S_ 1 1#1
  let main_v3 : IVec S_ 1 := (fun x v => Host.reduce IntOp.andi x v reducesTo_S16x2048x16x64_S_d0_1_2_3 h_S_) main_v2 main_c
  let main_v4 : FVec F S16x2048x4x64 .f32 := Host.absf main_arg1
  let main_cst_0 : FVec F S_ .f32 := constant S_ .f32 0x7F800000#32
  let main_v5 : FVec F S16x2048x4x64 .f32 := broadcastInDim S16x2048x4x64 ![] bcast_S_S16x2048x4x64 main_cst_0
  let main_v6 : IVec S16x2048x4x64 1 := cmpf .olt main_v4 main_v5
  let main_c_1 : IVec S_ 1 := constantI S_ 1 1#1
  let main_v7 : IVec S_ 1 := (fun x v => Host.reduce IntOp.andi x v reducesTo_S16x2048x4x64_S_d0_1_2_3 h_S_) main_v6 main_c_1
  let main_v8 : IVec S_ 1 := andi main_v3 main_v7
  let main_v9 : FVec F S1x128x4x64 .f32 := Host.absf main_arg3
  let main_cst_2 : FVec F S_ .f32 := constant S_ .f32 0x7F800000#32
  let main_v10 : FVec F S1x128x4x64 .f32 := broadcastInDim S1x128x4x64 ![] bcast_S_S1x128x4x64 main_cst_2
  let main_v11 : IVec S1x128x4x64 1 := cmpf .olt main_v9 main_v10
  let main_c_3 : IVec S_ 1 := constantI S_ 1 1#1
  let main_v12 : IVec S_ 1 := (fun x v => Host.reduce IntOp.andi x v reducesTo_S1x128x4x64_S_d0_1_2_3 h_S_) main_v11 main_c_3
  let main_v13 : IVec S_ 1 := andi main_v8 main_v12
  let main_v14 : FVec F S1x16 .f32 := Host.absf main_arg5
  let main_cst_4 : FVec F S_ .f32 := constant S_ .f32 0x7F800000#32
  let main_v15 : FVec F S1x16 .f32 := broadcastInDim S1x16 ![] bcast_S_S1x16 main_cst_4
  let main_v16 : IVec S1x16 1 := cmpf .olt main_v14 main_v15
  fn_part1 (F := F) main_arg8 main_arg9 main_v13 main_v16
-- ==== Kernel.lean ====
abbrev S16x2048x16x64 : Shape := ⟨4, ![16, 2048, 16, 64]⟩
abbrev S16x2048x4x64 : Shape := ⟨4, ![16, 2048, 4, 64]⟩
abbrev S1x128x4x64 : Shape := ⟨4, ![1, 128, 4, 64]⟩
abbrev S1x16 : Shape := ⟨2, ![1, 16]⟩
abbrev S16x2048x1024 : Shape := ⟨3, ![16, 2048, 1024]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S32768x1024 : Shape := ⟨2, ![32768, 1024]⟩
abbrev S32768x256 : Shape := ⟨2, ![32768, 256]⟩
abbrev S1x128x256 : Shape := ⟨3, ![1, 128, 256]⟩
abbrev S16 : Shape := ⟨1, ![16]⟩
abbrev S1024x1024 : Shape := ⟨2, ![1024, 1024]⟩
abbrev S1x1024 : Shape := ⟨2, ![1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S512x1024 : Shape := ⟨2, ![512, 1024]⟩
abbrev S512x256 : Shape := ⟨2, ![512, 256]⟩
abbrev S128x256 : Shape := ⟨2, ![128, 256]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩
abbrev S128x1024 : Shape := ⟨2, ![128, 1024]⟩
abbrev S128x128 : Shape := ⟨2, ![128, 128]⟩
abbrev S256x128 : Shape := ⟨2, ![256, 128]⟩
abbrev S512x128 : Shape := ⟨2, ![512, 128]⟩
abbrev S1 : Shape := ⟨1, ![1]⟩
abbrev S128 : Shape := ⟨1, ![128]⟩
abbrev S128x1 : Shape := ⟨2, ![128, 1]⟩

abbrev nBuf : Space → Nat
  | .hbm => 36
  | .vmem => 23
  | .smem => 1
  | _ => 0

abbrev bufTy : (tb : Table) → Fin (tcTables nBuf tb) → BufTy
  | .hbm, ⟨0, _⟩ => ⟨S16x2048x16x64, .f32⟩
  | .hbm, ⟨1, _⟩ => ⟨S16x2048x4x64, .f32⟩
  | .hbm, ⟨2, _⟩ => ⟨S16x2048x4x64, .f32⟩
  | .hbm, ⟨3, _⟩ => ⟨S1x128x4x64, .f32⟩
  | .hbm, ⟨4, _⟩ => ⟨S1x128x4x64, .f32⟩
  | .hbm, ⟨5, _⟩ => ⟨S1x16, .f32⟩
  | .hbm, ⟨6, _⟩ => ⟨S16x2048x1024, .f32⟩
  | .hbm, ⟨7, _⟩ => ⟨S1x1024x1024, .f32⟩
  | .hbm, ⟨8, _⟩ => ⟨S2x1024, .f32⟩
  | .hbm, ⟨9, _⟩ => ⟨S2x1024x2816, .f32⟩
  | .hbm, ⟨10, _⟩ => ⟨S2x1024x2816, .f32⟩
  | .hbm, ⟨11, _⟩ => ⟨S2x2816x1024, .f32⟩
  | .hbm, ⟨12, _⟩ => ⟨S1024, .f32⟩
  | .hbm, ⟨13, _⟩ => ⟨S32768x1024, .f32⟩
  | .hbm, ⟨14, _⟩ => ⟨S32768x256, .f32⟩
  | .hbm, ⟨15, _⟩ => ⟨S32768x256, .f32⟩
  | .hbm, ⟨16, _⟩ => ⟨S1x128x256, .f32⟩
  | .hbm, ⟨17, _⟩ => ⟨S1x128x256, .f32⟩
  | .hbm, ⟨18, _⟩ => ⟨S16, .f32⟩
  | .hbm, ⟨19, _⟩ => ⟨S32768x1024, .f32⟩
  | .hbm, ⟨20, _⟩ => ⟨S1024x1024, .f32⟩
  | .hbm, ⟨21, _⟩ => ⟨S1024x1024, .bf16⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1x1024x2816, .f32⟩
  | .hbm, ⟨26, _⟩ => ⟨S1024x2816, .f32⟩
  | .hbm, ⟨27, _⟩ => ⟨S1024x2816, .bf16⟩
  | .hbm, ⟨28, _⟩ => ⟨S1x1024x2816, .f32⟩
  | .hbm, ⟨29, _⟩ => ⟨S1024x2816, .f32⟩
  | .hbm, ⟨30, _⟩ => ⟨S1024x2816, .bf16⟩
  | .hbm, ⟨31, _⟩ => ⟨S1x2816x1024, .f32⟩
  | .hbm, ⟨32, _⟩ => ⟨S2816x1024, .f32⟩
  | .hbm, ⟨33, _⟩ => ⟨S2816x1024, .bf16⟩
  | .hbm, ⟨34, _⟩ => ⟨S1x1024, .f32⟩
  | .hbm, ⟨35, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S128x256, .f32⟩
  | .local _ .vmem, ⟨5, _⟩ => ⟨S128x256, .f32⟩
  | .local _ .vmem, ⟨6, _⟩ => ⟨S1x128x256, .f32⟩
  | .local _ .vmem, ⟨7, _⟩ => ⟨S512x256, .f32⟩
  | .local _ .vmem, ⟨8, _⟩ => ⟨S512x256, .f32⟩
  | .local _ .vmem, ⟨9, _⟩ => ⟨S128x256, .f32⟩
  | .local _ .vmem, ⟨10, _⟩ => ⟨S128x256, .f32⟩
  | .local _ .vmem, ⟨11, _⟩ => ⟨S1x128x256, .f32⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S1x1024, .f32⟩
  | .local _ .vmem, ⟨16, _⟩ => ⟨S1024x2816, .bf16⟩
  | .local _ .vmem, ⟨17, _⟩ => ⟨S1024x2816, .bf16⟩
  | .local _ .vmem, ⟨18, _⟩ => ⟨S2816x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .smem, ⟨0, _⟩ => ⟨S16, .f32⟩
  | _, _ => ⟨S16x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![65], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.muli v0 c4_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.muli v0 c4_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KernelIdeal.lean ====
variable {F : FTy → Type} [FloatOps F] [Named F]
def κ : String → Option EReal := fun
  | "log2e" => some (((Real.log 2)⁻¹ : ℝ) : EReal)
  | "q_scale" => some (((8 * (Real.log 2))⁻¹ : ℝ) : EReal)
  | _ => none
-- ==== ReferenceIdeal.lean ====
abbrev S16x2048x16x64 : Shape := ⟨4, ![16, 2048, 16, 64]⟩
abbrev S16x2048x4x64 : Shape := ⟨4, ![16, 2048, 4, 64]⟩
abbrev S1x128x4x64 : Shape := ⟨4, ![1, 128, 4, 64]⟩
abbrev S1x16 : Shape := ⟨2, ![1, 16]⟩
abbrev S16x2048x1024 : Shape := ⟨3, ![16, 2048, 1024]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S16 : Shape := ⟨1, ![16]⟩
abbrev S1024x1024 : Shape := ⟨2, ![1024, 1024]⟩
abbrev S1x1024 : Shape := ⟨2, ![1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16x2048x4x4x64 : Shape := ⟨5, ![16, 2048, 4, 4, 64]⟩
abbrev S16x128x4x64 : Shape := ⟨4, ![16, 128, 4, 64]⟩
abbrev S16x2176x4x64 : Shape := ⟨4, ![16, 2176, 4, 64]⟩
abbrev S16x16x128x4x4x64 : Shape := ⟨6, ![16, 16, 128, 4, 4, 64]⟩
abbrev S16x17x128x4x64 : Shape := ⟨5, ![16, 17, 128, 4, 64]⟩
abbrev S16x16x128x4x64 : Shape := ⟨5, ![16, 16, 128, 4, 64]⟩
abbrev S16x16x256x4x64 : Shape := ⟨5, ![16, 16, 256, 4, 64]⟩
abbrev S2048 : Shape := ⟨1, ![2048]⟩
abbrev S16x128 : Shape := ⟨2, ![16, 128]⟩
abbrev S_ : Shape := ⟨0, ![]⟩
abbrev S2176 : Shape := ⟨1, ![2176]⟩
abbrev S17x128 : Shape := ⟨2, ![17, 128]⟩
abbrev S16x256 : Shape := ⟨2, ![16, 256]⟩
abbrev S16x128x1 : Shape := ⟨3, ![16, 128, 1]⟩
abbrev S16x1x256 : Shape := ⟨3, ![16, 1, 256]⟩
abbrev S16x128x256 : Shape := ⟨3, ![16, 128, 256]⟩
abbrev S16x16x4x256x128x4 : Shape := ⟨6, ![16, 16, 4, 256, 128, 4]⟩
abbrev S16x16x4x4x128x256 : Shape := ⟨6, ![16, 16, 4, 4, 128, 256]⟩
abbrev S1x16x1x1x128x256 : Shape := ⟨6, ![1, 16, 1, 1, 128, 256]⟩
abbrev S4x4 : Shape := ⟨2, ![4, 4]⟩
abbrev S1x1x4x4x1x1 : Shape := ⟨6, ![1, 1, 4, 4, 1, 1]⟩
abbrev S16x16x4x4x128 : Shape := ⟨5, ![16, 16, 4, 4, 128]⟩
abbrev S16x16x4x4x128x1 : Shape := ⟨6, ![16, 16, 4, 4, 128, 1]⟩
abbrev S16x16x4x64x4x128 : Shape := ⟨6, ![16, 16, 4, 64, 4, 128]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2816 : Shape := ⟨3, ![16, 2048, 2816]⟩
abbrev S32768x1024 : Shape := ⟨2, ![32768, 1024]⟩

abbrev nBuf : Space → Nat
  | .hbm => 150
  | .vmem => 0
  | .smem => 0
  | _ => 0

abbrev hbmTy0_0 (i : Nat) : BufTy := match i % 128 with
  | 0 => ⟨S16x2048x16x64, .f32⟩
  | 1 => ⟨S16x2048x4x64, .f32⟩
  | 2 => ⟨S16x2048x4x64, .f32⟩
  | 3 => ⟨S1x128x4x64, .f32⟩
  | 4 => ⟨S1x128x4x64, .f32⟩
  | 5 => ⟨S1x16, .f32⟩
  | 6 => ⟨S16x2048x1024, .f32⟩
  | 7 => ⟨S1x1024x1024, .f32⟩
  | 8 => ⟨S2x1024, .f32⟩
  | 9 => ⟨S2x1024x2816, .f32⟩
  | 10 => ⟨S2x1024x2816, .f32⟩
  | 11 => ⟨S2x2816x1024, .f32⟩
  | 12 => ⟨S1024, .f32⟩
  | 13 => ⟨S16, .f32⟩
  | 14 => ⟨S1024x1024, .f32⟩
  | 15 => ⟨S1x1024, .f32⟩
  | 16 => ⟨S1024, .f32⟩
  | 17 => ⟨S1x1024x2816, .f32⟩
  | 18 => ⟨S1024x2816, .f32⟩
  | 19 => ⟨S1x1024x2816, .f32⟩
  | 20 => ⟨S1024x2816, .f32⟩
  | 21 => ⟨S1x2816x1024, .f32⟩
  | 22 => ⟨S2816x1024, .f32⟩
  | 23 => ⟨S16x2048x4x4x64, .f32⟩
  | 24 => ⟨S16x128x4x64, .f32⟩
  | 25 => ⟨S16x2176x4x64, .f32⟩
  | 26 => ⟨S16x128x4x64, .f32⟩
  | 27 => ⟨S16x2176x4x64, .f32⟩
  | 28 => ⟨S16x16x128x4x4x64, .f32⟩
  | 29 => ⟨S16x17x128x4x64, .f32⟩
  | 30 => ⟨S16x16x128x4x64, .f32⟩
  | 31 => ⟨S16x16x128x4x64, .f32⟩
  | 32 => ⟨S16x16x256x4x64, .f32⟩
  | 33 => ⟨S16x17x128x4x64, .f32⟩
  | 34 => ⟨S16x16x128x4x64, .f32⟩
  | 35 => ⟨S16x16x128x4x64, .f32⟩
  | 36 => ⟨S16x16x256x4x64, .f32⟩
  | 37 => ⟨S2048, .i32⟩
  | 38 => ⟨S16x128, .i32⟩
  | 39 => ⟨S_, .i32⟩
  | 40 => ⟨S16x128, .i32⟩
  | 41 => ⟨S16x128, .i32⟩
  | 42 => ⟨S2176, .i32⟩
  | 43 => ⟨S17x128, .i32⟩
  | 44 => ⟨S_, .i32⟩
  | 45 => ⟨S17x128, .i32⟩
  | 46 => ⟨S17x128, .i32⟩
  | 47 => ⟨S16x128, .i32⟩
  | 48 => ⟨S16x128, .i32⟩
  | 49 => ⟨S16x256, .i32⟩
  | 50 => ⟨S16x128x1, .i32⟩
  | 51 => ⟨S16x1x256, .i32⟩
  | 52 => ⟨S16x128x256, .i32⟩
  | 53 => ⟨S16x128x256, .i32⟩
  | 54 => ⟨S16x128x256, .i32⟩
  | 55 => ⟨S_, .i32⟩
  | 56 => ⟨S16x128x256, .i32⟩
  | 57 => ⟨S16x128x256, .i1⟩
  | 58 => ⟨S_, .i32⟩
  | 59 => ⟨S16x128x256, .i32⟩
  | 60 => ⟨S16x128x256, .i1⟩
  | 61 => ⟨S16x128x256, .i1⟩
  | 62 => ⟨S16x1x256, .i32⟩
  | 63 => ⟨S_, .i32⟩
  | 64 => ⟨S16x1x256, .i32⟩
  | 65 => ⟨S16x1x256, .i1⟩
  | 66 => ⟨S16x128x256, .i1⟩
  | 67 => ⟨S16x128x256, .i1⟩
  | 68 => ⟨S16x16x4x256x128x4, .f32⟩
  | 69 => ⟨S16x16x4x4x128x256, .f32⟩
  | 70 => ⟨S_, .f32⟩
  | 71 => ⟨S16x16x4x4x128x256, .f32⟩
  | 72 => ⟨S16x16x4x4x128x256, .f32⟩
  | 73 => ⟨S1x16x1x1x128x256, .i1⟩
  | 74 => ⟨S_, .f32⟩
  | 75 => ⟨S_, .f32⟩
  | 76 => ⟨S16x16x4x4x128x256, .i1⟩
  | 77 => ⟨S16x16x4x4x128x256, .f32⟩
  | 78 => ⟨S16x16x4x4x128x256, .f32⟩
  | 79 => ⟨S4x4, .f32⟩
  | 80 => ⟨S1x1x4x4x1x1, .f32⟩
  | 81 => ⟨S_, .f32⟩
  | 82 => ⟨S16x16x4x4x128, .f32⟩
  | 83 => ⟨S16x16x4x4x128x1, .f32⟩
  | 84 => ⟨S16x16x4x4x128x1, .f32⟩
  | 85 => ⟨S16x16x4x4x128x1, .f32⟩
  | 86 => ⟨S16x16x4x4x128x256, .f32⟩
  | 87 => ⟨S16x16x4x4x128x256, .f32⟩
  | 88 => ⟨S16x16x4x4x128x256, .f32⟩
  | 89 => ⟨S_, .f32⟩
  | 90 => ⟨S16x16x4x4x128, .f32⟩
  | 91 => ⟨S16x16x4x4x128x1, .f32⟩
  | 92 => ⟨S16x16x4x4x128x1, .f32⟩
  | 93 => ⟨S16x16x4x4x128x1, .f32⟩
  | 94 => ⟨S16x16x4x4x128x1, .f32⟩
  | 95 => ⟨S16x16x4x4x128x1, .f32⟩
  | 96 => ⟨S16x16x4x4x128x256, .f32⟩
  | 97 => ⟨S16x16x4x4x128x256, .f32⟩
  | 98 => ⟨S16x16x4x64x4x128, .f32⟩
  | 99 => ⟨S16x16x128x4x4x64, .f32⟩
  | 100 => ⟨S16x2048x1024, .f32⟩
  | 101 => ⟨S16x2048x1024, .f32⟩
  | 102 => ⟨S16x2048x1024, .f32⟩
  | 103 => ⟨S16x2048x1024, .f32⟩
  | 104 => ⟨S_, .f32⟩
  | 105 => ⟨S16x2048, .f32⟩
  | 106 => ⟨S16x2048x1, .f32⟩
  | 107 => ⟨S_, .f32⟩
  | 108 => ⟨S16x2048x1, .f32⟩
  | 109 => ⟨S16x2048x1, .f32⟩
  | 110 => ⟨S_, .f32⟩
  | 111 => ⟨S16x2048x1, .f32⟩
  | 112 => ⟨S16x2048x1, .f32⟩
  | 113 => ⟨S16x2048x1, .f32⟩
  | 114 => ⟨S16x2048x1024, .f32⟩
  | 115 => ⟨S16x2048x1024, .f32⟩
  | 116 => ⟨S1x1x1024, .f32⟩
  | 117 => ⟨S16x2048x1024, .f32⟩
  | 118 => ⟨S16x2048x1024, .f32⟩
  | 119 => ⟨S16x2048x2816, .f32⟩
  | 120 => ⟨S16x2048x2816, .f32⟩
  | 121 => ⟨S16x2048x2816, .f32⟩
  | 122 => ⟨S_, .f32⟩
  | 123 => ⟨S16x2048x2816, .f32⟩
  | 124 => ⟨S16x2048x2816, .f32⟩
  | 125 => ⟨S_, .f32⟩
  | 126 => ⟨S16x2048x2816, .f32⟩
  | 127 => ⟨S16x2048x2816, .f32⟩
  | _ => ⟨S16x2048x16x64, .f32⟩

abbrev hbmTy0_1 (i : Nat) : BufTy := match i % 128 with
  | 0 => ⟨S16x2048x2816, .f32⟩
  | 1 => ⟨S16x2048x2816, .f32⟩
  | 2 => ⟨S16x2048x2816, .f32⟩
  | 3 => ⟨S16x2048x1024, .f32⟩
  | 4 => ⟨S16x2048x1024, .f32⟩
  | 5 => ⟨S16x2048x1024, .f32⟩
  | 6 => ⟨S_, .f32⟩
  | 7 => ⟨S16x2048, .f32⟩
  | 8 => ⟨S16x2048x1, .f32⟩
  | 9 => ⟨S_, .f32⟩
  | 10 => ⟨S16x2048x1, .f32⟩
  | 11 => ⟨S16x2048x1, .f32⟩
  | 12 => ⟨S_, .f32⟩
  | 13 => ⟨S16x2048x1, .f32⟩
  | 14 => ⟨S16x2048x1, .f32⟩
  | 15 => ⟨S16x2048x1, .f32⟩
  | 16 => ⟨S16x2048x1024, .f32⟩
  | 17 => ⟨S16x2048x1024, .f32⟩
  | 18 => ⟨S1x1x1024, .f32⟩
  | 19 => ⟨S16x2048x1024, .f32⟩
  | 20 => ⟨S16x2048x1024, .f32⟩
  | 21 => ⟨S32768x1024, .f32⟩
  | _ => ⟨S16x2048x16x64, .f32⟩

abbrev hbmTy (i : Nat) : BufTy := match i / 128 with
  | 0 => hbmTy0_0 i
  | 1 => hbmTy0_1 i
  | _ => ⟨S16x2048x16x64, .f32⟩

abbrev bufTy : (tb : Table) → Fin (tcTables nBuf tb) → BufTy
  | .hbm, ⟨i, _⟩ => hbmTy i
  | _, _ => ⟨S16x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_1 : Ref sig .tc := ⟨.hbm, 55, rfl⟩
abbrev main_v40 : Ref sig .tc := ⟨.hbm, 56, rfl⟩
abbrev main_v41 : Ref sig .tc := ⟨.hbm, 57, rfl⟩
abbrev main_c_2 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_3 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_4 : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_5 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_6 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_7 : Ref sig .tc := ⟨.hbm, 104, rfl⟩
abbrev main_v79 : Ref sig .tc := ⟨.hbm, 105, rfl⟩
abbrev main_v80 : Ref sig .tc := ⟨.hbm, 106, rfl⟩
abbrev main_cst_8 : Ref sig .tc := ⟨.hbm, 107, rfl⟩
abbrev main_v81 : Ref sig .tc := ⟨.hbm, 108, rfl⟩
abbrev main_v82 : Ref sig .tc := ⟨.hbm, 109, rfl⟩
abbrev main_cst_9 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_call1_v0 : Ref sig .tc := ⟨.hbm, 120, rfl⟩
abbrev main_call1_v1 : Ref sig .tc := ⟨.hbm, 121, rfl⟩
abbrev main_call1_cst : Ref sig .tc := ⟨.hbm, 122, rfl⟩
abbrev main_call1_v2 : Ref sig .tc := ⟨.hbm, 123, rfl⟩
abbrev main_call1_v3 : Ref sig .tc := ⟨.hbm, 124, rfl⟩
abbrev main_call1_cst_0 : Ref sig .tc := ⟨.hbm, 125, rfl⟩
abbrev main_call1_v4 : Ref sig .tc := ⟨.hbm, 126, rfl⟩
abbrev main_call1_v5 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_10 : Ref sig .tc := ⟨.hbm, 134, rfl⟩
abbrev main_v98 : Ref sig .tc := ⟨.hbm, 135, rfl⟩
abbrev main_v99 : Ref sig .tc := ⟨.hbm, 136, rfl⟩
abbrev main_cst_11 : Ref sig .tc := ⟨.hbm, 137, rfl⟩
abbrev main_v100 : Ref sig .tc := ⟨.hbm, 138, rfl⟩
abbrev main_v101 : Ref sig .tc := ⟨.hbm, 139, rfl⟩
abbrev main_cst_12 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x2048x2048 : Shape := ⟨3, ![16, 2048, 2048]⟩
abbrev S1x2048x1024 : Shape := ⟨3, ![1, 2048, 1024]⟩
abbrev S1024 : Shape := ⟨1, ![1024]⟩
abbrev S1024x256 : Shape := ⟨2, ![1024, 256]⟩
abbrev S1x1024 : Shape := ⟨2, ![1, 1024]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S32768x1024 : Shape := ⟨2, ![32768, 1024]⟩
abbrev S32768x2048 : Shape := ⟨2, ![32768, 2048]⟩
abbrev S2048x1024 : Shape := ⟨2, ![2048, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S1024x1024 : Shape := ⟨2, ![1024, 1024]⟩
abbrev S8 : Shape := ⟨1, ![8]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x56 : Shape := ⟨2, ![2048, 56]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S32768x256 : Shape := ⟨2, ![32768, 256]⟩
abbrev S512x1024 : Shape := ⟨2, ![512, 1024]⟩
abbrev S512x2048 : Shape := ⟨2, ![512, 2048]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 85
  | .vmem => 28
  | .smem => 0
  | _ => 0

abbrev bufTy : (tb : Table) → Fin (tcTables nBuf tb) → BufTy
  | .hbm, ⟨0, _⟩ => ⟨S16x2048x1024, .f32⟩
  | .hbm, ⟨1, _⟩ => ⟨S16x2048x2048, .bf16⟩
  | .hbm, ⟨2, _⟩ => ⟨S1x2048x1024, .f32⟩
  | .hbm, ⟨3, _⟩ => ⟨S1024, .f32⟩
  | .hbm, ⟨4, _⟩ => ⟨S1024x256, .f32⟩
  | .hbm, ⟨5, _⟩ => ⟨S1024x256, .f32⟩
  | .hbm, ⟨6, _⟩ => ⟨S1x1024, .f32⟩
  | .hbm, ⟨7, _⟩ => ⟨S1x1024x1024, .f32⟩
  | .hbm, ⟨8, _⟩ => ⟨S2x1024, .f32⟩
  | .hbm, ⟨9, _⟩ => ⟨S2x1024x2816, .f32⟩
  | .hbm, ⟨10, _⟩ => ⟨S2x1024x2816, .f32⟩
  | .hbm, ⟨11, _⟩ => ⟨S2x2816x1024, .f32⟩
  | .hbm, ⟨12, _⟩ => ⟨S32768x1024, .f32⟩
  | .hbm, ⟨13, _⟩ => ⟨S32768x2048, .bf16⟩
  | .hbm, ⟨14, _⟩ => ⟨S2048x1024, .f32⟩
  | .hbm, ⟨15, _⟩ => ⟨S2048x1024, .bf16⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x1024x2816, .f32⟩
  | .hbm, ⟨20, _⟩ => ⟨S1024x2816, .f32⟩
  | .hbm, ⟨21, _⟩ => ⟨S1024x2816, .bf16⟩
  | .hbm, ⟨22, _⟩ => ⟨S1x1024x2816, .f32⟩
  | .hbm, ⟨23, _⟩ => ⟨S1024x2816, .f32⟩
  | .hbm, ⟨24, _⟩ => ⟨S1024x2816, .bf16⟩
  | .hbm, ⟨25, _⟩ => ⟨S1x2816x1024, .f32⟩
  | .hbm, ⟨26, _⟩ => ⟨S2816x1024, .f32⟩
  | .hbm, ⟨27, _⟩ => ⟨S2816x1024, .bf16⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1024x256, .bf16⟩
  | .hbm, ⟨32, _⟩ => ⟨S1024x256, .bf16⟩
  | .hbm, ⟨33, _⟩ => ⟨S1024x1024, .f32⟩
  | .hbm, ⟨34, _⟩ => ⟨S1024x1024, .bf16⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S2048, .i32⟩
  | .hbm, ⟨50, _⟩ => ⟨S_, .i32⟩
  | .hbm, ⟨51, _⟩ => ⟨S2048, .i32⟩
  | .hbm, ⟨52, _⟩ => ⟨S2048, .i32⟩
  | .hbm, ⟨53, _⟩ => ⟨S2048, .f32⟩
  | .hbm, ⟨54, _⟩ => ⟨S2048x1, .f32⟩
  | .hbm, ⟨55, _⟩ => ⟨S1x8, .f32⟩
  | .hbm, ⟨56, _⟩ => ⟨S2048x8, .f32⟩
  | .hbm, ⟨57, _⟩ => ⟨S2048x8, .f32⟩
  | .hbm, ⟨58, _⟩ => ⟨S2048x8, .f32⟩
  | .hbm, ⟨59, _⟩ => ⟨S2048x8, .f32⟩
  | .hbm, ⟨60, _⟩ => ⟨S2048x8, .f32⟩
  | .hbm, ⟨61, _⟩ => ⟨S_, .f32⟩
  | .hbm, ⟨62, _⟩ => ⟨S2048x48, .f32⟩
  | .hbm, ⟨63, _⟩ => ⟨S_, .f32⟩
  | .hbm, ⟨64, _⟩ => ⟨S2048x56, .f32⟩
  | .hbm, ⟨65, _⟩ => ⟨S2048x64, .f32⟩
  | .hbm, ⟨66, _⟩ => ⟨S2048x8, .f32⟩
  | .hbm, ⟨67, _⟩ => ⟨S2048x64, .f32⟩
  | .hbm, ⟨68, _⟩ => ⟨S_, .f32⟩
  | .hbm, ⟨69, _⟩ => ⟨S2048x8, .f32⟩
  | .hbm, ⟨70, _⟩ => ⟨S2048x48, .f32⟩
  | .hbm, ⟨71, _⟩ => ⟨S2048x64, .f32⟩
  | .hbm, ⟨72, _⟩ => ⟨S1x2048x1x64, .f32⟩
  | .hbm, ⟨73, _⟩ => ⟨S1x2048x2x64, .f32⟩
  | .hbm, ⟨74, _⟩ => ⟨S2048x128, .f32⟩
  | .hbm, ⟨75, _⟩ => ⟨S1x2048x1x64, .f32⟩
  | .hbm, ⟨76, _⟩ => ⟨S1x2048x2x64, .f32⟩
  | .hbm, ⟨77, _⟩ => ⟨S2048x128, .f32⟩
  | .hbm, ⟨78, _⟩ => ⟨S1x2048x1x64, .f32⟩
  | .hbm, ⟨79, _⟩ => ⟨S1x2048x2x64, .f32⟩
  | .hbm, ⟨80, _⟩ => ⟨S2048x128, .f32⟩
  | .hbm, ⟨81, _⟩ => ⟨S32768x1024, .f32⟩
  | .hbm, ⟨82, _⟩ => ⟨S32768x1024, .bf16⟩
  | .hbm, ⟨83, _⟩ => ⟨S32768x256, .f32⟩
  | .hbm, ⟨84, _⟩ => ⟨S32768x256, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S1x1024, .f32⟩
  | .local _ .vmem, ⟨10, _⟩ => ⟨S1x1024, .f32⟩
  | .local _ .vmem, ⟨11, _⟩ => ⟨S1024x256, .bf16⟩
  | .local _ .vmem, ⟨12, _⟩ => ⟨S1024x256, .bf16⟩
  | .local _ .vmem, ⟨13, _⟩ => ⟨S1024x1024, .bf16⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S512x256, .f32⟩
  | .local _ .vmem, ⟨25, _⟩ => ⟨S512x256, .f32⟩
  | .local _ .vmem, ⟨26, _⟩ => ⟨S512x256, .f32⟩
  | .local _ .vmem, ⟨27, _⟩ => ⟨S512x256, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_cst_0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_1 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_3 : Ref sig .tc := ⟨.hbm, 61, rfl⟩
abbrev main_v44 : Ref sig .tc := ⟨.hbm, 62, rfl⟩
abbrev main_cst_4 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_5 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61_0 : Ref sig .tc := ⟨.hbm, 81, rfl⟩
abbrev main_v61_1 : Ref sig .tc := ⟨.hbm, 82, rfl⟩
abbrev main_v61_2 : Ref sig .tc := ⟨.hbm, 83, rfl⟩
abbrev main_v61_3 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_14 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Kernel2Ideal.lean ====
variable {F : FTy → Type} [FloatOps F] [Named F]
def κ : String → Option EReal := fun
  | "q_scale" => some (((8 * (Real.log 2))⁻¹ : ℝ) : EReal)
  | _ => none
-- ==== Reference2Ideal.lean ====
abbrev S16x2048x1024 : Shape := ⟨3, ![16, 2048, 1024]⟩
abbrev S16x2048x2048 : Shape := ⟨3, ![16, 2048, 2048]⟩
abbrev S1x2048x1024 : Shape := ⟨3, ![1, 2048, 1024]⟩
abbrev S1024 : Shape := ⟨1, ![1024]⟩
abbrev S1024x256 : Shape := ⟨2, ![1024, 256]⟩
abbrev S1x1024 : Shape := ⟨2, ![1, 1024]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2048x1024 : Shape := ⟨2, ![2048, 1024]⟩
abbrev S1024x1024 : Shape := ⟨2, ![1024, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2816 : Shape := ⟨3, ![16, 2048, 2816]⟩
abbrev S16x2048x256 : Shape := ⟨3, ![16, 2048, 256]⟩
abbrev S16x2048x4x64 : Shape := ⟨4, ![16, 2048, 4, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S16x2048x4x16 : Shape := ⟨4, ![16, 2048, 4, 16]⟩
abbrev S16x2048x4x8 : Shape := ⟨4, ![16, 2048, 4, 8]⟩
abbrev S16x2048x4x48 : Shape := ⟨4, ![16, 2048, 4, 48]⟩
abbrev S16x2048x16x64 : Shape := ⟨4, ![16, 2048, 16, 64]⟩
abbrev S16x2048x16x16 : Shape := ⟨4, ![16, 2048, 16, 16]⟩
abbrev S16x2048x16x8 : Shape := ⟨4, ![16, 2048, 16, 8]⟩
abbrev S16x2048x16x48 : Shape := ⟨4, ![16, 2048, 16, 48]⟩
abbrev S32768x1024 : Shape := ⟨2, ![32768, 1024]⟩
abbrev S32768x256 : Shape := ⟨2, ![32768, 256]⟩

abbrev nBuf : Space → Nat
  | .hbm => 190
  | .vmem => 0
  | .smem => 0
  | _ => 0

abbrev hbmTy0_0 (i : Nat) : BufTy := match i % 128 with
  | 0 => ⟨S16x2048x1024, .f32⟩
  | 1 => ⟨S16x2048x2048, .bf16⟩
  | 2 => ⟨S1x2048x1024, .f32⟩
  | 3 => ⟨S1024, .f32⟩
  | 4 => ⟨S1024x256, .f32⟩
  | 5 => ⟨S1024x256, .f32⟩
  | 6 => ⟨S1x1024, .f32⟩
  | 7 => ⟨S1x1024x1024, .f32⟩
  | 8 => ⟨S2x1024, .f32⟩
  | 9 => ⟨S2x1024x2816, .f32⟩
  | 10 => ⟨S2x1024x2816, .f32⟩
  | 11 => ⟨S2x2816x1024, .f32⟩
  | 12 => ⟨S2048x1024, .f32⟩
  | 13 => ⟨S1024, .f32⟩
  | 14 => ⟨S1024x1024, .f32⟩
  | 15 => ⟨S1x1024, .f32⟩
  | 16 => ⟨S1024, .f32⟩
  | 17 => ⟨S1x1024x2816, .f32⟩
  | 18 => ⟨S1024x2816, .f32⟩
  | 19 => ⟨S1x1024x2816, .f32⟩
  | 20 => ⟨S1024x2816, .f32⟩
  | 21 => ⟨S1x2816x1024, .f32⟩
  | 22 => ⟨S2816x1024, .f32⟩
  | 23 => ⟨S2048, .i32⟩
  | 24 => ⟨S_, .i32⟩
  | 25 => ⟨S2048, .i32⟩
  | 26 => ⟨S2048, .i32⟩
  | 27 => ⟨S16x2048x2048, .f32⟩
  | 28 => ⟨S16x2048x1024, .f32⟩
  | 29 => ⟨S16x2048x1024, .f32⟩
  | 30 => ⟨S16x2048x1024, .f32⟩
  | 31 => ⟨S_, .f32⟩
  | 32 => ⟨S16x2048, .f32⟩
  | 33 => ⟨S16x2048x1, .f32⟩
  | 34 => ⟨S_, .f32⟩
  | 35 => ⟨S16x2048x1, .f32⟩
  | 36 => ⟨S16x2048x1, .f32⟩
  | 37 => ⟨S_, .f32⟩
  | 38 => ⟨S16x2048x1, .f32⟩
  | 39 => ⟨S16x2048x1, .f32⟩
  | 40 => ⟨S16x2048x1, .f32⟩
  | 41 => ⟨S16x2048x1024, .f32⟩
  | 42 => ⟨S16x2048x1024, .f32⟩
  | 43 => ⟨S1x1x1024, .f32⟩
  | 44 => ⟨S16x2048x1024, .f32⟩
  | 45 => ⟨S16x2048x1024, .f32⟩
  | 46 => ⟨S16x2048x2816, .f32⟩
  | 47 => ⟨S16x2048x2816, .f32⟩
  | 48 => ⟨S16x2048x2816, .f32⟩
  | 49 => ⟨S_, .f32⟩
  | 50 => ⟨S16x2048x2816, .f32⟩
  | 51 => ⟨S16x2048x2816, .f32⟩
  | 52 => ⟨S_, .f32⟩
  | 53 => ⟨S16x2048x2816, .f32⟩
  | 54 => ⟨S16x2048x2816, .f32⟩
  | 55 => ⟨S16x2048x2816, .f32⟩
  | 56 => ⟨S16x2048x2816, .f32⟩
  | 57 => ⟨S16x2048x2816, .f32⟩
  | 58 => ⟨S16x2048x1024, .f32⟩
  | 59 => ⟨S16x2048x1024, .f32⟩
  | 60 => ⟨S16x2048x1024, .f32⟩
  | 61 => ⟨S_, .f32⟩
  | 62 => ⟨S16x2048, .f32⟩
  | 63 => ⟨S16x2048x1, .f32⟩
  | 64 => ⟨S_, .f32⟩
  | 65 => ⟨S16x2048x1, .f32⟩
  | 66 => ⟨S16x2048x1, .f32⟩
  | 67 => ⟨S_, .f32⟩
  | 68 => ⟨S16x2048x1, .f32⟩
  | 69 => ⟨S16x2048x1, .f32⟩
  | 70 => ⟨S16x2048x1, .f32⟩
  | 71 => ⟨S16x2048x1024, .f32⟩
  | 72 => ⟨S16x2048x1024, .f32⟩
  | 73 => ⟨S1x1x1024, .f32⟩
  | 74 => ⟨S16x2048x1024, .f32⟩
  | 75 => ⟨S16x2048x1024, .f32⟩
  | 76 => ⟨S16x2048x256, .f32⟩
  | 77 => ⟨S16x2048x4x64, .f32⟩
  | 78 => ⟨S8, .f32⟩
  | 79 => ⟨S_, .f32⟩
  | 80 => ⟨S8, .f32⟩
  | 81 => ⟨S8, .f32⟩
  | 82 => ⟨S_, .f32⟩
  | 83 => ⟨S8, .f32⟩
  | 84 => ⟨S8, .f32⟩
  | 85 => ⟨S8, .f32⟩
  | 86 => ⟨S_, .f32⟩
  | 87 => ⟨S8, .f32⟩
  | 88 => ⟨S8, .f32⟩
  | 89 => ⟨S_, .f32⟩
  | 90 => ⟨S8, .f32⟩
  | 91 => ⟨S8, .f32⟩
  | 92 => ⟨S2048, .f32⟩
  | 93 => ⟨S2048x1, .f32⟩
  | 94 => ⟨S1x8, .f32⟩
  | 95 => ⟨S2048x8, .f32⟩
  | 96 => ⟨S2048x8, .f32⟩
  | 97 => ⟨S2048x8, .f32⟩
  | 98 => ⟨S2048x8, .f32⟩
  | 99 => ⟨S1x2048x1x8, .f32⟩
  | 100 => ⟨S2048x8, .f32⟩
  | 101 => ⟨S1x2048x1x8, .f32⟩
  | 102 => ⟨S16x2048x4x16, .f32⟩
  | 103 => ⟨S16x2048x4x8, .f32⟩
  | 104 => ⟨S16x2048x4x8, .f32⟩
  | 105 => ⟨S16x2048x4x8, .f32⟩
  | 106 => ⟨S16x2048x4x8, .f32⟩
  | 107 => ⟨S16x2048x4x8, .f32⟩
  | 108 => ⟨S16x2048x4x8, .f32⟩
  | 109 => ⟨S16x2048x4x8, .f32⟩
  | 110 => ⟨S16x2048x4x8, .f32⟩
  | 111 => ⟨S16x2048x4x8, .f32⟩
  | 112 => ⟨S16x2048x4x8, .f32⟩
  | 113 => ⟨S16x2048x4x8, .f32⟩
  | 114 => ⟨S16x2048x4x8, .f32⟩
  | 115 => ⟨S16x2048x4x16, .f32⟩
  | 116 => ⟨S16x2048x4x48, .f32⟩
  | 117 => ⟨S16x2048x4x64, .f32⟩
  | 118 => ⟨S16x2048x256, .f32⟩
  | 119 => ⟨S16x2048x4x64, .f32⟩
  | 120 => ⟨S16x2048x1024, .f32⟩
  | 121 => ⟨S_, .f32⟩
  | 122 => ⟨S16x2048, .f32⟩
  | 123 => ⟨S16x2048x1, .f32⟩
  | 124 => ⟨S_, .f32⟩
  | 125 => ⟨S16x2048x1, .f32⟩
  | 126 => ⟨S16x2048x1, .f32⟩
  | 127 => ⟨S_, .f32⟩
  | _ => ⟨S16x2048x1024, .f32⟩

abbrev hbmTy0_1 (i : Nat) : BufTy := match i % 128 with
  | 0 => ⟨S16x2048x1, .f32⟩
  | 1 => ⟨S16x2048x1, .f32⟩
  | 2 => ⟨S16x2048x1, .f32⟩
  | 3 => ⟨S16x2048x1024, .f32⟩
  | 4 => ⟨S16x2048x1024, .f32⟩
  | 5 => ⟨S1x1x1024, .f32⟩
  | 6 => ⟨S16x2048x1024, .f32⟩
  | 7 => ⟨S16x2048x1024, .f32⟩
  | 8 => ⟨S16x2048x1024, .f32⟩
  | 9 => ⟨S16x2048x16x64, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S8, .f32⟩
  | 18 => ⟨S_, .f32⟩
  | 19 => ⟨S8, .f32⟩
  | 20 => ⟨S8, .f32⟩
  | 21 => ⟨S_, .f32⟩
  | 22 => ⟨S8, .f32⟩
  | 23 => ⟨S8, .f32⟩
  | 24 => ⟨S2048, .f32⟩
  | 25 => ⟨S2048x1, .f32⟩
  | 26 => ⟨S1x8, .f32⟩
  | 27 => ⟨S2048x8, .f32⟩
  | 28 => ⟨S2048x8, .f32⟩
  | 29 => ⟨S2048x8, .f32⟩
  | 30 => ⟨S2048x8, .f32⟩
  | 31 => ⟨S1x2048x1x8, .f32⟩
  | 32 => ⟨S2048x8, .f32⟩
  | 33 => ⟨S1x2048x1x8, .f32⟩
  | 34 => ⟨S16x2048x16x16, .f32⟩
  | 35 => ⟨S16x2048x16x8, .f32⟩
  | 36 => ⟨S16x2048x16x8, .f32⟩
  | 37 => ⟨S16x2048x16x8, .f32⟩
  | 38 => ⟨S16x2048x16x8, .f32⟩
  | 39 => ⟨S16x2048x16x8, .f32⟩
  | 40 => ⟨S16x2048x16x8, .f32⟩
  | 41 => ⟨S16x2048x16x8, .f32⟩
  | 42 => ⟨S16x2048x16x8, .f32⟩
  | 43 => ⟨S16x2048x16x8, .f32⟩
  | 44 => ⟨S16x2048x16x8, .f32⟩
  | 45 => ⟨S16x2048x16x8, .f32⟩
  | 46 => ⟨S16x2048x16x8, .f32⟩
  | 47 => ⟨S16x2048x16x16, .f32⟩
  | 48 => ⟨S16x2048x16x48, .f32⟩
  | 49 => ⟨S16x2048x16x64, .f32⟩
  | 50 => ⟨S_, .f32⟩
  | 51 => ⟨S16x2048x16x64, .f32⟩
  | 52 => ⟨S16x2048x16x64, .f32⟩
  | 53 => ⟨S_, .f32⟩
  | 54 => ⟨S_, .f32⟩
  | 55 => ⟨S16x2048x16x64, .f32⟩
  | 56 => ⟨S16x2048x16x64, .f32⟩
  | 57 => ⟨S32768x1024, .f32⟩
  | 58 => ⟨S32768x1024, .f32⟩
  | 59 => ⟨S32768x1024, .bf16⟩
  | 60 => ⟨S32768x256, .f32⟩
  | 61 => ⟨S32768x256, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_cst_0 : Ref sig .tc := ⟨.hbm, 34, rfl⟩
abbrev main_v20 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_2 : Ref sig .tc := ⟨.hbm, 61, rfl⟩
abbrev main_v37 : Ref sig .tc := ⟨.hbm, 62, rfl⟩
abbrev main_v38 : Ref sig .tc := ⟨.hbm, 63, rfl⟩
abbrev main_cst_3 : Ref sig .tc := ⟨.hbm, 64, rfl⟩
abbrev main_v39 : Ref sig .tc := ⟨.hbm, 65, rfl⟩
abbrev main_v40 : Ref sig .tc := ⟨.hbm, 66, rfl⟩
abbrev main_cst_4 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_5 : Ref sig .tc := ⟨.hbm, 79, rfl⟩
abbrev main_v52 : Ref sig .tc := ⟨.hbm, 80, rfl⟩
abbrev main_v53 : Ref sig .tc := ⟨.hbm, 81, rfl⟩
abbrev main_cst_6 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_7 : Ref sig .tc := ⟨.hbm, 86, rfl⟩
abbrev main_v57 : Ref sig .tc := ⟨.hbm, 87, rfl⟩
abbrev main_v58 : Ref sig .tc := ⟨.hbm, 88, rfl⟩
abbrev main_cst_8 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_9 : Ref sig .tc := ⟨.hbm, 121, rfl⟩
abbrev main_v90 : Ref sig .tc := ⟨.hbm, 122, rfl⟩
abbrev main_v91 : Ref sig .tc := ⟨.hbm, 123, rfl⟩
abbrev main_cst_10 : Ref sig .tc := ⟨.hbm, 124, rfl⟩
abbrev main_v92 : Ref sig .tc := ⟨.hbm, 125, rfl⟩
abbrev main_v93 : Ref sig .tc := ⟨.hbm, 126, rfl⟩
abbrev main_cst_11 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_12 : Ref sig .tc := ⟨.hbm, 139, rfl⟩
abbrev main_v105 : Ref sig .tc := ⟨.hbm, 140, rfl⟩
abbrev main_v106 : Ref sig .tc := ⟨.hbm, 141, rfl⟩
abbrev main_cst_13 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_14 : Ref sig .tc := ⟨.hbm, 146, rfl⟩
abbrev main_v110 : Ref sig .tc := ⟨.hbm, 147, rfl⟩
abbrev main_v111 : Ref sig .tc := ⟨.hbm, 148, rfl⟩
abbrev main_cst_15 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_cst_16 : Ref sig .tc := ⟨.hbm, 178, rfl⟩
abbrev main_v140 : Ref sig .tc := ⟨.hbm, 179, rfl⟩
abbrev main_v141 : Ref sig .tc := ⟨.hbm, 180, rfl⟩
abbrev main_cst_17 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩

abbrev nD : Nat := 1
abbrev τ : Topo := Topo.v7x

variable {F : FTy → Type} [FloatOps F]
-- ==== Kernel3.lean ====
abbrev S128x8x1024 : Shape := ⟨3, ![128, 8, 1024]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1024x1024 : Shape := ⟨2, ![1024, 1024]⟩
abbrev S1x1024 : Shape := ⟨2, ![1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 26
  | .vmem => 12
  | .smem => 0
  | _ => 0

abbrev bufTy : (tb : Table) → Fin (tcTables nBuf tb) → BufTy
  | .hbm, ⟨0, _⟩ => ⟨S128x8x1024, .f32⟩
  | .hbm, ⟨1, _⟩ => ⟨S128x8x1024, .f32⟩
  | .hbm, ⟨2, _⟩ => ⟨S1x1024x1024, .f32⟩
  | .hbm, ⟨3, _⟩ => ⟨S2x1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1x1024x2816, .f32⟩
  | .hbm, ⟨16, _⟩ => ⟨S1024x2816, .f32⟩
  | .hbm, ⟨17, _⟩ => ⟨S1024x2816, .bf16⟩
  | .hbm, ⟨18, _⟩ => ⟨S1x1024x2816, .f32⟩
  | .hbm, ⟨19, _⟩ => ⟨S1024x2816, .f32⟩
  | .hbm, ⟨20, _⟩ => ⟨S1024x2816, .bf16⟩
  | .hbm, ⟨21, _⟩ => ⟨S1x2816x1024, .f32⟩
  | .hbm, ⟨22, _⟩ => ⟨S2816x1024, .f32⟩
  | .hbm, ⟨23, _⟩ => ⟨S2816x1024, .bf16⟩
  | .hbm, ⟨24, _⟩ => ⟨S1x1024, .f32⟩
  | .hbm, ⟨25, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S128x8x1024 : Shape := ⟨3, ![128, 8, 1024]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1024x1024 : Shape := ⟨2, ![1024, 1024]⟩
abbrev S1x1024 : Shape := ⟨2, ![1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x2816 : Shape := ⟨3, ![128, 8, 2816]⟩

abbrev nBuf : Space → Nat
  | .hbm => 66
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x8x1024, .f32⟩
  | .hbm, ⟨2, _⟩ => ⟨S1x1024x1024, .f32⟩
  | .hbm, ⟨3, _⟩ => ⟨S2x1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S1024, .f32⟩
  | .hbm, ⟨8, _⟩ => ⟨S1024x1024, .f32⟩
  | .hbm, ⟨9, _⟩ => ⟨S1x1024, .f32⟩
  | .hbm, ⟨10, _⟩ => ⟨S1024, .f32⟩
  | .hbm, ⟨11, _⟩ => ⟨S1x1024x2816, .f32⟩
  | .hbm, ⟨12, _⟩ => ⟨S1024x2816, .f32⟩
  | .hbm, ⟨13, _⟩ => ⟨S1x1024x2816, .f32⟩
  | .hbm, ⟨14, _⟩ => ⟨S1024x2816, .f32⟩
  | .hbm, ⟨15, _⟩ => ⟨S1x2816x1024, .f32⟩
  | .hbm, ⟨16, _⟩ => ⟨S2816x1024, .f32⟩
  | .hbm, ⟨17, _⟩ => ⟨S128x8x1024, .f32⟩
  | .hbm, ⟨18, _⟩ => ⟨S128x8x1024, .f32⟩
  | .hbm, ⟨19, _⟩ => ⟨S128x8x1024, .f32⟩
  | .hbm, ⟨20, _⟩ => ⟨S_, .f32⟩
  | .hbm, ⟨21, _⟩ => ⟨S128x8, .f32⟩
  | .hbm, ⟨22, _⟩ => ⟨S128x8x1, .f32⟩
  | .hbm, ⟨23, _⟩ => ⟨S_, .f32⟩
  | .hbm, ⟨24, _⟩ => ⟨S128x8x1, .f32⟩
  | .hbm, ⟨25, _⟩ => ⟨S128x8x1, .f32⟩
  | .hbm, ⟨26, _⟩ => ⟨S_, .f32⟩
  | .hbm, ⟨27, _⟩ => ⟨S128x8x1, .f32⟩
  | .hbm, ⟨28, _⟩ => ⟨S128x8x1, .f32⟩
  | .hbm, ⟨29, _⟩ => ⟨S128x8x1, .f32⟩
  | .hbm, ⟨30, _⟩ => ⟨S128x8x1024, .f32⟩
  | .hbm, ⟨31, _⟩ => ⟨S128x8x1024, .f32⟩
  | .hbm, ⟨32, _⟩ => ⟨S1x1x1024, .f32⟩
  | .hbm, ⟨33, _⟩ => ⟨S128x8x1024, .f32⟩
  | .hbm, ⟨34, _⟩ => ⟨S128x8x1024, .f32⟩
  | .hbm, ⟨35, _⟩ => ⟨S128x8x2816, .f32⟩
  | .hbm, ⟨36, _⟩ => ⟨S128x8x2816, .f32⟩
  | .hbm, ⟨37, _⟩ => ⟨S128x8x2816, .f32⟩
  | .hbm, ⟨38, _⟩ => ⟨S_, .f32⟩
  | .hbm, ⟨39, _⟩ => ⟨S128x8x2816, .f32⟩
  | .hbm, ⟨40, _⟩ => ⟨S128x8x2816, .f32⟩
  | .hbm, ⟨41, _⟩ => ⟨S_, .f32⟩
  | .hbm, ⟨42, _⟩ => ⟨S128x8x2816, .f32⟩
  | .hbm, ⟨43, _⟩ => ⟨S128x8x2816, .f32⟩
  | .hbm, ⟨44, _⟩ => ⟨S128x8x2816, .f32⟩
  | .hbm, ⟨45, _⟩ => ⟨S128x8x2816, .f32⟩
  | .hbm, ⟨46, _⟩ => ⟨S128x8x2816, .f32⟩
  | .hbm, ⟨47, _⟩ => ⟨S128x8x1024, .f32⟩
  | .hbm, ⟨48, _⟩ => ⟨S128x8x1024, .f32⟩
  | .hbm, ⟨49, _⟩ => ⟨S128x8x1024, .f32⟩
  | .hbm, ⟨50, _⟩ => ⟨S_, .f32⟩
  | .hbm, ⟨51, _⟩ => ⟨S128x8, .f32⟩
  | .hbm, ⟨52, _⟩ => ⟨S128x8x1, .f32⟩
  | .hbm, ⟨53, _⟩ => ⟨S_, .f32⟩
  | .hbm, ⟨54, _⟩ => ⟨S128x8x1, .f32⟩
  | .hbm, ⟨55, _⟩ => ⟨S128x8x1, .f32⟩
  | .hbm, ⟨56, _⟩ => ⟨S_, .f32⟩
  | .hbm, ⟨57, _⟩ => ⟨S128x8x1, .f32⟩
  | .hbm, ⟨58, _⟩ => ⟨S128x8x1, .f32⟩
  | .hbm, ⟨59, _⟩ => ⟨S128x8x1, .f32⟩
  | .hbm, ⟨60, _⟩ => ⟨S128x8x1024, .f32⟩
  | .hbm, ⟨61, _⟩ => ⟨S128x8x1024, .f32⟩
  | .hbm, ⟨62, _⟩ => ⟨S1x1x1024, .f32⟩
  | .hbm, ⟨63, _⟩ => ⟨S128x8x1024, .f32⟩
  | .hbm, ⟨64, _⟩ => ⟨S128x8x1024, .f32⟩
  | .hbm, ⟨65, _⟩ => ⟨S1024x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_2 : Ref sig .tc := ⟨.hbm, 50, rfl⟩
abbrev main_v31 : Ref sig .tc := ⟨.hbm, 51, rfl⟩
abbrev main_v32 : Ref sig .tc := ⟨.hbm, 52, rfl⟩
abbrev main_cst_3 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩

abbrev nD : Nat := 1
abbrev τ : Topo := Topo.v7x

variable {F : FTy → Type} [FloatOps F]
-- ==== Kernel4.lean ====
abbrev S128x8x1024 : Shape := ⟨3, ![128, 8, 1024]⟩
abbrev S1x1024 : Shape := ⟨2, ![1, 1024]⟩
abbrev S1x1024x5152 : Shape := ⟨3, ![1, 1024, 5152]⟩
abbrev S1024x1024 : Shape := ⟨2, ![1024, 1024]⟩
abbrev S1024 : Shape := ⟨1, ![1024]⟩
abbrev S1024x5152 : Shape := ⟨2, ![1024, 5152]⟩
abbrev S1024x2048 : Shape := ⟨2, ![1024, 2048]⟩
abbrev S1024x3072 : Shape := ⟨2, ![1024, 3072]⟩
abbrev S1024x128 : Shape := ⟨2, ![1024, 128]⟩
abbrev S512x1024 : Shape := ⟨2, ![512, 1024]⟩
abbrev S512x2048 : Shape := ⟨2, ![512, 2048]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x32 : Shape := ⟨2, ![1024, 32]⟩
abbrev S512x32 : Shape := ⟨2, ![512, 32]⟩

abbrev nBuf : Space → Nat
  | .hbm => 11
  | .vmem => 10
  | .smem => 0
  | _ => 0

abbrev bufTy : (tb : Table) → Fin (tcTables nBuf tb) → BufTy
  | .hbm, ⟨0, _⟩ => ⟨S128x8x1024, .f32⟩
  | .hbm, ⟨1, _⟩ => ⟨S1x1024, .f32⟩
  | .hbm, ⟨2, _⟩ => ⟨S1x1024x5152, .f32⟩
  | .hbm, ⟨3, _⟩ => ⟨S1024x1024, .f32⟩
  | .hbm, ⟨4, _⟩ => ⟨S1024, .f32⟩
  | .hbm, ⟨5, _⟩ => ⟨S1x1024, .f32⟩
  | .hbm, ⟨6, _⟩ => ⟨S1024x5152, .f32⟩
  | .hbm, ⟨7, _⟩ => ⟨S1024x5152, .bf16⟩
  | .hbm, ⟨8, _⟩ => ⟨S1024x2048, .f32⟩
  | .hbm, ⟨9, _⟩ => ⟨S1024x3072, .f32⟩
  | .hbm, ⟨10, _⟩ => ⟨S1024x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5152, .bf16⟩
  | .local _ .vmem, ⟨4, _⟩ => ⟨S512x2048, .f32⟩
  | .local _ .vmem, ⟨5, _⟩ => ⟨S512x2048, .f32⟩
  | .local _ .vmem, ⟨6, _⟩ => ⟨S512x3072, .f32⟩
  | .local _ .vmem, ⟨7, _⟩ => ⟨S512x3072, .f32⟩
  | .local _ .vmem, ⟨8, _⟩ => ⟨S512x128, .f32⟩
  | .local _ .vmem, ⟨9, _⟩ => ⟨S512x128, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S128x8x1024 : Shape := ⟨3, ![128, 8, 1024]⟩
abbrev S1x1024 : Shape := ⟨2, ![1, 1024]⟩
abbrev S1x1024x5152 : Shape := ⟨3, ![1, 1024, 5152]⟩
abbrev S1024 : Shape := ⟨1, ![1024]⟩
abbrev S1024x5152 : Shape := ⟨2, ![1024, 5152]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x5152 : Shape := ⟨3, ![128, 8, 5152]⟩
abbrev S128x8x2048 : Shape := ⟨3, ![128, 8, 2048]⟩
abbrev S128x8x3072 : Shape := ⟨3, ![128, 8, 3072]⟩
abbrev S128x8x32 : Shape := ⟨3, ![128, 8, 32]⟩
abbrev S1024x32 : Shape := ⟨2, ![1024, 32]⟩
abbrev S1024x128 : Shape := ⟨2, ![1024, 128]⟩
abbrev S1024x2048 : Shape := ⟨2, ![1024, 2048]⟩
abbrev S1024x3072 : Shape := ⟨2, ![1024, 3072]⟩

abbrev nBuf : Space → Nat
  | .hbm => 31
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1x1024, .f32⟩
  | .hbm, ⟨2, _⟩ => ⟨S1x1024x5152, .f32⟩
  | .hbm, ⟨3, _⟩ => ⟨S1024, .f32⟩
  | .hbm, ⟨4, _⟩ => ⟨S1024x5152, .f32⟩
  | .hbm, ⟨5, _⟩ => ⟨S128x8x1024, .f32⟩
  | .hbm, ⟨6, _⟩ => ⟨S_, .f32⟩
  | .hbm, ⟨7, _⟩ => ⟨S128x8, .f32⟩
  | .hbm, ⟨8, _⟩ => ⟨S128x8x1, .f32⟩
  | .hbm, ⟨9, _⟩ => ⟨S_, .f32⟩
  | .hbm, ⟨10, _⟩ => ⟨S128x8x1, .f32⟩
  | .hbm, ⟨11, _⟩ => ⟨S128x8x1, .f32⟩
  | .hbm, ⟨12, _⟩ => ⟨S_, .f32⟩
  | .hbm, ⟨13, _⟩ => ⟨S128x8x1, .f32⟩
  | .hbm, ⟨14, _⟩ => ⟨S128x8x1, .f32⟩
  | .hbm, ⟨15, _⟩ => ⟨S128x8x1, .f32⟩
  | .hbm, ⟨16, _⟩ => ⟨S128x8x1024, .f32⟩
  | .hbm, ⟨17, _⟩ => ⟨S128x8x1024, .f32⟩
  | .hbm, ⟨18, _⟩ => ⟨S1x1x1024, .f32⟩
  | .hbm, ⟨19, _⟩ => ⟨S128x8x1024, .f32⟩
  | .hbm, ⟨20, _⟩ => ⟨S128x8x1024, .f32⟩
  | .hbm, ⟨21, _⟩ => ⟨S128x8x5152, .f32⟩
  | .hbm, ⟨22, _⟩ => ⟨S128x8x2048, .f32⟩
  | .hbm, ⟨23, _⟩ => ⟨S128x8x3072, .f32⟩
  | .hbm, ⟨24, _⟩ => ⟨S128x8x32, .f32⟩
  | .hbm, ⟨25, _⟩ => ⟨S1024x32, .f32⟩
  | .hbm, ⟨26, _⟩ => ⟨S_, .i32⟩
  | .hbm, ⟨27, _⟩ => ⟨S_, .f32⟩
  | .hbm, ⟨28, _⟩ => ⟨S1024x128, .f32⟩
  | .hbm, ⟨29, _⟩ => ⟨S1024x2048, .f32⟩
  | .hbm, ⟨30, _⟩ => ⟨S1024x3072, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_call0_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel5.lean ====
abbrev S128x8x16x64 : Shape := ⟨4, ![128, 8, 16, 64]⟩
abbrev S128x8x4x64 : Shape := ⟨4, ![128, 8, 4, 64]⟩
abbrev S128x128x4x64 : Shape := ⟨4, ![128, 128, 4, 64]⟩
abbrev S1x16 : Shape := ⟨2, ![1, 16]⟩
abbrev S1024x1024 : Shape := ⟨2, ![1024, 1024]⟩
abbrev S1024x256 : Shape := ⟨2, ![1024, 256]⟩
abbrev S128x128x256 : Shape := ⟨3, ![128, 128, 256]⟩
abbrev S16 : Shape := ⟨1, ![16]⟩
abbrev S16384x256 : Shape := ⟨2, ![16384, 256]⟩
abbrev S64x1024 : Shape := ⟨2, ![64, 1024]⟩
abbrev S64x256 : Shape := ⟨2, ![64, 256]⟩
abbrev S128x256 : Shape := ⟨2, ![128, 256]⟩
abbrev S8x128x256 : Shape := ⟨3, ![8, 128, 256]⟩
abbrev S1x120x256 : Shape := ⟨3, ![1, 120, 256]⟩
abbrev S120x256 : Shape := ⟨2, ![120, 256]⟩
abbrev S8x256 : Shape := ⟨2, ![8, 256]⟩
abbrev S1x8x256 : Shape := ⟨3, ![1, 8, 256]⟩
abbrev S8x1024 : Shape := ⟨2, ![8, 1024]⟩
abbrev S16x1024 : Shape := ⟨2, ![16, 1024]⟩
abbrev S1x128x256 : Shape := ⟨3, ![1, 128, 256]⟩
abbrev S16x128 : Shape := ⟨2, ![16, 128]⟩
abbrev S128x128 : Shape := ⟨2, ![128, 128]⟩
abbrev S256x128 : Shape := ⟨2, ![256, 128]⟩
abbrev S64x128 : Shape := ⟨2, ![64, 128]⟩
abbrev S16x256 : Shape := ⟨2, ![16, 256]⟩
abbrev S1 : Shape := ⟨1, ![1]⟩
abbrev S16x1 : Shape := ⟨2, ![16, 1]⟩
abbrev S8x128 : Shape := ⟨2, ![8, 128]⟩

abbrev nBuf : Space → Nat
  | .hbm => 17
  | .vmem => 18
  | .smem => 1
  | _ => 0

abbrev bufTy : (tb : Table) → Fin (tcTables nBuf tb) → BufTy
  | .hbm, ⟨0, _⟩ => ⟨S128x8x16x64, .f32⟩
  | .hbm, ⟨1, _⟩ => ⟨S128x8x4x64, .f32⟩
  | .hbm, ⟨2, _⟩ => ⟨S128x8x4x64, .f32⟩
  | .hbm, ⟨3, _⟩ => ⟨S128x128x4x64, .f32⟩
  | .hbm, ⟨4, _⟩ => ⟨S128x128x4x64, .f32⟩
  | .hbm, ⟨5, _⟩ => ⟨S1x16, .f32⟩
  | .hbm, ⟨6, _⟩ => ⟨S1024x1024, .f32⟩
  | .hbm, ⟨7, _⟩ => ⟨S1024x256, .f32⟩
  | .hbm, ⟨8, _⟩ => ⟨S1024x256, .f32⟩
  | .hbm, ⟨9, _⟩ => ⟨S128x128x256, .f32⟩
  | .hbm, ⟨10, _⟩ => ⟨S128x128x256, .f32⟩
  | .hbm, ⟨11, _⟩ => ⟨S16, .f32⟩
  | .hbm, ⟨12, _⟩ => ⟨S16384x256, .f32⟩
  | .hbm, ⟨13, _⟩ => ⟨S16384x256, .f32⟩
  | .hbm, ⟨14, _⟩ => ⟨S1024x1024, .f32⟩
  | .hbm, ⟨15, _⟩ => ⟨S128x128x256, .f32⟩
  | .hbm, ⟨16, _⟩ => ⟨S128x128x256, .f32⟩
  | .local _ .vmem, ⟨0, _⟩ => ⟨S64x1024, .f32⟩
  | .local _ .vmem, ⟨1, _⟩ => ⟨S64x1024, .f32⟩
  | .local _ .vmem, ⟨2, _⟩ => ⟨S64x256, .f32⟩
  | .local _ .vmem, ⟨3, _⟩ => ⟨S64x256, .f32⟩
  | .local _ .vmem, ⟨4, _⟩ => ⟨S128x256, .f32⟩
  | .local _ .vmem, ⟨5, _⟩ => ⟨S8x128x256, .f32⟩
  | .local _ .vmem, ⟨6, _⟩ => ⟨S8x128x256, .f32⟩
  | .local _ .vmem, ⟨7, _⟩ => ⟨S64x256, .f32⟩
  | .local _ .vmem, ⟨8, _⟩ => ⟨S64x256, .f32⟩
  | .local _ .vmem, ⟨9, _⟩ => ⟨S128x256, .f32⟩
  | .local _ .vmem, ⟨10, _⟩ => ⟨S8x128x256, .f32⟩
  | .local _ .vmem, ⟨11, _⟩ => ⟨S8x128x256, .f32⟩
  | .local _ .vmem, ⟨12, _⟩ => ⟨S64x1024, .f32⟩
  | .local _ .vmem, ⟨13, _⟩ => ⟨S64x1024, .f32⟩
  | .local _ .vmem, ⟨14, _⟩ => ⟨S8x128x256, .f32⟩
  | .local _ .vmem, ⟨15, _⟩ => ⟨S8x128x256, .f32⟩
  | .local _ .vmem, ⟨16, _⟩ => ⟨S8x128x256, .f32⟩
  | .local _ .vmem, ⟨17, _⟩ => ⟨S8x128x256, .f32⟩
  | .local _ .smem, ⟨0, _⟩ => ⟨S16, .f32⟩
  | _, _ => ⟨S128x8x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![16, 1], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference5Ideal.lean ====
abbrev S128x8x16x64 : Shape := ⟨4, ![128, 8, 16, 64]⟩
abbrev S128x8x4x64 : Shape := ⟨4, ![128, 8, 4, 64]⟩
abbrev S128x128x4x64 : Shape := ⟨4, ![128, 128, 4, 64]⟩
abbrev S1x16 : Shape := ⟨2, ![1, 16]⟩
abbrev S128x136x4x64 : Shape := ⟨4, ![128, 136, 4, 64]⟩
abbrev S128x128x256 : Shape := ⟨3, ![128, 128, 256]⟩

abbrev nBuf : Space → Nat
  | .hbm => 12
  | .vmem => 0
  | .smem => 0
  | _ => 0

abbrev bufTy : (tb : Table) → Fin (tcTables nBuf tb) → BufTy
  | .hbm, ⟨0, _⟩ => ⟨S128x8x16x64, .f32⟩
  | .hbm, ⟨1, _⟩ => ⟨S128x8x4x64, .f32⟩
  | .hbm, ⟨2, _⟩ => ⟨S128x8x4x64, .f32⟩
  | .hbm, ⟨3, _⟩ => ⟨S128x128x4x64, .f32⟩
  | .hbm, ⟨4, _⟩ => ⟨S128x128x4x64, .f32⟩
  | .hbm, ⟨5, _⟩ => ⟨S1x16, .f32⟩
  | .hbm, ⟨6, _⟩ => ⟨S128x136x4x64, .f32⟩
  | .hbm, ⟨7, _⟩ => ⟨S128x136x4x64, .f32⟩
  | .hbm, ⟨8, _⟩ => ⟨S128x128x4x64, .f32⟩
  | .hbm, ⟨9, _⟩ => ⟨S128x128x256, .f32⟩
  | .hbm, ⟨10, _⟩ => ⟨S128x128x4x64, .f32⟩
  | .hbm, ⟨11, _⟩ => ⟨S128x128x256, .f32⟩
  | _, _ => ⟨S128x8x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.Tile.lean ====
module

public import proofs.«01_k».proof.Proof.Gen.KernelIdeal.Frame
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F] [Named F]

/-! ## The attention of one block of 128 rows, one pair of heads at a time

The kernel's 32 stores to the carried scratch all hold the same chain of operations; here it is once, the places
where the 32 differ (which key lanes, which query lanes, which four sinks, which two heads) as parameters. -/

/-- The row number of each cell. -/
def rowsI : IVec S128x128 32 := iota .tc S128x128 32 [0] iota_S128x128_d0_w32

/-- The column number of each cell. -/
def colsI : IVec S128x128 32 := iota .tc S128x128 32 [1] iota_S128x128_d1_w32

/-- The cells whose key, of the row's own block, is not after the query. -/
def own : IVec S128x128 1 := cmpi .sle colsI rowsI

/-- The lanes of the lower head of a pair. -/
def lowq : IVec S128x128 1 := cmpi .slt colsI (broadcast S128x128 (64#32))

/-- One on the lower head's lanes. -/
def keep0 : FVec F S128x128 .bf16 :=
  truncf .bf16 (select lowq (broadcast S128x128 (Scalar.ofBits .f32 0x3F800000#32)) (broadcast S128x128 (Scalar.ofBits .f32 0x00000000#32))) bitsLt_bf16_f32

/-- One on the upper head's lanes. -/
def keep1 : FVec F S128x128 .bf16 :=
  truncf .bf16 (select lowq (broadcast S128x128 (Scalar.ofBits .f32 0x00000000#32)) (broadcast S128x128 (Scalar.ofBits .f32 0x3F800000#32))) bitsLt_bf16_f32

/-- Which keys of the block before are visible, where there is always one. -/
def prevAll : IVec S128x128 1 := cmpi .sgt colsI rowsI

/-- Which keys of the block before are visible in the first block of a step: in a sequence's first block only the
    16 last columns are. -/
def prevFirst (first : BitVec 1) : IVec S128x128 1 :=
  andi (cmpi .sgt colsI rowsI) (ori (broadcast S128x128 (Scalar.xori first (1#1))) (cmpi .sge colsI (broadcast S128x128 (112#32))))

/-- The queries' block, scaled and cast. -/
def qScaled (q : Vec F S128x1024 .f32) : FVec F S128x1024 .bf16 :=
  truncf .bf16 (mulf (shapeCast S128x1024 q shapeCasts_S128x1024_S128x1024) (broadcast S128x1024 (Named.named κ "q_scale" 0x3E38AA3B#32))) bitsLt_bf16_f32

/-- One kv head's 64 lanes, written twice side by side. -/
def dup (o : ℕ) (ho : S128x256.Slices ![0, o] S128x128) (odd : Bool) (x : FVec F S128x256 .f32) : FVec F S128x128 .bf16 :=
  match odd with
  | false => truncf .bf16 (select lowq (extractStridedSlice S128x128 ![0, o] x ho) (dynamicRotate 1 (64#32) none (extractStridedSlice S128x128 ![0, o] x ho) rotates_S128x128_d1)) bitsLt_bf16_f32
  | true => truncf .bf16 (select lowq (dynamicRotate 1 (64#32) none (extractStridedSlice S128x128 ![0, o] x ho) rotates_S128x128_d1) (extractStridedSlice S128x128 ![0, o] x ho)) bitsLt_bf16_f32

/-- The own block's rows above the previous block's. -/
def stack (x y : FVec F S128x128 .bf16) : FVec F S256x128 .bf16 :=
  concatenate S256x128 0 [⟨S128x128, x⟩, ⟨S128x128, y⟩] concatenates_S128x128_S128x128_S256x128_d0

/-- The four query heads of a kv head against the 256 keys. -/
def scores (a b : ℕ) (ha : S128x1024.Slices ![0, a] S128x128) (hb : S128x1024.Slices ![0, b] S128x128)
    (q : FVec F S128x1024 .bf16) (keys : FVec F S256x128 .bf16) : FVec F S512x256 .f32 :=
  matmul dot_S512x128_S256x128_S512x256_1_1_0_0_n_n none
    (concatenate S512x128 0 [⟨S128x128, mulf (extractStridedSlice S128x128 ![0, a] q ha) keep0⟩, ⟨S128x128, mulf (extractStridedSlice S128x128 ![0, a] q ha) keep1⟩,
      ⟨S128x128, mulf (extractStridedSlice S128x128 ![0, b] q hb) keep0⟩, ⟨S128x128, mulf (extractStridedSlice S128x128 ![0, b] q hb) keep1⟩] concatenates_S128x128_S128x128_S128x128_S128x128_S512x128_d0)
    keys (constant S512x256 .f32 0x00000000#32)

/-- One head's 128 × 128 scores: each column holds the own block's key or the previous one's. -/
def masked (r : ℕ) (hr : S512x256.Slices ![r, 0] S128x256) (prev : IVec S128x128 1) (S : FVec F S512x256 .f32) : FVec F S128x128 .f32 :=
  select own (extractStridedSlice S128x128 ![0, 0] (extractStridedSlice S128x256 ![r, 0] S hr) slices_S128x256_o0_0_S128x128)
    (select prev (extractStridedSlice S128x128 ![0, 128] (extractStridedSlice S128x256 ![r, 0] S hr) slices_S128x256_o0_128_S128x128)
      (broadcast S128x128 (Scalar.ofBits .f32 0xFF800000#32)))

/-- One head's sink in the units of the scores. -/
def sinkL (s : F .f32) : F .f32 := Scalar.mulf s (Named.named κ "log2e" 0x3FB8AA3B#32)

/-- Each row's maximum, with the sink. -/
def rowMax (s : FVec F S128x128 .f32) (k : F .f32) : FVec F S128x1 .f32 :=
  maximumf (shapeCast S128x1 (multiReduction .maximumf [1] S128 s 0xFF800000#32 reduces_S128x128_S128 (.inl rfl) rfl) shapeCasts_S128_S128x1) (broadcast S128x1 k)

/-- The weights before they are divided. -/
def expo (s : FVec F S128x128 .f32) (k : F .f32) : FVec F S128x128 .f32 :=
  exp2 (subf s (broadcastTo S128x128 (rowMax s k) broadcasts_S128x1_S128x128))

/-- One over each row's sum, the sink's share included. -/
def invDen (s : FVec F S128x128 .f32) (k : F .f32) : FVec F S128x1 .f32 :=
  divf (broadcast S128x1 (Scalar.ofBits .f32 0x3F800000#32))
    (addf (shapeCast S128x1 (multiReduction .add [1] S128 (expo s k) 0x00000000#32 reduces_S128x128_S128 (.inl rfl) rfl) shapeCasts_S128_S128x1)
      (exp2 (subf (broadcast S128x1 k) (rowMax s k))))

/-- The weights on 256 columns: on the own block's key or on the previous one's. -/
def prob (s : FVec F S128x128 .f32) (k : F .f32) : FVec F S128x256 .bf16 :=
  truncf .bf16 (concatenate S128x256 1 [⟨S128x128, select own (expo s k) (broadcast S128x128 (Scalar.ofBits .f32 0x00000000#32))⟩,
    ⟨S128x128, select own (broadcast S128x128 (Scalar.ofBits .f32 0x00000000#32)) (expo s k)⟩] concatenates_S128x128_S128x128_S128x256_d1) bitsLt_bf16_f32

/-- The weighted sums of the values, four heads below each other. -/
def weighted (prev : IVec S128x128 1) (S : FVec F S512x256 .f32) (vals : FVec F S256x128 .bf16) (k0 k1 k2 k3 : F .f32) : FVec F S512x128 .f32 :=
  matmul dot_S512x256_S256x128_S512x128_1_0_0_1_n_n none
    (concatenate S512x256 0 [⟨S128x256, prob (masked 0 slices_S512x256_o0_0_S128x256 prev S) k0⟩, ⟨S128x256, prob (masked 128 slices_S512x256_o128_0_S128x256 prev S) k1⟩,
      ⟨S128x256, prob (masked 256 slices_S512x256_o256_0_S128x256 prev S) k2⟩, ⟨S128x256, prob (masked 384 slices_S512x256_o384_0_S128x256 prev S) k3⟩] concatenates_S128x256_S128x256_S128x256_S128x256_S512x256_d0)
    vals (constant S512x128 .f32 0x00000000#32)

/-- One stored tile: the lower head of the pair on its lanes, the upper one on the others. -/
def pairOf (r1 r2 : ℕ) (h1 : S512x128.Slices ![r1, 0] S128x128) (h2 : S512x128.Slices ![r2, 0] S128x128)
    (O : FVec F S512x128 .f32) (i1 i2 : FVec F S128x1 .f32) : FVec F S128x128 .bf16 :=
  shapeCast S128x128 (truncf .bf16 (select lowq (mulf (extractStridedSlice S128x128 ![r1, 0] O h1) (broadcastTo S128x128 i1 broadcasts_S128x1_S128x128))
    (mulf (extractStridedSlice S128x128 ![r2, 0] O h2) (broadcastTo S128x128 i2 broadcasts_S128x1_S128x128))) bitsLt_bf16_f32) shapeCasts_S128x128_S128x128

/-- The scores of kv head (`o`, `odd`) in a block. -/
def blkScores (o a b : ℕ) (ho : S128x256.Slices ![0, o] S128x128) (ha : S128x1024.Slices ![0, a] S128x128) (hb : S128x1024.Slices ![0, b] S128x128) (odd : Bool)
    (q : Vec F S128x1024 .f32) (kc kp : FVec F S128x256 .f32) : FVec F S512x256 .f32 :=
  scores a b ha hb (qScaled q) (stack (dup o ho odd kc) (dup o ho odd kp))

/-- The tile of a kv head's first two heads. -/
def tile0 (o a b : ℕ) (ho : S128x256.Slices ![0, o] S128x128) (ha : S128x1024.Slices ![0, a] S128x128) (hb : S128x1024.Slices ![0, b] S128x128) (odd : Bool)
    (prev : IVec S128x128 1) (q : Vec F S128x1024 .f32) (kc vc kp vp : FVec F S128x256 .f32) (s0 s1 s2 s3 : F .f32) : FVec F S128x128 .bf16 :=
  pairOf 0 128 slices_S512x128_o0_0_S128x128 slices_S512x128_o128_0_S128x128
    (weighted prev (blkScores o a b ho ha hb odd q kc kp) (stack (dup o ho odd vc) (dup o ho odd vp)) (sinkL s0) (sinkL s1) (sinkL s2) (sinkL s3))
    (invDen (masked 0 slices_S512x256_o0_0_S128x256 prev (blkScores o a b ho ha hb odd q kc kp)) (sinkL s0))
    (invDen (masked 128 slices_S512x256_o128_0_S128x256 prev (blkScores o a b ho ha hb odd q kc kp)) (sinkL s1))

/-- The tile of a kv head's last two heads. -/
def tile1 (o a b : ℕ) (ho : S128x256.Slices ![0, o] S128x128) (ha : S128x1024.Slices ![0, a] S128x128) (hb : S128x1024.Slices ![0, b] S128x128) (odd : Bool)
    (prev : IVec S128x128 1) (q : Vec F S128x1024 .f32) (kc vc kp vp : FVec F S128x256 .f32) (s0 s1 s2 s3 : F .f32) : FVec F S128x128 .bf16 :=
  pairOf 256 384 slices_S512x128_o256_0_S128x128 slices_S512x128_o384_0_S128x128
    (weighted prev (blkScores o a b ho ha hb odd q kc kp) (stack (dup o ho odd vc) (dup o ho odd vp)) (sinkL s0) (sinkL s1) (sinkL s2) (sinkL s3))
    (invDen (masked 256 slices_S512x256_o256_0_S128x256 prev (blkScores o a b ho ha hb odd q kc kp)) (sinkL s2))
    (invDen (masked 384 slices_S512x256_o384_0_S128x256 prev (blkScores o a b ho ha hb odd q kc kp)) (sinkL s3))

/-- A loaded key or value block as the chain takes it. -/
def asIs (x : Vec F S128x256 .f32) : FVec F S128x256 .f32 := shapeCast S128x256 x shapeCasts_S128x256_S128x256

/-- The block before the step's first one: the buffer where the sequence starts, else the rows above. -/
def before (first : BitVec 1) (b : Vec F S1x128x256 .f32) (p : Vec F S128x256 .f32) : FVec F S128x256 .f32 :=
  Scalar.select first (shapeCast S128x256 b shapeCasts_S1x128x256_S128x256) (asIs p)

/-- Whether grid point `n` starts a sequence. -/
def firstOf (n : ℕ) : BitVec 1 := Scalar.cmpi .eq (Scalar.remsi (Scalar.minsi (BitVec.ofNat 32 n) (63#32)) (4#32)) (0#32)

/-- The 32 tiles of a step, the last stored first. -/
def tiles (first : BitVec 1) (sk : Fin 16 → F .f32) (q0 q1 q2 q3 : Vec F S128x1024 .f32) (kc0 kc1 kc2 kc3 vc0 vc1 vc2 vc3 : Vec F S128x256 .f32) (kp vp : Vec F S128x256 .f32) (kb vb : Vec F S1x128x256 .f32) : List (View.Piece (Elt F) S512x1024 .bf16) := [
  ⟨Rect.unit (s := S512x1024) ![384, 896] S128x128.size inb_S512x1024_S128x128_384_896, tile1 128 768 896 slices_S128x256_o0_128_S128x128 slices_S128x1024_o0_768_S128x128 slices_S128x1024_o0_896_S128x128 true prevAll q3 (asIs kc3) (asIs vc3) (asIs kc2) (asIs vc2) (sk 12) (sk 13) (sk 14) (sk 15)⟩,
  ⟨Rect.unit (s := S512x1024) ![384, 768] S128x128.size inb_S512x1024_S128x128_384_768, tile0 128 768 896 slices_S128x256_o0_128_S128x128 slices_S128x1024_o0_768_S128x128 slices_S128x1024_o0_896_S128x128 true prevAll q3 (asIs kc3) (asIs vc3) (asIs kc2) (asIs vc2) (sk 12) (sk 13) (sk 14) (sk 15)⟩,
  ⟨Rect.unit (s := S512x1024) ![384, 640] S128x128.size inb_S512x1024_S128x128_384_640, tile1 128 512 640 slices_S128x256_o0_128_S128x128 slices_S128x1024_o0_512_S128x128 slices_S128x1024_o0_640_S128x128 false prevAll q3 (asIs kc3) (asIs vc3) (asIs kc2) (asIs vc2) (sk 8) (sk 9) (sk 10) (sk 11)⟩,
  ⟨Rect.unit (s := S512x1024) ![384, 512] S128x128.size inb_S512x1024_S128x128_384_512, tile0 128 512 640 slices_S128x256_o0_128_S128x128 slices_S128x1024_o0_512_S128x128 slices_S128x1024_o0_640_S128x128 false prevAll q3 (asIs kc3) (asIs vc3) (asIs kc2) (asIs vc2) (sk 8) (sk 9) (sk 10) (sk 11)⟩,
  ⟨Rect.unit (s := S512x1024) ![384, 384] S128x128.size inb_S512x1024_S128x128_384_384, tile1 0 256 384 slices_S128x256_o0_0_S128x128 slices_S128x1024_o0_256_S128x128 slices_S128x1024_o0_384_S128x128 true prevAll q3 (asIs kc3) (asIs vc3) (asIs kc2) (asIs vc2) (sk 4) (sk 5) (sk 6) (sk 7)⟩,
  ⟨Rect.unit (s := S512x1024) ![384, 256] S128x128.size inb_S512x1024_S128x128_384_256, tile0 0 256 384 slices_S128x256_o0_0_S128x128 slices_S128x1024_o0_256_S128x128 slices_S128x1024_o0_384_S128x128 true prevAll q3 (asIs kc3) (asIs vc3) (asIs kc2) (asIs vc2) (sk 4) (sk 5) (sk 6) (sk 7)⟩,
  ⟨Rect.unit (s := S512x1024) ![384, 128] S128x128.size inb_S512x1024_S128x128_384_128, tile1 0 0 128 slices_S128x256_o0_0_S128x128 slices_S128x1024_o0_0_S128x128 slices_S128x1024_o0_128_S128x128 false prevAll q3 (asIs kc3) (asIs vc3) (asIs kc2) (asIs vc2) (sk 0) (sk 1) (sk 2) (sk 3)⟩,
  ⟨Rect.unit (s := S512x1024) ![384, 0] S128x128.size inb_S512x1024_S128x128_384_0, tile0 0 0 128 slices_S128x256_o0_0_S128x128 slices_S128x1024_o0_0_S128x128 slices_S128x1024_o0_128_S128x128 false prevAll q3 (asIs kc3) (asIs vc3) (asIs kc2) (asIs vc2) (sk 0) (sk 1) (sk 2) (sk 3)⟩,
  ⟨Rect.unit (s := S512x1024) ![256, 896] S128x128.size inb_S512x1024_S128x128_256_896, tile1 128 768 896 slices_S128x256_o0_128_S128x128 slices_S128x1024_o0_768_S128x128 slices_S128x1024_o0_896_S128x128 true prevAll q2 (asIs kc2) (asIs vc2) (asIs kc1) (asIs vc1) (sk 12) (sk 13) (sk 14) (sk 15)⟩,
  ⟨Rect.unit (s := S512x1024) ![256, 768] S128x128.size inb_S512x1024_S128x128_256_768, tile0 128 768 896 slices_S128x256_o0_128_S128x128 slices_S128x1024_o0_768_S128x128 slices_S128x1024_o0_896_S128x128 true prevAll q2 (asIs kc2) (asIs vc2) (asIs kc1) (asIs vc1) (sk 12) (sk 13) (sk 14) (sk 15)⟩,
  ⟨Rect.unit (s := S512x1024) ![256, 640] S128x128.size inb_S512x1024_S128x128_256_640, tile1 128 512 640 slices_S128x256_o0_128_S128x128 slices_S128x1024_o0_512_S128x128 slices_S128x1024_o0_640_S128x128 false prevAll q2 (asIs kc2) (asIs vc2) (asIs kc1) (asIs vc1) (sk 8) (sk 9) (sk 10) (sk 11)⟩,
  ⟨Rect.unit (s := S512x1024) ![256, 512] S128x128.size inb_S512x1024_S128x128_256_512, tile0 128 512 640 slices_S128x256_o0_128_S128x128 slices_S128x1024_o0_512_S128x128 slices_S128x1024_o0_640_S128x128 false prevAll q2 (asIs kc2) (asIs vc2) (asIs kc1) (asIs vc1) (sk 8) (sk 9) (sk 10) (sk 11)⟩,
  ⟨Rect.unit (s := S512x1024) ![256, 384] S128x128.size inb_S512x1024_S128x128_256_384, tile1 0 256 384 slices_S128x256_o0_0_S128x128 slices_S128x1024_o0_256_S128x128 slices_S128x1024_o0_384_S128x128 true prevAll q2 (asIs kc2) (asIs vc2) (asIs kc1) (asIs vc1) (sk 4) (sk 5) (sk 6) (sk 7)⟩,
  ⟨Rect.unit (s := S512x1024) ![256, 256] S128x128.size inb_S512x1024_S128x128_256_256, tile0 0 256 384 slices_S128x256_o0_0_S128x128 slices_S128x1024_o0_256_S128x128 slices_S128x1024_o0_384_S128x128 true prevAll q2 (asIs kc2) (asIs vc2) (asIs kc1) (asIs vc1) (sk 4) (sk 5) (sk 6) (sk 7)⟩,
  ⟨Rect.unit (s := S512x1024) ![256, 128] S128x128.size inb_S512x1024_S128x128_256_128, tile1 0 0 128 slices_S128x256_o0_0_S128x128 slices_S128x1024_o0_0_S128x128 slices_S128x1024_o0_128_S128x128 false prevAll q2 (asIs kc2) (asIs vc2) (asIs kc1) (asIs vc1) (sk 0) (sk 1) (sk 2) (sk 3)⟩,
  ⟨Rect.unit (s := S512x1024) ![256, 0] S128x128.size inb_S512x1024_S128x128_256_0, tile0 0 0 128 slices_S128x256_o0_0_S128x128 slices_S128x1024_o0_0_S128x128 slices_S128x1024_o0_128_S128x128 false prevAll q2 (asIs kc2) (asIs vc2) (asIs kc1) (asIs vc1) (sk 0) (sk 1) (sk 2) (sk 3)⟩,
  ⟨Rect.unit (s := S512x1024) ![128, 896] S128x128.size inb_S512x1024_S128x128_128_896, tile1 128 768 896 slices_S128x256_o0_128_S128x128 slices_S128x1024_o0_768_S128x128 slices_S128x1024_o0_896_S128x128 true prevAll q1 (asIs kc1) (asIs vc1) (asIs kc0) (asIs vc0) (sk 12) (sk 13) (sk 14) (sk 15)⟩,
  ⟨Rect.unit (s := S512x1024) ![128, 768] S128x128.size inb_S512x1024_S128x128_128_768, tile0 128 768 896 slices_S128x256_o0_128_S128x128 slices_S128x1024_o0_768_S128x128 slices_S128x1024_o0_896_S128x128 true prevAll q1 (asIs kc1) (asIs vc1) (asIs kc0) (asIs vc0) (sk 12) (sk 13) (sk 14) (sk 15)⟩,
  ⟨Rect.unit (s := S512x1024) ![128, 640] S128x128.size inb_S512x1024_S128x128_128_640, tile1 128 512 640 slices_S128x256_o0_128_S128x128 slices_S128x1024_o0_512_S128x128 slices_S128x1024_o0_640_S128x128 false prevAll q1 (asIs kc1) (asIs vc1) (asIs kc0) (asIs vc0) (sk 8) (sk 9) (sk 10) (sk 11)⟩,
  ⟨Rect.unit (s := S512x1024) ![128, 512] S128x128.size inb_S512x1024_S128x128_128_512, tile0 128 512 640 slices_S128x256_o0_128_S128x128 slices_S128x1024_o0_512_S128x128 slices_S128x1024_o0_640_S128x128 false prevAll q1 (asIs kc1) (asIs vc1) (asIs kc0) (asIs vc0) (sk 8) (sk 9) (sk 10) (sk 11)⟩,
  ⟨Rect.unit (s := S512x1024) ![128, 384] S128x128.size inb_S512x1024_S128x128_128_384, tile1 0 256 384 slices_S128x256_o0_0_S128x128 slices_S128x1024_o0_256_S128x128 slices_S128x1024_o0_384_S128x128 true prevAll q1 (asIs kc1) (asIs vc1) (asIs kc0) (asIs vc0) (sk 4) (sk 5) (sk 6) (sk 7)⟩,
  ⟨Rect.unit (s := S512x1024) ![128, 256] S128x128.size inb_S512x1024_S128x128_128_256, tile0 0 256 384 slices_S128x256_o0_0_S128x128 slices_S128x1024_o0_256_S128x128 slices_S128x1024_o0_384_S128x128 true prevAll q1 (asIs kc1) (asIs vc1) (asIs kc0) (asIs vc0) (sk 4) (sk 5) (sk 6) (sk 7)⟩,
  ⟨Rect.unit (s := S512x1024) ![128, 128] S128x128.size inb_S512x1024_S128x128_128_128, tile1 0 0 128 slices_S128x256_o0_0_S128x128 slices_S128x1024_o0_0_S128x128 slices_S128x1024_o0_128_S128x128 false prevAll q1 (asIs kc1) (asIs vc1) (asIs kc0) (asIs vc0) (sk 0) (sk 1) (sk 2) (sk 3)⟩,
  ⟨Rect.unit (s := S512x1024) ![128, 0] S128x128.size inb_S512x1024_S128x128_128_0, tile0 0 0 128 slices_S128x256_o0_0_S128x128 slices_S128x1024_o0_0_S128x128 slices_S128x1024_o0_128_S128x128 false prevAll q1 (asIs kc1) (asIs vc1) (asIs kc0) (asIs vc0) (sk 0) (sk 1) (sk 2) (sk 3)⟩,
  ⟨Rect.unit (s := S512x1024) ![0, 896] S128x128.size inb_S512x1024_S128x128_0_896, tile1 128 768 896 slices_S128x256_o0_128_S128x128 slices_S128x1024_o0_768_S128x128 slices_S128x1024_o0_896_S128x128 true (prevFirst first) q0 (asIs kc0) (asIs vc0) (before first kb kp) (before first vb vp) (sk 12) (sk 13) (sk 14) (sk 15)⟩,
  ⟨Rect.unit (s := S512x1024) ![0, 768] S128x128.size inb_S512x1024_S128x128_0_768, tile0 128 768 896 slices_S128x256_o0_128_S128x128 slices_S128x1024_o0_768_S128x128 slices_S128x1024_o0_896_S128x128 true (prevFirst first) q0 (asIs kc0) (asIs vc0) (before first kb kp) (before first vb vp) (sk 12) (sk 13) (sk 14) (sk 15)⟩,
  ⟨Rect.unit (s := S512x1024) ![0, 640] S128x128.size inb_S512x1024_S128x128_0_640, tile1 128 512 640 slices_S128x256_o0_128_S128x128 slices_S128x1024_o0_512_S128x128 slices_S128x1024_o0_640_S128x128 false (prevFirst first) q0 (asIs kc0) (asIs vc0) (before first kb kp) (before first vb vp) (sk 8) (sk 9) (sk 10) (sk 11)⟩,
  ⟨Rect.unit (s := S512x1024) ![0, 512] S128x128.size inb_S512x1024_S128x128_0_512, tile0 128 512 640 slices_S128x256_o0_128_S128x128 slices_S128x1024_o0_512_S128x128 slices_S128x1024_o0_640_S128x128 false (prevFirst first) q0 (asIs kc0) (asIs vc0) (before first kb kp) (before first vb vp) (sk 8) (sk 9) (sk 10) (sk 11)⟩,
  ⟨Rect.unit (s := S512x1024) ![0, 384] S128x128.size inb_S512x1024_S128x128_0_384, tile1 0 256 384 slices_S128x256_o0_0_S128x128 slices_S128x1024_o0_256_S128x128 slices_S128x1024_o0_384_S128x128 true (prevFirst first) q0 (asIs kc0) (asIs vc0) (before first kb kp) (before first vb vp) (sk 4) (sk 5) (sk 6) (sk 7)⟩,
  ⟨Rect.unit (s := S512x1024) ![0, 256] S128x128.size inb_S512x1024_S128x128_0_256, tile0 0 256 384 slices_S128x256_o0_0_S128x128 slices_S128x1024_o0_256_S128x128 slices_S128x1024_o0_384_S128x128 true (prevFirst first) q0 (asIs kc0) (asIs vc0) (before first kb kp) (before first vb vp) (sk 4) (sk 5) (sk 6) (sk 7)⟩,
  ⟨Rect.unit (s := S512x1024) ![0, 128] S128x128.size inb_S512x1024_S128x128_0_128, tile1 0 0 128 slices_S128x256_o0_0_S128x128 slices_S128x1024_o0_0_S128x128 slices_S128x1024_o0_128_S128x128 false (prevFirst first) q0 (asIs kc0) (asIs vc0) (before first kb kp) (before first vb vp) (sk 0) (sk 1) (sk 2) (sk 3)⟩,
  ⟨Rect.unit (s := S512x1024) ![0, 0] S128x128.size inb_S512x1024_S128x128_0_0, tile0 0 0 128 slices_S128x256_o0_0_S128x128 slices_S128x1024_o0_0_S128x128 slices_S128x1024_o0_128_S128x128 false (prevFirst first) q0 (asIs kc0) (asIs vc0) (before first kb kp) (before first vb vp) (sk 0) (sk 1) (sk 2) (sk 3)⟩]

end Cert.KernelIdeal.Hand

end
-- ==== Proof.KPoint.lean ====
module

public import proofs.«01_k».proof.Proof.Tile
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe Idealize.SL.Sem

/-! ## The attention chain at one entry, over the extended reals -/

/-- One row of one head: `x` the scores against the row's own block, `y` against the block before, `P` which of the
    latter are visible, `k` the sink, `v` and `w` the values of the two blocks in one lane. -/
def attnRow (r : Fin 128) (P : Fin 128 → Prop) [DecidablePred P] (x y : Fin 128 → EReal) (k : EReal) (v w : Fin 128 → EReal) : EReal :=
  let s : Fin 128 → EReal := fun c => if c ≤ r then x c else if P c then y c else ⊥
  let m : EReal := max (Finset.univ.fold max ⊥ s) k
  let e : Fin 128 → EReal := fun c => (FloatOps.exp2 ((s c - m : EReal) : Ideal .f32) : Ideal .f32)
  (∑ c, (if c ≤ r then e c else 0) * v c + ∑ c, (if c ≤ r then 0 else e c) * w c)
    * Ideal.div 1 (∑ c, e c + (FloatOps.exp2 ((k - m : EReal) : Ideal .f32) : Ideal .f32))

/-- A word below 2³¹ compares as the number it is. -/
theorem toInt_small (n : ℕ) (h : n < 2 ^ 31) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

/-- Signed less-or-equal of small words. -/
theorem sle_small (a b : ℕ) (ha : a < 2 ^ 31) (hb : b < 2 ^ 31) :
    IntOp.cmpi CmpIPredicate.sle (BitVec.ofNat 32 a) (BitVec.ofNat 32 b) = if a ≤ b then 1#1 else 0#1 := by
  have h1 := toInt_small a ha; have h2 := toInt_small b hb
  by_cases h : a ≤ b <;> simp [IntOp.cmpi, BitVec.sle, h1, h2, h]

/-- Signed greater-than of small words. -/
theorem sgt_small (a b : ℕ) (ha : a < 2 ^ 31) (hb : b < 2 ^ 31) :
    IntOp.cmpi CmpIPredicate.sgt (BitVec.ofNat 32 a) (BitVec.ofNat 32 b) = if b < a then 1#1 else 0#1 := by
  have h1 := toInt_small a ha; have h2 := toInt_small b hb
  by_cases h : b < a <;> simp [IntOp.cmpi, BitVec.slt, h1, h2, h]

/-- Signed less-than of small words. -/
theorem slt_small (a b : ℕ) (ha : a < 2 ^ 31) (hb : b < 2 ^ 31) :
    IntOp.cmpi CmpIPredicate.slt (BitVec.ofNat 32 a) (BitVec.ofNat 32 b) = if a < b then 1#1 else 0#1 := by
  have h1 := toInt_small a ha; have h2 := toInt_small b hb
  by_cases h : a < b <;> simp [IntOp.cmpi, BitVec.slt, h1, h2, h]

/-- Signed greater-or-equal of small words. -/
theorem sge_small (a b : ℕ) (ha : a < 2 ^ 31) (hb : b < 2 ^ 31) :
    IntOp.cmpi CmpIPredicate.sge (BitVec.ofNat 32 a) (BitVec.ofNat 32 b) = if b ≤ a then 1#1 else 0#1 := by
  have h1 := toInt_small a ha; have h2 := toInt_small b hb
  by_cases h : b ≤ a <;> simp [IntOp.cmpi, BitVec.sle, h1, h2, h]

/-- Selecting by a condition's word. -/
theorem sel_if {α : Type} (p : Prop) [Decidable p] (a b : α) : Scalar.select (if p then 1#1 else 0#1) a b = if p then a else b := by
  split_ifs <;> rfl

/-- `own` picks by `column ≤ row`. -/
theorem own_at {α : Type} (a b : α) (r c : Fin 128) : Scalar.select (own (ix2 r c)) a b = if c ≤ r then a else b := by
  pointwise [own, rowsI, colsI]
  rw [sle_small _ _ (by have := c.isLt; omega) (by have := r.isLt; omega), sel_if]
  rfl

/-- `lowq` picks by the lane's half. -/
theorem lowq_at {α : Type} (a b : α) (r c : Fin 128) : Scalar.select (lowq (ix2 r c)) a b = if c.val < 64 then a else b := by
  pointwise [lowq, colsI]
  rw [show (64#32) = BitVec.ofNat 32 64 from rfl, slt_small _ _ (by have := c.isLt; omega) (by omega), sel_if]

/-- What a mask of the block before has to be: `P` on the columns after the row. -/
def MaskIs (prev : IVec S128x128 1) (P : Fin 128 → Prop) : Prop := ∀ r c : Fin 128, (prev (ix2 r c) = 1#1 ↔ r < c ∧ P c)

/-- Away from a sequence's start the tile before is visible as a whole. -/
theorem prevAll_is : MaskIs prevAll (fun _ => True) := by
  intro r c
  pointwise [prevAll, rowsI, colsI]
  rw [sgt_small _ _ (by have := c.isLt; omega) (by have := r.isLt; omega)]
  by_cases h : r.val < c.val <;> simp [h, Fin.lt_def]

/-- At a sequence's start only the last sixteen keys before are visible. -/
theorem prevFirst_is (f : BitVec 1) : MaskIs (prevFirst f) (fun c => f = 0#1 ∨ 112 ≤ c.val) := by
  intro r c
  pointwise [prevFirst, rowsI, colsI]
  rw [show (112#32) = BitVec.ofNat 32 112 from rfl, sgt_small _ _ (by have := c.isLt; omega) (by have := r.isLt; omega),
    sge_small _ _ (by have := c.isLt; omega) (by omega)]
  have hf : f = 0#1 ∨ f = 1#1 := by revert f; decide
  rcases hf with rfl | rfl <;> by_cases h : r.val < c.val <;> by_cases h2 : 112 ≤ c.val <;>
    simp [h, h2, Fin.lt_def, Scalar.xori, IntOp.andi, IntOp.ori, IntOp.xori]

/-- The lanes of an even head. -/
theorem keep0_at (r c : Fin 128) : keep0 (F := Ideal) (ix2 r c) = if c.val < 64 then 1 else 0 := by
  pointwise [keep0, lowq_at]

/-- The lanes of an odd head. -/
theorem keep1_at (r c : Fin 128) : keep1 (F := Ideal) (ix2 r c) = if c.val < 64 then 0 else 1 := by
  pointwise [keep1, lowq_at]

/-- `dup` at a lane: kv head `g`'s lane, modulo 64. -/
theorem dup_at (o : ℕ) (ho : S128x256.Slices ![0, o] S128x128) (odd : Bool) (g : Fin 4) (hg : o + (if odd then 64 else 0) = 64 * g.val)
    (x : FVec Ideal S128x256 .f32) (r : Fin 128) (l : Fin 128) (d : Fin 64) (hd : l.val % 64 = d.val) :
    dup o ho odd x (ix2 r l) = x (ix2 r ⟨64 * g.val + d.val, by omega⟩) := by
  have hl := l.isLt
  cases odd
  · pointwise [dup, lowq_at]
    split_ifs with h <;> refine congrArg x (congrArg (ix2 r) (Fin.ext ?_)) <;> simp at hg ⊢ <;> omega
  · pointwise [dup, lowq_at]
    split_ifs with h <;> refine congrArg x (congrArg (ix2 r) (Fin.ext ?_)) <;> simp at hg ⊢ <;> omega

/-- Two tiles stacked. -/
theorem stack_at (x y : FVec Ideal S128x128 .bf16) (k : Fin 256) (c : Fin 128) :
    stack x y (ix2 k c) = if h : k.val < 128 then x (ix2 ⟨k.val, h⟩ c) else y (ix2 ⟨k.val - 128, by omega⟩ c) := by
  pointwise [stack]

/-- A sum over 128 lanes, half of which are masked out, is the sum over the other half. -/
theorem sum_low (f : Fin 128 → EReal) : ∑ x : Fin 128, (if x.val < 64 then f x else 0) = ∑ d : Fin 64, f ⟨d.val, by omega⟩ := by
  rw [Fin.sum_univ_add (a := 64) (b := 64) (fun x : Fin 128 => if x.val < 64 then f x else 0)]
  have h1 : ∑ i : Fin 64, (if ((Fin.castAdd 64 i : Fin 128)).val < 64 then f (Fin.castAdd 64 i) else 0) = ∑ d : Fin 64, f ⟨d.val, by omega⟩ :=
    Finset.sum_congr rfl fun i _ => by rw [if_pos (by simp)]; rfl
  have h2 : ∑ i : Fin 64, (if ((Fin.natAdd 64 i : Fin 128)).val < 64 then f (Fin.natAdd 64 i) else 0) = 0 :=
    Finset.sum_eq_zero fun i _ => by rw [if_neg (by simp)]
  rw [h1, h2, add_zero]

/-- A sum over the high half of the lanes. -/
theorem sum_high (f : Fin 128 → EReal) : ∑ x : Fin 128, (if x.val < 64 then 0 else f x) = ∑ d : Fin 64, f ⟨64 + d.val, by omega⟩ := by
  rw [Fin.sum_univ_add (a := 64) (b := 64) (fun x : Fin 128 => if x.val < 64 then 0 else f x)]
  have h1 : ∑ i : Fin 64, (if ((Fin.castAdd 64 i : Fin 128)).val < 64 then 0 else f (Fin.castAdd 64 i)) = 0 :=
    Finset.sum_eq_zero fun i _ => by rw [if_pos (by simp)]
  have h2 : ∑ i : Fin 64, (if ((Fin.natAdd 64 i : Fin 128)).val < 64 then 0 else f (Fin.natAdd 64 i)) = ∑ d : Fin 64, f ⟨64 + d.val, by omega⟩ :=
    Finset.sum_congr rfl fun i _ => by rw [if_neg (by simp)]; rfl
  rw [h1, h2, zero_add]

/-- The scores of the block's head `i` (of four), row `r`, against stacked key `c`. -/
theorem scores_at (a b : ℕ) (ha : S128x1024.Slices ![0, a] S128x128) (hb : S128x1024.Slices ![0, b] S128x128)
    (q : FVec Ideal S128x1024 .bf16) (keys : FVec Ideal S256x128 .bf16) (g : Fin 4) (hga : a = 256 * g.val) (hgb : b = 256 * g.val + 128)
    (key : Fin 256 → Fin 64 → EReal) (hkey : ∀ (c : Fin 256) (l : Fin 128) (d : Fin 64), l.val % 64 = d.val → keys (ix2 c l) = key c d)
    (R : Fin 512) (i : Fin 4) (r : Fin 128) (hR : R.val = 128 * i.val + r.val) (c : Fin 256) :
    scores a b ha hb q keys (ix2 R c) = ∑ d : Fin 64, q (ix2 r ⟨64 * (4 * g.val + i.val) + d.val, by omega⟩) * key c d := by
  subst hga hgb
  pointwise [scores, dot_S512x128_S256x128_S512x256_1_1_0_0_n_n, keep0_at, keep1_at]
  have hr := r.isLt
  have hi : i = 0 ∨ i = 1 ∨ i = 2 ∨ i = 3 := by omega
  rcases hi with rfl | rfl | rfl | rfl <;> simp only [Fin.isValue, Fin.val_zero, Fin.val_one, Fin.val_two, show (3 : Fin 4).val = 3 from rfl] at hR ⊢
  · refine (congrArg₂ (fun a b : EReal => a + b) (Finset.sum_congr rfl fun d _ => ?_) (Finset.sum_eq_zero fun d _ => by rw [dif_pos (show R.val < 128 by omega)]; simp)).trans (add_zero _)
    rw [dif_pos (show R.val < 128 by omega)]
    refine congrArg₂ (fun a b : EReal => a * b) (congrArg q (congrArg₂ ix2 (Fin.ext ?_) (Fin.ext ?_))) (hkey c _ d ?_)
    · show R.val = r.val
      omega
    · show _ = 64 * _ + d.val
      simp only []
      omega
    · show d.val % 64 = d.val
      omega
  · refine (congrArg₂ (fun a b : EReal => a + b) (Finset.sum_eq_zero fun d _ => by rw [dif_neg (show ¬ (R.val < 128) by omega), dif_pos (show R.val - 128 < 128 by omega)]; simp) (Finset.sum_congr rfl fun d _ => ?_)).trans (zero_add _)
    rw [dif_neg (show ¬ (R.val < 128) by omega), dif_pos (show R.val - 128 < 128 by omega)]
    refine congrArg₂ (fun a b : EReal => a * b) (congrArg q (congrArg₂ ix2 (Fin.ext ?_) (Fin.ext ?_))) (hkey c _ d ?_)
    · show R.val - 128 = r.val
      omega
    · show _ = 64 * _ + d.val
      simp only []
      omega
    · show (64 + d.val) % 64 = d.val
      omega
  · refine (congrArg₂ (fun a b : EReal => a + b) (Finset.sum_congr rfl fun d _ => ?_) (Finset.sum_eq_zero fun d _ => by rw [dif_neg (show ¬ (R.val < 128) by omega), dif_neg (show ¬ (R.val - 128 < 128) by omega), dif_pos (show R.val - 128 - 128 < 128 by omega)]; simp)).trans (add_zero _)
    rw [dif_neg (show ¬ (R.val < 128) by omega), dif_neg (show ¬ (R.val - 128 < 128) by omega), dif_pos (show R.val - 128 - 128 < 128 by omega)]
    refine congrArg₂ (fun a b : EReal => a * b) (congrArg q (congrArg₂ ix2 (Fin.ext ?_) (Fin.ext ?_))) (hkey c _ d ?_)
    · show R.val - 128 - 128 = r.val
      omega
    · show _ = 64 * _ + d.val
      simp only []
      omega
    · show d.val % 64 = d.val
      omega
  · refine (congrArg₂ (fun a b : EReal => a + b) (Finset.sum_eq_zero fun d _ => by rw [dif_neg (show ¬ (R.val < 128) by omega), dif_neg (show ¬ (R.val - 128 < 128) by omega), dif_neg (show ¬ (R.val - 128 - 128 < 128) by omega)]; simp) (Finset.sum_congr rfl fun d _ => ?_)).trans (zero_add _)
    rw [dif_neg (show ¬ (R.val < 128) by omega), dif_neg (show ¬ (R.val - 128 < 128) by omega), dif_neg (show ¬ (R.val - 128 - 128 < 128) by omega)]
    refine congrArg₂ (fun a b : EReal => a * b) (congrArg q (congrArg₂ ix2 (Fin.ext ?_) (Fin.ext ?_))) (hkey c _ d ?_)
    · show R.val - 128 - 128 - 128 = r.val
      omega
    · show _ = 64 * _ + d.val
      simp only []
      omega
    · show (64 + d.val) % 64 = d.val
      omega

end Cert.KernelIdeal.Hand

end
-- ==== Proof.KTile.lean ====
module

public import proofs.«01_k».proof.Proof.KPoint

@[expose] public section

set_option maxRecDepth 16384

noncomputable section

namespace Cert.KernelIdeal.Hand

open Cert.KernelIdeal Cert.KernelIdeal.Gen Idealize.ShloMosaic Idealize.ShloMosaic.TcCoe Idealize.SL.Sem

/-! ## A tile of the attention, at one entry -/

/-- The word of minus infinity. -/
theorem neginf : (Ideal.ofBits .f32 4286578688#32 : EReal) = ⊥ := by
  simp [Ideal.ofBits, Ideal.ieee, -EReal.coe_mul]

/-- A head's merged scores: column `c` holds the own block's where `c ≤ r`, else the visible ones of the block before. -/
theorem masked_at (a : ℕ) (hr : S512x256.Slices ![a, 0] S128x256) (prev : IVec S128x128 1) (P : Fin 128 → Prop) [DecidablePred P] (hP : MaskIs prev P)
    (S : FVec Ideal S512x256 .f32) (r : Fin 128) (R : Fin 512) (hR : R.val = a + r.val) (c : Fin 128) :
    masked a hr prev S (ix2 r c) = if c ≤ r then S (ix2 R ⟨c.val, by omega⟩) else if P c then S (ix2 R ⟨128 + c.val, by omega⟩) else ⊥ := by
  pointwise [masked, own_at, neginf]
  have e : (⟨a + r.val, by omega⟩ : Fin 512) = R := Fin.ext hR.symm
  rw [e]
  by_cases h : c ≤ r
  · rw [if_pos h, if_pos h]
  · rw [if_neg h, if_neg h]
    by_cases hp : P c
    · rw [if_pos hp, (hP r c).2 ⟨lt_of_not_ge h, hp⟩]
      rfl
    · have h0 : prev (ix2 r c) = 0#1 := by
        have h1 := mt (hP r c).1 (fun z => hp z.2)
        generalize prev (ix2 r c) = b at h1
        revert h1; revert b; decide
      rw [if_neg hp, h0]
      rfl

/-- A score less the maximum, as a power of two. -/
theorem expo_at (s : FVec Ideal S128x128 .f32) (k : Ideal .f32) (r c : Fin 128) :
    expo s k (ix2 r c) = FloatOps.exp2 ((s (ix2 r c) - max (Finset.univ.fold max ⊥ fun c => s (ix2 r c)) k : EReal) : Ideal .f32) := by
  pointwise [expo, rowMax, neginf]

/-- One over the softmax's denominator. -/
theorem invDen_at (s : FVec Ideal S128x128 .f32) (k : Ideal .f32) (r : Fin 128) (c : Fin 1) :
    invDen s k (ix2 r c) = Ideal.div 1 (∑ c, expo s k (ix2 r c) + (FloatOps.exp2 ((k - max (Finset.univ.fold max ⊥ fun c => s (ix2 r c)) k : EReal) : Ideal .f32))) := by
  pointwise [invDen, rowMax, neginf]

/-- An unnormalised weight, split into own and earlier keys. -/
theorem prob_at (s : FVec Ideal S128x128 .f32) (k : Ideal .f32) (r : Fin 128) (c : Fin 256) :
    prob s k (ix2 r c) = if h : c.val < 128 then (if (⟨c.val, h⟩ : Fin 128) ≤ r then expo s k (ix2 r ⟨c.val, h⟩) else 0)
      else if (⟨c.val - 128, by omega⟩ : Fin 128) ≤ r then 0 else expo s k (ix2 r ⟨c.val - 128, by omega⟩) := by
  pointwise [prob, own_at]

/-- One head's weighted sum over the 256 stacked values, divided. -/
theorem row_at (s : FVec Ideal S128x128 .f32) (k : Ideal .f32) (vals : FVec Ideal S256x128 .bf16) (r l : Fin 128)
    (P : Fin 128 → Prop) [DecidablePred P] (x y v w : Fin 128 → EReal)
    (hs : ∀ c, s (ix2 r c) = if c ≤ r then x c else if P c then y c else ⊥)
    (hv : ∀ c : Fin 128, vals (ix2 ⟨c.val, by omega⟩ l) = v c) (hw : ∀ c : Fin 128, vals (ix2 ⟨128 + c.val, by omega⟩ l) = w c) :
    (∑ z : Fin 256, prob s k (ix2 r z) * vals (ix2 z l) : EReal) * invDen s k (ix2 r 0) = attnRow r P x y k v w := by
  have hsf : (fun c => s (ix2 r c)) = fun c => if c ≤ r then x c else if P c then y c else ⊥ := funext hs
  rw [invDen_at, Fin.sum_univ_add (a := 128) (b := 128) (fun z : Fin 256 => (prob s k (ix2 r z) * vals (ix2 z l) : EReal))]
  unfold attnRow
  simp only [expo_at, hsf]
  refine congrArg₂ (fun a b : EReal => a * b) (congrArg₂ (fun a b : EReal => a + b) (Finset.sum_congr rfl fun c _ => ?_) (Finset.sum_congr rfl fun c _ => ?_)) ?_
  · rw [prob_at, dif_pos (show (Fin.castAdd 128 c : Fin 256).val < 128 from c.isLt), expo_at, hsf]
    show (if c ≤ r then FloatOps.exp2 (s (ix2 r c) - _ : Ideal .f32) else 0) * vals (ix2 ⟨c.val, _⟩ l) = _
    rw [hv, hs]
  · rw [prob_at, dif_neg (show ¬ (Fin.natAdd 128 c : Fin 256).val < 128 by show ¬ (128 + c.val < 128); omega), expo_at, hsf]
    have e : (⟨(Fin.natAdd 128 c : Fin 256).val - 128, by show 128 + c.val - 128 < 128; omega⟩ : Fin 128) = c := Fin.ext (by show 128 + c.val - 128 = c.val; omega)
    rw [e]
    show (if c ≤ r then 0 else FloatOps.exp2 (s (ix2 r c) - _ : Ideal .f32)) * vals (ix2 ⟨128 + c.val, _⟩ l) = _
    rw [hw, hs]
  · exact congrArg (Ideal.div 1) (congrArg₂ (fun a b : EReal => a + b) (Finset.sum_congr rfl fun c _ => by rw [hs]) rfl)

/-- Head 0 of a group: its weighted values. -/
theorem weighted_at0 (prev : IVec S128x128 1) (S : FVec Ideal S512x256 .f32) (vals : FVec Ideal S256x128 .bf16) (k0 k1 k2 k3 : Ideal .f32)
    (R : Fin 512) (r l : Fin 128) (hR : R.val = 0 + r.val) :
    weighted prev S vals k0 k1 k2 k3 (ix2 R l) = (∑ z : Fin 256, prob (masked 0 slices_S512x256_o0_0_S128x256 prev S) k0 (ix2 r z) * vals (ix2 z l) : EReal) := by
  pointwise [weighted, dot_S512x256_S256x128_S512x128_1_0_0_1_n_n]
  have hr := r.isLt
  refine Finset.sum_congr rfl fun z _ => ?_
  rw [dif_pos (show R.val < 128 by omega), show (⟨R.val, by omega⟩ : Fin 128) = r from Fin.ext (by show R.val = r.val; omega)]

/-- Head 1 of a group: its weighted values. -/
theorem weighted_at1 (prev : IVec S128x128 1) (S : FVec Ideal S512x256 .f32) (vals : FVec Ideal S256x128 .bf16) (k0 k1 k2 k3 : Ideal .f32)
    (R : Fin 512) (r l : Fin 128) (hR : R.val = 128 + r.val) :
    weighted prev S vals k0 k1 k2 k3 (ix2 R l) = (∑ z : Fin 256, prob (masked 128 slices_S512x256_o128_0_S128x256 prev S) k1 (ix2 r z) * vals (ix2 z l) : EReal) := by
  pointwise [weighted, dot_S512x256_S256x128_S512x128_1_0_0_1_n_n]
  have hr := r.isLt
  refine Finset.sum_congr rfl fun z _ => ?_
  rw [dif_neg (show ¬ (R.val < 128) by omega), dif_pos (show R.val - 128 < 128 by omega), show (⟨R.val - 128, by omega⟩ : Fin 128) = r from Fin.ext (by show R.val - 128 = r.val; omega)]

/-- Head 2 of a group: its weighted values. -/
theorem weighted_at2 (prev : IVec S128x128 1) (S : FVec Ideal S512x256 .f32) (vals : FVec Ideal S256x128 .bf16) (k0 k1 k2 k3 : Ideal .f32)
    (R : Fin 512) (r l : Fin 128) (hR : R.val = 256 + r.val) :
    weighted prev S vals k0 k1 k2 k3 (ix2 R l) = (∑ z : Fin 256, prob (masked 256 slices_S512x256_o256_0_S128x256 prev S) k2 (ix2 r z) * vals (ix2 z l) : EReal) := by
  pointwise [weighted, dot_S512x256_S256x128_S512x128_1_0_0_1_n_n]
  have hr := r.isLt
  refine Finset.sum_congr rfl fun z _ => ?_
  rw [dif_neg (show ¬ (R.val < 128) by omega), dif_neg (show ¬ (R.val - 128 < 128) by omega), dif_pos (show R.val - 128 - 128 < 128 by omega), show (⟨R.val - 128 - 128, by omega⟩ : Fin 128) = r from Fin.ext (by show R.val - 128 - 128 = r.val; omega)]

/-- Head 3 of a group: its weighted values. -/
theorem weighted_at3 (prev : IVec S128x128 1) (S : FVec Ideal S512x256 .f32) (vals : FVec Ideal S256x128 .bf16) (k0 k1 k2 k3 : Ideal .f32)
    (R : Fin 512) (r l : Fin 128) (hR : R.val = 384 + r.val) :
    weighted prev S vals k0 k1 k2 k3 (ix2 R l) = (∑ z : Fin 256, prob (masked 384 slices_S512x256_o384_0_S128x256 prev S) k3 (ix2 r z) * vals (ix2 z l) : EReal) := by
  pointwise [weighted, dot_S512x256_S256x128_S512x128_1_0_0_1_n_n]
  have hr := r.isLt
  refine Finset.sum_congr rfl fun z _ => ?_
  rw [dif_neg (show ¬ (R.val < 128) by omega), dif_neg (show ¬ (R.val - 128 < 128) by omega), dif_neg (show ¬ (R.val - 128 - 128 < 128) by omega), show (⟨R.val - 128 - 128 - 128, by omega⟩ : Fin 128) = r from Fin.ext (by show R.val - 128 - 128 - 128 = r.val; omega)]

/-- Two heads' rows put into one tile. -/
theorem pairOf_at (r1 r2 : ℕ) (h1 : S512x128.Slices ![r1, 0] S128x128) (h2 : S512x128.Slices ![r2, 0] S128x128)
    (O : FVec Ideal S512x128 .f32) (i1 i2 : FVec Ideal S128x1 .f32) (r c : Fin 128) (R1 R2 : Fin 512) (hR1 : R1.val = r1 + r.val) (hR2 : R2.val = r2 + r.val) :
    pairOf r1 r2 h1 h2 O i1 i2 (ix2 r c) = if c.val < 64 then (O (ix2 R1 c) * i1 (ix2 r 0) : EReal) else (O (ix2 R2 c) * i2 (ix2 r 0) : EReal) := by
  pointwise [pairOf, lowq_at]
  rw [show (⟨r1 + r.val, by omega⟩ : Fin 512) = R1 from Fin.ext hR1.symm, show (⟨r2 + r.val, by omega⟩ : Fin 512) = R2 from Fin.ext hR2.symm]

/-- A sink in units of bits. -/
theorem sinkL_at (s : Ideal .f32) : sinkL s = (s * ((Real.log 2)⁻¹ : ℝ) : EReal) := by
  have h : (Named.named κ "log2e" 0x3FB8AA3B#32 : Ideal .f32) = (((Real.log 2)⁻¹ : ℝ) : EReal) := IdealRules.named_const.ideal_named_scalar _ _ _ _ rfl
  show s * (Named.named κ "log2e" 0x3FB8AA3B#32 : Ideal .f32) = _
  rw [h]

/-- A scaled query. -/
theorem qScaled_at (q : Vec Ideal S128x1024 .f32) (r : Fin 128) (c : Fin 1024) : qScaled q (ix2 r c) = (q (ix2 r c) : EReal) * (((8 * (Real.log 2))⁻¹ : ℝ) : EReal) := by
  have h : (Named.named κ "q_scale" 0x3E38AA3B#32 : Ideal .f32) = (((8 * (Real.log 2))⁻¹ : ℝ) : EReal) := IdealRules.named_const.ideal_named_scalar _ _ _ _ rfl
  pointwise [qScaled, h]

/-- A tile taken as it is. -/
theorem asIs_at (x : Vec Ideal S128x256 .f32) (r : Fin 128) (c : Fin 256) : asIs x (ix2 r c) = x (ix2 r c) := by
  pointwise [asIs]

/-- The tile before, from the buffer at a sequence's start. -/
theorem before_at (f : BitVec 1) (b : Vec Ideal S1x128x256 .f32) (x : Vec Ideal S128x256 .f32) (r : Fin 128) (c : Fin 256) :
    before f b x (ix2 r c) = if f = 0#1 then x (ix2 r c) else b (ix3 0 r c) := by
  have hf : f = 0#1 ∨ f = 1#1 := by revert f; decide
  rcases hf with rfl | rfl
  · show asIs x (ix2 r c) = _
    rw [asIs_at]; rfl
  · show shapeCast S128x256 b shapeCasts_S1x128x256_S128x256 (ix2 r c) = _
    pointwise []
    rfl

/-- A block's scores of head `4 g + i` at row `r`, against key `c` of the two stacked blocks. -/
theorem blkScores_at (o a b : ℕ) (ho : S128x256.Slices ![0, o] S128x128) (ha : S128x1024.Slices ![0, a] S128x128) (hb : S128x1024.Slices ![0, b] S128x128) (odd : Bool)
    (q : Vec Ideal S128x1024 .f32) (kc kp : FVec Ideal S128x256 .f32) (g : Fin 4) (hg : o + (if odd then 64 else 0) = 64 * g.val) (hga : a = 256 * g.val) (hgb : b = 256 * g.val + 128)
    (R : Fin 512) (i : Fin 4) (r : Fin 128) (hR : R.val = 128 * i.val + r.val) (c : Fin 256) :
    blkScores o a b ho ha hb odd q kc kp (ix2 R c) =
      ∑ d : Fin 64, ((q (ix2 r ⟨64 * (4 * g.val + i.val) + d.val, by omega⟩) : EReal) * (((8 * (Real.log 2))⁻¹ : ℝ) : EReal))
        * (if h : c.val < 128 then kc (ix2 ⟨c.val, h⟩ ⟨64 * g.val + d.val, by omega⟩) else kp (ix2 ⟨c.val - 128, by omega⟩ ⟨64 * g.val + d.val, by omega⟩)) := by
  unfold blkScores
  rw [scores_at a b ha hb (qScaled q) _ g hga hgb (fun c d => if h : c.val < 128 then kc (ix2 ⟨c.val, h⟩ ⟨64 * g.val + d.val, by omega⟩) else kp (ix2 ⟨c.val - 128, by omega⟩ ⟨64 * g.val + d.val, by omega⟩)) ?_ R i r hR c]
  · exact Finset.sum_congr rfl fun d _ => by rw [qScaled_at]
  · intro c l d hd
    rw [stack_at]
    split_ifs with h
    · exact dup_at o ho odd g hg kc _ l d hd
    · exact dup_at o ho odd g hg kp _ l d hd

/-- One head of one tile. -/
theorem head_at (o a b : ℕ) (ho : S128x256.Slices ![0, o] S128x128) (ha : S128x1024.Slices ![0, a] S128x128) (hb : S128x1024.Slices ![0, b] S128x128) (odd : Bool)
    (prev : IVec S128x128 1) (P : Fin 128 → Prop) [DecidablePred P] (hP : MaskIs prev P)
    (q : Vec Ideal S128x1024 .f32) (kc vc kp vp : FVec Ideal S128x256 .f32) (k : Ideal .f32)
    (g : Fin 4) (hg : o + (if odd then 64 else 0) = 64 * g.val) (hga : a = 256 * g.val) (hgb : b = 256 * g.val + 128)
    (i : Fin 4) (rr : ℕ) (hrr : rr = 128 * i.val) (hr : S512x256.Slices ![rr, 0] S128x256) (r l : Fin 128) (e : Fin 64) (he : l.val % 64 = e.val) :
    (∑ z : Fin 256, prob (masked rr hr prev (blkScores o a b ho ha hb odd q kc kp)) k (ix2 r z) * (stack (dup o ho odd vc) (dup o ho odd vp)) (ix2 z l) : EReal)
        * invDen (masked rr hr prev (blkScores o a b ho ha hb odd q kc kp)) k (ix2 r 0) =
      attnRow r P (fun c => ∑ d : Fin 64, ((q (ix2 r ⟨64 * (4 * g.val + i.val) + d.val, by omega⟩) : EReal) * (((8 * (Real.log 2))⁻¹ : ℝ) : EReal)) * kc (ix2 c ⟨64 * g.val + d.val, by omega⟩))
        (fun c => ∑ d : Fin 64, ((q (ix2 r ⟨64 * (4 * g.val + i.val) + d.val, by omega⟩) : EReal) * (((8 * (Real.log 2))⁻¹ : ℝ) : EReal)) * kp (ix2 c ⟨64 * g.val + d.val, by omega⟩))
        k (fun c => vc (ix2 c ⟨64 * g.val + e.val, by omega⟩)) (fun c => vp (ix2 c ⟨64 * g.val + e.val, by omega⟩)) := by
  apply row_at
  · intro c
    have hr' := r.isLt
    rw [masked_at rr hr prev P hP _ r ⟨128 * i.val + r.val, by omega⟩ (by show 128 * i.val + r.val = rr + r.val; omega) c,
      blkScores_at o a b ho ha hb odd q kc kp g hg hga hgb _ i r rfl, blkScores_at o a b ho ha hb odd q kc kp g hg hga hgb _ i r rfl]
    have e1 : ∀ d : Fin 64, (if h : (⟨c.val, by omega⟩ : Fin 256).val < 128 then kc (ix2 ⟨(⟨c.val, by omega⟩ : Fin 256).val, h⟩ ⟨64 * g.val + d.val, by omega⟩) else kp (ix2 ⟨(⟨c.val, by omega⟩ : Fin 256).val - 128, by show c.val - 128 < 128; omega⟩ ⟨64 * g.val + d.val, by omega⟩)) = kc (ix2 c ⟨64 * g.val + d.val, by omega⟩) :=
      fun d => dif_pos c.isLt
    have e2 : ∀ d : Fin 64, (if h : (⟨128 + c.val, by omega⟩ : Fin 256).val < 128 then kc (ix2 ⟨(⟨128 + c.val, by omega⟩ : Fin 256).val, h⟩ ⟨64 * g.val + d.val, by omega⟩) else kp (ix2 ⟨(⟨128 + c.val, by omega⟩ : Fin 256).val - 128, by show 128 + c.val - 128 < 128; omega⟩ ⟨64 * g.val + d.val, by omega⟩)) = kp (ix2 c ⟨64 * g.val + d.val, by omega⟩) :=
      fun d => (dif_neg (by show ¬ (128 + c.val < 128); omega)).trans (congrArg (fun z => kp (ix2 z _)) (Fin.ext (by show 128 + c.val - 128 = c.val; omega)))
    simp only [e1, e2]
  · intro c
    rw [stack_at, dif_pos c.isLt]
    exact dup_at o ho odd g hg vc _ l e he
  · intro c
    rw [stack_at, dif_neg (by show ¬ (128 + c.val < 128); omega)]
    refine (dup_at o ho odd g hg vp _ l e he).trans (congrArg (fun z => vp (ix2 z _)) (Fin.ext (by show 128 + c.val - 128 = c.val; omega)))

/-- The tile of a kv head's first two heads. -/
theorem tile0_at (o a b : ℕ) (ho : S128x256.Slices ![0, o] S128x128) (ha : S128x1024.Slices ![0, a] S128x128) (hb : S128x1024.Slices ![0, b] S128x128) (odd : Bool)
    (prev : IVec S128x128 1) (P : Fin 128 → Prop) [DecidablePred P] (hP : MaskIs prev P)
    (q : Vec Ideal S128x1024 .f32) (kc vc kp vp : FVec Ideal S128x256 .f32) (s0 s1 s2 s3 : Ideal .f32)
    (g : Fin 4) (hg : o + (if odd then 64 else 0) = 64 * g.val) (hga : a = 256 * g.val) (hgb : b = 256 * g.val + 128)
    (r l : Fin 128) (e : Fin 64) (he : l.val % 64 = e.val) (h : Fin 16) (hh : h.val = 4 * g.val + 0 + l.val / 64)
    (k : EReal) (hk : k = (if l.val < 64 then s0 else s1 : EReal)) :
    tile0 o a b ho ha hb odd prev q kc vc kp vp s0 s1 s2 s3 (ix2 r l) =
      attnRow r P (fun c => ∑ d : Fin 64, ((q (ix2 r ⟨64 * h.val + d.val, by omega⟩) : EReal) * (((8 * (Real.log 2))⁻¹ : ℝ) : EReal)) * kc (ix2 c ⟨64 * g.val + d.val, by omega⟩))
        (fun c => ∑ d : Fin 64, ((q (ix2 r ⟨64 * h.val + d.val, by omega⟩) : EReal) * (((8 * (Real.log 2))⁻¹ : ℝ) : EReal)) * kp (ix2 c ⟨64 * g.val + d.val, by omega⟩))
        (k * ((Real.log 2)⁻¹ : ℝ)) (fun c => vc (ix2 c ⟨64 * g.val + e.val, by omega⟩)) (fun c => vp (ix2 c ⟨64 * g.val + e.val, by omega⟩)) := by
  subst hk
  obtain ⟨h, hh'⟩ := h
  simp only at hh
  have hr := r.isLt
  have hl := l.isLt
  unfold tile0
  rw [pairOf_at _ _ _ _ _ _ _ r l ⟨0 + r.val, by omega⟩ ⟨128 + r.val, by omega⟩ rfl rfl]
  by_cases hlt : l.val < 64
  · obtain rfl : h = 4 * g.val + 0 := by omega
    rw [if_pos hlt, if_pos hlt, weighted_at0 _ _ _ _ _ _ _ _ r l rfl, head_at o a b ho ha hb odd prev P hP q kc vc kp vp _ g hg hga hgb 0 0 rfl _ r l e he, sinkL_at]
    rfl
  · obtain rfl : h = 4 * g.val + 1 := by omega
    rw [if_neg hlt, if_neg hlt, weighted_at1 _ _ _ _ _ _ _ _ r l rfl, head_at o a b ho ha hb odd prev P hP q kc vc kp vp _ g hg hga hgb 1 128 rfl _ r l e he, sinkL_at]
    rfl

/-- The tile of a kv head's last two heads. -/
theorem tile1_at (o a b : ℕ) (ho : S128x256.Slices ![0, o] S128x128) (ha : S128x1024.Slices ![0, a] S128x128) (hb : S128x1024.Slices ![0, b] S128x128) (odd : Bool)
    (prev : IVec S128x128 1) (P : Fin 128 → Prop) [DecidablePred P] (hP : MaskIs prev P)
    (q : Vec Ideal S128x1024 .f32) (kc vc kp vp : FVec Ideal S128x256 .f32) (s0 s1 s2 s3 : Ideal .f32)
    (g : Fin 4) (hg : o + (if odd then 64 else 0) = 64 * g.val) (hga : a = 256 * g.val) (hgb : b = 256 * g.val + 128)
    (r l : Fin 128) (e : Fin 64) (he : l.val % 64 = e.val) (h : Fin 16) (hh : h.val = 4 * g.val + 2 + l.val / 64)
    (k : EReal) (hk : k = (if l.val < 64 then s2 else s3 : EReal)) :
    tile1 o a b ho ha hb odd prev q kc vc kp vp s0 s1 s2 s3 (ix2 r l) =
      attnRow r P (fun c => ∑ d : Fin 64, ((q (ix2 r ⟨64 * h.val + d.val, by omega⟩) : EReal) * (((8 * (Real.log 2))⁻¹ : ℝ) : EReal)) * kc (ix2 c ⟨64 * g.val + d.val, by omega⟩))
        (fun c => ∑ d : Fin 64, ((q (ix2 r ⟨64 * h.val + d.val, by omega⟩) : EReal) * (((8 * (Real.log 2))⁻¹ : ℝ) : EReal)) * kp (ix2 c ⟨64 * g.val + d.val, by omega⟩))
        (k * ((Real.log 2)⁻¹ : ℝ)) (fun c => vc (ix2 c ⟨64 * g.val + e.val, by omega⟩)) (fun c => vp (ix2 c ⟨64 * g.val + e.val, by omega⟩)) := by
  subst hk
  obtain ⟨h, hh'⟩ := h
  simp only at hh
  have hr := r.isLt
  have hl := l.isLt
  unfold tile1
  rw [pairOf_at _ _ _ _ _ _ _ r l ⟨256 + r.val, by omega⟩ ⟨384 + r.val, by omega⟩ rfl rfl]
  by_cases hlt : l.val < 64
  · obtain rfl : h = 4 * g.val + 2 := by omega
    rw [if_pos hlt, if_pos hlt, weighted_at2 _ _ _ _ _ _ _ _ r l rfl, head_at o a b ho ha hb odd prev P hP q kc vc kp vp _ g hg hga hgb 2 256 rfl _ r l e he, sinkL_at]
    rfl
  · obtain rfl : h = 4 * g.val + 3 := by omega
    rw [if_neg hlt, if_neg hlt, weighted_at3 _ _ _ _ _ _ _ _ r l rfl, head_at o a b ho ha hb odd prev P hP q kc vc kp vp _ g hg hga hgb 3 384 rfl _ r l e he, sinkL_at]
    rfl

end Cert.KernelIdeal.Hand

end
-- ==== Proof.TileRun.lean ====
module

public import proofs.«01_k».proof.Proof.Gen.KernelIdeal.Frame
public import proofs.«01_k».proof.Proof.Tile
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F] [Named F]

/-- The place of sink `n`. -/
theorem inbSink (n : Fin 16) : ∀ a, (![n.val] : Fin 1 → ℕ) a + S1.size a ≤ S16.size a := by
  intro a; have := n.isLt; match a with | ⟨0, _⟩ => show n.val + 1 ≤ 16; omega

/-- The tiles of a step, over the blocks its windows hold. -/
def stepTiles (n : ℕ) (x0 : Vec F S16 .f32) (x1 : Vec F S512x1024 .f32) (x2 : Vec F S512x256 .f32) (x3 : Vec F S128x256 .f32) (x4 : Vec F S1x128x256 .f32) (x5 : Vec F S512x256 .f32) (x6 : Vec F S128x256 .f32) (x7 : Vec F S1x128x256 .f32) : List (View.Piece (Elt F) S512x1024 .bf16) :=
  tiles (firstOf n) (fun n => View.ld x0 (Rect.unit (s := S16) ![n.val] S1.size (inbSink n)) (Shape.Idx.first numel1_S1.ge)) (View.ld x1 (Rect.unit (s := S512x1024) ![0, 0] S128x1024.size inb_S512x1024_S128x1024_0_0)) (View.ld x1 (Rect.unit (s := S512x1024) ![128, 0] S128x1024.size inb_S512x1024_S128x1024_128_0)) (View.ld x1 (Rect.unit (s := S512x1024) ![256, 0] S128x1024.size inb_S512x1024_S128x1024_256_0)) (View.ld x1 (Rect.unit (s := S512x1024) ![384, 0] S128x1024.size inb_S512x1024_S128x1024_384_0)) (View.ld x2 (Rect.unit (s := S512x256) ![0, 0] S128x256.size inb_S512x256_S128x256_0_0)) (View.ld x2 (Rect.unit (s := S512x256) ![128, 0] S128x256.size inb_S512x256_S128x256_128_0)) (View.ld x2 (Rect.unit (s := S512x256) ![256, 0] S128x256.size inb_S512x256_S128x256_256_0)) (View.ld x2 (Rect.unit (s := S512x256) ![384, 0] S128x256.size inb_S512x256_S128x256_384_0)) (View.ld x5 (Rect.unit (s := S512x256) ![0, 0] S128x256.size inb_S512x256_S128x256_0_0)) (View.ld x5 (Rect.unit (s := S512x256) ![128, 0] S128x256.size inb_S512x256_S128x256_128_0)) (View.ld x5 (Rect.unit (s := S512x256) ![256, 0] S128x256.size inb_S512x256_S128x256_256_0)) (View.ld x5 (Rect.unit (s := S512x256) ![384, 0] S128x256.size inb_S512x256_S128x256_384_0)) (View.ld x3 (Rect.unit (s := S128x256) ![0, 0] S128x256.size inb_S128x256_S128x256_0_0)) (View.ld x6 (Rect.unit (s := S128x256) ![0, 0] S128x256.size inb_S128x256_S128x256_0_0)) (View.ld x4 (Rect.unit (s := S1x128x256) ![0, 0, 0] S1x128x256.size inb_S1x128x256_S1x128x256_0_0_0)) (View.ld x7 (Rect.unit (s := S1x128x256) ![0, 0, 0] S1x128x256.size inb_S1x128x256_S1x128x256_0_0_0))

/-- What a step after the first leaves in the carried scratch: its 32 tiles. -/
theorem sout_B (c : Dev nD) (i : grid0.Coords) (arg1 : Memref sig .tc .smem S16 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S128x256 .f32) (harg4 : arg4.IsWhole) (arg5 : Memref sig .tc .vmem S1x128x256 .f32) (harg5 : arg5.IsWhole) (arg6 : Memref sig .tc .vmem S512x256 .f32) (harg6 : arg6.IsWhole) (arg7 : Memref sig .tc .vmem S128x256 .f32) (harg7 : arg7.IsWhole) (arg8 : Memref sig .tc .vmem S1x128x256 .f32) (harg8 : arg8.IsWhole) (arg9 : Memref sig .tc .vmem S512x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x2816 .bf16) (harg12 : arg12.IsWhole) (arg13 : Memref sig .tc .vmem S1024x2816 .bf16) (harg13 : arg13.IsWhole) (arg14 : Memref sig .tc .vmem S2816x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .bf16) (harg17 : arg17.IsWhole) (hc0 : ¬cond0_0 i)
    (x0 : Vec F S16 .f32) (x1 : Vec F S512x1024 .f32) (x2 : Vec F S512x256 .f32) (x3 : Vec F S128x256 .f32) (x4 : Vec F S1x128x256 .f32) (x5 : Vec F S512x256 .f32) (x6 : Vec F S128x256 .f32) (x7 : Vec F S1x128x256 .f32) (x8 : Vec F S512x1024 .f32) (x9 : Vec F S1024x1024 .bf16) (x10 : Vec F S1x1024 .f32) (x11 : Vec F S1024x2816 .bf16) (x12 : Vec F S1024x2816 .bf16) (x13 : Vec F S2816x1024 .bf16) (x14 : Vec F S1x1024 .f32) (xs0 : Vec F S512x1024 .bf16) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xs0 = View.canon (stepTiles (i 0).val x0 x1 x2 x3 x4 x5 x6 x7) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xs0)]
  have e : stepTiles (i 0).val x0 x1 x2 x3 x4 x5 x6 x7 = tiles (firstOf (i 0).val) (fun n => (View.readAt (Elt F) arg1.view (Rect.unit (s := S16) ![n.val] S1.size (inbSink n)).toLoadRect (harg1.unread x0)) (Shape.Idx.first numel1_S1.ge)) (View.readAt (Elt F) arg2.view (Rect.unit (s := S512x1024) ![0, 0] S128x1024.size inb_S512x1024_S128x1024_0_0).toLoadRect (harg2.unread x1)) (View.readAt (Elt F) arg2.view (Rect.unit (s := S512x1024) ![128, 0] S128x1024.size inb_S512x1024_S128x1024_128_0).toLoadRect (harg2.unread x1)) (View.readAt (Elt F) arg2.view (Rect.unit (s := S512x1024) ![256, 0] S128x1024.size inb_S512x1024_S128x1024_256_0).toLoadRect (harg2.unread x1)) (View.readAt (Elt F) arg2.view (Rect.unit (s := S512x1024) ![384, 0] S128x1024.size inb_S512x1024_S128x1024_384_0).toLoadRect (harg2.unread x1)) (View.readAt (Elt F) arg3.view (Rect.unit (s := S512x256) ![0, 0] S128x256.size inb_S512x256_S128x256_0_0).toLoadRect (harg3.unread x2)) (View.readAt (Elt F) arg3.view (Rect.unit (s := S512x256) ![128, 0] S128x256.size inb_S512x256_S128x256_128_0).toLoadRect (harg3.unread x2)) (View.readAt (Elt F) arg3.view (Rect.unit (s := S512x256) ![256, 0] S128x256.size inb_S512x256_S128x256_256_0).toLoadRect (harg3.unread x2)) (View.readAt (Elt F) arg3.view (Rect.unit (s := S512x256) ![384, 0] S128x256.size inb_S512x256_S128x256_384_0).toLoadRect (harg3.unread x2)) (View.readAt (Elt F) arg6.view (Rect.unit (s := S512x256) ![0, 0] S128x256.size inb_S512x256_S128x256_0_0).toLoadRect (harg6.unread x5)) (View.readAt (Elt F) arg6.view (Rect.unit (s := S512x256) ![128, 0] S128x256.size inb_S512x256_S128x256_128_0).toLoadRect (harg6.unread x5)) (View.readAt (Elt F) arg6.view (Rect.unit (s := S512x256) ![256, 0] S128x256.size inb_S512x256_S128x256_256_0).toLoadRect (harg6.unread x5)) (View.readAt (Elt F) arg6.view (Rect.unit (s := S512x256) ![384, 0] S128x256.size inb_S512x256_S128x256_384_0).toLoadRect (harg6.unread x5)) (View.readAt (Elt F) arg4.view (Rect.unit (s := S128x256) ![0, 0] S128x256.size inb_S128x256_S128x256_0_0).toLoadRect (harg4.unread x3)) (View.readAt (Elt F) arg7.view (Rect.unit (s := S128x256) ![0, 0] S128x256.size inb_S128x256_S128x256_0_0).toLoadRect (harg7.unread x6)) (View.readAt (Elt F) arg5.view (Rect.unit (s := S1x128x256) ![0, 0, 0] S1x128x256.size inb_S1x128x256_S1x128x256_0_0_0).toLoadRect (harg5.unread x4)) (View.readAt (Elt F) arg8.view (Rect.unit (s := S1x128x256) ![0, 0, 0] S1x128x256.size inb_S1x128x256_S1x128x256_0_0_0).toLoadRect (harg8.unread x7)) := by
    unfold stepTiles
    simp only [View.readAt_eq_ld, harg1.read_unread, harg2.read_unread, harg3.read_unread, harg4.read_unread, harg5.read_unread, harg6.read_unread, harg7.read_unread, harg8.read_unread]
  rw [e]
  unfold kernelRun0_B
  dsimp only
  rfl

end Cert.KernelIdeal.Hand

end
-- ==== Proof.KStep.lean ====
module

public import proofs.«01_k».proof.Proof.KTile
public import proofs.«01_k».proof.Proof.TileRun
public import Idealize.ShloMosaic.Lib.Pipeline.CanonAppend

@[expose] public section

set_option maxRecDepth 16384

noncomputable section

namespace Cert.KernelIdeal.Hand

open Cert.KernelIdeal Cert.KernelIdeal.Gen Idealize.ShloMosaic Idealize.ShloMosaic.TcCoe Idealize.SL.Sem

/-! ## The carried scratch after a step, at one entry -/

/-- Key or value `d` of column `c` in the block before the one that holds row `R`. -/
def befAt (first : BitVec 1) (x2 : Vec Ideal S512x256 .f32) (x3 : Vec Ideal S128x256 .f32) (x4 : Vec Ideal S1x128x256 .f32) (R : Fin 512) (c : Fin 128) (d : Fin 256) : EReal :=
  if 128 ≤ R.val then x2 (ix2 ⟨128 * (R.val / 128) - 128 + c.val, by omega⟩ d) else if first = 0#1 then x3 (ix2 c d) else x4 (ix3 0 c d)

/-- Entry `(R, C)` of the scratch a step leaves: row `R`'s attention for head `C / 64`, lane `C % 64`. -/
def scrAt (first : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (R : Fin 512) (C : Fin 1024) : EReal :=
  attnRow ⟨R.val % 128, by omega⟩ (fun c => 128 ≤ R.val ∨ first = 0#1 ∨ 112 ≤ c.val)
    (fun c => ∑ d : Fin 64, ((x1 (ix2 R ⟨64 * (C.val / 64) + d.val, by omega⟩) : EReal) * (((8 * (Real.log 2))⁻¹ : ℝ) : EReal)) * x2 (ix2 ⟨128 * (R.val / 128) + c.val, by omega⟩ ⟨64 * (C.val / 256) + d.val, by omega⟩))
    (fun c => ∑ d : Fin 64, ((x1 (ix2 R ⟨64 * (C.val / 64) + d.val, by omega⟩) : EReal) * (((8 * (Real.log 2))⁻¹ : ℝ) : EReal)) * befAt first x2 x3 x4 R c ⟨64 * (C.val / 256) + d.val, by omega⟩)
    ((x0 (ix1 ⟨C.val / 64, by omega⟩) : EReal) * ((Real.log 2)⁻¹ : ℝ))
    (fun c => x5 (ix2 ⟨128 * (R.val / 128) + c.val, by omega⟩ ⟨64 * (C.val / 256) + C.val % 64, by omega⟩))
    (fun c => befAt first x5 x6 x7 R c ⟨64 * (C.val / 256) + C.val % 64, by omega⟩)

/-- An entry of the scratch, from the tile that holds it. -/
theorem scrAt_of (first : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32)
    (q : Vec Ideal S128x1024 .f32) (kc vc kp vp : FVec Ideal S128x256 .f32)
    (R : Fin 512) (C : Fin 1024) (r : Fin 128) (hr : R.val % 128 = r.val) (h : Fin 16) (hh : C.val / 64 = h.val) (g : Fin 4) (hg : C.val / 256 = g.val) (e : Fin 64) (he : C.val % 64 = e.val)
    (hq : ∀ c : Fin 1024, q (ix2 r c) = x1 (ix2 R c))
    (hkc : ∀ (c : Fin 128) (d : Fin 256), kc (ix2 c d) = x2 (ix2 ⟨128 * (R.val / 128) + c.val, by omega⟩ d))
    (hvc : ∀ (c : Fin 128) (d : Fin 256), vc (ix2 c d) = x5 (ix2 ⟨128 * (R.val / 128) + c.val, by omega⟩ d))
    (hkp : ∀ (c : Fin 128) (d : Fin 256), kp (ix2 c d) = befAt first x2 x3 x4 R c d)
    (hvp : ∀ (c : Fin 128) (d : Fin 256), vp (ix2 c d) = befAt first x5 x6 x7 R c d) (k : EReal) (hk : k = x0 (ix1 h)) :
    attnRow r (fun c => 128 ≤ R.val ∨ first = 0#1 ∨ 112 ≤ c.val)
        (fun c => ∑ d : Fin 64, ((q (ix2 r ⟨64 * h.val + d.val, by omega⟩) : EReal) * (((8 * (Real.log 2))⁻¹ : ℝ) : EReal)) * kc (ix2 c ⟨64 * g.val + d.val, by omega⟩))
        (fun c => ∑ d : Fin 64, ((q (ix2 r ⟨64 * h.val + d.val, by omega⟩) : EReal) * (((8 * (Real.log 2))⁻¹ : ℝ) : EReal)) * kp (ix2 c ⟨64 * g.val + d.val, by omega⟩))
        (k * ((Real.log 2)⁻¹ : ℝ)) (fun c => vc (ix2 c ⟨64 * g.val + e.val, by omega⟩)) (fun c => vp (ix2 c ⟨64 * g.val + e.val, by omega⟩))
      = scrAt first x0 x1 x2 x3 x4 x5 x6 x7 R C := by
  obtain ⟨r, hr'⟩ := r
  obtain ⟨h, hh'⟩ := h
  obtain ⟨g, hg'⟩ := g
  obtain ⟨e, he'⟩ := e
  simp only at hr hh hg he
  subst hr hh hg he hk
  unfold scrAt
  simp only [hq, hkc, hvc, hkp, hvp]

/-- Reading a tile of queries. -/
theorem ldq_at (x : Vec Ideal S512x1024 .f32) (o : ℕ) (h : ∀ a, (![o, 0] : Fin 2 → ℕ) a + S128x1024.size a ≤ S512x1024.size a) (r : Fin 128) (c : Fin 1024) (R : Fin 512) (hR : R.val = o + r.val) :
    View.ld x (Rect.unit (s := S512x1024) ![o, 0] S128x1024.size h) (ix2 r c) = x (ix2 R c) :=
  congrArg x (funext fun a => match a with
    | ⟨0, _⟩ => Fin.ext (by show o + 1 * r.val = R.val; omega)
    | ⟨1, _⟩ => Fin.ext (by show 0 + 1 * c.val = c.val; omega))

/-- Reading a tile of keys or values. -/
theorem ldk_at (x : Vec Ideal S512x256 .f32) (o : ℕ) (h : ∀ a, (![o, 0] : Fin 2 → ℕ) a + S128x256.size a ≤ S512x256.size a) (r : Fin 128) (c : Fin 256) (R : Fin 512) (hR : R.val = o + r.val) :
    asIs (View.ld x (Rect.unit (s := S512x256) ![o, 0] S128x256.size h)) (ix2 r c) = x (ix2 R c) :=
  (asIs_at _ r c).trans (congrArg x (funext fun a => match a with
    | ⟨0, _⟩ => Fin.ext (by show o + 1 * r.val = R.val; omega)
    | ⟨1, _⟩ => Fin.ext (by show 0 + 1 * c.val = c.val; omega)))

/-- Reading the tile before. -/
theorem ldb_at (f : BitVec 1) (x2 : Vec Ideal S512x256 .f32) (x3 : Vec Ideal S128x256 .f32) (x4 : Vec Ideal S1x128x256 .f32) (R : Fin 512) (hR : R.val < 128) (c : Fin 128) (d : Fin 256) :
    before f (View.ld x4 (Rect.unit (s := S1x128x256) ![0, 0, 0] S1x128x256.size inb_S1x128x256_S1x128x256_0_0_0)) (View.ld x3 (Rect.unit (s := S128x256) ![0, 0] S128x256.size inb_S128x256_S128x256_0_0)) (ix2 c d)
      = befAt f x2 x3 x4 R c d := by
  rw [before_at]
  unfold befAt
  rw [if_neg (show ¬ 128 ≤ R.val by omega)]
  by_cases hf : f = 0#1
  · rw [if_pos hf, if_pos hf]
    exact congrArg x3 (funext fun a => match a with
      | ⟨0, _⟩ => Fin.ext (by show 0 + 1 * c.val = c.val; omega)
      | ⟨1, _⟩ => Fin.ext (by show 0 + 1 * d.val = d.val; omega))
  · rw [if_neg hf, if_neg hf]
    exact congrArg x4 (funext fun a => match a with
      | ⟨0, _⟩ => Fin.ext (by show 0 + 1 * 0 = 0; omega)
      | ⟨1, _⟩ => Fin.ext (by show 0 + 1 * c.val = c.val; omega)
      | ⟨2, _⟩ => Fin.ext (by show 0 + 1 * d.val = d.val; omega))

/-- Reading a sink. -/
theorem lds_at (x0 : Vec Ideal S16 .f32) (n m : Fin 16) (h : n = m) :
    View.ld x0 (Rect.unit (s := S16) ![n.val] S1.size (inbSink n)) (Shape.Idx.first numel1_S1.ge) = x0 (ix1 m) := by
  subst h
  exact congrArg x0 (funext fun a => match a with
    | ⟨0, _⟩ => Fin.ext (by show n.val + 1 * 0 = n.val; omega))

/-- The mask of a tile that is not the first. -/
theorem maskAll (R : Fin 512) (h : 128 ≤ R.val) (f : BitVec 1) : MaskIs prevAll (fun c => 128 ≤ R.val ∨ f = 0#1 ∨ 112 ≤ c.val) :=
  fun r c => (prevAll_is r c).trans (and_congr_right fun _ => ⟨fun _ => Or.inl h, fun _ => trivial⟩)

/-- The mask of the first tile. -/
theorem maskFirst (R : Fin 512) (h : R.val < 128) (f : BitVec 1) : MaskIs (prevFirst f) (fun c => 128 ≤ R.val ∨ f = 0#1 ∨ 112 ≤ c.val) :=
  fun r c => (prevFirst_is f r c).trans (and_congr_right fun _ => ⟨Or.inr, fun z => z.resolve_left (by omega)⟩)

/-- Row tile 3, key head 3, pair 1: what the step stores there is the attention's row. -/
theorem piece_3_3_1 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 384 + r.val) (C : Fin 1024) (hC : C.val = 896 + l.val) :
    tile1 128 768 896 slices_S128x256_o0_128_S128x128 slices_S128x1024_o0_768_S128x128 slices_S128x1024_o0_896_S128x128 true prevAll
      (View.ld x1 (Rect.unit (s := S512x1024) ![384, 0] S128x1024.size inb_S512x1024_S128x1024_384_0)) (asIs (View.ld x2 (Rect.unit (s := S512x256) ![384, 0] S128x256.size inb_S512x256_S128x256_384_0))) (asIs (View.ld x5 (Rect.unit (s := S512x256) ![384, 0] S128x256.size inb_S512x256_S128x256_384_0))) (asIs (View.ld x2 (Rect.unit (s := S512x256) ![256, 0] S128x256.size inb_S512x256_S128x256_256_0))) (asIs (View.ld x5 (Rect.unit (s := S512x256) ![256, 0] S128x256.size inb_S512x256_S128x256_256_0))) (View.ld x0 (Rect.unit (s := S16) ![(12 : Fin 16).val] S1.size (inbSink 12)) (Shape.Idx.first numel1_S1.ge)) (View.ld x0 (Rect.unit (s := S16) ![(13 : Fin 16).val] S1.size (inbSink 13)) (Shape.Idx.first numel1_S1.ge)) (View.ld x0 (Rect.unit (s := S16) ![(14 : Fin 16).val] S1.size (inbSink 14)) (Shape.Idx.first numel1_S1.ge)) (View.ld x0 (Rect.unit (s := S16) ![(15 : Fin 16).val] S1.size (inbSink 15)) (Shape.Idx.first numel1_S1.ge)) (ix2 r l)
      = scrAt f x0 x1 x2 x3 x4 x5 x6 x7 R C := by
  have hr := r.isLt
  have hl := l.isLt
  exact (tile1_at 128 768 896 _ _ _ true prevAll (fun c => 128 ≤ R.val ∨ f = 0#1 ∨ 112 ≤ c.val) (maskAll R (by omega) f) _ _ _ _ _ _ _ _ _ 3 (by decide) (by decide) (by decide) r l ⟨l.val % 64, by omega⟩ rfl ⟨14 + l.val / 64, by omega⟩ rfl (x0 (ix1 ⟨14 + l.val / 64, by omega⟩))
      (by
        by_cases hlt : l.val < 64
        · rw [if_pos hlt]; exact (lds_at x0 14 _ (Fin.ext (by show 14 = 14 + l.val / 64; omega))).symm
        · rw [if_neg hlt]; exact (lds_at x0 15 _ (Fin.ext (by show 15 = 14 + l.val / 64; omega))).symm)).trans
    (scrAt_of f x0 x1 x2 x3 x4 x5 x6 x7 _ _ _ _ _ R C r (by omega) ⟨14 + l.val / 64, by omega⟩ (by show C.val / 64 = 14 + l.val / 64; omega) 3 (by show C.val / 256 = 3; omega) ⟨l.val % 64, by omega⟩ (by show C.val % 64 = l.val % 64; omega)
      (fun c => ldq_at x1 384 _ r c R hR)
      (fun c d => ldk_at x2 384 _ c d _ (by show 128 * (R.val / 128) + c.val = 384 + c.val; omega))
      (fun c d => ldk_at x5 384 _ c d _ (by show 128 * (R.val / 128) + c.val = 384 + c.val; omega))
      (fun c d => (ldk_at x2 256 _ c d ⟨256 + c.val, by omega⟩ rfl).trans (by unfold befAt; rw [if_pos (show 128 ≤ R.val by omega)]; exact congrArg (fun z => x2 (ix2 z d)) (Fin.ext (by show 256 + c.val = 128 * (R.val / 128) - 128 + c.val; omega))))
      (fun c d => (ldk_at x5 256 _ c d ⟨256 + c.val, by omega⟩ rfl).trans (by unfold befAt; rw [if_pos (show 128 ≤ R.val by omega)]; exact congrArg (fun z => x5 (ix2 z d)) (Fin.ext (by show 256 + c.val = 128 * (R.val / 128) - 128 + c.val; omega)))) _ rfl)

/-- Row tile 3, key head 3, pair 0: what the step stores there is the attention's row. -/
theorem piece_3_3_0 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 384 + r.val) (C : Fin 1024) (hC : C.val = 768 + l.val) :
    tile0 128 768 896 slices_S128x256_o0_128_S128x128 slices_S128x1024_o0_768_S128x128 slices_S128x1024_o0_896_S128x128 true prevAll
      (View.ld x1 (Rect.unit (s := S512x1024) ![384, 0] S128x1024.size inb_S512x1024_S128x1024_384_0)) (asIs (View.ld x2 (Rect.unit (s := S512x256) ![384, 0] S128x256.size inb_S512x256_S128x256_384_0))) (asIs (View.ld x5 (Rect.unit (s := S512x256) ![384, 0] S128x256.size inb_S512x256_S128x256_384_0))) (asIs (View.ld x2 (Rect.unit (s := S512x256) ![256, 0] S128x256.size inb_S512x256_S128x256_256_0))) (asIs (View.ld x5 (Rect.unit (s := S512x256) ![256, 0] S128x256.size inb_S512x256_S128x256_256_0))) (View.ld x0 (Rect.unit (s := S16) ![(12 : Fin 16).val] S1.size (inbSink 12)) (Shape.Idx.first numel1_S1.ge)) (View.ld x0 (Rect.unit (s := S16) ![(13 : Fin 16).val] S1.size (inbSink 13)) (Shape.Idx.first numel1_S1.ge)) (View.ld x0 (Rect.unit (s := S16) ![(14 : Fin 16).val] S1.size (inbSink 14)) (Shape.Idx.first numel1_S1.ge)) (View.ld x0 (Rect.unit (s := S16) ![(15 : Fin 16).val] S1.size (inbSink 15)) (Shape.Idx.first numel1_S1.ge)) (ix2 r l)
      = scrAt f x0 x1 x2 x3 x4 x5 x6 x7 R C := by
  have hr := r.isLt
  have hl := l.isLt
  exact (tile0_at 128 768 896 _ _ _ true prevAll (fun c => 128 ≤ R.val ∨ f = 0#1 ∨ 112 ≤ c.val) (maskAll R (by omega) f) _ _ _ _ _ _ _ _ _ 3 (by decide) (by decide) (by decide) r l ⟨l.val % 64, by omega⟩ rfl ⟨12 + l.val / 64, by omega⟩ rfl (x0 (ix1 ⟨12 + l.val / 64, by omega⟩))
      (by
        by_cases hlt : l.val < 64
        · rw [if_pos hlt]; exact (lds_at x0 12 _ (Fin.ext (by show 12 = 12 + l.val / 64; omega))).symm
        · rw [if_neg hlt]; exact (lds_at x0 13 _ (Fin.ext (by show 13 = 12 + l.val / 64; omega))).symm)).trans
    (scrAt_of f x0 x1 x2 x3 x4 x5 x6 x7 _ _ _ _ _ R C r (by omega) ⟨12 + l.val / 64, by omega⟩ (by show C.val / 64 = 12 + l.val / 64; omega) 3 (by show C.val / 256 = 3; omega) ⟨l.val % 64, by omega⟩ (by show C.val % 64 = l.val % 64; omega)
      (fun c => ldq_at x1 384 _ r c R hR)
      (fun c d => ldk_at x2 384 _ c d _ (by show 128 * (R.val / 128) + c.val = 384 + c.val; omega))
      (fun c d => ldk_at x5 384 _ c d _ (by show 128 * (R.val / 128) + c.val = 384 + c.val; omega))
      (fun c d => (ldk_at x2 256 _ c d ⟨256 + c.val, by omega⟩ rfl).trans (by unfold befAt; rw [if_pos (show 128 ≤ R.val by omega)]; exact congrArg (fun z => x2 (ix2 z d)) (Fin.ext (by show 256 + c.val = 128 * (R.val / 128) - 128 + c.val; omega))))
      (fun c d => (ldk_at x5 256 _ c d ⟨256 + c.val, by omega⟩ rfl).trans (by unfold befAt; rw [if_pos (show 128 ≤ R.val by omega)]; exact congrArg (fun z => x5 (ix2 z d)) (Fin.ext (by show 256 + c.val = 128 * (R.val / 128) - 128 + c.val; omega)))) _ rfl)

/-- Row tile 3, key head 2, pair 1: what the step stores there is the attention's row. -/
theorem piece_3_2_1 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 384 + r.val) (C : Fin 1024) (hC : C.val = 640 + l.val) :
    tile1 128 512 640 slices_S128x256_o0_128_S128x128 slices_S128x1024_o0_512_S128x128 slices_S128x1024_o0_640_S128x128 false prevAll
      (View.ld x1 (Rect.unit (s := S512x1024) ![384, 0] S128x1024.size inb_S512x1024_S128x1024_384_0)) (asIs (View.ld x2 (Rect.unit (s := S512x256) ![384, 0] S128x256.size inb_S512x256_S128x256_384_0))) (asIs (View.ld x5 (Rect.unit (s := S512x256) ![384, 0] S128x256.size inb_S512x256_S128x256_384_0))) (asIs (View.ld x2 (Rect.unit (s := S512x256) ![256, 0] S128x256.size inb_S512x256_S128x256_256_0))) (asIs (View.ld x5 (Rect.unit (s := S512x256) ![256, 0] S128x256.size inb_S512x256_S128x256_256_0))) (View.ld x0 (Rect.unit (s := S16) ![(8 : Fin 16).val] S1.size (inbSink 8)) (Shape.Idx.first numel1_S1.ge)) (View.ld x0 (Rect.unit (s := S16) ![(9 : Fin 16).val] S1.size (inbSink 9)) (Shape.Idx.first numel1_S1.ge)) (View.ld x0 (Rect.unit (s := S16) ![(10 : Fin 16).val] S1.size (inbSink 10)) (Shape.Idx.first numel1_S1.ge)) (View.ld x0 (Rect.unit (s := S16) ![(11 : Fin 16).val] S1.size (inbSink 11)) (Shape.Idx.first numel1_S1.ge)) (ix2 r l)
      = scrAt f x0 x1 x2 x3 x4 x5 x6 x7 R C := by
  have hr := r.isLt
  have hl := l.isLt
  exact (tile1_at 128 512 640 _ _ _ false prevAll (fun c => 128 ≤ R.val ∨ f = 0#1 ∨ 112 ≤ c.val) (maskAll R (by omega) f) _ _ _ _ _ _ _ _ _ 2 (by decide) (by decide) (by decide) r l ⟨l.val % 64, by omega⟩ rfl ⟨10 + l.val / 64, by omega⟩ rfl (x0 (ix1 ⟨10 + l.val / 64, by omega⟩))
      (by
        by_cases hlt : l.val < 64
        · rw [if_pos hlt]; exact (lds_at x0 10 _ (Fin.ext (by show 10 = 10 + l.val / 64; omega))).symm
        · rw [if_neg hlt]; exact (lds_at x0 11 _ (Fin.ext (by show 11 = 10 + l.val / 64; omega))).symm)).trans
    (scrAt_of f x0 x1 x2 x3 x4 x5 x6 x7 _ _ _ _ _ R C r (by omega) ⟨10 + l.val / 64, by omega⟩ (by show C.val / 64 = 10 + l.val / 64; omega) 2 (by show C.val / 256 = 2; omega) ⟨l.val % 64, by omega⟩ (by show C.val % 64 = l.val % 64; omega)
      (fun c => ldq_at x1 384 _ r c R hR)
      (fun c d => ldk_at x2 384 _ c d _ (by show 128 * (R.val / 128) + c.val = 384 + c.val; omega))
      (fun c d => ldk_at x5 384 _ c d _ (by show 128 * (R.val / 128) + c.val = 384 + c.val; omega))
      (fun c d => (ldk_at x2 256 _ c d ⟨256 + c.val, by omega⟩ rfl).trans (by unfold befAt; rw [if_pos (show 128 ≤ R.val by omega)]; exact congrArg (fun z => x2 (ix2 z d)) (Fin.ext (by show 256 + c.val = 128 * (R.val / 128) - 128 + c.val; omega))))
      (fun c d => (ldk_at x5 256 _ c d ⟨256 + c.val, by omega⟩ rfl).trans (by unfold befAt; rw [if_pos (show 128 ≤ R.val by omega)]; exact congrArg (fun z => x5 (ix2 z d)) (Fin.ext (by show 256 + c.val = 128 * (R.val / 128) - 128 + c.val; omega)))) _ rfl)

/-- Row tile 3, key head 2, pair 0: what the step stores there is the attention's row. -/
theorem piece_3_2_0 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 384 + r.val) (C : Fin 1024) (hC : C.val = 512 + l.val) :
    tile0 128 512 640 slices_S128x256_o0_128_S128x128 slices_S128x1024_o0_512_S128x128 slices_S128x1024_o0_640_S128x128 false prevAll
      (View.ld x1 (Rect.unit (s := S512x1024) ![384, 0] S128x1024.size inb_S512x1024_S128x1024_384_0)) (asIs (View.ld x2 (Rect.unit (s := S512x256) ![384, 0] S128x256.size inb_S512x256_S128x256_384_0))) (asIs (View.ld x5 (Rect.unit (s := S512x256) ![384, 0] S128x256.size inb_S512x256_S128x256_384_0))) (asIs (View.ld x2 (Rect.unit (s := S512x256) ![256, 0] S128x256.size inb_S512x256_S128x256_256_0))) (asIs (View.ld x5 (Rect.unit (s := S512x256) ![256, 0] S128x256.size inb_S512x256_S128x256_256_0))) (View.ld x0 (Rect.unit (s := S16) ![(8 : Fin 16).val] S1.size (inbSink 8)) (Shape.Idx.first numel1_S1.ge)) (View.ld x0 (Rect.unit (s := S16) ![(9 : Fin 16).val] S1.size (inbSink 9)) (Shape.Idx.first numel1_S1.ge)) (View.ld x0 (Rect.unit (s := S16) ![(10 : Fin 16).val] S1.size (inbSink 10)) (Shape.Idx.first numel1_S1.ge)) (View.ld x0 (Rect.unit (s := S16) ![(11 : Fin 16).val] S1.size (inbSink 11)) (Shape.Idx.first numel1_S1.ge)) (ix2 r l)
      = scrAt f x0 x1 x2 x3 x4 x5 x6 x7 R C := by
  have hr := r.isLt
  have hl := l.isLt
  exact (tile0_at 128 512 640 _ _ _ false prevAll (fun c => 128 ≤ R.val ∨ f = 0#1 ∨ 112 ≤ c.val) (maskAll R (by omega) f) _ _ _ _ _ _ _ _ _ 2 (by decide) (by decide) (by decide) r l ⟨l.val % 64, by omega⟩ rfl ⟨8 + l.val / 64, by omega⟩ rfl (x0 (ix1 ⟨8 + l.val / 64, by omega⟩))
      (by
        by_cases hlt : l.val < 64
        · rw [if_pos hlt]; exact (lds_at x0 8 _ (Fin.ext (by show 8 = 8 + l.val / 64; omega))).symm
        · rw [if_neg hlt]; exact (lds_at x0 9 _ (Fin.ext (by show 9 = 8 + l.val / 64; omega))).symm)).trans
    (scrAt_of f x0 x1 x2 x3 x4 x5 x6 x7 _ _ _ _ _ R C r (by omega) ⟨8 + l.val / 64, by omega⟩ (by show C.val / 64 = 8 + l.val / 64; omega) 2 (by show C.val / 256 = 2; omega) ⟨l.val % 64, by omega⟩ (by show C.val % 64 = l.val % 64; omega)
      (fun c => ldq_at x1 384 _ r c R hR)
      (fun c d => ldk_at x2 384 _ c d _ (by show 128 * (R.val / 128) + c.val = 384 + c.val; omega))
      (fun c d => ldk_at x5 384 _ c d _ (by show 128 * (R.val / 128) + c.val = 384 + c.val; omega))
      (fun c d => (ldk_at x2 256 _ c d ⟨256 + c.val, by omega⟩ rfl).trans (by unfold befAt; rw [if_pos (show 128 ≤ R.val by omega)]; exact congrArg (fun z => x2 (ix2 z d)) (Fin.ext (by show 256 + c.val = 128 * (R.val / 128) - 128 + c.val; omega))))
      (fun c d => (ldk_at x5 256 _ c d ⟨256 + c.val, by omega⟩ rfl).trans (by unfold befAt; rw [if_pos (show 128 ≤ R.val by omega)]; exact congrArg (fun z => x5 (ix2 z d)) (Fin.ext (by show 256 + c.val = 128 * (R.val / 128) - 128 + c.val; omega)))) _ rfl)

/-- Row tile 3, key head 1, pair 1: what the step stores there is the attention's row. -/
theorem piece_3_1_1 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 384 + r.val) (C : Fin 1024) (hC : C.val = 384 + l.val) :
    tile1 0 256 384 slices_S128x256_o0_0_S128x128 slices_S128x1024_o0_256_S128x128 slices_S128x1024_o0_384_S128x128 true prevAll
      (View.ld x1 (Rect.unit (s := S512x1024) ![384, 0] S128x1024.size inb_S512x1024_S128x1024_384_0)) (asIs (View.ld x2 (Rect.unit (s := S512x256) ![384, 0] S128x256.size inb_S512x256_S128x256_384_0))) (asIs (View.ld x5 (Rect.unit (s := S512x256) ![384, 0] S128x256.size inb_S512x256_S128x256_384_0))) (asIs (View.ld x2 (Rect.unit (s := S512x256) ![256, 0] S128x256.size inb_S512x256_S128x256_256_0))) (asIs (View.ld x5 (Rect.unit (s := S512x256) ![256, 0] S128x256.size inb_S512x256_S128x256_256_0))) (View.ld x0 (Rect.unit (s := S16) ![(4 : Fin 16).val] S1.size (inbSink 4)) (Shape.Idx.first numel1_S1.ge)) (View.ld x0 (Rect.unit (s := S16) ![(5 : Fin 16).val] S1.size (inbSink 5)) (Shape.Idx.first numel1_S1.ge)) (View.ld x0 (Rect.unit (s := S16) ![(6 : Fin 16).val] S1.size (inbSink 6)) (Shape.Idx.first numel1_S1.ge)) (View.ld x0 (Rect.unit (s := S16) ![(7 : Fin 16).val] S1.size (inbSink 7)) (Shape.Idx.first numel1_S1.ge)) (ix2 r l)
      = scrAt f x0 x1 x2 x3 x4 x5 x6 x7 R C := by
  have hr := r.isLt
  have hl := l.isLt
  exact (tile1_at 0 256 384 _ _ _ true prevAll (fun c => 128 ≤ R.val ∨ f = 0#1 ∨ 112 ≤ c.val) (maskAll R (by omega) f) _ _ _ _ _ _ _ _ _ 1 (by decide) (by decide) (by decide) r l ⟨l.val % 64, by omega⟩ rfl ⟨6 + l.val / 64, by omega⟩ rfl (x0 (ix1 ⟨6 + l.val / 64, by omega⟩))
      (by
        by_cases hlt : l.val < 64
        · rw [if_pos hlt]; exact (lds_at x0 6 _ (Fin.ext (by show 6 = 6 + l.val / 64; omega))).symm
        · rw [if_neg hlt]; exact (lds_at x0 7 _ (Fin.ext (by show 7 = 6 + l.val / 64; omega))).symm)).trans
    (scrAt_of f x0 x1 x2 x3 x4 x5 x6 x7 _ _ _ _ _ R C r (by omega) ⟨6 + l.val / 64, by omega⟩ (by show C.val / 64 = 6 + l.val / 64; omega) 1 (by show C.val / 256 = 1; omega) ⟨l.val % 64, by omega⟩ (by show C.val % 64 = l.val % 64; omega)
      (fun c => ldq_at x1 384 _ r c R hR)
      (fun c d => ldk_at x2 384 _ c d _ (by show 128 * (R.val / 128) + c.val = 384 + c.val; omega))
      (fun c d => ldk_at x5 384 _ c d _ (by show 128 * (R.val / 128) + c.val = 384 + c.val; omega))
      (fun c d => (ldk_at x2 256 _ c d ⟨256 + c.val, by omega⟩ rfl).trans (by unfold befAt; rw [if_pos (show 128 ≤ R.val by omega)]; exact congrArg (fun z => x2 (ix2 z d)) (Fin.ext (by show 256 + c.val = 128 * (R.val / 128) - 128 + c.val; omega))))
      (fun c d => (ldk_at x5 256 _ c d ⟨256 + c.val, by omega⟩ rfl).trans (by unfold befAt; rw [if_pos (show 128 ≤ R.val by omega)]; exact congrArg (fun z => x5 (ix2 z d)) (Fin.ext (by show 256 + c.val = 128 * (R.val / 128) - 128 + c.val; omega)))) _ rfl)

/-- Row tile 3, key head 1, pair 0: what the step stores there is the attention's row. -/
theorem piece_3_1_0 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 384 + r.val) (C : Fin 1024) (hC : C.val = 256 + l.val) :
    tile0 0 256 384 slices_S128x256_o0_0_S128x128 slices_S128x1024_o0_256_S128x128 slices_S128x1024_o0_384_S128x128 true prevAll
      (View.ld x1 (Rect.unit (s := S512x1024) ![384, 0] S128x1024.size inb_S512x1024_S128x1024_384_0)) (asIs (View.ld x2 (Rect.unit (s := S512x256) ![384, 0] S128x256.size inb_S512x256_S128x256_384_0))) (asIs (View.ld x5 (Rect.unit (s := S512x256) ![384, 0] S128x256.size inb_S512x256_S128x256_384_0))) (asIs (View.ld x2 (Rect.unit (s := S512x256) ![256, 0] S128x256.size inb_S512x256_S128x256_256_0))) (asIs (View.ld x5 (Rect.unit (s := S512x256) ![256, 0] S128x256.size inb_S512x256_S128x256_256_0))) (View.ld x0 (Rect.unit (s := S16) ![(4 : Fin 16).val] S1.size (inbSink 4)) (Shape.Idx.first numel1_S1.ge)) (View.ld x0 (Rect.unit (s := S16) ![(5 : Fin 16).val] S1.size (inbSink 5)) (Shape.Idx.first numel1_S1.ge)) (View.ld x0 (Rect.unit (s := S16) ![(6 : Fin 16).val] S1.size (inbSink 6)) (Shape.Idx.first numel1_S1.ge)) (View.ld x0 (Rect.unit (s := S16) ![(7 : Fin 16).val] S1.size (inbSink 7)) (Shape.Idx.first numel1_S1.ge)) (ix2 r l)
      = scrAt f x0 x1 x2 x3 x4 x5 x6 x7 R C := by
  have hr := r.isLt
  have hl := l.isLt
  exact (tile0_at 0 256 384 _ _ _ true prevAll (fun c => 128 ≤ R.val ∨ f = 0#1 ∨ 112 ≤ c.val) (maskAll R (by omega) f) _ _ _ _ _ _ _ _ _ 1 (by decide) (by decide) (by decide) r l ⟨l.val % 64, by omega⟩ rfl ⟨4 + l.val / 64, by omega⟩ rfl (x0 (ix1 ⟨4 + l.val / 64, by omega⟩))
      (by
        by_cases hlt : l.val < 64
        · rw [if_pos hlt]; exact (lds_at x0 4 _ (Fin.ext (by show 4 = 4 + l.val / 64; omega))).symm
        · rw [if_neg hlt]; exact (lds_at x0 5 _ (Fin.ext (by show 5 = 4 + l.val / 64; omega))).symm)).trans
    (scrAt_of f x0 x1 x2 x3 x4 x5 x6 x7 _ _ _ _ _ R C r (by omega) ⟨4 + l.val / 64, by omega⟩ (by show C.val / 64 = 4 + l.val / 64; omega) 1 (by show C.val / 256 = 1; omega) ⟨l.val % 64, by omega⟩ (by show C.val % 64 = l.val % 64; omega)
      (fun c => ldq_at x1 384 _ r c R hR)
      (fun c d => ldk_at x2 384 _ c d _ (by show 128 * (R.val / 128) + c.val = 384 + c.val; omega))
      (fun c d => ldk_at x5 384 _ c d _ (by show 128 * (R.val / 128) + c.val = 384 + c.val; omega))
      (fun c d => (ldk_at x2 256 _ c d ⟨256 + c.val, by omega⟩ rfl).trans (by unfold befAt; rw [if_pos (show 128 ≤ R.val by omega)]; exact congrArg (fun z => x2 (ix2 z d)) (Fin.ext (by show 256 + c.val = 128 * (R.val / 128) - 128 + c.val; omega))))
      (fun c d => (ldk_at x5 256 _ c d ⟨256 + c.val, by omega⟩ rfl).trans (by unfold befAt; rw [if_pos (show 128 ≤ R.val by omega)]; exact congrArg (fun z => x5 (ix2 z d)) (Fin.ext (by show 256 + c.val = 128 * (R.val / 128) - 128 + c.val; omega)))) _ rfl)

/-- Row tile 3, key head 0, pair 1: what the step stores there is the attention's row. -/
theorem piece_3_0_1 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 384 + r.val) (C : Fin 1024) (hC : C.val = 128 + l.val) :
    tile1 0 0 128 slices_S128x256_o0_0_S128x128 slices_S128x1024_o0_0_S128x128 slices_S128x1024_o0_128_S128x128 false prevAll
      (View.ld x1 (Rect.unit (s := S512x1024) ![384, 0] S128x1024.size inb_S512x1024_S128x1024_384_0)) (asIs (View.ld x2 (Rect.unit (s := S512x256) ![384, 0] S128x256.size inb_S512x256_S128x256_384_0))) (asIs (View.ld x5 (Rect.unit (s := S512x256) ![384, 0] S128x256.size inb_S512x256_S128x256_384_0))) (asIs (View.ld x2 (Rect.unit (s := S512x256) ![256, 0] S128x256.size inb_S512x256_S128x256_256_0))) (asIs (View.ld x5 (Rect.unit (s := S512x256) ![256, 0] S128x256.size inb_S512x256_S128x256_256_0))) (View.ld x0 (Rect.unit (s := S16) ![(0 : Fin 16).val] S1.size (inbSink 0)) (Shape.Idx.first numel1_S1.ge)) (View.ld x0 (Rect.unit (s := S16) ![(1 : Fin 16).val] S1.size (inbSink 1)) (Shape.Idx.first numel1_S1.ge)) (View.ld x0 (Rect.unit (s := S16) ![(2 : Fin 16).val] S1.size (inbSink 2)) (Shape.Idx.first numel1_S1.ge)) (View.ld x0 (Rect.unit (s := S16) ![(3 : Fin 16).val] S1.size (inbSink 3)) (Shape.Idx.first numel1_S1.ge)) (ix2 r l)
      = scrAt f x0 x1 x2 x3 x4 x5 x6 x7 R C := by
  have hr := r.isLt
  have hl := l.isLt
  exact (tile1_at 0 0 128 _ _ _ false prevAll (fun c => 128 ≤ R.val ∨ f = 0#1 ∨ 112 ≤ c.val) (maskAll R (by omega) f) _ _ _ _ _ _ _ _ _ 0 (by decide) (by decide) (by decide) r l ⟨l.val % 64, by omega⟩ rfl ⟨2 + l.val / 64, by omega⟩ rfl (x0 (ix1 ⟨2 + l.val / 64, by omega⟩))
      (by
        by_cases hlt : l.val < 64
        · rw [if_pos hlt]; exact (lds_at x0 2 _ (Fin.ext (by show 2 = 2 + l.val / 64; omega))).symm
        · rw [if_neg hlt]; exact (lds_at x0 3 _ (Fin.ext (by show 3 = 2 + l.val / 64; omega))).symm)).trans
    (scrAt_of f x0 x1 x2 x3 x4 x5 x6 x7 _ _ _ _ _ R C r (by omega) ⟨2 + l.val / 64, by omega⟩ (by show C.val / 64 = 2 + l.val / 64; omega) 0 (by show C.val / 256 = 0; omega) ⟨l.val % 64, by omega⟩ (by show C.val % 64 = l.val % 64; omega)
      (fun c => ldq_at x1 384 _ r c R hR)
      (fun c d => ldk_at x2 384 _ c d _ (by show 128 * (R.val / 128) + c.val = 384 + c.val; omega))
      (fun c d => ldk_at x5 384 _ c d _ (by show 128 * (R.val / 128) + c.val = 384 + c.val; omega))
      (fun c d => (ldk_at x2 256 _ c d ⟨256 + c.val, by omega⟩ rfl).trans (by unfold befAt; rw [if_pos (show 128 ≤ R.val by omega)]; exact congrArg (fun z => x2 (ix2 z d)) (Fin.ext (by show 256 + c.val = 128 * (R.val / 128) - 128 + c.val; omega))))
      (fun c d => (ldk_at x5 256 _ c d ⟨256 + c.val, by omega⟩ rfl).trans (by unfold befAt; rw [if_pos (show 128 ≤ R.val by omega)]; exact congrArg (fun z => x5 (ix2 z d)) (Fin.ext (by show 256 + c.val = 128 * (R.val / 128) - 128 + c.val; omega)))) _ rfl)

/-- Row tile 3, key head 0, pair 0: what the step stores there is the attention's row. -/
theorem piece_3_0_0 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 384 + r.val) (C : Fin 1024) (hC : C.val = 0 + l.val) :
    tile0 0 0 128 slices_S128x256_o0_0_S128x128 slices_S128x1024_o0_0_S128x128 slices_S128x1024_o0_128_S128x128 false prevAll
      (View.ld x1 (Rect.unit (s := S512x1024) ![384, 0] S128x1024.size inb_S512x1024_S128x1024_384_0)) (asIs (View.ld x2 (Rect.unit (s := S512x256) ![384, 0] S128x256.size inb_S512x256_S128x256_384_0))) (asIs (View.ld x5 (Rect.unit (s := S512x256) ![384, 0] S128x256.size inb_S512x256_S128x256_384_0))) (asIs (View.ld x2 (Rect.unit (s := S512x256) ![256, 0] S128x256.size inb_S512x256_S128x256_256_0))) (asIs (View.ld x5 (Rect.unit (s := S512x256) ![256, 0] S128x256.size inb_S512x256_S128x256_256_0))) (View.ld x0 (Rect.unit (s := S16) ![(0 : Fin 16).val] S1.size (inbSink 0)) (Shape.Idx.first numel1_S1.ge)) (View.ld x0 (Rect.unit (s := S16) ![(1 : Fin 16).val] S1.size (inbSink 1)) (Shape.Idx.first numel1_S1.ge)) (View.ld x0 (Rect.unit (s := S16) ![(2 : Fin 16).val] S1.size (inbSink 2)) (Shape.Idx.first numel1_S1.ge)) (View.ld x0 (Rect.unit (s := S16) ![(3 : Fin 16).val] S1.size (inbSink 3)) (Shape.Idx.first numel1_S1.ge)) (ix2 r l)
      = scrAt f x0 x1 x2 x3 x4 x5 x6 x7 R C := by
  have hr := r.isLt
  have hl := l.isLt
  exact (tile0_at 0 0 128 _ _ _ false prevAll (fun c => 128 ≤ R.val ∨ f = 0#1 ∨ 112 ≤ c.val) (maskAll R (by omega) f) _ _ _ _ _ _ _ _ _ 0 (by decide) (by decide) (by decide) r l ⟨l.val % 64, by omega⟩ rfl ⟨0 + l.val / 64, by omega⟩ rfl (x0 (ix1 ⟨0 + l.val / 64, by omega⟩))
      (by
        by_cases hlt : l.val < 64
        · rw [if_pos hlt]; exact (lds_at x0 0 _ (Fin.ext (by show 0 = 0 + l.val / 64; omega))).symm
        · rw [if_neg hlt]; exact (lds_at x0 1 _ (Fin.ext (by show 1 = 0 + l.val / 64; omega))).symm)).trans
    (scrAt_of f x0 x1 x2 x3 x4 x5 x6 x7 _ _ _ _ _ R C r (by omega) ⟨0 + l.val / 64, by omega⟩ (by show C.val / 64 = 0 + l.val / 64; omega) 0 (by show C.val / 256 = 0; omega) ⟨l.val % 64, by omega⟩ (by show C.val % 64 = l.val % 64; omega)
      (fun c => ldq_at x1 384 _ r c R hR)
      (fun c d => ldk_at x2 384 _ c d _ (by show 128 * (R.val / 128) + c.val = 384 + c.val; omega))
      (fun c d => ldk_at x5 384 _ c d _ (by show 128 * (R.val / 128) + c.val = 384 + c.val; omega))
      (fun c d => (ldk_at x2 256 _ c d ⟨256 + c.val, by omega⟩ rfl).trans (by unfold befAt; rw [if_pos (show 128 ≤ R.val by omega)]; exact congrArg (fun z => x2 (ix2 z d)) (Fin.ext (by show 256 + c.val = 128 * (R.val / 128) - 128 + c.val; omega))))
      (fun c d => (ldk_at x5 256 _ c d ⟨256 + c.val, by omega⟩ rfl).trans (by unfold befAt; rw [if_pos (show 128 ≤ R.val by omega)]; exact congrArg (fun z => x5 (ix2 z d)) (Fin.ext (by show 256 + c.val = 128 * (R.val / 128) - 128 + c.val; omega)))) _ rfl)

/-- Row tile 2, key head 3, pair 1: what the step stores there is the attention's row. -/
theorem piece_2_3_1 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 256 + r.val) (C : Fin 1024) (hC : C.val = 896 + l.val) :
    tile1 128 768 896 slices_S128x256_o0_128_S128x128 slices_S128x1024_o0_768_S128x128 slices_S128x1024_o0_896_S128x128 true prevAll
      (View.ld x1 (Rect.unit (s := S512x1024) ![256, 0] S128x1024.size inb_S512x1024_S128x1024_256_0)) (asIs (View.ld x2 (Rect.unit (s := S512x256) ![256, 0] S128x256.size inb_S512x256_S128x256_256_0))) (asIs (View.ld x5 (Rect.unit (s := S512x256) ![256, 0] S128x256.size inb_S512x256_S128x256_256_0))) (asIs (View.ld x2 (Rect.unit (s := S512x256) ![128, 0] S128x256.size inb_S512x256_S128x256_128_0))) (asIs (View.ld x5 (Rect.unit (s := S512x256) ![128, 0] S128x256.size inb_S512x256_S128x256_128_0))) (View.ld x0 (Rect.unit (s := S16) ![(12 : Fin 16).val] S1.size (inbSink 12)) (Shape.Idx.first numel1_S1.ge)) (View.ld x0 (Rect.unit (s := S16) ![(13 : Fin 16).val] S1.size (inbSink 13)) (Shape.Idx.first numel1_S1.ge)) (View.ld x0 (Rect.unit (s := S16) ![(14 : Fin 16).val] S1.size (inbSink 14)) (Shape.Idx.first numel1_S1.ge)) (View.ld x0 (Rect.unit (s := S16) ![(15 : Fin 16).val] S1.size (inbSink 15)) (Shape.Idx.first numel1_S1.ge)) (ix2 r l)
      = scrAt f x0 x1 x2 x3 x4 x5 x6 x7 R C := by
  have hr := r.isLt
  have hl := l.isLt
  exact (tile1_at 128 768 896 _ _ _ true prevAll (fun c => 128 ≤ R.val ∨ f = 0#1 ∨ 112 ≤ c.val) (maskAll R (by omega) f) _ _ _ _ _ _ _ _ _ 3 (by decide) (by decide) (by decide) r l ⟨l.val % 64, by omega⟩ rfl ⟨14 + l.val / 64, by omega⟩ rfl (x0 (ix1 ⟨14 + l.val / 64, by omega⟩))
      (by
        by_cases hlt : l.val < 64
        · rw [if_pos hlt]; exact (lds_at x0 14 _ (Fin.ext (by show 14 = 14 + l.val / 64; omega))).symm
        · rw [if_neg hlt]; exact (lds_at x0 15 _ (Fin.ext (by show 15 = 14 + l.val / 64; omega))).symm)).trans
    (scrAt_of f x0 x1 x2 x3 x4 x5 x6 x7 _ _ _ _ _ R C r (by omega) ⟨14 + l.val / 64, by omega⟩ (by show C.val / 64 = 14 + l.val / 64; omega) 3 (by show C.val / 256 = 3; omega) ⟨l.val % 64, by omega⟩ (by show C.val % 64 = l.val % 64; omega)
      (fun c => ldq_at x1 256 _ r c R hR)
      (fun c d => ldk_at x2 256 _ c d _ (by show 128 * (R.val / 128) + c.val = 256 + c.val; omega))
      (fun c d => ldk_at x5 256 _ c d _ (by show 128 * (R.val / 128) + c.val = 256 + c.val; omega))
      (fun c d => (ldk_at x2 128 _ c d ⟨128 + c.val, by omega⟩ rfl).trans (by unfold befAt; rw [if_pos (show 128 ≤ R.val by omega)]; exact congrArg (fun z => x2 (ix2 z d)) (Fin.ext (by show 128 + c.val = 128 * (R.val / 128) - 128 + c.val; omega))))
      (fun c d => (ldk_at x5 128 _ c d ⟨128 + c.val, by omega⟩ rfl).trans (by unfold befAt; rw [if_pos (show 128 ≤ R.val by omega)]; exact congrArg (fun z => x5 (ix2 z d)) (Fin.ext (by show 128 + c.val = 128 * (R.val / 128) - 128 + c.val; omega)))) _ rfl)

/-- Row tile 2, key head 3, pair 0: what the step stores there is the attention's row. -/
theorem piece_2_3_0 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 256 + r.val) (C : Fin 1024) (hC : C.val = 768 + l.val) :
    tile0 128 768 896 slices_S128x256_o0_128_S128x128 slices_S128x1024_o0_768_S128x128 slices_S128x1024_o0_896_S128x128 true prevAll
      (View.ld x1 (Rect.unit (s := S512x1024) ![256, 0] S128x1024.size inb_S512x1024_S128x1024_256_0)) (asIs (View.ld x2 (Rect.unit (s := S512x256) ![256, 0] S128x256.size inb_S512x256_S128x256_256_0))) (asIs (View.ld x5 (Rect.unit (s := S512x256) ![256, 0] S128x256.size inb_S512x256_S128x256_256_0))) (asIs (View.ld x2 (Rect.unit (s := S512x256) ![128, 0] S128x256.size inb_S512x256_S128x256_128_0))) (asIs (View.ld x5 (Rect.unit (s := S512x256) ![128, 0] S128x256.size inb_S512x256_S128x256_128_0))) (View.ld x0 (Rect.unit (s := S16) ![(12 : Fin 16).val] S1.size (inbSink 12)) (Shape.Idx.first numel1_S1.ge)) (View.ld x0 (Rect.unit (s := S16) ![(13 : Fin 16).val] S1.size (inbSink 13)) (Shape.Idx.first numel1_S1.ge)) (View.ld x0 (Rect.unit (s := S16) ![(14 : Fin 16).val] S1.size (inbSink 14)) (Shape.Idx.first numel1_S1.ge)) (View.ld x0 (Rect.unit (s := S16) ![(15 : Fin 16).val] S1.size (inbSink 15)) (Shape.Idx.first numel1_S1.ge)) (ix2 r l)
      = scrAt f x0 x1 x2 x3 x4 x5 x6 x7 R C := by
  have hr := r.isLt
  have hl := l.isLt
  exact (tile0_at 128 768 896 _ _ _ true prevAll (fun c => 128 ≤ R.val ∨ f = 0#1 ∨ 112 ≤ c.val) (maskAll R (by omega) f) _ _ _ _ _ _ _ _ _ 3 (by decide) (by decide) (by decide) r l ⟨l.val % 64, by omega⟩ rfl ⟨12 + l.val / 64, by omega⟩ rfl (x0 (ix1 ⟨12 + l.val / 64, by omega⟩))
      (by
        by_cases hlt : l.val < 64
        · rw [if_pos hlt]; exact (lds_at x0 12 _ (Fin.ext (by show 12 = 12 + l.val / 64; omega))).symm
        · rw [if_neg hlt]; exact (lds_at x0 13 _ (Fin.ext (by show 13 = 12 + l.val / 64; omega))).symm)).trans
    (scrAt_of f x0 x1 x2 x3 x4 x5 x6 x7 _ _ _ _ _ R C r (by omega) ⟨12 + l.val / 64, by omega⟩ (by show C.val / 64 = 12 + l.val / 64; omega) 3 (by show C.val / 256 = 3; omega) ⟨l.val % 64, by omega⟩ (by show C.val % 64 = l.val % 64; omega)
      (fun c => ldq_at x1 256 _ r c R hR)
      (fun c d => ldk_at x2 256 _ c d _ (by show 128 * (R.val / 128) + c.val = 256 + c.val; omega))
      (fun c d => ldk_at x5 256 _ c d _ (by show 128 * (R.val / 128) + c.val = 256 + c.val; omega))
      (fun c d => (ldk_at x2 128 _ c d ⟨128 + c.val, by omega⟩ rfl).trans (by unfold befAt; rw [if_pos (show 128 ≤ R.val by omega)]; exact congrArg (fun z => x2 (ix2 z d)) (Fin.ext (by show 128 + c.val = 128 * (R.val / 128) - 128 + c.val; omega))))
      (fun c d => (ldk_at x5 128 _ c d ⟨128 + c.val, by omega⟩ rfl).trans (by unfold befAt; rw [if_pos (show 128 ≤ R.val by omega)]; exact congrArg (fun z => x5 (ix2 z d)) (Fin.ext (by show 128 + c.val = 128 * (R.val / 128) - 128 + c.val; omega)))) _ rfl)

/-- Row tile 2, key head 2, pair 1: what the step stores there is the attention's row. -/
theorem piece_2_2_1 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 256 + r.val) (C : Fin 1024) (hC : C.val = 640 + l.val) :
    tile1 128 512 640 slices_S128x256_o0_128_S128x128 slices_S128x1024_o0_512_S128x128 slices_S128x1024_o0_640_S128x128 false prevAll
      (View.ld x1 (Rect.unit (s := S512x1024) ![256, 0] S128x1024.size inb_S512x1024_S128x1024_256_0)) (asIs (View.ld x2 (Rect.unit (s := S512x256) ![256, 0] S128x256.size inb_S512x256_S128x256_256_0))) (asIs (View.ld x5 (Rect.unit (s := S512x256) ![256, 0] S128x256.size inb_S512x256_S128x256_256_0))) (asIs (View.ld x2 (Rect.unit (s := S512x256) ![128, 0] S128x256.size inb_S512x256_S128x256_128_0))) (asIs (View.ld x5 (Rect.unit (s := S512x256) ![128, 0] S128x256.size inb_S512x256_S128x256_128_0))) (View.ld x0 (Rect.unit (s := S16) ![(8 : Fin 16).val] S1.size (inbSink 8)) (Shape.Idx.first numel1_S1.ge)) (View.ld x0 (Rect.unit (s := S16) ![(9 : Fin 16).val] S1.size (inbSink 9)) (Shape.Idx.first numel1_S1.ge)) (View.ld x0 (Rect.unit (s := S16) ![(10 : Fin 16).val] S1.size (inbSink 10)) (Shape.Idx.first numel1_S1.ge)) (View.ld x0 (Rect.unit (s := S16) ![(11 : Fin 16).val] S1.size (inbSink 11)) (Shape.Idx.first numel1_S1.ge)) (ix2 r l)
      = scrAt f x0 x1 x2 x3 x4 x5 x6 x7 R C := by
  have hr := r.isLt
  have hl := l.isLt
  exact (tile1_at 128 512 640 _ _ _ false prevAll (fun c => 128 ≤ R.val ∨ f = 0#1 ∨ 112 ≤ c.val) (maskAll R (by omega) f) _ _ _ _ _ _ _ _ _ 2 (by decide) (by decide) (by decide) r l ⟨l.val % 64, by omega⟩ rfl ⟨10 + l.val / 64, by omega⟩ rfl (x0 (ix1 ⟨10 + l.val / 64, by omega⟩))
      (by
        by_cases hlt : l.val < 64
        · rw [if_pos hlt]; exact (lds_at x0 10 _ (Fin.ext (by show 10 = 10 + l.val / 64; omega))).symm
        · rw [if_neg hlt]; exact (lds_at x0 11 _ (Fin.ext (by show 11 = 10 + l.val / 64; omega))).symm)).trans
    (scrAt_of f x0 x1 x2 x3 x4 x5 x6 x7 _ _ _ _ _ R C r (by omega) ⟨10 + l.val / 64, by omega⟩ (by show C.val / 64 = 10 + l.val / 64; omega) 2 (by show C.val / 256 = 2; omega) ⟨l.val % 64, by omega⟩ (by show C.val % 64 = l.val % 64; omega)
      (fun c => ldq_at x1 256 _ r c R hR)
      (fun c d => ldk_at x2 256 _ c d _ (by show 128 * (R.val / 128) + c.val = 256 + c.val; omega))
      (fun c d => ldk_at x5 256 _ c d _ (by show 128 * (R.val / 128) + c.val = 256 + c.val; omega))
      (fun c d => (ldk_at x2 128 _ c d ⟨128 + c.val, by omega⟩ rfl).trans (by unfold befAt; rw [if_pos (show 128 ≤ R.val by omega)]; exact congrArg (fun z => x2 (ix2 z d)) (Fin.ext (by show 128 + c.val = 128 * (R.val / 128) - 128 + c.val; omega))))
      (fun c d => (ldk_at x5 128 _ c d ⟨128 + c.val, by omega⟩ rfl).trans (by unfold befAt; rw [if_pos (show 128 ≤ R.val by omega)]; exact congrArg (fun z => x5 (ix2 z d)) (Fin.ext (by show 128 + c.val = 128 * (R.val / 128) - 128 + c.val; omega)))) _ rfl)

/-- Row tile 2, key head 2, pair 0: what the step stores there is the attention's row. -/
theorem piece_2_2_0 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 256 + r.val) (C : Fin 1024) (hC : C.val = 512 + l.val) :
    tile0 128 512 640 slices_S128x256_o0_128_S128x128 slices_S128x1024_o0_512_S128x128 slices_S128x1024_o0_640_S128x128 false prevAll
      (View.ld x1 (Rect.unit (s := S512x1024) ![256, 0] S128x1024.size inb_S512x1024_S128x1024_256_0)) (asIs (View.ld x2 (Rect.unit (s := S512x256) ![256, 0] S128x256.size inb_S512x256_S128x256_256_0))) (asIs (View.ld x5 (Rect.unit (s := S512x256) ![256, 0] S128x256.size inb_S512x256_S128x256_256_0))) (asIs (View.ld x2 (Rect.unit (s := S512x256) ![128, 0] S128x256.size inb_S512x256_S128x256_128_0))) (asIs (View.ld x5 (Rect.unit (s := S512x256) ![128, 0] S128x256.size inb_S512x256_S128x256_128_0))) (View.ld x0 (Rect.unit (s := S16) ![(8 : Fin 16).val] S1.size (inbSink 8)) (Shape.Idx.first numel1_S1.ge)) (View.ld x0 (Rect.unit (s := S16) ![(9 : Fin 16).val] S1.size (inbSink 9)) (Shape.Idx.first numel1_S1.ge)) (View.ld x0 (Rect.unit (s := S16) ![(10 : Fin 16).val] S1.size (inbSink 10)) (Shape.Idx.first numel1_S1.ge)) (View.ld x0 (Rect.unit (s := S16) ![(11 : Fin 16).val] S1.size (inbSink 11)) (Shape.Idx.first numel1_S1.ge)) (ix2 r l)
      = scrAt f x0 x1 x2 x3 x4 x5 x6 x7 R C := by
  have hr := r.isLt
  have hl := l.isLt
  exact (tile0_at 128 512 640 _ _ _ false prevAll (fun c => 128 ≤ R.val ∨ f = 0#1 ∨ 112 ≤ c.val) (maskAll R (by omega) f) _ _ _ _ _ _ _ _ _ 2 (by decide) (by decide) (by decide) r l ⟨l.val % 64, by omega⟩ rfl ⟨8 + l.val / 64, by omega⟩ rfl (x0 (ix1 ⟨8 + l.val / 64, by omega⟩))
      (by
        by_cases hlt : l.val < 64
        · rw [if_pos hlt]; exact (lds_at x0 8 _ (Fin.ext (by show 8 = 8 + l.val / 64; omega))).symm
        · rw [if_neg hlt]; exact (lds_at x0 9 _ (Fin.ext (by show 9 = 8 + l.val / 64; omega))).symm)).trans
    (scrAt_of f x0 x1 x2 x3 x4 x5 x6 x7 _ _ _ _ _ R C r (by omega) ⟨8 + l.val / 64, by omega⟩ (by show C.val / 64 = 8 + l.val / 64; omega) 2 (by show C.val / 256 = 2; omega) ⟨l.val % 64, by omega⟩ (by show C.val % 64 = l.val % 64; omega)
      (fun c => ldq_at x1 256 _ r c R hR)
      (fun c d => ldk_at x2 256 _ c d _ (by show 128 * (R.val / 128) + c.val = 256 + c.val; omega))
      (fun c d => ldk_at x5 256 _ c d _ (by show 128 * (R.val / 128) + c.val = 256 + c.val; omega))
      (fun c d => (ldk_at x2 128 _ c d ⟨128 + c.val, by omega⟩ rfl).trans (by unfold befAt; rw [if_pos (show 128 ≤ R.val by omega)]; exact congrArg (fun z => x2 (ix2 z d)) (Fin.ext (by show 128 + c.val = 128 * (R.val / 128) - 128 + c.val; omega))))
      (fun c d => (ldk_at x5 128 _ c d ⟨128 + c.val, by omega⟩ rfl).trans (by unfold befAt; rw [if_pos (show 128 ≤ R.val by omega)]; exact congrArg (fun z => x5 (ix2 z d)) (Fin.ext (by show 128 + c.val = 128 * (R.val / 128) - 128 + c.val; omega)))) _ rfl)

/-- Row tile 2, key head 1, pair 1: what the step stores there is the attention's row. -/
theorem piece_2_1_1 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 256 + r.val) (C : Fin 1024) (hC : C.val = 384 + l.val) :
    tile1 0 256 384 slices_S128x256_o0_0_S128x128 slices_S128x1024_o0_256_S128x128 slices_S128x1024_o0_384_S128x128 true prevAll
      (View.ld x1 (Rect.unit (s := S512x1024) ![256, 0] S128x1024.size inb_S512x1024_S128x1024_256_0)) (asIs (View.ld x2 (Rect.unit (s := S512x256) ![256, 0] S128x256.size inb_S512x256_S128x256_256_0))) (asIs (View.ld x5 (Rect.unit (s := S512x256) ![256, 0] S128x256.size inb_S512x256_S128x256_256_0))) (asIs (View.ld x2 (Rect.unit (s := S512x256) ![128, 0] S128x256.size inb_S512x256_S128x256_128_0))) (asIs (View.ld x5 (Rect.unit (s := S512x256) ![128, 0] S128x256.size inb_S512x256_S128x256_128_0))) (View.ld x0 (Rect.unit (s := S16) ![(4 : Fin 16).val] S1.size (inbSink 4)) (Shape.Idx.first numel1_S1.ge)) (View.ld x0 (Rect.unit (s := S16) ![(5 : Fin 16).val] S1.size (inbSink 5)) (Shape.Idx.first numel1_S1.ge)) (View.ld x0 (Rect.unit (s := S16) ![(6 : Fin 16).val] S1.size (inbSink 6)) (Shape.Idx.first numel1_S1.ge)) (View.ld x0 (Rect.unit (s := S16) ![(7 : Fin 16).val] S1.size (inbSink 7)) (Shape.Idx.first numel1_S1.ge)) (ix2 r l)
      = scrAt f x0 x1 x2 x3 x4 x5 x6 x7 R C := by
  have hr := r.isLt
  have hl := l.isLt
  exact (tile1_at 0 256 384 _ _ _ true prevAll (fun c => 128 ≤ R.val ∨ f = 0#1 ∨ 112 ≤ c.val) (maskAll R (by omega) f) _ _ _ _ _ _ _ _ _ 1 (by decide) (by decide) (by decide) r l ⟨l.val % 64, by omega⟩ rfl ⟨6 + l.val / 64, by omega⟩ rfl (x0 (ix1 ⟨6 + l.val / 64, by omega⟩))
      (by
        by_cases hlt : l.val < 64
        · rw [if_pos hlt]; exact (lds_at x0 6 _ (Fin.ext (by show 6 = 6 + l.val / 64; omega))).symm
        · rw [if_neg hlt]; exact (lds_at x0 7 _ (Fin.ext (by show 7 = 6 + l.val / 64; omega))).symm)).trans
    (scrAt_of f x0 x1 x2 x3 x4 x5 x6 x7 _ _ _ _ _ R C r (by omega) ⟨6 + l.val / 64, by omega⟩ (by show C.val / 64 = 6 + l.val / 64; omega) 1 (by show C.val / 256 = 1; omega) ⟨l.val % 64, by omega⟩ (by show C.val % 64 = l.val % 64; omega)
      (fun c => ldq_at x1 256 _ r c R hR)
      (fun c d => ldk_at x2 256 _ c d _ (by show 128 * (R.val / 128) + c.val = 256 + c.val; omega))
      (fun c d => ldk_at x5 256 _ c d _ (by show 128 * (R.val / 128) + c.val = 256 + c.val; omega))
      (fun c d => (ldk_at x2 128 _ c d ⟨128 + c.val, by omega⟩ rfl).trans (by unfold befAt; rw [if_pos (show 128 ≤ R.val by omega)]; exact congrArg (fun z => x2 (ix2 z d)) (Fin.ext (by show 128 + c.val = 128 * (R.val / 128) - 128 + c.val; omega))))
      (fun c d => (ldk_at x5 128 _ c d ⟨128 + c.val, by omega⟩ rfl).trans (by unfold befAt; rw [if_pos (show 128 ≤ R.val by omega)]; exact congrArg (fun z => x5 (ix2 z d)) (Fin.ext (by show 128 + c.val = 128 * (R.val / 128) - 128 + c.val; omega)))) _ rfl)

/-- Row tile 2, key head 1, pair 0: what the step stores there is the attention's row. -/
theorem piece_2_1_0 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 256 + r.val) (C : Fin 1024) (hC : C.val = 256 + l.val) :
    tile0 0 256 384 slices_S128x256_o0_0_S128x128 slices_S128x1024_o0_256_S128x128 slices_S128x1024_o0_384_S128x128 true prevAll
      (View.ld x1 (Rect.unit (s := S512x1024) ![256, 0] S128x1024.size inb_S512x1024_S128x1024_256_0)) (asIs (View.ld x2 (Rect.unit (s := S512x256) ![256, 0] S128x256.size inb_S512x256_S128x256_256_0))) (asIs (View.ld x5 (Rect.unit (s := S512x256) ![256, 0] S128x256.size inb_S512x256_S128x256_256_0))) (asIs (View.ld x2 (Rect.unit (s := S512x256) ![128, 0] S128x256.size inb_S512x256_S128x256_128_0))) (asIs (View.ld x5 (Rect.unit (s := S512x256) ![128, 0] S128x256.size inb_S512x256_S128x256_128_0))) (View.ld x0 (Rect.unit (s := S16) ![(4 : Fin 16).val] S1.size (inbSink 4)) (Shape.Idx.first numel1_S1.ge)) (View.ld x0 (Rect.unit (s := S16) ![(5 : Fin 16).val] S1.size (inbSink 5)) (Shape.Idx.first numel1_S1.ge)) (View.ld x0 (Rect.unit (s := S16) ![(6 : Fin 16).val] S1.size (inbSink 6)) (Shape.Idx.first numel1_S1.ge)) (View.ld x0 (Rect.unit (s := S16) ![(7 : Fin 16).val] S1.size (inbSink 7)) (Shape.Idx.first numel1_S1.ge)) (ix2 r l)
      = scrAt f x0 x1 x2 x3 x4 x5 x6 x7 R C := by
  have hr := r.isLt
  have hl := l.isLt
  exact (tile0_at 0 256 384 _ _ _ true prevAll (fun c => 128 ≤ R.val ∨ f = 0#1 ∨ 112 ≤ c.val) (maskAll R (by omega) f) _ _ _ _ _ _ _ _ _ 1 (by decide) (by decide) (by decide) r l ⟨l.val % 64, by omega⟩ rfl ⟨4 + l.val / 64, by omega⟩ rfl (x0 (ix1 ⟨4 + l.val / 64, by omega⟩))
      (by
        by_cases hlt : l.val < 64
        · rw [if_pos hlt]; exact (lds_at x0 4 _ (Fin.ext (by show 4 = 4 + l.val / 64; omega))).symm
        · rw [if_neg hlt]; exact (lds_at x0 5 _ (Fin.ext (by show 5 = 4 + l.val / 64; omega))).symm)).trans
    (scrAt_of f x0 x1 x2 x3 x4 x5 x6 x7 _ _ _ _ _ R C r (by omega) ⟨4 + l.val / 64, by omega⟩ (by show C.val / 64 = 4 + l.val / 64; omega) 1 (by show C.val / 256 = 1; omega) ⟨l.val % 64, by omega⟩ (by show C.val % 64 = l.val % 64; omega)
      (fun c => ldq_at x1 256 _ r c R hR)
      (fun c d => ldk_at x2 256 _ c d _ (by show 128 * (R.val / 128) + c.val = 256 + c.val; omega))
      (fun c d => ldk_at x5 256 _ c d _ (by show 128 * (R.val / 128) + c.val = 256 + c.val; omega))
      (fun c d => (ldk_at x2 128 _ c d ⟨128 + c.val, by omega⟩ rfl).trans (by unfold befAt; rw [if_pos (show 128 ≤ R.val by omega)]; exact congrArg (fun z => x2 (ix2 z d)) (Fin.ext (by show 128 + c.val = 128 * (R.val / 128) - 128 + c.val; omega))))
      (fun c d => (ldk_at x5 128 _ c d ⟨128 + c.val, by omega⟩ rfl).trans (by unfold befAt; rw [if_pos (show 128 ≤ R.val by omega)]; exact congrArg (fun z => x5 (ix2 z d)) (Fin.ext (by show 128 + c.val = 128 * (R.val / 128) - 128 + c.val; omega)))) _ rfl)

/-- Row tile 2, key head 0, pair 1: what the step stores there is the attention's row. -/
theorem piece_2_0_1 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 256 + r.val) (C : Fin 1024) (hC : C.val = 128 + l.val) :
    tile1 0 0 128 slices_S128x256_o0_0_S128x128 slices_S128x1024_o0_0_S128x128 slices_S128x1024_o0_128_S128x128 false prevAll
      (View.ld x1 (Rect.unit (s := S512x1024) ![256, 0] S128x1024.size inb_S512x1024_S128x1024_256_0)) (asIs (View.ld x2 (Rect.unit (s := S512x256) ![256, 0] S128x256.size inb_S512x256_S128x256_256_0))) (asIs (View.ld x5 (Rect.unit (s := S512x256) ![256, 0] S128x256.size inb_S512x256_S128x256_256_0))) (asIs (View.ld x2 (Rect.unit (s := S512x256) ![128, 0] S128x256.size inb_S512x256_S128x256_128_0))) (asIs (View.ld x5 (Rect.unit (s := S512x256) ![128, 0] S128x256.size inb_S512x256_S128x256_128_0))) (View.ld x0 (Rect.unit (s := S16) ![(0 : Fin 16).val] S1.size (inbSink 0)) (Shape.Idx.first numel1_S1.ge)) (View.ld x0 (Rect.unit (s := S16) ![(1 : Fin 16).val] S1.size (inbSink 1)) (Shape.Idx.first numel1_S1.ge)) (View.ld x0 (Rect.unit (s := S16) ![(2 : Fin 16).val] S1.size (inbSink 2)) (Shape.Idx.first numel1_S1.ge)) (View.ld x0 (Rect.unit (s := S16) ![(3 : Fin 16).val] S1.size (inbSink 3)) (Shape.Idx.first numel1_S1.ge)) (ix2 r l)
      = scrAt f x0 x1 x2 x3 x4 x5 x6 x7 R C := by
  have hr := r.isLt
  have hl := l.isLt
  exact (tile1_at 0 0 128 _ _ _ false prevAll (fun c => 128 ≤ R.val ∨ f = 0#1 ∨ 112 ≤ c.val) (maskAll R (by omega) f) _ _ _ _ _ _ _ _ _ 0 (by decide) (by decide) (by decide) r l ⟨l.val % 64, by omega⟩ rfl ⟨2 + l.val / 64, by omega⟩ rfl (x0 (ix1 ⟨2 + l.val / 64, by omega⟩))
      (by
        by_cases hlt : l.val < 64
        · rw [if_pos hlt]; exact (lds_at x0 2 _ (Fin.ext (by show 2 = 2 + l.val / 64; omega))).symm
        · rw [if_neg hlt]; exact (lds_at x0 3 _ (Fin.ext (by show 3 = 2 + l.val / 64; omega))).symm)).trans
    (scrAt_of f x0 x1 x2 x3 x4 x5 x6 x7 _ _ _ _ _ R C r (by omega) ⟨2 + l.val / 64, by omega⟩ (by show C.val / 64 = 2 + l.val / 64; omega) 0 (by show C.val / 256 = 0; omega) ⟨l.val % 64, by omega⟩ (by show C.val % 64 = l.val % 64; omega)
      (fun c => ldq_at x1 256 _ r c R hR)
      (fun c d => ldk_at x2 256 _ c d _ (by show 128 * (R.val / 128) + c.val = 256 + c.val; omega))
      (fun c d => ldk_at x5 256 _ c d _ (by show 128 * (R.val / 128) + c.val = 256 + c.val; omega))
      (fun c d => (ldk_at x2 128 _ c d ⟨128 + c.val, by omega⟩ rfl).trans (by unfold befAt; rw [if_pos (show 128 ≤ R.val by omega)]; exact congrArg (fun z => x2 (ix2 z d)) (Fin.ext (by show 128 + c.val = 128 * (R.val / 128) - 128 + c.val; omega))))
      (fun c d => (ldk_at x5 128 _ c d ⟨128 + c.val, by omega⟩ rfl).trans (by unfold befAt; rw [if_pos (show 128 ≤ R.val by omega)]; exact congrArg (fun z => x5 (ix2 z d)) (Fin.ext (by show 128 + c.val = 128 * (R.val / 128) - 128 + c.val; omega)))) _ rfl)

/-- Row tile 2, key head 0, pair 0: what the step stores there is the attention's row. -/
theorem piece_2_0_0 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 256 + r.val) (C : Fin 1024) (hC : C.val = 0 + l.val) :
    tile0 0 0 128 slices_S128x256_o0_0_S128x128 slices_S128x1024_o0_0_S128x128 slices_S128x1024_o0_128_S128x128 false prevAll
      (View.ld x1 (Rect.unit (s := S512x1024) ![256, 0] S128x1024.size inb_S512x1024_S128x1024_256_0)) (asIs (View.ld x2 (Rect.unit (s := S512x256) ![256, 0] S128x256.size inb_S512x256_S128x256_256_0))) (asIs (View.ld x5 (Rect.unit (s := S512x256) ![256, 0] S128x256.size inb_S512x256_S128x256_256_0))) (asIs (View.ld x2 (Rect.unit (s := S512x256) ![128, 0] S128x256.size inb_S512x256_S128x256_128_0))) (asIs (View.ld x5 (Rect.unit (s := S512x256) ![128, 0] S128x256.size inb_S512x256_S128x256_128_0))) (View.ld x0 (Rect.unit (s := S16) ![(0 : Fin 16).val] S1.size (inbSink 0)) (Shape.Idx.first numel1_S1.ge)) (View.ld x0 (Rect.unit (s := S16) ![(1 : Fin 16).val] S1.size (inbSink 1)) (Shape.Idx.first numel1_S1.ge)) (View.ld x0 (Rect.unit (s := S16) ![(2 : Fin 16).val] S1.size (inbSink 2)) (Shape.Idx.first numel1_S1.ge)) (View.ld x0 (Rect.unit (s := S16) ![(3 : Fin 16).val] S1.size (inbSink 3)) (Shape.Idx.first numel1_S1.ge)) (ix2 r l)
      = scrAt f x0 x1 x2 x3 x4 x5 x6 x7 R C := by
  have hr := r.isLt
  have hl := l.isLt
  exact (tile0_at 0 0 128 _ _ _ false prevAll (fun c => 128 ≤ R.val ∨ f = 0#1 ∨ 112 ≤ c.val) (maskAll R (by omega) f) _ _ _ _ _ _ _ _ _ 0 (by decide) (by decide) (by decide) r l ⟨l.val % 64, by omega⟩ rfl ⟨0 + l.val / 64, by omega⟩ rfl (x0 (ix1 ⟨0 + l.val / 64, by omega⟩))
      (by
        by_cases hlt : l.val < 64
        · rw [if_pos hlt]; exact (lds_at x0 0 _ (Fin.ext (by show 0 = 0 + l.val / 64; omega))).symm
        · rw [if_neg hlt]; exact (lds_at x0 1 _ (Fin.ext (by show 1 = 0 + l.val / 64; omega))).symm)).trans
    (scrAt_of f x0 x1 x2 x3 x4 x5 x6 x7 _ _ _ _ _ R C r (by omega) ⟨0 + l.val / 64, by omega⟩ (by show C.val / 64 = 0 + l.val / 64; omega) 0 (by show C.val / 256 = 0; omega) ⟨l.val % 64, by omega⟩ (by show C.val % 64 = l.val % 64; omega)
      (fun c => ldq_at x1 256 _ r c R hR)
      (fun c d => ldk_at x2 256 _ c d _ (by show 128 * (R.val / 128) + c.val = 256 + c.val; omega))
      (fun c d => ldk_at x5 256 _ c d _ (by show 128 * (R.val / 128) + c.val = 256 + c.val; omega))
      (fun c d => (ldk_at x2 128 _ c d ⟨128 + c.val, by omega⟩ rfl).trans (by unfold befAt; rw [if_pos (show 128 ≤ R.val by omega)]; exact congrArg (fun z => x2 (ix2 z d)) (Fin.ext (by show 128 + c.val = 128 * (R.val / 128) - 128 + c.val; omega))))
      (fun c d => (ldk_at x5 128 _ c d ⟨128 + c.val, by omega⟩ rfl).trans (by unfold befAt; rw [if_pos (show 128 ≤ R.val by omega)]; exact congrArg (fun z => x5 (ix2 z d)) (Fin.ext (by show 128 + c.val = 128 * (R.val / 128) - 128 + c.val; omega)))) _ rfl)

/-- Row tile 1, key head 3, pair 1: what the step stores there is the attention's row. -/
theorem piece_1_3_1 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 128 + r.val) (C : Fin 1024) (hC : C.val = 896 + l.val) :
    tile1 128 768 896 slices_S128x256_o0_128_S128x128 slices_S128x1024_o0_768_S128x128 slices_S128x1024_o0_896_S128x128 true prevAll
      (View.ld x1 (Rect.unit (s := S512x1024) ![128, 0] S128x1024.size inb_S512x1024_S128x1024_128_0)) (asIs (View.ld x2 (Rect.unit (s := S512x256) ![128, 0] S128x256.size inb_S512x256_S128x256_128_0))) (asIs (View.ld x5 (Rect.unit (s := S512x256) ![128, 0] S128x256.size inb_S512x256_S128x256_128_0))) (asIs (View.ld x2 (Rect.unit (s := S512x256) ![0, 0] S128x256.size inb_S512x256_S128x256_0_0))) (asIs (View.ld x5 (Rect.unit (s := S512x256) ![0, 0] S128x256.size inb_S512x256_S128x256_0_0))) (View.ld x0 (Rect.unit (s := S16) ![(12 : Fin 16).val] S1.size (inbSink 12)) (Shape.Idx.first numel1_S1.ge)) (View.ld x0 (Rect.unit (s := S16) ![(13 : Fin 16).val] S1.size (inbSink 13)) (Shape.Idx.first numel1_S1.ge)) (View.ld x0 (Rect.unit (s := S16) ![(14 : Fin 16).val] S1.size (inbSink 14)) (Shape.Idx.first numel1_S1.ge)) (View.ld x0 (Rect.unit (s := S16) ![(15 : Fin 16).val] S1.size (inbSink 15)) (Shape.Idx.first numel1_S1.ge)) (ix2 r l)
      = scrAt f x0 x1 x2 x3 x4 x5 x6 x7 R C := by
  have hr := r.isLt
  have hl := l.isLt
  exact (tile1_at 128 768 896 _ _ _ true prevAll (fun c => 128 ≤ R.val ∨ f = 0#1 ∨ 112 ≤ c.val) (maskAll R (by omega) f) _ _ _ _ _ _ _ _ _ 3 (by decide) (by decide) (by decide) r l ⟨l.val % 64, by omega⟩ rfl ⟨14 + l.val / 64, by omega⟩ rfl (x0 (ix1 ⟨14 + l.val / 64, by omega⟩))
      (by
        by_cases hlt : l.val < 64
        · rw [if_pos hlt]; exact (lds_at x0 14 _ (Fin.ext (by show 14 = 14 + l.val / 64; omega))).symm
        · rw [if_neg hlt]; exact (lds_at x0 15 _ (Fin.ext (by show 15 = 14 + l.val / 64; omega))).symm)).trans
    (scrAt_of f x0 x1 x2 x3 x4 x5 x6 x7 _ _ _ _ _ R C r (by omega) ⟨14 + l.val / 64, by omega⟩ (by show C.val / 64 = 14 + l.val / 64; omega) 3 (by show C.val / 256 = 3; omega) ⟨l.val % 64, by omega⟩ (by show C.val % 64 = l.val % 64; omega)
      (fun c => ldq_at x1 128 _ r c R hR)
      (fun c d => ldk_at x2 128 _ c d _ (by show 128 * (R.val / 128) + c.val = 128 + c.val; omega))
      (fun c d => ldk_at x5 128 _ c d _ (by show 128 * (R.val / 128) + c.val = 128 + c.val; omega))
      (fun c d => (ldk_at x2 0 _ c d ⟨0 + c.val, by omega⟩ rfl).trans (by unfold befAt; rw [if_pos (show 128 ≤ R.val by omega)]; exact congrArg (fun z => x2 (ix2 z d)) (Fin.ext (by show 0 + c.val = 128 * (R.val / 128) - 128 + c.val; omega))))
      (fun c d => (ldk_at x5 0 _ c d ⟨0 + c.val, by omega⟩ rfl).trans (by unfold befAt; rw [if_pos (show 128 ≤ R.val by omega)]; exact congrArg (fun z => x5 (ix2 z d)) (Fin.ext (by show 0 + c.val = 128 * (R.val / 128) - 128 + c.val; omega)))) _ rfl)

/-- Row tile 1, key head 3, pair 0: what the step stores there is the attention's row. -/
theorem piece_1_3_0 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 128 + r.val) (C : Fin 1024) (hC : C.val = 768 + l.val) :
    tile0 128 768 896 slices_S128x256_o0_128_S128x128 slices_S128x1024_o0_768_S128x128 slices_S128x1024_o0_896_S128x128 true prevAll
      (View.ld x1 (Rect.unit (s := S512x1024) ![128, 0] S128x1024.size inb_S512x1024_S128x1024_128_0)) (asIs (View.ld x2 (Rect.unit (s := S512x256) ![128, 0] S128x256.size inb_S512x256_S128x256_128_0))) (asIs (View.ld x5 (Rect.unit (s := S512x256) ![128, 0] S128x256.size inb_S512x256_S128x256_128_0))) (asIs (View.ld x2 (Rect.unit (s := S512x256) ![0, 0] S128x256.size inb_S512x256_S128x256_0_0))) (asIs (View.ld x5 (Rect.unit (s := S512x256) ![0, 0] S128x256.size inb_S512x256_S128x256_0_0))) (View.ld x0 (Rect.unit (s := S16) ![(12 : Fin 16).val] S1.size (inbSink 12)) (Shape.Idx.first numel1_S1.ge)) (View.ld x0 (Rect.unit (s := S16) ![(13 : Fin 16).val] S1.size (inbSink 13)) (Shape.Idx.first numel1_S1.ge)) (View.ld x0 (Rect.unit (s := S16) ![(14 : Fin 16).val] S1.size (inbSink 14)) (Shape.Idx.first numel1_S1.ge)) (View.ld x0 (Rect.unit (s := S16) ![(15 : Fin 16).val] S1.size (inbSink 15)) (Shape.Idx.first numel1_S1.ge)) (ix2 r l)
      = scrAt f x0 x1 x2 x3 x4 x5 x6 x7 R C := by
  have hr := r.isLt
  have hl := l.isLt
  exact (tile0_at 128 768 896 _ _ _ true prevAll (fun c => 128 ≤ R.val ∨ f = 0#1 ∨ 112 ≤ c.val) (maskAll R (by omega) f) _ _ _ _ _ _ _ _ _ 3 (by decide) (by decide) (by decide) r l ⟨l.val % 64, by omega⟩ rfl ⟨12 + l.val / 64, by omega⟩ rfl (x0 (ix1 ⟨12 + l.val / 64, by omega⟩))
      (by
        by_cases hlt : l.val < 64
        · rw [if_pos hlt]; exact (lds_at x0 12 _ (Fin.ext (by show 12 = 12 + l.val / 64; omega))).symm
        · rw [if_neg hlt]; exact (lds_at x0 13 _ (Fin.ext (by show 13 = 12 + l.val / 64; omega))).symm)).trans
    (scrAt_of f x0 x1 x2 x3 x4 x5 x6 x7 _ _ _ _ _ R C r (by omega) ⟨12 + l.val / 64, by omega⟩ (by show C.val / 64 = 12 + l.val / 64; omega) 3 (by show C.val / 256 = 3; omega) ⟨l.val % 64, by omega⟩ (by show C.val % 64 = l.val % 64; omega)
      (fun c => ldq_at x1 128 _ r c R hR)
      (fun c d => ldk_at x2 128 _ c d _ (by show 128 * (R.val / 128) + c.val = 128 + c.val; omega))
      (fun c d => ldk_at x5 128 _ c d _ (by show 128 * (R.val / 128) + c.val = 128 + c.val; omega))
      (fun c d => (ldk_at x2 0 _ c d ⟨0 + c.val, by omega⟩ rfl).trans (by unfold befAt; rw [if_pos (show 128 ≤ R.val by omega)]; exact congrArg (fun z => x2 (ix2 z d)) (Fin.ext (by show 0 + c.val = 128 * (R.val / 128) - 128 + c.val; omega))))
      (fun c d => (ldk_at x5 0 _ c d ⟨0 + c.val, by omega⟩ rfl).trans (by unfold befAt; rw [if_pos (show 128 ≤ R.val by omega)]; exact congrArg (fun z => x5 (ix2 z d)) (Fin.ext (by show 0 + c.val = 128 * (R.val / 128) - 128 + c.val; omega)))) _ rfl)

/-- Row tile 1, key head 2, pair 1: what the step stores there is the attention's row. -/
theorem piece_1_2_1 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 128 + r.val) (C : Fin 1024) (hC : C.val = 640 + l.val) :
    tile1 128 512 640 slices_S128x256_o0_128_S128x128 slices_S128x1024_o0_512_S128x128 slices_S128x1024_o0_640_S128x128 false prevAll
      (View.ld x1 (Rect.unit (s := S512x1024) ![128, 0] S128x1024.size inb_S512x1024_S128x1024_128_0)) (asIs (View.ld x2 (Rect.unit (s := S512x256) ![128, 0] S128x256.size inb_S512x256_S128x256_128_0))) (asIs (View.ld x5 (Rect.unit (s := S512x256) ![128, 0] S128x256.size inb_S512x256_S128x256_128_0))) (asIs (View.ld x2 (Rect.unit (s := S512x256) ![0, 0] S128x256.size inb_S512x256_S128x256_0_0))) (asIs (View.ld x5 (Rect.unit (s := S512x256) ![0, 0] S128x256.size inb_S512x256_S128x256_0_0))) (View.ld x0 (Rect.unit (s := S16) ![(8 : Fin 16).val] S1.size (inbSink 8)) (Shape.Idx.first numel1_S1.ge)) (View.ld x0 (Rect.unit (s := S16) ![(9 : Fin 16).val] S1.size (inbSink 9)) (Shape.Idx.first numel1_S1.ge)) (View.ld x0 (Rect.unit (s := S16) ![(10 : Fin 16).val] S1.size (inbSink 10)) (Shape.Idx.first numel1_S1.ge)) (View.ld x0 (Rect.unit (s := S16) ![(11 : Fin 16).val] S1.size (inbSink 11)) (Shape.Idx.first numel1_S1.ge)) (ix2 r l)
      = scrAt f x0 x1 x2 x3 x4 x5 x6 x7 R C := by
  have hr := r.isLt
  have hl := l.isLt
  exact (tile1_at 128 512 640 _ _ _ false prevAll (fun c => 128 ≤ R.val ∨ f = 0#1 ∨ 112 ≤ c.val) (maskAll R (by omega) f) _ _ _ _ _ _ _ _ _ 2 (by decide) (by decide) (by decide) r l ⟨l.val % 64, by omega⟩ rfl ⟨10 + l.val / 64, by omega⟩ rfl (x0 (ix1 ⟨10 + l.val / 64, by omega⟩))
      (by
        by_cases hlt : l.val < 64
        · rw [if_pos hlt]; exact (lds_at x0 10 _ (Fin.ext (by show 10 = 10 + l.val / 64; omega))).symm
        · rw [if_neg hlt]; exact (lds_at x0 11 _ (Fin.ext (by show 11 = 10 + l.val / 64; omega))).symm)).trans
    (scrAt_of f x0 x1 x2 x3 x4 x5 x6 x7 _ _ _ _ _ R C r (by omega) ⟨10 + l.val / 64, by omega⟩ (by show C.val / 64 = 10 + l.val / 64; omega) 2 (by show C.val / 256 = 2; omega) ⟨l.val % 64, by omega⟩ (by show C.val % 64 = l.val % 64; omega)
      (fun c => ldq_at x1 128 _ r c R hR)
      (fun c d => ldk_at x2 128 _ c d _ (by show 128 * (R.val / 128) + c.val = 128 + c.val; omega))
      (fun c d => ldk_at x5 128 _ c d _ (by show 128 * (R.val / 128) + c.val = 128 + c.val; omega))
      (fun c d => (ldk_at x2 0 _ c d ⟨0 + c.val, by omega⟩ rfl).trans (by unfold befAt; rw [if_pos (show 128 ≤ R.val by omega)]; exact congrArg (fun z => x2 (ix2 z d)) (Fin.ext (by show 0 + c.val = 128 * (R.val / 128) - 128 + c.val; omega))))
      (fun c d => (ldk_at x5 0 _ c d ⟨0 + c.val, by omega⟩ rfl).trans (by unfold befAt; rw [if_pos (show 128 ≤ R.val by omega)]; exact congrArg (fun z => x5 (ix2 z d)) (Fin.ext (by show 0 + c.val = 128 * (R.val / 128) - 128 + c.val; omega)))) _ rfl)

/-- Row tile 1, key head 2, pair 0: what the step stores there is the attention's row. -/
theorem piece_1_2_0 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 128 + r.val) (C : Fin 1024) (hC : C.val = 512 + l.val) :
    tile0 128 512 640 slices_S128x256_o0_128_S128x128 slices_S128x1024_o0_512_S128x128 slices_S128x1024_o0_640_S128x128 false prevAll
      (View.ld x1 (Rect.unit (s := S512x1024) ![128, 0] S128x1024.size inb_S512x1024_S128x1024_128_0)) (asIs (View.ld x2 (Rect.unit (s := S512x256) ![128, 0] S128x256.size inb_S512x256_S128x256_128_0))) (asIs (View.ld x5 (Rect.unit (s := S512x256) ![128, 0] S128x256.size inb_S512x256_S128x256_128_0))) (asIs (View.ld x2 (Rect.unit (s := S512x256) ![0, 0] S128x256.size inb_S512x256_S128x256_0_0))) (asIs (View.ld x5 (Rect.unit (s := S512x256) ![0, 0] S128x256.size inb_S512x256_S128x256_0_0))) (View.ld x0 (Rect.unit (s := S16) ![(8 : Fin 16).val] S1.size (inbSink 8)) (Shape.Idx.first numel1_S1.ge)) (View.ld x0 (Rect.unit (s := S16) ![(9 : Fin 16).val] S1.size (inbSink 9)) (Shape.Idx.first numel1_S1.ge)) (View.ld x0 (Rect.unit (s := S16) ![(10 : Fin 16).val] S1.size (inbSink 10)) (Shape.Idx.first numel1_S1.ge)) (View.ld x0 (Rect.unit (s := S16) ![(11 : Fin 16).val] S1.size (inbSink 11)) (Shape.Idx.first numel1_S1.ge)) (ix2 r l)
      = scrAt f x0 x1 x2 x3 x4 x5 x6 x7 R C := by
  have hr := r.isLt
  have hl := l.isLt
  exact (tile0_at 128 512 640 _ _ _ false prevAll (fun c => 128 ≤ R.val ∨ f = 0#1 ∨ 112 ≤ c.val) (maskAll R (by omega) f) _ _ _ _ _ _ _ _ _ 2 (by decide) (by decide) (by decide) r l ⟨l.val % 64, by omega⟩ rfl ⟨8 + l.val / 64, by omega⟩ rfl (x0 (ix1 ⟨8 + l.val / 64, by omega⟩))
      (by
        by_cases hlt : l.val < 64
        · rw [if_pos hlt]; exact (lds_at x0 8 _ (Fin.ext (by show 8 = 8 + l.val / 64; omega))).symm
        · rw [if_neg hlt]; exact (lds_at x0 9 _ (Fin.ext (by show 9 = 8 + l.val / 64; omega))).symm)).trans
    (scrAt_of f x0 x1 x2 x3 x4 x5 x6 x7 _ _ _ _ _ R C r (by omega) ⟨8 + l.val / 64, by omega⟩ (by show C.val / 64 = 8 + l.val / 64; omega) 2 (by show C.val / 256 = 2; omega) ⟨l.val % 64, by omega⟩ (by show C.val % 64 = l.val % 64; omega)
      (fun c => ldq_at x1 128 _ r c R hR)
      (fun c d => ldk_at x2 128 _ c d _ (by show 128 * (R.val / 128) + c.val = 128 + c.val; omega))
      (fun c d => ldk_at x5 128 _ c d _ (by show 128 * (R.val / 128) + c.val = 128 + c.val; omega))
      (fun c d => (ldk_at x2 0 _ c d ⟨0 + c.val, by omega⟩ rfl).trans (by unfold befAt; rw [if_pos (show 128 ≤ R.val by omega)]; exact congrArg (fun z => x2 (ix2 z d)) (Fin.ext (by show 0 + c.val = 128 * (R.val / 128) - 128 + c.val; omega))))
      (fun c d => (ldk_at x5 0 _ c d ⟨0 + c.val, by omega⟩ rfl).trans (by unfold befAt; rw [if_pos (show 128 ≤ R.val by omega)]; exact congrArg (fun z => x5 (ix2 z d)) (Fin.ext (by show 0 + c.val = 128 * (R.val / 128) - 128 + c.val; omega)))) _ rfl)

/-- Row tile 1, key head 1, pair 1: what the step stores there is the attention's row. -/
theorem piece_1_1_1 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 128 + r.val) (C : Fin 1024) (hC : C.val = 384 + l.val) :
    tile1 0 256 384 slices_S128x256_o0_0_S128x128 slices_S128x1024_o0_256_S128x128 slices_S128x1024_o0_384_S128x128 true prevAll
      (View.ld x1 (Rect.unit (s := S512x1024) ![128, 0] S128x1024.size inb_S512x1024_S128x1024_128_0)) (asIs (View.ld x2 (Rect.unit (s := S512x256) ![128, 0] S128x256.size inb_S512x256_S128x256_128_0))) (asIs (View.ld x5 (Rect.unit (s := S512x256) ![128, 0] S128x256.size inb_S512x256_S128x256_128_0))) (asIs (View.ld x2 (Rect.unit (s := S512x256) ![0, 0] S128x256.size inb_S512x256_S128x256_0_0))) (asIs (View.ld x5 (Rect.unit (s := S512x256) ![0, 0] S128x256.size inb_S512x256_S128x256_0_0))) (View.ld x0 (Rect.unit (s := S16) ![(4 : Fin 16).val] S1.size (inbSink 4)) (Shape.Idx.first numel1_S1.ge)) (View.ld x0 (Rect.unit (s := S16) ![(5 : Fin 16).val] S1.size (inbSink 5)) (Shape.Idx.first numel1_S1.ge)) (View.ld x0 (Rect.unit (s := S16) ![(6 : Fin 16).val] S1.size (inbSink 6)) (Shape.Idx.first numel1_S1.ge)) (View.ld x0 (Rect.unit (s := S16) ![(7 : Fin 16).val] S1.size (inbSink 7)) (Shape.Idx.first numel1_S1.ge)) (ix2 r l)
      = scrAt f x0 x1 x2 x3 x4 x5 x6 x7 R C := by
  have hr := r.isLt
  have hl := l.isLt
  exact (tile1_at 0 256 384 _ _ _ true prevAll (fun c => 128 ≤ R.val ∨ f = 0#1 ∨ 112 ≤ c.val) (maskAll R (by omega) f) _ _ _ _ _ _ _ _ _ 1 (by decide) (by decide) (by decide) r l ⟨l.val % 64, by omega⟩ rfl ⟨6 + l.val / 64, by omega⟩ rfl (x0 (ix1 ⟨6 + l.val / 64, by omega⟩))
      (by
        by_cases hlt : l.val < 64
        · rw [if_pos hlt]; exact (lds_at x0 6 _ (Fin.ext (by show 6 = 6 + l.val / 64; omega))).symm
        · rw [if_neg hlt]; exact (lds_at x0 7 _ (Fin.ext (by show 7 = 6 + l.val / 64; omega))).symm)).trans
    (scrAt_of f x0 x1 x2 x3 x4 x5 x6 x7 _ _ _ _ _ R C r (by omega) ⟨6 + l.val / 64, by omega⟩ (by show C.val / 64 = 6 + l.val / 64; omega) 1 (by show C.val / 256 = 1; omega) ⟨l.val % 64, by omega⟩ (by show C.val % 64 = l.val % 64; omega)
      (fun c => ldq_at x1 128 _ r c R hR)
      (fun c d => ldk_at x2 128 _ c d _ (by show 128 * (R.val / 128) + c.val = 128 + c.val; omega))
      (fun c d => ldk_at x5 128 _ c d _ (by show 128 * (R.val / 128) + c.val = 128 + c.val; omega))
      (fun c d => (ldk_at x2 0 _ c d ⟨0 + c.val, by omega⟩ rfl).trans (by unfold befAt; rw [if_pos (show 128 ≤ R.val by omega)]; exact congrArg (fun z => x2 (ix2 z d)) (Fin.ext (by show 0 + c.val = 128 * (R.val / 128) - 128 + c.val; omega))))
      (fun c d => (ldk_at x5 0 _ c d ⟨0 + c.val, by omega⟩ rfl).trans (by unfold befAt; rw [if_pos (show 128 ≤ R.val by omega)]; exact congrArg (fun z => x5 (ix2 z d)) (Fin.ext (by show 0 + c.val = 128 * (R.val / 128) - 128 + c.val; omega)))) _ rfl)

/-- Row tile 1, key head 1, pair 0: what the step stores there is the attention's row. -/
theorem piece_1_1_0 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 128 + r.val) (C : Fin 1024) (hC : C.val = 256 + l.val) :
    tile0 0 256 384 slices_S128x256_o0_0_S128x128 slices_S128x1024_o0_256_S128x128 slices_S128x1024_o0_384_S128x128 true prevAll
      (View.ld x1 (Rect.unit (s := S512x1024) ![128, 0] S128x1024.size inb_S512x1024_S128x1024_128_0)) (asIs (View.ld x2 (Rect.unit (s := S512x256) ![128, 0] S128x256.size inb_S512x256_S128x256_128_0))) (asIs (View.ld x5 (Rect.unit (s := S512x256) ![128, 0] S128x256.size inb_S512x256_S128x256_128_0))) (asIs (View.ld x2 (Rect.unit (s := S512x256) ![0, 0] S128x256.size inb_S512x256_S128x256_0_0))) (asIs (View.ld x5 (Rect.unit (s := S512x256) ![0, 0] S128x256.size inb_S512x256_S128x256_0_0))) (View.ld x0 (Rect.unit (s := S16) ![(4 : Fin 16).val] S1.size (inbSink 4)) (Shape.Idx.first numel1_S1.ge)) (View.ld x0 (Rect.unit (s := S16) ![(5 : Fin 16).val] S1.size (inbSink 5)) (Shape.Idx.first numel1_S1.ge)) (View.ld x0 (Rect.unit (s := S16) ![(6 : Fin 16).val] S1.size (inbSink 6)) (Shape.Idx.first numel1_S1.ge)) (View.ld x0 (Rect.unit (s := S16) ![(7 : Fin 16).val] S1.size (inbSink 7)) (Shape.Idx.first numel1_S1.ge)) (ix2 r l)
      = scrAt f x0 x1 x2 x3 x4 x5 x6 x7 R C := by
  have hr := r.isLt
  have hl := l.isLt
  exact (tile0_at 0 256 384 _ _ _ true prevAll (fun c => 128 ≤ R.val ∨ f = 0#1 ∨ 112 ≤ c.val) (maskAll R (by omega) f) _ _ _ _ _ _ _ _ _ 1 (by decide) (by decide) (by decide) r l ⟨l.val % 64, by omega⟩ rfl ⟨4 + l.val / 64, by omega⟩ rfl (x0 (ix1 ⟨4 + l.val / 64, by omega⟩))
      (by
        by_cases hlt : l.val < 64
        · rw [if_pos hlt]; exact (lds_at x0 4 _ (Fin.ext (by show 4 = 4 + l.val / 64; omega))).symm
        · rw [if_neg hlt]; exact (lds_at x0 5 _ (Fin.ext (by show 5 = 4 + l.val / 64; omega))).symm)).trans
    (scrAt_of f x0 x1 x2 x3 x4 x5 x6 x7 _ _ _ _ _ R C r (by omega) ⟨4 + l.val / 64, by omega⟩ (by show C.val / 64 = 4 + l.val / 64; omega) 1 (by show C.val / 256 = 1; omega) ⟨l.val % 64, by omega⟩ (by show C.val % 64 = l.val % 64; omega)
      (fun c => ldq_at x1 128 _ r c R hR)
      (fun c d => ldk_at x2 128 _ c d _ (by show 128 * (R.val / 128) + c.val = 128 + c.val; omega))
      (fun c d => ldk_at x5 128 _ c d _ (by show 128 * (R.val / 128) + c.val = 128 + c.val; omega))
      (fun c d => (ldk_at x2 0 _ c d ⟨0 + c.val, by omega⟩ rfl).trans (by unfold befAt; rw [if_pos (show 128 ≤ R.val by omega)]; exact congrArg (fun z => x2 (ix2 z d)) (Fin.ext (by show 0 + c.val = 128 * (R.val / 128) - 128 + c.val; omega))))
      (fun c d => (ldk_at x5 0 _ c d ⟨0 + c.val, by omega⟩ rfl).trans (by unfold befAt; rw [if_pos (show 128 ≤ R.val by omega)]; exact congrArg (fun z => x5 (ix2 z d)) (Fin.ext (by show 0 + c.val = 128 * (R.val / 128) - 128 + c.val; omega)))) _ rfl)

/-- Row tile 1, key head 0, pair 1: what the step stores there is the attention's row. -/
theorem piece_1_0_1 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 128 + r.val) (C : Fin 1024) (hC : C.val = 128 + l.val) :
    tile1 0 0 128 slices_S128x256_o0_0_S128x128 slices_S128x1024_o0_0_S128x128 slices_S128x1024_o0_128_S128x128 false prevAll
      (View.ld x1 (Rect.unit (s := S512x1024) ![128, 0] S128x1024.size inb_S512x1024_S128x1024_128_0)) (asIs (View.ld x2 (Rect.unit (s := S512x256) ![128, 0] S128x256.size inb_S512x256_S128x256_128_0))) (asIs (View.ld x5 (Rect.unit (s := S512x256) ![128, 0] S128x256.size inb_S512x256_S128x256_128_0))) (asIs (View.ld x2 (Rect.unit (s := S512x256) ![0, 0] S128x256.size inb_S512x256_S128x256_0_0))) (asIs (View.ld x5 (Rect.unit (s := S512x256) ![0, 0] S128x256.size inb_S512x256_S128x256_0_0))) (View.ld x0 (Rect.unit (s := S16) ![(0 : Fin 16).val] S1.size (inbSink 0)) (Shape.Idx.first numel1_S1.ge)) (View.ld x0 (Rect.unit (s := S16) ![(1 : Fin 16).val] S1.size (inbSink 1)) (Shape.Idx.first numel1_S1.ge)) (View.ld x0 (Rect.unit (s := S16) ![(2 : Fin 16).val] S1.size (inbSink 2)) (Shape.Idx.first numel1_S1.ge)) (View.ld x0 (Rect.unit (s := S16) ![(3 : Fin 16).val] S1.size (inbSink 3)) (Shape.Idx.first numel1_S1.ge)) (ix2 r l)
      = scrAt f x0 x1 x2 x3 x4 x5 x6 x7 R C := by
  have hr := r.isLt
  have hl := l.isLt
  exact (tile1_at 0 0 128 _ _ _ false prevAll (fun c => 128 ≤ R.val ∨ f = 0#1 ∨ 112 ≤ c.val) (maskAll R (by omega) f) _ _ _ _ _ _ _ _ _ 0 (by decide) (by decide) (by decide) r l ⟨l.val % 64, by omega⟩ rfl ⟨2 + l.val / 64, by omega⟩ rfl (x0 (ix1 ⟨2 + l.val / 64, by omega⟩))
      (by
        by_cases hlt : l.val < 64
        · rw [if_pos hlt]; exact (lds_at x0 2 _ (Fin.ext (by show 2 = 2 + l.val / 64; omega))).symm
        · rw [if_neg hlt]; exact (lds_at x0 3 _ (Fin.ext (by show 3 = 2 + l.val / 64; omega))).symm)).trans
    (scrAt_of f x0 x1 x2 x3 x4 x5 x6 x7 _ _ _ _ _ R C r (by omega) ⟨2 + l.val / 64, by omega⟩ (by show C.val / 64 = 2 + l.val / 64; omega) 0 (by show C.val / 256 = 0; omega) ⟨l.val % 64, by omega⟩ (by show C.val % 64 = l.val % 64; omega)
      (fun c => ldq_at x1 128 _ r c R hR)
      (fun c d => ldk_at x2 128 _ c d _ (by show 128 * (R.val / 128) + c.val = 128 + c.val; omega))
      (fun c d => ldk_at x5 128 _ c d _ (by show 128 * (R.val / 128) + c.val = 128 + c.val; omega))
      (fun c d => (ldk_at x2 0 _ c d ⟨0 + c.val, by omega⟩ rfl).trans (by unfold befAt; rw [if_pos (show 128 ≤ R.val by omega)]; exact congrArg (fun z => x2 (ix2 z d)) (Fin.ext (by show 0 + c.val = 128 * (R.val / 128) - 128 + c.val; omega))))
      (fun c d => (ldk_at x5 0 _ c d ⟨0 + c.val, by omega⟩ rfl).trans (by unfold befAt; rw [if_pos (show 128 ≤ R.val by omega)]; exact congrArg (fun z => x5 (ix2 z d)) (Fin.ext (by show 0 + c.val = 128 * (R.val / 128) - 128 + c.val; omega)))) _ rfl)

/-- Row tile 1, key head 0, pair 0: what the step stores there is the attention's row. -/
theorem piece_1_0_0 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 128 + r.val) (C : Fin 1024) (hC : C.val = 0 + l.val) :
    tile0 0 0 128 slices_S128x256_o0_0_S128x128 slices_S128x1024_o0_0_S128x128 slices_S128x1024_o0_128_S128x128 false prevAll
      (View.ld x1 (Rect.unit (s := S512x1024) ![128, 0] S128x1024.size inb_S512x1024_S128x1024_128_0)) (asIs (View.ld x2 (Rect.unit (s := S512x256) ![128, 0] S128x256.size inb_S512x256_S128x256_128_0))) (asIs (View.ld x5 (Rect.unit (s := S512x256) ![128, 0] S128x256.size inb_S512x256_S128x256_128_0))) (asIs (View.ld x2 (Rect.unit (s := S512x256) ![0, 0] S128x256.size inb_S512x256_S128x256_0_0))) (asIs (View.ld x5 (Rect.unit (s := S512x256) ![0, 0] S128x256.size inb_S512x256_S128x256_0_0))) (View.ld x0 (Rect.unit (s := S16) ![(0 : Fin 16).val] S1.size (inbSink 0)) (Shape.Idx.first numel1_S1.ge)) (View.ld x0 (Rect.unit (s := S16) ![(1 : Fin 16).val] S1.size (inbSink 1)) (Shape.Idx.first numel1_S1.ge)) (View.ld x0 (Rect.unit (s := S16) ![(2 : Fin 16).val] S1.size (inbSink 2)) (Shape.Idx.first numel1_S1.ge)) (View.ld x0 (Rect.unit (s := S16) ![(3 : Fin 16).val] S1.size (inbSink 3)) (Shape.Idx.first numel1_S1.ge)) (ix2 r l)
      = scrAt f x0 x1 x2 x3 x4 x5 x6 x7 R C := by
  have hr := r.isLt
  have hl := l.isLt
  exact (tile0_at 0 0 128 _ _ _ false prevAll (fun c => 128 ≤ R.val ∨ f = 0#1 ∨ 112 ≤ c.val) (maskAll R (by omega) f) _ _ _ _ _ _ _ _ _ 0 (by decide) (by decide) (by decide) r l ⟨l.val % 64, by omega⟩ rfl ⟨0 + l.val / 64, by omega⟩ rfl (x0 (ix1 ⟨0 + l.val / 64, by omega⟩))
      (by
        by_cases hlt : l.val < 64
        · rw [if_pos hlt]; exact (lds_at x0 0 _ (Fin.ext (by show 0 = 0 + l.val / 64; omega))).symm
        · rw [if_neg hlt]; exact (lds_at x0 1 _ (Fin.ext (by show 1 = 0 + l.val / 64; omega))).symm)).trans
    (scrAt_of f x0 x1 x2 x3 x4 x5 x6 x7 _ _ _ _ _ R C r (by omega) ⟨0 + l.val / 64, by omega⟩ (by show C.val / 64 = 0 + l.val / 64; omega) 0 (by show C.val / 256 = 0; omega) ⟨l.val % 64, by omega⟩ (by show C.val % 64 = l.val % 64; omega)
      (fun c => ldq_at x1 128 _ r c R hR)
      (fun c d => ldk_at x2 128 _ c d _ (by show 128 * (R.val / 128) + c.val = 128 + c.val; omega))
      (fun c d => ldk_at x5 128 _ c d _ (by show 128 * (R.val / 128) + c.val = 128 + c.val; omega))
      (fun c d => (ldk_at x2 0 _ c d ⟨0 + c.val, by omega⟩ rfl).trans (by unfold befAt; rw [if_pos (show 128 ≤ R.val by omega)]; exact congrArg (fun z => x2 (ix2 z d)) (Fin.ext (by show 0 + c.val = 128 * (R.val / 128) - 128 + c.val; omega))))
      (fun c d => (ldk_at x5 0 _ c d ⟨0 + c.val, by omega⟩ rfl).trans (by unfold befAt; rw [if_pos (show 128 ≤ R.val by omega)]; exact congrArg (fun z => x5 (ix2 z d)) (Fin.ext (by show 0 + c.val = 128 * (R.val / 128) - 128 + c.val; omega)))) _ rfl)

/-- Row tile 0, key head 3, pair 1: what the step stores there is the attention's row. -/
theorem piece_0_3_1 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 0 + r.val) (C : Fin 1024) (hC : C.val = 896 + l.val) :
    tile1 128 768 896 slices_S128x256_o0_128_S128x128 slices_S128x1024_o0_768_S128x128 slices_S128x1024_o0_896_S128x128 true (prevFirst f)
      (View.ld x1 (Rect.unit (s := S512x1024) ![0, 0] S128x1024.size inb_S512x1024_S128x1024_0_0)) (asIs (View.ld x2 (Rect.unit (s := S512x256) ![0, 0] S128x256.size inb_S512x256_S128x256_0_0))) (asIs (View.ld x5 (Rect.unit (s := S512x256) ![0, 0] S128x256.size inb_S512x256_S128x256_0_0))) (before f (View.ld x4 (Rect.unit (s := S1x128x256) ![0, 0, 0] S1x128x256.size inb_S1x128x256_S1x128x256_0_0_0)) (View.ld x3 (Rect.unit (s := S128x256) ![0, 0] S128x256.size inb_S128x256_S128x256_0_0))) (before f (View.ld x7 (Rect.unit (s := S1x128x256) ![0, 0, 0] S1x128x256.size inb_S1x128x256_S1x128x256_0_0_0)) (View.ld x6 (Rect.unit (s := S128x256) ![0, 0] S128x256.size inb_S128x256_S128x256_0_0))) (View.ld x0 (Rect.unit (s := S16) ![(12 : Fin 16).val] S1.size (inbSink 12)) (Shape.Idx.first numel1_S1.ge)) (View.ld x0 (Rect.unit (s := S16) ![(13 : Fin 16).val] S1.size (inbSink 13)) (Shape.Idx.first numel1_S1.ge)) (View.ld x0 (Rect.unit (s := S16) ![(14 : Fin 16).val] S1.size (inbSink 14)) (Shape.Idx.first numel1_S1.ge)) (View.ld x0 (Rect.unit (s := S16) ![(15 : Fin 16).val] S1.size (inbSink 15)) (Shape.Idx.first numel1_S1.ge)) (ix2 r l)
      = scrAt f x0 x1 x2 x3 x4 x5 x6 x7 R C := by
  have hr := r.isLt
  have hl := l.isLt
  exact (tile1_at 128 768 896 _ _ _ true (prevFirst f) (fun c => 128 ≤ R.val ∨ f = 0#1 ∨ 112 ≤ c.val) (maskFirst R (by omega) f) _ _ _ _ _ _ _ _ _ 3 (by decide) (by decide) (by decide) r l ⟨l.val % 64, by omega⟩ rfl ⟨14 + l.val / 64, by omega⟩ rfl (x0 (ix1 ⟨14 + l.val / 64, by omega⟩))
      (by
        by_cases hlt : l.val < 64
        · rw [if_pos hlt]; exact (lds_at x0 14 _ (Fin.ext (by show 14 = 14 + l.val / 64; omega))).symm
        · rw [if_neg hlt]; exact (lds_at x0 15 _ (Fin.ext (by show 15 = 14 + l.val / 64; omega))).symm)).trans
    (scrAt_of f x0 x1 x2 x3 x4 x5 x6 x7 _ _ _ _ _ R C r (by omega) ⟨14 + l.val / 64, by omega⟩ (by show C.val / 64 = 14 + l.val / 64; omega) 3 (by show C.val / 256 = 3; omega) ⟨l.val % 64, by omega⟩ (by show C.val % 64 = l.val % 64; omega)
      (fun c => ldq_at x1 0 _ r c R hR)
      (fun c d => ldk_at x2 0 _ c d _ (by show 128 * (R.val / 128) + c.val = 0 + c.val; omega))
      (fun c d => ldk_at x5 0 _ c d _ (by show 128 * (R.val / 128) + c.val = 0 + c.val; omega))
      (fun c d => ldb_at f x2 x3 x4 R (by omega) c d)
      (fun c d => ldb_at f x5 x6 x7 R (by omega) c d) _ rfl)

/-- Row tile 0, key head 3, pair 0: what the step stores there is the attention's row. -/
theorem piece_0_3_0 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 0 + r.val) (C : Fin 1024) (hC : C.val = 768 + l.val) :
    tile0 128 768 896 slices_S128x256_o0_128_S128x128 slices_S128x1024_o0_768_S128x128 slices_S128x1024_o0_896_S128x128 true (prevFirst f)
      (View.ld x1 (Rect.unit (s := S512x1024) ![0, 0] S128x1024.size inb_S512x1024_S128x1024_0_0)) (asIs (View.ld x2 (Rect.unit (s := S512x256) ![0, 0] S128x256.size inb_S512x256_S128x256_0_0))) (asIs (View.ld x5 (Rect.unit (s := S512x256) ![0, 0] S128x256.size inb_S512x256_S128x256_0_0))) (before f (View.ld x4 (Rect.unit (s := S1x128x256) ![0, 0, 0] S1x128x256.size inb_S1x128x256_S1x128x256_0_0_0)) (View.ld x3 (Rect.unit (s := S128x256) ![0, 0] S128x256.size inb_S128x256_S128x256_0_0))) (before f (View.ld x7 (Rect.unit (s := S1x128x256) ![0, 0, 0] S1x128x256.size inb_S1x128x256_S1x128x256_0_0_0)) (View.ld x6 (Rect.unit (s := S128x256) ![0, 0] S128x256.size inb_S128x256_S128x256_0_0))) (View.ld x0 (Rect.unit (s := S16) ![(12 : Fin 16).val] S1.size (inbSink 12)) (Shape.Idx.first numel1_S1.ge)) (View.ld x0 (Rect.unit (s := S16) ![(13 : Fin 16).val] S1.size (inbSink 13)) (Shape.Idx.first numel1_S1.ge)) (View.ld x0 (Rect.unit (s := S16) ![(14 : Fin 16).val] S1.size (inbSink 14)) (Shape.Idx.first numel1_S1.ge)) (View.ld x0 (Rect.unit (s := S16) ![(15 : Fin 16).val] S1.size (inbSink 15)) (Shape.Idx.first numel1_S1.ge)) (ix2 r l)
      = scrAt f x0 x1 x2 x3 x4 x5 x6 x7 R C := by
  have hr := r.isLt
  have hl := l.isLt
  exact (tile0_at 128 768 896 _ _ _ true (prevFirst f) (fun c => 128 ≤ R.val ∨ f = 0#1 ∨ 112 ≤ c.val) (maskFirst R (by omega) f) _ _ _ _ _ _ _ _ _ 3 (by decide) (by decide) (by decide) r l ⟨l.val % 64, by omega⟩ rfl ⟨12 + l.val / 64, by omega⟩ rfl (x0 (ix1 ⟨12 + l.val / 64, by omega⟩))
      (by
        by_cases hlt : l.val < 64
        · rw [if_pos hlt]; exact (lds_at x0 12 _ (Fin.ext (by show 12 = 12 + l.val / 64; omega))).symm
        · rw [if_neg hlt]; exact (lds_at x0 13 _ (Fin.ext (by show 13 = 12 + l.val / 64; omega))).symm)).trans
    (scrAt_of f x0 x1 x2 x3 x4 x5 x6 x7 _ _ _ _ _ R C r (by omega) ⟨12 + l.val / 64, by omega⟩ (by show C.val / 64 = 12 + l.val / 64; omega) 3 (by show C.val / 256 = 3; omega) ⟨l.val % 64, by omega⟩ (by show C.val % 64 = l.val % 64; omega)
      (fun c => ldq_at x1 0 _ r c R hR)
      (fun c d => ldk_at x2 0 _ c d _ (by show 128 * (R.val / 128) + c.val = 0 + c.val; omega))
      (fun c d => ldk_at x5 0 _ c d _ (by show 128 * (R.val / 128) + c.val = 0 + c.val; omega))
      (fun c d => ldb_at f x2 x3 x4 R (by omega) c d)
      (fun c d => ldb_at f x5 x6 x7 R (by omega) c d) _ rfl)

/-- Row tile 0, key head 2, pair 1: what the step stores there is the attention's row. -/
theorem piece_0_2_1 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 0 + r.val) (C : Fin 1024) (hC : C.val = 640 + l.val) :
    tile1 128 512 640 slices_S128x256_o0_128_S128x128 slices_S128x1024_o0_512_S128x128 slices_S128x1024_o0_640_S128x128 false (prevFirst f)
      (View.ld x1 (Rect.unit (s := S512x1024) ![0, 0] S128x1024.size inb_S512x1024_S128x1024_0_0)) (asIs (View.ld x2 (Rect.unit (s := S512x256) ![0, 0] S128x256.size inb_S512x256_S128x256_0_0))) (asIs (View.ld x5 (Rect.unit (s := S512x256) ![0, 0] S128x256.size inb_S512x256_S128x256_0_0))) (before f (View.ld x4 (Rect.unit (s := S1x128x256) ![0, 0, 0] S1x128x256.size inb_S1x128x256_S1x128x256_0_0_0)) (View.ld x3 (Rect.unit (s := S128x256) ![0, 0] S128x256.size inb_S128x256_S128x256_0_0))) (before f (View.ld x7 (Rect.unit (s := S1x128x256) ![0, 0, 0] S1x128x256.size inb_S1x128x256_S1x128x256_0_0_0)) (View.ld x6 (Rect.unit (s := S128x256) ![0, 0] S128x256.size inb_S128x256_S128x256_0_0))) (View.ld x0 (Rect.unit (s := S16) ![(8 : Fin 16).val] S1.size (inbSink 8)) (Shape.Idx.first numel1_S1.ge)) (View.ld x0 (Rect.unit (s := S16) ![(9 : Fin 16).val] S1.size (inbSink 9)) (Shape.Idx.first numel1_S1.ge)) (View.ld x0 (Rect.unit (s := S16) ![(10 : Fin 16).val] S1.size (inbSink 10)) (Shape.Idx.first numel1_S1.ge)) (View.ld x0 (Rect.unit (s := S16) ![(11 : Fin 16).val] S1.size (inbSink 11)) (Shape.Idx.first numel1_S1.ge)) (ix2 r l)
      = scrAt f x0 x1 x2 x3 x4 x5 x6 x7 R C := by
  have hr := r.isLt
  have hl := l.isLt
  exact (tile1_at 128 512 640 _ _ _ false (prevFirst f) (fun c => 128 ≤ R.val ∨ f = 0#1 ∨ 112 ≤ c.val) (maskFirst R (by omega) f) _ _ _ _ _ _ _ _ _ 2 (by decide) (by decide) (by decide) r l ⟨l.val % 64, by omega⟩ rfl ⟨10 + l.val / 64, by omega⟩ rfl (x0 (ix1 ⟨10 + l.val / 64, by omega⟩))
      (by
        by_cases hlt : l.val < 64
        · rw [if_pos hlt]; exact (lds_at x0 10 _ (Fin.ext (by show 10 = 10 + l.val / 64; omega))).symm
        · rw [if_neg hlt]; exact (lds_at x0 11 _ (Fin.ext (by show 11 = 10 + l.val / 64; omega))).symm)).trans
    (scrAt_of f x0 x1 x2 x3 x4 x5 x6 x7 _ _ _ _ _ R C r (by omega) ⟨10 + l.val / 64, by omega⟩ (by show C.val / 64 = 10 + l.val / 64; omega) 2 (by show C.val / 256 = 2; omega) ⟨l.val % 64, by omega⟩ (by show C.val % 64 = l.val % 64; omega)
      (fun c => ldq_at x1 0 _ r c R hR)
      (fun c d => ldk_at x2 0 _ c d _ (by show 128 * (R.val / 128) + c.val = 0 + c.val; omega))
      (fun c d => ldk_at x5 0 _ c d _ (by show 128 * (R.val / 128) + c.val = 0 + c.val; omega))
      (fun c d => ldb_at f x2 x3 x4 R (by omega) c d)
      (fun c d => ldb_at f x5 x6 x7 R (by omega) c d) _ rfl)

/-- Row tile 0, key head 2, pair 0: what the step stores there is the attention's row. -/
theorem piece_0_2_0 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 0 + r.val) (C : Fin 1024) (hC : C.val = 512 + l.val) :
    tile0 128 512 640 slices_S128x256_o0_128_S128x128 slices_S128x1024_o0_512_S128x128 slices_S128x1024_o0_640_S128x128 false (prevFirst f)
      (View.ld x1 (Rect.unit (s := S512x1024) ![0, 0] S128x1024.size inb_S512x1024_S128x1024_0_0)) (asIs (View.ld x2 (Rect.unit (s := S512x256) ![0, 0] S128x256.size inb_S512x256_S128x256_0_0))) (asIs (View.ld x5 (Rect.unit (s := S512x256) ![0, 0] S128x256.size inb_S512x256_S128x256_0_0))) (before f (View.ld x4 (Rect.unit (s := S1x128x256) ![0, 0, 0] S1x128x256.size inb_S1x128x256_S1x128x256_0_0_0)) (View.ld x3 (Rect.unit (s := S128x256) ![0, 0] S128x256.size inb_S128x256_S128x256_0_0))) (before f (View.ld x7 (Rect.unit (s := S1x128x256) ![0, 0, 0] S1x128x256.size inb_S1x128x256_S1x128x256_0_0_0)) (View.ld x6 (Rect.unit (s := S128x256) ![0, 0] S128x256.size inb_S128x256_S128x256_0_0))) (View.ld x0 (Rect.unit (s := S16) ![(8 : Fin 16).val] S1.size (inbSink 8)) (Shape.Idx.first numel1_S1.ge)) (View.ld x0 (Rect.unit (s := S16) ![(9 : Fin 16).val] S1.size (inbSink 9)) (Shape.Idx.first numel1_S1.ge)) (View.ld x0 (Rect.unit (s := S16) ![(10 : Fin 16).val] S1.size (inbSink 10)) (Shape.Idx.first numel1_S1.ge)) (View.ld x0 (Rect.unit (s := S16) ![(11 : Fin 16).val] S1.size (inbSink 11)) (Shape.Idx.first numel1_S1.ge)) (ix2 r l)
      = scrAt f x0 x1 x2 x3 x4 x5 x6 x7 R C := by
  have hr := r.isLt
  have hl := l.isLt
  exact (tile0_at 128 512 640 _ _ _ false (prevFirst f) (fun c => 128 ≤ R.val ∨ f = 0#1 ∨ 112 ≤ c.val) (maskFirst R (by omega) f) _ _ _ _ _ _ _ _ _ 2 (by decide) (by decide) (by decide) r l ⟨l.val % 64, by omega⟩ rfl ⟨8 + l.val / 64, by omega⟩ rfl (x0 (ix1 ⟨8 + l.val / 64, by omega⟩))
      (by
        by_cases hlt : l.val < 64
        · rw [if_pos hlt]; exact (lds_at x0 8 _ (Fin.ext (by show 8 = 8 + l.val / 64; omega))).symm
        · rw [if_neg hlt]; exact (lds_at x0 9 _ (Fin.ext (by show 9 = 8 + l.val / 64; omega))).symm)).trans
    (scrAt_of f x0 x1 x2 x3 x4 x5 x6 x7 _ _ _ _ _ R C r (by omega) ⟨8 + l.val / 64, by omega⟩ (by show C.val / 64 = 8 + l.val / 64; omega) 2 (by show C.val / 256 = 2; omega) ⟨l.val % 64, by omega⟩ (by show C.val % 64 = l.val % 64; omega)
      (fun c => ldq_at x1 0 _ r c R hR)
      (fun c d => ldk_at x2 0 _ c d _ (by show 128 * (R.val / 128) + c.val = 0 + c.val; omega))
      (fun c d => ldk_at x5 0 _ c d _ (by show 128 * (R.val / 128) + c.val = 0 + c.val; omega))
      (fun c d => ldb_at f x2 x3 x4 R (by omega) c d)
      (fun c d => ldb_at f x5 x6 x7 R (by omega) c d) _ rfl)

/-- Row tile 0, key head 1, pair 1: what the step stores there is the attention's row. -/
theorem piece_0_1_1 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 0 + r.val) (C : Fin 1024) (hC : C.val = 384 + l.val) :
    tile1 0 256 384 slices_S128x256_o0_0_S128x128 slices_S128x1024_o0_256_S128x128 slices_S128x1024_o0_384_S128x128 true (prevFirst f)
      (View.ld x1 (Rect.unit (s := S512x1024) ![0, 0] S128x1024.size inb_S512x1024_S128x1024_0_0)) (asIs (View.ld x2 (Rect.unit (s := S512x256) ![0, 0] S128x256.size inb_S512x256_S128x256_0_0))) (asIs (View.ld x5 (Rect.unit (s := S512x256) ![0, 0] S128x256.size inb_S512x256_S128x256_0_0))) (before f (View.ld x4 (Rect.unit (s := S1x128x256) ![0, 0, 0] S1x128x256.size inb_S1x128x256_S1x128x256_0_0_0)) (View.ld x3 (Rect.unit (s := S128x256) ![0, 0] S128x256.size inb_S128x256_S128x256_0_0))) (before f (View.ld x7 (Rect.unit (s := S1x128x256) ![0, 0, 0] S1x128x256.size inb_S1x128x256_S1x128x256_0_0_0)) (View.ld x6 (Rect.unit (s := S128x256) ![0, 0] S128x256.size inb_S128x256_S128x256_0_0))) (View.ld x0 (Rect.unit (s := S16) ![(4 : Fin 16).val] S1.size (inbSink 4)) (Shape.Idx.first numel1_S1.ge)) (View.ld x0 (Rect.unit (s := S16) ![(5 : Fin 16).val] S1.size (inbSink 5)) (Shape.Idx.first numel1_S1.ge)) (View.ld x0 (Rect.unit (s := S16) ![(6 : Fin 16).val] S1.size (inbSink 6)) (Shape.Idx.first numel1_S1.ge)) (View.ld x0 (Rect.unit (s := S16) ![(7 : Fin 16).val] S1.size (inbSink 7)) (Shape.Idx.first numel1_S1.ge)) (ix2 r l)
      = scrAt f x0 x1 x2 x3 x4 x5 x6 x7 R C := by
  have hr := r.isLt
  have hl := l.isLt
  exact (tile1_at 0 256 384 _ _ _ true (prevFirst f) (fun c => 128 ≤ R.val ∨ f = 0#1 ∨ 112 ≤ c.val) (maskFirst R (by omega) f) _ _ _ _ _ _ _ _ _ 1 (by decide) (by decide) (by decide) r l ⟨l.val % 64, by omega⟩ rfl ⟨6 + l.val / 64, by omega⟩ rfl (x0 (ix1 ⟨6 + l.val / 64, by omega⟩))
      (by
        by_cases hlt : l.val < 64
        · rw [if_pos hlt]; exact (lds_at x0 6 _ (Fin.ext (by show 6 = 6 + l.val / 64; omega))).symm
        · rw [if_neg hlt]; exact (lds_at x0 7 _ (Fin.ext (by show 7 = 6 + l.val / 64; omega))).symm)).trans
    (scrAt_of f x0 x1 x2 x3 x4 x5 x6 x7 _ _ _ _ _ R C r (by omega) ⟨6 + l.val / 64, by omega⟩ (by show C.val / 64 = 6 + l.val / 64; omega) 1 (by show C.val / 256 = 1; omega) ⟨l.val % 64, by omega⟩ (by show C.val % 64 = l.val % 64; omega)
      (fun c => ldq_at x1 0 _ r c R hR)
      (fun c d => ldk_at x2 0 _ c d _ (by show 128 * (R.val / 128) + c.val = 0 + c.val; omega))
      (fun c d => ldk_at x5 0 _ c d _ (by show 128 * (R.val / 128) + c.val = 0 + c.val; omega))
      (fun c d => ldb_at f x2 x3 x4 R (by omega) c d)
      (fun c d => ldb_at f x5 x6 x7 R (by omega) c d) _ rfl)

/-- Row tile 0, key head 1, pair 0: what the step stores there is the attention's row. -/
theorem piece_0_1_0 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 0 + r.val) (C : Fin 1024) (hC : C.val = 256 + l.val) :
    tile0 0 256 384 slices_S128x256_o0_0_S128x128 slices_S128x1024_o0_256_S128x128 slices_S128x1024_o0_384_S128x128 true (prevFirst f)
      (View.ld x1 (Rect.unit (s := S512x1024) ![0, 0] S128x1024.size inb_S512x1024_S128x1024_0_0)) (asIs (View.ld x2 (Rect.unit (s := S512x256) ![0, 0] S128x256.size inb_S512x256_S128x256_0_0))) (asIs (View.ld x5 (Rect.unit (s := S512x256) ![0, 0] S128x256.size inb_S512x256_S128x256_0_0))) (before f (View.ld x4 (Rect.unit (s := S1x128x256) ![0, 0, 0] S1x128x256.size inb_S1x128x256_S1x128x256_0_0_0)) (View.ld x3 (Rect.unit (s := S128x256) ![0, 0] S128x256.size inb_S128x256_S128x256_0_0))) (before f (View.ld x7 (Rect.unit (s := S1x128x256) ![0, 0, 0] S1x128x256.size inb_S1x128x256_S1x128x256_0_0_0)) (View.ld x6 (Rect.unit (s := S128x256) ![0, 0] S128x256.size inb_S128x256_S128x256_0_0))) (View.ld x0 (Rect.unit (s := S16) ![(4 : Fin 16).val] S1.size (inbSink 4)) (Shape.Idx.first numel1_S1.ge)) (View.ld x0 (Rect.unit (s := S16) ![(5 : Fin 16).val] S1.size (inbSink 5)) (Shape.Idx.first numel1_S1.ge)) (View.ld x0 (Rect.unit (s := S16) ![(6 : Fin 16).val] S1.size (inbSink 6)) (Shape.Idx.first numel1_S1.ge)) (View.ld x0 (Rect.unit (s := S16) ![(7 : Fin 16).val] S1.size (inbSink 7)) (Shape.Idx.first numel1_S1.ge)) (ix2 r l)
      = scrAt f x0 x1 x2 x3 x4 x5 x6 x7 R C := by
  have hr := r.isLt
  have hl := l.isLt
  exact (tile0_at 0 256 384 _ _ _ true (prevFirst f) (fun c => 128 ≤ R.val ∨ f = 0#1 ∨ 112 ≤ c.val) (maskFirst R (by omega) f) _ _ _ _ _ _ _ _ _ 1 (by decide) (by decide) (by decide) r l ⟨l.val % 64, by omega⟩ rfl ⟨4 + l.val / 64, by omega⟩ rfl (x0 (ix1 ⟨4 + l.val / 64, by omega⟩))
      (by
        by_cases hlt : l.val < 64
        · rw [if_pos hlt]; exact (lds_at x0 4 _ (Fin.ext (by show 4 = 4 + l.val / 64; omega))).symm
        · rw [if_neg hlt]; exact (lds_at x0 5 _ (Fin.ext (by show 5 = 4 + l.val / 64; omega))).symm)).trans
    (scrAt_of f x0 x1 x2 x3 x4 x5 x6 x7 _ _ _ _ _ R C r (by omega) ⟨4 + l.val / 64, by omega⟩ (by show C.val / 64 = 4 + l.val / 64; omega) 1 (by show C.val / 256 = 1; omega) ⟨l.val % 64, by omega⟩ (by show C.val % 64 = l.val % 64; omega)
      (fun c => ldq_at x1 0 _ r c R hR)
      (fun c d => ldk_at x2 0 _ c d _ (by show 128 * (R.val / 128) + c.val = 0 + c.val; omega))
      (fun c d => ldk_at x5 0 _ c d _ (by show 128 * (R.val / 128) + c.val = 0 + c.val; omega))
      (fun c d => ldb_at f x2 x3 x4 R (by omega) c d)
      (fun c d => ldb_at f x5 x6 x7 R (by omega) c d) _ rfl)

/-- Row tile 0, key head 0, pair 1: what the step stores there is the attention's row. -/
theorem piece_0_0_1 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 0 + r.val) (C : Fin 1024) (hC : C.val = 128 + l.val) :
    tile1 0 0 128 slices_S128x256_o0_0_S128x128 slices_S128x1024_o0_0_S128x128 slices_S128x1024_o0_128_S128x128 false (prevFirst f)
      (View.ld x1 (Rect.unit (s := S512x1024) ![0, 0] S128x1024.size inb_S512x1024_S128x1024_0_0)) (asIs (View.ld x2 (Rect.unit (s := S512x256) ![0, 0] S128x256.size inb_S512x256_S128x256_0_0))) (asIs (View.ld x5 (Rect.unit (s := S512x256) ![0, 0] S128x256.size inb_S512x256_S128x256_0_0))) (before f (View.ld x4 (Rect.unit (s := S1x128x256) ![0, 0, 0] S1x128x256.size inb_S1x128x256_S1x128x256_0_0_0)) (View.ld x3 (Rect.unit (s := S128x256) ![0, 0] S128x256.size inb_S128x256_S128x256_0_0))) (before f (View.ld x7 (Rect.unit (s := S1x128x256) ![0, 0, 0] S1x128x256.size inb_S1x128x256_S1x128x256_0_0_0)) (View.ld x6 (Rect.unit (s := S128x256) ![0, 0] S128x256.size inb_S128x256_S128x256_0_0))) (View.ld x0 (Rect.unit (s := S16) ![(0 : Fin 16).val] S1.size (inbSink 0)) (Shape.Idx.first numel1_S1.ge)) (View.ld x0 (Rect.unit (s := S16) ![(1 : Fin 16).val] S1.size (inbSink 1)) (Shape.Idx.first numel1_S1.ge)) (View.ld x0 (Rect.unit (s := S16) ![(2 : Fin 16).val] S1.size (inbSink 2)) (Shape.Idx.first numel1_S1.ge)) (View.ld x0 (Rect.unit (s := S16) ![(3 : Fin 16).val] S1.size (inbSink 3)) (Shape.Idx.first numel1_S1.ge)) (ix2 r l)
      = scrAt f x0 x1 x2 x3 x4 x5 x6 x7 R C := by
  have hr := r.isLt
  have hl := l.isLt
  exact (tile1_at 0 0 128 _ _ _ false (prevFirst f) (fun c => 128 ≤ R.val ∨ f = 0#1 ∨ 112 ≤ c.val) (maskFirst R (by omega) f) _ _ _ _ _ _ _ _ _ 0 (by decide) (by decide) (by decide) r l ⟨l.val % 64, by omega⟩ rfl ⟨2 + l.val / 64, by omega⟩ rfl (x0 (ix1 ⟨2 + l.val / 64, by omega⟩))
      (by
        by_cases hlt : l.val < 64
        · rw [if_pos hlt]; exact (lds_at x0 2 _ (Fin.ext (by show 2 = 2 + l.val / 64; omega))).symm
        · rw [if_neg hlt]; exact (lds_at x0 3 _ (Fin.ext (by show 3 = 2 + l.val / 64; omega))).symm)).trans
    (scrAt_of f x0 x1 x2 x3 x4 x5 x6 x7 _ _ _ _ _ R C r (by omega) ⟨2 + l.val / 64, by omega⟩ (by show C.val / 64 = 2 + l.val / 64; omega) 0 (by show C.val / 256 = 0; omega) ⟨l.val % 64, by omega⟩ (by show C.val % 64 = l.val % 64; omega)
      (fun c => ldq_at x1 0 _ r c R hR)
      (fun c d => ldk_at x2 0 _ c d _ (by show 128 * (R.val / 128) + c.val = 0 + c.val; omega))
      (fun c d => ldk_at x5 0 _ c d _ (by show 128 * (R.val / 128) + c.val = 0 + c.val; omega))
      (fun c d => ldb_at f x2 x3 x4 R (by omega) c d)
      (fun c d => ldb_at f x5 x6 x7 R (by omega) c d) _ rfl)

/-- Row tile 0, key head 0, pair 0: what the step stores there is the attention's row. -/
theorem piece_0_0_0 (f : BitVec 1) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (r l : Fin 128) (R : Fin 512) (hR : R.val = 0 + r.val) (C : Fin 1024) (hC : C.val = 0 + l.val) :
    tile0 0 0 128 slices_S128x256_o0_0_S128x128 slices_S128x1024_o0_0_S128x128 slices_S128x1024_o0_128_S128x128 false (prevFirst f)
      (View.ld x1 (Rect.unit (s := S512x1024) ![0, 0] S128x1024.size inb_S512x1024_S128x1024_0_0)) (asIs (View.ld x2 (Rect.unit (s := S512x256) ![0, 0] S128x256.size inb_S512x256_S128x256_0_0))) (asIs (View.ld x5 (Rect.unit (s := S512x256) ![0, 0] S128x256.size inb_S512x256_S128x256_0_0))) (before f (View.ld x4 (Rect.unit (s := S1x128x256) ![0, 0, 0] S1x128x256.size inb_S1x128x256_S1x128x256_0_0_0)) (View.ld x3 (Rect.unit (s := S128x256) ![0, 0] S128x256.size inb_S128x256_S128x256_0_0))) (before f (View.ld x7 (Rect.unit (s := S1x128x256) ![0, 0, 0] S1x128x256.size inb_S1x128x256_S1x128x256_0_0_0)) (View.ld x6 (Rect.unit (s := S128x256) ![0, 0] S128x256.size inb_S128x256_S128x256_0_0))) (View.ld x0 (Rect.unit (s := S16) ![(0 : Fin 16).val] S1.size (inbSink 0)) (Shape.Idx.first numel1_S1.ge)) (View.ld x0 (Rect.unit (s := S16) ![(1 : Fin 16).val] S1.size (inbSink 1)) (Shape.Idx.first numel1_S1.ge)) (View.ld x0 (Rect.unit (s := S16) ![(2 : Fin 16).val] S1.size (inbSink 2)) (Shape.Idx.first numel1_S1.ge)) (View.ld x0 (Rect.unit (s := S16) ![(3 : Fin 16).val] S1.size (inbSink 3)) (Shape.Idx.first numel1_S1.ge)) (ix2 r l)
      = scrAt f x0 x1 x2 x3 x4 x5 x6 x7 R C := by
  have hr := r.isLt
  have hl := l.isLt
  exact (tile0_at 0 0 128 _ _ _ false (prevFirst f) (fun c => 128 ≤ R.val ∨ f = 0#1 ∨ 112 ≤ c.val) (maskFirst R (by omega) f) _ _ _ _ _ _ _ _ _ 0 (by decide) (by decide) (by decide) r l ⟨l.val % 64, by omega⟩ rfl ⟨0 + l.val / 64, by omega⟩ rfl (x0 (ix1 ⟨0 + l.val / 64, by omega⟩))
      (by
        by_cases hlt : l.val < 64
        · rw [if_pos hlt]; exact (lds_at x0 0 _ (Fin.ext (by show 0 = 0 + l.val / 64; omega))).symm
        · rw [if_neg hlt]; exact (lds_at x0 1 _ (Fin.ext (by show 1 = 0 + l.val / 64; omega))).symm)).trans
    (scrAt_of f x0 x1 x2 x3 x4 x5 x6 x7 _ _ _ _ _ R C r (by omega) ⟨0 + l.val / 64, by omega⟩ (by show C.val / 64 = 0 + l.val / 64; omega) 0 (by show C.val / 256 = 0; omega) ⟨l.val % 64, by omega⟩ (by show C.val % 64 = l.val % 64; omega)
      (fun c => ldq_at x1 0 _ r c R hR)
      (fun c d => ldk_at x2 0 _ c d _ (by show 128 * (R.val / 128) + c.val = 0 + c.val; omega))
      (fun c d => ldk_at x5 0 _ c d _ (by show 128 * (R.val / 128) + c.val = 0 + c.val; omega))
      (fun c d => ldb_at f x2 x3 x4 R (by omega) c d)
      (fun c d => ldb_at f x5 x6 x7 R (by omega) c d) _ rfl)

/-- Every tile of a step is its part of the one array. -/
theorem pieces_are (n : ℕ) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) :
    ∀ p ∈ stepTiles (F := Ideal) n x0 x1 x2 x3 x4 x5 x6 x7, ∀ x, p.2 x = (fun y : S512x1024.Idx => (scrAt (firstOf n) x0 x1 x2 x3 x4 x5 x6 x7 (y 0) (y 1) : Elt Ideal .bf16)) (p.1.emb x) := by
  unfold stepTiles tiles
  refine List.forall_mem_cons.2 ⟨fun x => ?_, ?_⟩
  · obtain ⟨r, l, rfl⟩ : ∃ (r l : Fin 128), x = ix2 r l := ⟨x 0, x 1, ValueIdx.eq_ix2 x⟩
    exact piece_3_3_1 (firstOf n) x0 x1 x2 x3 x4 x5 x6 x7 r l _ (by show 384 + 1 * r.val = 384 + r.val; omega) _ (by show 896 + 1 * l.val = 896 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_3_3_0 (firstOf n) x0 x1 x2 x3 x4 x5 x6 x7 r l _ (by show 384 + 1 * r.val = 384 + r.val; omega) _ (by show 768 + 1 * l.val = 768 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_3_2_1 (firstOf n) x0 x1 x2 x3 x4 x5 x6 x7 r l _ (by show 384 + 1 * r.val = 384 + r.val; omega) _ (by show 640 + 1 * l.val = 640 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_3_2_0 (firstOf n) x0 x1 x2 x3 x4 x5 x6 x7 r l _ (by show 384 + 1 * r.val = 384 + r.val; omega) _ (by show 512 + 1 * l.val = 512 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_3_1_1 (firstOf n) x0 x1 x2 x3 x4 x5 x6 x7 r l _ (by show 384 + 1 * r.val = 384 + r.val; omega) _ (by show 384 + 1 * l.val = 384 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_3_1_0 (firstOf n) x0 x1 x2 x3 x4 x5 x6 x7 r l _ (by show 384 + 1 * r.val = 384 + r.val; omega) _ (by show 256 + 1 * l.val = 256 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_3_0_1 (firstOf n) x0 x1 x2 x3 x4 x5 x6 x7 r l _ (by show 384 + 1 * r.val = 384 + r.val; omega) _ (by show 128 + 1 * l.val = 128 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_3_0_0 (firstOf n) x0 x1 x2 x3 x4 x5 x6 x7 r l _ (by show 384 + 1 * r.val = 384 + r.val; omega) _ (by show 0 + 1 * l.val = 0 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_2_3_1 (firstOf n) x0 x1 x2 x3 x4 x5 x6 x7 r l _ (by show 256 + 1 * r.val = 256 + r.val; omega) _ (by show 896 + 1 * l.val = 896 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_2_3_0 (firstOf n) x0 x1 x2 x3 x4 x5 x6 x7 r l _ (by show 256 + 1 * r.val = 256 + r.val; omega) _ (by show 768 + 1 * l.val = 768 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_2_2_1 (firstOf n) x0 x1 x2 x3 x4 x5 x6 x7 r l _ (by show 256 + 1 * r.val = 256 + r.val; omega) _ (by show 640 + 1 * l.val = 640 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_2_2_0 (firstOf n) x0 x1 x2 x3 x4 x5 x6 x7 r l _ (by show 256 + 1 * r.val = 256 + r.val; omega) _ (by show 512 + 1 * l.val = 512 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_2_1_1 (firstOf n) x0 x1 x2 x3 x4 x5 x6 x7 r l _ (by show 256 + 1 * r.val = 256 + r.val; omega) _ (by show 384 + 1 * l.val = 384 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_2_1_0 (firstOf n) x0 x1 x2 x3 x4 x5 x6 x7 r l _ (by show 256 + 1 * r.val = 256 + r.val; omega) _ (by show 256 + 1 * l.val = 256 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_2_0_1 (firstOf n) x0 x1 x2 x3 x4 x5 x6 x7 r l _ (by show 256 + 1 * r.val = 256 + r.val; omega) _ (by show 128 + 1 * l.val = 128 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_2_0_0 (firstOf n) x0 x1 x2 x3 x4 x5 x6 x7 r l _ (by show 256 + 1 * r.val = 256 + r.val; omega) _ (by show 0 + 1 * l.val = 0 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_1_3_1 (firstOf n) x0 x1 x2 x3 x4 x5 x6 x7 r l _ (by show 128 + 1 * r.val = 128 + r.val; omega) _ (by show 896 + 1 * l.val = 896 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_1_3_0 (firstOf n) x0 x1 x2 x3 x4 x5 x6 x7 r l _ (by show 128 + 1 * r.val = 128 + r.val; omega) _ (by show 768 + 1 * l.val = 768 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_1_2_1 (firstOf n) x0 x1 x2 x3 x4 x5 x6 x7 r l _ (by show 128 + 1 * r.val = 128 + r.val; omega) _ (by show 640 + 1 * l.val = 640 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_1_2_0 (firstOf n) x0 x1 x2 x3 x4 x5 x6 x7 r l _ (by show 128 + 1 * r.val = 128 + r.val; omega) _ (by show 512 + 1 * l.val = 512 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_1_1_1 (firstOf n) x0 x1 x2 x3 x4 x5 x6 x7 r l _ (by show 128 + 1 * r.val = 128 + r.val; omega) _ (by show 384 + 1 * l.val = 384 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_1_1_0 (firstOf n) x0 x1 x2 x3 x4 x5 x6 x7 r l _ (by show 128 + 1 * r.val = 128 + r.val; omega) _ (by show 256 + 1 * l.val = 256 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_1_0_1 (firstOf n) x0 x1 x2 x3 x4 x5 x6 x7 r l _ (by show 128 + 1 * r.val = 128 + r.val; omega) _ (by show 128 + 1 * l.val = 128 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_1_0_0 (firstOf n) x0 x1 x2 x3 x4 x5 x6 x7 r l _ (by show 128 + 1 * r.val = 128 + r.val; omega) _ (by show 0 + 1 * l.val = 0 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_0_3_1 (firstOf n) x0 x1 x2 x3 x4 x5 x6 x7 r l _ (by show 0 + 1 * r.val = 0 + r.val; omega) _ (by show 896 + 1 * l.val = 896 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_0_3_0 (firstOf n) x0 x1 x2 x3 x4 x5 x6 x7 r l _ (by show 0 + 1 * r.val = 0 + r.val; omega) _ (by show 768 + 1 * l.val = 768 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_0_2_1 (firstOf n) x0 x1 x2 x3 x4 x5 x6 x7 r l _ (by show 0 + 1 * r.val = 0 + r.val; omega) _ (by show 640 + 1 * l.val = 640 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_0_2_0 (firstOf n) x0 x1 x2 x3 x4 x5 x6 x7 r l _ (by show 0 + 1 * r.val = 0 + r.val; omega) _ (by show 512 + 1 * l.val = 512 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_0_1_1 (firstOf n) x0 x1 x2 x3 x4 x5 x6 x7 r l _ (by show 0 + 1 * r.val = 0 + r.val; omega) _ (by show 384 + 1 * l.val = 384 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_0_1_0 (firstOf n) x0 x1 x2 x3 x4 x5 x6 x7 r l _ (by show 0 + 1 * r.val = 0 + r.val; omega) _ (by show 256 + 1 * l.val = 256 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_0_0_1 (firstOf n) x0 x1 x2 x3 x4 x5 x6 x7 r l _ (by show 0 + 1 * r.val = 0 + r.val; omega) _ (by show 128 + 1 * l.val = 128 + l.val; omega)
  refine List.forall_mem_cons.2 ⟨fun x => ?_, ?_⟩
  · obtain ⟨r, l, rfl⟩ : ∃ (r l : Fin 128), x = ix2 r l := ⟨x 0, x 1, ValueIdx.eq_ix2 x⟩
    exact piece_0_0_0 (firstOf n) x0 x1 x2 x3 x4 x5 x6 x7 r l _ (by show 0 + 1 * r.val = 0 + r.val; omega) _ (by show 0 + 1 * l.val = 0 + l.val; omega)
  intro p hp
  exact absurd hp List.not_mem_nil

end Cert.KernelIdeal.Hand

end
-- ==== Proof.Ffn.lean ====
module

public import proofs.«01_k».proof.Proof.Gen.KernelIdeal.Frame
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F] [Named F]

/-! ## The feed-forward part of a step, over the attention output the step before left -/

/-- The residual after the attention's output projection. -/
def resid (h : Vec F S512x1024 .f32) (o : Vec F S512x1024 .bf16) (wm : Vec F S1024x1024 .bf16) : FVec F S512x1024 .f32 :=
  addf (shapeCast S512x1024 h shapeCasts_S512x1024_S512x1024)
    (matmul (φ₁ := .bf16) (φ₂ := .bf16) dot_S512x1024_S1024x1024_S512x1024_1_0_0_1_n_n none o (shapeCast S1024x1024 wm shapeCasts_S1024x1024_S1024x1024) (constant S512x1024 .f32 0x00000000#32))

/-- Each row's scale: one over the root of the mean square plus a small constant. -/
def rmsScale (x : FVec F S512x1024 .f32) : FVec F S512x1 .f32 :=
  rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x3727C5AC#32)))

/-- The root-mean-square normalization with its weights. -/
def normed (x : FVec F S512x1024 .f32) (g : Vec F S1x1024 .f32) : FVec F S512x1024 .f32 :=
  mulf (mulf x (broadcastTo S512x1024 (rmsScale x) broadcasts_S512x1_S512x1024))
    (broadcastTo S512x1024 (shapeCast S1x1024 g shapeCasts_S1x1024_S1x1024) broadcasts_S1x1024_S512x1024)

/-- One slab of 1408 columns of a projection. -/
def slab (xn : FVec F S512x1024 .bf16) (w : Vec F S1024x1408 .bf16) : FVec F S512x1408 .f32 :=
  matmul (φ₁ := .bf16) (φ₂ := .bf16) dot_S512x1024_S1024x1408_S512x1408_1_0_0_1_n_n none xn (shapeCast S1024x1408 w shapeCasts_S1024x1408_S1024x1408) (constant S512x1408 .f32 0x00000000#32)

/-- Half of the gate. -/
def halfGate (xn : FVec F S512x1024 .bf16) (wg : Vec F S1024x1408 .bf16) : FVec F S512x1408 .f32 :=
  mulf (broadcast S512x1408 (Scalar.ofBits .f32 0x3F000000#32)) (slab xn wg)

/-- The gated slab: `(h · tanh h + h) · up` with `h` half of the gate. -/
def gated (xn : FVec F S512x1024 .bf16) (wg wu : Vec F S1024x1408 .bf16) : FVec F S512x1408 .f32 :=
  mulf (addf (mulf (halfGate xn wg) (tanh (halfGate xn wg))) (halfGate xn wg)) (slab xn wu)

/-- The slab's share of the down projection. -/
def down (x : FVec F S512x1408 .f32) (wd : Vec F S1408x1024 .bf16) : FVec F S512x1024 .f32 :=
  matmul (φ₁ := .bf16) (φ₂ := .bf16) dot_S512x1408_S1408x1024_S512x1024_1_0_0_1_n_n none (truncf .bf16 x bitsLt_bf16_f32) (shapeCast S1408x1024 wd shapeCasts_S1408x1024_S1408x1024) (constant S512x1024 .f32 0x00000000#32)

/-- The layer's output rows before the last normalization. -/
def ffnAcc (h1 : FVec F S512x1024 .f32) (g : Vec F S1x1024 .f32) (wg0 wg1 wu0 wu1 : Vec F S1024x1408 .bf16) (wd0 wd1 : Vec F S1408x1024 .bf16) : FVec F S512x1024 .f32 :=
  addf (addf h1 (down (gated (truncf .bf16 (normed h1 g) bitsLt_bf16_f32) wg0 wu0) wd0)) (down (gated (truncf .bf16 (normed h1 g) bitsLt_bf16_f32) wg1 wu1) wd1)

/-- The rows a step writes. -/
def ffnOut (h : Vec F S512x1024 .f32) (o : Vec F S512x1024 .bf16) (wm : Vec F S1024x1024 .bf16) (g : Vec F S1x1024 .f32)
    (wg0 wg1 wu0 wu1 : Vec F S1024x1408 .bf16) (wd0 wd1 : Vec F S1408x1024 .bf16) (gf : Vec F S1x1024 .f32) : FVec F S512x1024 .f32 :=
  normed (ffnAcc (resid h o wm) g wg0 wg1 wu0 wu1 wd0 wd1) gf

end Cert.KernelIdeal.Hand

end
-- ==== Proof.FfnRun.lean ====
module

public import proofs.«01_k».proof.Proof.Gen.KernelIdeal.Frame
public import proofs.«01_k».proof.Proof.Ffn
public import proofs.«01_k».proof.Proof.TileRun
public import Idealize.ShloMosaic.Lib.Pipeline.CanonAppend
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F] [Named F]

/-- The rows a step writes, over the blocks its windows hold and the scratch of the step before. -/
def stepOut (x8 : Vec F S512x1024 .f32) (x9 : Vec F S1024x1024 .bf16) (x10 : Vec F S1x1024 .f32) (x11 : Vec F S1024x2816 .bf16) (x12 : Vec F S1024x2816 .bf16) (x13 : Vec F S2816x1024 .bf16) (x14 : Vec F S1x1024 .f32) (xs0 : Vec F S512x1024 .bf16) : Vec F S512x1024 .f32 :=
  ffnOut (View.ld x8 (Rect.unit (s := S512x1024) ![0, 0] S512x1024.size inb_S512x1024_S512x1024_0_0)) (View.ld xs0 (Rect.unit (s := S512x1024) ![0, 0] S512x1024.size inb_S512x1024_S512x1024_0_0)) (View.ld x9 (Rect.unit (s := S1024x1024) ![0, 0] S1024x1024.size inb_S1024x1024_S1024x1024_0_0)) (View.ld x10 (Rect.unit (s := S1x1024) ![0, 0] S1x1024.size inb_S1x1024_S1x1024_0_0)) (View.ld x11 (Rect.unit (s := S1024x2816) ![0, 0] S1024x1408.size inb_S1024x2816_S1024x1408_0_0)) (View.ld x11 (Rect.unit (s := S1024x2816) ![0, 1408] S1024x1408.size inb_S1024x2816_S1024x1408_0_1408)) (View.ld x12 (Rect.unit (s := S1024x2816) ![0, 0] S1024x1408.size inb_S1024x2816_S1024x1408_0_0)) (View.ld x12 (Rect.unit (s := S1024x2816) ![0, 1408] S1024x1408.size inb_S1024x2816_S1024x1408_0_1408)) (View.ld x13 (Rect.unit (s := S2816x1024) ![0, 0] S1408x1024.size inb_S2816x1024_S1408x1024_0_0)) (View.ld x13 (Rect.unit (s := S2816x1024) ![1408, 0] S1408x1024.size inb_S2816x1024_S1408x1024_1408_0)) (View.ld x14 (Rect.unit (s := S1x1024) ![0, 0] S1x1024.size inb_S1x1024_S1x1024_0_0))

/-- What a step after the first writes to its output block. -/
theorem out_B (c : Dev nD) (i : grid0.Coords) (arg1 : Memref sig .tc .smem S16 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S128x256 .f32) (harg4 : arg4.IsWhole) (arg5 : Memref sig .tc .vmem S1x128x256 .f32) (harg5 : arg5.IsWhole) (arg6 : Memref sig .tc .vmem S512x256 .f32) (harg6 : arg6.IsWhole) (arg7 : Memref sig .tc .vmem S128x256 .f32) (harg7 : arg7.IsWhole) (arg8 : Memref sig .tc .vmem S1x128x256 .f32) (harg8 : arg8.IsWhole) (arg9 : Memref sig .tc .vmem S512x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x2816 .bf16) (harg12 : arg12.IsWhole) (arg13 : Memref sig .tc .vmem S1024x2816 .bf16) (harg13 : arg13.IsWhole) (arg14 : Memref sig .tc .vmem S2816x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .bf16) (harg17 : arg17.IsWhole) (hc0 : ¬cond0_0 i)
    (x0 : Vec F S16 .f32) (x1 : Vec F S512x1024 .f32) (x2 : Vec F S512x256 .f32) (x3 : Vec F S128x256 .f32) (x4 : Vec F S1x128x256 .f32) (x5 : Vec F S512x256 .f32) (x6 : Vec F S128x256 .f32) (x7 : Vec F S1x128x256 .f32) (x8 : Vec F S512x1024 .f32) (x9 : Vec F S1024x1024 .bf16) (x10 : Vec F S1x1024 .f32) (x11 : Vec F S1024x2816 .bf16) (x12 : Vec F S1024x2816 .bf16) (x13 : Vec F S2816x1024 .bf16) (x14 : Vec F S1x1024 .f32) (xs0 : Vec F S512x1024 .bf16) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xs0 = stepOut x8 x9 x10 x11 x12 x13 x14 xs0 := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xs0)]
  have e : stepOut x8 x9 x10 x11 x12 x13 x14 xs0 = ffnOut (View.readAt (Elt F) arg9.view (Rect.unit (s := S512x1024) ![0, 0] S512x1024.size inb_S512x1024_S512x1024_0_0).toLoadRect (harg9.unread x8)) (View.readAt (Elt F) arg17.view (Rect.unit (s := S512x1024) ![0, 0] S512x1024.size inb_S512x1024_S512x1024_0_0).toLoadRect (harg17.unread xs0)) (View.readAt (Elt F) arg10.view (Rect.unit (s := S1024x1024) ![0, 0] S1024x1024.size inb_S1024x1024_S1024x1024_0_0).toLoadRect (harg10.unread x9)) (View.readAt (Elt F) arg11.view (Rect.unit (s := S1x1024) ![0, 0] S1x1024.size inb_S1x1024_S1x1024_0_0).toLoadRect (harg11.unread x10)) (View.readAt (Elt F) arg12.view (Rect.unit (s := S1024x2816) ![0, 0] S1024x1408.size inb_S1024x2816_S1024x1408_0_0).toLoadRect (harg12.unread x11)) (View.readAt (Elt F) arg12.view (Rect.unit (s := S1024x2816) ![0, 1408] S1024x1408.size inb_S1024x2816_S1024x1408_0_1408).toLoadRect (harg12.unread x11)) (View.readAt (Elt F) arg13.view (Rect.unit (s := S1024x2816) ![0, 0] S1024x1408.size inb_S1024x2816_S1024x1408_0_0).toLoadRect (harg13.unread x12)) (View.readAt (Elt F) arg13.view (Rect.unit (s := S1024x2816) ![0, 1408] S1024x1408.size inb_S1024x2816_S1024x1408_0_1408).toLoadRect (harg13.unread x12)) (View.readAt (Elt F) arg14.view (Rect.unit (s := S2816x1024) ![0, 0] S1408x1024.size inb_S2816x1024_S1408x1024_0_0).toLoadRect (harg14.unread x13)) (View.readAt (Elt F) arg14.view (Rect.unit (s := S2816x1024) ![1408, 0] S1408x1024.size inb_S2816x1024_S1408x1024_1408_0).toLoadRect (harg14.unread x13)) (View.readAt (Elt F) arg15.view (Rect.unit (s := S1x1024) ![0, 0] S1x1024.size inb_S1x1024_S1x1024_0_0).toLoadRect (harg15.unread x14)) := by
    unfold stepOut
    simp only [View.readAt_eq_ld, harg9.read_unread, harg10.read_unread, harg11.read_unread, harg12.read_unread, harg13.read_unread, harg14.read_unread, harg15.read_unread, harg17.read_unread]
  rw [e]
  unfold kernelRun0_B
  dsimp only
  refine (View.canon_unit_zero (by funext a; match a with | ⟨0, _⟩ => rfl | ⟨1, _⟩ => rfl) _ _).trans ?_
  rfl

/-- What the first step leaves in the carried scratch: the zeros it starts with, under its 32 tiles. -/
theorem sout_A (c : Dev nD) (i : grid0.Coords) (arg1 : Memref sig .tc .smem S16 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S128x256 .f32) (harg4 : arg4.IsWhole) (arg5 : Memref sig .tc .vmem S1x128x256 .f32) (harg5 : arg5.IsWhole) (arg6 : Memref sig .tc .vmem S512x256 .f32) (harg6 : arg6.IsWhole) (arg7 : Memref sig .tc .vmem S128x256 .f32) (harg7 : arg7.IsWhole) (arg8 : Memref sig .tc .vmem S1x128x256 .f32) (harg8 : arg8.IsWhole) (arg9 : Memref sig .tc .vmem S512x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x2816 .bf16) (harg12 : arg12.IsWhole) (arg13 : Memref sig .tc .vmem S1024x2816 .bf16) (harg13 : arg13.IsWhole) (arg14 : Memref sig .tc .vmem S2816x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .bf16) (harg17 : arg17.IsWhole) (hc0 : cond0_0 i)
    (x0 : Vec F S16 .f32) (x1 : Vec F S512x1024 .f32) (x2 : Vec F S512x256 .f32) (x3 : Vec F S128x256 .f32) (x4 : Vec F S1x128x256 .f32) (x5 : Vec F S512x256 .f32) (x6 : Vec F S128x256 .f32) (x7 : Vec F S1x128x256 .f32) (x8 : Vec F S512x1024 .f32) (x9 : Vec F S1024x1024 .bf16) (x10 : Vec F S1x1024 .f32) (x11 : Vec F S1024x2816 .bf16) (x12 : Vec F S1024x2816 .bf16) (x13 : Vec F S2816x1024 .bf16) (x14 : Vec F S1x1024 .f32) :
    ∃ P : View.Piece (Elt F) S512x1024 .bf16, sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 = View.canon (stepTiles (i 0).val x0 x1 x2 x3 x4 x5 x6 x7 ++ [P]) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14)]
  have e : stepTiles (i 0).val x0 x1 x2 x3 x4 x5 x6 x7 = tiles (firstOf (i 0).val) (fun n => (View.readAt (Elt F) arg1.view (Rect.unit (s := S16) ![n.val] S1.size (inbSink n)).toLoadRect (harg1.unread x0)) (Shape.Idx.first numel1_S1.ge)) (View.readAt (Elt F) arg2.view (Rect.unit (s := S512x1024) ![0, 0] S128x1024.size inb_S512x1024_S128x1024_0_0).toLoadRect (harg2.unread x1)) (View.readAt (Elt F) arg2.view (Rect.unit (s := S512x1024) ![128, 0] S128x1024.size inb_S512x1024_S128x1024_128_0).toLoadRect (harg2.unread x1)) (View.readAt (Elt F) arg2.view (Rect.unit (s := S512x1024) ![256, 0] S128x1024.size inb_S512x1024_S128x1024_256_0).toLoadRect (harg2.unread x1)) (View.readAt (Elt F) arg2.view (Rect.unit (s := S512x1024) ![384, 0] S128x1024.size inb_S512x1024_S128x1024_384_0).toLoadRect (harg2.unread x1)) (View.readAt (Elt F) arg3.view (Rect.unit (s := S512x256) ![0, 0] S128x256.size inb_S512x256_S128x256_0_0).toLoadRect (harg3.unread x2)) (View.readAt (Elt F) arg3.view (Rect.unit (s := S512x256) ![128, 0] S128x256.size inb_S512x256_S128x256_128_0).toLoadRect (harg3.unread x2)) (View.readAt (Elt F) arg3.view (Rect.unit (s := S512x256) ![256, 0] S128x256.size inb_S512x256_S128x256_256_0).toLoadRect (harg3.unread x2)) (View.readAt (Elt F) arg3.view (Rect.unit (s := S512x256) ![384, 0] S128x256.size inb_S512x256_S128x256_384_0).toLoadRect (harg3.unread x2)) (View.readAt (Elt F) arg6.view (Rect.unit (s := S512x256) ![0, 0] S128x256.size inb_S512x256_S128x256_0_0).toLoadRect (harg6.unread x5)) (View.readAt (Elt F) arg6.view (Rect.unit (s := S512x256) ![128, 0] S128x256.size inb_S512x256_S128x256_128_0).toLoadRect (harg6.unread x5)) (View.readAt (Elt F) arg6.view (Rect.unit (s := S512x256) ![256, 0] S128x256.size inb_S512x256_S128x256_256_0).toLoadRect (harg6.unread x5)) (View.readAt (Elt F) arg6.view (Rect.unit (s := S512x256) ![384, 0] S128x256.size inb_S512x256_S128x256_384_0).toLoadRect (harg6.unread x5)) (View.readAt (Elt F) arg4.view (Rect.unit (s := S128x256) ![0, 0] S128x256.size inb_S128x256_S128x256_0_0).toLoadRect (harg4.unread x3)) (View.readAt (Elt F) arg7.view (Rect.unit (s := S128x256) ![0, 0] S128x256.size inb_S128x256_S128x256_0_0).toLoadRect (harg7.unread x6)) (View.readAt (Elt F) arg5.view (Rect.unit (s := S1x128x256) ![0, 0, 0] S1x128x256.size inb_S1x128x256_S1x128x256_0_0_0).toLoadRect (harg5.unread x4)) (View.readAt (Elt F) arg8.view (Rect.unit (s := S1x128x256) ![0, 0, 0] S1x128x256.size inb_S1x128x256_S1x128x256_0_0_0).toLoadRect (harg8.unread x7)) := by
    unfold stepTiles
    simp only [View.readAt_eq_ld, harg1.read_unread, harg2.read_unread, harg3.read_unread, harg4.read_unread, harg5.read_unread, harg6.read_unread, harg7.read_unread, harg8.read_unread]
  rw [e]
  unfold kernelRun0_A
  dsimp only
  exact ⟨_, rfl⟩

end Cert.KernelIdeal.Hand

end
-- ==== Proof.KFfn.lean ====
module

public import proofs.«01_k».proof.Proof.FfnRun
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe Idealize.SL.Sem

/-! ## The feed-forward part of a step, at one entry -/

/-- The root-mean-square normalization of one row. -/
def rmsRow (x : Fin 1024 → EReal) (g : Fin 1024 → EReal) (c : Fin 1024) : EReal :=
  x c * Ideal.rsqrt (Ideal.div (∑ j, x j * x j) (Ideal.ofBits .f32 1149239296#32) + Ideal.ofBits .f32 925353388#32) * g c

/-- One gated entry as the kernel computes it: `(h · tanh h + h) · u` with `h` half of the gate. -/
def gateK (a u : EReal) : EReal :=
  (Ideal.ofBits .f32 1056964608#32 * a * Ideal.tanh (Ideal.ofBits .f32 1056964608#32 * a) + Ideal.ofBits .f32 1056964608#32 * a) * u

/-- One row of the layer's output before the last normalization, over the row after the attention. -/
def accK (x : Fin 1024 → EReal) (g : Fin 1024 → EReal) (wg wu : Fin 1024 → Fin 2816 → EReal) (wd : Fin 2816 → Fin 1024 → EReal) (c : Fin 1024) : EReal :=
  x c + (∑ f : Fin 1408, gateK (∑ j, rmsRow x g j * wg j ⟨f.val, by omega⟩) (∑ j, rmsRow x g j * wu j ⟨f.val, by omega⟩) * wd ⟨f.val, by omega⟩ c)
    + (∑ f : Fin 1408, gateK (∑ j, rmsRow x g j * wg j ⟨1408 + f.val, by omega⟩) (∑ j, rmsRow x g j * wu j ⟨1408 + f.val, by omega⟩) * wd ⟨1408 + f.val, by omega⟩ c)

/-- An entry after the residual and the projected mix. -/
theorem resid_at (h : Vec Ideal S512x1024 .f32) (o : Vec Ideal S512x1024 .bf16) (wm : Vec Ideal S1024x1024 .bf16) (r : Fin 512) (c : Fin 1024) :
    resid h o wm (ix2 r c) = (h (ix2 r c) + ∑ j, o (ix2 r j) * wm (ix2 j c) : EReal) := by
  pointwise [resid, dot_S512x1024_S1024x1024_S512x1024_1_0_0_1_n_n]

/-- An entry of the normed row. -/
theorem normed_at (x : FVec Ideal S512x1024 .f32) (g : Vec Ideal S1x1024 .f32) (r : Fin 512) (c : Fin 1024) :
    normed x g (ix2 r c) = rmsRow (fun j => x (ix2 r j)) (fun j => g (ix2 0 j)) c := by
  pointwise [normed, rmsScale]
  rfl

/-- An entry of a product with a slab of weights. -/
theorem slab_at (x : FVec Ideal S512x1024 .bf16) (w : Vec Ideal S1024x1408 .bf16) (r : Fin 512) (c : Fin 1408) :
    slab x w (ix2 r c) = (∑ j, x (ix2 r j) * w (ix2 j c) : EReal) := by
  pointwise [slab, dot_S512x1024_S1024x1408_S512x1408_1_0_0_1_n_n]

/-- An entry of the gated slab. -/
theorem gated_at (x : FVec Ideal S512x1024 .bf16) (wg wu : Vec Ideal S1024x1408 .bf16) (r : Fin 512) (c : Fin 1408) :
    gated x wg wu (ix2 r c) = gateK (∑ j, x (ix2 r j) * wg (ix2 j c) : EReal) (∑ j, x (ix2 r j) * wu (ix2 j c) : EReal) := by
  pointwise [gated, halfGate]
  rw [slab_at, slab_at]
  rfl

/-- An entry of the down projection of a slab. -/
theorem down_at (x : FVec Ideal S512x1408 .f32) (w : Vec Ideal S1408x1024 .bf16) (r : Fin 512) (c : Fin 1024) :
    down x w (ix2 r c) = (∑ j, x (ix2 r j) * w (ix2 j c) : EReal) := by
  pointwise [down, dot_S512x1408_S1408x1024_S512x1024_1_0_0_1_n_n]

/-- What one slab of the feed-forward part adds. -/
theorem share_at (h1 : FVec Ideal S512x1024 .f32) (g : Vec Ideal S1x1024 .f32) (wg wu : Vec Ideal S1024x1408 .bf16) (wd : Vec Ideal S1408x1024 .bf16) (r : Fin 512) (c : Fin 1024) :
    down (gated (truncf .bf16 (normed h1 g) bitsLt_bf16_f32) wg wu) wd (ix2 r c) =
      ∑ f : Fin 1408, gateK (∑ j, rmsRow (fun j => h1 (ix2 r j)) (fun j => g (ix2 0 j)) j * wg (ix2 j f)) (∑ j, rmsRow (fun j => h1 (ix2 r j)) (fun j => g (ix2 0 j)) j * wu (ix2 j f)) * wd (ix2 f c) := by
  rw [down_at]
  refine Finset.sum_congr rfl fun f _ => congrArg (fun z : EReal => z * wd (ix2 f c)) ?_
  rw [gated_at]
  refine congrArg₂ gateK (Finset.sum_congr rfl fun j _ => congrArg (fun z : EReal => z * wg (ix2 j f)) (normed_at h1 g r j)) (Finset.sum_congr rfl fun j _ => congrArg (fun z : EReal => z * wu (ix2 j f)) (normed_at h1 g r j))

/-- The accumulated feed-forward part. -/
theorem ffnAcc_at (h1 : FVec Ideal S512x1024 .f32) (g : Vec Ideal S1x1024 .f32) (wg0 wg1 wu0 wu1 : Vec Ideal S1024x1408 .bf16) (wd0 wd1 : Vec Ideal S1408x1024 .bf16)
    (wg wu : Fin 1024 → Fin 2816 → EReal) (wd : Fin 2816 → Fin 1024 → EReal)
    (hg0 : ∀ j (f : Fin 1408), wg0 (ix2 j f) = wg j ⟨f.val, by omega⟩) (hg1 : ∀ j (f : Fin 1408), wg1 (ix2 j f) = wg j ⟨1408 + f.val, by omega⟩)
    (hu0 : ∀ j (f : Fin 1408), wu0 (ix2 j f) = wu j ⟨f.val, by omega⟩) (hu1 : ∀ j (f : Fin 1408), wu1 (ix2 j f) = wu j ⟨1408 + f.val, by omega⟩)
    (hd0 : ∀ (f : Fin 1408) j, wd0 (ix2 f j) = wd ⟨f.val, by omega⟩ j) (hd1 : ∀ (f : Fin 1408) j, wd1 (ix2 f j) = wd ⟨1408 + f.val, by omega⟩ j)
    (r : Fin 512) (c : Fin 1024) :
    ffnAcc h1 g wg0 wg1 wu0 wu1 wd0 wd1 (ix2 r c) = accK (fun j => h1 (ix2 r j)) (fun j => g (ix2 0 j)) wg wu wd c := by
  pointwise [ffnAcc]
  rw [share_at, share_at]
  unfold accK
  simp only [hg0, hg1, hu0, hu1, hd0, hd1]

/-- Reading a range of columns. -/
theorem ldcols_at (x : Vec Ideal S1024x2816 .bf16) (o : ℕ) (h : ∀ a, (![0, o] : Fin 2 → ℕ) a + S1024x1408.size a ≤ S1024x2816.size a) (j : Fin 1024) (f : Fin 1408) (R : Fin 2816) (hR : R.val = o + f.val) :
    View.ld x (Rect.unit (s := S1024x2816) ![0, o] S1024x1408.size h) (ix2 j f) = x (ix2 j R) :=
  congrArg x (funext fun a => match a with
    | ⟨0, _⟩ => Fin.ext (by show 0 + 1 * j.val = j.val; omega)
    | ⟨1, _⟩ => Fin.ext (by show o + 1 * f.val = R.val; omega))

/-- Reading a range of rows. -/
theorem ldrows_at (x : Vec Ideal S2816x1024 .bf16) (o : ℕ) (h : ∀ a, (![o, 0] : Fin 2 → ℕ) a + S1408x1024.size a ≤ S2816x1024.size a) (f : Fin 1408) (j : Fin 1024) (R : Fin 2816) (hR : R.val = o + f.val) :
    View.ld x (Rect.unit (s := S2816x1024) ![o, 0] S1408x1024.size h) (ix2 f j) = x (ix2 R j) :=
  congrArg x (funext fun a => match a with
    | ⟨0, _⟩ => Fin.ext (by show o + 1 * f.val = R.val; omega)
    | ⟨1, _⟩ => Fin.ext (by show 0 + 1 * j.val = j.val; omega))

/-- The offsets of a whole read are zero. -/
theorem zero2 : (![0, 0] : Fin 2 → ℕ) = fun _ => 0 := by
  funext a
  match a with
  | ⟨0, _⟩ => rfl
  | ⟨1, _⟩ => rfl

/-- The rows a step writes, at one entry. -/
theorem stepOut_at (x8 : Vec Ideal S512x1024 .f32) (x9 : Vec Ideal S1024x1024 .bf16) (x10 : Vec Ideal S1x1024 .f32) (x11 : Vec Ideal S1024x2816 .bf16) (x12 : Vec Ideal S1024x2816 .bf16) (x13 : Vec Ideal S2816x1024 .bf16) (x14 : Vec Ideal S1x1024 .f32) (xs0 : Vec Ideal S512x1024 .bf16)
    (r : Fin 512) (c : Fin 1024) :
    stepOut x8 x9 x10 x11 x12 x13 x14 xs0 (ix2 r c) =
      rmsRow (accK (fun j => (x8 (ix2 r j) + ∑ i, xs0 (ix2 r i) * x9 (ix2 i j) : EReal)) (fun j => x10 (ix2 0 j))
        (fun j f => x11 (ix2 j f)) (fun j f => x12 (ix2 j f)) (fun f j => x13 (ix2 f j))) (fun j => x14 (ix2 0 j)) c := by
  unfold stepOut ffnOut
  simp only [View.ld_unit_zero (S := S512x1024) zero2, View.ld_unit_zero (S := S1024x1024) zero2, View.ld_unit_zero (S := S1x1024) zero2]
  rw [normed_at]
  refine congrArg (fun z => rmsRow z (fun j => x14 (ix2 0 j)) c) (funext fun j => ?_)
  refine (ffnAcc_at _ _ _ _ _ _ _ _ (fun j f => x11 (ix2 j f)) (fun j f => x12 (ix2 j f)) (fun f j => x13 (ix2 f j))
    (fun j f => ldcols_at x11 0 _ j f _ (by show f.val = 0 + f.val; omega)) (fun j f => ldcols_at x11 1408 _ j f _ rfl)
    (fun j f => ldcols_at x12 0 _ j f _ (by show f.val = 0 + f.val; omega)) (fun j f => ldcols_at x12 1408 _ j f _ rfl)
    (fun f j => ldrows_at x13 0 _ f j _ (by show f.val = 0 + f.val; omega)) (fun f j => ldrows_at x13 1408 _ f j _ rfl) r j).trans ?_
  exact congrArg (fun z => accK z (fun j => x10 (ix2 0 j)) (fun j f => x11 (ix2 j f)) (fun j f => x12 (ix2 j f)) (fun f j => x13 (ix2 f j)) j) (funext fun k => resid_at x8 xs0 x9 r k)

end Cert.KernelIdeal.Hand

end
-- ==== Proof.KArray.lean ====
module

public import proofs.«01_k».proof.Proof.KStep
public import proofs.«01_k».proof.Proof.KFfn
public import proofs.«01_k».proof.Proof.Gen.KernelIdeal.Value
public import Idealize.ShloMosaic.Lib.Claim

@[expose] public section

set_option maxRecDepth 16384

noncomputable section

namespace Cert.KernelIdeal.Hand

open Cert.KernelIdeal Cert.KernelIdeal.Gen Idealize.ShloMosaic Idealize.ShloMosaic.TcCoe Idealize.SL.Sem

/-! ## The result array, at one entry, over the launch's arguments -/

variable (m : (ℓ : Loc nD τ sig) → Buf (Elt Ideal) ℓ)

/-! ### The arrays the host prepares -/

/-- Queries, as the kernel's rows: entry (R, C) of the reshaped array in terms of the argument. -/
theorem V_q (c : Dev nD) (R : Fin 32768) (C : Fin 1024) :
    V m c main_v0 (ix2 R C) = (m ((c : Thread nD τ).loc main_arg0) : FVec Ideal S16x2048x16x64 .f32) (ix4 ⟨R.val / 2048, by omega⟩ ⟨R.val % 2048, by omega⟩ ⟨C.val / 64, by omega⟩ ⟨C.val % 64, by omega⟩) := by
  have e : V m c main_v0 = shapeCast S32768x1024 (m ((c : Thread nD τ).loc main_arg0)) shapeCasts_S16x2048x16x64_S32768x1024 := by
    unfold_abbrev_sides
    after_results
    rfl
  rw [e]
  generalize m ((c : Thread nD τ).loc main_arg0) = x
  exact (show ∀ x : FVec Ideal S16x2048x16x64 .f32, shapeCast S32768x1024 x shapeCasts_S16x2048x16x64_S32768x1024 (ix2 R C) = x (ix4 ⟨R.val / 2048, by omega⟩ ⟨R.val % 2048, by omega⟩ ⟨C.val / 64, by omega⟩ ⟨C.val % 64, by omega⟩) from fun x => by pointwise []) x

/-- Keys, as the kernel's rows. -/
theorem V_k (c : Dev nD) (R : Fin 32768) (C : Fin 256) :
    V m c main_v1 (ix2 R C) = (m ((c : Thread nD τ).loc main_arg1) : FVec Ideal S16x2048x4x64 .f32) (ix4 ⟨R.val / 2048, by omega⟩ ⟨R.val % 2048, by omega⟩ ⟨C.val / 64, by omega⟩ ⟨C.val % 64, by omega⟩) := by
  have e : V m c main_v1 = shapeCast S32768x256 (m ((c : Thread nD τ).loc main_arg1)) shapeCasts_S16x2048x4x64_S32768x256 := by
    unfold_abbrev_sides
    after_results
    rfl
  rw [e]
  generalize m ((c : Thread nD τ).loc main_arg1) = x
  exact (show ∀ x : FVec Ideal S16x2048x4x64 .f32, shapeCast S32768x256 x shapeCasts_S16x2048x4x64_S32768x256 (ix2 R C) = x (ix4 ⟨R.val / 2048, by omega⟩ ⟨R.val % 2048, by omega⟩ ⟨C.val / 64, by omega⟩ ⟨C.val % 64, by omega⟩) from fun x => by pointwise []) x

/-- Values, as the kernel's rows. -/
theorem V_v (c : Dev nD) (R : Fin 32768) (C : Fin 256) :
    V m c main_v2 (ix2 R C) = (m ((c : Thread nD τ).loc main_arg2) : FVec Ideal S16x2048x4x64 .f32) (ix4 ⟨R.val / 2048, by omega⟩ ⟨R.val % 2048, by omega⟩ ⟨C.val / 64, by omega⟩ ⟨C.val % 64, by omega⟩) := by
  have e : V m c main_v2 = shapeCast S32768x256 (m ((c : Thread nD τ).loc main_arg2)) shapeCasts_S16x2048x4x64_S32768x256 := by
    unfold_abbrev_sides
    after_results
    rfl
  rw [e]
  generalize m ((c : Thread nD τ).loc main_arg2) = x
  exact (show ∀ x : FVec Ideal S16x2048x4x64 .f32, shapeCast S32768x256 x shapeCasts_S16x2048x4x64_S32768x256 (ix2 R C) = x (ix4 ⟨R.val / 2048, by omega⟩ ⟨R.val % 2048, by omega⟩ ⟨C.val / 64, by omega⟩ ⟨C.val % 64, by omega⟩) from fun x => by pointwise []) x

/-- Buffered keys, as the kernel's rows. -/
theorem V_kb (c : Dev nD) (R : Fin 128) (C : Fin 256) :
    V m c main_v3 (ix3 0 R C) = (m ((c : Thread nD τ).loc main_arg3) : FVec Ideal S1x128x4x64 .f32) (ix4 0 R ⟨C.val / 64, by omega⟩ ⟨C.val % 64, by omega⟩) := by
  have e : V m c main_v3 = shapeCast S1x128x256 (m ((c : Thread nD τ).loc main_arg3)) shapeCasts_S1x128x4x64_S1x128x256 := by
    unfold_abbrev_sides
    after_results
    rfl
  rw [e]
  generalize m ((c : Thread nD τ).loc main_arg3) = x
  exact (show ∀ x : FVec Ideal S1x128x4x64 .f32, shapeCast S1x128x256 x shapeCasts_S1x128x4x64_S1x128x256 (ix3 0 R C) = x (ix4 0 R ⟨C.val / 64, by omega⟩ ⟨C.val % 64, by omega⟩) from fun x => by pointwise []) x

/-- Buffered values, as the kernel's rows. -/
theorem V_vb (c : Dev nD) (R : Fin 128) (C : Fin 256) :
    V m c main_v4 (ix3 0 R C) = (m ((c : Thread nD τ).loc main_arg4) : FVec Ideal S1x128x4x64 .f32) (ix4 0 R ⟨C.val / 64, by omega⟩ ⟨C.val % 64, by omega⟩) := by
  have e : V m c main_v4 = shapeCast S1x128x256 (m ((c : Thread nD τ).loc main_arg4)) shapeCasts_S1x128x4x64_S1x128x256 := by
    unfold_abbrev_sides
    after_results
    rfl
  rw [e]
  generalize m ((c : Thread nD τ).loc main_arg4) = x
  exact (show ∀ x : FVec Ideal S1x128x4x64 .f32, shapeCast S1x128x256 x shapeCasts_S1x128x4x64_S1x128x256 (ix3 0 R C) = x (ix4 0 R ⟨C.val / 64, by omega⟩ ⟨C.val % 64, by omega⟩) from fun x => by pointwise []) x

/-- The sinks that the kernel is given. -/
theorem V_sink (c : Dev nD) (n : Fin 16) :
    V m c main_v5 (ix1 n) = (m ((c : Thread nD τ).loc main_arg5) : FVec Ideal S1x16 .f32) (ix2 0 n) := by
  have e : V m c main_v5 = shapeCast S16 (m ((c : Thread nD τ).loc main_arg5)) shapeCasts_S1x16_S16 := by
    unfold_abbrev_sides
    after_results
    rfl
  rw [e]
  generalize m ((c : Thread nD τ).loc main_arg5) = x
  exact (show ∀ x : FVec Ideal S1x16 .f32, shapeCast S16 x shapeCasts_S1x16_S16 (ix1 n) = x (ix2 0 n) from fun x => by pointwise []) x

/-- The residual stream, as the kernel's rows. -/
theorem V_h (c : Dev nD) (R : Fin 32768) (C : Fin 1024) :
    V m c main_v6 (ix2 R C) = (m ((c : Thread nD τ).loc main_arg6) : FVec Ideal S16x2048x1024 .f32) (ix3 ⟨R.val / 2048, by omega⟩ ⟨R.val % 2048, by omega⟩ C) := by
  have e : V m c main_v6 = shapeCast S32768x1024 (m ((c : Thread nD τ).loc main_arg6)) shapeCasts_S16x2048x1024_S32768x1024 := by
    unfold_abbrev_sides
    after_results
    rfl
  rw [e]
  generalize m ((c : Thread nD τ).loc main_arg6) = x
  exact (show ∀ x : FVec Ideal S16x2048x1024 .f32, shapeCast S32768x1024 x shapeCasts_S16x2048x1024_S32768x1024 (ix2 R C) = x (ix3 ⟨R.val / 2048, by omega⟩ ⟨R.val % 2048, by omega⟩ C) from fun x => by pointwise []) x

/-- The output projection that the kernel is given. -/
theorem V_wo (c : Dev nD) (R C : Fin 1024) :
    V m c main_v8 (ix2 R C) = (m ((c : Thread nD τ).loc main_arg7) : FVec Ideal S1x1024x1024 .f32) (ix3 0 R C) := by
  have e : V m c main_v8 = truncf (F := Ideal) .bf16 (shapeCast S1024x1024 (m ((c : Thread nD τ).loc main_arg7)) shapeCasts_S1x1024x1024_S1024x1024) bitsLt_bf16_f32 := by
    unfold_abbrev_sides
    after_results
    rfl
  rw [e]
  generalize m ((c : Thread nD τ).loc main_arg7) = x
  exact (show ∀ x : FVec Ideal S1x1024x1024 .f32, truncf (F := Ideal) .bf16 (shapeCast S1024x1024 x shapeCasts_S1x1024x1024_S1024x1024) bitsLt_bf16_f32 (ix2 R C) = x (ix3 0 R C) from fun x => by pointwise []) x

/-- The second layer's norm gain. -/
theorem V_g (c : Dev nD) (C : Fin 1024) :
    V m c main_v11 (ix2 0 C) = (m ((c : Thread nD τ).loc main_arg8) : FVec Ideal S2x1024 .f32) (ix2 1 C) := by
  have e : V m c main_v11 = broadcastInDim S1x1024 ![1] bcast_S1024_S1x1024_1 (shapeCast S1024 (extractStridedSlice S1x1024 ![1, 0] (m ((c : Thread nD τ).loc main_arg8)) slices_S2x1024_S1x1024_1_0) shapeCasts_S1x1024_S1024) := by
    unfold_abbrev_sides
    after_results
    rfl
  rw [e]
  generalize m ((c : Thread nD τ).loc main_arg8) = x
  exact (show ∀ x : FVec Ideal S2x1024 .f32, broadcastInDim S1x1024 ![1] bcast_S1024_S1x1024_1 (shapeCast S1024 (extractStridedSlice S1x1024 ![1, 0] x slices_S2x1024_S1x1024_1_0) shapeCasts_S1x1024_S1024) (ix2 0 C) = x (ix2 1 C) from fun x => by pointwise []) x

/-- The second layer's gate weights. -/
theorem V_wg (c : Dev nD) (R : Fin 1024) (C : Fin 2816) :
    V m c main_v14 (ix2 R C) = (m ((c : Thread nD τ).loc main_arg9) : FVec Ideal S2x1024x2816 .f32) (ix3 1 R C) := by
  have e : V m c main_v14 = truncf (F := Ideal) .bf16 (shapeCast S1024x2816 (extractStridedSlice S1x1024x2816 ![1, 0, 0] (m ((c : Thread nD τ).loc main_arg9)) slices_S2x1024x2816_S1x1024x2816_1_0_0) shapeCasts_S1x1024x2816_S1024x2816) bitsLt_bf16_f32 := by
    unfold_abbrev_sides
    after_results
    rfl
  rw [e]
  generalize m ((c : Thread nD τ).loc main_arg9) = x
  exact (show ∀ x : FVec Ideal S2x1024x2816 .f32, truncf (F := Ideal) .bf16 (shapeCast S1024x2816 (extractStridedSlice S1x1024x2816 ![1, 0, 0] x slices_S2x1024x2816_S1x1024x2816_1_0_0) shapeCasts_S1x1024x2816_S1024x2816) bitsLt_bf16_f32 (ix2 R C) = x (ix3 1 R C) from fun x => by pointwise []) x

/-- The second layer's up weights. -/
theorem V_wu (c : Dev nD) (R : Fin 1024) (C : Fin 2816) :
    V m c main_v17 (ix2 R C) = (m ((c : Thread nD τ).loc main_arg10) : FVec Ideal S2x1024x2816 .f32) (ix3 1 R C) := by
  have e : V m c main_v17 = truncf (F := Ideal) .bf16 (shapeCast S1024x2816 (extractStridedSlice S1x1024x2816 ![1, 0, 0] (m ((c : Thread nD τ).loc main_arg10)) slices_S2x1024x2816_S1x1024x2816_1_0_0) shapeCasts_S1x1024x2816_S1024x2816) bitsLt_bf16_f32 := by
    unfold_abbrev_sides
    after_results
    rfl
  rw [e]
  generalize m ((c : Thread nD τ).loc main_arg10) = x
  exact (show ∀ x : FVec Ideal S2x1024x2816 .f32, truncf (F := Ideal) .bf16 (shapeCast S1024x2816 (extractStridedSlice S1x1024x2816 ![1, 0, 0] x slices_S2x1024x2816_S1x1024x2816_1_0_0) shapeCasts_S1x1024x2816_S1024x2816) bitsLt_bf16_f32 (ix2 R C) = x (ix3 1 R C) from fun x => by pointwise []) x

/-- The second layer's down weights. -/
theorem V_wd (c : Dev nD) (R : Fin 2816) (C : Fin 1024) :
    V m c main_v20 (ix2 R C) = (m ((c : Thread nD τ).loc main_arg11) : FVec Ideal S2x2816x1024 .f32) (ix3 1 R C) := by
  have e : V m c main_v20 = truncf (F := Ideal) .bf16 (shapeCast S2816x1024 (extractStridedSlice S1x2816x1024 ![1, 0, 0] (m ((c : Thread nD τ).loc main_arg11)) slices_S2x2816x1024_S1x2816x1024_1_0_0) shapeCasts_S1x2816x1024_S2816x1024) bitsLt_bf16_f32 := by
    unfold_abbrev_sides
    after_results
    rfl
  rw [e]
  generalize m ((c : Thread nD τ).loc main_arg11) = x
  exact (show ∀ x : FVec Ideal S2x2816x1024 .f32, truncf (F := Ideal) .bf16 (shapeCast S2816x1024 (extractStridedSlice S1x2816x1024 ![1, 0, 0] x slices_S2x2816x1024_S1x2816x1024_1_0_0) shapeCasts_S1x2816x1024_S2816x1024) bitsLt_bf16_f32 (ix2 R C) = x (ix3 1 R C) from fun x => by pointwise []) x

/-- The final norm's gain. -/
theorem V_gf (c : Dev nD) (C : Fin 1024) :
    V m c main_v21 (ix2 0 C) = (m ((c : Thread nD τ).loc main_arg12) : FVec Ideal S1024 .f32) (ix1 C) := by
  have e : V m c main_v21 = broadcastInDim S1x1024 ![1] bcast_S1024_S1x1024_1 (m ((c : Thread nD τ).loc main_arg12)) := by
    unfold_abbrev_sides
    after_results
  rw [e]
  generalize m ((c : Thread nD τ).loc main_arg12) = x
  exact (show ∀ x : FVec Ideal S1024 .f32, broadcastInDim S1x1024 ![1] bcast_S1024_S1x1024_1 x (ix2 0 C) = x (ix1 C) from fun x => by pointwise []) x

end Cert.KernelIdeal.Hand

end
-- ==== Proof.KScr.lean ====
module

public import proofs.«01_k».proof.Proof.KArray

@[expose] public section

set_option maxRecDepth 16384

noncomputable section

namespace Cert.KernelIdeal.Hand

open Cert.KernelIdeal Cert.KernelIdeal.Gen Idealize.ShloMosaic Idealize.ShloMosaic.TcCoe Idealize.SL.Sem

/-! ## The windows' blocks, at one entry -/

variable (m : (ℓ : Loc nD τ sig) → Buf (Elt Ideal) ℓ)

/-- Where block 0 lies at each step. -/
theorem idx0 : ∀ t : Fin cfg0.N, win0_0.index t = ![0] := (by decide +kernel : ∀ t : Fin grid0.N, _)
/-- Where block 1 lies at each step. -/
theorem idx1 : ∀ t : Fin cfg0.N, win0_1.index t = ![min t.val 63, 0] := (by decide +kernel : ∀ t : Fin grid0.N, _)
/-- Where block 2 lies at each step. -/
theorem idx2 : ∀ t : Fin cfg0.N, win0_2.index t = ![min t.val 63, 0] := (by decide +kernel : ∀ t : Fin grid0.N, _)
/-- Where block 3 lies at each step. -/
theorem idx3 : ∀ t : Fin cfg0.N, win0_3.index t = ![min t.val 63 * 4 - 1, 0] := (by decide +kernel : ∀ t : Fin grid0.N, _)
/-- Where block 4 lies at each step. -/
theorem idx4 : ∀ t : Fin cfg0.N, win0_4.index t = ![0, 0, 0] := (by decide +kernel : ∀ t : Fin grid0.N, _)
/-- Where block 5 lies at each step. -/
theorem idx5 : ∀ t : Fin cfg0.N, win0_5.index t = ![min t.val 63, 0] := (by decide +kernel : ∀ t : Fin grid0.N, _)
/-- Where block 6 lies at each step. -/
theorem idx6 : ∀ t : Fin cfg0.N, win0_6.index t = ![min t.val 63 * 4 - 1, 0] := (by decide +kernel : ∀ t : Fin grid0.N, _)
/-- Where block 7 lies at each step. -/
theorem idx7 : ∀ t : Fin cfg0.N, win0_7.index t = ![0, 0, 0] := (by decide +kernel : ∀ t : Fin grid0.N, _)
/-- Where block 8 lies at each step. -/
theorem idx8 : ∀ t : Fin cfg0.N, win0_8.index t = ![t.val - 1, 0] := (by decide +kernel : ∀ t : Fin grid0.N, _)
/-- Where block 9 lies at each step. -/
theorem idx9 : ∀ t : Fin cfg0.N, win0_9.index t = ![0, 0] := (by decide +kernel : ∀ t : Fin grid0.N, _)
/-- Where block 10 lies at each step. -/
theorem idx10 : ∀ t : Fin cfg0.N, win0_10.index t = ![0, 0] := (by decide +kernel : ∀ t : Fin grid0.N, _)
/-- Where block 11 lies at each step. -/
theorem idx11 : ∀ t : Fin cfg0.N, win0_11.index t = ![0, 0] := (by decide +kernel : ∀ t : Fin grid0.N, _)
/-- Where block 12 lies at each step. -/
theorem idx12 : ∀ t : Fin cfg0.N, win0_12.index t = ![0, 0] := (by decide +kernel : ∀ t : Fin grid0.N, _)
/-- Where block 13 lies at each step. -/
theorem idx13 : ∀ t : Fin cfg0.N, win0_13.index t = ![0, 0] := (by decide +kernel : ∀ t : Fin grid0.N, _)
/-- Where block 14 lies at each step. -/
theorem idx14 : ∀ t : Fin cfg0.N, win0_14.index t = ![0, 0] := (by decide +kernel : ∀ t : Fin grid0.N, _)
/-- Where block 15 lies at each step. -/
theorem idx15 : ∀ t : Fin cfg0.N, win0_15.index t = ![t.val - 1, 0] := (by decide +kernel : ∀ t : Fin grid0.N, _)
/-- The result's block is written back at each step but the first. -/
theorem flush15 : ∀ t : Fin cfg0.N, (cfg0.win 15).flush t = true ↔ t.val ≠ 0 := (by decide +kernel : ∀ t : Fin grid0.N, _)
/-- The grid's coordinate is the step. -/
theorem coords0 : ∀ t : Fin cfg0.N, (grid0.coords t 0).val = t.val := (by decide +kernel : ∀ t : Fin grid0.N, _)
/-- A step starts a sequence where its block is the first of four. -/
theorem firstOf_iff : ∀ t : Fin cfg0.N, firstOf t.val = 0#1 ↔ min t.val 63 % 4 ≠ 0 := (by decide +kernel : ∀ t : Fin grid0.N, _)
/-- There are sixty-five steps. -/
theorem pt_lt (t : Fin cfg0.N) : t.val < 65 := (show ∀ t : Fin grid0.N, t.val < 65 by decide +kernel) t

/-- Block 0 at a step, as entries of its array. -/
theorem blk0 (c : Dev nD) (t : Fin cfg0.N) (n : Fin 16) : iblk m c 0 t (ix1 n) = V m c main_v5 (ix1 n) := by
  refine congrArg (V m c main_v5) ?_
  blk_ext [idx0]
/-- Block 1 at a step, as entries of its array. -/
theorem blk1 (c : Dev nD) (t : Fin cfg0.N) (R : Fin 512) (C : Fin 1024) (R' : Fin 32768) (h : R'.val = 512 * min t.val 63 + R.val) : iblk m c 1 t (ix2 R C) = V m c main_v0 (ix2 R' C) := by
  refine congrArg (V m c main_v0) ?_
  blk_ext [idx1]
/-- Block 2 at a step, as entries of its array. -/
theorem blk2 (c : Dev nD) (t : Fin cfg0.N) (R : Fin 512) (C : Fin 256) (R' : Fin 32768) (h : R'.val = 512 * min t.val 63 + R.val) : iblk m c 2 t (ix2 R C) = V m c main_v1 (ix2 R' C) := by
  refine congrArg (V m c main_v1) ?_
  blk_ext [idx2]
/-- Block 3 at a step, as entries of its array. -/
theorem blk3 (c : Dev nD) (t : Fin cfg0.N) (R : Fin 128) (C : Fin 256) (R' : Fin 32768) (h : R'.val = 128 * (min t.val 63 * 4 - 1) + R.val) : iblk m c 3 t (ix2 R C) = V m c main_v1 (ix2 R' C) := by
  refine congrArg (V m c main_v1) ?_
  blk_ext [idx3]
/-- Block 4 at a step, as entries of its array. -/
theorem blk4 (c : Dev nD) (t : Fin cfg0.N) (R : Fin 128) (C : Fin 256) : iblk m c 4 t (ix3 0 R C) = V m c main_v3 (ix3 0 R C) := by
  refine congrArg (V m c main_v3) ?_
  blk_ext [idx4]
/-- Block 5 at a step, as entries of its array. -/
theorem blk5 (c : Dev nD) (t : Fin cfg0.N) (R : Fin 512) (C : Fin 256) (R' : Fin 32768) (h : R'.val = 512 * min t.val 63 + R.val) : iblk m c 5 t (ix2 R C) = V m c main_v2 (ix2 R' C) := by
  refine congrArg (V m c main_v2) ?_
  blk_ext [idx5]
/-- Block 6 at a step, as entries of its array. -/
theorem blk6 (c : Dev nD) (t : Fin cfg0.N) (R : Fin 128) (C : Fin 256) (R' : Fin 32768) (h : R'.val = 128 * (min t.val 63 * 4 - 1) + R.val) : iblk m c 6 t (ix2 R C) = V m c main_v2 (ix2 R' C) := by
  refine congrArg (V m c main_v2) ?_
  blk_ext [idx6]
/-- Block 7 at a step, as entries of its array. -/
theorem blk7 (c : Dev nD) (t : Fin cfg0.N) (R : Fin 128) (C : Fin 256) : iblk m c 7 t (ix3 0 R C) = V m c main_v4 (ix3 0 R C) := by
  refine congrArg (V m c main_v4) ?_
  blk_ext [idx7]
/-- Block 8 at a step, as entries of its array. -/
theorem blk8 (c : Dev nD) (t : Fin cfg0.N) (R : Fin 512) (C : Fin 1024) (R' : Fin 32768) (h : R'.val = 512 * (t.val - 1) + R.val) : iblk m c 8 t (ix2 R C) = V m c main_v6 (ix2 R' C) := by
  refine congrArg (V m c main_v6) ?_
  blk_ext [idx8]
/-- Block 9 at a step, as entries of its array. -/
theorem blk9 (c : Dev nD) (t : Fin cfg0.N) (R C : Fin 1024) : iblk m c 9 t (ix2 R C) = V m c main_v8 (ix2 R C) := by
  refine congrArg (V m c main_v8) ?_
  blk_ext [idx9]
/-- Block 10 at a step, as entries of its array. -/
theorem blk10 (c : Dev nD) (t : Fin cfg0.N) (C : Fin 1024) : iblk m c 10 t (ix2 0 C) = V m c main_v11 (ix2 0 C) := by
  refine congrArg (V m c main_v11) ?_
  blk_ext [idx10]
/-- Block 11 at a step, as entries of its array. -/
theorem blk11 (c : Dev nD) (t : Fin cfg0.N) (R : Fin 1024) (C : Fin 2816) : iblk m c 11 t (ix2 R C) = V m c main_v14 (ix2 R C) := by
  refine congrArg (V m c main_v14) ?_
  blk_ext [idx11]
/-- Block 12 at a step, as entries of its array. -/
theorem blk12 (c : Dev nD) (t : Fin cfg0.N) (R : Fin 1024) (C : Fin 2816) : iblk m c 12 t (ix2 R C) = V m c main_v17 (ix2 R C) := by
  refine congrArg (V m c main_v17) ?_
  blk_ext [idx12]
/-- Block 13 at a step, as entries of its array. -/
theorem blk13 (c : Dev nD) (t : Fin cfg0.N) (R : Fin 2816) (C : Fin 1024) : iblk m c 13 t (ix2 R C) = V m c main_v20 (ix2 R C) := by
  refine congrArg (V m c main_v20) ?_
  blk_ext [idx13]
/-- Block 14 at a step, as entries of its array. -/
theorem blk14 (c : Dev nD) (t : Fin cfg0.N) (C : Fin 1024) : iblk m c 14 t (ix2 0 C) = V m c main_v21 (ix2 0 C) := by
  refine congrArg (V m c main_v21) ?_
  blk_ext [idx14]

/-! ## What the scratch holds after each step -/

/-- The tiles cover the scratch. -/
theorem tiles_cover (n : ℕ) (x0 : Vec Ideal S16 .f32) (x1 : Vec Ideal S512x1024 .f32) (x2 : Vec Ideal S512x256 .f32) (x3 : Vec Ideal S128x256 .f32) (x4 : Vec Ideal S1x128x256 .f32)
    (x5 : Vec Ideal S512x256 .f32) (x6 : Vec Ideal S128x256 .f32) (x7 : Vec Ideal S1x128x256 .f32) (y : S512x1024.Idx) :
    ∃ p ∈ stepTiles (F := Ideal) n x0 x1 x2 x3 x4 x5 x6 x7, y ∈ p.1.set :=
  View.cover_of_tiledL (stepTiles (F := Ideal) n x0 x1 x2 x3 x4 x5 x6 x7) S128x128.size (by sl_kernel_rfl) y

/-- The scratch after a step holds the attention's rows. -/
theorem scr_after (c : Dev nD) (t : Fin cfg0.N) (R : Fin 512) (C : Fin 1024) :
    (outsAt0 m c t.val t.isLt).2 (ix2 R C) = scrAt (firstOf t.val) (iblk m c 0 t) (iblk m c 1 t) (iblk m c 2 t) (iblk m c 3 t) (iblk m c 4 t) (iblk m c 5 t) (iblk m c 6 t) (iblk m c 7 t) R C := by
  by_cases h0 : t.val % 65 = 0
  · rw [outsAt0_A m c t h0]
    obtain ⟨P, hP⟩ := sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    dsimp only
    rw [hP, coords0 t]
    exact View.canon_append_of_pieces (fun y : S512x1024.Idx => (scrAt (firstOf t.val) (iblk m c 0 t) (iblk m c 1 t) (iblk m c 2 t) (iblk m c 3 t) (iblk m c 4 t) (iblk m c 5 t) (iblk m c 6 t) (iblk m c 7 t) (y 0) (y 1) : Elt Ideal .bf16))
      [P] _ (pieces_are t.val _ _ _ _ _ _ _ _) (ix2 R C) (tiles_cover _ _ _ _ _ _ _ _ _ _)
  · rw [outsAt0_B m c t h0]
    dsimp only
    rw [sout_B, coords0 t]
    exact View.canon_apply_of_pieces (fun y : S512x1024.Idx => (scrAt (firstOf t.val) (iblk m c 0 t) (iblk m c 1 t) (iblk m c 2 t) (iblk m c 3 t) (iblk m c 4 t) (iblk m c 5 t) (iblk m c 6 t) (iblk m c 7 t) (y 0) (y 1) : Elt Ideal .bf16))
      _ (pieces_are t.val _ _ _ _ _ _ _ _) (ix2 R C) (tiles_cover _ _ _ _ _ _ _ _ _ _)

end Cert.KernelIdeal.Hand

end
-- ==== Proof.KAtt.lean ====
module

public import proofs.«01_k».proof.Proof.KScr

@[expose] public section

set_option maxRecDepth 16384

noncomputable section

namespace Cert.KernelIdeal.Hand

open Cert.KernelIdeal Cert.KernelIdeal.Gen Idealize.ShloMosaic Idealize.ShloMosaic.TcCoe Idealize.SL.Sem

/-! ## The kernel's result over its arguments -/

/-- Column `c` of the 128 positions before position `t`'s block: the sequence's own earlier rows, or the carried rows. -/
def befArg (k : FVec Ideal S16x2048x4x64 .f32) (kb : FVec Ideal S1x128x4x64 .f32) (b : Fin 16) (t : Fin 2048) (g : Fin 4) (d : Fin 64) (c : Fin 128) : EReal :=
  if 128 ≤ t.val then k (ix4 b ⟨128 * (t.val / 128) - 128 + c.val, by omega⟩ g d) else kb (ix4 0 c g d)

/-- The attention output at position `t` of sequence `b`, lane `C` of the 16 heads' lanes. -/
def kAtt (q : FVec Ideal S16x2048x16x64 .f32) (k v : FVec Ideal S16x2048x4x64 .f32) (kb vb : FVec Ideal S1x128x4x64 .f32) (s : FVec Ideal S1x16 .f32)
    (b : Fin 16) (t : Fin 2048) (C : Fin 1024) : EReal :=
  attnRow ⟨t.val % 128, by omega⟩ (fun c => 128 ≤ t.val ∨ 112 ≤ c.val)
    (fun c => ∑ d : Fin 64, ((q (ix4 b t ⟨C.val / 64, by omega⟩ d) : EReal) * (((8 * (Real.log 2))⁻¹ : ℝ) : EReal)) * k (ix4 b ⟨128 * (t.val / 128) + c.val, by omega⟩ ⟨C.val / 256, by omega⟩ d))
    (fun c => ∑ d : Fin 64, ((q (ix4 b t ⟨C.val / 64, by omega⟩ d) : EReal) * (((8 * (Real.log 2))⁻¹ : ℝ) : EReal)) * befArg k kb b t ⟨C.val / 256, by omega⟩ d c)
    ((s (ix2 0 ⟨C.val / 64, by omega⟩) : EReal) * ((Real.log 2)⁻¹ : ℝ))
    (fun c => v (ix4 b ⟨128 * (t.val / 128) + c.val, by omega⟩ ⟨C.val / 256, by omega⟩ ⟨C.val % 64, by omega⟩))
    (fun c => befArg v vb b t ⟨C.val / 256, by omega⟩ ⟨C.val % 64, by omega⟩ c)

/-- A row of attention depends only on its row number, its mask and its scores. -/
theorem attnRow_congr (r r' : Fin 128) (hr : r = r') (P P' : Fin 128 → Prop) [DecidablePred P] [DecidablePred P'] (hP : ∀ c, P c ↔ P' c)
    (x x' y y' v v' w w' : Fin 128 → EReal) (k k' : EReal) (hx : ∀ c, x c = x' c) (hy : ∀ c, y c = y' c) (hk : k = k') (hv : ∀ c, v c = v' c) (hw : ∀ c, w c = w' c) :
    attnRow r P x y k v w = attnRow r' P' x' y' k' v' w' := by
  obtain rfl := hr
  obtain rfl := hk
  obtain rfl := funext hx
  obtain rfl := funext hy
  obtain rfl := funext hv
  obtain rfl := funext hw
  obtain rfl : P = P' := funext fun c => propext (hP c)
  congr

variable (m : (ℓ : Loc nD τ sig) → Buf (Elt Ideal) ℓ)

/-- A key of a query's own tile, in the block that the step is given. -/
theorem k_own (c : Dev nD) (t : Fin cfg0.N) (R : Fin 512) (D : Fin 256) (b : Fin 16) (p : Fin 2048) (g : Fin 4) (d : Fin 64)
    (hp : 2048 * b.val + p.val = 512 * min t.val 63 + R.val) (hD : D.val = 64 * g.val + d.val) :
    iblk m c 2 t (ix2 R D) = (m ((c : Thread nD τ).loc main_arg1) : FVec Ideal S16x2048x4x64 .f32) (ix4 b p g d) := by
  have ht := pt_lt t
  rw [blk2 m c t R D ⟨512 * min t.val 63 + R.val, by omega⟩ rfl, V_k]
  generalize (m ((c : Thread nD τ).loc main_arg1) : FVec Ideal S16x2048x4x64 .f32) = x
  congr 2 <;> (apply Fin.ext; dsimp only; omega)

/-- A value of a query's own tile, in the block that the step is given. -/
theorem v_own (c : Dev nD) (t : Fin cfg0.N) (R : Fin 512) (D : Fin 256) (b : Fin 16) (p : Fin 2048) (g : Fin 4) (d : Fin 64)
    (hp : 2048 * b.val + p.val = 512 * min t.val 63 + R.val) (hD : D.val = 64 * g.val + d.val) :
    iblk m c 5 t (ix2 R D) = (m ((c : Thread nD τ).loc main_arg2) : FVec Ideal S16x2048x4x64 .f32) (ix4 b p g d) := by
  have ht := pt_lt t
  rw [blk5 m c t R D ⟨512 * min t.val 63 + R.val, by omega⟩ rfl, V_v]
  generalize (m ((c : Thread nD τ).loc main_arg2) : FVec Ideal S16x2048x4x64 .f32) = x
  congr 2 <;> (apply Fin.ext; dsimp only; omega)

/-- A key of the tile before a query's, from the buffer at a sequence's start. -/
theorem k_bef (c : Dev nD) (t : Fin cfg0.N) (R : Fin 512) (a : Fin 128) (D : Fin 256) (b : Fin 16) (p : Fin 2048) (g : Fin 4) (d : Fin 64)
    (hp : 2048 * b.val + p.val = 512 * min t.val 63 + R.val) (hD : D.val = 64 * g.val + d.val) :
    befAt (firstOf t.val) (iblk m c 2 t) (iblk m c 3 t) (iblk m c 4 t) R a D = befArg (m ((c : Thread nD τ).loc main_arg1)) (m ((c : Thread nD τ).loc main_arg3)) b p g d a := by
  have ht := pt_lt t
  have hf := firstOf_iff t
  unfold befAt befArg
  by_cases h1 : 128 ≤ R.val
  · rw [if_pos h1, if_pos (show 128 ≤ p.val by omega)]
    exact k_own m c t _ D b _ g d (by show 2048 * b.val + (128 * (p.val / 128) - 128 + a.val) = 512 * min t.val 63 + (128 * (R.val / 128) - 128 + a.val); omega) hD
  rw [if_neg h1]
  by_cases h2 : firstOf t.val = 0#1
  · rw [if_pos h2]
    have h3 := hf.1 h2
    rw [if_pos (show 128 ≤ p.val by omega)]
    rw [blk3 m c t a D ⟨128 * (min t.val 63 * 4 - 1) + a.val, by omega⟩ rfl, V_k]
    generalize (m ((c : Thread nD τ).loc main_arg1) : FVec Ideal S16x2048x4x64 .f32) = x
    congr 2 <;> (apply Fin.ext; dsimp only; omega)
  · rw [if_neg h2]
    have h3 : min t.val 63 % 4 = 0 := by
      by_contra h
      exact h2 (hf.2 h)
    rw [if_neg (show ¬ 128 ≤ p.val by omega), blk4 m c t a D, V_kb]
    generalize (m ((c : Thread nD τ).loc main_arg3) : FVec Ideal S1x128x4x64 .f32) = x
    congr 2 <;> (apply Fin.ext; dsimp only; omega)

/-- A value of the tile before a query's, from the buffer at a sequence's start. -/
theorem v_bef (c : Dev nD) (t : Fin cfg0.N) (R : Fin 512) (a : Fin 128) (D : Fin 256) (b : Fin 16) (p : Fin 2048) (g : Fin 4) (d : Fin 64)
    (hp : 2048 * b.val + p.val = 512 * min t.val 63 + R.val) (hD : D.val = 64 * g.val + d.val) :
    befAt (firstOf t.val) (iblk m c 5 t) (iblk m c 6 t) (iblk m c 7 t) R a D = befArg (m ((c : Thread nD τ).loc main_arg2)) (m ((c : Thread nD τ).loc main_arg4)) b p g d a := by
  have ht := pt_lt t
  have hf := firstOf_iff t
  unfold befAt befArg
  by_cases h1 : 128 ≤ R.val
  · rw [if_pos h1, if_pos (show 128 ≤ p.val by omega)]
    exact v_own m c t _ D b _ g d (by show 2048 * b.val + (128 * (p.val / 128) - 128 + a.val) = 512 * min t.val 63 + (128 * (R.val / 128) - 128 + a.val); omega) hD
  rw [if_neg h1]
  by_cases h2 : firstOf t.val = 0#1
  · rw [if_pos h2]
    have h3 := hf.1 h2
    rw [if_pos (show 128 ≤ p.val by omega)]
    rw [blk6 m c t a D ⟨128 * (min t.val 63 * 4 - 1) + a.val, by omega⟩ rfl, V_v]
    generalize (m ((c : Thread nD τ).loc main_arg2) : FVec Ideal S16x2048x4x64 .f32) = x
    congr 2 <;> (apply Fin.ext; dsimp only; omega)
  · rw [if_neg h2]
    have h3 : min t.val 63 % 4 = 0 := by
      by_contra h
      exact h2 (hf.2 h)
    rw [if_neg (show ¬ 128 ≤ p.val by omega), blk7 m c t a D, V_vb]
    generalize (m ((c : Thread nD τ).loc main_arg4) : FVec Ideal S1x128x4x64 .f32) = x
    congr 2 <;> (apply Fin.ext; dsimp only; omega)

/-- A query of the step's block. -/
theorem q_at (c : Dev nD) (t : Fin cfg0.N) (R : Fin 512) (D : Fin 1024) (b : Fin 16) (p : Fin 2048) (h : Fin 16) (d : Fin 64)
    (hp : 2048 * b.val + p.val = 512 * min t.val 63 + R.val) (hD : D.val = 64 * h.val + d.val) :
    iblk m c 1 t (ix2 R D) = (m ((c : Thread nD τ).loc main_arg0) : FVec Ideal S16x2048x16x64 .f32) (ix4 b p h d) := by
  have ht := pt_lt t
  rw [blk1 m c t R D ⟨512 * min t.val 63 + R.val, by omega⟩ rfl, V_q]
  generalize (m ((c : Thread nD τ).loc main_arg0) : FVec Ideal S16x2048x16x64 .f32) = x
  congr 2 <;> (apply Fin.ext; dsimp only; omega)

/-- After step `t` the scratch holds the attention output of the step's 512 rows. -/
theorem scr_is (c : Dev nD) (t : Fin cfg0.N) (R : Fin 512) (C : Fin 1024) (b : Fin 16) (p : Fin 2048) (hp : 2048 * b.val + p.val = 512 * min t.val 63 + R.val) :
    (outsAt0 m c t.val t.isLt).2 (ix2 R C) = kAtt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b p C := by
  rw [scr_after]
  have ht := pt_lt t
  have hf := firstOf_iff t
  unfold scrAt kAtt
  refine attnRow_congr _ _ (Fin.ext (by dsimp only; omega)) _ _ (fun a => ?_) _ _ _ _ _ _ _ _ _ _ (fun a => ?_) (fun a => ?_) ?_ (fun a => ?_) (fun a => ?_)
  · rw [hf]
    omega
  · refine Finset.sum_congr rfl fun d _ => ?_
    exact congrArg₂ (fun a b : EReal => a * (((8 * (Real.log 2))⁻¹ : ℝ) : EReal) * b) (q_at m c t R _ b p _ d hp rfl)
      (k_own m c t _ _ b _ _ d (by show 2048 * b.val + (128 * (p.val / 128) + a.val) = 512 * min t.val 63 + (128 * (R.val / 128) + a.val); omega) rfl)
  · refine Finset.sum_congr rfl fun d _ => ?_
    exact congrArg₂ (fun a b : EReal => a * (((8 * (Real.log 2))⁻¹ : ℝ) : EReal) * b) (q_at m c t R _ b p _ d hp rfl)
      (k_bef m c t R a _ b p _ d hp rfl)
  · exact congrArg (fun a : EReal => a * ((Real.log 2)⁻¹ : ℝ)) ((blk0 m c t _).trans (V_sink m c _))
  · exact v_own m c t _ _ b _ _ _ (by show 2048 * b.val + (128 * (p.val / 128) + a.val) = 512 * min t.val 63 + (128 * (R.val / 128) + a.val); omega) rfl
  · exact v_bef m c t R a _ b p _ _ hp rfl

/-- The kernel's result at position `p` of sequence `b`, lane `C`. -/
def kOut (q : FVec Ideal S16x2048x16x64 .f32) (k v : FVec Ideal S16x2048x4x64 .f32) (kb vb : FVec Ideal S1x128x4x64 .f32) (s : FVec Ideal S1x16 .f32) (h : FVec Ideal S16x2048x1024 .f32)
    (wo : FVec Ideal S1x1024x1024 .f32) (ng : FVec Ideal S2x1024 .f32) (wg wu : FVec Ideal S2x1024x2816 .f32) (wd : FVec Ideal S2x2816x1024 .f32) (gf : FVec Ideal S1024 .f32)
    (b : Fin 16) (p : Fin 2048) (C : Fin 1024) : EReal :=
  rmsRow (accK (fun j => (h (ix3 b p j) + ∑ i, kAtt q k v kb vb s b p i * wo (ix3 0 i j) : EReal)) (fun j => ng (ix2 1 j))
        (fun j f => wg (ix3 1 j f)) (fun j f => wu (ix3 1 j f)) (fun f j => wd (ix3 1 f j))) (fun j => gf (ix1 j)) C

/-- A step's output row over the rows its blocks hold. -/
theorem stepOut_rows (x8 : Vec Ideal S512x1024 .f32) (x9 : Vec Ideal S1024x1024 .bf16) (x10 : Vec Ideal S1x1024 .f32) (x11 : Vec Ideal S1024x2816 .bf16) (x12 : Vec Ideal S1024x2816 .bf16) (x13 : Vec Ideal S2816x1024 .bf16) (x14 : Vec Ideal S1x1024 .f32) (xs0 : Vec Ideal S512x1024 .bf16)
    (R : Fin 512) (C : Fin 1024) (h o : Fin 1024 → EReal) (wo : Fin 1024 → Fin 1024 → EReal) (g gf : Fin 1024 → EReal) (wg wu : Fin 1024 → Fin 2816 → EReal) (wd : Fin 2816 → Fin 1024 → EReal)
    (e8 : ∀ j, x8 (ix2 R j) = h j) (es : ∀ j, xs0 (ix2 R j) = o j) (e9 : ∀ i j, x9 (ix2 i j) = wo i j) (e10 : ∀ j, x10 (ix2 0 j) = g j) (e11 : ∀ j f, x11 (ix2 j f) = wg j f)
    (e12 : ∀ j f, x12 (ix2 j f) = wu j f) (e13 : ∀ f j, x13 (ix2 f j) = wd f j) (e14 : ∀ j, x14 (ix2 0 j) = gf j) :
    stepOut x8 x9 x10 x11 x12 x13 x14 xs0 (ix2 R C) = rmsRow (accK (fun j => (h j + ∑ i, o i * wo i j : EReal)) g wg wu wd) gf C := by
  obtain rfl : (fun j => x8 (ix2 R j)) = h := funext e8
  obtain rfl : (fun j => xs0 (ix2 R j)) = o := funext es
  obtain rfl : (fun i j => x9 (ix2 i j)) = wo := funext fun i => funext (e9 i)
  obtain rfl : (fun j => x10 (ix2 0 j)) = g := funext e10
  obtain rfl : (fun i j => x11 (ix2 i j)) = wg := funext fun i => funext (e11 i)
  obtain rfl : (fun i j => x12 (ix2 i j)) = wu := funext fun i => funext (e12 i)
  obtain rfl : (fun i j => x13 (ix2 i j)) = wd := funext fun i => funext (e13 i)
  obtain rfl : (fun j => x14 (ix2 0 j)) = gf := funext e14
  exact stepOut_at x8 x9 x10 x11 x12 x13 x14 xs0 R C

/-- A grid step's block of the result is the layer's rows. -/
theorem step_is (c : Dev nD) (t : Fin cfg0.N) (ht0 : t.val ≠ 0) (R : Fin 512) (C : Fin 1024) (b : Fin 16) (p : Fin 2048) (hp : 2048 * b.val + p.val = 512 * (t.val - 1) + R.val) :
    (outsAt0 m c t.val t.isLt).1 (ix2 R C) = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) b p C := by
  have ht := pt_lt t
  have h0 : ¬ t.val % 65 = 0 := by omega
  rw [outsAt0_B m c t h0]
  dsimp only
  rw [out_B]
  have hs : ∀ i : Fin 1024, (outsAt0 m c (t.val - 1) (by have := t.isLt; omega)).2 (ix2 R i) = kAtt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b p i :=
    fun i => scr_is m c ⟨t.val - 1, by have := t.isLt; omega⟩ R i b p (by dsimp only; omega)
  have hh : ∀ j : Fin 1024, iblk m c 8 t (ix2 R j) = (m ((c : Thread nD τ).loc main_arg6) : FVec Ideal S16x2048x1024 .f32) (ix3 b p j) := by
    intro j
    rw [blk8 m c t R j ⟨512 * (t.val - 1) + R.val, by omega⟩ rfl, V_h]
    generalize (m ((c : Thread nD τ).loc main_arg6) : FVec Ideal S16x2048x1024 .f32) = x
    congr 2 <;> (apply Fin.ext; dsimp only; omega)
  unfold kOut
  exact stepOut_rows (iblk m c 8 t) (iblk m c 9 t) (iblk m c 10 t) (iblk m c 11 t) (iblk m c 12 t) (iblk m c 13 t) (iblk m c 14 t) _ R C _ _ _ _ _ _ _ _
    hh hs (fun i j => (blk9 m c t i j).trans (V_wo m c i j)) (fun j => (blk10 m c t j).trans (V_g m c j)) (fun j f => (blk11 m c t j f).trans (V_wg m c j f))
    (fun j f => (blk12 m c t j f).trans (V_wu m c j f)) (fun f j => (blk13 m c t f j).trans (V_wd m c f j)) (fun j => (blk14 m c t j).trans (V_gf m c j))

/-- The result array after the run. -/
theorem final (c : Dev nD) : (dats m 0 c).arrAt 15 cfg0.N = fun y : S32768x1024.Idx => (kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ⟨(y 0).val / 2048, by have : (y 0).val < 32768 := (y 0).isLt; omega⟩ ⟨(y 0).val % 2048, by omega⟩ (y 1) : Elt Ideal .f32) := by
  refine (dats m 0 c).arrAt_eq_of_covers 15 _ (by decide +kernel) fun t hf y => ?_
  have ht0 := (flush15 t).1 hf
  have ht := pt_lt t
  blk_simp
  rw [after0_15]
  obtain ⟨R, C, rfl⟩ : ∃ (R : Fin 512) (C : Fin 1024), y = ix2 R C := ⟨y 0, y 1, ValueIdx.eq_ix2 y⟩
  refine (step_is m c t ht0 R C ⟨(512 * (t.val - 1) + R.val) / 2048, by omega⟩ ⟨(512 * (t.val - 1) + R.val) % 2048, by omega⟩ (by dsimp only; omega)).trans ?_
  have e0 : win0_15.index t 0 = t.val - 1 := congrFun (idx15 t) 0
  have e1 : (win0_15.blk t).view.emb (ix2 R C) 1 = C := by
    apply Fin.ext
    blk_simp
    have : win0_15.index t 1 = 0 := congrFun (idx15 t) 1
    rw [this]
    exact Nat.zero_add _
  rw [e1]
  congr 1
  · apply Fin.ext
    show (512 * (t.val - 1) + R.val) / 2048 = (win0_15.index t 0 * 512 + R.val) / 2048
    rw [e0]; omega
  · apply Fin.ext
    show (512 * (t.val - 1) + R.val) % 2048 = (win0_15.index t 0 * 512 + R.val) % 2048
    rw [e0]; omega

end Cert.KernelIdeal.Hand

end
-- ==== Proof.Math.lean ====
module

public import proofs.«01_k».proof.Proof.KPoint
public import proofs.«01_k».proof.Proof.KFfn

@[expose] public section

noncomputable section

namespace Cert.KernelIdeal.Hand

open Idealize.ShloMosaic

/-! ## The mathematics over the extended reals -/

/-- A real sum, read as an extended real. -/
theorem coe_sum {n : ℕ} (f : Fin n → ℝ) : ((∑ i, f i : ℝ) : EReal) = ∑ i, (f i : EReal) :=
  map_sum (⟨⟨Real.toEReal, EReal.coe_zero⟩, EReal.coe_add⟩ : ℝ →+ EReal) f Finset.univ

/-- A factor that is a nonnegative real distributes over a sum of any extended reals. -/
theorem sum_mul_coe {n : ℕ} (f : Fin n → EReal) (c : ℝ) (hc : 0 ≤ c) : (∑ i, f i) * (c : EReal) = ∑ i, f i * (c : EReal) := by
  have h : ∀ x y : EReal, (x + y) * (c : EReal) = x * (c : EReal) + y * (c : EReal) := fun x y => by
    exact EReal.right_distrib_of_nonneg_of_ne_top (EReal.coe_nonneg.2 hc) (EReal.coe_ne_top c) x y
  exact map_sum (⟨⟨fun x => x * (c : EReal), zero_mul _⟩, h⟩ : EReal →+ EReal) f Finset.univ

/-- A sum over 256 keys: the 128 of the block before, then the 128 of the own block. -/
theorem sum_256 (f : Fin 256 → EReal) : ∑ s, f s = ∑ c : Fin 128, f ⟨c.val, by omega⟩ + ∑ c : Fin 128, f ⟨128 + c.val, by omega⟩ := by
  exact Fin.sum_univ_add (a := 128) (b := 128) f

/-- A power of two with a scaled exponent is an exponential. -/
theorem exp2_scaled (z : ℝ) : Real.rpow 2 ((Real.log 2)⁻¹ * z) = Real.exp z := by
  have h : Real.log 2 ≠ 0 := (Real.log_pos (by norm_num)).ne'
  show (2 : ℝ) ^ ((Real.log 2)⁻¹ * z) = Real.exp z
  rw [Real.rpow_def_of_pos (by norm_num)]
  congr 1
  field_simp

/-- The kernel's row (scores and sink scaled by `1 / log 2`, powers of two, one division after the sum) is the
    softmax with a sink over the 256 banded keys. -/
theorem softmax_eq (r : Fin 128) (P : Fin 128 → Prop) [DecidablePred P] (X Y : Fin 128 → ℝ) (K : ℝ) (v w : Fin 128 → EReal) (f vv : Fin 256 → EReal)
    (hf1 : ∀ c : Fin 128, f ⟨c.val, by omega⟩ = if r < c ∧ P c then (Y c : EReal) else ⊥)
    (hf2 : ∀ c : Fin 128, f ⟨128 + c.val, by omega⟩ = if c ≤ r then (X c : EReal) else ⊥)
    (hv1 : ∀ c : Fin 128, vv ⟨c.val, by omega⟩ = w c) (hv2 : ∀ c : Fin 128, vv ⟨128 + c.val, by omega⟩ = v c) :
    attnRow r P (fun c => (((Real.log 2)⁻¹ * X c : ℝ) : EReal)) (fun c => (((Real.log 2)⁻¹ * Y c : ℝ) : EReal)) (((Real.log 2)⁻¹ * K : ℝ) : EReal) v w
      = ∑ s, vv s * Ideal.div (Ideal.exp (f s - max (Finset.univ.fold max ⊥ f) (K : EReal)))
          (∑ s, Ideal.exp (f s - max (Finset.univ.fold max ⊥ f) (K : EReal)) + Ideal.exp ((K : EReal) - max (Finset.univ.fold max ⊥ f) (K : EReal))) := by
  have hL : 0 < (Real.log 2)⁻¹ := inv_pos.2 (Real.log_pos (by norm_num))
  have split : ∀ s : Fin 256, (∃ c : Fin 128, s = ⟨c.val, by omega⟩) ∨ (∃ c : Fin 128, s = ⟨128 + c.val, by omega⟩) := by
    intro s
    by_cases h : s.val < 128
    · exact Or.inl ⟨⟨s.val, h⟩, rfl⟩
    · exact Or.inr ⟨⟨s.val - 128, by omega⟩, Fin.ext (by dsimp only; omega)⟩
  have hlt : ∀ s, f s < ⊤ := by
    intro s
    rcases split s with ⟨c, rfl⟩ | ⟨c, rfl⟩
    · rw [hf1]; split_ifs
      · exact EReal.coe_lt_top _
      · exact bot_lt_top
    · rw [hf2]; split_ifs
      · exact EReal.coe_lt_top _
      · exact bot_lt_top
  obtain ⟨M, hM⟩ : ∃ M : ℝ, max (Finset.univ.fold max ⊥ f) (K : EReal) = (M : EReal) := by
    have h1 : max (Finset.univ.fold max ⊥ f) (K : EReal) ≠ ⊤ := by
      refine ne_of_lt (max_lt ((Finset.fold_max_lt _).2 ⟨bot_lt_top, fun s _ => hlt s⟩) (EReal.coe_lt_top _))
    have h2 : max (Finset.univ.fold max ⊥ f) (K : EReal) ≠ ⊥ := ne_of_gt (lt_of_lt_of_le (EReal.bot_lt_coe K) (le_max_right _ _))
    exact ⟨_, (EReal.coe_toReal h1 h2).symm⟩
  have hKM : K ≤ M := EReal.coe_le_coe_iff.1 (hM ▸ le_max_right _ _)
  have hfM : ∀ s, f s ≤ (M : EReal) := fun s => hM ▸ le_max_of_le_left ((Finset.le_fold_max _).2 (Or.inr ⟨s, Finset.mem_univ s, le_rfl⟩))
  -- the scores the kernel compares
  set S : Fin 128 → EReal := fun c => if c ≤ r then (((Real.log 2)⁻¹ * X c : ℝ) : EReal) else if P c then (((Real.log 2)⁻¹ * Y c : ℝ) : EReal) else ⊥ with hS
  have hmk : max (Finset.univ.fold max ⊥ S) (((Real.log 2)⁻¹ * K : ℝ) : EReal) = (((Real.log 2)⁻¹ * M : ℝ) : EReal) := by
    refine le_antisymm (max_le ((Finset.fold_max_le _).2 ⟨bot_le, fun c _ => ?_⟩) ?_) ?_
    · show S c ≤ _
      rw [hS]; dsimp only
      split_ifs with h1 h2
      · have := hfM ⟨128 + c.val, by omega⟩
        rw [hf2, if_pos h1] at this
        exact EReal.coe_le_coe_iff.2 (mul_le_mul_of_nonneg_left (EReal.coe_le_coe_iff.1 this) hL.le)
      · have := hfM ⟨c.val, by omega⟩
        rw [hf1, if_pos ⟨not_le.1 h1, h2⟩] at this
        exact EReal.coe_le_coe_iff.2 (mul_le_mul_of_nonneg_left (EReal.coe_le_coe_iff.1 this) hL.le)
      · exact bot_le
    · exact EReal.coe_le_coe_iff.2 (mul_le_mul_of_nonneg_left hKM hL.le)
    · rcases le_max_iff.1 (le_of_eq hM.symm) with h | h
      · rcases (Finset.le_fold_max _).1 h with h | ⟨s, _, h⟩
        · exact absurd h (not_le.2 (EReal.bot_lt_coe M))
        · refine le_max_of_le_left ((Finset.le_fold_max _).2 (Or.inr ?_))
          rcases split s with ⟨c, rfl⟩ | ⟨c, rfl⟩
          · rw [hf1] at h
            split_ifs at h with h1
            · refine ⟨c, Finset.mem_univ c, ?_⟩
              rw [hS]; dsimp only
              rw [if_neg (not_le.2 h1.1), if_pos h1.2]
              exact EReal.coe_le_coe_iff.2 (mul_le_mul_of_nonneg_left (EReal.coe_le_coe_iff.1 h) hL.le)
            · exact absurd h (not_le.2 (EReal.bot_lt_coe M))
          · rw [hf2] at h
            split_ifs at h with h1
            · refine ⟨c, Finset.mem_univ c, ?_⟩
              rw [hS]; dsimp only
              rw [if_pos h1]
              exact EReal.coe_le_coe_iff.2 (mul_le_mul_of_nonneg_left (EReal.coe_le_coe_iff.1 h) hL.le)
            · exact absurd h (not_le.2 (EReal.bot_lt_coe M))
      · exact le_max_of_le_right (EReal.coe_le_coe_iff.2 (mul_le_mul_of_nonneg_left (EReal.coe_le_coe_iff.1 h) hL.le))
  have hexp2 : ∀ z : ℝ, (FloatOps.exp2 (((((Real.log 2)⁻¹ * z : ℝ) : EReal) - (((Real.log 2)⁻¹ * M : ℝ) : EReal) : EReal) : Ideal .f32) : Ideal .f32) = ((Real.exp (z - M) : ℝ) : EReal) := by
    intro z
    show Ideal.exp2 _ = _
    rw [← EReal.coe_sub, ← mul_sub, Ideal.exp2_coe, exp2_scaled]
  have hexp : ∀ z : ℝ, Ideal.exp ((z : EReal) - (M : EReal)) = ((Real.exp (z - M) : ℝ) : EReal) := by
    intro z
    rw [← EReal.coe_sub, Ideal.exp_coe]
  have hbot2 : (FloatOps.exp2 (((⊥ : EReal) - (((Real.log 2)⁻¹ * M : ℝ) : EReal) : EReal) : Ideal .f32) : Ideal .f32) = (0 : EReal) := by
    show Ideal.exp2 _ = _
    rw [EReal.bot_sub, Ideal.exp2_bot]
  have hbot : Ideal.exp ((⊥ : EReal) - (M : EReal)) = 0 := by
    rw [EReal.bot_sub, Ideal.exp_bot]
  -- the numerators, as reals
  set eo : Fin 128 → ℝ := fun c => if c ≤ r then Real.exp (X c - M) else 0 with heo
  set ep : Fin 128 → ℝ := fun c => if r < c ∧ P c then Real.exp (Y c - M) else 0 with hep
  have hE : ∀ c, (FloatOps.exp2 ((S c - (((Real.log 2)⁻¹ * M : ℝ) : EReal) : EReal) : Ideal .f32) : Ideal .f32) = ((eo c + ep c : ℝ) : EReal) := by
    intro c
    rw [hS, heo, hep]; dsimp only
    by_cases h1 : c ≤ r
    · rw [if_pos h1, if_pos h1, if_neg (fun h => absurd h1 (not_le.2 h.1)), add_zero, hexp2]
    · by_cases h2 : P c
      · rw [if_neg h1, if_pos h2, if_neg h1, if_pos ⟨not_le.1 h1, h2⟩, zero_add, hexp2]
      · rw [if_neg h1, if_neg h2, if_neg h1, if_neg (fun h => h2 h.2), zero_add, hbot2, EReal.coe_zero]
  have hf1' : ∀ c : Fin 128, Ideal.exp (f ⟨c.val, by omega⟩ - (M : EReal)) = ((ep c : ℝ) : EReal) := by
    intro c
    rw [hf1, hep]; dsimp only
    split_ifs
    · exact hexp _
    · exact hbot
  have hf2' : ∀ c : Fin 128, Ideal.exp (f ⟨128 + c.val, by omega⟩ - (M : EReal)) = ((eo c : ℝ) : EReal) := by
    intro c
    rw [hf2, heo]; dsimp only
    split_ifs
    · exact hexp _
    · exact hbot
  have heo0 : ∀ c, 0 ≤ eo c := fun c => by rw [heo]; dsimp only; split_ifs; exacts [(Real.exp_pos _).le, le_rfl]
  have hep0 : ∀ c, 0 ≤ ep c := fun c => by rw [hep]; dsimp only; split_ifs; exacts [(Real.exp_pos _).le, le_rfl]
  set D : ℝ := (∑ c, (eo c + ep c)) + Real.exp (K - M) with hD
  have hDpos : 0 < D := add_pos_of_nonneg_of_pos (Finset.sum_nonneg fun c _ => add_nonneg (heo0 c) (hep0 c)) (Real.exp_pos _)
  have hden : (∑ s, Ideal.exp (f s - (M : EReal)) + Ideal.exp ((K : EReal) - (M : EReal))) = (D : EReal) := by
    rw [sum_256, Finset.sum_congr rfl fun c _ => hf1' c, Finset.sum_congr rfl fun c _ => hf2' c, hexp, ← coe_sum, ← coe_sum, ← EReal.coe_add, ← EReal.coe_add, hD, Finset.sum_add_distrib,
      add_comm (∑ c, ep c)]
  rw [hM, hden]
  unfold attnRow
  dsimp only
  rw [hmk]
  rw [Finset.sum_congr rfl fun c _ => hE c, hexp2, ← coe_sum, ← EReal.coe_add, ← hD]
  rw [Ideal.div_coe hDpos.ne', one_mul, sum_256]
  have e1 : ∀ c : Fin 128, vv ⟨c.val, by omega⟩ * Ideal.div (Ideal.exp (f ⟨c.val, by omega⟩ - (M : EReal))) (D : EReal)
      = ((if c ≤ r then (0 : EReal) else ((eo c + ep c : ℝ) : EReal)) * w c) * ((1 / D : ℝ) : EReal) := by
    intro c
    rw [hf1', hv1, Ideal.div_coe hDpos.ne', ← mul_assoc, mul_comm (w c)]
    congr 2
    rw [heo, hep]; dsimp only
    by_cases h1 : c ≤ r
    · rw [if_pos h1, if_neg (fun h => absurd h1 (not_le.2 h.1)), EReal.coe_zero]
    · rw [if_neg h1, if_neg h1, zero_add]
  have e2 : ∀ c : Fin 128, vv ⟨128 + c.val, by omega⟩ * Ideal.div (Ideal.exp (f ⟨128 + c.val, by omega⟩ - (M : EReal))) (D : EReal)
      = ((if c ≤ r then ((eo c + ep c : ℝ) : EReal) else (0 : EReal)) * v c) * ((1 / D : ℝ) : EReal) := by
    intro c
    rw [hf2', hv2, Ideal.div_coe hDpos.ne', ← mul_assoc, mul_comm (v c)]
    congr 2
    rw [heo, hep]; dsimp only
    by_cases h1 : c ≤ r
    · rw [if_pos h1, if_pos h1, if_neg (fun h => absurd h1 (not_le.2 h.1)), add_zero]
    · rw [if_neg h1, if_neg h1, EReal.coe_zero]
  rw [Finset.sum_congr rfl fun c _ => e1 c, Finset.sum_congr rfl fun c _ => e2 c,
    ← sum_mul_coe _ _ (one_div_pos.2 hDpos).le, ← sum_mul_coe _ _ (one_div_pos.2 hDpos).le]
  rw [hS] at hE
  simp only [hE]
  rw [EReal.right_distrib_of_nonneg_of_ne_top (EReal.coe_nonneg.2 (one_div_pos.2 hDpos).le) (EReal.coe_ne_top _), add_comm]

/-- The two ways a score is scaled: the kernel scales each query by `1 / (8 log 2)`, the reference the product by `1 / 8`. -/
theorem score_scaled (q k : Fin 64 → ℝ) :
    (∑ d, ((q d : EReal) * (((8 * (Real.log 2))⁻¹ : ℝ) : EReal)) * (k d : EReal)) = (((Real.log 2)⁻¹ * ((∑ d, k d * q d) * 0.125) : ℝ) : EReal) := by
  rw [Finset.sum_congr rfl fun d _ => by rw [← EReal.coe_mul, ← EReal.coe_mul], ← coe_sum, Finset.sum_mul, Finset.mul_sum]
  congr 1
  refine Finset.sum_congr rfl fun d _ => ?_
  rw [mul_inv]; ring

/-! ### The feed-forward -/

/-- One gated entry as the reference computes it: `silu a · u`. -/
def gateR (a u : EReal) : EReal := a * Ideal.div 1 (1 + Ideal.exp (-a)) * u

/-- The word of one half. -/
theorem half_f32 : Ideal.ofBits .f32 1056964608#32 = ((1 / 2 : ℝ) : EReal) := by
  simp [Ideal.ofBits, Ideal.ieee, -EReal.coe_mul]
  norm_num

/-- The word of the width. -/
theorem width_f32 : Ideal.ofBits .f32 1149239296#32 = ((1024 : ℝ) : EReal) := by
  simp [Ideal.ofBits, Ideal.ieee, -EReal.coe_mul]
  norm_num

/-- The word of the norm's small constant is positive. -/
theorem eps_f32 : ∃ e : ℝ, 0 < e ∧ Ideal.ofBits .f32 925353388#32 = (e : EReal) := by
  refine ⟨10995116 * (2 ^ 40)⁻¹, by positivity, ?_⟩
  simp [Ideal.ofBits, Ideal.ieee, -EReal.coe_mul]

/-- The gate by the hyperbolic tangent is the gate by the logistic function. -/
theorem gate_eq (a : ℝ) (u : EReal) : gateK (a : EReal) u = gateR (a : EReal) u := by
  unfold gateK gateR
  congr 1
  rw [half_f32, ← EReal.coe_mul, Ideal.tanh_coe, ← EReal.coe_mul, ← EReal.coe_add, ← EReal.coe_neg, Ideal.exp_coe, ← EReal.coe_one, ← EReal.coe_add,
    Ideal.div_coe (by positivity), ← EReal.coe_mul, ← EReal.coe_mul]
  congr 1
  have h : Real.exp (-a) = Real.exp (-(1 / 2 * a)) * Real.exp (-(1 / 2 * a)) := by rw [← Real.exp_add]; congr 1; ring
  rw [Real.tanh_eq_sinh_div_cosh, Real.sinh_eq, Real.cosh_eq, h]
  have h2 : Real.exp (1 / 2 * a) = (Real.exp (-(1 / 2 * a)))⁻¹ := by rw [Real.exp_neg, inv_inv]
  rw [h2]
  have hp := Real.exp_pos (-(1 / 2 * a))
  generalize Real.exp (-(1 / 2 * a)) = z at hp
  field_simp
  ring

/-- The normalized row is real whatever the row is, when the gain is real. -/
theorem rms_real (x g : Fin 1024 → EReal) (hg : ∀ c, ∃ z : ℝ, g c = (z : EReal)) (c : Fin 1024) : ∃ z : ℝ, rmsRow x g c = (z : EReal) := by
  obtain ⟨e, he, hE⟩ := eps_f32
  obtain ⟨γ, hγ⟩ := hg c
  have hsq : ∀ j, 0 ≤ x j * x j := fun j => by
    rcases le_total 0 (x j) with h | h
    · exact EReal.mul_nonneg h h
    · have h' : 0 ≤ -x j := EReal.neg_nonneg.2 h
      have := EReal.mul_nonneg h' h'
      rwa [EReal.neg_mul, EReal.mul_comm, EReal.neg_mul, neg_neg] at this
  unfold rmsRow
  rw [hγ, hE, width_f32]
  by_cases h : ∃ j, x j * x j = ⊤
  · obtain ⟨j, hj⟩ := h
    have ht : (∑ j, x j * x j) = ⊤ := by
      refine top_le_iff.1 ?_
      rw [← hj]
      exact Finset.single_le_sum (f := fun j => x j * x j) (fun i _ => hsq i) (Finset.mem_univ j)
    rw [ht, Ideal.div_coe (by norm_num), EReal.top_mul_coe_of_pos (by norm_num), EReal.top_add_coe, Ideal.rsqrt_top, mul_zero, zero_mul]
    exact ⟨0, rfl⟩
  · push Not at h
    have hx : ∀ j, ∃ z : ℝ, x j = (z : EReal) := fun j => by
      have h1 := h j
      induction hxj : x j using EReal.rec with
      | bot => rw [hxj, EReal.bot_mul_bot] at h1; exact absurd rfl h1
      | top => rw [hxj, EReal.top_mul_top] at h1; exact absurd rfl h1
      | coe z => exact ⟨z, rfl⟩
    choose X hX using hx
    have hs : (∑ j, x j * x j) = ((∑ j, X j * X j : ℝ) : EReal) := by
      rw [coe_sum]
      exact Finset.sum_congr rfl fun j _ => by rw [hX, EReal.coe_mul]
    have hpos : 0 < (∑ j, X j * X j) * (1 / 1024) + e := add_pos_of_nonneg_of_pos (mul_nonneg (Finset.sum_nonneg fun j _ => mul_self_nonneg _) (by norm_num)) he
    rw [hs, Ideal.div_coe (by norm_num), ← EReal.coe_mul, ← EReal.coe_add, Ideal.rsqrt_coe, if_neg (not_lt.2 hpos.le), if_neg hpos.ne', hX, ← EReal.coe_mul, ← EReal.coe_mul]
    exact ⟨_, rfl⟩

/-- The feed-forward part by slabs is the feed-forward part. -/
theorem acc_eq (x g : Fin 1024 → EReal) (wg wu : Fin 1024 → Fin 2816 → EReal) (wd : Fin 2816 → Fin 1024 → EReal)
    (hg : ∀ c, ∃ z : ℝ, g c = (z : EReal)) (hw : ∀ c f, ∃ z : ℝ, wg c f = (z : EReal)) (c : Fin 1024) :
    accK x g wg wu wd c = x c + ∑ f, gateR (∑ j, rmsRow x g j * wg j f) (∑ j, rmsRow x g j * wu j f) * wd f c := by
  have hgate : ∀ f u, gateK (∑ j, rmsRow x g j * wg j f) u = gateR (∑ j, rmsRow x g j * wg j f) u := by
    intro f u
    choose a ha using rms_real x g hg
    choose b hb using hw
    have : (∑ j, rmsRow x g j * wg j f) = ((∑ j, a j * b j f : ℝ) : EReal) := by
      rw [coe_sum]
      exact Finset.sum_congr rfl fun j _ => by rw [ha, hb, EReal.coe_mul]
    rw [this]
    exact gate_eq _ _
  have split : ∀ F : Fin 2816 → EReal, ∑ f, F f = ∑ f : Fin 1408, F ⟨f.val, by omega⟩ + ∑ f : Fin 1408, F ⟨1408 + f.val, by omega⟩ :=
    fun F => Fin.sum_univ_add (a := 1408) (b := 1408) F
  unfold accK
  rw [split, ← add_assoc]
  simp only [hgate]

end Cert.KernelIdeal.Hand

end
-- ==== Proof.RBand.lean ====
module

public import proofs.«01_k».proof.Proof.Gen.ReferenceIdeal.Read
public import Idealize.ShloMosaic.Lib.Pointwise

@[expose] public section

set_option maxRecDepth 16384

noncomputable section

namespace Cert.ReferenceIdeal.Hand

open Cert.ReferenceIdeal Cert.ReferenceIdeal.Gen Cert.ReferenceIdeal.Read Idealize.ShloMosaic Idealize.ShloMosaic.TcCoe

/-! ## The reference's band of 256 keys -/

/-- Buffered keys before the new ones. -/
theorem joined_at (k : FVec Ideal S16x2048x4x64 .f32) (kb : FVec Ideal S1x128x4x64 .f32) (b : Fin 16) (p : Fin 2176) (g : Fin 4) (d : Fin 64) :
    val_main_v12 (F := Ideal) k kb (ix4 b p g d) = if h : p.val < 128 then kb (ix4 0 ⟨p.val, h⟩ g d) else k (ix4 b ⟨p.val - 128, by omega⟩ g d) := by
  pointwise [val_main_v12, val_main_v11]

/-- The joined keys by blocks. -/
theorem blocks_at (k : FVec Ideal S16x2048x4x64 .f32) (kb : FVec Ideal S1x128x4x64 .f32) (b : Fin 16) (n : Fin 17) (s : Fin 128) (g : Fin 4) (d : Fin 64) :
    val_main_v16 (F := Ideal) k kb (ix5 b n s g d) = val_main_v12 (F := Ideal) k kb (ix4 b ⟨n.val * 128 + s.val, by omega⟩ g d) := by
  pointwise [val_main_v16]

/-- A band is a block and the block before it. -/
theorem band_at (k : FVec Ideal S16x2048x4x64 .f32) (kb : FVec Ideal S1x128x4x64 .f32) (b n : Fin 16) (s : Fin 256) (g : Fin 4) (d : Fin 64) :
    val_main_v19 (F := Ideal) k kb (ix5 b n s g d) = if h : s.val < 128 then val_main_v16 (F := Ideal) k kb (ix5 b ⟨n.val, by omega⟩ ⟨s.val, h⟩ g d)
      else val_main_v16 (F := Ideal) k kb (ix5 b ⟨1 + n.val, by omega⟩ ⟨s.val - 128, by omega⟩ g d) := by
  unfold val_main_v19
  pointwise [val_main_v17, val_main_v18]

/-- The first half of the band is the block before, the carried rows for a sequence's first block. -/
theorem keys_before (k : FVec Ideal S16x2048x4x64 .f32) (kb : FVec Ideal S1x128x4x64 .f32) (b n : Fin 16) (c : Fin 128) (g : Fin 4) (d : Fin 64) :
    val_main_v19 (F := Ideal) k kb (ix5 b n ⟨c.val, by omega⟩ g d) = if n.val = 0 then kb (ix4 0 c g d) else k (ix4 b ⟨128 * n.val - 128 + c.val, by omega⟩ g d) := by
  rw [band_at, dif_pos (show c.val < 128 from c.isLt), blocks_at, joined_at]
  dsimp only
  by_cases h : n.val = 0
  · rw [dif_pos (by omega), if_pos h]
    congr 2
    apply Fin.ext; dsimp only; omega
  · rw [dif_neg (by omega), if_neg h]
    congr 2
    apply Fin.ext; dsimp only; omega

/-- The second half of the band is the own block. -/
theorem keys_own (k : FVec Ideal S16x2048x4x64 .f32) (kb : FVec Ideal S1x128x4x64 .f32) (b n : Fin 16) (c : Fin 128) (g : Fin 4) (d : Fin 64) :
    val_main_v19 (F := Ideal) k kb (ix5 b n ⟨128 + c.val, by omega⟩ g d) = k (ix4 b ⟨128 * n.val + c.val, by omega⟩ g d) := by
  rw [band_at, dif_neg (show ¬ 128 + c.val < 128 by omega), blocks_at, joined_at]
  dsimp only
  rw [dif_neg (by omega)]
  congr 2
  apply Fin.ext; dsimp only; omega

/-- The values' band is laid out as the keys' is. -/
theorem values_band (v : FVec Ideal S16x2048x4x64 .f32) (vb : FVec Ideal S1x128x4x64 .f32) : val_main_v23 (F := Ideal) v vb = val_main_v19 (F := Ideal) v vb := rfl

/-- Queries by blocks and head groups. -/
theorem q_split (q : FVec Ideal S16x2048x16x64 .f32) (b n : Fin 16) (r : Fin 128) (g j : Fin 4) (d : Fin 64) :
    val_main_v15 (F := Ideal) q (ix6 b n r g j d) = q (ix4 b ⟨128 * n.val + r.val, by omega⟩ ⟨4 * g.val + j.val, by omega⟩ d) := by
  pointwise [val_main_v15, val_main_v10]
  congr 2 <;> (apply Fin.ext; dsimp only; omega)

/-- Sinks by head groups. -/
theorem sink_split (s : FVec Ideal S1x16 .f32) (g j : Fin 4) :
    val_main_v57 (F := Ideal) s (ix6 0 0 g j 0 0) = s (ix2 0 ⟨4 * g.val + j.val, by omega⟩) := by
  pointwise [val_main_v57, val_main_v56, val_main_v0]
  congr 2 <;> (apply Fin.ext; dsimp only; omega)

end Cert.ReferenceIdeal.Hand

end
-- ==== Proof.RMask.lean ====
module

public import proofs.«01_k».proof.Proof.Gen.ReferenceIdeal.Read
public import Idealize.ShloMosaic.Lib.Pointwise

@[expose] public section

set_option maxRecDepth 16384

noncomputable section

namespace Cert.ReferenceIdeal.Hand

open Cert.ReferenceIdeal Cert.ReferenceIdeal.Gen Cert.ReferenceIdeal.Read Idealize.ShloMosaic Idealize.ShloMosaic.TcCoe

/-! ## The reference's mask -/

/-- A key's position. -/
theorem kpos_at (n : Fin 16) (s : Fin 256) : (val_main_v34 (F := Ideal) (ix2 n s)).toInt = 128 * (n.val : ℤ) + s.val - 112 := by
  have e : val_main_v34 (F := Ideal) (ix2 n s) = if h : s.val < 128 then IntOp.addi (4294967184#32) (BitVec.ofNat 32 (n.val * 128 + s.val)) else IntOp.addi (4294967184#32) (BitVec.ofNat 32 ((1 + n.val) * 128 + (s.val - 128))) := by
    pointwise [val_main_v34, val_main_v32, val_main_v33, val_main_v31, val_main_v30, val_main_c_0, val_main_v29, val_main_v28]
  have hn := n.isLt
  have hs := s.isLt
  rw [e]
  unfold IntOp.addi
  split_ifs with h
  · rw [BitVec.toInt_eq_toNat_cond, BitVec.toNat_add, BitVec.toNat_ofNat, BitVec.toNat_ofNat]
    split_ifs <;> omega
  · rw [BitVec.toInt_eq_toNat_cond, BitVec.toNat_add, BitVec.toNat_ofNat, BitVec.toNat_ofNat]
    split_ifs <;> omega

/-- A query's position. -/
theorem qpos_at (n : Fin 16) (r : Fin 128) : (val_main_v27 (F := Ideal) (ix2 n r)).toInt = 128 * (n.val : ℤ) + r.val + 16 := by
  have e : val_main_v27 (F := Ideal) (ix2 n r) = IntOp.addi (16#32) (BitVec.ofNat 32 (n.val * 128 + r.val)) := by
    pointwise [val_main_v27, val_main_v26, val_main_c, val_main_v25, val_main_v24]
  have hn := n.isLt
  have hr := r.isLt
  rw [e]
  unfold IntOp.addi
  rw [BitVec.toInt_eq_toNat_cond, BitVec.toNat_add, BitVec.toNat_ofNat, BitVec.toNat_ofNat]
  split_ifs <;> omega

/-- The reference's mask: within the window, not in the future, not before position zero. -/
theorem mask_words (n : Fin 16) (r : Fin 128) (s : Fin 256) : val_main_v49 (F := Ideal) (ix3 n r s) =
    IntOp.andi (IntOp.andi (IntOp.cmpi .sge (IntOp.subi (val_main_v27 (F := Ideal) (ix2 n r)) (val_main_v34 (F := Ideal) (ix2 n s))) 0#32) (IntOp.cmpi .slt (IntOp.subi (val_main_v27 (F := Ideal) (ix2 n r)) (val_main_v34 (F := Ideal) (ix2 n s))) 128#32))
      (IntOp.cmpi .sge (val_main_v34 (F := Ideal) (ix2 n s)) 0#32) := by
  pointwise [val_main_v49, val_main_v44, val_main_v48, val_main_v47, val_main_v46, val_main_c_3, val_main_v45, val_main_v41, val_main_v43, val_main_v40, val_main_v42, val_main_c_1, val_main_c_2, val_main_v39, val_main_v37, val_main_v38, val_main_v35, val_main_v36]

/-- Key `s` of the band of row `r` of block `n` is visible: at most the row's own position, at most 127 before it, and not
    before the first carried position. -/
theorem mask_at (n : Fin 16) (r : Fin 128) (s : Fin 256) : val_main_v49 (F := Ideal) (ix3 n r s) = 1#1 ↔ r.val < s.val ∧ s.val ≤ 128 + r.val ∧ 112 ≤ 128 * n.val + s.val := by
  have hk := kpos_at n s
  have hq := qpos_at n r
  have hn := n.isLt
  have hs := s.isLt
  have hr := r.isLt
  rw [mask_words]
  generalize val_main_v34 (F := Ideal) (ix2 n s) = k at hk
  generalize val_main_v27 (F := Ideal) (ix2 n r) = q at hq
  have hd : (q - k).toInt = 128 + (r.val : ℤ) - s.val := by
    rw [BitVec.toInt_sub, hq, hk, Int.bmod_eq_of_le (by omega) (by omega)]
    omega
  have e0 : (0#32 : BitVec 32).toInt = 0 := by decide
  have e1 : (128#32 : BitVec 32).toInt = 128 := by decide
  unfold IntOp.andi IntOp.subi IntOp.cmpi
  dsimp only
  rw [BitVec.sle_eq_decide, BitVec.sle_eq_decide, BitVec.slt_eq_decide, hd, hk, e0, e1]
  have h1 : ∀ p q r : Prop, [Decidable p] → [Decidable q] → [Decidable r] → ((BitVec.ofBool (decide p) &&& BitVec.ofBool (decide q)) &&& BitVec.ofBool (decide r) = 1#1 ↔ p ∧ q ∧ r) := by
    intro p q r _ _ _
    by_cases hp : p <;> by_cases hq : q <;> by_cases hr : r <;> simp [hp, hq, hr]
  rw [h1]
  omega

end Cert.ReferenceIdeal.Hand

end
-- ==== Proof.RLanes.lean ====
module

public import proofs.«01_k».proof.Proof.Gen.ReferenceIdeal.Read
public import Idealize.ShloMosaic.Lib.Pointwise

@[expose] public section

set_option maxRecDepth 16384

noncomputable section

namespace Cert.ReferenceIdeal.Hand

open Cert.ReferenceIdeal Cert.ReferenceIdeal.Gen Cert.ReferenceIdeal.Read Idealize.ShloMosaic Idealize.ShloMosaic.TcCoe

/-! ## The reference's attention output, its rows and lanes joined -/

/-- The mixed values with the heads laid side by side. -/
theorem lanes_at (q : FVec Ideal S16x2048x16x64 .f32) (k v : FVec Ideal S16x2048x4x64 .f32) (kb vb : FVec Ideal S1x128x4x64 .f32) (s : FVec Ideal S1x16 .f32) (b : Fin 16) (p : Fin 2048) (C : Fin 1024) :
    val_main_v75 (F := Ideal) q k v kb vb s (ix3 b p C) = val_main_v73 (F := Ideal) q k v kb vb s (ix6 b ⟨p.val / 128, by omega⟩ ⟨C.val / 256, by omega⟩ ⟨C.val % 64, by omega⟩ ⟨C.val / 64 % 4, by omega⟩ ⟨p.val % 128, by omega⟩) := by
  pointwise [val_main_v75, val_main_v74]

end Cert.ReferenceIdeal.Hand

end
-- ==== Proof.RScore.lean ====
module

public import proofs.«01_k».proof.Proof.Gen.ReferenceIdeal.Read
public import Idealize.ShloMosaic.Lib.Pointwise

@[expose] public section

set_option maxRecDepth 16384

noncomputable section

namespace Cert.ReferenceIdeal.Hand

open Cert.ReferenceIdeal Cert.ReferenceIdeal.Gen Cert.ReferenceIdeal.Read Idealize.ShloMosaic Idealize.ShloMosaic.TcCoe

/-! ## The reference's attention, operation by operation -/

/-- A scaled score. -/
theorem scores_at (q : FVec Ideal S16x2048x16x64 .f32) (k : FVec Ideal S16x2048x4x64 .f32) (kb : FVec Ideal S1x128x4x64 .f32) (b n : Fin 16) (g j : Fin 4) (r : Fin 128) (s : Fin 256) :
    val_main_v50 (F := Ideal) q k kb (ix6 b n g s r j) = (∑ d : Fin 64, val_main_v19 (F := Ideal) k kb (ix5 b n s g d) * val_main_v15 (F := Ideal) q (ix6 b n r g j d) : EReal) := by
  pointwise [val_main_v50, dot_S16x16x256x4x64_S16x16x128x4x4x64_S16x16x4x256x128x4_4_5_2_24_013_013]

/-- A masked score. -/
theorem masked_at (q : FVec Ideal S16x2048x16x64 .f32) (k : FVec Ideal S16x2048x4x64 .f32) (kb : FVec Ideal S1x128x4x64 .f32) (b n : Fin 16) (g j : Fin 4) (r : Fin 128) (s : Fin 256) :
    val_main_v55 (F := Ideal) q k kb (ix6 b n g j r s) = Scalar.select (val_main_v49 (F := Ideal) (ix3 n r s)) (val_main_v50 (F := Ideal) q k kb (ix6 b n g s r j) * Ideal.ofBits .f32 0x3E000000#32 : EReal) (Ideal.ofBits .f32 0xFF800000#32) := by
  pointwise [val_main_v55, val_main_call0_v1, val_main_v54, val_main_v53, val_main_v52, val_main_cst, val_main_v51, val_main_call0_v2, val_main_call0_v0, val_main_cst_4]
  rfl

end Cert.ReferenceIdeal.Hand

end
-- ==== Proof.RSoft.lean ====
module

public import proofs.«01_k».proof.Proof.Gen.ReferenceIdeal.Read
public import Idealize.ShloMosaic.Lib.Pointwise

@[expose] public section

set_option maxRecDepth 16384

noncomputable section

namespace Cert.ReferenceIdeal.Hand

open Cert.ReferenceIdeal Cert.ReferenceIdeal.Gen Cert.ReferenceIdeal.Read Idealize.ShloMosaic Idealize.ShloMosaic.TcCoe

/-! ## The reference's softmax -/

/-- The indices that a reduction over the last axis joins. -/
theorem last_fiber {n0 n1 n2 n3 n4 n5 : Nat} (h : (⟨6, ![n0, n1, n2, n3, n4, n5]⟩ : Shape).ReducesTo [5] ⟨5, ![n0, n1, n2, n3, n4]⟩)
    (b : Fin n0) (n : Fin n1) (g : Fin n2) (j : Fin n3) (r : Fin n4) (i : (⟨6, ![n0, n1, n2, n3, n4, n5]⟩ : Shape).Idx) :
    h.drop i = ix5 b n g j r ↔ ∃ c : Fin n5, ix6 b n g j r c = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

/-- A maximum over the last axis. -/
theorem reduce_last {n0 n1 n2 n3 n4 n5 : Nat} (h : (⟨6, ![n0, n1, n2, n3, n4, n5]⟩ : Shape).ReducesTo [5] ⟨5, ![n0, n1, n2, n3, n4]⟩)
    {u : Shape} (hu : 0 < u.numel) (f : EReal → EReal → EReal) (hf : ∀ x y, f x y = max x y) (v : (⟨6, ![n0, n1, n2, n3, n4, n5]⟩ : Shape).Idx → EReal) (z : u.Idx → EReal)
    (b : Fin n0) (n : Fin n1) (g : Fin n2) (j : Fin n3) (r : Fin n4) (w : EReal) (hz : z (Shape.Idx.first hu) = w) :
    Host.reduce f v z h hu (ix5 b n g j r) = Finset.univ.fold max w (fun c : Fin n5 => v (ix6 b n g j r c)) := by
  obtain rfl : f = max := funext fun x => funext fun y => hf x y
  rw [Host.reduce_eq_fold, hz]
  exact Finset.fold_filter_eq_fold_of_fiber max _ (fun c : Fin n5 => ix6 b n g j r c) (fun _ _ e => congrFun e 5) (last_fiber h b n g j r) _ v

/-- The reference's maximum over the last axis, at an entry. -/
theorem maxReduce_at (x : S16x16x4x4x128x256.Idx → EReal) (z : S_.Idx → EReal) (w : EReal) (hz : z (Shape.Idx.first h_S_) = w) (b n : Fin 16) (g j : Fin 4) (r : Fin 128) :
    Host.reduce (FloatOps.maximumf (F := Ideal) (φ := .f32)) x z reducesTo_S16x16x4x4x128x256_S16x16x4x4x128_d5 h_S_ (ix5 b n g j r) = (Finset.univ.fold max w (fun c : Fin 256 => x (ix6 b n g j r c)) : EReal) :=
  reduce_last reducesTo_S16x16x4x4x128x256_S16x16x4x4x128_d5 h_S_ (FloatOps.maximumf (F := Ideal) (φ := .f32)) (fun _ _ => rfl) x z b n g j r w hz

/-- The maximum starts at the word of minus infinity. -/
theorem start_at : val_main_cst_5 (F := Ideal) (Shape.Idx.first h_S_) = (Ideal.ofBits .f32 0xFF800000#32 : EReal) := rfl

/-- A row's maximum. -/
theorem rowMax_at (q : FVec Ideal S16x2048x16x64 .f32) (k : FVec Ideal S16x2048x4x64 .f32) (kb : FVec Ideal S1x128x4x64 .f32) (b n : Fin 16) (g j : Fin 4) (r : Fin 128) :
    val_main_v58 (F := Ideal) q k kb (ix5 b n g j r) = (Finset.univ.fold max (Ideal.ofBits .f32 0xFF800000#32) (fun c : Fin 256 => val_main_v55 (F := Ideal) q k kb (ix6 b n g j r c)) : EReal) := by
  unfold val_main_v58
  generalize val_main_v55 (F := Ideal) q k kb = x
  exact maxReduce_at x _ _ start_at b n g j r

/-- A row's maximum, spread over the row. -/
theorem maxRow_at (q : FVec Ideal S16x2048x16x64 .f32) (k : FVec Ideal S16x2048x4x64 .f32) (kb : FVec Ideal S1x128x4x64 .f32) (b n : Fin 16) (g j : Fin 4) (r : Fin 128) :
    val_main_v59 (F := Ideal) q k kb (ix6 b n g j r 0) = val_main_v58 (F := Ideal) q k kb (ix5 b n g j r) := by
  rw [val_main_v59_apply]
  generalize val_main_v58 (F := Ideal) q k kb = y
  refine congrArg y (funext fun a => ?_)
  match a with
  | ⟨0, _⟩ => rfl
  | ⟨1, _⟩ => rfl
  | ⟨2, _⟩ => rfl
  | ⟨3, _⟩ => rfl
  | ⟨4, _⟩ => rfl

/-- A head's sink, spread over the rows. -/
theorem maxSink_at (s : FVec Ideal S1x16 .f32) (b n : Fin 16) (g j : Fin 4) (r : Fin 128) :
    val_main_v60 (F := Ideal) s (ix6 b n g j r 0) = val_main_v57 (F := Ideal) s (ix6 0 0 g j 0 0) := by
  rw [val_main_v60_apply]
  generalize val_main_v57 (F := Ideal) s = y
  refine congrArg y (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

/-- A maximum of two arrays at an entry. -/
theorem maximum_eq (x y : FVec Ideal S16x16x4x4x128x1 .f32) (i : S16x16x4x4x128x1.Idx) (u w : EReal) (hu : x i = u) (hw : y i = w) : (maximumf x y i : EReal) = max u w := by
  subst hu hw
  rfl

/-- The softmax's maximum. -/
theorem max_at (q : FVec Ideal S16x2048x16x64 .f32) (k : FVec Ideal S16x2048x4x64 .f32) (kb : FVec Ideal S1x128x4x64 .f32) (s : FVec Ideal S1x16 .f32) (b n : Fin 16) (g j : Fin 4) (r : Fin 128) :
    val_main_v61 (F := Ideal) q k kb s (ix6 b n g j r 0) = (max (val_main_v58 (F := Ideal) q k kb (ix5 b n g j r) : EReal) (val_main_v57 (F := Ideal) s (ix6 0 0 g j 0 0) : EReal) : EReal) := by
  unfold val_main_v61
  exact maximum_eq _ _ _ _ _ (maxRow_at q k kb b n g j r) (maxSink_at s b n g j r)

/-- A softmax numerator. -/
theorem numer_at (q : FVec Ideal S16x2048x16x64 .f32) (k : FVec Ideal S16x2048x4x64 .f32) (kb : FVec Ideal S1x128x4x64 .f32) (s : FVec Ideal S1x16 .f32) (b n : Fin 16) (g j : Fin 4) (r : Fin 128) (c : Fin 256) :
    val_main_v64 (F := Ideal) q k kb s (ix6 b n g j r c) = Ideal.exp (val_main_v55 (F := Ideal) q k kb (ix6 b n g j r c) - val_main_v61 (F := Ideal) q k kb s (ix6 b n g j r 0) : EReal) := by
  pointwise [val_main_v64, val_main_v63, val_main_v62]

/-- A row's sum of numerators. -/
theorem rowSum_at (q : FVec Ideal S16x2048x16x64 .f32) (k : FVec Ideal S16x2048x4x64 .f32) (kb : FVec Ideal S1x128x4x64 .f32) (s : FVec Ideal S1x16 .f32) (b n : Fin 16) (g j : Fin 4) (r : Fin 128) :
    val_main_v65 (F := Ideal) q k kb s (ix5 b n g j r) = (∑ c : Fin 256, val_main_v64 (F := Ideal) q k kb s (ix6 b n g j r c) : EReal) := by
  rw [val_main_v65_apply]
  generalize val_main_v64 (F := Ideal) q k kb s = x
  have e : ∀ c : Fin 256, idx_main_v65 (ix5 b n g j r) c = ix6 b n g j r c := fun c => by
    funext a
    match a with
    | ⟨0, _⟩ => rfl
    | ⟨1, _⟩ => rfl
    | ⟨2, _⟩ => rfl
    | ⟨3, _⟩ => rfl
    | ⟨4, _⟩ => rfl
    | ⟨5, _⟩ => rfl
  simp only [e]
  have z : (val_main_cst_6 (F := Ideal)) (Shape.Idx.first h_S_) = (0 : EReal) := Ideal.ofBits_zero_f32
  rw [z]
  exact zero_add _

/-- The softmax's denominator. -/
theorem denom_at (q : FVec Ideal S16x2048x16x64 .f32) (k : FVec Ideal S16x2048x4x64 .f32) (kb : FVec Ideal S1x128x4x64 .f32) (s : FVec Ideal S1x16 .f32) (b n : Fin 16) (g j : Fin 4) (r : Fin 128) :
    val_main_v70 (F := Ideal) q k kb s (ix6 b n g j r 0) = (∑ c : Fin 256, val_main_v64 (F := Ideal) q k kb s (ix6 b n g j r c) + Ideal.exp (val_main_v57 (F := Ideal) s (ix6 0 0 g j 0 0) - val_main_v61 (F := Ideal) q k kb s (ix6 b n g j r 0) : EReal) : EReal) := by
  rw [← rowSum_at]
  pointwise [val_main_v70, val_main_v66, val_main_v69, val_main_v68, val_main_v67]

/-- A softmax weight. -/
theorem weight_at (q : FVec Ideal S16x2048x16x64 .f32) (k : FVec Ideal S16x2048x4x64 .f32) (kb : FVec Ideal S1x128x4x64 .f32) (s : FVec Ideal S1x16 .f32) (b n : Fin 16) (g j : Fin 4) (r : Fin 128) (c : Fin 256) :
    val_main_v72 (F := Ideal) q k kb s (ix6 b n g j r c) = Ideal.div (val_main_v64 (F := Ideal) q k kb s (ix6 b n g j r c)) (val_main_v70 (F := Ideal) q k kb s (ix6 b n g j r 0)) := by
  pointwise [val_main_v72, val_main_v71]

/-- The values mixed by the weights. -/
theorem mix_at (q : FVec Ideal S16x2048x16x64 .f32) (k v : FVec Ideal S16x2048x4x64 .f32) (kb vb : FVec Ideal S1x128x4x64 .f32) (s : FVec Ideal S1x16 .f32) (b n : Fin 16) (g j : Fin 4) (r : Fin 128) (e : Fin 64) :
    val_main_v73 (F := Ideal) q k v kb vb s (ix6 b n g e j r) = (∑ c : Fin 256, val_main_v23 (F := Ideal) v vb (ix5 b n c g e) * val_main_v72 (F := Ideal) q k kb s (ix6 b n g j r c) : EReal) := by
  pointwise [val_main_v73, dot_S16x16x256x4x64_S16x16x4x4x128x256_S16x16x4x64x4x128_2_5_4_34_013_012]

end Cert.ReferenceIdeal.Hand

end
-- ==== Proof.RFfn.lean ====
module

public import proofs.«01_k».proof.Proof.Gen.ReferenceIdeal.Read
public import proofs.«01_k».proof.Proof.Math
public import Idealize.ShloMosaic.Lib.Pointwise

@[expose] public section

set_option maxRecDepth 16384

noncomputable section

namespace Cert.ReferenceIdeal.Hand

open Cert.ReferenceIdeal Cert.ReferenceIdeal.Gen Cert.ReferenceIdeal.Read Idealize.ShloMosaic Idealize.ShloMosaic.TcCoe
open Cert.KernelIdeal.Hand (rmsRow gateR)

/-! ## The reference after its attention, operation by operation -/

/-- The residual stream after the attention's output projection. -/
theorem resid_at (q : FVec Ideal S16x2048x16x64 .f32) (k v : FVec Ideal S16x2048x4x64 .f32) (kb vb : FVec Ideal S1x128x4x64 .f32) (s : FVec Ideal S1x16 .f32) (h : FVec Ideal S16x2048x1024 .f32) (wo : FVec Ideal S1x1024x1024 .f32) (b : Fin 16) (p : Fin 2048) (c : Fin 1024) :
    val_main_v77 (F := Ideal) q k v kb vb s h wo (ix3 b p c) = (h (ix3 b p c) + ∑ i, val_main_v75 (F := Ideal) q k v kb vb s (ix3 b p i) * wo (ix3 0 i c) : EReal) := by
  pointwise [val_main_v77, val_main_v76, val_main_v1, dot_S16x2048x1024_S1024x1024_S16x2048x1024_2_0_01_1_n_n]

/-- The row the feed-forward network reads: the normalized residual row. -/
theorem normed_at (q : FVec Ideal S16x2048x16x64 .f32) (k v : FVec Ideal S16x2048x4x64 .f32) (kb vb : FVec Ideal S1x128x4x64 .f32) (s : FVec Ideal S1x16 .f32) (h : FVec Ideal S16x2048x1024 .f32) (wo : FVec Ideal S1x1024x1024 .f32) (ng : FVec Ideal S2x1024 .f32) (b : Fin 16) (p : Fin 2048) (c : Fin 1024) :
    val_main_v90 (F := Ideal) q k v kb vb s h wo ng (ix3 b p c) = rmsRow (fun j => val_main_v77 (F := Ideal) q k v kb vb s h wo (ix3 b p j)) (fun j => ng (ix2 1 j)) c := by
  unfold rmsRow
  unfold val_main_v90 val_main_v87 val_main_v86 val_main_v85 val_main_v84 val_main_v82 val_main_v80 val_main_v79 val_main_v78
  generalize val_main_v77 (F := Ideal) q k v kb vb s h wo = x
  pointwise [val_main_v81, val_main_cst_7, val_main_cst_8, val_main_v83, val_main_cst_9, val_main_v89, val_main_v88, val_main_v3, val_main_v2]

/-- The gate's projection. -/
theorem gate_at (q : FVec Ideal S16x2048x16x64 .f32) (k v : FVec Ideal S16x2048x4x64 .f32) (kb vb : FVec Ideal S1x128x4x64 .f32) (s : FVec Ideal S1x16 .f32) (h : FVec Ideal S16x2048x1024 .f32) (wo : FVec Ideal S1x1024x1024 .f32) (ng : FVec Ideal S2x1024 .f32) (wg : FVec Ideal S2x1024x2816 .f32) (b : Fin 16) (p : Fin 2048) (f : Fin 2816) :
    val_main_v91 (F := Ideal) q k v kb vb s h wo ng wg (ix3 b p f) = (∑ j, val_main_v90 (F := Ideal) q k v kb vb s h wo ng (ix3 b p j) * wg (ix3 1 j f) : EReal) := by
  unfold val_main_v91
  generalize val_main_v90 (F := Ideal) q k v kb vb s h wo ng = x
  pointwise [val_main_v5, val_main_v4, dot_S16x2048x1024_S1024x2816_S16x2048x2816_2_0_01_1_n_n]

/-- The other projection. -/
theorem up_at (q : FVec Ideal S16x2048x16x64 .f32) (k v : FVec Ideal S16x2048x4x64 .f32) (kb vb : FVec Ideal S1x128x4x64 .f32) (s : FVec Ideal S1x16 .f32) (h : FVec Ideal S16x2048x1024 .f32) (wo : FVec Ideal S1x1024x1024 .f32) (ng : FVec Ideal S2x1024 .f32) (wu : FVec Ideal S2x1024x2816 .f32) (b : Fin 16) (p : Fin 2048) (f : Fin 2816) :
    val_main_v93 (F := Ideal) q k v kb vb s h wo ng wu (ix3 b p f) = (∑ j, val_main_v90 (F := Ideal) q k v kb vb s h wo ng (ix3 b p j) * wu (ix3 1 j f) : EReal) := by
  unfold val_main_v93
  generalize val_main_v90 (F := Ideal) q k v kb vb s h wo ng = x
  pointwise [val_main_v7, val_main_v6, dot_S16x2048x1024_S1024x2816_S16x2048x2816_2_0_01_1_n_n]

/-- The gated product. -/
theorem gated_at (q : FVec Ideal S16x2048x16x64 .f32) (k v : FVec Ideal S16x2048x4x64 .f32) (kb vb : FVec Ideal S1x128x4x64 .f32) (s : FVec Ideal S1x16 .f32) (h : FVec Ideal S16x2048x1024 .f32) (wo : FVec Ideal S1x1024x1024 .f32) (ng : FVec Ideal S2x1024 .f32) (wg : FVec Ideal S2x1024x2816 .f32) (wu : FVec Ideal S2x1024x2816 .f32) (b : Fin 16) (p : Fin 2048) (f : Fin 2816) :
    val_main_v94 (F := Ideal) q k v kb vb s h wo ng wg wu (ix3 b p f) = gateR (val_main_v91 (F := Ideal) q k v kb vb s h wo ng wg (ix3 b p f)) (val_main_v93 (F := Ideal) q k v kb vb s h wo ng wu (ix3 b p f)) := by
  unfold gateR
  rw [← Ideal.ofBits_one_f32]
  unfold val_main_v94 val_main_v92 val_main_call1_v5 val_main_call1_v3 val_main_call1_v1 val_main_call1_v0
  generalize val_main_v91 (F := Ideal) q k v kb vb s h wo ng wg = x
  generalize val_main_v93 (F := Ideal) q k v kb vb s h wo ng wu = y
  pointwise [val_main_call1_v4, val_main_call1_cst_0, val_main_call1_v2, val_main_call1_cst]

/-- The residual stream after the feed-forward network. -/
theorem layer_at (q : FVec Ideal S16x2048x16x64 .f32) (k v : FVec Ideal S16x2048x4x64 .f32) (kb vb : FVec Ideal S1x128x4x64 .f32) (s : FVec Ideal S1x16 .f32) (h : FVec Ideal S16x2048x1024 .f32) (wo : FVec Ideal S1x1024x1024 .f32) (ng : FVec Ideal S2x1024 .f32) (wg : FVec Ideal S2x1024x2816 .f32) (wu : FVec Ideal S2x1024x2816 .f32) (wd : FVec Ideal S2x2816x1024 .f32) (b : Fin 16) (p : Fin 2048) (c : Fin 1024) :
    val_main_v96 (F := Ideal) q k v kb vb s h wo ng wg wu wd (ix3 b p c) = (val_main_v77 (F := Ideal) q k v kb vb s h wo (ix3 b p c) + ∑ f, val_main_v94 (F := Ideal) q k v kb vb s h wo ng wg wu (ix3 b p f) * wd (ix3 1 f c) : EReal) := by
  unfold val_main_v96 val_main_v95
  generalize val_main_v77 (F := Ideal) q k v kb vb s h wo = x
  generalize val_main_v94 (F := Ideal) q k v kb vb s h wo ng wg wu = y
  pointwise [val_main_v9, val_main_v8, dot_S16x2048x2816_S2816x1024_S16x2048x1024_2_0_01_1_n_n]

/-- The result, rows of the batch joined: the last normalization of the residual row. -/
theorem out_at (q : FVec Ideal S16x2048x16x64 .f32) (k v : FVec Ideal S16x2048x4x64 .f32) (kb vb : FVec Ideal S1x128x4x64 .f32) (s : FVec Ideal S1x16 .f32) (h : FVec Ideal S16x2048x1024 .f32) (wo : FVec Ideal S1x1024x1024 .f32) (ng : FVec Ideal S2x1024 .f32) (wg : FVec Ideal S2x1024x2816 .f32) (wu : FVec Ideal S2x1024x2816 .f32) (wd : FVec Ideal S2x2816x1024 .f32) (gf : FVec Ideal S1024 .f32) (R : Fin 32768) (C : Fin 1024) :
    val_main_v110 (F := Ideal) q k v kb vb s h wo ng wg wu wd gf (ix2 R C) = rmsRow (fun j => val_main_v96 (F := Ideal) q k v kb vb s h wo ng wg wu wd (ix3 ⟨R.val / 2048, by omega⟩ ⟨R.val % 2048, by omega⟩ j)) (fun j => gf (ix1 j)) C := by
  unfold rmsRow
  unfold val_main_v110 val_main_v109 val_main_v106 val_main_v105 val_main_v104 val_main_v103 val_main_v101 val_main_v99 val_main_v98 val_main_v97
  generalize val_main_v96 (F := Ideal) q k v kb vb s h wo ng wg wu wd = x
  pointwise [val_main_v100, val_main_cst_10, val_main_cst_11, val_main_v102, val_main_cst_12, val_main_v108, val_main_v107]

end Cert.ReferenceIdeal.Hand

end
-- ==== Proof.Equation.lean ====
module

public import proofs.«01_k».proof.Proof.KAtt
public import proofs.«01_k».proof.Proof.Math
public import proofs.«01_k».proof.Proof.RBand
public import proofs.«01_k».proof.Proof.RMask
public import proofs.«01_k».proof.Proof.RLanes
public import proofs.«01_k».proof.Proof.RScore
public import proofs.«01_k».proof.Proof.RSoft
public import proofs.«01_k».proof.Proof.RFfn

@[expose] public section

set_option maxRecDepth 16384

noncomputable section

namespace Cert.ReferenceIdeal.Hand

open Cert.ReferenceIdeal Cert.ReferenceIdeal.Gen Cert.ReferenceIdeal.Read Idealize.ShloMosaic Idealize.ShloMosaic.TcCoe
open Cert.KernelIdeal.Hand (rmsRow gateR accK attnRow kAtt kOut befArg softmax_eq score_scaled acc_eq attnRow_congr coe_sum)

/-! ## The reference computes what the kernel does -/

/-- The word of the mask's fill value is minus infinity. -/
theorem fill_f32 : Ideal.ofBits .f32 0xFF800000#32 = (⊥ : EReal) := by
  simp [Ideal.ofBits, Ideal.ieee, -EReal.coe_mul]

/-- The word of the scores' scale is one eighth. -/
theorem eighth_f32 : Ideal.ofBits .f32 0x3E000000#32 = ((0.125 : ℝ) : EReal) := by
  simp [Ideal.ofBits, Ideal.ieee, -EReal.coe_mul]
  norm_num

/-- One head of one row of the reference, over its scores. -/
theorem head_eq (q : FVec Ideal S16x2048x16x64 .f32) (k v : FVec Ideal S16x2048x4x64 .f32) (kb vb : FVec Ideal S1x128x4x64 .f32) (s : FVec Ideal S1x16 .f32) (b n : Fin 16) (g j : Fin 4) (r : Fin 128) (e : Fin 64)
    (P : Fin 128 → Prop) [DecidablePred P] (X Y : Fin 128 → ℝ) (K : ℝ) (v' w' : Fin 128 → EReal)
    (hf1 : ∀ c : Fin 128, val_main_v55 (F := Ideal) q k kb (ix6 b n g j r ⟨c.val, by omega⟩) = if r < c ∧ P c then (Y c : EReal) else ⊥)
    (hf2 : ∀ c : Fin 128, val_main_v55 (F := Ideal) q k kb (ix6 b n g j r ⟨128 + c.val, by omega⟩) = if c ≤ r then (X c : EReal) else ⊥)
    (hK : val_main_v57 (F := Ideal) s (ix6 0 0 g j 0 0) = (K : EReal))
    (hv1 : ∀ c : Fin 128, val_main_v23 (F := Ideal) v vb (ix5 b n ⟨c.val, by omega⟩ g e) = w' c)
    (hv2 : ∀ c : Fin 128, val_main_v23 (F := Ideal) v vb (ix5 b n ⟨128 + c.val, by omega⟩ g e) = v' c) :
    val_main_v73 (F := Ideal) q k v kb vb s (ix6 b n g e j r)
      = attnRow r P (fun c => (((Real.log 2)⁻¹ * X c : ℝ) : EReal)) (fun c => (((Real.log 2)⁻¹ * Y c : ℝ) : EReal)) (((Real.log 2)⁻¹ * K : ℝ) : EReal) v' w' := by
  have hM : val_main_v61 (F := Ideal) q k kb s (ix6 b n g j r 0)
      = (max (Finset.univ.fold max ⊥ (fun c : Fin 256 => (val_main_v55 (F := Ideal) q k kb (ix6 b n g j r c) : EReal))) (K : EReal) : EReal) := by
    refine (max_at q k kb s b n g j r).trans ?_
    refine congrArg₂ (fun a b : EReal => max a b) ?_ hK
    refine (rowMax_at q k kb b n g j r).trans ?_
    rw [fill_f32]
  have hE : ∀ c : Fin 256, val_main_v64 (F := Ideal) q k kb s (ix6 b n g j r c) = Ideal.exp ((val_main_v55 (F := Ideal) q k kb (ix6 b n g j r c) : EReal)
      - (max (Finset.univ.fold max ⊥ (fun c : Fin 256 => (val_main_v55 (F := Ideal) q k kb (ix6 b n g j r c) : EReal))) (K : EReal) : EReal)) := fun c => by
    rw [numer_at, hM]
  have hD : val_main_v70 (F := Ideal) q k kb s (ix6 b n g j r 0) = (∑ c : Fin 256, Ideal.exp ((val_main_v55 (F := Ideal) q k kb (ix6 b n g j r c) : EReal)
      - (max (Finset.univ.fold max ⊥ (fun c : Fin 256 => (val_main_v55 (F := Ideal) q k kb (ix6 b n g j r c) : EReal))) (K : EReal) : EReal))
      + Ideal.exp ((K : EReal) - (max (Finset.univ.fold max ⊥ (fun c : Fin 256 => (val_main_v55 (F := Ideal) q k kb (ix6 b n g j r c) : EReal))) (K : EReal) : EReal)) : EReal) := by
    rw [denom_at, hM, hK, Finset.sum_congr rfl fun c _ => hE c]
  refine (mix_at q k v kb vb s b n g j r e).trans ?_
  refine Eq.trans ?_ (softmax_eq r P X Y K v' w' (fun c : Fin 256 => (val_main_v55 (F := Ideal) q k kb (ix6 b n g j r c) : EReal))
    (fun c : Fin 256 => (val_main_v23 (F := Ideal) v vb (ix5 b n c g e) : EReal)) hf1 hf2 hv1 hv2).symm
  refine Finset.sum_congr rfl fun c _ => ?_
  rw [weight_at, hE, hD]

/-- One score of the reference before the mask, over finite keys and queries. -/
theorem score_real (q : FVec Ideal S16x2048x16x64 .f32) (k : FVec Ideal S16x2048x4x64 .f32) (kb : FVec Ideal S1x128x4x64 .f32) (b n : Fin 16) (g j : Fin 4) (r : Fin 128) (s : Fin 256) (A B : Fin 64 → ℝ)
    (hA : ∀ d, val_main_v19 (F := Ideal) k kb (ix5 b n s g d) = (A d : EReal)) (hB : ∀ d, val_main_v15 (F := Ideal) q (ix6 b n r g j d) = (B d : EReal)) :
    (val_main_v50 (F := Ideal) q k kb (ix6 b n g s r j) * Ideal.ofBits .f32 0x3E000000#32 : EReal) = (((∑ d, A d * B d) * 0.125 : ℝ) : EReal) := by
  rw [scores_at, eighth_f32, EReal.coe_mul, coe_sum]
  refine congrArg (fun a : EReal => a * ((0.125 : ℝ) : EReal)) (Finset.sum_congr rfl fun d _ => ?_)
  rw [hA, hB, ← EReal.coe_mul]

/-- A masked score of the reference. -/
theorem masked_real (q : FVec Ideal S16x2048x16x64 .f32) (k : FVec Ideal S16x2048x4x64 .f32) (kb : FVec Ideal S1x128x4x64 .f32) (b n : Fin 16) (g j : Fin 4) (r : Fin 128) (s : Fin 256) (A B : Fin 64 → ℝ)
    (hA : ∀ d, val_main_v19 (F := Ideal) k kb (ix5 b n s g d) = (A d : EReal)) (hB : ∀ d, val_main_v15 (F := Ideal) q (ix6 b n r g j d) = (B d : EReal))
    (Q : Prop) [Decidable Q] (hQ : (r.val < s.val ∧ s.val ≤ 128 + r.val ∧ 112 ≤ 128 * n.val + s.val) ↔ Q) :
    val_main_v55 (F := Ideal) q k kb (ix6 b n g j r s) = if Q then ((((∑ d, A d * B d) * 0.125 : ℝ)) : EReal) else (⊥ : EReal) := by
  refine (masked_at q k kb b n g j r s).trans ?_
  rw [score_real q k kb b n g j r s A B hA hB, fill_f32]
  unfold Scalar.select
  by_cases h : Q
  · rw [if_pos h]
    exact if_pos ((mask_at n r s).2 (hQ.2 h))
  · rw [if_neg h]
    exact if_neg fun e => h (hQ.1 ((mask_at n r s).1 e))

/-- The attention output of the reference is the kernel's, where queries, keys and sinks are finite. -/
theorem att_eq (q : FVec Ideal S16x2048x16x64 .f32) (k v : FVec Ideal S16x2048x4x64 .f32) (kb vb : FVec Ideal S1x128x4x64 .f32) (s : FVec Ideal S1x16 .f32)
    (hq : ∀ i, ∃ z : ℝ, q i = (z : EReal)) (hk : ∀ i, ∃ z : ℝ, k i = (z : EReal)) (hkb : ∀ i, ∃ z : ℝ, kb i = (z : EReal)) (hs : ∀ i, ∃ z : ℝ, s i = (z : EReal))
    (b : Fin 16) (p : Fin 2048) (C : Fin 1024) :
    val_main_v75 (F := Ideal) q k v kb vb s (ix3 b p C) = kAtt q k v kb vb s b p C := by
  choose Q hQ using hq
  choose K hK using hk
  choose KB hKB using hkb
  choose T hT using hs
  have hp := p.isLt
  have hC := C.isLt
  rw [lanes_at]
  have eB : ∀ d : Fin 64, val_main_v15 (F := Ideal) q (ix6 b ⟨p.val / 128, by omega⟩ ⟨p.val % 128, by omega⟩ ⟨C.val / 256, by omega⟩ ⟨C.val / 64 % 4, by omega⟩ d)
      = ((Q (ix4 b p ⟨C.val / 64, by omega⟩ d) : ℝ) : EReal) := fun d => by
    rw [q_split, ← hQ]
    congr 2 <;> (apply Fin.ext; dsimp only; omega)
  have eO : ∀ (c : Fin 128) (d : Fin 64), val_main_v19 (F := Ideal) k kb (ix5 b ⟨p.val / 128, by omega⟩ ⟨128 + c.val, by omega⟩ ⟨C.val / 256, by omega⟩ d)
      = ((K (ix4 b ⟨128 * (p.val / 128) + c.val, by omega⟩ ⟨C.val / 256, by omega⟩ d) : ℝ) : EReal) := fun c d => by
    rw [keys_own, ← hK]
  have bef : ∀ (x : FVec Ideal S16x2048x4x64 .f32) (xb : FVec Ideal S1x128x4x64 .f32) (c : Fin 128) (d : Fin 64),
      val_main_v19 (F := Ideal) x xb (ix5 b ⟨p.val / 128, by omega⟩ ⟨c.val, by omega⟩ ⟨C.val / 256, by omega⟩ d) = befArg x xb b p ⟨C.val / 256, by omega⟩ d c := fun x xb c d => by
    rw [keys_before]
    unfold befArg
    by_cases h : 128 ≤ p.val
    · rw [if_pos h, if_neg (show ¬ p.val / 128 = 0 by omega)]
    · rw [if_neg h, if_pos (show p.val / 128 = 0 by omega)]
  have realBef : ∀ (c : Fin 128) (d : Fin 64), ∃ z : ℝ, befArg k kb b p ⟨C.val / 256, by omega⟩ d c = (z : EReal) := fun c d => by
    unfold befArg
    by_cases h : 128 ≤ p.val
    · rw [if_pos h]; exact ⟨_, hK _⟩
    · rw [if_neg h]; exact ⟨_, hKB _⟩
  choose Y hY using realBef
  refine (head_eq q k v kb vb s b ⟨p.val / 128, by omega⟩ ⟨C.val / 256, by omega⟩ ⟨C.val / 64 % 4, by omega⟩ ⟨p.val % 128, by omega⟩ ⟨C.val % 64, by omega⟩
    (fun c => 128 ≤ p.val ∨ 112 ≤ c.val)
    (fun c => (∑ d, K (ix4 b ⟨128 * (p.val / 128) + c.val, by omega⟩ ⟨C.val / 256, by omega⟩ d) * Q (ix4 b p ⟨C.val / 64, by omega⟩ d)) * 0.125)
    (fun c => (∑ d, Y c d * Q (ix4 b p ⟨C.val / 64, by omega⟩ d)) * 0.125)
    (T (ix2 0 ⟨C.val / 64, by omega⟩))
    (fun c => v (ix4 b ⟨128 * (p.val / 128) + c.val, by omega⟩ ⟨C.val / 256, by omega⟩ ⟨C.val % 64, by omega⟩))
    (fun c => befArg v vb b p ⟨C.val / 256, by omega⟩ ⟨C.val % 64, by omega⟩ c)
    (fun c => masked_real q k kb b _ _ _ _ _ (Y c) _ (fun d => (bef k kb c d).trans (hY c d)) eB _ ?_)
    (fun c => masked_real q k kb b _ _ _ _ _ _ _ (eO c) eB _ ?_) ?_ (fun c => ?_) (fun c => ?_)).trans ?_
  · show p.val % 128 < c.val ∧ c.val ≤ 128 + p.val % 128 ∧ 112 ≤ 128 * (p.val / 128) + c.val ↔ p.val % 128 < c.val ∧ (128 ≤ p.val ∨ 112 ≤ c.val)
    omega
  · show p.val % 128 < 128 + c.val ∧ 128 + c.val ≤ 128 + p.val % 128 ∧ 112 ≤ 128 * (p.val / 128) + (128 + c.val) ↔ c.val ≤ p.val % 128
    omega
  · rw [sink_split, ← hT]
    congr 2
    apply Fin.ext; dsimp only; omega
  · rw [values_band]; exact bef v vb c _
  · rw [values_band]; exact keys_own v vb b _ c _ _
  · unfold kAtt
    refine attnRow_congr _ _ rfl _ _ (fun _ => Iff.rfl) _ _ _ _ _ _ _ _ _ _ (fun c => ?_) (fun c => ?_) ?_ (fun _ => rfl) (fun _ => rfl)
    · rw [← score_scaled]
      refine Finset.sum_congr rfl fun d _ => ?_
      rw [← hQ, ← hK]
    · rw [← score_scaled]
      refine Finset.sum_congr rfl fun d _ => ?_
      rw [← hQ, ← hY]
    · rw [EReal.coe_mul, ← hT, mul_comm]

/-- The reference's result is the kernel's. -/
theorem out_eq (q : FVec Ideal S16x2048x16x64 .f32) (k v : FVec Ideal S16x2048x4x64 .f32) (kb vb : FVec Ideal S1x128x4x64 .f32) (s : FVec Ideal S1x16 .f32) (h : FVec Ideal S16x2048x1024 .f32) (wo : FVec Ideal S1x1024x1024 .f32)
    (ng : FVec Ideal S2x1024 .f32) (wg wu : FVec Ideal S2x1024x2816 .f32) (wd : FVec Ideal S2x2816x1024 .f32) (gf : FVec Ideal S1024 .f32)
    (hq : ∀ i, ∃ z : ℝ, q i = (z : EReal)) (hk : ∀ i, ∃ z : ℝ, k i = (z : EReal)) (hkb : ∀ i, ∃ z : ℝ, kb i = (z : EReal)) (hs : ∀ i, ∃ z : ℝ, s i = (z : EReal))
    (hn : ∀ i, ∃ z : ℝ, ng i = (z : EReal)) (hw : ∀ i, ∃ z : ℝ, wg i = (z : EReal)) (R : Fin 32768) (C : Fin 1024) :
    val_main_v110 (F := Ideal) q k v kb vb s h wo ng wg wu wd gf (ix2 R C) = kOut q k v kb vb s h wo ng wg wu wd gf ⟨R.val / 2048, by omega⟩ ⟨R.val % 2048, by omega⟩ C := by
  refine (out_at q k v kb vb s h wo ng wg wu wd gf R C).trans ?_
  unfold kOut
  generalize (⟨R.val / 2048, by omega⟩ : Fin 16) = b
  generalize (⟨R.val % 2048, by omega⟩ : Fin 2048) = p
  refine congrArg (fun x => rmsRow x (fun j => gf (ix1 j)) C) (funext fun c => ?_)
  have hr : (fun j => val_main_v77 (F := Ideal) q k v kb vb s h wo (ix3 b p j)) = fun j => (h (ix3 b p j) + ∑ i, kAtt q k v kb vb s b p i * wo (ix3 0 i j) : EReal) := funext fun j => by
    refine (resid_at q k v kb vb s h wo b p j).trans ?_
    refine congrArg (fun a : EReal => h (ix3 b p j) + a) (Finset.sum_congr rfl fun i _ => ?_)
    rw [att_eq q k v kb vb s hq hk hkb hs]
  rw [acc_eq _ _ _ _ _ (fun c => hn _) (fun c f => hw _), ← hr]
  refine (layer_at q k v kb vb s h wo ng wg wu wd b p c).trans ?_
  refine congrArg₂ (fun a b : EReal => a + b) (congrFun hr c) (Finset.sum_congr rfl fun f _ => ?_)
  refine congrArg (fun a : EReal => a * wd (ix3 1 f c)) ((gated_at q k v kb vb s h wo ng wg wu b p f).trans ?_)
  refine congrArg₂ gateR ((gate_at q k v kb vb s h wo ng wg b p f).trans ?_) ((up_at q k v kb vb s h wo ng wu b p f).trans ?_)
  · exact Finset.sum_congr rfl fun j _ => congrArg (fun a : EReal => a * wg (ix3 1 j f)) (normed_at q k v kb vb s h wo ng b p j)
  · exact Finset.sum_congr rfl fun j _ => congrArg (fun a : EReal => a * wu (ix3 1 j f)) (normed_at q k v kb vb s h wo ng b p j)

end Cert.ReferenceIdeal.Hand

end
-- ==== Proof.Finite.lean ====
module

public import proofs.«01_k».proof.Pre_finite_scores
public import Idealize.ShloMosaic.Lib.ReduceAll
public import Idealize.ShloMosaic.Lib.Pointwise

@[expose] public section

set_option maxRecDepth 16384

noncomputable section

namespace Cert.Pre_finite_scores.Hand

open Cert.Pre_finite_scores Idealize.ShloMosaic

/-! ## What the precondition says: the entries it names are real numbers -/

/-- The shape relations of the precondition hold. -/
theorem facts : Cert.Pre_finite_scores.Facts where
  bcast_S_S16x2048x16x64 := by decide
  reducesTo_S16x2048x16x64_S_d0_1_2_3 := by decide
  h_S_ := by decide
  bcast_S_S16x2048x4x64 := by decide
  reducesTo_S16x2048x4x64_S_d0_1_2_3 := by decide
  bcast_S_S1x128x4x64 := by decide
  reducesTo_S1x128x4x64_S_d0_1_2_3 := by decide
  bcast_S_S1x16 := by decide
  reducesTo_S1x16_S_d0_1 := by decide
  bcast_S_S2x1024 := by decide
  reducesTo_S2x1024_S_d0_1 := by decide
  bcast_S_S2x1024x2816 := by decide
  reducesTo_S2x1024x2816_S_d0_1_2 := by decide

/-- The word of the bound is plus infinity. -/
theorem bound_f32 : Ideal.ofBits .f32 0x7F800000#32 = (⊤ : EReal) := by
  simp [Ideal.ofBits, Ideal.ieee, -EReal.coe_mul]

/-- An extended real whose absolute value is below plus infinity is a real number. -/
theorem real_of_abs (x : EReal) (h : Ideal.cmp .olt (max x (-x)) (Ideal.ofBits .f32 0x7F800000#32) = 1#1) : ∃ z : ℝ, x = (z : EReal) := by
  rw [bound_f32] at h
  unfold Ideal.cmp at h
  have h' : max x (-x) < ⊤ := by
    by_contra hn
    simp [hn] at h
  induction x with
  | bot => simp at h'
  | coe z => exact ⟨z, rfl⟩
  | top => simp at h'

instance : Subsingleton S_.Idx := ⟨fun _ _ => funext fun a => a.elim0⟩

/-- A conjunction over a whole array of "below plus infinity in absolute value" makes every entry a real number. -/
theorem real_of_all {S : Shape} {axes : List (Fin S.rank)} (x : FVec Ideal S .f32) (hb : S_.BroadcastsInDim S (![] : Fin 0 → Fin S.rank)) (hr : S.ReducesTo axes S_) (h0 : 0 < S_.numel) (j : S_.Idx)
    (e : Host.reduce IntOp.andi (cmpf .olt (Host.absf x) (broadcastInDim S ![] hb (constant S_ .f32 0x7F800000#32))) (constantI S_ 1 1#1) hr h0 j = 1#1) (i : S.Idx) :
    ∃ z : ℝ, x i = (z : EReal) :=
  real_of_abs (x i) (Host.reduce_andi_all _ _ _ _ j e i)

/-- The precondition's six conjuncts. -/
theorem finite [Facts] (a0 : FVec Ideal S16x2048x16x64 .f32) (a1 a2 : FVec Ideal S16x2048x4x64 .f32) (a3 a4 : FVec Ideal S1x128x4x64 .f32) (a5 : FVec Ideal S1x16 .f32) (a6 : FVec Ideal S16x2048x1024 .f32)
    (a7 : FVec Ideal S1x1024x1024 .f32) (a8 : FVec Ideal S2x1024 .f32) (a9 a10 : FVec Ideal S2x1024x2816 .f32) (a11 : FVec Ideal S2x2816x1024 .f32) (a12 : FVec Ideal S1024 .f32)
    (h : fn (F := Ideal) a0 a1 a2 a3 a4 a5 a6 a7 a8 a9 a10 a11 a12 = fun _ => 1#1) :
    (∀ i, ∃ z : ℝ, a0 i = (z : EReal)) ∧ (∀ i, ∃ z : ℝ, a1 i = (z : EReal)) ∧ (∀ i, ∃ z : ℝ, a3 i = (z : EReal)) ∧ (∀ i, ∃ z : ℝ, a5 i = (z : EReal)) ∧ (∀ i, ∃ z : ℝ, a8 i = (z : EReal)) ∧ (∀ i, ∃ z : ℝ, a9 i = (z : EReal)) := by
  have e := congrFun h (fun a => a.elim0)
  unfold fn fn_part1 at e
  obtain ⟨e, h9⟩ := IntOp.andi_eq_one.1 e
  obtain ⟨e, h8⟩ := IntOp.andi_eq_one.1 e
  obtain ⟨e, h5⟩ := IntOp.andi_eq_one.1 e
  obtain ⟨e, h3⟩ := IntOp.andi_eq_one.1 e
  obtain ⟨h0, h1⟩ := IntOp.andi_eq_one.1 e
  exact ⟨real_of_all a0 _ _ _ _ h0, real_of_all a1 _ _ _ _ h1, real_of_all a3 _ _ _ _ h3, real_of_all a5 _ _ _ _ h5, real_of_all a8 _ _ _ _ h8, real_of_all a9 _ _ _ _ h9⟩

end Cert.Pre_finite_scores.Hand

end
-- ==== Proof.MBody.lean ====
module

public import proofs.«01_k».proof.Proof.Gen.Kernel2Ideal.Frame
public import Idealize.ShloMosaic.Lib.Pipeline.ValueKit

@[expose] public section

set_option maxRecDepth 16384

noncomputable section

namespace Cert.Kernel2Ideal.Hand

open Cert.Kernel2Ideal Cert.Kernel2Ideal.Gen Idealize.ShloMosaic Idealize.ShloMosaic.TcCoe Idealize.SL.Sem

variable {F : FTy → Type} [FloatOps F] [Named F]

/-! ## The body of a step: the mixer's projection, the feed-forward part, the keys, values and queries -/

/-- The residual after the mixer's output projection. -/
def resid (h : Vec F S512x1024 .f32) (o : Vec F S512x2048 .bf16) (w : Vec F S2048x1024 .bf16) : FVec F S512x1024 .f32 :=
  addf (shapeCast S512x1024 h shapeCasts_S512x1024_S512x1024)
    (matmul (φ₁ := .bf16) (φ₂ := .bf16) dot_S512x2048_S2048x1024_S512x1024_1_0_0_1_n_n none (shapeCast S512x2048 o shapeCasts_S512x2048_S512x2048) (shapeCast S2048x1024 w shapeCasts_S2048x1024_S2048x1024) (constant S512x1024 .f32 0x00000000#32))

/-- Each row's scale: one over the root of the mean square plus a small constant. -/
def rmsScale (x : FVec F S512x1024 .f32) : FVec F S512x1 .f32 :=
  rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x3727C5AC#32)))

/-- The root-mean-square normalization with its weights. -/
def normed (x : FVec F S512x1024 .f32) (g : Vec F S1x1024 .f32) : FVec F S512x1024 .f32 :=
  mulf (mulf x (broadcastTo S512x1024 (rmsScale x) broadcasts_S512x1_S512x1024))
    (broadcastTo S512x1024 (shapeCast S1x1024 g shapeCasts_S1x1024_S1x1024) broadcasts_S1x1024_S512x1024)

/-- One slab of 1408 columns of a projection. -/
def slab (xn : FVec F S512x1024 .bf16) (w : Vec F S1024x1408 .bf16) : FVec F S512x1408 .f32 :=
  matmul (φ₁ := .bf16) (φ₂ := .bf16) dot_S512x1024_S1024x1408_S512x1408_1_0_0_1_n_n none xn (shapeCast S1024x1408 w shapeCasts_S1024x1408_S1024x1408) (constant S512x1408 .f32 0x00000000#32)

/-- Half of the gate. -/
def halfGate (xn : FVec F S512x1024 .bf16) (wg : Vec F S1024x1408 .bf16) : FVec F S512x1408 .f32 :=
  mulf (broadcast S512x1408 (Scalar.ofBits .f32 0x3F000000#32)) (slab xn wg)

/-- The gated slab: `(h · tanh h + h) · up` with `h` half of the gate. -/
def gated (xn : FVec F S512x1024 .bf16) (wg wu : Vec F S1024x1408 .bf16) : FVec F S512x1408 .f32 :=
  mulf (addf (mulf (halfGate xn wg) (tanh (halfGate xn wg))) (halfGate xn wg)) (slab xn wu)

/-- The slab's share of the down projection. -/
def down (x : FVec F S512x1408 .f32) (wd : Vec F S1408x1024 .bf16) : FVec F S512x1024 .f32 :=
  matmul (φ₁ := .bf16) (φ₂ := .bf16) dot_S512x1408_S1408x1024_S512x1024_1_0_0_1_n_n none (truncf .bf16 x bitsLt_bf16_f32) (shapeCast S1408x1024 wd shapeCasts_S1408x1024_S1408x1024) (constant S512x1024 .f32 0x00000000#32)

/-- The layer's output rows before the last normalization. -/
def ffnAcc (h1 : FVec F S512x1024 .f32) (g : Vec F S1x1024 .f32) (wg0 wg1 wu0 wu1 : Vec F S1024x1408 .bf16) (wd0 wd1 : Vec F S1408x1024 .bf16) : FVec F S512x1024 .f32 :=
  addf (addf h1 (down (gated (truncf .bf16 (normed h1 g) bitsLt_bf16_f32) wg0 wu0) wd0)) (down (gated (truncf .bf16 (normed h1 g) bitsLt_bf16_f32) wg1 wu1) wd1)

/-- The rows after the feed-forward part, over the blocks a step holds. -/
def accB (x0 : Vec F S512x1024 .f32) (x1 : Vec F S512x2048 .bf16) (x2 : Vec F S2048x1024 .bf16) (x3 : Vec F S1x1024 .f32) (x4 : Vec F S1024x2816 .bf16) (x5 : Vec F S1024x2816 .bf16) (x6 : Vec F S2816x1024 .bf16) : FVec F S512x1024 .f32 :=
  ffnAcc (resid (View.ld x0 r0_0) (View.ld x1 r0_1) (View.ld x2 r0_2)) (View.ld x3 r0_3) (View.ld x4 r0_4) (View.ld x4 r0_6) (View.ld x5 r0_4) (View.ld x5 r0_6) (View.ld x6 r0_5) (View.ld x6 r0_7)

/-- The keys' or the values' projection of the normalized rows. -/
def projKv (a : FVec F S512x1024 .f32) (g : Vec F S1x1024 .f32) (w : Vec F S1024x256 .bf16) : FVec F S512x256 .f32 :=
  matmul (φ₁ := .bf16) (φ₂ := .bf16) dot_S512x1024_S1024x256_S512x256_1_0_0_1_n_n none (truncf .bf16 (normed a g) bitsLt_bf16_f32) (shapeCast S1024x256 w shapeCasts_S1024x256_S1024x256) (constant S512x256 .f32 0x00000000#32)

/-- The queries' projection of the normalized rows. -/
def projQ (a : FVec F S512x1024 .f32) (g : Vec F S1x1024 .f32) (w : Vec F S1024x1024 .bf16) : FVec F S512x1024 .f32 :=
  matmul (φ₁ := .bf16) (φ₂ := .bf16) dot_S512x1024_S1024x1024_S512x1024_1_0_0_1_n_n none (truncf .bf16 (normed a g) bitsLt_bf16_f32) (shapeCast S1024x1024 w shapeCasts_S1024x1024_S1024x1024) (constant S512x1024 .f32 0x00000000#32)

/-- The rotary embedding of two heads' lanes by three tables. -/
def ropeT (x : FVec F S512x128 .f32) (cs lo hi : Vec F S512x128 .f32) : FVec F S512x128 .f32 :=
  addf (addf (mulf x (shapeCast S512x128 cs shapeCasts_S512x128_S512x128)) (mulf (dynamicRotate 1 120#32 none x rotates_S512x128_d1) (shapeCast S512x128 lo shapeCasts_S512x128_S512x128)))
    (mulf (dynamicRotate 1 8#32 none x rotates_S512x128_d1) (shapeCast S512x128 hi shapeCasts_S512x128_S512x128))

/-- A tile of queries: turned, scaled, rounded. -/
def tileQ (x : FVec F S512x128 .f32) (cs lo hi : Vec F S512x128 .f32) : FVec F S512x128 .bf16 :=
  truncf .bf16 (mulf (ropeT x cs lo hi) (broadcast S512x128 (Named.named κ "q_scale" 0x3E38AA3B#32))) bitsLt_bf16_f32

/-- What a step writes of the residual stream. -/
theorem out15_eq (x0 : Vec F S512x1024 .f32) (x1 : Vec F S512x2048 .bf16) (x2 : Vec F S2048x1024 .bf16) (x3 : Vec F S1x1024 .f32) (x4 : Vec F S1024x2816 .bf16) (x5 : Vec F S1024x2816 .bf16) (x6 : Vec F S2816x1024 .bf16) (x7 : Vec F S1x1024 .f32) (x8 : Vec F S1x1024 .f32) (x9 : Vec F S1024x256 .bf16) (x10 : Vec F S1024x256 .bf16) (x11 : Vec F S1024x1024 .bf16) (x12 : Vec F S512x128 .f32) (x13 : Vec F S512x128 .f32) (x14 : Vec F S512x128 .f32) : out0_15 x0 x1 x2 x3 x4 x5 x6 x7 x8 x9 x10 x11 x12 x13 x14 = accB x0 x1 x2 x3 x4 x5 x6 := by
  unfold out0_15
  refine (View.canon_unit_zero (by funext a; match a with | ⟨0, _⟩ => rfl | ⟨1, _⟩ => rfl) _ _).trans ?_
  rfl

/-- What a step writes of the values. -/
theorem out18_eq (x0 : Vec F S512x1024 .f32) (x1 : Vec F S512x2048 .bf16) (x2 : Vec F S2048x1024 .bf16) (x3 : Vec F S1x1024 .f32) (x4 : Vec F S1024x2816 .bf16) (x5 : Vec F S1024x2816 .bf16) (x6 : Vec F S2816x1024 .bf16) (x7 : Vec F S1x1024 .f32) (x8 : Vec F S1x1024 .f32) (x9 : Vec F S1024x256 .bf16) (x10 : Vec F S1024x256 .bf16) (x11 : Vec F S1024x1024 .bf16) (x12 : Vec F S512x128 .f32) (x13 : Vec F S512x128 .f32) (x14 : Vec F S512x128 .f32) : out0_18 x0 x1 x2 x3 x4 x5 x6 x7 x8 x9 x10 x11 x12 x13 x14 = projKv (accB x0 x1 x2 x3 x4 x5 x6) (View.ld x7 r0_3) (View.ld x10 r0_9) := by
  unfold out0_18
  refine (View.canon_unit_zero (by funext a; match a with | ⟨0, _⟩ => rfl | ⟨1, _⟩ => rfl) _ _).trans ?_
  rfl

/-- The two tiles of keys a step writes. -/
def kTiles (y : FVec F S512x256 .f32) (cs lo hi : Vec F S512x128 .f32) : List (View.Piece (Elt F) S512x256 .f32) :=
  [⟨r0_11, ropeT (extractStridedSlice S512x128 ![0, 128] y slices_S512x256_o0_128_S512x128) cs lo hi⟩,
    ⟨r0_10, ropeT (extractStridedSlice S512x128 ![0, 0] y slices_S512x256_o0_0_S512x128) cs lo hi⟩]

/-- The eight tiles of queries a step writes. -/
def qTiles (y : FVec F S512x1024 .f32) (cs lo hi : Vec F S512x128 .f32) : List (View.Piece (Elt F) S512x1024 .bf16) :=
  [⟨r0_21, tileQ (extractStridedSlice S512x128 ![0, 896] y slices_S512x1024_o0_896_S512x128) cs lo hi⟩,
    ⟨r0_20, tileQ (extractStridedSlice S512x128 ![0, 768] y slices_S512x1024_o0_768_S512x128) cs lo hi⟩,
    ⟨r0_19, tileQ (extractStridedSlice S512x128 ![0, 640] y slices_S512x1024_o0_640_S512x128) cs lo hi⟩,
    ⟨r0_18, tileQ (extractStridedSlice S512x128 ![0, 512] y slices_S512x1024_o0_512_S512x128) cs lo hi⟩,
    ⟨r0_17, tileQ (extractStridedSlice S512x128 ![0, 384] y slices_S512x1024_o0_384_S512x128) cs lo hi⟩,
    ⟨r0_16, tileQ (extractStridedSlice S512x128 ![0, 256] y slices_S512x1024_o0_256_S512x128) cs lo hi⟩,
    ⟨r0_15, tileQ (extractStridedSlice S512x128 ![0, 128] y slices_S512x1024_o0_128_S512x128) cs lo hi⟩,
    ⟨r0_14, tileQ (extractStridedSlice S512x128 ![0, 0] y slices_S512x1024_o0_0_S512x128) cs lo hi⟩]

/-- What a step writes of the keys. -/
theorem out17_eq (x0 : Vec F S512x1024 .f32) (x1 : Vec F S512x2048 .bf16) (x2 : Vec F S2048x1024 .bf16) (x3 : Vec F S1x1024 .f32) (x4 : Vec F S1024x2816 .bf16) (x5 : Vec F S1024x2816 .bf16) (x6 : Vec F S2816x1024 .bf16) (x7 : Vec F S1x1024 .f32) (x8 : Vec F S1x1024 .f32) (x9 : Vec F S1024x256 .bf16) (x10 : Vec F S1024x256 .bf16) (x11 : Vec F S1024x1024 .bf16) (x12 : Vec F S512x128 .f32) (x13 : Vec F S512x128 .f32) (x14 : Vec F S512x128 .f32) : out0_17 x0 x1 x2 x3 x4 x5 x6 x7 x8 x9 x10 x11 x12 x13 x14 = View.canon (kTiles (projKv (accB x0 x1 x2 x3 x4 x5 x6) (View.ld x7 r0_3) (View.ld x9 r0_9)) (View.ld x12 r0_8) (View.ld x13 r0_8) (View.ld x14 r0_8)) := rfl

/-- What a step writes of the queries. -/
theorem out16_eq (x0 : Vec F S512x1024 .f32) (x1 : Vec F S512x2048 .bf16) (x2 : Vec F S2048x1024 .bf16) (x3 : Vec F S1x1024 .f32) (x4 : Vec F S1024x2816 .bf16) (x5 : Vec F S1024x2816 .bf16) (x6 : Vec F S2816x1024 .bf16) (x7 : Vec F S1x1024 .f32) (x8 : Vec F S1x1024 .f32) (x9 : Vec F S1024x256 .bf16) (x10 : Vec F S1024x256 .bf16) (x11 : Vec F S1024x1024 .bf16) (x12 : Vec F S512x128 .f32) (x13 : Vec F S512x128 .f32) (x14 : Vec F S512x128 .f32) : out0_16 x0 x1 x2 x3 x4 x5 x6 x7 x8 x9 x10 x11 x12 x13 x14 = View.canon (qTiles (projQ (accB x0 x1 x2 x3 x4 x5 x6) (View.ld x8 r0_3) (View.ld x11 r0_13)) (View.ld x12 r0_8) (View.ld x13 r0_8) (View.ld x14 r0_8)) := rfl

end Cert.Kernel2Ideal.Hand

end
-- ==== Proof.MRope.lean ====
module

public import Idealize.ShloMosaic.Lib.Pointwise

@[expose] public section

set_option maxRecDepth 16384

noncomputable section

namespace Cert.Kernel2Ideal.Hand

/-! ## The rotary embedding of one head -/

/-- The rotary embedding of a head's row: the first eight entries and the next eight turn as pairs, the rest stay. -/
def ropeK (cos sin : Fin 8 → EReal) (x : Fin 64 → EReal) (d : Fin 64) : EReal :=
  if h : d.val < 8 then x d * cos ⟨d.val, h⟩ - x ⟨d.val + 8, by omega⟩ * sin ⟨d.val, h⟩
  else if h2 : d.val < 16 then x d * cos ⟨d.val - 8, by omega⟩ + x ⟨d.val - 8, by omega⟩ * sin ⟨d.val - 8, by omega⟩
  else x d

/-- The kernel's table of factors of the entry itself, over the lanes of two heads. -/
def tabC (cos : Fin 8 → EReal) (l : Fin 128) : EReal :=
  if h : l.val % 64 < 8 then cos ⟨l.val % 64, h⟩ else if h2 : l.val % 64 < 16 then cos ⟨l.val % 64 - 8, by omega⟩ else 1

/-- The kernel's table of factors of the entry eight lanes up. -/
def tabS (sin : Fin 8 → EReal) (l : Fin 128) : EReal :=
  if h : l.val % 64 < 8 then -sin ⟨l.val % 64, h⟩ else 0

/-- The kernel's table of factors of the entry eight lanes down. -/
def tabT (sin : Fin 8 → EReal) (l : Fin 128) : EReal :=
  if h : l.val % 64 < 8 then 0 else if h2 : l.val % 64 < 16 then sin ⟨l.val % 64 - 8, by omega⟩ else 0

/-- The sum of the three products on a lane is the rotary embedding of the lane's head. -/
theorem rope_lane (cos sin : Fin 8 → EReal) (x : Fin 128 → EReal) (l : Fin 128) :
    x l * tabC cos l + x ⟨(l.val + 8) % 128, Nat.mod_lt _ (by decide)⟩ * tabS sin l + x ⟨(l.val + 120) % 128, Nat.mod_lt _ (by decide)⟩ * tabT sin l
      = ropeK cos sin (fun e => x ⟨l.val / 64 * 64 + e.val, by omega⟩) ⟨l.val % 64, by omega⟩ := by
  unfold tabC tabS tabT ropeK
  dsimp only
  have e0 : (⟨l.val / 64 * 64 + l.val % 64, by omega⟩ : Fin 128) = l := Fin.ext (by dsimp only; omega)
  rw [e0]
  by_cases h : l.val % 64 < 8
  · rw [dif_pos h, dif_pos h, dif_pos h, dif_pos h, mul_zero, add_zero, mul_neg, ← sub_eq_add_neg]
    congr 3
    apply Fin.ext; dsimp only; omega
  · rw [dif_neg h, dif_neg h, dif_neg h, dif_neg h, mul_zero, add_zero]
    by_cases h2 : l.val % 64 < 16
    · rw [dif_pos h2, dif_pos h2, dif_pos h2]
      congr 3
      apply Fin.ext; dsimp only; omega
    · rw [dif_neg h2, dif_neg h2, dif_neg h2, mul_zero, add_zero, mul_one]

/-- The rotary embedding as joined parts: the first sixteen entries in two halves, then the rest. -/
theorem ropeK_joined (cos sin : Fin 8 → EReal) (x : Fin 64 → EReal) (d : Fin 64) :
    (if h : d.val < 16 then
      if h8 : d.val < 8 then x d * cos ⟨d.val, h8⟩ - x ⟨8 + d.val, by omega⟩ * sin ⟨d.val, h8⟩
      else x ⟨8 + (d.val - 8), by omega⟩ * cos ⟨d.val - 8, by omega⟩ + x ⟨d.val - 8, by omega⟩ * sin ⟨d.val - 8, by omega⟩
    else x ⟨16 + (d.val - 16), by omega⟩) = ropeK cos sin x d := by
  unfold ropeK
  by_cases h8 : d.val < 8
  · rw [dif_pos (show d.val < 16 by omega), dif_pos h8, dif_pos h8]
    simp only [Nat.add_comm 8]
  · rw [dif_neg h8]
    by_cases h16 : d.val < 16
    · rw [dif_pos h16, dif_pos h16, dif_neg h8]
      simp only [show 8 + (d.val - 8) = d.val by omega]
    · rw [dif_neg h16, dif_neg h16]
      simp only [show 16 + (d.val - 16) = d.val by omega]

/-- The rotary embedding of a row of heads, at a column. -/
def turned {n : ℕ} (hn : n % 64 = 0) (cos sin : Fin 8 → EReal) (y : Fin n → EReal) (C : Fin n) : EReal :=
  ropeK cos sin (fun e => y ⟨C.val / 64 * 64 + e.val, by omega⟩) ⟨C.val % 64, by omega⟩

end Cert.Kernel2Ideal.Hand

end
-- ==== Proof.MRead.lean ====
module

public import proofs.«01_k».proof.Proof.MBody
public import proofs.«01_k».proof.Proof.MRope
public import proofs.«01_k».proof.Proof.KFfn
public import Idealize.ShloMosaic.Lib.Pointwise

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Cert.KernelIdeal.Hand (rmsRow gateK accK)

/-! ## A step of the second program, at one entry -/

/-- An entry after the residual and the projected mix. -/
theorem resid_at (h : Vec Ideal S512x1024 .f32) (o : Vec Ideal S512x2048 .bf16) (w : Vec Ideal S2048x1024 .bf16) (r : Fin 512) (c : Fin 1024) :
    resid h o w (ix2 r c) = (h (ix2 r c) + ∑ j, o (ix2 r j) * w (ix2 j c) : EReal) := by
  pointwise [resid, dot_S512x2048_S2048x1024_S512x1024_1_0_0_1_n_n]

/-- An entry of the normed row. -/
theorem normed_at (x : FVec Ideal S512x1024 .f32) (g : Vec Ideal S1x1024 .f32) (r : Fin 512) (c : Fin 1024) :
    normed x g (ix2 r c) = rmsRow (fun j => x (ix2 r j)) (fun j => g (ix2 0 j)) c := by
  pointwise [normed, rmsScale]
  rfl

/-- An entry of a product with a slab of weights. -/
theorem slab_at (x : FVec Ideal S512x1024 .bf16) (w : Vec Ideal S1024x1408 .bf16) (r : Fin 512) (c : Fin 1408) :
    slab x w (ix2 r c) = (∑ j, x (ix2 r j) * w (ix2 j c) : EReal) := by
  pointwise [slab, dot_S512x1024_S1024x1408_S512x1408_1_0_0_1_n_n]

/-- An entry of the gated slab. -/
theorem gated_at (x : FVec Ideal S512x1024 .bf16) (wg wu : Vec Ideal S1024x1408 .bf16) (r : Fin 512) (c : Fin 1408) :
    gated x wg wu (ix2 r c) = gateK (∑ j, x (ix2 r j) * wg (ix2 j c) : EReal) (∑ j, x (ix2 r j) * wu (ix2 j c) : EReal) := by
  pointwise [gated, halfGate]
  rw [slab_at, slab_at]
  rfl

/-- An entry of the down projection of a slab. -/
theorem down_at (x : FVec Ideal S512x1408 .f32) (w : Vec Ideal S1408x1024 .bf16) (r : Fin 512) (c : Fin 1024) :
    down x w (ix2 r c) = (∑ j, x (ix2 r j) * w (ix2 j c) : EReal) := by
  pointwise [down, dot_S512x1408_S1408x1024_S512x1024_1_0_0_1_n_n]

/-- What one slab of the feed-forward part adds. -/
theorem share_at (h1 : FVec Ideal S512x1024 .f32) (g : Vec Ideal S1x1024 .f32) (wg wu : Vec Ideal S1024x1408 .bf16) (wd : Vec Ideal S1408x1024 .bf16) (r : Fin 512) (c : Fin 1024) :
    down (gated (truncf .bf16 (normed h1 g) bitsLt_bf16_f32) wg wu) wd (ix2 r c) =
      ∑ f : Fin 1408, gateK (∑ j, rmsRow (fun j => h1 (ix2 r j)) (fun j => g (ix2 0 j)) j * wg (ix2 j f)) (∑ j, rmsRow (fun j => h1 (ix2 r j)) (fun j => g (ix2 0 j)) j * wu (ix2 j f)) * wd (ix2 f c) := by
  rw [down_at]
  refine Finset.sum_congr rfl fun f _ => congrArg (fun z : EReal => z * wd (ix2 f c)) ?_
  rw [gated_at]
  refine congrArg₂ gateK (Finset.sum_congr rfl fun j _ => congrArg (fun z : EReal => z * wg (ix2 j f)) (normed_at h1 g r j)) (Finset.sum_congr rfl fun j _ => congrArg (fun z : EReal => z * wu (ix2 j f)) (normed_at h1 g r j))

/-- The accumulated feed-forward part. -/
theorem ffnAcc_at (h1 : FVec Ideal S512x1024 .f32) (g : Vec Ideal S1x1024 .f32) (wg0 wg1 wu0 wu1 : Vec Ideal S1024x1408 .bf16) (wd0 wd1 : Vec Ideal S1408x1024 .bf16)
    (wg wu : Fin 1024 → Fin 2816 → EReal) (wd : Fin 2816 → Fin 1024 → EReal)
    (hg0 : ∀ j (f : Fin 1408), wg0 (ix2 j f) = wg j ⟨f.val, by omega⟩) (hg1 : ∀ j (f : Fin 1408), wg1 (ix2 j f) = wg j ⟨1408 + f.val, by omega⟩)
    (hu0 : ∀ j (f : Fin 1408), wu0 (ix2 j f) = wu j ⟨f.val, by omega⟩) (hu1 : ∀ j (f : Fin 1408), wu1 (ix2 j f) = wu j ⟨1408 + f.val, by omega⟩)
    (hd0 : ∀ (f : Fin 1408) j, wd0 (ix2 f j) = wd ⟨f.val, by omega⟩ j) (hd1 : ∀ (f : Fin 1408) j, wd1 (ix2 f j) = wd ⟨1408 + f.val, by omega⟩ j)
    (r : Fin 512) (c : Fin 1024) :
    ffnAcc h1 g wg0 wg1 wu0 wu1 wd0 wd1 (ix2 r c) = accK (fun j => h1 (ix2 r j)) (fun j => g (ix2 0 j)) wg wu wd c := by
  pointwise [ffnAcc]
  rw [share_at, share_at]
  unfold accK
  simp only [hg0, hg1, hu0, hu1, hd0, hd1]

/-- Reading a range of columns. -/
theorem ldcols_at (x : Vec Ideal S1024x2816 .bf16) (o : ℕ) (h : ∀ a, (![0, o] : Fin 2 → ℕ) a + S1024x1408.size a ≤ S1024x2816.size a) (j : Fin 1024) (f : Fin 1408) (R : Fin 2816) (hR : R.val = o + f.val) :
    View.ld x (Rect.unit (s := S1024x2816) ![0, o] S1024x1408.size h) (ix2 j f) = x (ix2 j R) :=
  congrArg x (funext fun a => match a with
    | ⟨0, _⟩ => Fin.ext (by show 0 + 1 * j.val = j.val; omega)
    | ⟨1, _⟩ => Fin.ext (by show o + 1 * f.val = R.val; omega))

/-- Reading a range of rows. -/
theorem ldrows_at (x : Vec Ideal S2816x1024 .bf16) (o : ℕ) (h : ∀ a, (![o, 0] : Fin 2 → ℕ) a + S1408x1024.size a ≤ S2816x1024.size a) (f : Fin 1408) (j : Fin 1024) (R : Fin 2816) (hR : R.val = o + f.val) :
    View.ld x (Rect.unit (s := S2816x1024) ![o, 0] S1408x1024.size h) (ix2 f j) = x (ix2 R j) :=
  congrArg x (funext fun a => match a with
    | ⟨0, _⟩ => Fin.ext (by show o + 1 * f.val = R.val; omega)
    | ⟨1, _⟩ => Fin.ext (by show 0 + 1 * j.val = j.val; omega))

/-- The offsets of a whole read are zero. -/
theorem zero2 : (![0, 0] : Fin 2 → ℕ) = fun _ => 0 := by
  funext a
  match a with
  | ⟨0, _⟩ => rfl
  | ⟨1, _⟩ => rfl

/-- The rows after the feed-forward part, at one entry. -/
theorem accB_at (x0 : Vec Ideal S512x1024 .f32) (x1 : Vec Ideal S512x2048 .bf16) (x2 : Vec Ideal S2048x1024 .bf16) (x3 : Vec Ideal S1x1024 .f32) (x4 : Vec Ideal S1024x2816 .bf16) (x5 : Vec Ideal S1024x2816 .bf16) (x6 : Vec Ideal S2816x1024 .bf16) (r : Fin 512) (c : Fin 1024) :
    accB x0 x1 x2 x3 x4 x5 x6 (ix2 r c) = accK (fun j => (x0 (ix2 r j) + ∑ i, x1 (ix2 r i) * x2 (ix2 i j) : EReal)) (fun j => x3 (ix2 0 j))
      (fun j f => x4 (ix2 j f)) (fun j f => x5 (ix2 j f)) (fun f j => x6 (ix2 f j)) c := by
  unfold accB
  rw [View.ld_unit_zero (S := S512x1024) zero2, View.ld_unit_zero (S := S512x2048) zero2, View.ld_unit_zero (S := S2048x1024) zero2, View.ld_unit_zero (S := S1x1024) zero2]
  refine (ffnAcc_at _ _ _ _ _ _ _ _ (fun j f => x4 (ix2 j f)) (fun j f => x5 (ix2 j f)) (fun f j => x6 (ix2 f j))
    (fun j f => ldcols_at x4 0 _ j f _ (by show f.val = 0 + f.val; omega)) (fun j f => ldcols_at x4 1408 _ j f _ rfl)
    (fun j f => ldcols_at x5 0 _ j f _ (by show f.val = 0 + f.val; omega)) (fun j f => ldcols_at x5 1408 _ j f _ rfl)
    (fun f j => ldrows_at x6 0 _ f j _ (by show f.val = 0 + f.val; omega)) (fun f j => ldrows_at x6 1408 _ f j _ rfl) r c).trans ?_
  exact congrArg (fun z => accK z (fun j => x3 (ix2 0 j)) (fun j f => x4 (ix2 j f)) (fun j f => x5 (ix2 j f)) (fun f j => x6 (ix2 f j)) c) (funext fun k => resid_at x0 x1 x2 r k)

/-- An entry of the keys' or the values' projection. -/
theorem projKv_at (a : FVec Ideal S512x1024 .f32) (g : Vec Ideal S1x1024 .f32) (w : Vec Ideal S1024x256 .bf16) (r : Fin 512) (c : Fin 256) :
    projKv a g w (ix2 r c) = (∑ j, rmsRow (fun j => a (ix2 r j)) (fun j => g (ix2 0 j)) j * w (ix2 j c) : EReal) := by
  have e : ∀ x : FVec Ideal S512x1024 .f32, matmul (φ₁ := .bf16) (φ₂ := .bf16) dot_S512x1024_S1024x256_S512x256_1_0_0_1_n_n none (truncf .bf16 x bitsLt_bf16_f32) (shapeCast S1024x256 w shapeCasts_S1024x256_S1024x256) (constant S512x256 .f32 0x00000000#32) (ix2 r c)
      = (∑ j, x (ix2 r j) * w (ix2 j c) : EReal) := fun x => by
    pointwise [dot_S512x1024_S1024x256_S512x256_1_0_0_1_n_n]
  unfold projKv
  rw [e]
  exact Finset.sum_congr rfl fun j _ => congrArg (fun z : EReal => z * w (ix2 j c)) (normed_at a g r j)

/-- An entry of the queries' projection. -/
theorem projQ_at (a : FVec Ideal S512x1024 .f32) (g : Vec Ideal S1x1024 .f32) (w : Vec Ideal S1024x1024 .bf16) (r : Fin 512) (c : Fin 1024) :
    projQ a g w (ix2 r c) = (∑ j, rmsRow (fun j => a (ix2 r j)) (fun j => g (ix2 0 j)) j * w (ix2 j c) : EReal) := by
  have e : ∀ x : FVec Ideal S512x1024 .f32, matmul (φ₁ := .bf16) (φ₂ := .bf16) dot_S512x1024_S1024x1024_S512x1024_1_0_0_1_n_n none (truncf .bf16 x bitsLt_bf16_f32) (shapeCast S1024x1024 w shapeCasts_S1024x1024_S1024x1024) (constant S512x1024 .f32 0x00000000#32) (ix2 r c)
      = (∑ j, x (ix2 r j) * w (ix2 j c) : EReal) := fun x => by
    pointwise [dot_S512x1024_S1024x1024_S512x1024_1_0_0_1_n_n]
  unfold projQ
  rw [e]
  exact Finset.sum_congr rfl fun j _ => congrArg (fun z : EReal => z * w (ix2 j c)) (normed_at a g r j)

/-- A lane of two heads after the rotary embedding, over its three tables. -/
theorem ropeT_at (x : FVec Ideal S512x128 .f32) (cs lo hi : Vec Ideal S512x128 .f32) (r : Fin 512) (l : Fin 128) :
    ropeT x cs lo hi (ix2 r l) = (x (ix2 r l) * cs (ix2 r l) + x (ix2 r ⟨(l.val + 8) % 128, Nat.mod_lt _ (by decide)⟩) * lo (ix2 r l)
      + x (ix2 r ⟨(l.val + 120) % 128, Nat.mod_lt _ (by decide)⟩) * hi (ix2 r l) : EReal) := by
  have e1 : l.val + 128 - 120 = l.val + 8 := by omega
  have e2 : l.val + 128 - 8 = l.val + 120 := by omega
  pointwise [ropeT]
  simp only [e1, e2]

end Cert.Kernel2Ideal.Hand

end
-- ==== Proof.MTile.lean ====
module

public import proofs.«01_k».proof.Proof.MRead

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Cert.KernelIdeal.Hand (rmsRow gateK accK)

/-! ## The keys and the queries a step writes, at one entry -/

/-- The factor of the queries, by its name. -/
def qScale : EReal := (Named.named κ "q_scale" 0x3E38AA3B#32 : Ideal .f32)

/-- The scale's value. -/
theorem qScale_eq : qScale = (((8 * (Real.log 2))⁻¹ : ℝ) : EReal) := IdealRules.named_const.ideal_named_scalar _ _ _ _ rfl

/-- Lanes 0 to 127 of 256. -/
theorem cut256_0 (y : FVec Ideal S512x256 .f32) (r : Fin 512) (l : Fin 128) (C : Fin 256) (hC : C.val = 0 + l.val) :
    extractStridedSlice S512x128 ![0, 0] y slices_S512x256_o0_0_S512x128 (ix2 r l) = y (ix2 r C) := by
  obtain ⟨C, hlt⟩ := C
  dsimp only at hC
  subst hC
  pointwise []

/-- Lanes 128 to 255 of 256. -/
theorem cut256_1 (y : FVec Ideal S512x256 .f32) (r : Fin 512) (l : Fin 128) (C : Fin 256) (hC : C.val = 128 + l.val) :
    extractStridedSlice S512x128 ![0, 128] y slices_S512x256_o0_128_S512x128 (ix2 r l) = y (ix2 r C) := by
  obtain ⟨C, hlt⟩ := C
  dsimp only at hC
  subst hC
  pointwise []

/-- Lanes 0 to 127 of 1024. -/
theorem cut1024_0 (y : FVec Ideal S512x1024 .f32) (r : Fin 512) (l : Fin 128) (C : Fin 1024) (hC : C.val = 0 + l.val) :
    extractStridedSlice S512x128 ![0, 0] y slices_S512x1024_o0_0_S512x128 (ix2 r l) = y (ix2 r C) := by
  obtain ⟨C, hlt⟩ := C
  dsimp only at hC
  subst hC
  pointwise []

/-- Lanes 128 to 255 of 1024. -/
theorem cut1024_1 (y : FVec Ideal S512x1024 .f32) (r : Fin 512) (l : Fin 128) (C : Fin 1024) (hC : C.val = 128 + l.val) :
    extractStridedSlice S512x128 ![0, 128] y slices_S512x1024_o0_128_S512x128 (ix2 r l) = y (ix2 r C) := by
  obtain ⟨C, hlt⟩ := C
  dsimp only at hC
  subst hC
  pointwise []

/-- Lanes 256 to 383 of 1024. -/
theorem cut1024_2 (y : FVec Ideal S512x1024 .f32) (r : Fin 512) (l : Fin 128) (C : Fin 1024) (hC : C.val = 256 + l.val) :
    extractStridedSlice S512x128 ![0, 256] y slices_S512x1024_o0_256_S512x128 (ix2 r l) = y (ix2 r C) := by
  obtain ⟨C, hlt⟩ := C
  dsimp only at hC
  subst hC
  pointwise []

/-- Lanes 384 to 511 of 1024. -/
theorem cut1024_3 (y : FVec Ideal S512x1024 .f32) (r : Fin 512) (l : Fin 128) (C : Fin 1024) (hC : C.val = 384 + l.val) :
    extractStridedSlice S512x128 ![0, 384] y slices_S512x1024_o0_384_S512x128 (ix2 r l) = y (ix2 r C) := by
  obtain ⟨C, hlt⟩ := C
  dsimp only at hC
  subst hC
  pointwise []

/-- Lanes 512 to 639 of 1024. -/
theorem cut1024_4 (y : FVec Ideal S512x1024 .f32) (r : Fin 512) (l : Fin 128) (C : Fin 1024) (hC : C.val = 512 + l.val) :
    extractStridedSlice S512x128 ![0, 512] y slices_S512x1024_o0_512_S512x128 (ix2 r l) = y (ix2 r C) := by
  obtain ⟨C, hlt⟩ := C
  dsimp only at hC
  subst hC
  pointwise []

/-- Lanes 640 to 767 of 1024. -/
theorem cut1024_5 (y : FVec Ideal S512x1024 .f32) (r : Fin 512) (l : Fin 128) (C : Fin 1024) (hC : C.val = 640 + l.val) :
    extractStridedSlice S512x128 ![0, 640] y slices_S512x1024_o0_640_S512x128 (ix2 r l) = y (ix2 r C) := by
  obtain ⟨C, hlt⟩ := C
  dsimp only at hC
  subst hC
  pointwise []

/-- Lanes 768 to 895 of 1024. -/
theorem cut1024_6 (y : FVec Ideal S512x1024 .f32) (r : Fin 512) (l : Fin 128) (C : Fin 1024) (hC : C.val = 768 + l.val) :
    extractStridedSlice S512x128 ![0, 768] y slices_S512x1024_o0_768_S512x128 (ix2 r l) = y (ix2 r C) := by
  obtain ⟨C, hlt⟩ := C
  dsimp only at hC
  subst hC
  pointwise []

/-- Lanes 896 to 1023 of 1024. -/
theorem cut1024_7 (y : FVec Ideal S512x1024 .f32) (r : Fin 512) (l : Fin 128) (C : Fin 1024) (hC : C.val = 896 + l.val) :
    extractStridedSlice S512x128 ![0, 896] y slices_S512x1024_o0_896_S512x128 (ix2 r l) = y (ix2 r C) := by
  obtain ⟨C, hlt⟩ := C
  dsimp only at hC
  subst hC
  pointwise []

/-- A tile of two heads, turned by tables of the cosines and the sines, is each head's rotary embedding. -/
theorem turn_at {n : ℕ} (y : Fin n → EReal) (x : FVec Ideal S512x128 .f32) (cs lo hi : Vec Ideal S512x128 .f32) (cos sin : Fin 8 → EReal) (r : Fin 512) (l : Fin 128) (o : ℕ) (ho : o % 64 = 0) (hn : n % 64 = 0)
    (hx : ∀ l' : Fin 128, ∀ C : Fin n, C.val = o + l'.val → x (ix2 r l') = y C)
    (hC : ∀ l', cs (ix2 r l') = tabC cos l') (hS : ∀ l', lo (ix2 r l') = tabS sin l') (hT : ∀ l', hi (ix2 r l') = tabT sin l') (C : Fin n) (h : C.val = o + l.val) :
    ropeT x cs lo hi (ix2 r l) = turned hn cos sin y C := by
  unfold turned
  rw [ropeT_at, hC, hS, hT]
  refine (rope_lane cos sin (fun l' => x (ix2 r l')) l).trans ?_
  have e1 : (fun e : Fin 64 => x (ix2 r ⟨l.val / 64 * 64 + e.val, by omega⟩)) = fun e : Fin 64 => y ⟨C.val / 64 * 64 + e.val, by omega⟩ :=
    funext fun e => hx _ _ (by dsimp only; omega)
  have e2 : (⟨l.val % 64, by omega⟩ : Fin 64) = ⟨C.val % 64, by omega⟩ := Fin.ext (by dsimp only; omega)
  exact (congrArg (fun z => ropeK cos sin z ⟨l.val % 64, by omega⟩) e1).trans (congrArg (ropeK cos sin _) e2)

/-- A tile of queries is the turned tile times the scale. -/
theorem tileQ_at (x : FVec Ideal S512x128 .f32) (cs lo hi : Vec Ideal S512x128 .f32) (r : Fin 512) (l : Fin 128) :
    tileQ x cs lo hi (ix2 r l) = (ropeT x cs lo hi (ix2 r l) * qScale : EReal) := by
  unfold tileQ
  generalize ropeT x cs lo hi = z
  rfl

/-- An entry of the keys' tiles. -/
theorem kTiles_at (y : FVec Ideal S512x256 .f32) (cs lo hi : Vec Ideal S512x128 .f32) (cos sin : Fin 512 → Fin 8 → EReal)
    (hC : ∀ r l, cs (ix2 r l) = tabC (cos r) l) (hS : ∀ r l, lo (ix2 r l) = tabS (sin r) l) (hT : ∀ r l, hi (ix2 r l) = tabT (sin r) l) (r : Fin 512) (c : Fin 256) :
    View.canon (kTiles y cs lo hi) (ix2 r c) = turned (n := 256) (by decide) (cos r) (sin r) (fun j => y (ix2 r j)) c := by
  refine View.canon_apply_of_pieces (Val := Elt Ideal) (fun z : S512x256.Idx => (turned (n := 256) (by decide) (cos (z 0)) (sin (z 0)) (fun j => y (ix2 (z 0) j)) (z 1) : Elt Ideal .f32)) _ ?_ (ix2 r c) (cover0_17 _ _ _)
  refine List.forall_mem_cons.2 ⟨fun x => ?_, ?_⟩
  · obtain ⟨R, l, rfl⟩ : ∃ (R : Fin 512) (l : Fin 128), x = ix2 R l := ⟨x 0, x 1, ValueIdx.eq_ix2 x⟩
    have e0 : r0_11.emb (ix2 R l) 0 = R := Fin.ext (by show 0 + 1 * R.val = R.val; omega)
    have e1 : r0_11.emb (ix2 R l) 1 = (⟨128 + l.val, by omega⟩ : Fin 256) := Fin.ext (by show 128 + 1 * l.val = 128 + l.val; omega)
    dsimp only
    rw [e0, e1]
    exact turn_at (fun C => y (ix2 R C)) _ cs lo hi (cos R) (sin R) R l 128 (by decide) (by decide) (fun l' C h => cut256_1 y R l' C h) (hC R) (hS R) (hT R) _ rfl
  refine List.forall_mem_cons.2 ⟨fun x => ?_, ?_⟩
  · obtain ⟨R, l, rfl⟩ : ∃ (R : Fin 512) (l : Fin 128), x = ix2 R l := ⟨x 0, x 1, ValueIdx.eq_ix2 x⟩
    have e0 : r0_10.emb (ix2 R l) 0 = R := Fin.ext (by show 0 + 1 * R.val = R.val; omega)
    have e1 : r0_10.emb (ix2 R l) 1 = (⟨0 + l.val, by omega⟩ : Fin 256) := Fin.ext (by show 0 + 1 * l.val = 0 + l.val; omega)
    dsimp only
    rw [e0, e1]
    exact turn_at (fun C => y (ix2 R C)) _ cs lo hi (cos R) (sin R) R l 0 (by decide) (by decide) (fun l' C h => cut256_0 y R l' C h) (hC R) (hS R) (hT R) _ rfl
  exact fun p hp => absurd hp List.not_mem_nil

/-- An entry of the queries' tiles. -/
theorem qTiles_at (y : FVec Ideal S512x1024 .f32) (cs lo hi : Vec Ideal S512x128 .f32) (cos sin : Fin 512 → Fin 8 → EReal)
    (hC : ∀ r l, cs (ix2 r l) = tabC (cos r) l) (hS : ∀ r l, lo (ix2 r l) = tabS (sin r) l) (hT : ∀ r l, hi (ix2 r l) = tabT (sin r) l) (r : Fin 512) (c : Fin 1024) :
    View.canon (qTiles y cs lo hi) (ix2 r c) = (turned (n := 1024) (by decide) (cos r) (sin r) (fun j => y (ix2 r j)) c * qScale : EReal) := by
  refine View.canon_apply_of_pieces (Val := Elt Ideal) (fun z : S512x1024.Idx => (turned (n := 1024) (by decide) (cos (z 0)) (sin (z 0)) (fun j => y (ix2 (z 0) j)) (z 1) * qScale : Elt Ideal .bf16)) _ ?_ (ix2 r c) (cover0_16 _ _ _ _ _ _ _ _ _)
  refine List.forall_mem_cons.2 ⟨fun x => ?_, ?_⟩
  · obtain ⟨R, l, rfl⟩ : ∃ (R : Fin 512) (l : Fin 128), x = ix2 R l := ⟨x 0, x 1, ValueIdx.eq_ix2 x⟩
    have e0 : r0_21.emb (ix2 R l) 0 = R := Fin.ext (by show 0 + 1 * R.val = R.val; omega)
    have e1 : r0_21.emb (ix2 R l) 1 = (⟨896 + l.val, by omega⟩ : Fin 1024) := Fin.ext (by show 896 + 1 * l.val = 896 + l.val; omega)
    dsimp only
    rw [e0, e1]
    exact (tileQ_at _ cs lo hi R l).trans (congrArg (fun z : EReal => z * qScale) (turn_at (fun C => y (ix2 R C)) _ cs lo hi (cos R) (sin R) R l 896 (by decide) (by decide) (fun l' C h => cut1024_7 y R l' C h) (hC R) (hS R) (hT R) _ rfl))
  refine List.forall_mem_cons.2 ⟨fun x => ?_, ?_⟩
  · obtain ⟨R, l, rfl⟩ : ∃ (R : Fin 512) (l : Fin 128), x = ix2 R l := ⟨x 0, x 1, ValueIdx.eq_ix2 x⟩
    have e0 : r0_20.emb (ix2 R l) 0 = R := Fin.ext (by show 0 + 1 * R.val = R.val; omega)
    have e1 : r0_20.emb (ix2 R l) 1 = (⟨768 + l.val, by omega⟩ : Fin 1024) := Fin.ext (by show 768 + 1 * l.val = 768 + l.val; omega)
    dsimp only
    rw [e0, e1]
    exact (tileQ_at _ cs lo hi R l).trans (congrArg (fun z : EReal => z * qScale) (turn_at (fun C => y (ix2 R C)) _ cs lo hi (cos R) (sin R) R l 768 (by decide) (by decide) (fun l' C h => cut1024_6 y R l' C h) (hC R) (hS R) (hT R) _ rfl))
  refine List.forall_mem_cons.2 ⟨fun x => ?_, ?_⟩
  · obtain ⟨R, l, rfl⟩ : ∃ (R : Fin 512) (l : Fin 128), x = ix2 R l := ⟨x 0, x 1, ValueIdx.eq_ix2 x⟩
    have e0 : r0_19.emb (ix2 R l) 0 = R := Fin.ext (by show 0 + 1 * R.val = R.val; omega)
    have e1 : r0_19.emb (ix2 R l) 1 = (⟨640 + l.val, by omega⟩ : Fin 1024) := Fin.ext (by show 640 + 1 * l.val = 640 + l.val; omega)
    dsimp only
    rw [e0, e1]
    exact (tileQ_at _ cs lo hi R l).trans (congrArg (fun z : EReal => z * qScale) (turn_at (fun C => y (ix2 R C)) _ cs lo hi (cos R) (sin R) R l 640 (by decide) (by decide) (fun l' C h => cut1024_5 y R l' C h) (hC R) (hS R) (hT R) _ rfl))
  refine List.forall_mem_cons.2 ⟨fun x => ?_, ?_⟩
  · obtain ⟨R, l, rfl⟩ : ∃ (R : Fin 512) (l : Fin 128), x = ix2 R l := ⟨x 0, x 1, ValueIdx.eq_ix2 x⟩
    have e0 : r0_18.emb (ix2 R l) 0 = R := Fin.ext (by show 0 + 1 * R.val = R.val; omega)
    have e1 : r0_18.emb (ix2 R l) 1 = (⟨512 + l.val, by omega⟩ : Fin 1024) := Fin.ext (by show 512 + 1 * l.val = 512 + l.val; omega)
    dsimp only
    rw [e0, e1]
    exact (tileQ_at _ cs lo hi R l).trans (congrArg (fun z : EReal => z * qScale) (turn_at (fun C => y (ix2 R C)) _ cs lo hi (cos R) (sin R) R l 512 (by decide) (by decide) (fun l' C h => cut1024_4 y R l' C h) (hC R) (hS R) (hT R) _ rfl))
  refine List.forall_mem_cons.2 ⟨fun x => ?_, ?_⟩
  · obtain ⟨R, l, rfl⟩ : ∃ (R : Fin 512) (l : Fin 128), x = ix2 R l := ⟨x 0, x 1, ValueIdx.eq_ix2 x⟩
    have e0 : r0_17.emb (ix2 R l) 0 = R := Fin.ext (by show 0 + 1 * R.val = R.val; omega)
    have e1 : r0_17.emb (ix2 R l) 1 = (⟨384 + l.val, by omega⟩ : Fin 1024) := Fin.ext (by show 384 + 1 * l.val = 384 + l.val; omega)
    dsimp only
    rw [e0, e1]
    exact (tileQ_at _ cs lo hi R l).trans (congrArg (fun z : EReal => z * qScale) (turn_at (fun C => y (ix2 R C)) _ cs lo hi (cos R) (sin R) R l 384 (by decide) (by decide) (fun l' C h => cut1024_3 y R l' C h) (hC R) (hS R) (hT R) _ rfl))
  refine List.forall_mem_cons.2 ⟨fun x => ?_, ?_⟩
  · obtain ⟨R, l, rfl⟩ : ∃ (R : Fin 512) (l : Fin 128), x = ix2 R l := ⟨x 0, x 1, ValueIdx.eq_ix2 x⟩
    have e0 : r0_16.emb (ix2 R l) 0 = R := Fin.ext (by show 0 + 1 * R.val = R.val; omega)
    have e1 : r0_16.emb (ix2 R l) 1 = (⟨256 + l.val, by omega⟩ : Fin 1024) := Fin.ext (by show 256 + 1 * l.val = 256 + l.val; omega)
    dsimp only
    rw [e0, e1]
    exact (tileQ_at _ cs lo hi R l).trans (congrArg (fun z : EReal => z * qScale) (turn_at (fun C => y (ix2 R C)) _ cs lo hi (cos R) (sin R) R l 256 (by decide) (by decide) (fun l' C h => cut1024_2 y R l' C h) (hC R) (hS R) (hT R) _ rfl))
  refine List.forall_mem_cons.2 ⟨fun x => ?_, ?_⟩
  · obtain ⟨R, l, rfl⟩ : ∃ (R : Fin 512) (l : Fin 128), x = ix2 R l := ⟨x 0, x 1, ValueIdx.eq_ix2 x⟩
    have e0 : r0_15.emb (ix2 R l) 0 = R := Fin.ext (by show 0 + 1 * R.val = R.val; omega)
    have e1 : r0_15.emb (ix2 R l) 1 = (⟨128 + l.val, by omega⟩ : Fin 1024) := Fin.ext (by show 128 + 1 * l.val = 128 + l.val; omega)
    dsimp only
    rw [e0, e1]
    exact (tileQ_at _ cs lo hi R l).trans (congrArg (fun z : EReal => z * qScale) (turn_at (fun C => y (ix2 R C)) _ cs lo hi (cos R) (sin R) R l 128 (by decide) (by decide) (fun l' C h => cut1024_1 y R l' C h) (hC R) (hS R) (hT R) _ rfl))
  refine List.forall_mem_cons.2 ⟨fun x => ?_, ?_⟩
  · obtain ⟨R, l, rfl⟩ : ∃ (R : Fin 512) (l : Fin 128), x = ix2 R l := ⟨x 0, x 1, ValueIdx.eq_ix2 x⟩
    have e0 : r0_14.emb (ix2 R l) 0 = R := Fin.ext (by show 0 + 1 * R.val = R.val; omega)
    have e1 : r0_14.emb (ix2 R l) 1 = (⟨0 + l.val, by omega⟩ : Fin 1024) := Fin.ext (by show 0 + 1 * l.val = 0 + l.val; omega)
    dsimp only
    rw [e0, e1]
    exact (tileQ_at _ cs lo hi R l).trans (congrArg (fun z : EReal => z * qScale) (turn_at (fun C => y (ix2 R C)) _ cs lo hi (cos R) (sin R) R l 0 (by decide) (by decide) (fun l' C h => cut1024_0 y R l' C h) (hC R) (hS R) (hT R) _ rfl))
  exact fun p hp => absurd hp List.not_mem_nil

/-- A step's row of the residual stream, over its blocks. -/
def hRow (x0 : Vec Ideal S512x1024 .f32) (x1 : Vec Ideal S512x2048 .bf16) (x2 : Vec Ideal S2048x1024 .bf16) (x3 : Vec Ideal S1x1024 .f32) (x4 : Vec Ideal S1024x2816 .bf16) (x5 : Vec Ideal S1024x2816 .bf16) (x6 : Vec Ideal S2816x1024 .bf16) (r : Fin 512) (c : Fin 1024) : EReal :=
  accK (fun j => (x0 (ix2 r j) + ∑ i, x1 (ix2 r i) * x2 (ix2 i j) : EReal)) (fun j => x3 (ix2 0 j)) (fun j f => x4 (ix2 j f)) (fun j f => x5 (ix2 j f)) (fun f j => x6 (ix2 f j)) c

/-- What a step writes of the residual stream, at one entry. -/
theorem out15_at (x0 : Vec Ideal S512x1024 .f32) (x1 : Vec Ideal S512x2048 .bf16) (x2 : Vec Ideal S2048x1024 .bf16) (x3 : Vec Ideal S1x1024 .f32) (x4 : Vec Ideal S1024x2816 .bf16) (x5 : Vec Ideal S1024x2816 .bf16) (x6 : Vec Ideal S2816x1024 .bf16) (x7 : Vec Ideal S1x1024 .f32) (x8 : Vec Ideal S1x1024 .f32) (x9 : Vec Ideal S1024x256 .bf16) (x10 : Vec Ideal S1024x256 .bf16) (x11 : Vec Ideal S1024x1024 .bf16) (x12 : Vec Ideal S512x128 .f32) (x13 : Vec Ideal S512x128 .f32) (x14 : Vec Ideal S512x128 .f32) (r : Fin 512) (c : Fin 1024) :
    out0_15 x0 x1 x2 x3 x4 x5 x6 x7 x8 x9 x10 x11 x12 x13 x14 (ix2 r c) = hRow x0 x1 x2 x3 x4 x5 x6 r c := by
  rw [out15_eq]
  exact accB_at x0 x1 x2 x3 x4 x5 x6 r c

/-- What a step writes of the values, at one entry. -/
theorem out18_at (x0 : Vec Ideal S512x1024 .f32) (x1 : Vec Ideal S512x2048 .bf16) (x2 : Vec Ideal S2048x1024 .bf16) (x3 : Vec Ideal S1x1024 .f32) (x4 : Vec Ideal S1024x2816 .bf16) (x5 : Vec Ideal S1024x2816 .bf16) (x6 : Vec Ideal S2816x1024 .bf16) (x7 : Vec Ideal S1x1024 .f32) (x8 : Vec Ideal S1x1024 .f32) (x9 : Vec Ideal S1024x256 .bf16) (x10 : Vec Ideal S1024x256 .bf16) (x11 : Vec Ideal S1024x1024 .bf16) (x12 : Vec Ideal S512x128 .f32) (x13 : Vec Ideal S512x128 .f32) (x14 : Vec Ideal S512x128 .f32) (r : Fin 512) (c : Fin 256) :
    out0_18 x0 x1 x2 x3 x4 x5 x6 x7 x8 x9 x10 x11 x12 x13 x14 (ix2 r c) = (∑ j, rmsRow (hRow x0 x1 x2 x3 x4 x5 x6 r) (fun j => x7 (ix2 0 j)) j * x10 (ix2 j c) : EReal) := by
  rw [out18_eq, View.ld_unit_zero (S := S1x1024) zero2, View.ld_unit_zero (S := S1024x256) zero2, projKv_at, funext fun j => accB_at x0 x1 x2 x3 x4 x5 x6 r j]
  rfl

/-- What a step writes of the keys, at one entry. -/
theorem out17_at (x0 : Vec Ideal S512x1024 .f32) (x1 : Vec Ideal S512x2048 .bf16) (x2 : Vec Ideal S2048x1024 .bf16) (x3 : Vec Ideal S1x1024 .f32) (x4 : Vec Ideal S1024x2816 .bf16) (x5 : Vec Ideal S1024x2816 .bf16) (x6 : Vec Ideal S2816x1024 .bf16) (x7 : Vec Ideal S1x1024 .f32) (x8 : Vec Ideal S1x1024 .f32) (x9 : Vec Ideal S1024x256 .bf16) (x10 : Vec Ideal S1024x256 .bf16) (x11 : Vec Ideal S1024x1024 .bf16) (x12 : Vec Ideal S512x128 .f32) (x13 : Vec Ideal S512x128 .f32) (x14 : Vec Ideal S512x128 .f32) (cos sin : Fin 512 → Fin 8 → EReal)
    (hC : ∀ r l, x12 (ix2 r l) = tabC (cos r) l) (hS : ∀ r l, x13 (ix2 r l) = tabS (sin r) l) (hT : ∀ r l, x14 (ix2 r l) = tabT (sin r) l) (r : Fin 512) (c : Fin 256) :
    out0_17 x0 x1 x2 x3 x4 x5 x6 x7 x8 x9 x10 x11 x12 x13 x14 (ix2 r c) = turned (n := 256) (by decide) (cos r) (sin r) (fun d => (∑ j, rmsRow (hRow x0 x1 x2 x3 x4 x5 x6 r) (fun j => x7 (ix2 0 j)) j * x9 (ix2 j d) : EReal)) c := by
  rw [out17_eq, View.ld_unit_zero (S := S1x1024) zero2, View.ld_unit_zero (S := S1024x256) zero2]
  simp only [View.ld_unit_zero (S := S512x128) zero2]
  refine (kTiles_at _ x12 x13 x14 cos sin hC hS hT r c).trans ?_
  refine congrArg (fun z => turned (n := 256) (by decide) (cos r) (sin r) z c) (funext fun e => ?_)
  rw [projKv_at, funext fun j => accB_at x0 x1 x2 x3 x4 x5 x6 r j]
  rfl

/-- What a step writes of the queries, at one entry. -/
theorem out16_at (x0 : Vec Ideal S512x1024 .f32) (x1 : Vec Ideal S512x2048 .bf16) (x2 : Vec Ideal S2048x1024 .bf16) (x3 : Vec Ideal S1x1024 .f32) (x4 : Vec Ideal S1024x2816 .bf16) (x5 : Vec Ideal S1024x2816 .bf16) (x6 : Vec Ideal S2816x1024 .bf16) (x7 : Vec Ideal S1x1024 .f32) (x8 : Vec Ideal S1x1024 .f32) (x9 : Vec Ideal S1024x256 .bf16) (x10 : Vec Ideal S1024x256 .bf16) (x11 : Vec Ideal S1024x1024 .bf16) (x12 : Vec Ideal S512x128 .f32) (x13 : Vec Ideal S512x128 .f32) (x14 : Vec Ideal S512x128 .f32) (cos sin : Fin 512 → Fin 8 → EReal)
    (hC : ∀ r l, x12 (ix2 r l) = tabC (cos r) l) (hS : ∀ r l, x13 (ix2 r l) = tabS (sin r) l) (hT : ∀ r l, x14 (ix2 r l) = tabT (sin r) l) (r : Fin 512) (c : Fin 1024) :
    out0_16 x0 x1 x2 x3 x4 x5 x6 x7 x8 x9 x10 x11 x12 x13 x14 (ix2 r c) = (turned (n := 1024) (by decide) (cos r) (sin r) (fun d => (∑ j, rmsRow (hRow x0 x1 x2 x3 x4 x5 x6 r) (fun j => x8 (ix2 0 j)) j * x11 (ix2 j d) : EReal)) c * qScale : EReal) := by
  rw [out16_eq, View.ld_unit_zero (S := S1x1024) zero2, View.ld_unit_zero (S := S1024x1024) zero2]
  simp only [View.ld_unit_zero (S := S512x128) zero2]
  refine (qTiles_at _ x12 x13 x14 cos sin hC hS hT r c).trans ?_
  refine congrArg (fun z => turned (n := 1024) (by decide) (cos r) (sin r) z c * qScale) (funext fun e => ?_)
  rw [projQ_at, funext fun j => accB_at x0 x1 x2 x3 x4 x5 x6 r j]
  rfl

end Cert.Kernel2Ideal.Hand

end
-- ==== Proof.MTabs.lean ====
module

public import proofs.«01_k».proof.Proof.MTile
public import proofs.«01_k».proof.Proof.Gen.Kernel2Ideal.Value
public import proofs.«01_k».proof.Proof.Gen.Reference2Ideal.Read
public import Idealize.ShloMosaic.Lib.Claim

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Cert.KernelIdeal.Hand (rmsRow gateK accK)

/-! ## The tables of the rotary embedding -/

variable (m : (ℓ : Loc nD τ sig) → Buf (Elt Ideal) ℓ)

/-- The cosines of the angles at each position. -/
abbrev cosTab : FVec Ideal S2048x8 .f32 := Cert.Reference2Ideal.Read.val_main_v67 (F := Ideal)

/-- The sines of the angles at each position. -/
abbrev sinTab : FVec Ideal S2048x8 .f32 := Cert.Reference2Ideal.Read.val_main_v69 (F := Ideal)

/-- The kernel's cosines are the reference's. -/
theorem V_cos (c : Dev nD) : V m c main_v42 = cosTab := by
  unfold_abbrev_sides
  after_results
  rfl

/-- The kernel's sines are the reference's. -/
theorem V_sin (c : Dev nD) : V m c main_v43 = sinTab := by
  unfold_abbrev_sides
  after_results
  rfl

/-- A table over the lanes of two heads, from the cosines. -/
def tabCos (y : FVec Ideal S2048x8 .f32) : FVec Ideal S2048x128 .f32 :=
  shapeCast S2048x128 (broadcastInDim S1x2048x2x64 ![0, 1, 2, 3] bcast_S1x2048x1x64_S1x2048x2x64_0_1_2_3 (shapeCast S1x2048x1x64 (concatenate S2048x64 1 [⟨S2048x8, y⟩, ⟨S2048x8, y⟩, ⟨S2048x48, (broadcastInDim S2048x48 ![] bcast_S_S2048x48 (constant (F := Ideal) S_ .f32 0x3F800000#32))⟩] concatenates_S2048x8_S2048x8_S2048x48_S2048x64_d1) shapeCasts_S2048x64_S1x2048x1x64)) shapeCasts_S1x2048x2x64_S2048x128

/-- The table at a position and a lane. -/
theorem tabCos_at (y : FVec Ideal S2048x8 .f32) (p : Fin 2048) (l : Fin 128) : tabCos y (ix2 p l) = tabC (fun d => y (ix2 p d)) l := by
  unfold tabC
  pointwise [tabCos]
  by_cases h : l.val % 64 < 8
  · rw [dif_pos h, dif_pos h]
  · rw [dif_neg h, dif_neg h]
    by_cases h2 : l.val % 64 < 16
    · rw [dif_pos h2, dif_pos (show l.val % 64 - 8 < 8 by omega)]
    · rw [dif_neg h2, dif_neg (show ¬l.val % 64 - 8 < 8 by omega)]

/-- The table that the kernel is given. -/
theorem V_tabC (c : Dev nD) : V m c main_v54 = tabCos cosTab := by
  rw [← V_cos m c]
  unfold_abbrev_sides
  after_results
  rfl

/-- A table over the lanes of two heads, from the sinines. -/
def tabLo (y : FVec Ideal S2048x8 .f32) : FVec Ideal S2048x128 .f32 :=
  shapeCast S2048x128 (broadcastInDim S1x2048x2x64 ![0, 1, 2, 3] bcast_S1x2048x1x64_S1x2048x2x64_0_1_2_3 (shapeCast S1x2048x1x64 (concatenate S2048x64 1 [⟨S2048x8, Host.negf y⟩, ⟨S2048x56, (broadcastInDim S2048x56 ![] bcast_S_S2048x56 (constant (F := Ideal) S_ .f32 0x00000000#32))⟩] concatenates_S2048x8_S2048x56_S2048x64_d1) shapeCasts_S2048x64_S1x2048x1x64)) shapeCasts_S1x2048x2x64_S2048x128

/-- The table at a position and a lane. -/
theorem tabLo_at (y : FVec Ideal S2048x8 .f32) (p : Fin 2048) (l : Fin 128) : tabLo y (ix2 p l) = tabS (fun d => y (ix2 p d)) l := by
  unfold tabS
  pointwise [tabLo]

/-- The table that the kernel is given. -/
theorem V_tabS (c : Dev nD) : V m c main_v57 = tabLo sinTab := by
  rw [← V_sin m c]
  unfold_abbrev_sides
  after_results
  rfl

/-- A table over the lanes of two heads, from the sinines. -/
def tabHi (y : FVec Ideal S2048x8 .f32) : FVec Ideal S2048x128 .f32 :=
  shapeCast S2048x128 (broadcastInDim S1x2048x2x64 ![0, 1, 2, 3] bcast_S1x2048x1x64_S1x2048x2x64_0_1_2_3 (shapeCast S1x2048x1x64 (concatenate S2048x64 1 [⟨S2048x8, (broadcastInDim S2048x8 ![] bcast_S_S2048x8 (constant (F := Ideal) S_ .f32 0x00000000#32))⟩, ⟨S2048x8, y⟩, ⟨S2048x48, extractStridedSlice S2048x48 ![0, 8] (broadcastInDim S2048x56 ![] bcast_S_S2048x56 (constant (F := Ideal) S_ .f32 0x00000000#32)) slices_S2048x56_S2048x48_0_8⟩] concatenates_S2048x8_S2048x8_S2048x48_S2048x64_d1) shapeCasts_S2048x64_S1x2048x1x64)) shapeCasts_S1x2048x2x64_S2048x128

/-- The table at a position and a lane. -/
theorem tabHi_at (y : FVec Ideal S2048x8 .f32) (p : Fin 2048) (l : Fin 128) : tabHi y (ix2 p l) = tabT (fun d => y (ix2 p d)) l := by
  unfold tabT
  pointwise [tabHi]
  by_cases h : l.val % 64 < 8
  · rw [dif_pos h, dif_pos h]
  · rw [dif_neg h, dif_neg h]
    by_cases h2 : l.val % 64 < 16
    · rw [dif_pos h2, dif_pos (show l.val % 64 - 8 < 8 by omega)]
    · rw [dif_neg h2, dif_neg (show ¬l.val % 64 - 8 < 8 by omega)]

/-- The table that the kernel is given. -/
theorem V_tabT (c : Dev nD) : V m c main_v60 = tabHi sinTab := by
  rw [← V_sin m c]
  unfold_abbrev_sides
  after_results
  rfl

end Cert.Kernel2Ideal.Hand

end
-- ==== Proof.MArray.lean ====
module

public import proofs.«01_k».proof.Proof.MTile
public import proofs.«01_k».proof.Proof.Gen.Kernel2Ideal.Value
public import Idealize.ShloMosaic.Lib.Claim

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Cert.KernelIdeal.Hand (rmsRow gateK accK)

/-! ## The arrays the host prepares -/

variable (m : (ℓ : Loc nD τ sig) → Buf (Elt Ideal) ℓ)

/-- The residual stream, as the kernel's rows. -/
theorem V_h (c : Dev nD) (R : Fin 32768) (C : Fin 1024) :
    V m c main_v0 (ix2 R C) = (m ((c : Thread nD τ).loc main_arg0) : FVec Ideal S16x2048x1024 .f32) (ix3 ⟨R.val / 2048, by omega⟩ ⟨R.val % 2048, by omega⟩ C) := by
  have e : V m c main_v0 = shapeCast S32768x1024 (m ((c : Thread nD τ).loc main_arg0)) shapeCasts_S16x2048x1024_S32768x1024 := by
    unfold_abbrev_sides
    after_results
    rfl
  rw [e]
  generalize m ((c : Thread nD τ).loc main_arg0) = x
  exact (show ∀ x : FVec Ideal S16x2048x1024 .f32, shapeCast S32768x1024 x shapeCasts_S16x2048x1024_S32768x1024 (ix2 R C) = x (ix3 ⟨R.val / 2048, by omega⟩ ⟨R.val % 2048, by omega⟩ C) from fun x => by pointwise []) x

/-- The mixer's output, as the kernel's rows. -/
theorem V_mix (c : Dev nD) (R : Fin 32768) (C : Fin 2048) :
    V m c main_v1 (ix2 R C) = (m ((c : Thread nD τ).loc main_arg1) : FVec Ideal S16x2048x2048 .bf16) (ix3 ⟨R.val / 2048, by omega⟩ ⟨R.val % 2048, by omega⟩ C) := by
  have e : V m c main_v1 = shapeCast S32768x2048 (m ((c : Thread nD τ).loc main_arg1)) shapeCasts_S16x2048x2048_S32768x2048 := by
    unfold_abbrev_sides
    after_results
    rfl
  rw [e]
  generalize m ((c : Thread nD τ).loc main_arg1) = x
  exact (show ∀ x : FVec Ideal S16x2048x2048 .bf16, shapeCast S32768x2048 x shapeCasts_S16x2048x2048_S32768x2048 (ix2 R C) = x (ix3 ⟨R.val / 2048, by omega⟩ ⟨R.val % 2048, by omega⟩ C) from fun x => by pointwise []) x

/-- The mixer's output projection. -/
theorem V_wo (c : Dev nD) (R : Fin 2048) (C : Fin 1024) :
    V m c main_v3 (ix2 R C) = (m ((c : Thread nD τ).loc main_arg2) : FVec Ideal S1x2048x1024 .f32) (ix3 0 R C) := by
  have e : V m c main_v3 = truncf (F := Ideal) .bf16 (shapeCast S2048x1024 (m ((c : Thread nD τ).loc main_arg2)) shapeCasts_S1x2048x1024_S2048x1024) bitsLt_bf16_f32 := by
    unfold_abbrev_sides
    after_results
    rfl
  rw [e]
  generalize m ((c : Thread nD τ).loc main_arg2) = x
  exact (show ∀ x : FVec Ideal S1x2048x1024 .f32, truncf (F := Ideal) .bf16 (shapeCast S2048x1024 x shapeCasts_S1x2048x1024_S2048x1024) bitsLt_bf16_f32 (ix2 R C) = x (ix3 0 R C) from fun x => by pointwise []) x

/-- The first layer's norm gain. -/
theorem V_g (c : Dev nD) (C : Fin 1024) :
    V m c main_v6 (ix2 0 C) = (m ((c : Thread nD τ).loc main_arg8) : FVec Ideal S2x1024 .f32) (ix2 0 C) := by
  have e : V m c main_v6 = broadcastInDim S1x1024 ![1] bcast_S1024_S1x1024_1 (shapeCast S1024 (extractStridedSlice S1x1024 ![0, 0] (m ((c : Thread nD τ).loc main_arg8)) slices_S2x1024_S1x1024_0_0) shapeCasts_S1x1024_S1024) := by
    unfold_abbrev_sides
    after_results
    rfl
  rw [e]
  generalize m ((c : Thread nD τ).loc main_arg8) = x
  exact (show ∀ x : FVec Ideal S2x1024 .f32, broadcastInDim S1x1024 ![1] bcast_S1024_S1x1024_1 (shapeCast S1024 (extractStridedSlice S1x1024 ![0, 0] x slices_S2x1024_S1x1024_0_0) shapeCasts_S1x1024_S1024) (ix2 0 C) = x (ix2 0 C) from fun x => by pointwise []) x

/-- The first layer's gate weights. -/
theorem V_wg (c : Dev nD) (R : Fin 1024) (C : Fin 2816) :
    V m c main_v9 (ix2 R C) = (m ((c : Thread nD τ).loc main_arg9) : FVec Ideal S2x1024x2816 .f32) (ix3 0 R C) := by
  have e : V m c main_v9 = truncf (F := Ideal) .bf16 (shapeCast S1024x2816 (extractStridedSlice S1x1024x2816 ![0, 0, 0] (m ((c : Thread nD τ).loc main_arg9)) slices_S2x1024x2816_S1x1024x2816_0_0_0) shapeCasts_S1x1024x2816_S1024x2816) bitsLt_bf16_f32 := by
    unfold_abbrev_sides
    after_results
    rfl
  rw [e]
  generalize m ((c : Thread nD τ).loc main_arg9) = x
  exact (show ∀ x : FVec Ideal S2x1024x2816 .f32, truncf (F := Ideal) .bf16 (shapeCast S1024x2816 (extractStridedSlice S1x1024x2816 ![0, 0, 0] x slices_S2x1024x2816_S1x1024x2816_0_0_0) shapeCasts_S1x1024x2816_S1024x2816) bitsLt_bf16_f32 (ix2 R C) = x (ix3 0 R C) from fun x => by pointwise []) x

/-- The first layer's up weights. -/
theorem V_wu (c : Dev nD) (R : Fin 1024) (C : Fin 2816) :
    V m c main_v12 (ix2 R C) = (m ((c : Thread nD τ).loc main_arg10) : FVec Ideal S2x1024x2816 .f32) (ix3 0 R C) := by
  have e : V m c main_v12 = truncf (F := Ideal) .bf16 (shapeCast S1024x2816 (extractStridedSlice S1x1024x2816 ![0, 0, 0] (m ((c : Thread nD τ).loc main_arg10)) slices_S2x1024x2816_S1x1024x2816_0_0_0) shapeCasts_S1x1024x2816_S1024x2816) bitsLt_bf16_f32 := by
    unfold_abbrev_sides
    after_results
    rfl
  rw [e]
  generalize m ((c : Thread nD τ).loc main_arg10) = x
  exact (show ∀ x : FVec Ideal S2x1024x2816 .f32, truncf (F := Ideal) .bf16 (shapeCast S1024x2816 (extractStridedSlice S1x1024x2816 ![0, 0, 0] x slices_S2x1024x2816_S1x1024x2816_0_0_0) shapeCasts_S1x1024x2816_S1024x2816) bitsLt_bf16_f32 (ix2 R C) = x (ix3 0 R C) from fun x => by pointwise []) x

/-- The first layer's down weights. -/
theorem V_wd (c : Dev nD) (R : Fin 2816) (C : Fin 1024) :
    V m c main_v15 (ix2 R C) = (m ((c : Thread nD τ).loc main_arg11) : FVec Ideal S2x2816x1024 .f32) (ix3 0 R C) := by
  have e : V m c main_v15 = truncf (F := Ideal) .bf16 (shapeCast S2816x1024 (extractStridedSlice S1x2816x1024 ![0, 0, 0] (m ((c : Thread nD τ).loc main_arg11)) slices_S2x2816x1024_S1x2816x1024_0_0_0) shapeCasts_S1x2816x1024_S2816x1024) bitsLt_bf16_f32 := by
    unfold_abbrev_sides
    after_results
    rfl
  rw [e]
  generalize m ((c : Thread nD τ).loc main_arg11) = x
  exact (show ∀ x : FVec Ideal S2x2816x1024 .f32, truncf (F := Ideal) .bf16 (shapeCast S2816x1024 (extractStridedSlice S1x2816x1024 ![0, 0, 0] x slices_S2x2816x1024_S1x2816x1024_0_0_0) shapeCasts_S1x2816x1024_S2816x1024) bitsLt_bf16_f32 (ix2 R C) = x (ix3 0 R C) from fun x => by pointwise []) x

/-- The keys' and the values' norm gain. -/
theorem V_gkv (c : Dev nD) (C : Fin 1024) :
    V m c main_v16 (ix2 0 C) = (m ((c : Thread nD τ).loc main_arg3) : FVec Ideal S1024 .f32) (ix1 C) := by
  have e : V m c main_v16 = broadcastInDim S1x1024 ![1] bcast_S1024_S1x1024_1 (m ((c : Thread nD τ).loc main_arg3)) := by
    unfold_abbrev_sides
    after_results
  rw [e]
  generalize m ((c : Thread nD τ).loc main_arg3) = x
  exact (show ∀ x : FVec Ideal S1024 .f32, broadcastInDim S1x1024 ![1] bcast_S1024_S1x1024_1 x (ix2 0 C) = x (ix1 C) from fun x => by pointwise []) x

/-- The queries' norm gain. -/
theorem V_gq (c : Dev nD) (C : Fin 1024) :
    V m c main_v18 (ix2 0 C) = (m ((c : Thread nD τ).loc main_arg6) : FVec Ideal S1x1024 .f32) (ix2 0 C) := by
  have e : V m c main_v18 = broadcastInDim S1x1024 ![1] bcast_S1024_S1x1024_1 (shapeCast S1024 (m ((c : Thread nD τ).loc main_arg6)) shapeCasts_S1x1024_S1024) := by
    unfold_abbrev_sides
    after_results
    rfl
  rw [e]
  generalize m ((c : Thread nD τ).loc main_arg6) = x
  exact (show ∀ x : FVec Ideal S1x1024 .f32, broadcastInDim S1x1024 ![1] bcast_S1024_S1x1024_1 (shapeCast S1024 x shapeCasts_S1x1024_S1024) (ix2 0 C) = x (ix2 0 C) from fun x => by pointwise []) x

/-- The keys' weights. -/
theorem V_wk (c : Dev nD) (R : Fin 1024) (C : Fin 256) :
    V m c main_v19 (ix2 R C) = (m ((c : Thread nD τ).loc main_arg4) : FVec Ideal S1024x256 .f32) (ix2 R C) := by
  have e : V m c main_v19 = truncf (F := Ideal) .bf16 (m ((c : Thread nD τ).loc main_arg4)) bitsLt_bf16_f32 := by
    unfold_abbrev_sides
    after_results
  rw [e]
  generalize m ((c : Thread nD τ).loc main_arg4) = x
  exact (show ∀ x : FVec Ideal S1024x256 .f32, truncf (F := Ideal) .bf16 x bitsLt_bf16_f32 (ix2 R C) = x (ix2 R C) from fun x => by pointwise []) x

/-- The values' weights. -/
theorem V_wv (c : Dev nD) (R : Fin 1024) (C : Fin 256) :
    V m c main_v20 (ix2 R C) = (m ((c : Thread nD τ).loc main_arg5) : FVec Ideal S1024x256 .f32) (ix2 R C) := by
  have e : V m c main_v20 = truncf (F := Ideal) .bf16 (m ((c : Thread nD τ).loc main_arg5)) bitsLt_bf16_f32 := by
    unfold_abbrev_sides
    after_results
  rw [e]
  generalize m ((c : Thread nD τ).loc main_arg5) = x
  exact (show ∀ x : FVec Ideal S1024x256 .f32, truncf (F := Ideal) .bf16 x bitsLt_bf16_f32 (ix2 R C) = x (ix2 R C) from fun x => by pointwise []) x

/-- The queries' weights. -/
theorem V_wq (c : Dev nD) (R C : Fin 1024) :
    V m c main_v22 (ix2 R C) = (m ((c : Thread nD τ).loc main_arg7) : FVec Ideal S1x1024x1024 .f32) (ix3 0 R C) := by
  have e : V m c main_v22 = truncf (F := Ideal) .bf16 (shapeCast S1024x1024 (m ((c : Thread nD τ).loc main_arg7)) shapeCasts_S1x1024x1024_S1024x1024) bitsLt_bf16_f32 := by
    unfold_abbrev_sides
    after_results
    rfl
  rw [e]
  generalize m ((c : Thread nD τ).loc main_arg7) = x
  exact (show ∀ x : FVec Ideal S1x1024x1024 .f32, truncf (F := Ideal) .bf16 (shapeCast S1024x1024 x shapeCasts_S1x1024x1024_S1024x1024) bitsLt_bf16_f32 (ix2 R C) = x (ix3 0 R C) from fun x => by pointwise []) x

end Cert.Kernel2Ideal.Hand

end
-- ==== Proof.MBlk.lean ====
module

public import proofs.«01_k».proof.Proof.MTabs
public import proofs.«01_k».proof.Proof.MArray

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Cert.KernelIdeal.Hand (rmsRow gateK accK)

/-! ## The windows' blocks, at one entry -/

variable (m : (ℓ : Loc nD τ sig) → Buf (Elt Ideal) ℓ)

/-- Where block 0 lies at each step. -/
theorem idx0 : ∀ t : Fin cfg0.N, win0_0.index t = ![t.val, 0] := (by decide +kernel : ∀ t : Fin grid0.N, _)
/-- Where block 1 lies at each step. -/
theorem idx1 : ∀ t : Fin cfg0.N, win0_1.index t = ![t.val, 0] := (by decide +kernel : ∀ t : Fin grid0.N, _)
/-- Where block 2 lies at each step. -/
theorem idx2 : ∀ t : Fin cfg0.N, win0_2.index t = ![0, 0] := (by decide +kernel : ∀ t : Fin grid0.N, _)
/-- Where block 3 lies at each step. -/
theorem idx3 : ∀ t : Fin cfg0.N, win0_3.index t = ![0, 0] := (by decide +kernel : ∀ t : Fin grid0.N, _)
/-- Where block 4 lies at each step. -/
theorem idx4 : ∀ t : Fin cfg0.N, win0_4.index t = ![0, 0] := (by decide +kernel : ∀ t : Fin grid0.N, _)
/-- Where block 5 lies at each step. -/
theorem idx5 : ∀ t : Fin cfg0.N, win0_5.index t = ![0, 0] := (by decide +kernel : ∀ t : Fin grid0.N, _)
/-- Where block 6 lies at each step. -/
theorem idx6 : ∀ t : Fin cfg0.N, win0_6.index t = ![0, 0] := (by decide +kernel : ∀ t : Fin grid0.N, _)
/-- Where block 7 lies at each step. -/
theorem idx7 : ∀ t : Fin cfg0.N, win0_7.index t = ![0, 0] := (by decide +kernel : ∀ t : Fin grid0.N, _)
/-- Where block 8 lies at each step. -/
theorem idx8 : ∀ t : Fin cfg0.N, win0_8.index t = ![0, 0] := (by decide +kernel : ∀ t : Fin grid0.N, _)
/-- Where block 9 lies at each step. -/
theorem idx9 : ∀ t : Fin cfg0.N, win0_9.index t = ![0, 0] := (by decide +kernel : ∀ t : Fin grid0.N, _)
/-- Where block 10 lies at each step. -/
theorem idx10 : ∀ t : Fin cfg0.N, win0_10.index t = ![0, 0] := (by decide +kernel : ∀ t : Fin grid0.N, _)
/-- Where block 11 lies at each step. -/
theorem idx11 : ∀ t : Fin cfg0.N, win0_11.index t = ![0, 0] := (by decide +kernel : ∀ t : Fin grid0.N, _)
/-- Where block 12 lies at each step. -/
theorem idx12 : ∀ t : Fin cfg0.N, win0_12.index t = ![t.val % 4, 0] := (by decide +kernel : ∀ t : Fin grid0.N, _)
/-- Where block 13 lies at each step. -/
theorem idx13 : ∀ t : Fin cfg0.N, win0_13.index t = ![t.val % 4, 0] := (by decide +kernel : ∀ t : Fin grid0.N, _)
/-- Where block 14 lies at each step. -/
theorem idx14 : ∀ t : Fin cfg0.N, win0_14.index t = ![t.val % 4, 0] := (by decide +kernel : ∀ t : Fin grid0.N, _)
/-- Where block 15 lies at each step. -/
theorem idx15 : ∀ t : Fin cfg0.N, win0_15.index t = ![t.val, 0] := (by decide +kernel : ∀ t : Fin grid0.N, _)
/-- Where block 16 lies at each step. -/
theorem idx16 : ∀ t : Fin cfg0.N, win0_16.index t = ![t.val, 0] := (by decide +kernel : ∀ t : Fin grid0.N, _)
/-- Where block 17 lies at each step. -/
theorem idx17 : ∀ t : Fin cfg0.N, win0_17.index t = ![t.val, 0] := (by decide +kernel : ∀ t : Fin grid0.N, _)
/-- Where block 18 lies at each step. -/
theorem idx18 : ∀ t : Fin cfg0.N, win0_18.index t = ![t.val, 0] := (by decide +kernel : ∀ t : Fin grid0.N, _)
/-- There are sixty-four steps. -/
theorem pt_lt (t : Fin cfg0.N) : t.val < 64 := (show ∀ t : Fin grid0.N, t.val < 64 by decide +kernel) t

/-- Block 0 at a step, as entries of its array. -/
theorem blk0 (c : Dev nD) (t : Fin cfg0.N) (R : Fin 512) (C : Fin 1024) (R' : Fin 32768) (h : R'.val = 512 * t.val + R.val) : iblk m c 0 t (ix2 R C) = V m c main_v0 (ix2 R' C) := by
  refine congrArg (V m c main_v0) ?_
  blk_ext [idx0]
/-- Block 1 at a step, as entries of its array. -/
theorem blk1 (c : Dev nD) (t : Fin cfg0.N) (R : Fin 512) (C : Fin 2048) (R' : Fin 32768) (h : R'.val = 512 * t.val + R.val) : iblk m c 1 t (ix2 R C) = V m c main_v1 (ix2 R' C) := by
  refine congrArg (V m c main_v1) ?_
  blk_ext [idx1]
/-- Block 2 at a step, as entries of its array. -/
theorem blk2 (c : Dev nD) (t : Fin cfg0.N) (R : Fin 2048) (C : Fin 1024) : iblk m c 2 t (ix2 R C) = V m c main_v3 (ix2 R C) := by
  refine congrArg (V m c main_v3) ?_
  blk_ext [idx2]
/-- Block 3 at a step, as entries of its array. -/
theorem blk3 (c : Dev nD) (t : Fin cfg0.N) (C : Fin 1024) : iblk m c 3 t (ix2 0 C) = V m c main_v6 (ix2 0 C) := by
  refine congrArg (V m c main_v6) ?_
  blk_ext [idx3]
/-- Block 4 at a step, as entries of its array. -/
theorem blk4 (c : Dev nD) (t : Fin cfg0.N) (R : Fin 1024) (C : Fin 2816) : iblk m c 4 t (ix2 R C) = V m c main_v9 (ix2 R C) := by
  refine congrArg (V m c main_v9) ?_
  blk_ext [idx4]
/-- Block 5 at a step, as entries of its array. -/
theorem blk5 (c : Dev nD) (t : Fin cfg0.N) (R : Fin 1024) (C : Fin 2816) : iblk m c 5 t (ix2 R C) = V m c main_v12 (ix2 R C) := by
  refine congrArg (V m c main_v12) ?_
  blk_ext [idx5]
/-- Block 6 at a step, as entries of its array. -/
theorem blk6 (c : Dev nD) (t : Fin cfg0.N) (R : Fin 2816) (C : Fin 1024) : iblk m c 6 t (ix2 R C) = V m c main_v15 (ix2 R C) := by
  refine congrArg (V m c main_v15) ?_
  blk_ext [idx6]
/-- Block 7 at a step, as entries of its array. -/
theorem blk7 (c : Dev nD) (t : Fin cfg0.N) (C : Fin 1024) : iblk m c 7 t (ix2 0 C) = V m c main_v16 (ix2 0 C) := by
  refine congrArg (V m c main_v16) ?_
  blk_ext [idx7]
/-- Block 8 at a step, as entries of its array. -/
theorem blk8 (c : Dev nD) (t : Fin cfg0.N) (C : Fin 1024) : iblk m c 8 t (ix2 0 C) = V m c main_v18 (ix2 0 C) := by
  refine congrArg (V m c main_v18) ?_
  blk_ext [idx8]
/-- Block 9 at a step, as entries of its array. -/
theorem blk9 (c : Dev nD) (t : Fin cfg0.N) (R : Fin 1024) (C : Fin 256) : iblk m c 9 t (ix2 R C) = V m c main_v19 (ix2 R C) := by
  refine congrArg (V m c main_v19) ?_
  blk_ext [idx9]
/-- Block 10 at a step, as entries of its array. -/
theorem blk10 (c : Dev nD) (t : Fin cfg0.N) (R : Fin 1024) (C : Fin 256) : iblk m c 10 t (ix2 R C) = V m c main_v20 (ix2 R C) := by
  refine congrArg (V m c main_v20) ?_
  blk_ext [idx10]
/-- Block 11 at a step, as entries of its array. -/
theorem blk11 (c : Dev nD) (t : Fin cfg0.N) (R : Fin 1024) (C : Fin 1024) : iblk m c 11 t (ix2 R C) = V m c main_v22 (ix2 R C) := by
  refine congrArg (V m c main_v22) ?_
  blk_ext [idx11]
/-- Block 12 at a step, as entries of its array. -/
theorem blk12 (c : Dev nD) (t : Fin cfg0.N) (R : Fin 512) (C : Fin 128) (R' : Fin 2048) (h : R'.val = 512 * (t.val % 4) + R.val) : iblk m c 12 t (ix2 R C) = V m c main_v54 (ix2 R' C) := by
  refine congrArg (V m c main_v54) ?_
  blk_ext [idx12]
/-- Block 13 at a step, as entries of its array. -/
theorem blk13 (c : Dev nD) (t : Fin cfg0.N) (R : Fin 512) (C : Fin 128) (R' : Fin 2048) (h : R'.val = 512 * (t.val % 4) + R.val) : iblk m c 13 t (ix2 R C) = V m c main_v57 (ix2 R' C) := by
  refine congrArg (V m c main_v57) ?_
  blk_ext [idx13]
/-- Block 14 at a step, as entries of its array. -/
theorem blk14 (c : Dev nD) (t : Fin cfg0.N) (R : Fin 512) (C : Fin 128) (R' : Fin 2048) (h : R'.val = 512 * (t.val % 4) + R.val) : iblk m c 14 t (ix2 R C) = V m c main_v60 (ix2 R' C) := by
  refine congrArg (V m c main_v60) ?_
  blk_ext [idx14]

end Cert.Kernel2Ideal.Hand

end
-- ==== Proof.MSpec.lean ====
module

public import proofs.«01_k».proof.Proof.MBlk

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Cert.KernelIdeal.Hand (rmsRow gateK accK)

/-! ## The call's four results over its arguments -/

/-- A row of the residual stream. -/
def hAt (h : FVec Ideal S16x2048x1024 .f32) (mx : FVec Ideal S16x2048x2048 .bf16) (wo : FVec Ideal S1x2048x1024 .f32) (ng : FVec Ideal S2x1024 .f32) (wg : FVec Ideal S2x1024x2816 .f32) (wu : FVec Ideal S2x1024x2816 .f32) (wd : FVec Ideal S2x2816x1024 .f32) (b : Fin 16) (p : Fin 2048) (c : Fin 1024) : EReal :=
  accK (fun j => (h (ix3 b p j) + ∑ i, mx (ix3 b p i) * wo (ix3 0 i j) : EReal)) (fun j => ng (ix2 0 j)) (fun j f => wg (ix3 0 j f)) (fun j f => wu (ix3 0 j f)) (fun f j => wd (ix3 0 f j)) c

/-- A row of the values. -/
def vAt (h : FVec Ideal S16x2048x1024 .f32) (mx : FVec Ideal S16x2048x2048 .bf16) (wo : FVec Ideal S1x2048x1024 .f32) (gkv : FVec Ideal S1024 .f32) (wv : FVec Ideal S1024x256 .f32) (ng : FVec Ideal S2x1024 .f32) (wg : FVec Ideal S2x1024x2816 .f32) (wu : FVec Ideal S2x1024x2816 .f32) (wd : FVec Ideal S2x2816x1024 .f32) (b : Fin 16) (p : Fin 2048) (c : Fin 256) : EReal :=
  ∑ j, rmsRow (hAt h mx wo ng wg wu wd b p) (fun j => gkv (ix1 j)) j * wv (ix2 j c)

/-- A row of the keys. -/
def kAt (h : FVec Ideal S16x2048x1024 .f32) (mx : FVec Ideal S16x2048x2048 .bf16) (wo : FVec Ideal S1x2048x1024 .f32) (gkv : FVec Ideal S1024 .f32) (wk : FVec Ideal S1024x256 .f32) (ng : FVec Ideal S2x1024 .f32) (wg : FVec Ideal S2x1024x2816 .f32) (wu : FVec Ideal S2x1024x2816 .f32) (wd : FVec Ideal S2x2816x1024 .f32) (b : Fin 16) (p : Fin 2048) (c : Fin 256) : EReal :=
  turned (n := 256) (by decide) (fun e => cosTab (ix2 p e)) (fun e => sinTab (ix2 p e)) (fun d => ∑ j, rmsRow (hAt h mx wo ng wg wu wd b p) (fun j => gkv (ix1 j)) j * wk (ix2 j d)) c

/-- A row of the queries. -/
def qAt (h : FVec Ideal S16x2048x1024 .f32) (mx : FVec Ideal S16x2048x2048 .bf16) (wo : FVec Ideal S1x2048x1024 .f32) (gq : FVec Ideal S1x1024 .f32) (wq : FVec Ideal S1x1024x1024 .f32) (ng : FVec Ideal S2x1024 .f32) (wg : FVec Ideal S2x1024x2816 .f32) (wu : FVec Ideal S2x1024x2816 .f32) (wd : FVec Ideal S2x2816x1024 .f32) (b : Fin 16) (p : Fin 2048) (c : Fin 1024) : EReal :=
  turned (n := 1024) (by decide) (fun e => cosTab (ix2 p e)) (fun e => sinTab (ix2 p e)) (fun d => ∑ j, rmsRow (hAt h mx wo ng wg wu wd b p) (fun j => gq (ix2 0 j)) j * wq (ix3 0 j d)) c * qScale

variable (m : (ℓ : Loc nD τ sig) → Buf (Elt Ideal) ℓ)

/-- A step's row of the residual stream over the rows its blocks hold. -/
theorem hRow_rows (x0 : Vec Ideal S512x1024 .f32) (x1 : Vec Ideal S512x2048 .bf16) (x2 : Vec Ideal S2048x1024 .bf16) (x3 : Vec Ideal S1x1024 .f32) (x4 : Vec Ideal S1024x2816 .bf16) (x5 : Vec Ideal S1024x2816 .bf16) (x6 : Vec Ideal S2816x1024 .bf16) (R : Fin 512)
    (h : FVec Ideal S16x2048x1024 .f32) (mx : FVec Ideal S16x2048x2048 .bf16) (wo : FVec Ideal S1x2048x1024 .f32) (ng : FVec Ideal S2x1024 .f32) (wg : FVec Ideal S2x1024x2816 .f32) (wu : FVec Ideal S2x1024x2816 .f32) (wd : FVec Ideal S2x2816x1024 .f32) (b : Fin 16) (p : Fin 2048)
    (e0 : ∀ j, x0 (ix2 R j) = h (ix3 b p j)) (e1 : ∀ i, x1 (ix2 R i) = mx (ix3 b p i)) (e2 : ∀ i j, x2 (ix2 i j) = wo (ix3 0 i j)) (e3 : ∀ j, x3 (ix2 0 j) = ng (ix2 0 j))
    (e4 : ∀ j f, x4 (ix2 j f) = wg (ix3 0 j f)) (e5 : ∀ j f, x5 (ix2 j f) = wu (ix3 0 j f)) (e6 : ∀ f j, x6 (ix2 f j) = wd (ix3 0 f j)) :
    hRow x0 x1 x2 x3 x4 x5 x6 R = hAt h mx wo ng wg wu wd b p := by
  funext c
  unfold hRow hAt
  simp only [e0, e1, e2, e3, e4, e5, e6]

/-- A step's rows of the residual stream are the call's. -/
theorem hRow_is (c : Dev nD) (t : Fin cfg0.N) (R : Fin 512) (b : Fin 16) (p : Fin 2048) (hp : 2048 * b.val + p.val = 512 * t.val + R.val) :
    hRow (iblk m c 0 t) (iblk m c 1 t) (iblk m c 2 t) (iblk m c 3 t) (iblk m c 4 t) (iblk m c 5 t) (iblk m c 6 t) R = hAt (m ((c : Thread nD τ).loc main_arg0)) (m ((c : Thread nD τ).loc main_arg1)) (m ((c : Thread nD τ).loc main_arg2)) (m ((c : Thread nD τ).loc main_arg8)) (m ((c : Thread nD τ).loc main_arg9)) (m ((c : Thread nD τ).loc main_arg10)) (m ((c : Thread nD τ).loc main_arg11)) b p := by
  have ht := pt_lt t
  have e0 : ∀ j : Fin 1024, iblk m c 0 t (ix2 R j) = (m ((c : Thread nD τ).loc main_arg0) : FVec Ideal S16x2048x1024 .f32) (ix3 b p j) := by
    intro j
    rw [blk0 m c t R j ⟨512 * t.val + R.val, by omega⟩ rfl, V_h]
    generalize (m ((c : Thread nD τ).loc main_arg0) : FVec Ideal S16x2048x1024 .f32) = x
    congr 2 <;> (apply Fin.ext; dsimp only; omega)
  have e1 : ∀ j : Fin 2048, iblk m c 1 t (ix2 R j) = (m ((c : Thread nD τ).loc main_arg1) : FVec Ideal S16x2048x2048 .bf16) (ix3 b p j) := by
    intro j
    rw [blk1 m c t R j ⟨512 * t.val + R.val, by omega⟩ rfl, V_mix]
    generalize (m ((c : Thread nD τ).loc main_arg1) : FVec Ideal S16x2048x2048 .bf16) = x
    congr 2 <;> (apply Fin.ext; dsimp only; omega)
  exact hRow_rows (iblk m c 0 t) (iblk m c 1 t) (iblk m c 2 t) (iblk m c 3 t) (iblk m c 4 t) (iblk m c 5 t) (iblk m c 6 t) R _ _ _ _ _ _ _ b p e0 e1 (fun i j => (blk2 m c t i j).trans (V_wo m c i j)) (fun j => (blk3 m c t j).trans (V_g m c j))
    (fun j f => (blk4 m c t j f).trans (V_wg m c j f)) (fun j f => (blk5 m c t j f).trans (V_wu m c j f)) (fun f j => (blk6 m c t f j).trans (V_wd m c f j))

/-- A step's cosines. -/
def cosRow (t : ℕ) (r : Fin 512) (d : Fin 8) : EReal := cosTab (ix2 ⟨512 * (t % 4) + r.val, by omega⟩ d)

/-- A step's sines. -/
def sinRow (t : ℕ) (r : Fin 512) (d : Fin 8) : EReal := sinTab (ix2 ⟨512 * (t % 4) + r.val, by omega⟩ d)

/-- Block 12 at a step is a table of the step's cosines. -/
theorem tab12 (c : Dev nD) (t : Fin cfg0.N) (r : Fin 512) (l : Fin 128) : iblk m c 12 t (ix2 r l) = tabC (cosRow t.val r) l := by
  rw [blk12 m c t r l ⟨512 * (t.val % 4) + r.val, by omega⟩ rfl, V_tabC, tabCos_at]
  rfl

/-- Block 13 at a step is a table of the step's sinines. -/
theorem tab13 (c : Dev nD) (t : Fin cfg0.N) (r : Fin 512) (l : Fin 128) : iblk m c 13 t (ix2 r l) = tabS (sinRow t.val r) l := by
  rw [blk13 m c t r l ⟨512 * (t.val % 4) + r.val, by omega⟩ rfl, V_tabS, tabLo_at]
  rfl

/-- Block 14 at a step is a table of the step's sinines. -/
theorem tab14 (c : Dev nD) (t : Fin cfg0.N) (r : Fin 512) (l : Fin 128) : iblk m c 14 t (ix2 r l) = tabT (sinRow t.val r) l := by
  rw [blk14 m c t r l ⟨512 * (t.val % 4) + r.val, by omega⟩ rfl, V_tabT, tabHi_at]
  rfl

/-- A step's block of the residual stream. -/
theorem step15 (c : Dev nD) (t : Fin cfg0.N) (R : Fin 512) (C : Fin 1024) (b : Fin 16) (p : Fin 2048) (hp : 2048 * b.val + p.val = 512 * t.val + R.val) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 R C) = hAt (m ((c : Thread nD τ).loc main_arg0)) (m ((c : Thread nD τ).loc main_arg1)) (m ((c : Thread nD τ).loc main_arg2)) (m ((c : Thread nD τ).loc main_arg8)) (m ((c : Thread nD τ).loc main_arg9)) (m ((c : Thread nD τ).loc main_arg10)) (m ((c : Thread nD τ).loc main_arg11)) b p C := by
  exact (out15_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) R C).trans (congrFun (hRow_is m c t R b p hp) C)

/-- A step's block of the values. -/
theorem step18 (c : Dev nD) (t : Fin cfg0.N) (R : Fin 512) (C : Fin 256) (b : Fin 16) (p : Fin 2048) (hp : 2048 * b.val + p.val = 512 * t.val + R.val) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 R C) = vAt (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg8)) (m ((c : Thread nD τ).loc main_arg9)) (m ((c : Thread nD τ).loc main_arg10)) (m ((c : Thread nD τ).loc main_arg11)) b p C := by
  rw [out18_at, hRow_is m c t R b p hp, funext fun j => (blk7 m c t j).trans (V_gkv m c j)]
  unfold vAt
  exact Finset.sum_congr rfl fun j _ => congrArg (fun z : EReal => _ * z) ((blk10 m c t j C).trans (V_wv m c j C))

/-- A step's block of the keys. -/
theorem step17 (c : Dev nD) (t : Fin cfg0.N) (R : Fin 512) (C : Fin 256) (b : Fin 16) (p : Fin 2048) (hp : 2048 * b.val + p.val = 512 * t.val + R.val) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 R C) = kAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) b p C := by
  have ht := pt_lt t
  have hc : cosRow t.val R = fun e => cosTab (ix2 p e) := funext fun e => congrArg (fun z => cosTab (ix2 z e)) (Fin.ext (by dsimp only; omega))
  have hs : sinRow t.val R = fun e => sinTab (ix2 p e) := funext fun e => congrArg (fun z => sinTab (ix2 z e)) (Fin.ext (by dsimp only; omega))
  rw [out17_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (cosRow t.val) (sinRow t.val) (tab12 m c t) (tab13 m c t) (tab14 m c t), hRow_is m c t R b p hp, funext fun j => (blk7 m c t j).trans (V_gkv m c j), hc, hs]
  unfold kAt
  refine congrArg (fun z => turned (n := 256) (by decide) _ _ z C) (funext fun d => ?_)
  exact Finset.sum_congr rfl fun j _ => congrArg (fun z : EReal => _ * z) ((blk9 m c t j d).trans (V_wk m c j d))

/-- A step's block of the queries. -/
theorem step16 (c : Dev nD) (t : Fin cfg0.N) (R : Fin 512) (C : Fin 1024) (b : Fin 16) (p : Fin 2048) (hp : 2048 * b.val + p.val = 512 * t.val + R.val) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 R C) = qAt (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) b p C := by
  have ht := pt_lt t
  have hc : cosRow t.val R = fun e => cosTab (ix2 p e) := funext fun e => congrArg (fun z => cosTab (ix2 z e)) (Fin.ext (by dsimp only; omega))
  have hs : sinRow t.val R = fun e => sinTab (ix2 p e) := funext fun e => congrArg (fun z => sinTab (ix2 z e)) (Fin.ext (by dsimp only; omega))
  rw [out16_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (cosRow t.val) (sinRow t.val) (tab12 m c t) (tab13 m c t) (tab14 m c t), hRow_is m c t R b p hp, funext fun j => (blk8 m c t j).trans (V_gq m c j), hc, hs]
  unfold qAt
  refine congrArg (fun z => turned (n := 1024) (by decide) _ _ z C * qScale) (funext fun d => ?_)
  exact Finset.sum_congr rfl fun j _ => congrArg (fun z : EReal => _ * z) ((blk11 m c t j d).trans (V_wq m c j d))

end Cert.Kernel2Ideal.Hand

end
-- ==== Proof.MFinal.lean ====
module

public import proofs.«01_k».proof.Proof.MSpec

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Cert.KernelIdeal.Hand (rmsRow gateK accK)

/-! ## The result arrays after the run -/

variable (m : (ℓ : Loc nD τ sig) → Buf (Elt Ideal) ℓ)

/-- The array of the residual stream after the run. -/
theorem final15 (c : Dev nD) : (dats m 0 c).arrAt 15 cfg0.N = fun y : S32768x1024.Idx => (hAt (m ((c : Thread nD τ).loc main_arg0)) (m ((c : Thread nD τ).loc main_arg1)) (m ((c : Thread nD τ).loc main_arg2)) (m ((c : Thread nD τ).loc main_arg8)) (m ((c : Thread nD τ).loc main_arg9)) (m ((c : Thread nD τ).loc main_arg10)) (m ((c : Thread nD τ).loc main_arg11))
      ⟨(y 0).val / 2048, by have : (y 0).val < 32768 := (y 0).isLt; omega⟩ ⟨(y 0).val % 2048, by omega⟩ (y 1) : Elt Ideal .f32) := by
  refine (dats m 0 c).arrAt_eq_of_covers 15 _ (by decide +kernel) fun t hf y => ?_
  have ht := pt_lt t
  blk_simp
  rw [after0_15]
  obtain ⟨R, C, rfl⟩ : ∃ (R : Fin 512) (C : Fin 1024), y = ix2 R C := ⟨y 0, y 1, ValueIdx.eq_ix2 y⟩
  refine (step15 m c t R C ⟨(512 * t.val + R.val) / 2048, by omega⟩ ⟨(512 * t.val + R.val) % 2048, by omega⟩ (by dsimp only; omega)).trans ?_
  have e0 : win0_15.index t 0 = t.val := congrFun (idx15 t) 0
  have e1 : (win0_15.blk t).view.emb (ix2 R C) 1 = C := by
    apply Fin.ext
    blk_simp
    have : win0_15.index t 1 = 0 := congrFun (idx15 t) 1
    rw [this]
    exact Nat.zero_add _
  rw [e1]
  congr 1
  · apply Fin.ext
    show (512 * t.val + R.val) / 2048 = (win0_15.index t 0 * 512 + R.val) / 2048
    rw [e0]; omega
  · apply Fin.ext
    show (512 * t.val + R.val) % 2048 = (win0_15.index t 0 * 512 + R.val) % 2048
    rw [e0]; omega

/-- The array of the queries after the run. -/
theorem final16 (c : Dev nD) : (dats m 0 c).arrAt 16 cfg0.N = fun y : S32768x1024.Idx => (qAt (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ⟨(y 0).val / 2048, by have : (y 0).val < 32768 := (y 0).isLt; omega⟩ ⟨(y 0).val % 2048, by omega⟩ (y 1) : Elt Ideal .bf16) := by
  refine (dats m 0 c).arrAt_eq_of_covers 16 _ (by decide +kernel) fun t hf y => ?_
  have ht := pt_lt t
  blk_simp
  rw [after0_16]
  obtain ⟨R, C, rfl⟩ : ∃ (R : Fin 512) (C : Fin 1024), y = ix2 R C := ⟨y 0, y 1, ValueIdx.eq_ix2 y⟩
  refine (step16 m c t R C ⟨(512 * t.val + R.val) / 2048, by omega⟩ ⟨(512 * t.val + R.val) % 2048, by omega⟩ (by dsimp only; omega)).trans ?_
  have e0 : win0_16.index t 0 = t.val := congrFun (idx16 t) 0
  have e1 : (win0_16.blk t).view.emb (ix2 R C) 1 = C := by
    apply Fin.ext
    blk_simp
    have : win0_16.index t 1 = 0 := congrFun (idx16 t) 1
    rw [this]
    exact Nat.zero_add _
  rw [e1]
  congr 1
  · apply Fin.ext
    show (512 * t.val + R.val) / 2048 = (win0_16.index t 0 * 512 + R.val) / 2048
    rw [e0]; omega
  · apply Fin.ext
    show (512 * t.val + R.val) % 2048 = (win0_16.index t 0 * 512 + R.val) % 2048
    rw [e0]; omega

/-- The array of the keys after the run. -/
theorem final17 (c : Dev nD) : (dats m 0 c).arrAt 17 cfg0.N = fun y : S32768x256.Idx => (kAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11))
      ⟨(y 0).val / 2048, by have : (y 0).val < 32768 := (y 0).isLt; omega⟩ ⟨(y 0).val % 2048, by omega⟩ (y 1) : Elt Ideal .f32) := by
  refine (dats m 0 c).arrAt_eq_of_covers 17 _ (by decide +kernel) fun t hf y => ?_
  have ht := pt_lt t
  blk_simp
  rw [after0_17]
  obtain ⟨R, C, rfl⟩ : ∃ (R : Fin 512) (C : Fin 256), y = ix2 R C := ⟨y 0, y 1, ValueIdx.eq_ix2 y⟩
  refine (step17 m c t R C ⟨(512 * t.val + R.val) / 2048, by omega⟩ ⟨(512 * t.val + R.val) % 2048, by omega⟩ (by dsimp only; omega)).trans ?_
  have e0 : win0_17.index t 0 = t.val := congrFun (idx17 t) 0
  have e1 : (win0_17.blk t).view.emb (ix2 R C) 1 = C := by
    apply Fin.ext
    blk_simp
    have : win0_17.index t 1 = 0 := congrFun (idx17 t) 1
    rw [this]
    exact Nat.zero_add _
  rw [e1]
  congr 1
  · apply Fin.ext
    show (512 * t.val + R.val) / 2048 = (win0_17.index t 0 * 512 + R.val) / 2048
    rw [e0]; omega
  · apply Fin.ext
    show (512 * t.val + R.val) % 2048 = (win0_17.index t 0 * 512 + R.val) % 2048
    rw [e0]; omega

/-- The array of the values after the run. -/
theorem final18 (c : Dev nD) : (dats m 0 c).arrAt 18 cfg0.N = fun y : S32768x256.Idx => (vAt (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg8)) (m ((c : Thread nD τ).loc main_arg9)) (m ((c : Thread nD τ).loc main_arg10)) (m ((c : Thread nD τ).loc main_arg11))
      ⟨(y 0).val / 2048, by have : (y 0).val < 32768 := (y 0).isLt; omega⟩ ⟨(y 0).val % 2048, by omega⟩ (y 1) : Elt Ideal .f32) := by
  refine (dats m 0 c).arrAt_eq_of_covers 18 _ (by decide +kernel) fun t hf y => ?_
  have ht := pt_lt t
  blk_simp
  rw [after0_18]
  obtain ⟨R, C, rfl⟩ : ∃ (R : Fin 512) (C : Fin 256), y = ix2 R C := ⟨y 0, y 1, ValueIdx.eq_ix2 y⟩
  refine (step18 m c t R C ⟨(512 * t.val + R.val) / 2048, by omega⟩ ⟨(512 * t.val + R.val) % 2048, by omega⟩ (by dsimp only; omega)).trans ?_
  have e0 : win0_18.index t 0 = t.val := congrFun (idx18 t) 0
  have e1 : (win0_18.blk t).view.emb (ix2 R C) 1 = C := by
    apply Fin.ext
    blk_simp
    have : win0_18.index t 1 = 0 := congrFun (idx18 t) 1
    rw [this]
    exact Nat.zero_add _
  rw [e1]
  congr 1
  · apply Fin.ext
    show (512 * t.val + R.val) / 2048 = (win0_18.index t 0 * 512 + R.val) / 2048
    rw [e0]; omega
  · apply Fin.ext
    show (512 * t.val + R.val) % 2048 = (win0_18.index t 0 * 512 + R.val) % 2048
    rw [e0]; omega

end Cert.Kernel2Ideal.Hand

end
-- ==== Proof.RMix.lean ====
module

public import proofs.«01_k».proof.Proof.Gen.Reference2Ideal.Read
public import proofs.«01_k».proof.Proof.Math
public import proofs.«01_k».proof.Proof.MRope
public import Idealize.ShloMosaic.Lib.Pointwise

@[expose] public section

set_option maxRecDepth 16384

noncomputable section

namespace Cert.Reference2Ideal.Hand

open Cert.Reference2Ideal Cert.Reference2Ideal.Gen Cert.Reference2Ideal.Read Idealize.ShloMosaic Idealize.ShloMosaic.TcCoe
open Cert.KernelIdeal.Hand (rmsRow gateR)
open Cert.Kernel2Ideal.Hand (ropeK ropeK_joined)

/-! ## The second reference, operation by operation -/

/-- The residual stream after the mixer's output projection. -/
theorem resid_at (h : FVec Ideal S16x2048x1024 .f32) (mx : FVec Ideal S16x2048x2048 .bf16) (wo : FVec Ideal S1x2048x1024 .f32) (b : Fin 16) (p : Fin 2048) (c : Fin 1024) :
    val_main_v16 (F := Ideal) h mx wo (ix3 b p c) = (h (ix3 b p c) + ∑ i, mx (ix3 b p i) * wo (ix3 0 i c) : EReal) := by
  pointwise [val_main_v16, val_main_v15, val_main_v14, val_main_v0, dot_S16x2048x2048_S2048x1024_S16x2048x1024_2_0_01_1_n_n]

/-- The row the feed-forward network reads: the normalized residual row. -/
theorem normed_at (h : FVec Ideal S16x2048x1024 .f32) (mx : FVec Ideal S16x2048x2048 .bf16) (wo : FVec Ideal S1x2048x1024 .f32) (ng : FVec Ideal S2x1024 .f32) (b : Fin 16) (p : Fin 2048) (c : Fin 1024) :
    val_main_v29 (F := Ideal) h mx wo ng (ix3 b p c) = rmsRow (fun j => val_main_v16 (F := Ideal) h mx wo (ix3 b p j)) (fun j => ng (ix2 0 j)) c := by
  unfold rmsRow
  unfold val_main_v29 val_main_v26 val_main_v25 val_main_v24 val_main_v23 val_main_v21 val_main_v19 val_main_v18 val_main_v17
  generalize val_main_v16 (F := Ideal) h mx wo = x
  pointwise [val_main_v20, val_main_cst, val_main_cst_0, val_main_v22, val_main_cst_1, val_main_v28, val_main_v27, val_main_v4, val_main_v3]

/-- The gate's projection. -/
theorem gate_at (h : FVec Ideal S16x2048x1024 .f32) (mx : FVec Ideal S16x2048x2048 .bf16) (wo : FVec Ideal S1x2048x1024 .f32) (ng : FVec Ideal S2x1024 .f32) (wg : FVec Ideal S2x1024x2816 .f32) (b : Fin 16) (p : Fin 2048) (f : Fin 2816) :
    val_main_v30 (F := Ideal) h mx wo ng wg (ix3 b p f) = (∑ j, val_main_v29 (F := Ideal) h mx wo ng (ix3 b p j) * wg (ix3 0 j f) : EReal) := by
  unfold val_main_v30
  generalize val_main_v29 (F := Ideal) h mx wo ng = x
  pointwise [val_main_v6, val_main_v5, dot_S16x2048x1024_S1024x2816_S16x2048x2816_2_0_01_1_n_n]

/-- The other projection. -/
theorem up_at (h : FVec Ideal S16x2048x1024 .f32) (mx : FVec Ideal S16x2048x2048 .bf16) (wo : FVec Ideal S1x2048x1024 .f32) (ng : FVec Ideal S2x1024 .f32) (wu : FVec Ideal S2x1024x2816 .f32) (b : Fin 16) (p : Fin 2048) (f : Fin 2816) :
    val_main_v32 (F := Ideal) h mx wo ng wu (ix3 b p f) = (∑ j, val_main_v29 (F := Ideal) h mx wo ng (ix3 b p j) * wu (ix3 0 j f) : EReal) := by
  unfold val_main_v32
  generalize val_main_v29 (F := Ideal) h mx wo ng = x
  pointwise [val_main_v8, val_main_v7, dot_S16x2048x1024_S1024x2816_S16x2048x2816_2_0_01_1_n_n]

/-- The gated product. -/
theorem gated_at (h : FVec Ideal S16x2048x1024 .f32) (mx : FVec Ideal S16x2048x2048 .bf16) (wo : FVec Ideal S1x2048x1024 .f32) (ng : FVec Ideal S2x1024 .f32) (wg : FVec Ideal S2x1024x2816 .f32) (wu : FVec Ideal S2x1024x2816 .f32) (b : Fin 16) (p : Fin 2048) (f : Fin 2816) :
    val_main_v33 (F := Ideal) h mx wo ng wg wu (ix3 b p f) = gateR (val_main_v30 (F := Ideal) h mx wo ng wg (ix3 b p f)) (val_main_v32 (F := Ideal) h mx wo ng wu (ix3 b p f)) := by
  unfold gateR
  rw [← Ideal.ofBits_one_f32]
  unfold val_main_v33 val_main_v31 val_main_call0_v5 val_main_call0_v3 val_main_call0_v1 val_main_call0_v0
  generalize val_main_v30 (F := Ideal) h mx wo ng wg = x
  generalize val_main_v32 (F := Ideal) h mx wo ng wu = y
  pointwise [val_main_call0_v4, val_main_call0_cst_0, val_main_call0_v2, val_main_call0_cst]

/-- The residual stream after the feed-forward network. -/
theorem layer_at (h : FVec Ideal S16x2048x1024 .f32) (mx : FVec Ideal S16x2048x2048 .bf16) (wo : FVec Ideal S1x2048x1024 .f32) (ng : FVec Ideal S2x1024 .f32) (wg : FVec Ideal S2x1024x2816 .f32) (wu : FVec Ideal S2x1024x2816 .f32) (wd : FVec Ideal S2x2816x1024 .f32) (b : Fin 16) (p : Fin 2048) (c : Fin 1024) :
    val_main_v35 (F := Ideal) h mx wo ng wg wu wd (ix3 b p c) = (val_main_v16 (F := Ideal) h mx wo (ix3 b p c) + ∑ f, val_main_v33 (F := Ideal) h mx wo ng wg wu (ix3 b p f) * wd (ix3 0 f c) : EReal) := by
  unfold val_main_v35 val_main_v34
  generalize val_main_v16 (F := Ideal) h mx wo = x
  generalize val_main_v33 (F := Ideal) h mx wo ng wg wu = y
  pointwise [val_main_v10, val_main_v9, dot_S16x2048x2816_S2816x1024_S16x2048x1024_2_0_01_1_n_n]

/-- The row the keys and the values are projected from. -/
theorem kvNormed_at (h : FVec Ideal S16x2048x1024 .f32) (mx : FVec Ideal S16x2048x2048 .bf16) (wo : FVec Ideal S1x2048x1024 .f32) (gkv : FVec Ideal S1024 .f32) (ng : FVec Ideal S2x1024 .f32) (wg : FVec Ideal S2x1024x2816 .f32) (wu : FVec Ideal S2x1024x2816 .f32) (wd : FVec Ideal S2x2816x1024 .f32) (b : Fin 16) (p : Fin 2048) (c : Fin 1024) :
    val_main_v48 (F := Ideal) h mx wo gkv ng wg wu wd (ix3 b p c) = rmsRow (fun j => val_main_v35 (F := Ideal) h mx wo ng wg wu wd (ix3 b p j)) (fun j => gkv (ix1 j)) c := by
  unfold rmsRow
  unfold val_main_v48 val_main_v45 val_main_v44 val_main_v43 val_main_v42 val_main_v40 val_main_v38 val_main_v37 val_main_v36
  generalize val_main_v35 (F := Ideal) h mx wo ng wg wu wd = x
  pointwise [val_main_v39, val_main_cst_2, val_main_cst_3, val_main_v41, val_main_cst_4, val_main_v47, val_main_v46]

/-- The row the queries are projected from. -/
theorem qNormed_at (h : FVec Ideal S16x2048x1024 .f32) (mx : FVec Ideal S16x2048x2048 .bf16) (wo : FVec Ideal S1x2048x1024 .f32) (gq : FVec Ideal S1x1024 .f32) (ng : FVec Ideal S2x1024 .f32) (wg : FVec Ideal S2x1024x2816 .f32) (wu : FVec Ideal S2x1024x2816 .f32) (wd : FVec Ideal S2x2816x1024 .f32) (b : Fin 16) (p : Fin 2048) (c : Fin 1024) :
    val_main_v101 (F := Ideal) h mx wo gq ng wg wu wd (ix3 b p c) = rmsRow (fun j => val_main_v35 (F := Ideal) h mx wo ng wg wu wd (ix3 b p j)) (fun j => gq (ix2 0 j)) c := by
  unfold rmsRow
  unfold val_main_v101 val_main_v98 val_main_v97 val_main_v96 val_main_v95 val_main_v93 val_main_v91 val_main_v90 val_main_v89
  generalize val_main_v35 (F := Ideal) h mx wo ng wg wu wd = x
  pointwise [val_main_v92, val_main_cst_9, val_main_cst_10, val_main_v94, val_main_cst_11, val_main_v100, val_main_v99, val_main_v1]

/-- The keys' projection. -/
theorem k_at (h : FVec Ideal S16x2048x1024 .f32) (mx : FVec Ideal S16x2048x2048 .bf16) (wo : FVec Ideal S1x2048x1024 .f32) (gkv : FVec Ideal S1024 .f32) (wk : FVec Ideal S1024x256 .f32) (ng : FVec Ideal S2x1024 .f32) (wg : FVec Ideal S2x1024x2816 .f32) (wu : FVec Ideal S2x1024x2816 .f32) (wd : FVec Ideal S2x2816x1024 .f32) (b : Fin 16) (p : Fin 2048) (c : Fin 256) :
    val_main_v49 (F := Ideal) h mx wo gkv wk ng wg wu wd (ix3 b p c) = (∑ j, val_main_v48 (F := Ideal) h mx wo gkv ng wg wu wd (ix3 b p j) * wk (ix2 j c) : EReal) := by
  unfold val_main_v49
  generalize val_main_v48 (F := Ideal) h mx wo gkv ng wg wu wd = x
  pointwise [dot_S16x2048x1024_S1024x256_S16x2048x256_2_0_01_1_n_n]

/-- The values' projection. -/
theorem v_at (h : FVec Ideal S16x2048x1024 .f32) (mx : FVec Ideal S16x2048x2048 .bf16) (wo : FVec Ideal S1x2048x1024 .f32) (gkv : FVec Ideal S1024 .f32) (wv : FVec Ideal S1024x256 .f32) (ng : FVec Ideal S2x1024 .f32) (wg : FVec Ideal S2x1024x2816 .f32) (wu : FVec Ideal S2x1024x2816 .f32) (wd : FVec Ideal S2x2816x1024 .f32) (b : Fin 16) (p : Fin 2048) (c : Fin 256) :
    val_main_v87 (F := Ideal) h mx wo gkv wv ng wg wu wd (ix3 b p c) = (∑ j, val_main_v48 (F := Ideal) h mx wo gkv ng wg wu wd (ix3 b p j) * wv (ix2 j c) : EReal) := by
  unfold val_main_v87
  generalize val_main_v48 (F := Ideal) h mx wo gkv ng wg wu wd = x
  pointwise [dot_S16x2048x1024_S1024x256_S16x2048x256_2_0_01_1_n_n]

/-- The queries' projection. -/
theorem q_at (h : FVec Ideal S16x2048x1024 .f32) (mx : FVec Ideal S16x2048x2048 .bf16) (wo : FVec Ideal S1x2048x1024 .f32) (gq : FVec Ideal S1x1024 .f32) (wq : FVec Ideal S1x1024x1024 .f32) (ng : FVec Ideal S2x1024 .f32) (wg : FVec Ideal S2x1024x2816 .f32) (wu : FVec Ideal S2x1024x2816 .f32) (wd : FVec Ideal S2x2816x1024 .f32) (b : Fin 16) (p : Fin 2048) (c : Fin 1024) :
    val_main_v102 (F := Ideal) h mx wo gq wq ng wg wu wd (ix3 b p c) = (∑ j, val_main_v101 (F := Ideal) h mx wo gq ng wg wu wd (ix3 b p j) * wq (ix3 0 j c) : EReal) := by
  unfold val_main_v102
  generalize val_main_v101 (F := Ideal) h mx wo gq ng wg wu wd = x
  pointwise [val_main_v2, dot_S16x2048x1024_S1024x1024_S16x2048x1024_2_0_01_1_n_n]

/-- The queries' cosines are the keys'. -/
theorem cos_eq : val_main_v120 (F := Ideal) = val_main_v67 (F := Ideal) := rfl

/-- The queries' sines are the keys'. -/
theorem sin_eq : val_main_v122 (F := Ideal) = val_main_v69 (F := Ideal) := rfl

/-- The keys after the rotary embedding. -/
theorem kTurned_at (h : FVec Ideal S16x2048x1024 .f32) (mx : FVec Ideal S16x2048x2048 .bf16) (wo : FVec Ideal S1x2048x1024 .f32) (gkv : FVec Ideal S1024 .f32) (wk : FVec Ideal S1024x256 .f32) (ng : FVec Ideal S2x1024 .f32) (wg : FVec Ideal S2x1024x2816 .f32) (wu : FVec Ideal S2x1024x2816 .f32) (wd : FVec Ideal S2x2816x1024 .f32) (b : Fin 16) (p : Fin 2048) (n : Fin 4) (d : Fin 64) :
    val_main_v86 (F := Ideal) h mx wo gkv wk ng wg wu wd (ix4 b p n d) = ropeK (fun e => val_main_v67 (F := Ideal) (ix2 p e)) (fun e => val_main_v69 (F := Ideal) (ix2 p e)) (fun e => val_main_v50 (F := Ideal) h mx wo gkv wk ng wg wu wd (ix4 b p n e)) d := by
  unfold val_main_v86 val_main_v85 val_main_v84 val_main_v83 val_main_v82 val_main_v80 val_main_v78 val_main_v77 val_main_v75 val_main_v73 val_main_v72 val_main_v71
  unfold val_main_v74 val_main_v76 val_main_v79 val_main_v81 val_main_v68 val_main_v70
  generalize val_main_v50 (F := Ideal) h mx wo gkv wk ng wg wu wd = x
  generalize val_main_v67 (F := Ideal) = cs
  generalize val_main_v69 (F := Ideal) = sn
  pointwise []
  exact ropeK_joined (fun e => cs (ix2 p e)) (fun e => sn (ix2 p e)) (fun e => x (ix4 b p n e)) d

/-- A head's entry of the keys' projection. -/
theorem kHeads_at (h : FVec Ideal S16x2048x1024 .f32) (mx : FVec Ideal S16x2048x2048 .bf16) (wo : FVec Ideal S1x2048x1024 .f32) (gkv : FVec Ideal S1024 .f32) (wk : FVec Ideal S1024x256 .f32) (ng : FVec Ideal S2x1024 .f32) (wg : FVec Ideal S2x1024x2816 .f32) (wu : FVec Ideal S2x1024x2816 .f32) (wd : FVec Ideal S2x2816x1024 .f32) (b : Fin 16) (p : Fin 2048) (n : Fin 4) (d : Fin 64) :
    val_main_v50 (F := Ideal) h mx wo gkv wk ng wg wu wd (ix4 b p n d) = val_main_v49 (F := Ideal) h mx wo gkv wk ng wg wu wd (ix3 b p ⟨n.val * 64 + d.val, by omega⟩) := by
  unfold val_main_v50
  generalize val_main_v49 (F := Ideal) h mx wo gkv wk ng wg wu wd = x
  pointwise []

/-- The queries after the rotary embedding. -/
theorem qTurned_at (h : FVec Ideal S16x2048x1024 .f32) (mx : FVec Ideal S16x2048x2048 .bf16) (wo : FVec Ideal S1x2048x1024 .f32) (gq : FVec Ideal S1x1024 .f32) (wq : FVec Ideal S1x1024x1024 .f32) (ng : FVec Ideal S2x1024 .f32) (wg : FVec Ideal S2x1024x2816 .f32) (wu : FVec Ideal S2x1024x2816 .f32) (wd : FVec Ideal S2x2816x1024 .f32) (b : Fin 16) (p : Fin 2048) (n : Fin 16) (d : Fin 64) :
    val_main_v139 (F := Ideal) h mx wo gq wq ng wg wu wd (ix4 b p n d) = ropeK (fun e => val_main_v120 (F := Ideal) (ix2 p e)) (fun e => val_main_v122 (F := Ideal) (ix2 p e)) (fun e => val_main_v103 (F := Ideal) h mx wo gq wq ng wg wu wd (ix4 b p n e)) d := by
  unfold val_main_v139 val_main_v138 val_main_v137 val_main_v136 val_main_v135 val_main_v133 val_main_v131 val_main_v130 val_main_v128 val_main_v126 val_main_v125 val_main_v124
  unfold val_main_v127 val_main_v129 val_main_v132 val_main_v134 val_main_v121 val_main_v123
  generalize val_main_v103 (F := Ideal) h mx wo gq wq ng wg wu wd = x
  generalize val_main_v120 (F := Ideal) = cs
  generalize val_main_v122 (F := Ideal) = sn
  pointwise []
  exact ropeK_joined (fun e => cs (ix2 p e)) (fun e => sn (ix2 p e)) (fun e => x (ix4 b p n e)) d

/-- A head's entry of the queries' projection. -/
theorem qHeads_at (h : FVec Ideal S16x2048x1024 .f32) (mx : FVec Ideal S16x2048x2048 .bf16) (wo : FVec Ideal S1x2048x1024 .f32) (gq : FVec Ideal S1x1024 .f32) (wq : FVec Ideal S1x1024x1024 .f32) (ng : FVec Ideal S2x1024 .f32) (wg : FVec Ideal S2x1024x2816 .f32) (wu : FVec Ideal S2x1024x2816 .f32) (wd : FVec Ideal S2x2816x1024 .f32) (b : Fin 16) (p : Fin 2048) (n : Fin 16) (d : Fin 64) :
    val_main_v103 (F := Ideal) h mx wo gq wq ng wg wu wd (ix4 b p n d) = val_main_v102 (F := Ideal) h mx wo gq wq ng wg wu wd (ix3 b p ⟨n.val * 64 + d.val, by omega⟩) := by
  unfold val_main_v103
  generalize val_main_v102 (F := Ideal) h mx wo gq wq ng wg wu wd = x
  pointwise []

end Cert.Reference2Ideal.Hand

end
-- ==== Proof.RMixEq.lean ====
module

public import proofs.«01_k».proof.Proof.RMix
public import proofs.«01_k».proof.Proof.MSpec

@[expose] public section

set_option maxRecDepth 16384

noncomputable section

namespace Cert.Reference2Ideal.Hand

open Cert.Reference2Ideal Cert.Reference2Ideal.Gen Cert.Reference2Ideal.Read Idealize.ShloMosaic Idealize.ShloMosaic.TcCoe
open Cert.KernelIdeal.Hand (rmsRow gateR acc_eq)
open Cert.Kernel2Ideal.Hand (ropeK turned hAt kAt vAt qAt qScale qScale_eq cosTab sinTab)

/-! ## The second reference's results are the second kernel's -/

/-- The residual stream. -/
theorem layer_eq (h : FVec Ideal S16x2048x1024 .f32) (mx : FVec Ideal S16x2048x2048 .bf16) (wo : FVec Ideal S1x2048x1024 .f32) (ng : FVec Ideal S2x1024 .f32) (wg : FVec Ideal S2x1024x2816 .f32) (wu : FVec Ideal S2x1024x2816 .f32) (wd : FVec Ideal S2x2816x1024 .f32) (hn : ∀ i, ∃ z : ℝ, ng i = (z : EReal)) (hw : ∀ i, ∃ z : ℝ, wg i = (z : EReal)) (b : Fin 16) (p : Fin 2048) (c : Fin 1024) :
    val_main_v35 (F := Ideal) h mx wo ng wg wu wd (ix3 b p c) = hAt h mx wo ng wg wu wd b p c := by
  unfold hAt
  have hr : (fun j => val_main_v16 (F := Ideal) h mx wo (ix3 b p j)) = fun j => (h (ix3 b p j) + ∑ i, mx (ix3 b p i) * wo (ix3 0 i j) : EReal) := funext fun j => resid_at h mx wo b p j
  rw [acc_eq _ _ _ _ _ (fun c => hn _) (fun c f => hw _), ← hr]
  refine (layer_at h mx wo ng wg wu wd b p c).trans ?_
  refine congrArg₂ (fun a b : EReal => a + b) (congrFun hr c) (Finset.sum_congr rfl fun f _ => ?_)
  refine congrArg (fun a : EReal => a * wd (ix3 0 f c)) ((gated_at h mx wo ng wg wu b p f).trans ?_)
  refine congrArg₂ gateR ((gate_at h mx wo ng wg b p f).trans ?_) ((up_at h mx wo ng wu b p f).trans ?_)
  · exact Finset.sum_congr rfl fun j _ => congrArg (fun a : EReal => a * wg (ix3 0 j f)) (normed_at h mx wo ng b p j)
  · exact Finset.sum_congr rfl fun j _ => congrArg (fun a : EReal => a * wu (ix3 0 j f)) (normed_at h mx wo ng b p j)

/-- The rows that the keys and the values are projected from. -/
theorem kvRow_eq (h : FVec Ideal S16x2048x1024 .f32) (mx : FVec Ideal S16x2048x2048 .bf16) (wo : FVec Ideal S1x2048x1024 .f32) (gkv : FVec Ideal S1024 .f32) (ng : FVec Ideal S2x1024 .f32) (wg : FVec Ideal S2x1024x2816 .f32) (wu : FVec Ideal S2x1024x2816 .f32) (wd : FVec Ideal S2x2816x1024 .f32) (hn : ∀ i, ∃ z : ℝ, ng i = (z : EReal)) (hw : ∀ i, ∃ z : ℝ, wg i = (z : EReal)) (b : Fin 16) (p : Fin 2048) (j : Fin 1024) :
    val_main_v48 (F := Ideal) h mx wo gkv ng wg wu wd (ix3 b p j) = rmsRow (hAt h mx wo ng wg wu wd b p) (fun j => gkv (ix1 j)) j :=
  (kvNormed_at h mx wo gkv ng wg wu wd b p j).trans (congrArg (fun z => rmsRow z (fun j => gkv (ix1 j)) j) (funext fun c => layer_eq h mx wo ng wg wu wd hn hw b p c))

/-- The rows that the queries are projected from. -/
theorem qRow_eq (h : FVec Ideal S16x2048x1024 .f32) (mx : FVec Ideal S16x2048x2048 .bf16) (wo : FVec Ideal S1x2048x1024 .f32) (gq : FVec Ideal S1x1024 .f32) (ng : FVec Ideal S2x1024 .f32) (wg : FVec Ideal S2x1024x2816 .f32) (wu : FVec Ideal S2x1024x2816 .f32) (wd : FVec Ideal S2x2816x1024 .f32) (hn : ∀ i, ∃ z : ℝ, ng i = (z : EReal)) (hw : ∀ i, ∃ z : ℝ, wg i = (z : EReal)) (b : Fin 16) (p : Fin 2048) (j : Fin 1024) :
    val_main_v101 (F := Ideal) h mx wo gq ng wg wu wd (ix3 b p j) = rmsRow (hAt h mx wo ng wg wu wd b p) (fun j => gq (ix2 0 j)) j :=
  (qNormed_at h mx wo gq ng wg wu wd b p j).trans (congrArg (fun z => rmsRow z (fun j => gq (ix2 0 j)) j) (funext fun c => layer_eq h mx wo ng wg wu wd hn hw b p c))

/-- The scale of the queries: a division by eight and by the logarithm of two. -/
theorem scale_eq (x : EReal) : Ideal.div (x * Ideal.ofBits .f32 0x3E000000#32) (Ideal.log (Ideal.ofBits .f32 0x40000000#32)) = x * qScale := by
  have e8 : Ideal.ofBits .f32 0x3E000000#32 = ((1 / 8 : ℝ) : EReal) := by
    simp [Ideal.ofBits, Ideal.ieee, -EReal.coe_mul]
    norm_num
  have e2 : Ideal.ofBits .f32 0x40000000#32 = ((2 : ℝ) : EReal) := by
    simp [Ideal.ofBits, Ideal.ieee, -EReal.coe_mul]
    norm_num
  rw [qScale_eq, e8, e2, Ideal.log_coe, if_neg (by norm_num), Ideal.div_coe (Real.log_pos (by norm_num)).ne', mul_assoc, ← EReal.coe_mul]
  refine congrArg (fun z : ℝ => x * (z : EReal)) ?_
  rw [mul_inv, one_div, one_div]

/-- The first result. -/
theorem out0_eq (h : FVec Ideal S16x2048x1024 .f32) (mx : FVec Ideal S16x2048x2048 .bf16) (wo : FVec Ideal S1x2048x1024 .f32) (ng : FVec Ideal S2x1024 .f32) (wg : FVec Ideal S2x1024x2816 .f32) (wu : FVec Ideal S2x1024x2816 .f32) (wd : FVec Ideal S2x2816x1024 .f32) (hn : ∀ i, ∃ z : ℝ, ng i = (z : EReal)) (hw : ∀ i, ∃ z : ℝ, wg i = (z : EReal)) (R : Fin 32768) (C : Fin 1024) :
    val_main_v145 (F := Ideal) h mx wo ng wg wu wd (ix2 R C) = hAt h mx wo ng wg wu wd ⟨R.val / 2048, by omega⟩ ⟨R.val % 2048, by omega⟩ C := by
  refine Eq.trans ?_ (layer_eq h mx wo ng wg wu wd hn hw _ _ C)
  unfold val_main_v145
  generalize val_main_v35 (F := Ideal) h mx wo ng wg wu wd = x
  pointwise []

/-- The fourth result. -/
theorem out3_eq (h : FVec Ideal S16x2048x1024 .f32) (mx : FVec Ideal S16x2048x2048 .bf16) (wo : FVec Ideal S1x2048x1024 .f32) (gkv : FVec Ideal S1024 .f32) (wv : FVec Ideal S1024x256 .f32) (ng : FVec Ideal S2x1024 .f32) (wg : FVec Ideal S2x1024x2816 .f32) (wu : FVec Ideal S2x1024x2816 .f32) (wd : FVec Ideal S2x2816x1024 .f32) (hn : ∀ i, ∃ z : ℝ, ng i = (z : EReal)) (hw : ∀ i, ∃ z : ℝ, wg i = (z : EReal)) (R : Fin 32768) (C : Fin 256) :
    val_main_v149 (F := Ideal) h mx wo gkv wv ng wg wu wd (ix2 R C) = vAt h mx wo gkv wv ng wg wu wd ⟨R.val / 2048, by omega⟩ ⟨R.val % 2048, by omega⟩ C := by
  refine Eq.trans (b := val_main_v87 (F := Ideal) h mx wo gkv wv ng wg wu wd (ix3 ⟨R.val / 2048, by omega⟩ ⟨R.val % 2048, by omega⟩ C)) ?_ ?_
  · unfold val_main_v149 val_main_v88
    generalize val_main_v87 (F := Ideal) h mx wo gkv wv ng wg wu wd = x
    pointwise []
  · refine (v_at h mx wo gkv wv ng wg wu wd _ _ C).trans ?_
    unfold vAt
    exact Finset.sum_congr rfl fun j _ => congrArg (fun z : EReal => z * wv (ix2 j C)) (kvRow_eq h mx wo gkv ng wg wu wd hn hw _ _ j)

/-- The third result. -/
theorem out2_eq (h : FVec Ideal S16x2048x1024 .f32) (mx : FVec Ideal S16x2048x2048 .bf16) (wo : FVec Ideal S1x2048x1024 .f32) (gkv : FVec Ideal S1024 .f32) (wk : FVec Ideal S1024x256 .f32) (ng : FVec Ideal S2x1024 .f32) (wg : FVec Ideal S2x1024x2816 .f32) (wu : FVec Ideal S2x1024x2816 .f32) (wd : FVec Ideal S2x2816x1024 .f32) (hn : ∀ i, ∃ z : ℝ, ng i = (z : EReal)) (hw : ∀ i, ∃ z : ℝ, wg i = (z : EReal)) (R : Fin 32768) (C : Fin 256) :
    val_main_v148 (F := Ideal) h mx wo gkv wk ng wg wu wd (ix2 R C) = kAt h mx wo gkv wk ng wg wu wd ⟨R.val / 2048, by omega⟩ ⟨R.val % 2048, by omega⟩ C := by
  refine Eq.trans (b := val_main_v86 (F := Ideal) h mx wo gkv wk ng wg wu wd (ix4 ⟨R.val / 2048, by omega⟩ ⟨R.val % 2048, by omega⟩ ⟨C.val / 64, by omega⟩ ⟨C.val % 64, by omega⟩)) ?_ ?_
  · unfold val_main_v148
    generalize val_main_v86 (F := Ideal) h mx wo gkv wk ng wg wu wd = x
    pointwise []
  · refine (kTurned_at h mx wo gkv wk ng wg wu wd _ _ _ _).trans ?_
    unfold kAt turned
    refine congrArg (fun z => ropeK _ _ z ⟨C.val % 64, by omega⟩) (funext fun e => ?_)
    refine ((kHeads_at h mx wo gkv wk ng wg wu wd _ _ _ e).trans (k_at h mx wo gkv wk ng wg wu wd _ _ _)).trans ?_
    exact Finset.sum_congr rfl fun j _ => congrArg (fun z : EReal => z * wk (ix2 j ⟨C.val / 64 * 64 + e.val, by omega⟩)) (kvRow_eq h mx wo gkv ng wg wu wd hn hw _ _ j)

/-- The turned queries. -/
theorem qTurned_eq (h : FVec Ideal S16x2048x1024 .f32) (mx : FVec Ideal S16x2048x2048 .bf16) (wo : FVec Ideal S1x2048x1024 .f32) (gq : FVec Ideal S1x1024 .f32) (wq : FVec Ideal S1x1024x1024 .f32) (ng : FVec Ideal S2x1024 .f32) (wg : FVec Ideal S2x1024x2816 .f32) (wu : FVec Ideal S2x1024x2816 .f32) (wd : FVec Ideal S2x2816x1024 .f32) (hn : ∀ i, ∃ z : ℝ, ng i = (z : EReal)) (hw : ∀ i, ∃ z : ℝ, wg i = (z : EReal)) (b : Fin 16) (p : Fin 2048) (C : Fin 1024) :
    (val_main_v139 (F := Ideal) h mx wo gq wq ng wg wu wd (ix4 b p ⟨C.val / 64, by omega⟩ ⟨C.val % 64, by omega⟩) * qScale : EReal) = qAt h mx wo gq wq ng wg wu wd b p C := by
  unfold qAt
  refine congrArg (fun z : EReal => z * qScale) ?_
  refine (qTurned_at h mx wo gq wq ng wg wu wd _ _ _ _).trans ?_
  unfold turned
  rw [cos_eq, sin_eq]
  refine congrArg (fun z => ropeK _ _ z ⟨C.val % 64, by omega⟩) (funext fun e => ?_)
  refine ((qHeads_at h mx wo gq wq ng wg wu wd _ _ _ e).trans (q_at h mx wo gq wq ng wg wu wd _ _ _)).trans ?_
  exact Finset.sum_congr rfl fun j _ => congrArg (fun z : EReal => z * wq (ix3 0 j ⟨C.val / 64 * 64 + e.val, by omega⟩)) (qRow_eq h mx wo gq ng wg wu wd hn hw _ _ j)

/-- The second result. -/
theorem out1_eq (h : FVec Ideal S16x2048x1024 .f32) (mx : FVec Ideal S16x2048x2048 .bf16) (wo : FVec Ideal S1x2048x1024 .f32) (gq : FVec Ideal S1x1024 .f32) (wq : FVec Ideal S1x1024x1024 .f32) (ng : FVec Ideal S2x1024 .f32) (wg : FVec Ideal S2x1024x2816 .f32) (wu : FVec Ideal S2x1024x2816 .f32) (wd : FVec Ideal S2x2816x1024 .f32) (hn : ∀ i, ∃ z : ℝ, ng i = (z : EReal)) (hw : ∀ i, ∃ z : ℝ, wg i = (z : EReal)) (R : Fin 32768) (C : Fin 1024) :
    val_main_v147 (F := Ideal) h mx wo gq wq ng wg wu wd (ix2 R C) = qAt h mx wo gq wq ng wg wu wd ⟨R.val / 2048, by omega⟩ ⟨R.val % 2048, by omega⟩ C := by
  refine Eq.trans ?_ (qTurned_eq h mx wo gq wq ng wg wu wd hn hw _ _ C)
  rw [← scale_eq]
  unfold val_main_v147 val_main_v146 val_main_v144 val_main_v141
  generalize val_main_v139 (F := Ideal) h mx wo gq wq ng wg wu wd = x
  pointwise [val_main_v140, val_main_cst_16, val_main_v143, val_main_v142, val_main_cst_17]

end Cert.Reference2Ideal.Hand

end
-- ==== Proof.FiniteGate.lean ====
module

public import proofs.«01_k».proof.Pre_finite_gate
public import proofs.«01_k».proof.Proof.Finite

@[expose] public section

set_option maxRecDepth 16384

noncomputable section

namespace Cert.Pre_finite_gate.Hand

open Cert.Pre_finite_gate Idealize.ShloMosaic
open Cert.Pre_finite_scores.Hand (real_of_abs)

/-! ## What the second program's precondition says -/

/-- The shape relations of the precondition hold. -/
theorem facts : Cert.Pre_finite_gate.Facts where
  bcast_S_S2x1024 := by decide
  reducesTo_S2x1024_S_d0_1 := by decide
  h_S_ := by decide
  bcast_S_S2x1024x2816 := by decide
  reducesTo_S2x1024x2816_S_d0_1_2 := by decide

instance : Subsingleton S_.Idx := ⟨fun _ _ => funext fun a => a.elim0⟩

/-- The precondition's two conjuncts: norm gains and gate weights are real numbers. -/
theorem finite [Facts] (a0 : FVec Ideal S16x2048x1024 .f32) (a1 : FVec Ideal S16x2048x2048 .bf16) (a2 : FVec Ideal S1x2048x1024 .f32) (a3 : FVec Ideal S1024 .f32) (a4 a5 : FVec Ideal S1024x256 .f32) (a6 : FVec Ideal S1x1024 .f32)
    (a7 : FVec Ideal S1x1024x1024 .f32) (a8 : FVec Ideal S2x1024 .f32) (a9 a10 : FVec Ideal S2x1024x2816 .f32) (a11 : FVec Ideal S2x2816x1024 .f32)
    (h : fn (F := Ideal) a0 a1 a2 a3 a4 a5 a6 a7 a8 a9 a10 a11 = fun _ => 1#1) :
    (∀ i, ∃ z : ℝ, a8 i = (z : EReal)) ∧ (∀ i, ∃ z : ℝ, a9 i = (z : EReal)) := by
  have e := congrFun h (fun a => a.elim0)
  unfold fn at e
  obtain ⟨h8, h9⟩ := IntOp.andi_eq_one.1 e
  exact ⟨fun i => real_of_abs (a8 i) (Host.reduce_andi_all _ _ _ _ _ h8 i), fun i => real_of_abs (a9 i) (Host.reduce_andi_all _ _ _ _ _ h9 i)⟩

end Cert.Pre_finite_gate.Hand

end
-- ==== Proof.LFinal.lean ====
module

public import proofs.«01_k».proof.Proof.Gen.Kernel3Ideal.Value
public import proofs.«01_k».proof.Proof.KFfn
public import Idealize.ShloMosaic.Lib.Pointwise
public import Idealize.ShloMosaic.Lib.Claim

@[expose] public section

set_option maxRecDepth 16384

noncomputable section

namespace Cert.Kernel3Ideal.Hand

open Cert.Kernel3Ideal Cert.Kernel3Ideal.Gen Idealize.ShloMosaic Idealize.ShloMosaic.TcCoe Idealize.SL.Sem
open Cert.KernelIdeal.Hand (rmsRow accK resid normed ffnAcc ffnOut normed_at ffnAcc_at resid_at ldcols_at ldrows_at zero2)

/-! ## A step of the third program: the sample's second layer after its attention -/

/-- The attention's rows, rounded in the step. -/
def mixR (x : Vec Ideal S512x1024 .f32) : FVec Ideal S512x1024 .bf16 :=
  truncf (F := Ideal) .bf16 (shapeCast S512x1024 x shapeCasts_S512x1024_S512x1024) bitsLt_bf16_f32

/-- What a step writes: the first program's feed-forward part over the attention's rows, rounded in the step. -/
theorem out8_eq (x0 : Vec Ideal S512x1024 .f32) (x1 : Vec Ideal S512x1024 .f32) (x2 : Vec Ideal S1024x1024 .bf16) (x3 : Vec Ideal S1x1024 .f32) (x4 : Vec Ideal S1024x2816 .bf16) (x5 : Vec Ideal S1024x2816 .bf16) (x6 : Vec Ideal S2816x1024 .bf16) (x7 : Vec Ideal S1x1024 .f32) :
    out0_8 x0 x1 x2 x3 x4 x5 x6 x7 = ffnOut (View.ld x0 r0_0) (mixR (View.ld x1 r0_0)) (View.ld x2 r0_1) (View.ld x3 r0_2)
      (View.ld x4 r0_3) (View.ld x4 r0_5) (View.ld x5 r0_3) (View.ld x5 r0_5) (View.ld x6 r0_4) (View.ld x6 r0_6) (View.ld x7 r0_2) := by
  unfold out0_8
  refine (View.canon_unit_zero (by funext a; match a with | ⟨0, _⟩ => rfl | ⟨1, _⟩ => rfl) _ _).trans ?_
  rfl

/-- The attention's rows, rounded: over the extended reals as they were. -/
theorem mix_at (x : Vec Ideal S512x1024 .f32) (r : Fin 512) (c : Fin 1024) :
    mixR x (ix2 r c) = x (ix2 r c) := by
  pointwise [mixR]

/-- What a step writes, at one entry. -/
theorem out8_at (x0 : Vec Ideal S512x1024 .f32) (x1 : Vec Ideal S512x1024 .f32) (x2 : Vec Ideal S1024x1024 .bf16) (x3 : Vec Ideal S1x1024 .f32) (x4 : Vec Ideal S1024x2816 .bf16) (x5 : Vec Ideal S1024x2816 .bf16) (x6 : Vec Ideal S2816x1024 .bf16) (x7 : Vec Ideal S1x1024 .f32) (r : Fin 512) (c : Fin 1024) :
    out0_8 x0 x1 x2 x3 x4 x5 x6 x7 (ix2 r c) =
      rmsRow (accK (fun j => (x0 (ix2 r j) + ∑ i, x1 (ix2 r i) * x2 (ix2 i j) : EReal)) (fun j => x3 (ix2 0 j))
        (fun j f => x4 (ix2 j f)) (fun j f => x5 (ix2 j f)) (fun f j => x6 (ix2 f j))) (fun j => x7 (ix2 0 j)) c := by
  rw [out8_eq]
  unfold ffnOut
  simp only [View.ld_unit_zero (S := S512x1024) zero2, View.ld_unit_zero (S := S1024x1024) zero2, View.ld_unit_zero (S := S1x1024) zero2]
  refine (normed_at _ _ r c).trans ?_
  refine congrArg (fun z => rmsRow z (fun j => x7 (ix2 0 j)) c) (funext fun j => ?_)
  refine (ffnAcc_at _ _ _ _ _ _ _ _ (fun j f => x4 (ix2 j f)) (fun j f => x5 (ix2 j f)) (fun f j => x6 (ix2 f j))
    (fun j f => ldcols_at x4 0 _ j f _ (by show f.val = 0 + f.val; omega)) (fun j f => ldcols_at x4 1408 _ j f _ rfl)
    (fun j f => ldcols_at x5 0 _ j f _ (by show f.val = 0 + f.val; omega)) (fun j f => ldcols_at x5 1408 _ j f _ rfl)
    (fun f j => ldrows_at x6 0 _ f j _ (by show f.val = 0 + f.val; omega)) (fun f j => ldrows_at x6 1408 _ f j _ rfl) r j).trans ?_
  refine congrArg (fun z => accK z (fun j => x3 (ix2 0 j)) (fun j f => x4 (ix2 j f)) (fun j f => x5 (ix2 j f)) (fun f j => x6 (ix2 f j)) j) (funext fun k => ?_)
  refine (resid_at x0 _ x2 r k).trans ?_
  exact congrArg (fun z : EReal => x0 (ix2 r k) + z) (Finset.sum_congr rfl fun i _ => congrArg (fun z : EReal => z * x2 (ix2 i k)) (mix_at x1 r i))

/-! ## The arrays the host prepares -/

variable (m : (ℓ : Loc nD τ sig) → Buf (Elt Ideal) ℓ)

/-- The residual stream, as the kernel's rows. -/
theorem V_h (c : Dev nD) (R : Fin 1024) (C : Fin 1024) :
    V m c main_v0 (ix2 R C) = (m ((c : Thread nD τ).loc main_arg1) : FVec Ideal S128x8x1024 .f32) (ix3 ⟨R.val / 8, by omega⟩ ⟨R.val % 8, by omega⟩ C) := by
  have e : V m c main_v0 = shapeCast S1024x1024 (m ((c : Thread nD τ).loc main_arg1)) shapeCasts_S128x8x1024_S1024x1024 := by
    unfold_abbrev_sides
    after_results
    rfl
  rw [e]
  generalize m ((c : Thread nD τ).loc main_arg1) = x
  exact (show ∀ x : FVec Ideal S128x8x1024 .f32, shapeCast S1024x1024 x shapeCasts_S128x8x1024_S1024x1024 (ix2 R C) = x (ix3 ⟨R.val / 8, by omega⟩ ⟨R.val % 8, by omega⟩ C) from fun x => by pointwise []) x

/-- The attention's output, as the kernel's rows. -/
theorem V_o (c : Dev nD) (R : Fin 1024) (C : Fin 1024) :
    V m c main_v1 (ix2 R C) = (m ((c : Thread nD τ).loc main_arg0) : FVec Ideal S128x8x1024 .f32) (ix3 ⟨R.val / 8, by omega⟩ ⟨R.val % 8, by omega⟩ C) := by
  have e : V m c main_v1 = shapeCast S1024x1024 (m ((c : Thread nD τ).loc main_arg0)) shapeCasts_S128x8x1024_S1024x1024 := by
    unfold_abbrev_sides
    after_results
    rfl
  rw [e]
  generalize m ((c : Thread nD τ).loc main_arg0) = x
  exact (show ∀ x : FVec Ideal S128x8x1024 .f32, shapeCast S1024x1024 x shapeCasts_S128x8x1024_S1024x1024 (ix2 R C) = x (ix3 ⟨R.val / 8, by omega⟩ ⟨R.val % 8, by omega⟩ C) from fun x => by pointwise []) x

/-- The attention's output projection. -/
theorem V_wo (c : Dev nD) (R : Fin 1024) (C : Fin 1024) :
    V m c main_v3 (ix2 R C) = (m ((c : Thread nD τ).loc main_arg2) : FVec Ideal S1x1024x1024 .f32) (ix3 0 R C) := by
  have e : V m c main_v3 = truncf (F := Ideal) .bf16 (shapeCast S1024x1024 (m ((c : Thread nD τ).loc main_arg2)) shapeCasts_S1x1024x1024_S1024x1024) bitsLt_bf16_f32 := by
    unfold_abbrev_sides
    after_results
    rfl
  rw [e]
  generalize m ((c : Thread nD τ).loc main_arg2) = x
  exact (show ∀ x : FVec Ideal S1x1024x1024 .f32, truncf (F := Ideal) .bf16 (shapeCast S1024x1024 x shapeCasts_S1x1024x1024_S1024x1024) bitsLt_bf16_f32 (ix2 R C) = x (ix3 0 R C) from fun x => by pointwise []) x

/-- The second layer's norm gain. -/
theorem V_g (c : Dev nD) (C : Fin 1024) :
    V m c main_v6 (ix2 0 C) = (m ((c : Thread nD τ).loc main_arg3) : FVec Ideal S2x1024 .f32) (ix2 1 C) := by
  have e : V m c main_v6 = broadcastInDim S1x1024 ![1] bcast_S1024_S1x1024_1 (shapeCast S1024 (extractStridedSlice S1x1024 ![1, 0] (m ((c : Thread nD τ).loc main_arg3)) slices_S2x1024_S1x1024_1_0) shapeCasts_S1x1024_S1024) := by
    unfold_abbrev_sides
    after_results
    rfl
  rw [e]
  generalize m ((c : Thread nD τ).loc main_arg3) = x
  exact (show ∀ x : FVec Ideal S2x1024 .f32, broadcastInDim S1x1024 ![1] bcast_S1024_S1x1024_1 (shapeCast S1024 (extractStridedSlice S1x1024 ![1, 0] x slices_S2x1024_S1x1024_1_0) shapeCasts_S1x1024_S1024) (ix2 0 C) = x (ix2 1 C) from fun x => by pointwise []) x

/-- The gate's weights. -/
theorem V_wg (c : Dev nD) (R : Fin 1024) (C : Fin 2816) :
    V m c main_v9 (ix2 R C) = (m ((c : Thread nD τ).loc main_arg4) : FVec Ideal S2x1024x2816 .f32) (ix3 1 R C) := by
  have e : V m c main_v9 = truncf (F := Ideal) .bf16 (shapeCast S1024x2816 (extractStridedSlice S1x1024x2816 ![1, 0, 0] (m ((c : Thread nD τ).loc main_arg4)) slices_S2x1024x2816_S1x1024x2816_1_0_0) shapeCasts_S1x1024x2816_S1024x2816) bitsLt_bf16_f32 := by
    unfold_abbrev_sides
    after_results
    rfl
  rw [e]
  generalize m ((c : Thread nD τ).loc main_arg4) = x
  exact (show ∀ x : FVec Ideal S2x1024x2816 .f32, truncf (F := Ideal) .bf16 (shapeCast S1024x2816 (extractStridedSlice S1x1024x2816 ![1, 0, 0] x slices_S2x1024x2816_S1x1024x2816_1_0_0) shapeCasts_S1x1024x2816_S1024x2816) bitsLt_bf16_f32 (ix2 R C) = x (ix3 1 R C) from fun x => by pointwise []) x

/-- The other weights of the gated product. -/
theorem V_wu (c : Dev nD) (R : Fin 1024) (C : Fin 2816) :
    V m c main_v12 (ix2 R C) = (m ((c : Thread nD τ).loc main_arg5) : FVec Ideal S2x1024x2816 .f32) (ix3 1 R C) := by
  have e : V m c main_v12 = truncf (F := Ideal) .bf16 (shapeCast S1024x2816 (extractStridedSlice S1x1024x2816 ![1, 0, 0] (m ((c : Thread nD τ).loc main_arg5)) slices_S2x1024x2816_S1x1024x2816_1_0_0) shapeCasts_S1x1024x2816_S1024x2816) bitsLt_bf16_f32 := by
    unfold_abbrev_sides
    after_results
    rfl
  rw [e]
  generalize m ((c : Thread nD τ).loc main_arg5) = x
  exact (show ∀ x : FVec Ideal S2x1024x2816 .f32, truncf (F := Ideal) .bf16 (shapeCast S1024x2816 (extractStridedSlice S1x1024x2816 ![1, 0, 0] x slices_S2x1024x2816_S1x1024x2816_1_0_0) shapeCasts_S1x1024x2816_S1024x2816) bitsLt_bf16_f32 (ix2 R C) = x (ix3 1 R C) from fun x => by pointwise []) x

/-- The down projection. -/
theorem V_wd (c : Dev nD) (R : Fin 2816) (C : Fin 1024) :
    V m c main_v15 (ix2 R C) = (m ((c : Thread nD τ).loc main_arg6) : FVec Ideal S2x2816x1024 .f32) (ix3 1 R C) := by
  have e : V m c main_v15 = truncf (F := Ideal) .bf16 (shapeCast S2816x1024 (extractStridedSlice S1x2816x1024 ![1, 0, 0] (m ((c : Thread nD τ).loc main_arg6)) slices_S2x2816x1024_S1x2816x1024_1_0_0) shapeCasts_S1x2816x1024_S2816x1024) bitsLt_bf16_f32 := by
    unfold_abbrev_sides
    after_results
    rfl
  rw [e]
  generalize m ((c : Thread nD τ).loc main_arg6) = x
  exact (show ∀ x : FVec Ideal S2x2816x1024 .f32, truncf (F := Ideal) .bf16 (shapeCast S2816x1024 (extractStridedSlice S1x2816x1024 ![1, 0, 0] x slices_S2x2816x1024_S1x2816x1024_1_0_0) shapeCasts_S1x2816x1024_S2816x1024) bitsLt_bf16_f32 (ix2 R C) = x (ix3 1 R C) from fun x => by pointwise []) x

/-- The last norm's gain. -/
theorem V_gf (c : Dev nD) (C : Fin 1024) :
    V m c main_v16 (ix2 0 C) = (m ((c : Thread nD τ).loc main_arg7) : FVec Ideal S1024 .f32) (ix1 C) := by
  have e : V m c main_v16 = broadcastInDim S1x1024 ![1] bcast_S1024_S1x1024_1 (m ((c : Thread nD τ).loc main_arg7)) := by
    unfold_abbrev_sides
    after_results
  rw [e]
  generalize m ((c : Thread nD τ).loc main_arg7) = x
  exact (show ∀ x : FVec Ideal S1024 .f32, broadcastInDim S1x1024 ![1] bcast_S1024_S1x1024_1 x (ix2 0 C) = x (ix1 C) from fun x => by pointwise []) x

/-! ## The windows' blocks, at one entry -/

/-- Where block 0 lies at each step. -/
theorem idx0 : ∀ t : Fin cfg0.N, win0_0.index t = ![t.val, 0] := (by decide +kernel : ∀ t : Fin grid0.N, _)
/-- Where block 1 lies at each step. -/
theorem idx1 : ∀ t : Fin cfg0.N, win0_1.index t = ![t.val, 0] := (by decide +kernel : ∀ t : Fin grid0.N, _)
/-- Where block 2 lies at each step. -/
theorem idx2 : ∀ t : Fin cfg0.N, win0_2.index t = ![0, 0] := (by decide +kernel : ∀ t : Fin grid0.N, _)
/-- Where block 3 lies at each step. -/
theorem idx3 : ∀ t : Fin cfg0.N, win0_3.index t = ![0, 0] := (by decide +kernel : ∀ t : Fin grid0.N, _)
/-- Where block 4 lies at each step. -/
theorem idx4 : ∀ t : Fin cfg0.N, win0_4.index t = ![0, 0] := (by decide +kernel : ∀ t : Fin grid0.N, _)
/-- Where block 5 lies at each step. -/
theorem idx5 : ∀ t : Fin cfg0.N, win0_5.index t = ![0, 0] := (by decide +kernel : ∀ t : Fin grid0.N, _)
/-- Where block 6 lies at each step. -/
theorem idx6 : ∀ t : Fin cfg0.N, win0_6.index t = ![0, 0] := (by decide +kernel : ∀ t : Fin grid0.N, _)
/-- Where block 7 lies at each step. -/
theorem idx7 : ∀ t : Fin cfg0.N, win0_7.index t = ![0, 0] := (by decide +kernel : ∀ t : Fin grid0.N, _)
/-- Where block 8 lies at each step. -/
theorem idx8 : ∀ t : Fin cfg0.N, win0_8.index t = ![t.val, 0] := (by decide +kernel : ∀ t : Fin grid0.N, _)
/-- There are two steps. -/
theorem pt_lt (t : Fin cfg0.N) : t.val < 2 := (show ∀ t : Fin grid0.N, t.val < 2 by decide +kernel) t

/-- Block 0 at a step, as entries of its array. -/
theorem blk0 (c : Dev nD) (t : Fin cfg0.N) (R : Fin 512) (C : Fin 1024) (R' : Fin 1024) (h : R'.val = 512 * t.val + R.val) : iblk m c 0 t (ix2 R C) = V m c main_v0 (ix2 R' C) := by
  refine congrArg (V m c main_v0) ?_
  blk_ext [idx0]
/-- Block 1 at a step, as entries of its array. -/
theorem blk1 (c : Dev nD) (t : Fin cfg0.N) (R : Fin 512) (C : Fin 1024) (R' : Fin 1024) (h : R'.val = 512 * t.val + R.val) : iblk m c 1 t (ix2 R C) = V m c main_v1 (ix2 R' C) := by
  refine congrArg (V m c main_v1) ?_
  blk_ext [idx1]
/-- Block 2 at a step, as entries of its array. -/
theorem blk2 (c : Dev nD) (t : Fin cfg0.N) (R : Fin 1024) (C : Fin 1024) : iblk m c 2 t (ix2 R C) = V m c main_v3 (ix2 R C) := by
  refine congrArg (V m c main_v3) ?_
  blk_ext [idx2]
/-- Block 3 at a step, as entries of its array. -/
theorem blk3 (c : Dev nD) (t : Fin cfg0.N) (C : Fin 1024) : iblk m c 3 t (ix2 0 C) = V m c main_v6 (ix2 0 C) := by
  refine congrArg (V m c main_v6) ?_
  blk_ext [idx3]
/-- Block 4 at a step, as entries of its array. -/
theorem blk4 (c : Dev nD) (t : Fin cfg0.N) (R : Fin 1024) (C : Fin 2816) : iblk m c 4 t (ix2 R C) = V m c main_v9 (ix2 R C) := by
  refine congrArg (V m c main_v9) ?_
  blk_ext [idx4]
/-- Block 5 at a step, as entries of its array. -/
theorem blk5 (c : Dev nD) (t : Fin cfg0.N) (R : Fin 1024) (C : Fin 2816) : iblk m c 5 t (ix2 R C) = V m c main_v12 (ix2 R C) := by
  refine congrArg (V m c main_v12) ?_
  blk_ext [idx5]
/-- Block 6 at a step, as entries of its array. -/
theorem blk6 (c : Dev nD) (t : Fin cfg0.N) (R : Fin 2816) (C : Fin 1024) : iblk m c 6 t (ix2 R C) = V m c main_v15 (ix2 R C) := by
  refine congrArg (V m c main_v15) ?_
  blk_ext [idx6]
/-- Block 7 at a step, as entries of its array. -/
theorem blk7 (c : Dev nD) (t : Fin cfg0.N) (C : Fin 1024) : iblk m c 7 t (ix2 0 C) = V m c main_v16 (ix2 0 C) := by
  refine congrArg (V m c main_v16) ?_
  blk_ext [idx7]

/-! ## The result over the arguments -/

/-- A row of the result. -/
def yAt (o : FVec Ideal S128x8x1024 .f32) (h : FVec Ideal S128x8x1024 .f32) (wo : FVec Ideal S1x1024x1024 .f32) (ng : FVec Ideal S2x1024 .f32) (wg : FVec Ideal S2x1024x2816 .f32) (wu : FVec Ideal S2x1024x2816 .f32) (wd : FVec Ideal S2x2816x1024 .f32) (gf : FVec Ideal S1024 .f32) (b : Fin 128) (p : Fin 8) (c : Fin 1024) : EReal :=
  rmsRow (accK (fun j => (h (ix3 b p j) + ∑ i, o (ix3 b p i) * wo (ix3 0 i j) : EReal)) (fun j => ng (ix2 1 j)) (fun j f => wg (ix3 1 j f)) (fun j f => wu (ix3 1 j f)) (fun f j => wd (ix3 1 f j))) (fun j => gf (ix1 j)) c

/-- A step's row over the rows that its blocks hold. -/
theorem row_rows (x0 : Vec Ideal S512x1024 .f32) (x1 : Vec Ideal S512x1024 .f32) (x2 : Vec Ideal S1024x1024 .bf16) (x3 : Vec Ideal S1x1024 .f32) (x4 : Vec Ideal S1024x2816 .bf16) (x5 : Vec Ideal S1024x2816 .bf16) (x6 : Vec Ideal S2816x1024 .bf16) (x7 : Vec Ideal S1x1024 .f32) (R : Fin 512) (C : Fin 1024)
    (o : FVec Ideal S128x8x1024 .f32) (h : FVec Ideal S128x8x1024 .f32) (wo : FVec Ideal S1x1024x1024 .f32) (ng : FVec Ideal S2x1024 .f32) (wg : FVec Ideal S2x1024x2816 .f32) (wu : FVec Ideal S2x1024x2816 .f32) (wd : FVec Ideal S2x2816x1024 .f32) (gf : FVec Ideal S1024 .f32) (b : Fin 128) (p : Fin 8)
    (e0 : ∀ j, x0 (ix2 R j) = h (ix3 b p j)) (e1 : ∀ i, x1 (ix2 R i) = o (ix3 b p i)) (e2 : ∀ i j, x2 (ix2 i j) = wo (ix3 0 i j)) (e3 : ∀ j, x3 (ix2 0 j) = ng (ix2 1 j))
    (e4 : ∀ j f, x4 (ix2 j f) = wg (ix3 1 j f)) (e5 : ∀ j f, x5 (ix2 j f) = wu (ix3 1 j f)) (e6 : ∀ f j, x6 (ix2 f j) = wd (ix3 1 f j)) (e7 : ∀ j, x7 (ix2 0 j) = gf (ix1 j)) :
    out0_8 x0 x1 x2 x3 x4 x5 x6 x7 (ix2 R C) = yAt o h wo ng wg wu wd gf b p C := by
  rw [out8_at]
  unfold yAt
  simp only [e0, e1, e2, e3, e4, e5, e6, e7]

/-- A step's block of the result. -/
theorem step8 (c : Dev nD) (t : Fin cfg0.N) (R : Fin 512) (C : Fin 1024) (b : Fin 128) (p : Fin 8) (hp : 8 * b.val + p.val = 512 * t.val + R.val) :
    out0_8 (iblk m c 0 t) (iblk m c 1 t) (iblk m c 2 t) (iblk m c 3 t) (iblk m c 4 t) (iblk m c 5 t) (iblk m c 6 t) (iblk m c 7 t) (ix2 R C) = yAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b p C := by
  have ht := pt_lt t
  have e0 : ∀ j : Fin 1024, iblk m c 0 t (ix2 R j) = (m ((c : Thread nD τ).loc main_arg1) : FVec Ideal S128x8x1024 .f32) (ix3 b p j) := by
    intro j
    rw [blk0 m c t R j ⟨512 * t.val + R.val, by omega⟩ rfl, V_h]
    generalize (m ((c : Thread nD τ).loc main_arg1) : FVec Ideal S128x8x1024 .f32) = x
    congr 2 <;> (apply Fin.ext; dsimp only; omega)
  have e1 : ∀ j : Fin 1024, iblk m c 1 t (ix2 R j) = (m ((c : Thread nD τ).loc main_arg0) : FVec Ideal S128x8x1024 .f32) (ix3 b p j) := by
    intro j
    rw [blk1 m c t R j ⟨512 * t.val + R.val, by omega⟩ rfl, V_o]
    generalize (m ((c : Thread nD τ).loc main_arg0) : FVec Ideal S128x8x1024 .f32) = x
    congr 2 <;> (apply Fin.ext; dsimp only; omega)
  exact row_rows (iblk m c 0 t) (iblk m c 1 t) (iblk m c 2 t) (iblk m c 3 t) (iblk m c 4 t) (iblk m c 5 t) (iblk m c 6 t) (iblk m c 7 t) R C _ _ _ _ _ _ _ _ b p e0 e1 (fun i j => (blk2 m c t i j).trans (V_wo m c i j)) (fun j => (blk3 m c t j).trans (V_g m c j))
    (fun j f => (blk4 m c t j f).trans (V_wg m c j f)) (fun j f => (blk5 m c t j f).trans (V_wu m c j f)) (fun f j => (blk6 m c t f j).trans (V_wd m c f j)) (fun j => (blk7 m c t j).trans (V_gf m c j))

/-- The result's array after the run. -/
theorem final8 (c : Dev nD) : (dats m 0 c).arrAt 8 cfg0.N = fun y : S1024x1024.Idx => (yAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ⟨(y 0).val / 8, by have : (y 0).val < 1024 := (y 0).isLt; omega⟩ ⟨(y 0).val % 8, by omega⟩ (y 1) : Elt Ideal .f32) := by
  refine (dats m 0 c).arrAt_eq_of_covers 8 _ (by decide +kernel) fun t hf y => ?_
  have ht := pt_lt t
  blk_simp
  rw [after0_8]
  obtain ⟨R, C, rfl⟩ : ∃ (R : Fin 512) (C : Fin 1024), y = ix2 R C := ⟨y 0, y 1, ValueIdx.eq_ix2 y⟩
  refine (step8 m c t R C ⟨(512 * t.val + R.val) / 8, by omega⟩ ⟨(512 * t.val + R.val) % 8, by omega⟩ (by dsimp only; omega)).trans ?_
  have e0 : win0_8.index t 0 = t.val := congrFun (idx8 t) 0
  have e1 : (win0_8.blk t).view.emb (ix2 R C) 1 = C := by
    apply Fin.ext
    blk_simp
    have : win0_8.index t 1 = 0 := congrFun (idx8 t) 1
    rw [this]
    exact Nat.zero_add _
  rw [e1]
  congr 1
  · apply Fin.ext
    show (512 * t.val + R.val) / 8 = (win0_8.index t 0 * 512 + R.val) / 8
    rw [e0]; omega
  · apply Fin.ext
    show (512 * t.val + R.val) % 8 = (win0_8.index t 0 * 512 + R.val) % 8
    rw [e0]; omega

end Cert.Kernel3Ideal.Hand

end
-- ==== Proof.RLast.lean ====
module

public import proofs.«01_k».proof.Proof.Gen.Reference3Ideal.Read
public import proofs.«01_k».proof.Proof.LFinal
public import proofs.«01_k».proof.Proof.Math
public import Idealize.ShloMosaic.Lib.Pointwise

@[expose] public section

set_option maxRecDepth 16384

noncomputable section

namespace Cert.Reference3Ideal.Hand

open Cert.Reference3Ideal Cert.Reference3Ideal.Gen Cert.Reference3Ideal.Read Idealize.ShloMosaic Idealize.ShloMosaic.TcCoe
open Cert.KernelIdeal.Hand (rmsRow gateR acc_eq)
open Cert.Kernel3Ideal.Hand (yAt)

/-! ## The third reference, operation by operation -/

/-- The residual stream after the attention's output projection. -/
theorem resid_at (o : FVec Ideal S128x8x1024 .f32) (h : FVec Ideal S128x8x1024 .f32) (wo : FVec Ideal S1x1024x1024 .f32) (b : Fin 128) (p : Fin 8) (c : Fin 1024) :
    val_main_v10 (F := Ideal) o h wo (ix3 b p c) = (h (ix3 b p c) + ∑ i, o (ix3 b p i) * wo (ix3 0 i c) : EReal) := by
  pointwise [val_main_v10, val_main_v9, val_main_v0, dot_S128x8x1024_S1024x1024_S128x8x1024_2_0_01_1_n_n]

/-- The row the feed-forward network reads: the normalized residual row. -/
theorem normed_at (o : FVec Ideal S128x8x1024 .f32) (h : FVec Ideal S128x8x1024 .f32) (wo : FVec Ideal S1x1024x1024 .f32) (ng : FVec Ideal S2x1024 .f32) (b : Fin 128) (p : Fin 8) (c : Fin 1024) :
    val_main_v23 (F := Ideal) o h wo ng (ix3 b p c) = rmsRow (fun j => val_main_v10 (F := Ideal) o h wo (ix3 b p j)) (fun j => ng (ix2 1 j)) c := by
  unfold rmsRow
  unfold val_main_v23 val_main_v20 val_main_v19 val_main_v18 val_main_v17 val_main_v15 val_main_v13 val_main_v12 val_main_v11
  generalize val_main_v10 (F := Ideal) o h wo = x
  pointwise [val_main_v14, val_main_cst, val_main_cst_0, val_main_v16, val_main_cst_1, val_main_v22, val_main_v21, val_main_v2, val_main_v1]

/-- The gate's projection. -/
theorem gate_at (o : FVec Ideal S128x8x1024 .f32) (h : FVec Ideal S128x8x1024 .f32) (wo : FVec Ideal S1x1024x1024 .f32) (ng : FVec Ideal S2x1024 .f32) (wg : FVec Ideal S2x1024x2816 .f32) (b : Fin 128) (p : Fin 8) (f : Fin 2816) :
    val_main_v24 (F := Ideal) o h wo ng wg (ix3 b p f) = (∑ j, val_main_v23 (F := Ideal) o h wo ng (ix3 b p j) * wg (ix3 1 j f) : EReal) := by
  unfold val_main_v24
  generalize val_main_v23 (F := Ideal) o h wo ng = x
  pointwise [val_main_v4, val_main_v3, dot_S128x8x1024_S1024x2816_S128x8x2816_2_0_01_1_n_n]

/-- The other projection. -/
theorem up_at (o : FVec Ideal S128x8x1024 .f32) (h : FVec Ideal S128x8x1024 .f32) (wo : FVec Ideal S1x1024x1024 .f32) (ng : FVec Ideal S2x1024 .f32) (wu : FVec Ideal S2x1024x2816 .f32) (b : Fin 128) (p : Fin 8) (f : Fin 2816) :
    val_main_v26 (F := Ideal) o h wo ng wu (ix3 b p f) = (∑ j, val_main_v23 (F := Ideal) o h wo ng (ix3 b p j) * wu (ix3 1 j f) : EReal) := by
  unfold val_main_v26
  generalize val_main_v23 (F := Ideal) o h wo ng = x
  pointwise [val_main_v6, val_main_v5, dot_S128x8x1024_S1024x2816_S128x8x2816_2_0_01_1_n_n]

/-- The gated product. -/
theorem gated_at (o : FVec Ideal S128x8x1024 .f32) (h : FVec Ideal S128x8x1024 .f32) (wo : FVec Ideal S1x1024x1024 .f32) (ng : FVec Ideal S2x1024 .f32) (wg : FVec Ideal S2x1024x2816 .f32) (wu : FVec Ideal S2x1024x2816 .f32) (b : Fin 128) (p : Fin 8) (f : Fin 2816) :
    val_main_v27 (F := Ideal) o h wo ng wg wu (ix3 b p f) = gateR (val_main_v24 (F := Ideal) o h wo ng wg (ix3 b p f)) (val_main_v26 (F := Ideal) o h wo ng wu (ix3 b p f)) := by
  unfold gateR
  rw [← Ideal.ofBits_one_f32]
  unfold val_main_v27 val_main_v25 val_main_call0_v5 val_main_call0_v3 val_main_call0_v1 val_main_call0_v0
  generalize val_main_v24 (F := Ideal) o h wo ng wg = x
  generalize val_main_v26 (F := Ideal) o h wo ng wu = y
  pointwise [val_main_call0_v4, val_main_call0_cst_0, val_main_call0_v2, val_main_call0_cst]

/-- The residual stream after the feed-forward network. -/
theorem layer_at (o : FVec Ideal S128x8x1024 .f32) (h : FVec Ideal S128x8x1024 .f32) (wo : FVec Ideal S1x1024x1024 .f32) (ng : FVec Ideal S2x1024 .f32) (wg : FVec Ideal S2x1024x2816 .f32) (wu : FVec Ideal S2x1024x2816 .f32) (wd : FVec Ideal S2x2816x1024 .f32) (b : Fin 128) (p : Fin 8) (c : Fin 1024) :
    val_main_v29 (F := Ideal) o h wo ng wg wu wd (ix3 b p c) = (val_main_v10 (F := Ideal) o h wo (ix3 b p c) + ∑ f, val_main_v27 (F := Ideal) o h wo ng wg wu (ix3 b p f) * wd (ix3 1 f c) : EReal) := by
  unfold val_main_v29 val_main_v28
  generalize val_main_v10 (F := Ideal) o h wo = x
  generalize val_main_v27 (F := Ideal) o h wo ng wg wu = y
  pointwise [val_main_v8, val_main_v7, dot_S128x8x2816_S2816x1024_S128x8x1024_2_0_01_1_n_n]

/-- The result, rows of the batch joined: the last normalization of the residual row. -/
theorem out_at (o : FVec Ideal S128x8x1024 .f32) (h : FVec Ideal S128x8x1024 .f32) (wo : FVec Ideal S1x1024x1024 .f32) (ng : FVec Ideal S2x1024 .f32) (wg : FVec Ideal S2x1024x2816 .f32) (wu : FVec Ideal S2x1024x2816 .f32) (wd : FVec Ideal S2x2816x1024 .f32) (gf : FVec Ideal S1024 .f32) (R : Fin 1024) (C : Fin 1024) :
    val_main_v43 (F := Ideal) o h wo ng wg wu wd gf (ix2 R C) = rmsRow (fun j => val_main_v29 (F := Ideal) o h wo ng wg wu wd (ix3 ⟨R.val / 8, by omega⟩ ⟨R.val % 8, by omega⟩ j)) (fun j => gf (ix1 j)) C := by
  unfold rmsRow
  unfold val_main_v43 val_main_v42 val_main_v39 val_main_v38 val_main_v37 val_main_v36 val_main_v34 val_main_v32 val_main_v31 val_main_v30
  generalize val_main_v29 (F := Ideal) o h wo ng wg wu wd = x
  pointwise [val_main_v33, val_main_cst_2, val_main_cst_3, val_main_v35, val_main_cst_4, val_main_v41, val_main_v40]

/-- The third reference's result is the third kernel's, on real gains and gate weights. -/
theorem out_eq (o : FVec Ideal S128x8x1024 .f32) (h : FVec Ideal S128x8x1024 .f32) (wo : FVec Ideal S1x1024x1024 .f32) (ng : FVec Ideal S2x1024 .f32) (wg : FVec Ideal S2x1024x2816 .f32) (wu : FVec Ideal S2x1024x2816 .f32) (wd : FVec Ideal S2x2816x1024 .f32) (gf : FVec Ideal S1024 .f32) (hn : ∀ i, ∃ z : ℝ, ng i = (z : EReal)) (hw : ∀ i, ∃ z : ℝ, wg i = (z : EReal)) (R : Fin 1024) (C : Fin 1024) :
    val_main_v43 (F := Ideal) o h wo ng wg wu wd gf (ix2 R C) = yAt o h wo ng wg wu wd gf ⟨R.val / 8, by omega⟩ ⟨R.val % 8, by omega⟩ C := by
  refine (out_at o h wo ng wg wu wd gf R C).trans ?_
  unfold yAt
  refine congrArg (fun z => rmsRow z (fun j => gf (ix1 j)) C) (funext fun c => ?_)
  generalize (⟨R.val / 8, by omega⟩ : Fin 128) = b
  generalize (⟨R.val % 8, by omega⟩ : Fin 8) = p
  have hr : (fun j => val_main_v10 (F := Ideal) o h wo (ix3 b p j)) = fun j => (h (ix3 b p j) + ∑ i, o (ix3 b p i) * wo (ix3 0 i j) : EReal) := funext fun j => resid_at o h wo b p j
  rw [acc_eq _ _ _ _ _ (fun c => hn _) (fun c f => hw _), ← hr]
  refine (layer_at o h wo ng wg wu wd b p c).trans ?_
  refine congrArg₂ (fun a b : EReal => a + b) (congrFun hr c) (Finset.sum_congr rfl fun f _ => ?_)
  refine congrArg (fun a : EReal => a * wd (ix3 1 f c)) ((gated_at o h wo ng wg wu b p f).trans ?_)
  refine congrArg₂ gateR ((gate_at o h wo ng wg b p f).trans ?_) ((up_at o h wo ng wu b p f).trans ?_)
  · exact Finset.sum_congr rfl fun j _ => congrArg (fun a : EReal => a * wg (ix3 1 j f)) (normed_at o h wo ng b p j)
  · exact Finset.sum_congr rfl fun j _ => congrArg (fun a : EReal => a * wu (ix3 1 j f)) (normed_at o h wo ng b p j)

end Cert.Reference3Ideal.Hand

end
-- ==== Proof.FiniteLast.lean ====
module

public import proofs.«01_k».proof.Pre_finite_last
public import proofs.«01_k».proof.Proof.Finite

@[expose] public section

set_option maxRecDepth 16384

noncomputable section

namespace Cert.Pre_finite_last.Hand

open Cert.Pre_finite_last Idealize.ShloMosaic
open Cert.Pre_finite_scores.Hand (real_of_abs)

/-! ## What the third program's precondition says -/

/-- The shape relations of the precondition hold. -/
theorem facts : Cert.Pre_finite_last.Facts where
  bcast_S_S2x1024 := by decide
  reducesTo_S2x1024_S_d0_1 := by decide
  h_S_ := by decide
  bcast_S_S2x1024x2816 := by decide
  reducesTo_S2x1024x2816_S_d0_1_2 := by decide

instance : Subsingleton S_.Idx := ⟨fun _ _ => funext fun a => a.elim0⟩

/-- The precondition's two conjuncts: norm gains and gate weights are real numbers. -/
theorem finite [Facts] (o : FVec Ideal S128x8x1024 .f32) (h : FVec Ideal S128x8x1024 .f32) (wo : FVec Ideal S1x1024x1024 .f32) (ng : FVec Ideal S2x1024 .f32) (wg : FVec Ideal S2x1024x2816 .f32) (wu : FVec Ideal S2x1024x2816 .f32) (wd : FVec Ideal S2x2816x1024 .f32) (gf : FVec Ideal S1024 .f32)
    (e : fn (F := Ideal) o h wo ng wg wu wd gf = fun _ => 1#1) :
    (∀ i, ∃ z : ℝ, ng i = (z : EReal)) ∧ (∀ i, ∃ z : ℝ, wg i = (z : EReal)) := by
  have e := congrFun e (fun a => a.elim0)
  unfold fn at e
  obtain ⟨hn, hw⟩ := IntOp.andi_eq_one.1 e
  exact ⟨fun i => real_of_abs (ng i) (Host.reduce_andi_all _ _ _ _ _ hn i), fun i => real_of_abs (wg i) (Host.reduce_andi_all _ _ _ _ _ hw i)⟩

end Cert.Pre_finite_last.Hand

end
-- ==== Proof.IRun.lean ====
module

public import proofs.«01_k».proof.Proof.Gen.Kernel4Ideal.Value
public import proofs.«01_k».proof.Proof.KFfn
public import Idealize.ShloMosaic.Lib.Pipeline.CanonAppend
public import Idealize.ShloMosaic.Lib.Pipeline.ValueKit
public import Idealize.ShloMosaic.Lib.Pointwise
public import Idealize.ShloMosaic.Lib.Claim

@[expose] public section

set_option maxRecDepth 16384

noncomputable section

namespace Cert.Kernel4Ideal.Hand

open Cert.Kernel4Ideal Cert.Kernel4Ideal.Gen Idealize.ShloMosaic Idealize.ShloMosaic.TcCoe Idealize.SL.Sem
open Cert.KernelIdeal.Hand (rmsRow zero2)

/-! ## A step of the fourth program: the mixer's norm and input projection -/

section
variable {F : FTy → Type} [FloatOps F]

/-- The normed rows' product with 512 columns of the weights. -/
def prod512 (y : FVec F S512x1024 .bf16) (w : Vec F S1024x512 .bf16) : FVec F S512x512 .f32 :=
  matmul dot_S512x1024_S1024x512_S512x512_1_0_0_1_n_n none y (shapeCast S1024x512 w shapeCasts_S1024x512_S1024x512) (constant S512x512 .f32 0x00000000#32)

/-- The gate's four tiles, the last first. -/
def zPieces (A : Vec F S512x1024 .f32) (B : Vec F S1x1024 .f32) (w0 w1 w2 w3 : Vec F S1024x512 .bf16) : List (View.Piece (Elt F) S512x2048 .f32) :=
  [⟨(Rect.unit (s := S512x2048) ![0, 1536] S512x512.size inb_S512x2048_S512x512_0_1536), prod512 (k0_pay4 A B) w3⟩, ⟨(Rect.unit (s := S512x2048) ![0, 1024] S512x512.size inb_S512x2048_S512x512_0_1024), prod512 (k0_pay4 A B) w2⟩, ⟨(Rect.unit (s := S512x2048) ![0, 512] S512x512.size inb_S512x2048_S512x512_0_512), prod512 (k0_pay4 A B) w1⟩, ⟨(Rect.unit (s := S512x2048) ![0, 0] S512x512.size inb_S512x2048_S512x512_0_0), prod512 (k0_pay4 A B) w0⟩]

/-- The convolution's six tiles, the last first. -/
def xPieces (A : Vec F S512x1024 .f32) (B : Vec F S1x1024 .f32) (w0 w1 w2 w3 w4 w5 : Vec F S1024x512 .bf16) : List (View.Piece (Elt F) S512x3072 .f32) :=
  [⟨(Rect.unit (s := S512x3072) ![0, 2560] S512x512.size inb_S512x3072_S512x512_0_2560), prod512 (k0_pay4 A B) w5⟩, ⟨(Rect.unit (s := S512x3072) ![0, 2048] S512x512.size inb_S512x3072_S512x512_0_2048), prod512 (k0_pay4 A B) w4⟩, ⟨(Rect.unit (s := S512x3072) ![0, 1536] S512x512.size inb_S512x3072_S512x512_0_1536), prod512 (k0_pay4 A B) w3⟩, ⟨(Rect.unit (s := S512x3072) ![0, 1024] S512x512.size inb_S512x3072_S512x512_0_1024), prod512 (k0_pay4 A B) w2⟩, ⟨(Rect.unit (s := S512x3072) ![0, 512] S512x512.size inb_S512x3072_S512x512_0_512), prod512 (k0_pay4 A B) w1⟩, ⟨(Rect.unit (s := S512x3072) ![0, 0] S512x512.size inb_S512x3072_S512x512_0_0), prod512 (k0_pay4 A B) w0⟩]

/-- The step sizes' tiles: 32 columns over zeros. -/
def dPieces (A : Vec F S512x1024 .f32) (B : Vec F S1x1024 .f32) (w : Vec F S1024x32 .bf16) : List (View.Piece (Elt F) S512x128 .f32) :=
  [⟨(Rect.unit (s := S512x128) ![0, 0] S512x32.size inb_S512x128_S512x32_0_0), k0_pay3 (k0_pay4 A B) w⟩, ⟨(Rect.unit (s := S512x128) ![0, 0] S512x128.size inb_S512x128_S512x128_0_0), k0_pay2 (F := F)⟩]

/-- What a step writes of the gate. -/
theorem out3_run (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5152 .bf16) (harg3 : arg3.IsWhole) (arg4 : Memref sig .tc .vmem S512x2048 .f32) (harg4 : arg4.IsWhole) (arg5 : Memref sig .tc .vmem S512x3072 .f32) (harg5 : arg5.IsWhole) (arg6 : Memref sig .tc .vmem S512x128 .f32) (harg6 : arg6.IsWhole) (x0 : Vec F S512x1024 .f32) (x1 : Vec F S1x1024 .f32) (x2 : Vec F S1024x5152 .bf16) :
    out0_A_3 c i arg1 harg1 arg2 harg2 arg3 harg3 arg4 harg4 arg5 harg5 arg6 harg6 x0 x1 x2 = View.canon (zPieces (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S1024x5152) ![0, 0] S1024x512.size inb_S1024x5152_S1024x512_0_0)) (View.ld x2 (Rect.unit (s := S1024x5152) ![0, 512] S1024x512.size inb_S1024x5152_S1024x512_0_512)) (View.ld x2 (Rect.unit (s := S1024x5152) ![0, 1024] S1024x512.size inb_S1024x5152_S1024x512_0_1024)) (View.ld x2 (Rect.unit (s := S1024x5152) ![0, 1536] S1024x512.size inb_S1024x5152_S1024x512_0_1536))) := by
  unfold out0_A_3
  rw [View.read_writes_eq_canon _ _ _ (cover0_A_3 c i arg1 harg1 arg2 harg2 arg3 harg3 arg4 harg4 arg5 harg5 arg6 harg6 x0 x1 x2)]
  have e : zPieces (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S1024x5152) ![0, 0] S1024x512.size inb_S1024x5152_S1024x512_0_0)) (View.ld x2 (Rect.unit (s := S1024x5152) ![0, 512] S1024x512.size inb_S1024x5152_S1024x512_0_512)) (View.ld x2 (Rect.unit (s := S1024x5152) ![0, 1024] S1024x512.size inb_S1024x5152_S1024x512_0_1024)) (View.ld x2 (Rect.unit (s := S1024x5152) ![0, 1536] S1024x512.size inb_S1024x5152_S1024x512_0_1536)) = zPieces (View.readAt (Elt F) arg1.view (Rect.unit (s := S512x1024) ![0, 0] S512x1024.size inb_S512x1024_S512x1024_0_0).toLoadRect (harg1.unread x0)) (View.readAt (Elt F) arg2.view (Rect.unit (s := S1x1024) ![0, 0] S1x1024.size inb_S1x1024_S1x1024_0_0).toLoadRect (harg2.unread x1)) (View.readAt (Elt F) arg3.view (Rect.unit (s := S1024x5152) ![0, 0] S1024x512.size inb_S1024x5152_S1024x512_0_0).toLoadRect (harg3.unread x2)) (View.readAt (Elt F) arg3.view (Rect.unit (s := S1024x5152) ![0, 512] S1024x512.size inb_S1024x5152_S1024x512_0_512).toLoadRect (harg3.unread x2)) (View.readAt (Elt F) arg3.view (Rect.unit (s := S1024x5152) ![0, 1024] S1024x512.size inb_S1024x5152_S1024x512_0_1024).toLoadRect (harg3.unread x2)) (View.readAt (Elt F) arg3.view (Rect.unit (s := S1024x5152) ![0, 1536] S1024x512.size inb_S1024x5152_S1024x512_0_1536).toLoadRect (harg3.unread x2)) := by
    simp only [View.readAt_eq_ld, harg1.read_unread, harg2.read_unread, harg3.read_unread]
  rw [e]
  unfold kernelRun0_A
  dsimp only
  rfl

/-- What a step writes of the convolution's input. -/
theorem out4_run (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5152 .bf16) (harg3 : arg3.IsWhole) (arg4 : Memref sig .tc .vmem S512x2048 .f32) (harg4 : arg4.IsWhole) (arg5 : Memref sig .tc .vmem S512x3072 .f32) (harg5 : arg5.IsWhole) (arg6 : Memref sig .tc .vmem S512x128 .f32) (harg6 : arg6.IsWhole) (x0 : Vec F S512x1024 .f32) (x1 : Vec F S1x1024 .f32) (x2 : Vec F S1024x5152 .bf16) :
    out0_A_4 c i arg1 harg1 arg2 harg2 arg3 harg3 arg4 harg4 arg5 harg5 arg6 harg6 x0 x1 x2 = View.canon (xPieces (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S1024x5152) ![0, 2048] S1024x512.size inb_S1024x5152_S1024x512_0_2048)) (View.ld x2 (Rect.unit (s := S1024x5152) ![0, 2560] S1024x512.size inb_S1024x5152_S1024x512_0_2560)) (View.ld x2 (Rect.unit (s := S1024x5152) ![0, 3072] S1024x512.size inb_S1024x5152_S1024x512_0_3072)) (View.ld x2 (Rect.unit (s := S1024x5152) ![0, 3584] S1024x512.size inb_S1024x5152_S1024x512_0_3584)) (View.ld x2 (Rect.unit (s := S1024x5152) ![0, 4096] S1024x512.size inb_S1024x5152_S1024x512_0_4096)) (View.ld x2 (Rect.unit (s := S1024x5152) ![0, 4608] S1024x512.size inb_S1024x5152_S1024x512_0_4608))) := by
  unfold out0_A_4
  rw [View.read_writes_eq_canon _ _ _ (cover0_A_4 c i arg1 harg1 arg2 harg2 arg3 harg3 arg4 harg4 arg5 harg5 arg6 harg6 x0 x1 x2)]
  have e : xPieces (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S1024x5152) ![0, 2048] S1024x512.size inb_S1024x5152_S1024x512_0_2048)) (View.ld x2 (Rect.unit (s := S1024x5152) ![0, 2560] S1024x512.size inb_S1024x5152_S1024x512_0_2560)) (View.ld x2 (Rect.unit (s := S1024x5152) ![0, 3072] S1024x512.size inb_S1024x5152_S1024x512_0_3072)) (View.ld x2 (Rect.unit (s := S1024x5152) ![0, 3584] S1024x512.size inb_S1024x5152_S1024x512_0_3584)) (View.ld x2 (Rect.unit (s := S1024x5152) ![0, 4096] S1024x512.size inb_S1024x5152_S1024x512_0_4096)) (View.ld x2 (Rect.unit (s := S1024x5152) ![0, 4608] S1024x512.size inb_S1024x5152_S1024x512_0_4608)) = xPieces (View.readAt (Elt F) arg1.view (Rect.unit (s := S512x1024) ![0, 0] S512x1024.size inb_S512x1024_S512x1024_0_0).toLoadRect (harg1.unread x0)) (View.readAt (Elt F) arg2.view (Rect.unit (s := S1x1024) ![0, 0] S1x1024.size inb_S1x1024_S1x1024_0_0).toLoadRect (harg2.unread x1)) (View.readAt (Elt F) arg3.view (Rect.unit (s := S1024x5152) ![0, 2048] S1024x512.size inb_S1024x5152_S1024x512_0_2048).toLoadRect (harg3.unread x2)) (View.readAt (Elt F) arg3.view (Rect.unit (s := S1024x5152) ![0, 2560] S1024x512.size inb_S1024x5152_S1024x512_0_2560).toLoadRect (harg3.unread x2)) (View.readAt (Elt F) arg3.view (Rect.unit (s := S1024x5152) ![0, 3072] S1024x512.size inb_S1024x5152_S1024x512_0_3072).toLoadRect (harg3.unread x2)) (View.readAt (Elt F) arg3.view (Rect.unit (s := S1024x5152) ![0, 3584] S1024x512.size inb_S1024x5152_S1024x512_0_3584).toLoadRect (harg3.unread x2)) (View.readAt (Elt F) arg3.view (Rect.unit (s := S1024x5152) ![0, 4096] S1024x512.size inb_S1024x5152_S1024x512_0_4096).toLoadRect (harg3.unread x2)) (View.readAt (Elt F) arg3.view (Rect.unit (s := S1024x5152) ![0, 4608] S1024x512.size inb_S1024x5152_S1024x512_0_4608).toLoadRect (harg3.unread x2)) := by
    simp only [View.readAt_eq_ld, harg1.read_unread, harg2.read_unread, harg3.read_unread]
  rw [e]
  unfold kernelRun0_A
  dsimp only
  rfl

/-- What a step writes of the step sizes. -/
theorem out5_run (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5152 .bf16) (harg3 : arg3.IsWhole) (arg4 : Memref sig .tc .vmem S512x2048 .f32) (harg4 : arg4.IsWhole) (arg5 : Memref sig .tc .vmem S512x3072 .f32) (harg5 : arg5.IsWhole) (arg6 : Memref sig .tc .vmem S512x128 .f32) (harg6 : arg6.IsWhole) (x0 : Vec F S512x1024 .f32) (x1 : Vec F S1x1024 .f32) (x2 : Vec F S1024x5152 .bf16) :
    out0_A_5 c i arg1 harg1 arg2 harg2 arg3 harg3 arg4 harg4 arg5 harg5 arg6 harg6 x0 x1 x2 = View.canon (dPieces (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S1024x5152) ![0, 5120] S1024x32.size inb_S1024x5152_S1024x32_0_5120))) := by
  unfold out0_A_5
  rw [View.read_writes_eq_canon _ _ _ (cover0_A_5 c i arg1 harg1 arg2 harg2 arg3 harg3 arg4 harg4 arg5 harg5 arg6 harg6 x0 x1 x2)]
  have e : dPieces (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S1024x5152) ![0, 5120] S1024x32.size inb_S1024x5152_S1024x32_0_5120)) = dPieces (View.readAt (Elt F) arg1.view (Rect.unit (s := S512x1024) ![0, 0] S512x1024.size inb_S512x1024_S512x1024_0_0).toLoadRect (harg1.unread x0)) (View.readAt (Elt F) arg2.view (Rect.unit (s := S1x1024) ![0, 0] S1x1024.size inb_S1x1024_S1x1024_0_0).toLoadRect (harg2.unread x1)) (View.readAt (Elt F) arg3.view (Rect.unit (s := S1024x5152) ![0, 5120] S1024x32.size inb_S1024x5152_S1024x32_0_5120).toLoadRect (harg3.unread x2)) := by
    simp only [View.readAt_eq_ld, harg1.read_unread, harg2.read_unread, harg3.read_unread]
  rw [e]
  unfold kernelRun0_A
  dsimp only
  rfl

end

/-! ## At one entry -/

/-- The normed row. -/
theorem normed_at (A : Vec Ideal S512x1024 .f32) (B : Vec Ideal S1x1024 .f32) (r : Fin 512) (j : Fin 1024) :
    k0_pay4 A B (ix2 r j) = rmsRow (fun j => A (ix2 r j)) (fun j => B (ix2 0 j)) j := by
  pointwise [k0_pay4]
  rfl

/-- An entry of a product with 512 columns. -/
theorem prod512_at (y : FVec Ideal S512x1024 .bf16) (w : Vec Ideal S1024x512 .bf16) (r : Fin 512) (l : Fin 512) :
    prod512 y w (ix2 r l) = (∑ j, y (ix2 r j) * w (ix2 j l) : EReal) := by
  pointwise [prod512, dot_S512x1024_S1024x512_S512x512_1_0_0_1_n_n]

/-- An entry of a product with 32 columns. -/
theorem prod32_at (y : FVec Ideal S512x1024 .bf16) (w : Vec Ideal S1024x32 .bf16) (r : Fin 512) (l : Fin 32) :
    k0_pay3 y w (ix2 r l) = (∑ j, y (ix2 r j) * w (ix2 j l) : EReal) := by
  pointwise [k0_pay3, dot_S512x1024_S1024x32_S512x32_1_0_0_1_n_n]

/-- The zeros. -/
theorem zero_at (r : Fin 512) (l : Fin 128) : k0_pay2 (F := Ideal) (ix2 r l) = (0 : EReal) := by
  pointwise [k0_pay2]

/-- A column of 512 columns of the weights. -/
theorem ld512_at (x2 : Vec Ideal S1024x5152 .bf16) (o : ℕ) (inb : ∀ a, (![0, o] : Fin 2 → ℕ) a + S1024x512.size a ≤ S1024x5152.size a) (j : Fin 1024) (l : Fin 512) (C : Fin 5152) (h : C.val = o + l.val) :
    View.ld x2 (Rect.unit (s := S1024x5152) ![0, o] S1024x512.size inb) (ix2 j l) = x2 (ix2 j C) := by
  refine congrArg x2 (funext fun a => Fin.ext ?_)
  match a with
  | ⟨0, _⟩ => show 0 + 1 * j.val = j.val; omega
  | ⟨1, _⟩ => show o + 1 * l.val = C.val; omega

/-- A column of 32 columns of the weights. -/
theorem ld32_at (x2 : Vec Ideal S1024x5152 .bf16) (o : ℕ) (inb : ∀ a, (![0, o] : Fin 2 → ℕ) a + S1024x32.size a ≤ S1024x5152.size a) (j : Fin 1024) (l : Fin 32) (C : Fin 5152) (h : C.val = o + l.val) :
    View.ld x2 (Rect.unit (s := S1024x5152) ![0, o] S1024x32.size inb) (ix2 j l) = x2 (ix2 j C) := by
  refine congrArg x2 (funext fun a => Fin.ext ?_)
  match a with
  | ⟨0, _⟩ => show 0 + 1 * j.val = j.val; omega
  | ⟨1, _⟩ => show o + 1 * l.val = C.val; omega

/-- An entry of a step's product: the normed row against a column of the weights. -/
def projRow (x0 : Vec Ideal S512x1024 .f32) (x1 : Vec Ideal S1x1024 .f32) (x2 : Vec Ideal S1024x5152 .bf16) (r : Fin 512) (C : Fin 5152) : EReal :=
  ∑ j, rmsRow (fun j => x0 (ix2 r j)) (fun j => x1 (ix2 0 j)) j * x2 (ix2 j C)

/-- The gate's columns of the weights. -/
def colZ (C : Fin 2048) : Fin 5152 := ⟨0 + C.val, by omega⟩

/-- The convolution's columns of the weights. -/
def colX (C : Fin 3072) : Fin 5152 := ⟨2048 + C.val, by omega⟩

/-- A tile's entry. -/
theorem tile_at (x0 : Vec Ideal S512x1024 .f32) (x1 : Vec Ideal S1x1024 .f32) (x2 : Vec Ideal S1024x5152 .bf16) (o : ℕ) (inb : ∀ a, (![0, o] : Fin 2 → ℕ) a + S1024x512.size a ≤ S1024x5152.size a) (r : Fin 512) (l : Fin 512) (C : Fin 5152) (h : C.val = o + l.val) :
    prod512 (k0_pay4 x0 x1) (View.ld x2 (Rect.unit (s := S1024x5152) ![0, o] S1024x512.size inb)) (ix2 r l) = projRow x0 x1 x2 r C := by
  refine (prod512_at _ _ r l).trans (Finset.sum_congr rfl fun j _ => ?_)
  exact congrArg₂ (fun a b : EReal => a * b) (normed_at x0 x1 r j) (ld512_at x2 o inb j l C h)

/-- The tiles cover their block. -/
theorem cover3 (A : Vec Ideal S512x1024 .f32) (B : Vec Ideal S1x1024 .f32) (w0 w1 w2 w3 : Vec Ideal S1024x512 .bf16) (y : S512x2048.Idx) :
    ∃ p ∈ zPieces A B w0 w1 w2 w3, y ∈ p.1.set :=
  View.cover_of_tiledL (zPieces A B w0 w1 w2 w3) S512x512.size (by sl_kernel_rfl) y

/-- The tiles cover their block. -/
theorem cover4 (A : Vec Ideal S512x1024 .f32) (B : Vec Ideal S1x1024 .f32) (w0 w1 w2 w3 w4 w5 : Vec Ideal S1024x512 .bf16) (y : S512x3072.Idx) :
    ∃ p ∈ xPieces A B w0 w1 w2 w3 w4 w5, y ∈ p.1.set :=
  View.cover_of_tiledL (xPieces A B w0 w1 w2 w3 w4 w5) S512x512.size (by sl_kernel_rfl) y

/-- What a step writes of the gate, at one entry. -/
theorem out3_at (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5152 .bf16) (harg3 : arg3.IsWhole) (arg4 : Memref sig .tc .vmem S512x2048 .f32) (harg4 : arg4.IsWhole) (arg5 : Memref sig .tc .vmem S512x3072 .f32) (harg5 : arg5.IsWhole) (arg6 : Memref sig .tc .vmem S512x128 .f32) (harg6 : arg6.IsWhole) (x0 : Vec Ideal S512x1024 .f32) (x1 : Vec Ideal S1x1024 .f32) (x2 : Vec Ideal S1024x5152 .bf16) (r : Fin 512) (C : Fin 2048) :
    out0_A_3 c i arg1 harg1 arg2 harg2 arg3 harg3 arg4 harg4 arg5 harg5 arg6 harg6 x0 x1 x2 (ix2 r C) = projRow x0 x1 x2 r (colZ C) := by
  rw [out3_run, View.ld_unit_zero (S := S512x1024) zero2, View.ld_unit_zero (S := S1x1024) zero2]
  unfold zPieces
  refine View.canon_apply_of_pieces (Val := Elt Ideal) (fun z : S512x2048.Idx => (projRow x0 x1 x2 (z 0) (colZ (z 1)) : Elt Ideal .f32)) _ ?_ (ix2 r C)
    (cover3 _ _ _ _ _ _ _)
  refine List.forall_mem_cons.2 ⟨fun x => ?_, ?_⟩
  · obtain ⟨R, l, rfl⟩ : ∃ (R : Fin 512) (l : Fin 512), x = ix2 R l := ⟨x 0, x 1, ValueIdx.eq_ix2 x⟩
    have e0 : (Rect.unit (s := S512x2048) ![0, 1536] S512x512.size inb_S512x2048_S512x512_0_1536).emb (ix2 R l) 0 = R := Fin.ext (by show 0 + 1 * R.val = R.val; omega)
    have e1 : (Rect.unit (s := S512x2048) ![0, 1536] S512x512.size inb_S512x2048_S512x512_0_1536).emb (ix2 R l) 1 = (⟨1536 + l.val, by omega⟩ : Fin 2048) := Fin.ext (by show 1536 + 1 * l.val = 1536 + l.val; omega)
    dsimp only
    rw [e0, e1]
    exact tile_at x0 x1 x2 1536 _ R l _ (by show 0 + (1536 + l.val) = 1536 + l.val; omega)
  refine List.forall_mem_cons.2 ⟨fun x => ?_, ?_⟩
  · obtain ⟨R, l, rfl⟩ : ∃ (R : Fin 512) (l : Fin 512), x = ix2 R l := ⟨x 0, x 1, ValueIdx.eq_ix2 x⟩
    have e0 : (Rect.unit (s := S512x2048) ![0, 1024] S512x512.size inb_S512x2048_S512x512_0_1024).emb (ix2 R l) 0 = R := Fin.ext (by show 0 + 1 * R.val = R.val; omega)
    have e1 : (Rect.unit (s := S512x2048) ![0, 1024] S512x512.size inb_S512x2048_S512x512_0_1024).emb (ix2 R l) 1 = (⟨1024 + l.val, by omega⟩ : Fin 2048) := Fin.ext (by show 1024 + 1 * l.val = 1024 + l.val; omega)
    dsimp only
    rw [e0, e1]
    exact tile_at x0 x1 x2 1024 _ R l _ (by show 0 + (1024 + l.val) = 1024 + l.val; omega)
  refine List.forall_mem_cons.2 ⟨fun x => ?_, ?_⟩
  · obtain ⟨R, l, rfl⟩ : ∃ (R : Fin 512) (l : Fin 512), x = ix2 R l := ⟨x 0, x 1, ValueIdx.eq_ix2 x⟩
    have e0 : (Rect.unit (s := S512x2048) ![0, 512] S512x512.size inb_S512x2048_S512x512_0_512).emb (ix2 R l) 0 = R := Fin.ext (by show 0 + 1 * R.val = R.val; omega)
    have e1 : (Rect.unit (s := S512x2048) ![0, 512] S512x512.size inb_S512x2048_S512x512_0_512).emb (ix2 R l) 1 = (⟨512 + l.val, by omega⟩ : Fin 2048) := Fin.ext (by show 512 + 1 * l.val = 512 + l.val; omega)
    dsimp only
    rw [e0, e1]
    exact tile_at x0 x1 x2 512 _ R l _ (by show 0 + (512 + l.val) = 512 + l.val; omega)
  refine List.forall_mem_cons.2 ⟨fun x => ?_, ?_⟩
  · obtain ⟨R, l, rfl⟩ : ∃ (R : Fin 512) (l : Fin 512), x = ix2 R l := ⟨x 0, x 1, ValueIdx.eq_ix2 x⟩
    have e0 : (Rect.unit (s := S512x2048) ![0, 0] S512x512.size inb_S512x2048_S512x512_0_0).emb (ix2 R l) 0 = R := Fin.ext (by show 0 + 1 * R.val = R.val; omega)
    have e1 : (Rect.unit (s := S512x2048) ![0, 0] S512x512.size inb_S512x2048_S512x512_0_0).emb (ix2 R l) 1 = (⟨0 + l.val, by omega⟩ : Fin 2048) := Fin.ext (by show 0 + 1 * l.val = 0 + l.val; omega)
    dsimp only
    rw [e0, e1]
    exact tile_at x0 x1 x2 0 _ R l _ (by show 0 + (0 + l.val) = 0 + l.val; omega)
  exact fun p hp => absurd hp List.not_mem_nil

/-- What a step writes of the convolution's input, at one entry. -/
theorem out4_at (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5152 .bf16) (harg3 : arg3.IsWhole) (arg4 : Memref sig .tc .vmem S512x2048 .f32) (harg4 : arg4.IsWhole) (arg5 : Memref sig .tc .vmem S512x3072 .f32) (harg5 : arg5.IsWhole) (arg6 : Memref sig .tc .vmem S512x128 .f32) (harg6 : arg6.IsWhole) (x0 : Vec Ideal S512x1024 .f32) (x1 : Vec Ideal S1x1024 .f32) (x2 : Vec Ideal S1024x5152 .bf16) (r : Fin 512) (C : Fin 3072) :
    out0_A_4 c i arg1 harg1 arg2 harg2 arg3 harg3 arg4 harg4 arg5 harg5 arg6 harg6 x0 x1 x2 (ix2 r C) = projRow x0 x1 x2 r (colX C) := by
  rw [out4_run, View.ld_unit_zero (S := S512x1024) zero2, View.ld_unit_zero (S := S1x1024) zero2]
  unfold xPieces
  refine View.canon_apply_of_pieces (Val := Elt Ideal) (fun z : S512x3072.Idx => (projRow x0 x1 x2 (z 0) (colX (z 1)) : Elt Ideal .f32)) _ ?_ (ix2 r C)
    (cover4 _ _ _ _ _ _ _ _ _)
  refine List.forall_mem_cons.2 ⟨fun x => ?_, ?_⟩
  · obtain ⟨R, l, rfl⟩ : ∃ (R : Fin 512) (l : Fin 512), x = ix2 R l := ⟨x 0, x 1, ValueIdx.eq_ix2 x⟩
    have e0 : (Rect.unit (s := S512x3072) ![0, 2560] S512x512.size inb_S512x3072_S512x512_0_2560).emb (ix2 R l) 0 = R := Fin.ext (by show 0 + 1 * R.val = R.val; omega)
    have e1 : (Rect.unit (s := S512x3072) ![0, 2560] S512x512.size inb_S512x3072_S512x512_0_2560).emb (ix2 R l) 1 = (⟨2560 + l.val, by omega⟩ : Fin 3072) := Fin.ext (by show 2560 + 1 * l.val = 2560 + l.val; omega)
    dsimp only
    rw [e0, e1]
    exact tile_at x0 x1 x2 4608 _ R l _ (by show 2048 + (2560 + l.val) = 4608 + l.val; omega)
  refine List.forall_mem_cons.2 ⟨fun x => ?_, ?_⟩
  · obtain ⟨R, l, rfl⟩ : ∃ (R : Fin 512) (l : Fin 512), x = ix2 R l := ⟨x 0, x 1, ValueIdx.eq_ix2 x⟩
    have e0 : (Rect.unit (s := S512x3072) ![0, 2048] S512x512.size inb_S512x3072_S512x512_0_2048).emb (ix2 R l) 0 = R := Fin.ext (by show 0 + 1 * R.val = R.val; omega)
    have e1 : (Rect.unit (s := S512x3072) ![0, 2048] S512x512.size inb_S512x3072_S512x512_0_2048).emb (ix2 R l) 1 = (⟨2048 + l.val, by omega⟩ : Fin 3072) := Fin.ext (by show 2048 + 1 * l.val = 2048 + l.val; omega)
    dsimp only
    rw [e0, e1]
    exact tile_at x0 x1 x2 4096 _ R l _ (by show 2048 + (2048 + l.val) = 4096 + l.val; omega)
  refine List.forall_mem_cons.2 ⟨fun x => ?_, ?_⟩
  · obtain ⟨R, l, rfl⟩ : ∃ (R : Fin 512) (l : Fin 512), x = ix2 R l := ⟨x 0, x 1, ValueIdx.eq_ix2 x⟩
    have e0 : (Rect.unit (s := S512x3072) ![0, 1536] S512x512.size inb_S512x3072_S512x512_0_1536).emb (ix2 R l) 0 = R := Fin.ext (by show 0 + 1 * R.val = R.val; omega)
    have e1 : (Rect.unit (s := S512x3072) ![0, 1536] S512x512.size inb_S512x3072_S512x512_0_1536).emb (ix2 R l) 1 = (⟨1536 + l.val, by omega⟩ : Fin 3072) := Fin.ext (by show 1536 + 1 * l.val = 1536 + l.val; omega)
    dsimp only
    rw [e0, e1]
    exact tile_at x0 x1 x2 3584 _ R l _ (by show 2048 + (1536 + l.val) = 3584 + l.val; omega)
  refine List.forall_mem_cons.2 ⟨fun x => ?_, ?_⟩
  · obtain ⟨R, l, rfl⟩ : ∃ (R : Fin 512) (l : Fin 512), x = ix2 R l := ⟨x 0, x 1, ValueIdx.eq_ix2 x⟩
    have e0 : (Rect.unit (s := S512x3072) ![0, 1024] S512x512.size inb_S512x3072_S512x512_0_1024).emb (ix2 R l) 0 = R := Fin.ext (by show 0 + 1 * R.val = R.val; omega)
    have e1 : (Rect.unit (s := S512x3072) ![0, 1024] S512x512.size inb_S512x3072_S512x512_0_1024).emb (ix2 R l) 1 = (⟨1024 + l.val, by omega⟩ : Fin 3072) := Fin.ext (by show 1024 + 1 * l.val = 1024 + l.val; omega)
    dsimp only
    rw [e0, e1]
    exact tile_at x0 x1 x2 3072 _ R l _ (by show 2048 + (1024 + l.val) = 3072 + l.val; omega)
  refine List.forall_mem_cons.2 ⟨fun x => ?_, ?_⟩
  · obtain ⟨R, l, rfl⟩ : ∃ (R : Fin 512) (l : Fin 512), x = ix2 R l := ⟨x 0, x 1, ValueIdx.eq_ix2 x⟩
    have e0 : (Rect.unit (s := S512x3072) ![0, 512] S512x512.size inb_S512x3072_S512x512_0_512).emb (ix2 R l) 0 = R := Fin.ext (by show 0 + 1 * R.val = R.val; omega)
    have e1 : (Rect.unit (s := S512x3072) ![0, 512] S512x512.size inb_S512x3072_S512x512_0_512).emb (ix2 R l) 1 = (⟨512 + l.val, by omega⟩ : Fin 3072) := Fin.ext (by show 512 + 1 * l.val = 512 + l.val; omega)
    dsimp only
    rw [e0, e1]
    exact tile_at x0 x1 x2 2560 _ R l _ (by show 2048 + (512 + l.val) = 2560 + l.val; omega)
  refine List.forall_mem_cons.2 ⟨fun x => ?_, ?_⟩
  · obtain ⟨R, l, rfl⟩ : ∃ (R : Fin 512) (l : Fin 512), x = ix2 R l := ⟨x 0, x 1, ValueIdx.eq_ix2 x⟩
    have e0 : (Rect.unit (s := S512x3072) ![0, 0] S512x512.size inb_S512x3072_S512x512_0_0).emb (ix2 R l) 0 = R := Fin.ext (by show 0 + 1 * R.val = R.val; omega)
    have e1 : (Rect.unit (s := S512x3072) ![0, 0] S512x512.size inb_S512x3072_S512x512_0_0).emb (ix2 R l) 1 = (⟨0 + l.val, by omega⟩ : Fin 3072) := Fin.ext (by show 0 + 1 * l.val = 0 + l.val; omega)
    dsimp only
    rw [e0, e1]
    exact tile_at x0 x1 x2 2048 _ R l _ (by show 2048 + (0 + l.val) = 2048 + l.val; omega)
  exact fun p hp => absurd hp List.not_mem_nil

/-- What a step writes of the step sizes, at one of the 32 columns. -/
theorem out5_at (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5152 .bf16) (harg3 : arg3.IsWhole) (arg4 : Memref sig .tc .vmem S512x2048 .f32) (harg4 : arg4.IsWhole) (arg5 : Memref sig .tc .vmem S512x3072 .f32) (harg5 : arg5.IsWhole) (arg6 : Memref sig .tc .vmem S512x128 .f32) (harg6 : arg6.IsWhole) (x0 : Vec Ideal S512x1024 .f32) (x1 : Vec Ideal S1x1024 .f32) (x2 : Vec Ideal S1024x5152 .bf16) (r : Fin 512) (l : Fin 32) :
    out0_A_5 c i arg1 harg1 arg2 harg2 arg3 harg3 arg4 harg4 arg5 harg5 arg6 harg6 x0 x1 x2 (ix2 r ⟨l.val, by omega⟩) = projRow x0 x1 x2 r ⟨5120 + l.val, by omega⟩ := by
  rw [out5_run, View.ld_unit_zero (S := S512x1024) zero2, View.ld_unit_zero (S := S1x1024) zero2]
  unfold dPieces
  have e : (ix2 r (⟨l.val, by omega⟩ : Fin 128) : S512x128.Idx) = (Rect.unit (s := S512x128) ![0, 0] S512x32.size inb_S512x128_S512x32_0_0).emb (ix2 r l) := by
    funext a
    apply Fin.ext
    match a with
    | ⟨0, _⟩ => show r.val = 0 + 1 * r.val; omega
    | ⟨1, _⟩ => show l.val = 0 + 1 * l.val; omega
  rw [e]
  refine (View.canon_cons_emb (Rect.unit (s := S512x128) ![0, 0] S512x32.size inb_S512x128_S512x32_0_0) _ _ (ix2 r l)).trans ?_
  refine (prod32_at _ _ r l).trans (Finset.sum_congr rfl fun j _ => ?_)
  exact congrArg₂ (fun a b : EReal => a * b) (normed_at x0 x1 r j) (ld32_at x2 5120 _ j l _ rfl)

/-- What a step writes of the step sizes beyond the 32 columns: zeros. -/
theorem out5_zero (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5152 .bf16) (harg3 : arg3.IsWhole) (arg4 : Memref sig .tc .vmem S512x2048 .f32) (harg4 : arg4.IsWhole) (arg5 : Memref sig .tc .vmem S512x3072 .f32) (harg5 : arg5.IsWhole) (arg6 : Memref sig .tc .vmem S512x128 .f32) (harg6 : arg6.IsWhole) (x0 : Vec Ideal S512x1024 .f32) (x1 : Vec Ideal S1x1024 .f32) (x2 : Vec Ideal S1024x5152 .bf16) (r : Fin 512) (C : Fin 128) (h : 32 ≤ C.val) :
    out0_A_5 c i arg1 harg1 arg2 harg2 arg3 harg3 arg4 harg4 arg5 harg5 arg6 harg6 x0 x1 x2 (ix2 r C) = (0 : EReal) := by
  rw [out5_run]
  unfold dPieces
  refine (View.canon_cons_of_not_mem _ _ ?_).trans ?_
  · intro hm
    obtain ⟨j, hj, hx⟩ := (LoadRect.mem_set _).1 hm 1
    have e2 : C.val = 0 + 1 * j := hx
    have e3 : j < 32 := hj
    omega
  · exact (congrFun (View.canon_unit_zero (by funext a; match a with | ⟨0, _⟩ => rfl | ⟨1, _⟩ => rfl) _ _) _).trans (zero_at r C)

end Cert.Kernel4Ideal.Hand

end
-- ==== Proof.IFinal.lean ====
module

public import proofs.«01_k».proof.Proof.IRun

@[expose] public section

set_option maxRecDepth 16384

noncomputable section

namespace Cert.Kernel4Ideal.Hand

open Cert.Kernel4Ideal Cert.Kernel4Ideal.Gen Idealize.ShloMosaic Idealize.ShloMosaic.TcCoe Idealize.SL.Sem
open Cert.KernelIdeal.Hand (rmsRow)

variable (m : (ℓ : Loc nD τ sig) → Buf (Elt Ideal) ℓ)

/-! ## The arrays the host prepares -/

/-- The residual stream, as the kernel's rows. -/
theorem V_h (c : Dev nD) (R C : Fin 1024) :
    V m c main_v0 (ix2 R C) = (m ((c : Thread nD τ).loc main_arg0) : FVec Ideal S128x8x1024 .f32) (ix3 ⟨R.val / 8, by omega⟩ ⟨R.val % 8, by omega⟩ C) := by
  have e : V m c main_v0 = shapeCast S1024x1024 (m ((c : Thread nD τ).loc main_arg0)) shapeCasts_S128x8x1024_S1024x1024 := by
    unfold_abbrev_sides
    after_results
    rfl
  rw [e]
  generalize m ((c : Thread nD τ).loc main_arg0) = x
  exact (show ∀ x : FVec Ideal S128x8x1024 .f32, shapeCast S1024x1024 x shapeCasts_S128x8x1024_S1024x1024 (ix2 R C) = x (ix3 ⟨R.val / 8, by omega⟩ ⟨R.val % 8, by omega⟩ C) from fun x => by pointwise []) x

/-- The norm's gain. -/
theorem V_g (c : Dev nD) (C : Fin 1024) :
    V m c main_v2 (ix2 0 C) = (m ((c : Thread nD τ).loc main_arg1) : FVec Ideal S1x1024 .f32) (ix2 0 C) := by
  have e : V m c main_v2 = broadcastInDim S1x1024 ![1] bcast_S1024_S1x1024_1 (shapeCast S1024 (m ((c : Thread nD τ).loc main_arg1)) shapeCasts_S1x1024_S1024) := by
    unfold_abbrev_sides
    after_results
    rfl
  rw [e]
  generalize m ((c : Thread nD τ).loc main_arg1) = x
  exact (show ∀ x : FVec Ideal S1x1024 .f32, broadcastInDim S1x1024 ![1] bcast_S1024_S1x1024_1 (shapeCast S1024 x shapeCasts_S1x1024_S1024) (ix2 0 C) = x (ix2 0 C) from fun x => by pointwise []) x

/-- The input projection's weights. -/
theorem V_w (c : Dev nD) (R : Fin 1024) (C : Fin 5152) :
    V m c main_v4 (ix2 R C) = (m ((c : Thread nD τ).loc main_arg2) : FVec Ideal S1x1024x5152 .f32) (ix3 0 R C) := by
  have e : V m c main_v4 = truncf (F := Ideal) .bf16 (shapeCast S1024x5152 (m ((c : Thread nD τ).loc main_arg2)) shapeCasts_S1x1024x5152_S1024x5152) bitsLt_bf16_f32 := by
    unfold_abbrev_sides
    after_results
    rfl
  rw [e]
  generalize m ((c : Thread nD τ).loc main_arg2) = x
  exact (show ∀ x : FVec Ideal S1x1024x5152 .f32, truncf (F := Ideal) .bf16 (shapeCast S1024x5152 x shapeCasts_S1x1024x5152_S1024x5152) bitsLt_bf16_f32 (ix2 R C) = x (ix3 0 R C) from fun x => by pointwise []) x

/-! ## The windows' blocks, at one entry -/

/-- Where block 0 lies at each step. -/
theorem idx0 : ∀ t : Fin cfg0.N, win0_0.index t = ![t.val, 0] := (by decide +kernel : ∀ t : Fin grid0.N, _)
/-- Where block 1 lies at each step. -/
theorem idx1 : ∀ t : Fin cfg0.N, win0_1.index t = ![0, 0] := (by decide +kernel : ∀ t : Fin grid0.N, _)
/-- Where block 2 lies at each step. -/
theorem idx2 : ∀ t : Fin cfg0.N, win0_2.index t = ![0, 0] := (by decide +kernel : ∀ t : Fin grid0.N, _)
/-- Where block 3 lies at each step. -/
theorem idx3 : ∀ t : Fin cfg0.N, win0_3.index t = ![t.val, 0] := (by decide +kernel : ∀ t : Fin grid0.N, _)
/-- Where block 4 lies at each step. -/
theorem idx4 : ∀ t : Fin cfg0.N, win0_4.index t = ![t.val, 0] := (by decide +kernel : ∀ t : Fin grid0.N, _)
/-- Where block 5 lies at each step. -/
theorem idx5 : ∀ t : Fin cfg0.N, win0_5.index t = ![t.val, 0] := (by decide +kernel : ∀ t : Fin grid0.N, _)
/-- There are two steps. -/
theorem pt_lt (t : Fin cfg0.N) : t.val < 2 := (show ∀ t : Fin grid0.N, t.val < 2 by decide +kernel) t

/-- Block 0 at a step, as entries of its array. -/
theorem blk0 (c : Dev nD) (t : Fin cfg0.N) (R : Fin 512) (C : Fin 1024) (R' : Fin 1024) (h : R'.val = 512 * t.val + R.val) : iblk m c 0 t (ix2 R C) = V m c main_v0 (ix2 R' C) := by
  refine congrArg (V m c main_v0) ?_
  blk_ext [idx0]
/-- Block 1 at a step, as entries of its array. -/
theorem blk1 (c : Dev nD) (t : Fin cfg0.N) (C : Fin 1024) : iblk m c 1 t (ix2 0 C) = V m c main_v2 (ix2 0 C) := by
  refine congrArg (V m c main_v2) ?_
  blk_ext [idx1]
/-- Block 2 at a step, as entries of its array. -/
theorem blk2 (c : Dev nD) (t : Fin cfg0.N) (R : Fin 1024) (C : Fin 5152) : iblk m c 2 t (ix2 R C) = V m c main_v4 (ix2 R C) := by
  refine congrArg (V m c main_v4) ?_
  blk_ext [idx2]

/-! ## The results over the arguments -/

/-- An entry of the input projection: a normed row against a column of the weights. -/
def pAt (h : FVec Ideal S128x8x1024 .f32) (g : FVec Ideal S1x1024 .f32) (w : FVec Ideal S1x1024x5152 .f32) (b : Fin 128) (p : Fin 8) (C : Fin 5152) : EReal :=
  ∑ j, rmsRow (fun j => h (ix3 b p j)) (fun j => g (ix2 0 j)) j * w (ix3 0 j C)

/-- An entry of the step sizes, which fill 32 of 128 lanes. -/
def dAt (h : FVec Ideal S128x8x1024 .f32) (g : FVec Ideal S1x1024 .f32) (w : FVec Ideal S1x1024x5152 .f32) (b : Fin 128) (p : Fin 8) (C : Fin 128) : EReal :=
  if hC : C.val < 32 then pAt h g w b p ⟨5120 + C.val, by omega⟩ else 0

/-- A step's row over the rows that its blocks hold. -/
theorem row_rows (x0 : Vec Ideal S512x1024 .f32) (x1 : Vec Ideal S1x1024 .f32) (x2 : Vec Ideal S1024x5152 .bf16) (R : Fin 512) (C : Fin 5152)
    (h : FVec Ideal S128x8x1024 .f32) (g : FVec Ideal S1x1024 .f32) (w : FVec Ideal S1x1024x5152 .f32) (b : Fin 128) (p : Fin 8)
    (e0 : ∀ j, x0 (ix2 R j) = h (ix3 b p j)) (e1 : ∀ j, x1 (ix2 0 j) = g (ix2 0 j)) (e2 : ∀ j, x2 (ix2 j C) = w (ix3 0 j C)) :
    projRow x0 x1 x2 R C = pAt h g w b p C := by
  unfold projRow pAt
  simp only [e0, e1, e2]

/-- A step's product over the arguments. -/
theorem step_at (c : Dev nD) (t : Fin cfg0.N) (R : Fin 512) (C : Fin 5152) (b : Fin 128) (p : Fin 8) (hp : 8 * b.val + p.val = 512 * t.val + R.val) :
    projRow (iblk m c 0 t) (iblk m c 1 t) (iblk m c 2 t) R C = pAt (m ((c : Thread nD τ).loc main_arg0)) (m ((c : Thread nD τ).loc main_arg1)) (m ((c : Thread nD τ).loc main_arg2)) b p C := by
  have ht := pt_lt t
  have e0 : ∀ j : Fin 1024, iblk m c 0 t (ix2 R j) = (m ((c : Thread nD τ).loc main_arg0) : FVec Ideal S128x8x1024 .f32) (ix3 b p j) := by
    intro j
    rw [blk0 m c t R j ⟨512 * t.val + R.val, by omega⟩ rfl, V_h]
    generalize (m ((c : Thread nD τ).loc main_arg0) : FVec Ideal S128x8x1024 .f32) = x
    congr 2 <;> (apply Fin.ext; dsimp only; omega)
  exact row_rows (iblk m c 0 t) (iblk m c 1 t) (iblk m c 2 t) R C _ _ _ b p e0 (fun j => (blk1 m c t j).trans (V_g m c j)) (fun j => (blk2 m c t j C).trans (V_w m c j C))

/-- What a step leaves of the gate, by name. -/
theorem outs3 (c : Dev nD) (t : Fin cfg0.N) : (outsAt0 m c t).1 = out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) := by
  simp only [outsAt0]

/-- What a step leaves of the convolution's input, by name. -/
theorem outs4 (c : Dev nD) (t : Fin cfg0.N) : (outsAt0 m c t).2.1 = out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) := by
  simp only [outsAt0]

/-- What a step leaves of the step sizes, by name. -/
theorem outs5 (c : Dev nD) (t : Fin cfg0.N) : (outsAt0 m c t).2.2 = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) := by
  simp only [outsAt0]

/-- A step's block of the step sizes. -/
theorem step5 (c : Dev nD) (t : Fin cfg0.N) (R : Fin 512) (C : Fin 128) (b : Fin 128) (p : Fin 8) (hp : 8 * b.val + p.val = 512 * t.val + R.val) :
    (outsAt0 m c t).2.2 (ix2 R C) = dAt (m ((c : Thread nD τ).loc main_arg0)) (m ((c : Thread nD τ).loc main_arg1)) (m ((c : Thread nD τ).loc main_arg2)) b p C := by
  rw [outs5]
  unfold dAt
  by_cases hC : C.val < 32
  · rw [dif_pos hC]
    exact (out5_at c _ _ _ _ _ _ _ _ _ _ _ _ _ (iblk m c 0 t) (iblk m c 1 t) (iblk m c 2 t) R ⟨C.val, hC⟩).trans (step_at m c t R _ b p hp)
  · rw [dif_neg hC]
    exact out5_zero c _ _ _ _ _ _ _ _ _ _ _ _ _ (iblk m c 0 t) (iblk m c 1 t) (iblk m c 2 t) R C (by omega)

/-- A step's block of the gate. -/
theorem step3 (c : Dev nD) (t : Fin cfg0.N) (R : Fin 512) (C : Fin 2048) (b : Fin 128) (p : Fin 8) (hp : 8 * b.val + p.val = 512 * t.val + R.val) :
    (outsAt0 m c t).1 (ix2 R C) = pAt (m ((c : Thread nD τ).loc main_arg0)) (m ((c : Thread nD τ).loc main_arg1)) (m ((c : Thread nD τ).loc main_arg2)) b p (colZ C) := by
  rw [outs3]
  exact (out3_at c _ _ _ _ _ _ _ _ _ _ _ _ _ (iblk m c 0 t) (iblk m c 1 t) (iblk m c 2 t) R C).trans (step_at m c t R _ b p hp)

/-- A step's block of the convolution's input. -/
theorem step4 (c : Dev nD) (t : Fin cfg0.N) (R : Fin 512) (C : Fin 3072) (b : Fin 128) (p : Fin 8) (hp : 8 * b.val + p.val = 512 * t.val + R.val) :
    (outsAt0 m c t).2.1 (ix2 R C) = pAt (m ((c : Thread nD τ).loc main_arg0)) (m ((c : Thread nD τ).loc main_arg1)) (m ((c : Thread nD τ).loc main_arg2)) b p (colX C) := by
  rw [outs4]
  exact (out4_at c _ _ _ _ _ _ _ _ _ _ _ _ _ (iblk m c 0 t) (iblk m c 1 t) (iblk m c 2 t) R C).trans (step_at m c t R _ b p hp)

/-- The gate's array after the run. -/
theorem final3 (c : Dev nD) : (dats m 0 c).arrAt 3 cfg0.N = fun y : S1024x2048.Idx => (pAt (m ((c : Thread nD τ).loc main_arg0)) (m ((c : Thread nD τ).loc main_arg1)) (m ((c : Thread nD τ).loc main_arg2))
      ⟨(y 0).val / 8, by have : (y 0).val < 1024 := (y 0).isLt; omega⟩ ⟨(y 0).val % 8, by omega⟩ (colZ (y 1)) : Elt Ideal .f32) := by
  refine (dats m 0 c).arrAt_eq_of_covers 3 _ (by decide +kernel) fun t hf y => ?_
  have ht := pt_lt t
  blk_simp
  rw [after0_3]
  obtain ⟨R, C, rfl⟩ : ∃ (R : Fin 512) (C : Fin 2048), y = ix2 R C := ⟨y 0, y 1, ValueIdx.eq_ix2 y⟩
  refine (step3 m c t R C ⟨(512 * t.val + R.val) / 8, by omega⟩ ⟨(512 * t.val + R.val) % 8, by omega⟩ (by dsimp only; omega)).trans ?_
  have e0 : win0_3.index t 0 = t.val := congrFun (idx3 t) 0
  have e1 : (win0_3.blk t).view.emb (ix2 R C) 1 = C := by
    apply Fin.ext
    blk_simp
    have : win0_3.index t 1 = 0 := congrFun (idx3 t) 1
    rw [this]
    exact Nat.zero_add _
  rw [e1]
  congr 1
  · apply Fin.ext
    show (512 * t.val + R.val) / 8 = (win0_3.index t 0 * 512 + R.val) / 8
    rw [e0]; omega
  · apply Fin.ext
    show (512 * t.val + R.val) % 8 = (win0_3.index t 0 * 512 + R.val) % 8
    rw [e0]; omega

/-- The convolution's input's array after the run. -/
theorem final4 (c : Dev nD) : (dats m 0 c).arrAt 4 cfg0.N = fun y : S1024x3072.Idx => (pAt (m ((c : Thread nD τ).loc main_arg0)) (m ((c : Thread nD τ).loc main_arg1)) (m ((c : Thread nD τ).loc main_arg2))
      ⟨(y 0).val / 8, by have : (y 0).val < 1024 := (y 0).isLt; omega⟩ ⟨(y 0).val % 8, by omega⟩ (colX (y 1)) : Elt Ideal .f32) := by
  refine (dats m 0 c).arrAt_eq_of_covers 4 _ (by decide +kernel) fun t hf y => ?_
  have ht := pt_lt t
  blk_simp
  rw [after0_4]
  obtain ⟨R, C, rfl⟩ : ∃ (R : Fin 512) (C : Fin 3072), y = ix2 R C := ⟨y 0, y 1, ValueIdx.eq_ix2 y⟩
  refine (step4 m c t R C ⟨(512 * t.val + R.val) / 8, by omega⟩ ⟨(512 * t.val + R.val) % 8, by omega⟩ (by dsimp only; omega)).trans ?_
  have e0 : win0_4.index t 0 = t.val := congrFun (idx4 t) 0
  have e1 : (win0_4.blk t).view.emb (ix2 R C) 1 = C := by
    apply Fin.ext
    blk_simp
    have : win0_4.index t 1 = 0 := congrFun (idx4 t) 1
    rw [this]
    exact Nat.zero_add _
  rw [e1]
  congr 1
  · apply Fin.ext
    show (512 * t.val + R.val) / 8 = (win0_4.index t 0 * 512 + R.val) / 8
    rw [e0]; omega
  · apply Fin.ext
    show (512 * t.val + R.val) % 8 = (win0_4.index t 0 * 512 + R.val) % 8
    rw [e0]; omega

/-- The step sizes's array after the run. -/
theorem final5 (c : Dev nD) : (dats m 0 c).arrAt 5 cfg0.N = fun y : S1024x128.Idx => (dAt (m ((c : Thread nD τ).loc main_arg0)) (m ((c : Thread nD τ).loc main_arg1)) (m ((c : Thread nD τ).loc main_arg2))
      ⟨(y 0).val / 8, by have : (y 0).val < 1024 := (y 0).isLt; omega⟩ ⟨(y 0).val % 8, by omega⟩ (y 1) : Elt Ideal .f32) := by
  refine (dats m 0 c).arrAt_eq_of_covers 5 _ (by decide +kernel) fun t hf y => ?_
  have ht := pt_lt t
  blk_simp
  rw [after0_5]
  obtain ⟨R, C, rfl⟩ : ∃ (R : Fin 512) (C : Fin 128), y = ix2 R C := ⟨y 0, y 1, ValueIdx.eq_ix2 y⟩
  refine (step5 m c t R C ⟨(512 * t.val + R.val) / 8, by omega⟩ ⟨(512 * t.val + R.val) % 8, by omega⟩ (by dsimp only; omega)).trans ?_
  have e0 : win0_5.index t 0 = t.val := congrFun (idx5 t) 0
  have e1 : (win0_5.blk t).view.emb (ix2 R C) 1 = C := by
    apply Fin.ext
    blk_simp
    have : win0_5.index t 1 = 0 := congrFun (idx5 t) 1
    rw [this]
    exact Nat.zero_add _
  rw [e1]
  congr 1
  · apply Fin.ext
    show (512 * t.val + R.val) / 8 = (win0_5.index t 0 * 512 + R.val) / 8
    rw [e0]; omega
  · apply Fin.ext
    show (512 * t.val + R.val) % 8 = (win0_5.index t 0 * 512 + R.val) % 8
    rw [e0]; omega

end Cert.Kernel4Ideal.Hand

end
-- ==== Proof.RInproj.lean ====
module

public import proofs.«01_k».proof.Proof.Gen.Reference4Ideal.Read
public import proofs.«01_k».proof.Proof.IFinal
public import Idealize.ShloMosaic.Lib.Pointwise

@[expose] public section

set_option maxRecDepth 16384

noncomputable section

namespace Cert.Reference4Ideal.Hand

open Cert.Reference4Ideal Cert.Reference4Ideal.Gen Cert.Reference4Ideal.Read Idealize.ShloMosaic Idealize.ShloMosaic.TcCoe
open Cert.KernelIdeal.Hand (rmsRow)
open Cert.Kernel4Ideal.Hand (pAt dAt colZ colX)

/-! ## The fourth reference, operation by operation -/

/-- The normalized row. -/
theorem normed_at (h : FVec Ideal S128x8x1024 .f32) (g : FVec Ideal S1x1024 .f32) (b : Fin 128) (p : Fin 8) (c : Fin 1024) :
    val_main_v14 (F := Ideal) h g (ix3 b p c) = rmsRow (fun j => h (ix3 b p j)) (fun j => g (ix2 0 j)) c := by
  unfold rmsRow
  pointwise [val_main_v14, val_main_v11, val_main_v10, val_main_v9, val_main_v8, val_main_v6, val_main_v4, val_main_v3, val_main_v2, val_main_v5, val_main_cst, val_main_cst_0, val_main_v7, val_main_cst_1, val_main_v13, val_main_v12, val_main_v0]

/-- The input projection. -/
theorem proj_at (h : FVec Ideal S128x8x1024 .f32) (g : FVec Ideal S1x1024 .f32) (w : FVec Ideal S1x1024x5152 .f32) (b : Fin 128) (p : Fin 8) (C : Fin 5152) :
    val_main_v15 (F := Ideal) h g w (ix3 b p C) = pAt h g w b p C := by
  have e : val_main_v15 (F := Ideal) h g w (ix3 b p C) = (∑ j, val_main_v14 (F := Ideal) h g (ix3 b p j) * w (ix3 0 j C) : EReal) := by
    unfold val_main_v15
    generalize val_main_v14 (F := Ideal) h g = x
    pointwise [val_main_v1, dot_S128x8x1024_S1024x5152_S128x8x5152_2_0_01_1_n_n]
  refine e.trans ?_
  unfold pAt
  exact Finset.sum_congr rfl fun j _ => congrArg (fun a : EReal => a * w (ix3 0 j C)) (normed_at h g b p j)

/-- The gate, rows of the batch joined. -/
theorem out0_eq (h : FVec Ideal S128x8x1024 .f32) (g : FVec Ideal S1x1024 .f32) (w : FVec Ideal S1x1024x5152 .f32) (R : Fin 1024) (C : Fin 2048) :
    val_main_v21 (F := Ideal) h g w (ix2 R C) = pAt h g w ⟨R.val / 8, by omega⟩ ⟨R.val % 8, by omega⟩ (colZ C) := by
  have e : val_main_v21 (F := Ideal) h g w (ix2 R C) = val_main_v15 (F := Ideal) h g w (ix3 ⟨R.val / 8, by omega⟩ ⟨R.val % 8, by omega⟩ (colZ C)) := by
    unfold val_main_v21 val_main_v16
    generalize val_main_v15 (F := Ideal) h g w = x
    have ez : colZ C = ⟨C.val, by omega⟩ := Fin.ext (Nat.zero_add _)
    rw [ez]
    pointwise []
  exact e.trans (proj_at h g w _ _ _)

/-- The convolution's input, rows of the batch joined. -/
theorem out1_eq (h : FVec Ideal S128x8x1024 .f32) (g : FVec Ideal S1x1024 .f32) (w : FVec Ideal S1x1024x5152 .f32) (R : Fin 1024) (C : Fin 3072) :
    val_main_v22 (F := Ideal) h g w (ix2 R C) = pAt h g w ⟨R.val / 8, by omega⟩ ⟨R.val % 8, by omega⟩ (colX C) := by
  have e : val_main_v22 (F := Ideal) h g w (ix2 R C) = val_main_v15 (F := Ideal) h g w (ix3 ⟨R.val / 8, by omega⟩ ⟨R.val % 8, by omega⟩ (colX C)) := by
    unfold val_main_v22 val_main_v17 colX
    generalize val_main_v15 (F := Ideal) h g w = x
    pointwise []
  exact e.trans (proj_at h g w _ _ _)

/-- The step sizes, rows of the batch joined. -/
theorem dt_at (h : FVec Ideal S128x8x1024 .f32) (g : FVec Ideal S1x1024 .f32) (w : FVec Ideal S1x1024x5152 .f32) (R : Fin 1024) (C : Fin 32) :
    val_main_v19 (F := Ideal) h g w (ix2 R C) = pAt h g w ⟨R.val / 8, by omega⟩ ⟨R.val % 8, by omega⟩ ⟨5120 + C.val, by omega⟩ := by
  have e : val_main_v19 (F := Ideal) h g w (ix2 R C) = val_main_v15 (F := Ideal) h g w (ix3 ⟨R.val / 8, by omega⟩ ⟨R.val % 8, by omega⟩ ⟨5120 + C.val, by omega⟩) := by
    unfold val_main_v19 val_main_v18
    generalize val_main_v15 (F := Ideal) h g w = x
    pointwise []
  exact e.trans (proj_at h g w _ _ _)

/-- The step sizes filled up with zeros to 128 lanes. -/
theorem out2_eq (h : FVec Ideal S128x8x1024 .f32) (g : FVec Ideal S1x1024 .f32) (w : FVec Ideal S1x1024x5152 .f32) (R : Fin 1024) (C : Fin 128) :
    val_main_v20 (F := Ideal) h g w (ix2 R C) = dAt h g w ⟨R.val / 8, by omega⟩ ⟨R.val % 8, by omega⟩ C := by
  unfold dAt
  by_cases hC : C.val < 32
  · rw [dif_pos hC]
    refine Eq.trans ?_ (dt_at h g w R ⟨C.val, hC⟩)
    unfold val_main_v20
    generalize val_main_v19 (F := Ideal) h g w = x
    pointwise [val_main_call0_v0, val_main_c]
    exact dif_pos hC
  · rw [dif_neg hC]
    unfold val_main_v20
    generalize val_main_v19 (F := Ideal) h g w = x
    pointwise [val_main_call0_v0, val_main_c]
    rw [dif_neg hC]
    show (((0#32 : BitVec 32).toInt : ℝ) : EReal) = 0
    simp

end Cert.Reference4Ideal.Hand

end
-- ==== Proof.SRun.lean ====
module

public import proofs.«01_k».proof.Proof.Gen.Kernel5Ideal.Value
public import Idealize.ShloMosaic.Lib.Pipeline.CanonAppend
public import Idealize.ShloMosaic.Lib.Pipeline.ValueKit
public import Idealize.ShloMosaic.Lib.Pointwise
public import Idealize.ShloMosaic.Lib.Claim

@[expose] public section

set_option maxRecDepth 16384

noncomputable section

namespace Cert.Kernel5Ideal.Hand

open Cert.Kernel5Ideal Cert.Kernel5Ideal.Gen Idealize.ShloMosaic Idealize.ShloMosaic.TcCoe Idealize.SL.Sem

/-! ## A step of the fifth program: the buffers that eight sequences hand on -/

section
variable {F : FTy → Type} [FloatOps F]

/-- The rows that stay of a sequence's buffer. -/
def stay (v : Vec F S1x120x256 .f32) : FVec F S1x120x256 .f32 :=
  shapeCast S1x120x256 (shapeCast S120x256 v shapeCasts_S1x120x256_S120x256) shapeCasts_S120x256_S1x120x256

/-- The rows that a sequence adds. -/
def come (v : Vec F S8x256 .f32) : FVec F S1x8x256 .f32 :=
  shapeCast S1x8x256 (shapeCast S8x256 v shapeCasts_S8x256_S8x256) shapeCasts_S8x256_S1x8x256

/-- The stores of a buffer, the last first. -/
def carryPieces (b0 b1 b2 b3 b4 b5 b6 b7 : Vec F S1x120x256 .f32) (d0 d1 d2 d3 d4 d5 d6 d7 : Vec F S8x256 .f32) : List (View.Piece (Elt F) S8x128x256 .f32) :=
  [⟨(Rect.unit (s := S8x128x256) ![7, 120, 0] S1x8x256.size inb_S8x128x256_S1x8x256_7_120_0), come d7⟩, ⟨(Rect.unit (s := S8x128x256) ![7, 0, 0] S1x120x256.size inb_S8x128x256_S1x120x256_7_0_0), stay b7⟩, ⟨(Rect.unit (s := S8x128x256) ![6, 120, 0] S1x8x256.size inb_S8x128x256_S1x8x256_6_120_0), come d6⟩, ⟨(Rect.unit (s := S8x128x256) ![6, 0, 0] S1x120x256.size inb_S8x128x256_S1x120x256_6_0_0), stay b6⟩, ⟨(Rect.unit (s := S8x128x256) ![5, 120, 0] S1x8x256.size inb_S8x128x256_S1x8x256_5_120_0), come d5⟩, ⟨(Rect.unit (s := S8x128x256) ![5, 0, 0] S1x120x256.size inb_S8x128x256_S1x120x256_5_0_0), stay b5⟩, ⟨(Rect.unit (s := S8x128x256) ![4, 120, 0] S1x8x256.size inb_S8x128x256_S1x8x256_4_120_0), come d4⟩, ⟨(Rect.unit (s := S8x128x256) ![4, 0, 0] S1x120x256.size inb_S8x128x256_S1x120x256_4_0_0), stay b4⟩, ⟨(Rect.unit (s := S8x128x256) ![3, 120, 0] S1x8x256.size inb_S8x128x256_S1x8x256_3_120_0), come d3⟩, ⟨(Rect.unit (s := S8x128x256) ![3, 0, 0] S1x120x256.size inb_S8x128x256_S1x120x256_3_0_0), stay b3⟩, ⟨(Rect.unit (s := S8x128x256) ![2, 120, 0] S1x8x256.size inb_S8x128x256_S1x8x256_2_120_0), come d2⟩, ⟨(Rect.unit (s := S8x128x256) ![2, 0, 0] S1x120x256.size inb_S8x128x256_S1x120x256_2_0_0), stay b2⟩, ⟨(Rect.unit (s := S8x128x256) ![1, 120, 0] S1x8x256.size inb_S8x128x256_S1x8x256_1_120_0), come d1⟩, ⟨(Rect.unit (s := S8x128x256) ![1, 0, 0] S1x120x256.size inb_S8x128x256_S1x120x256_1_0_0), stay b1⟩, ⟨(Rect.unit (s := S8x128x256) ![0, 120, 0] S1x8x256.size inb_S8x128x256_S1x8x256_0_120_0), come d0⟩, ⟨(Rect.unit (s := S8x128x256) ![0, 0, 0] S1x120x256.size inb_S8x128x256_S1x120x256_0_0_0), stay b0⟩]

/-- The stores that a step makes of the keys. -/
theorem run9 (c : Dev nD) (i : grid0.Coords) (arg2 : Memref sig .tc .smem S16 .f32) (harg2 : arg2.IsWhole) (arg3 : Memref sig .tc .vmem S64x1024 .f32) (harg3 : arg3.IsWhole) (arg4 : Memref sig .tc .vmem S64x256 .f32) (harg4 : arg4.IsWhole) (arg5 : Memref sig .tc .vmem S128x256 .f32) (harg5 : arg5.IsWhole) (arg6 : Memref sig .tc .vmem S8x128x256 .f32) (harg6 : arg6.IsWhole) (arg7 : Memref sig .tc .vmem S64x256 .f32) (harg7 : arg7.IsWhole) (arg8 : Memref sig .tc .vmem S128x256 .f32) (harg8 : arg8.IsWhole) (arg9 : Memref sig .tc .vmem S8x128x256 .f32) (harg9 : arg9.IsWhole) (arg10 : Memref sig .tc .vmem S64x1024 .f32) (harg10 : arg10.IsWhole) (arg11 : Memref sig .tc .vmem S8x128x256 .f32) (harg11 : arg11.IsWhole) (arg12 : Memref sig .tc .vmem S8x128x256 .f32) (harg12 : arg12.IsWhole) (x0 : Vec F S16 .f32) (x1 : Vec F S64x1024 .f32) (x2 : Vec F S64x256 .f32) (x3 : Vec F S128x256 .f32) (x4 : Vec F S8x128x256 .f32) (x5 : Vec F S64x256 .f32) (x6 : Vec F S128x256 .f32) (x7 : Vec F S8x128x256 .f32) :
    (kernelRun0_A c i arg2 harg2 arg3 harg3 arg4 harg4 arg5 harg5 arg6 harg6 arg7 harg7 arg8 harg8 arg9 harg9 arg10 harg10 arg11 harg11 arg12 harg12 x0 x1 x2 x3 x4 x5 x6 x7).2.1 = carryPieces (View.ld x4 (Rect.unit (s := S8x128x256) ![0, 8, 0] S1x120x256.size inb_S8x128x256_S1x120x256_0_8_0)) (View.ld x4 (Rect.unit (s := S8x128x256) ![1, 8, 0] S1x120x256.size inb_S8x128x256_S1x120x256_1_8_0)) (View.ld x4 (Rect.unit (s := S8x128x256) ![2, 8, 0] S1x120x256.size inb_S8x128x256_S1x120x256_2_8_0)) (View.ld x4 (Rect.unit (s := S8x128x256) ![3, 8, 0] S1x120x256.size inb_S8x128x256_S1x120x256_3_8_0)) (View.ld x4 (Rect.unit (s := S8x128x256) ![4, 8, 0] S1x120x256.size inb_S8x128x256_S1x120x256_4_8_0)) (View.ld x4 (Rect.unit (s := S8x128x256) ![5, 8, 0] S1x120x256.size inb_S8x128x256_S1x120x256_5_8_0)) (View.ld x4 (Rect.unit (s := S8x128x256) ![6, 8, 0] S1x120x256.size inb_S8x128x256_S1x120x256_6_8_0)) (View.ld x4 (Rect.unit (s := S8x128x256) ![7, 8, 0] S1x120x256.size inb_S8x128x256_S1x120x256_7_8_0)) (View.ld x2 (Rect.unit (s := S64x256) ![0, 0] S8x256.size inb_S64x256_S8x256_0_0)) (View.ld x2 (Rect.unit (s := S64x256) ![8, 0] S8x256.size inb_S64x256_S8x256_8_0)) (View.ld x2 (Rect.unit (s := S64x256) ![16, 0] S8x256.size inb_S64x256_S8x256_16_0)) (View.ld x2 (Rect.unit (s := S64x256) ![24, 0] S8x256.size inb_S64x256_S8x256_24_0)) (View.ld x2 (Rect.unit (s := S64x256) ![32, 0] S8x256.size inb_S64x256_S8x256_32_0)) (View.ld x2 (Rect.unit (s := S64x256) ![40, 0] S8x256.size inb_S64x256_S8x256_40_0)) (View.ld x2 (Rect.unit (s := S64x256) ![48, 0] S8x256.size inb_S64x256_S8x256_48_0)) (View.ld x2 (Rect.unit (s := S64x256) ![56, 0] S8x256.size inb_S64x256_S8x256_56_0)) := by
  have e : carryPieces (View.ld x4 (Rect.unit (s := S8x128x256) ![0, 8, 0] S1x120x256.size inb_S8x128x256_S1x120x256_0_8_0)) (View.ld x4 (Rect.unit (s := S8x128x256) ![1, 8, 0] S1x120x256.size inb_S8x128x256_S1x120x256_1_8_0)) (View.ld x4 (Rect.unit (s := S8x128x256) ![2, 8, 0] S1x120x256.size inb_S8x128x256_S1x120x256_2_8_0)) (View.ld x4 (Rect.unit (s := S8x128x256) ![3, 8, 0] S1x120x256.size inb_S8x128x256_S1x120x256_3_8_0)) (View.ld x4 (Rect.unit (s := S8x128x256) ![4, 8, 0] S1x120x256.size inb_S8x128x256_S1x120x256_4_8_0)) (View.ld x4 (Rect.unit (s := S8x128x256) ![5, 8, 0] S1x120x256.size inb_S8x128x256_S1x120x256_5_8_0)) (View.ld x4 (Rect.unit (s := S8x128x256) ![6, 8, 0] S1x120x256.size inb_S8x128x256_S1x120x256_6_8_0)) (View.ld x4 (Rect.unit (s := S8x128x256) ![7, 8, 0] S1x120x256.size inb_S8x128x256_S1x120x256_7_8_0)) (View.ld x2 (Rect.unit (s := S64x256) ![0, 0] S8x256.size inb_S64x256_S8x256_0_0)) (View.ld x2 (Rect.unit (s := S64x256) ![8, 0] S8x256.size inb_S64x256_S8x256_8_0)) (View.ld x2 (Rect.unit (s := S64x256) ![16, 0] S8x256.size inb_S64x256_S8x256_16_0)) (View.ld x2 (Rect.unit (s := S64x256) ![24, 0] S8x256.size inb_S64x256_S8x256_24_0)) (View.ld x2 (Rect.unit (s := S64x256) ![32, 0] S8x256.size inb_S64x256_S8x256_32_0)) (View.ld x2 (Rect.unit (s := S64x256) ![40, 0] S8x256.size inb_S64x256_S8x256_40_0)) (View.ld x2 (Rect.unit (s := S64x256) ![48, 0] S8x256.size inb_S64x256_S8x256_48_0)) (View.ld x2 (Rect.unit (s := S64x256) ![56, 0] S8x256.size inb_S64x256_S8x256_56_0)) = carryPieces (View.readAt (Elt F) arg6.view (Rect.unit (s := S8x128x256) ![0, 8, 0] S1x120x256.size inb_S8x128x256_S1x120x256_0_8_0).toLoadRect (harg6.unread x4)) (View.readAt (Elt F) arg6.view (Rect.unit (s := S8x128x256) ![1, 8, 0] S1x120x256.size inb_S8x128x256_S1x120x256_1_8_0).toLoadRect (harg6.unread x4)) (View.readAt (Elt F) arg6.view (Rect.unit (s := S8x128x256) ![2, 8, 0] S1x120x256.size inb_S8x128x256_S1x120x256_2_8_0).toLoadRect (harg6.unread x4)) (View.readAt (Elt F) arg6.view (Rect.unit (s := S8x128x256) ![3, 8, 0] S1x120x256.size inb_S8x128x256_S1x120x256_3_8_0).toLoadRect (harg6.unread x4)) (View.readAt (Elt F) arg6.view (Rect.unit (s := S8x128x256) ![4, 8, 0] S1x120x256.size inb_S8x128x256_S1x120x256_4_8_0).toLoadRect (harg6.unread x4)) (View.readAt (Elt F) arg6.view (Rect.unit (s := S8x128x256) ![5, 8, 0] S1x120x256.size inb_S8x128x256_S1x120x256_5_8_0).toLoadRect (harg6.unread x4)) (View.readAt (Elt F) arg6.view (Rect.unit (s := S8x128x256) ![6, 8, 0] S1x120x256.size inb_S8x128x256_S1x120x256_6_8_0).toLoadRect (harg6.unread x4)) (View.readAt (Elt F) arg6.view (Rect.unit (s := S8x128x256) ![7, 8, 0] S1x120x256.size inb_S8x128x256_S1x120x256_7_8_0).toLoadRect (harg6.unread x4)) (View.readAt (Elt F) arg4.view (Rect.unit (s := S64x256) ![0, 0] S8x256.size inb_S64x256_S8x256_0_0).toLoadRect (harg4.unread x2)) (View.readAt (Elt F) arg4.view (Rect.unit (s := S64x256) ![8, 0] S8x256.size inb_S64x256_S8x256_8_0).toLoadRect (harg4.unread x2)) (View.readAt (Elt F) arg4.view (Rect.unit (s := S64x256) ![16, 0] S8x256.size inb_S64x256_S8x256_16_0).toLoadRect (harg4.unread x2)) (View.readAt (Elt F) arg4.view (Rect.unit (s := S64x256) ![24, 0] S8x256.size inb_S64x256_S8x256_24_0).toLoadRect (harg4.unread x2)) (View.readAt (Elt F) arg4.view (Rect.unit (s := S64x256) ![32, 0] S8x256.size inb_S64x256_S8x256_32_0).toLoadRect (harg4.unread x2)) (View.readAt (Elt F) arg4.view (Rect.unit (s := S64x256) ![40, 0] S8x256.size inb_S64x256_S8x256_40_0).toLoadRect (harg4.unread x2)) (View.readAt (Elt F) arg4.view (Rect.unit (s := S64x256) ![48, 0] S8x256.size inb_S64x256_S8x256_48_0).toLoadRect (harg4.unread x2)) (View.readAt (Elt F) arg4.view (Rect.unit (s := S64x256) ![56, 0] S8x256.size inb_S64x256_S8x256_56_0).toLoadRect (harg4.unread x2)) := by
    simp only [View.readAt_eq_ld, harg6.read_unread, harg4.read_unread]
  rw [e]
  unfold kernelRun0_A
  dsimp only
  rfl

/-- The stores that a step makes of the values. -/
theorem run10 (c : Dev nD) (i : grid0.Coords) (arg2 : Memref sig .tc .smem S16 .f32) (harg2 : arg2.IsWhole) (arg3 : Memref sig .tc .vmem S64x1024 .f32) (harg3 : arg3.IsWhole) (arg4 : Memref sig .tc .vmem S64x256 .f32) (harg4 : arg4.IsWhole) (arg5 : Memref sig .tc .vmem S128x256 .f32) (harg5 : arg5.IsWhole) (arg6 : Memref sig .tc .vmem S8x128x256 .f32) (harg6 : arg6.IsWhole) (arg7 : Memref sig .tc .vmem S64x256 .f32) (harg7 : arg7.IsWhole) (arg8 : Memref sig .tc .vmem S128x256 .f32) (harg8 : arg8.IsWhole) (arg9 : Memref sig .tc .vmem S8x128x256 .f32) (harg9 : arg9.IsWhole) (arg10 : Memref sig .tc .vmem S64x1024 .f32) (harg10 : arg10.IsWhole) (arg11 : Memref sig .tc .vmem S8x128x256 .f32) (harg11 : arg11.IsWhole) (arg12 : Memref sig .tc .vmem S8x128x256 .f32) (harg12 : arg12.IsWhole) (x0 : Vec F S16 .f32) (x1 : Vec F S64x1024 .f32) (x2 : Vec F S64x256 .f32) (x3 : Vec F S128x256 .f32) (x4 : Vec F S8x128x256 .f32) (x5 : Vec F S64x256 .f32) (x6 : Vec F S128x256 .f32) (x7 : Vec F S8x128x256 .f32) :
    (kernelRun0_A c i arg2 harg2 arg3 harg3 arg4 harg4 arg5 harg5 arg6 harg6 arg7 harg7 arg8 harg8 arg9 harg9 arg10 harg10 arg11 harg11 arg12 harg12 x0 x1 x2 x3 x4 x5 x6 x7).2.2.1 = carryPieces (View.ld x7 (Rect.unit (s := S8x128x256) ![0, 8, 0] S1x120x256.size inb_S8x128x256_S1x120x256_0_8_0)) (View.ld x7 (Rect.unit (s := S8x128x256) ![1, 8, 0] S1x120x256.size inb_S8x128x256_S1x120x256_1_8_0)) (View.ld x7 (Rect.unit (s := S8x128x256) ![2, 8, 0] S1x120x256.size inb_S8x128x256_S1x120x256_2_8_0)) (View.ld x7 (Rect.unit (s := S8x128x256) ![3, 8, 0] S1x120x256.size inb_S8x128x256_S1x120x256_3_8_0)) (View.ld x7 (Rect.unit (s := S8x128x256) ![4, 8, 0] S1x120x256.size inb_S8x128x256_S1x120x256_4_8_0)) (View.ld x7 (Rect.unit (s := S8x128x256) ![5, 8, 0] S1x120x256.size inb_S8x128x256_S1x120x256_5_8_0)) (View.ld x7 (Rect.unit (s := S8x128x256) ![6, 8, 0] S1x120x256.size inb_S8x128x256_S1x120x256_6_8_0)) (View.ld x7 (Rect.unit (s := S8x128x256) ![7, 8, 0] S1x120x256.size inb_S8x128x256_S1x120x256_7_8_0)) (View.ld x5 (Rect.unit (s := S64x256) ![0, 0] S8x256.size inb_S64x256_S8x256_0_0)) (View.ld x5 (Rect.unit (s := S64x256) ![8, 0] S8x256.size inb_S64x256_S8x256_8_0)) (View.ld x5 (Rect.unit (s := S64x256) ![16, 0] S8x256.size inb_S64x256_S8x256_16_0)) (View.ld x5 (Rect.unit (s := S64x256) ![24, 0] S8x256.size inb_S64x256_S8x256_24_0)) (View.ld x5 (Rect.unit (s := S64x256) ![32, 0] S8x256.size inb_S64x256_S8x256_32_0)) (View.ld x5 (Rect.unit (s := S64x256) ![40, 0] S8x256.size inb_S64x256_S8x256_40_0)) (View.ld x5 (Rect.unit (s := S64x256) ![48, 0] S8x256.size inb_S64x256_S8x256_48_0)) (View.ld x5 (Rect.unit (s := S64x256) ![56, 0] S8x256.size inb_S64x256_S8x256_56_0)) := by
  have e : carryPieces (View.ld x7 (Rect.unit (s := S8x128x256) ![0, 8, 0] S1x120x256.size inb_S8x128x256_S1x120x256_0_8_0)) (View.ld x7 (Rect.unit (s := S8x128x256) ![1, 8, 0] S1x120x256.size inb_S8x128x256_S1x120x256_1_8_0)) (View.ld x7 (Rect.unit (s := S8x128x256) ![2, 8, 0] S1x120x256.size inb_S8x128x256_S1x120x256_2_8_0)) (View.ld x7 (Rect.unit (s := S8x128x256) ![3, 8, 0] S1x120x256.size inb_S8x128x256_S1x120x256_3_8_0)) (View.ld x7 (Rect.unit (s := S8x128x256) ![4, 8, 0] S1x120x256.size inb_S8x128x256_S1x120x256_4_8_0)) (View.ld x7 (Rect.unit (s := S8x128x256) ![5, 8, 0] S1x120x256.size inb_S8x128x256_S1x120x256_5_8_0)) (View.ld x7 (Rect.unit (s := S8x128x256) ![6, 8, 0] S1x120x256.size inb_S8x128x256_S1x120x256_6_8_0)) (View.ld x7 (Rect.unit (s := S8x128x256) ![7, 8, 0] S1x120x256.size inb_S8x128x256_S1x120x256_7_8_0)) (View.ld x5 (Rect.unit (s := S64x256) ![0, 0] S8x256.size inb_S64x256_S8x256_0_0)) (View.ld x5 (Rect.unit (s := S64x256) ![8, 0] S8x256.size inb_S64x256_S8x256_8_0)) (View.ld x5 (Rect.unit (s := S64x256) ![16, 0] S8x256.size inb_S64x256_S8x256_16_0)) (View.ld x5 (Rect.unit (s := S64x256) ![24, 0] S8x256.size inb_S64x256_S8x256_24_0)) (View.ld x5 (Rect.unit (s := S64x256) ![32, 0] S8x256.size inb_S64x256_S8x256_32_0)) (View.ld x5 (Rect.unit (s := S64x256) ![40, 0] S8x256.size inb_S64x256_S8x256_40_0)) (View.ld x5 (Rect.unit (s := S64x256) ![48, 0] S8x256.size inb_S64x256_S8x256_48_0)) (View.ld x5 (Rect.unit (s := S64x256) ![56, 0] S8x256.size inb_S64x256_S8x256_56_0)) = carryPieces (View.readAt (Elt F) arg9.view (Rect.unit (s := S8x128x256) ![0, 8, 0] S1x120x256.size inb_S8x128x256_S1x120x256_0_8_0).toLoadRect (harg9.unread x7)) (View.readAt (Elt F) arg9.view (Rect.unit (s := S8x128x256) ![1, 8, 0] S1x120x256.size inb_S8x128x256_S1x120x256_1_8_0).toLoadRect (harg9.unread x7)) (View.readAt (Elt F) arg9.view (Rect.unit (s := S8x128x256) ![2, 8, 0] S1x120x256.size inb_S8x128x256_S1x120x256_2_8_0).toLoadRect (harg9.unread x7)) (View.readAt (Elt F) arg9.view (Rect.unit (s := S8x128x256) ![3, 8, 0] S1x120x256.size inb_S8x128x256_S1x120x256_3_8_0).toLoadRect (harg9.unread x7)) (View.readAt (Elt F) arg9.view (Rect.unit (s := S8x128x256) ![4, 8, 0] S1x120x256.size inb_S8x128x256_S1x120x256_4_8_0).toLoadRect (harg9.unread x7)) (View.readAt (Elt F) arg9.view (Rect.unit (s := S8x128x256) ![5, 8, 0] S1x120x256.size inb_S8x128x256_S1x120x256_5_8_0).toLoadRect (harg9.unread x7)) (View.readAt (Elt F) arg9.view (Rect.unit (s := S8x128x256) ![6, 8, 0] S1x120x256.size inb_S8x128x256_S1x120x256_6_8_0).toLoadRect (harg9.unread x7)) (View.readAt (Elt F) arg9.view (Rect.unit (s := S8x128x256) ![7, 8, 0] S1x120x256.size inb_S8x128x256_S1x120x256_7_8_0).toLoadRect (harg9.unread x7)) (View.readAt (Elt F) arg7.view (Rect.unit (s := S64x256) ![0, 0] S8x256.size inb_S64x256_S8x256_0_0).toLoadRect (harg7.unread x5)) (View.readAt (Elt F) arg7.view (Rect.unit (s := S64x256) ![8, 0] S8x256.size inb_S64x256_S8x256_8_0).toLoadRect (harg7.unread x5)) (View.readAt (Elt F) arg7.view (Rect.unit (s := S64x256) ![16, 0] S8x256.size inb_S64x256_S8x256_16_0).toLoadRect (harg7.unread x5)) (View.readAt (Elt F) arg7.view (Rect.unit (s := S64x256) ![24, 0] S8x256.size inb_S64x256_S8x256_24_0).toLoadRect (harg7.unread x5)) (View.readAt (Elt F) arg7.view (Rect.unit (s := S64x256) ![32, 0] S8x256.size inb_S64x256_S8x256_32_0).toLoadRect (harg7.unread x5)) (View.readAt (Elt F) arg7.view (Rect.unit (s := S64x256) ![40, 0] S8x256.size inb_S64x256_S8x256_40_0).toLoadRect (harg7.unread x5)) (View.readAt (Elt F) arg7.view (Rect.unit (s := S64x256) ![48, 0] S8x256.size inb_S64x256_S8x256_48_0).toLoadRect (harg7.unread x5)) (View.readAt (Elt F) arg7.view (Rect.unit (s := S64x256) ![56, 0] S8x256.size inb_S64x256_S8x256_56_0).toLoadRect (harg7.unread x5)) := by
    simp only [View.readAt_eq_ld, harg9.read_unread, harg7.read_unread]
  rw [e]
  unfold kernelRun0_A
  dsimp only
  rfl

end

/-! ## At one entry -/

/-- What a step leaves of a buffer: the earlier rows moved up by 8, then the rows of the sequence. -/
def carry (buf : Vec Ideal S8x128x256 .f32) (cur : Vec Ideal S64x256 .f32) (s : Fin 8) (r : Fin 128) (C : Fin 256) : EReal :=
  if h : r.val < 120 then buf (ix3 s ⟨8 + r.val, by omega⟩ C) else cur (ix2 ⟨8 * s.val + (r.val - 120), by omega⟩ C)

/-- An entry of the rows that stay. -/
theorem stay_at (v : Vec Ideal S1x120x256 .f32) (r : Fin 120) (C : Fin 256) : stay v (ix3 0 r C) = v (ix3 0 r C) := by
  pointwise [stay]

/-- An entry of the rows that come. -/
theorem come_at (v : Vec Ideal S8x256 .f32) (r : Fin 8) (C : Fin 256) : come v (ix3 0 r C) = v (ix2 r C) := by
  pointwise [come]

/-- A store of rows that stay. -/
theorem stay_piece (buf : Vec Ideal S8x128x256 .f32) (cur : Vec Ideal S64x256 .f32) (s : ℕ) (hs : s < 8)
    (i1 : ∀ a, (![s, 0, 0] : Fin 3 → ℕ) a + S1x120x256.size a ≤ S8x128x256.size a) (i2 : ∀ a, (![s, 8, 0] : Fin 3 → ℕ) a + S1x120x256.size a ≤ S8x128x256.size a) (x : S1x120x256.Idx) :
    stay (View.ld buf (Rect.unit (s := S8x128x256) ![s, 8, 0] S1x120x256.size i2)) x
      = (fun z : S8x128x256.Idx => (carry buf cur (z 0) (z 1) (z 2) : Elt Ideal .f32)) ((Rect.unit (s := S8x128x256) ![s, 0, 0] S1x120x256.size i1).emb x) := by
  obtain ⟨u, r, C, rfl⟩ : ∃ (u : Fin 1) (r : Fin 120) (C : Fin 256), x = ix3 u r C := ⟨x 0, x 1, x 2, ValueIdx.eq_ix3 x⟩
  obtain rfl : u = 0 := Subsingleton.elim _ _
  have e0 : (Rect.unit (s := S8x128x256) ![s, 0, 0] S1x120x256.size i1).emb (ix3 0 r C) 0 = (⟨s, hs⟩ : Fin 8) := Fin.ext (by show s + 1 * 0 = s; omega)
  have e1 : (Rect.unit (s := S8x128x256) ![s, 0, 0] S1x120x256.size i1).emb (ix3 0 r C) 1 = (⟨r.val, by omega⟩ : Fin 128) := Fin.ext (by show 0 + 1 * r.val = r.val; omega)
  have e2 : (Rect.unit (s := S8x128x256) ![s, 0, 0] S1x120x256.size i1).emb (ix3 0 r C) 2 = C := Fin.ext (by show 0 + 1 * C.val = C.val; omega)
  dsimp only
  rw [e0, e1, e2]
  refine (stay_at _ r C).trans ?_
  unfold carry
  rw [dif_pos (show r.val < 120 from r.isLt)]
  refine congrArg buf (funext fun a => Fin.ext ?_)
  match a with
  | ⟨0, _⟩ => show s + 1 * 0 = s; omega
  | ⟨1, _⟩ => show 8 + 1 * r.val = 8 + r.val; omega
  | ⟨2, _⟩ => show 0 + 1 * C.val = C.val; omega

/-- A store of rows that come. -/
theorem come_piece (buf : Vec Ideal S8x128x256 .f32) (cur : Vec Ideal S64x256 .f32) (s : ℕ) (hs : s < 8) (o : ℕ) (ho : o = 8 * s)
    (i1 : ∀ a, (![s, 120, 0] : Fin 3 → ℕ) a + S1x8x256.size a ≤ S8x128x256.size a) (i2 : ∀ a, (![o, 0] : Fin 2 → ℕ) a + S8x256.size a ≤ S64x256.size a) (x : S1x8x256.Idx) :
    come (View.ld cur (Rect.unit (s := S64x256) ![o, 0] S8x256.size i2)) x
      = (fun z : S8x128x256.Idx => (carry buf cur (z 0) (z 1) (z 2) : Elt Ideal .f32)) ((Rect.unit (s := S8x128x256) ![s, 120, 0] S1x8x256.size i1).emb x) := by
  obtain ⟨u, r, C, rfl⟩ : ∃ (u : Fin 1) (r : Fin 8) (C : Fin 256), x = ix3 u r C := ⟨x 0, x 1, x 2, ValueIdx.eq_ix3 x⟩
  obtain rfl : u = 0 := Subsingleton.elim _ _
  have e0 : (Rect.unit (s := S8x128x256) ![s, 120, 0] S1x8x256.size i1).emb (ix3 0 r C) 0 = (⟨s, hs⟩ : Fin 8) := Fin.ext (by show s + 1 * 0 = s; omega)
  have e1 : (Rect.unit (s := S8x128x256) ![s, 120, 0] S1x8x256.size i1).emb (ix3 0 r C) 1 = (⟨120 + r.val, by omega⟩ : Fin 128) := Fin.ext (by show 120 + 1 * r.val = 120 + r.val; omega)
  have e2 : (Rect.unit (s := S8x128x256) ![s, 120, 0] S1x8x256.size i1).emb (ix3 0 r C) 2 = C := Fin.ext (by show 0 + 1 * C.val = C.val; omega)
  dsimp only
  rw [e0, e1, e2]
  refine (come_at _ r C).trans ?_
  unfold carry
  rw [dif_neg (show ¬ 120 + r.val < 120 by omega)]
  refine congrArg cur (funext fun a => Fin.ext ?_)
  match a with
  | ⟨0, _⟩ => show o + 1 * r.val = 8 * s + (120 + r.val - 120); omega
  | ⟨1, _⟩ => show 0 + 1 * C.val = C.val; omega

/-- The stores of a step together. -/
theorem carry_canon (buf : Vec Ideal S8x128x256 .f32) (cur : Vec Ideal S64x256 .f32) (y : S8x128x256.Idx)
    (hc : ∃ p ∈ carryPieces (View.ld buf (Rect.unit (s := S8x128x256) ![0, 8, 0] S1x120x256.size inb_S8x128x256_S1x120x256_0_8_0)) (View.ld buf (Rect.unit (s := S8x128x256) ![1, 8, 0] S1x120x256.size inb_S8x128x256_S1x120x256_1_8_0)) (View.ld buf (Rect.unit (s := S8x128x256) ![2, 8, 0] S1x120x256.size inb_S8x128x256_S1x120x256_2_8_0)) (View.ld buf (Rect.unit (s := S8x128x256) ![3, 8, 0] S1x120x256.size inb_S8x128x256_S1x120x256_3_8_0)) (View.ld buf (Rect.unit (s := S8x128x256) ![4, 8, 0] S1x120x256.size inb_S8x128x256_S1x120x256_4_8_0)) (View.ld buf (Rect.unit (s := S8x128x256) ![5, 8, 0] S1x120x256.size inb_S8x128x256_S1x120x256_5_8_0)) (View.ld buf (Rect.unit (s := S8x128x256) ![6, 8, 0] S1x120x256.size inb_S8x128x256_S1x120x256_6_8_0)) (View.ld buf (Rect.unit (s := S8x128x256) ![7, 8, 0] S1x120x256.size inb_S8x128x256_S1x120x256_7_8_0)) (View.ld cur (Rect.unit (s := S64x256) ![0, 0] S8x256.size inb_S64x256_S8x256_0_0)) (View.ld cur (Rect.unit (s := S64x256) ![8, 0] S8x256.size inb_S64x256_S8x256_8_0)) (View.ld cur (Rect.unit (s := S64x256) ![16, 0] S8x256.size inb_S64x256_S8x256_16_0)) (View.ld cur (Rect.unit (s := S64x256) ![24, 0] S8x256.size inb_S64x256_S8x256_24_0)) (View.ld cur (Rect.unit (s := S64x256) ![32, 0] S8x256.size inb_S64x256_S8x256_32_0)) (View.ld cur (Rect.unit (s := S64x256) ![40, 0] S8x256.size inb_S64x256_S8x256_40_0)) (View.ld cur (Rect.unit (s := S64x256) ![48, 0] S8x256.size inb_S64x256_S8x256_48_0)) (View.ld cur (Rect.unit (s := S64x256) ![56, 0] S8x256.size inb_S64x256_S8x256_56_0)), y ∈ p.1.set) :
    View.canon (carryPieces (View.ld buf (Rect.unit (s := S8x128x256) ![0, 8, 0] S1x120x256.size inb_S8x128x256_S1x120x256_0_8_0)) (View.ld buf (Rect.unit (s := S8x128x256) ![1, 8, 0] S1x120x256.size inb_S8x128x256_S1x120x256_1_8_0)) (View.ld buf (Rect.unit (s := S8x128x256) ![2, 8, 0] S1x120x256.size inb_S8x128x256_S1x120x256_2_8_0)) (View.ld buf (Rect.unit (s := S8x128x256) ![3, 8, 0] S1x120x256.size inb_S8x128x256_S1x120x256_3_8_0)) (View.ld buf (Rect.unit (s := S8x128x256) ![4, 8, 0] S1x120x256.size inb_S8x128x256_S1x120x256_4_8_0)) (View.ld buf (Rect.unit (s := S8x128x256) ![5, 8, 0] S1x120x256.size inb_S8x128x256_S1x120x256_5_8_0)) (View.ld buf (Rect.unit (s := S8x128x256) ![6, 8, 0] S1x120x256.size inb_S8x128x256_S1x120x256_6_8_0)) (View.ld buf (Rect.unit (s := S8x128x256) ![7, 8, 0] S1x120x256.size inb_S8x128x256_S1x120x256_7_8_0)) (View.ld cur (Rect.unit (s := S64x256) ![0, 0] S8x256.size inb_S64x256_S8x256_0_0)) (View.ld cur (Rect.unit (s := S64x256) ![8, 0] S8x256.size inb_S64x256_S8x256_8_0)) (View.ld cur (Rect.unit (s := S64x256) ![16, 0] S8x256.size inb_S64x256_S8x256_16_0)) (View.ld cur (Rect.unit (s := S64x256) ![24, 0] S8x256.size inb_S64x256_S8x256_24_0)) (View.ld cur (Rect.unit (s := S64x256) ![32, 0] S8x256.size inb_S64x256_S8x256_32_0)) (View.ld cur (Rect.unit (s := S64x256) ![40, 0] S8x256.size inb_S64x256_S8x256_40_0)) (View.ld cur (Rect.unit (s := S64x256) ![48, 0] S8x256.size inb_S64x256_S8x256_48_0)) (View.ld cur (Rect.unit (s := S64x256) ![56, 0] S8x256.size inb_S64x256_S8x256_56_0))) y = carry buf cur (y 0) (y 1) (y 2) := by
  refine View.canon_apply_of_pieces (Val := Elt Ideal) (fun z : S8x128x256.Idx => (carry buf cur (z 0) (z 1) (z 2) : Elt Ideal .f32)) _ ?_ y hc
  unfold carryPieces
  refine List.forall_mem_cons.2 ⟨fun x => come_piece buf cur 7 (by omega) 56 (by omega) inb_S8x128x256_S1x8x256_7_120_0 inb_S64x256_S8x256_56_0 x, ?_⟩
  refine List.forall_mem_cons.2 ⟨fun x => stay_piece buf cur 7 (by omega) inb_S8x128x256_S1x120x256_7_0_0 inb_S8x128x256_S1x120x256_7_8_0 x, ?_⟩
  refine List.forall_mem_cons.2 ⟨fun x => come_piece buf cur 6 (by omega) 48 (by omega) inb_S8x128x256_S1x8x256_6_120_0 inb_S64x256_S8x256_48_0 x, ?_⟩
  refine List.forall_mem_cons.2 ⟨fun x => stay_piece buf cur 6 (by omega) inb_S8x128x256_S1x120x256_6_0_0 inb_S8x128x256_S1x120x256_6_8_0 x, ?_⟩
  refine List.forall_mem_cons.2 ⟨fun x => come_piece buf cur 5 (by omega) 40 (by omega) inb_S8x128x256_S1x8x256_5_120_0 inb_S64x256_S8x256_40_0 x, ?_⟩
  refine List.forall_mem_cons.2 ⟨fun x => stay_piece buf cur 5 (by omega) inb_S8x128x256_S1x120x256_5_0_0 inb_S8x128x256_S1x120x256_5_8_0 x, ?_⟩
  refine List.forall_mem_cons.2 ⟨fun x => come_piece buf cur 4 (by omega) 32 (by omega) inb_S8x128x256_S1x8x256_4_120_0 inb_S64x256_S8x256_32_0 x, ?_⟩
  refine List.forall_mem_cons.2 ⟨fun x => stay_piece buf cur 4 (by omega) inb_S8x128x256_S1x120x256_4_0_0 inb_S8x128x256_S1x120x256_4_8_0 x, ?_⟩
  refine List.forall_mem_cons.2 ⟨fun x => come_piece buf cur 3 (by omega) 24 (by omega) inb_S8x128x256_S1x8x256_3_120_0 inb_S64x256_S8x256_24_0 x, ?_⟩
  refine List.forall_mem_cons.2 ⟨fun x => stay_piece buf cur 3 (by omega) inb_S8x128x256_S1x120x256_3_0_0 inb_S8x128x256_S1x120x256_3_8_0 x, ?_⟩
  refine List.forall_mem_cons.2 ⟨fun x => come_piece buf cur 2 (by omega) 16 (by omega) inb_S8x128x256_S1x8x256_2_120_0 inb_S64x256_S8x256_16_0 x, ?_⟩
  refine List.forall_mem_cons.2 ⟨fun x => stay_piece buf cur 2 (by omega) inb_S8x128x256_S1x120x256_2_0_0 inb_S8x128x256_S1x120x256_2_8_0 x, ?_⟩
  refine List.forall_mem_cons.2 ⟨fun x => come_piece buf cur 1 (by omega) 8 (by omega) inb_S8x128x256_S1x8x256_1_120_0 inb_S64x256_S8x256_8_0 x, ?_⟩
  refine List.forall_mem_cons.2 ⟨fun x => stay_piece buf cur 1 (by omega) inb_S8x128x256_S1x120x256_1_0_0 inb_S8x128x256_S1x120x256_1_8_0 x, ?_⟩
  refine List.forall_mem_cons.2 ⟨fun x => come_piece buf cur 0 (by omega) 0 (by omega) inb_S8x128x256_S1x8x256_0_120_0 inb_S64x256_S8x256_0_0 x, ?_⟩
  refine List.forall_mem_cons.2 ⟨fun x => stay_piece buf cur 0 (by omega) inb_S8x128x256_S1x120x256_0_0_0 inb_S8x128x256_S1x120x256_0_8_0 x, ?_⟩
  exact fun _ h => absurd h List.not_mem_nil

/-- What a step leaves of the keys' buffers, at one entry. -/
theorem out9_at (c : Dev nD) (i : grid0.Coords) (arg2 : Memref sig .tc .smem S16 .f32) (harg2 : arg2.IsWhole) (arg3 : Memref sig .tc .vmem S64x1024 .f32) (harg3 : arg3.IsWhole) (arg4 : Memref sig .tc .vmem S64x256 .f32) (harg4 : arg4.IsWhole) (arg5 : Memref sig .tc .vmem S128x256 .f32) (harg5 : arg5.IsWhole) (arg6 : Memref sig .tc .vmem S8x128x256 .f32) (harg6 : arg6.IsWhole) (arg7 : Memref sig .tc .vmem S64x256 .f32) (harg7 : arg7.IsWhole) (arg8 : Memref sig .tc .vmem S128x256 .f32) (harg8 : arg8.IsWhole) (arg9 : Memref sig .tc .vmem S8x128x256 .f32) (harg9 : arg9.IsWhole) (arg10 : Memref sig .tc .vmem S64x1024 .f32) (harg10 : arg10.IsWhole) (arg11 : Memref sig .tc .vmem S8x128x256 .f32) (harg11 : arg11.IsWhole) (arg12 : Memref sig .tc .vmem S8x128x256 .f32) (harg12 : arg12.IsWhole) (x0 : Vec Ideal S16 .f32) (x1 : Vec Ideal S64x1024 .f32) (x2 : Vec Ideal S64x256 .f32) (x3 : Vec Ideal S128x256 .f32) (x4 : Vec Ideal S8x128x256 .f32) (x5 : Vec Ideal S64x256 .f32) (x6 : Vec Ideal S128x256 .f32) (x7 : Vec Ideal S8x128x256 .f32) (s : Fin 8) (r : Fin 128) (C : Fin 256) :
    out0_A_9 c i arg2 harg2 arg3 harg3 arg4 harg4 arg5 harg5 arg6 harg6 arg7 harg7 arg8 harg8 arg9 harg9 arg10 harg10 arg11 harg11 arg12 harg12 x0 x1 x2 x3 x4 x5 x6 x7 (ix3 s r C) = carry x4 x2 s r C := by
  unfold out0_A_9
  have hc := cover0_A_9 c i arg2 harg2 arg3 harg3 arg4 harg4 arg5 harg5 arg6 harg6 arg7 harg7 arg8 harg8 arg9 harg9 arg10 harg10 arg11 harg11 arg12 harg12 x0 x1 x2 x3 x4 x5 x6 x7
  rw [View.read_writes_eq_canon _ _ _ hc]
  rw [run9] at hc ⊢
  exact carry_canon x4 x2 (ix3 s r C) (hc (ix3 s r C))

/-- What a step leaves of the values' buffers, at one entry. -/
theorem out10_at (c : Dev nD) (i : grid0.Coords) (arg2 : Memref sig .tc .smem S16 .f32) (harg2 : arg2.IsWhole) (arg3 : Memref sig .tc .vmem S64x1024 .f32) (harg3 : arg3.IsWhole) (arg4 : Memref sig .tc .vmem S64x256 .f32) (harg4 : arg4.IsWhole) (arg5 : Memref sig .tc .vmem S128x256 .f32) (harg5 : arg5.IsWhole) (arg6 : Memref sig .tc .vmem S8x128x256 .f32) (harg6 : arg6.IsWhole) (arg7 : Memref sig .tc .vmem S64x256 .f32) (harg7 : arg7.IsWhole) (arg8 : Memref sig .tc .vmem S128x256 .f32) (harg8 : arg8.IsWhole) (arg9 : Memref sig .tc .vmem S8x128x256 .f32) (harg9 : arg9.IsWhole) (arg10 : Memref sig .tc .vmem S64x1024 .f32) (harg10 : arg10.IsWhole) (arg11 : Memref sig .tc .vmem S8x128x256 .f32) (harg11 : arg11.IsWhole) (arg12 : Memref sig .tc .vmem S8x128x256 .f32) (harg12 : arg12.IsWhole) (x0 : Vec Ideal S16 .f32) (x1 : Vec Ideal S64x1024 .f32) (x2 : Vec Ideal S64x256 .f32) (x3 : Vec Ideal S128x256 .f32) (x4 : Vec Ideal S8x128x256 .f32) (x5 : Vec Ideal S64x256 .f32) (x6 : Vec Ideal S128x256 .f32) (x7 : Vec Ideal S8x128x256 .f32) (s : Fin 8) (r : Fin 128) (C : Fin 256) :
    out0_A_10 c i arg2 harg2 arg3 harg3 arg4 harg4 arg5 harg5 arg6 harg6 arg7 harg7 arg8 harg8 arg9 harg9 arg10 harg10 arg11 harg11 arg12 harg12 x0 x1 x2 x3 x4 x5 x6 x7 (ix3 s r C) = carry x7 x5 s r C := by
  unfold out0_A_10
  have hc := cover0_A_10 c i arg2 harg2 arg3 harg3 arg4 harg4 arg5 harg5 arg6 harg6 arg7 harg7 arg8 harg8 arg9 harg9 arg10 harg10 arg11 harg11 arg12 harg12 x0 x1 x2 x3 x4 x5 x6 x7
  rw [View.read_writes_eq_canon _ _ _ hc]
  rw [run10] at hc ⊢
  exact carry_canon x7 x5 (ix3 s r C) (hc (ix3 s r C))

end Cert.Kernel5Ideal.Hand

end
-- ==== Proof.SFinal.lean ====
module

public import proofs.«01_k».proof.Proof.SRun

@[expose] public section

set_option maxRecDepth 16384

noncomputable section

namespace Cert.Kernel5Ideal.Hand

open Cert.Kernel5Ideal Cert.Kernel5Ideal.Gen Idealize.ShloMosaic Idealize.ShloMosaic.TcCoe Idealize.SL.Sem

variable (m : (ℓ : Loc nD τ sig) → Buf (Elt Ideal) ℓ)

/-! ## The arrays the host prepares -/

/-- The sample's keys, as rows. -/
theorem V_k (c : Dev nD) (R : Fin 1024) (C : Fin 256) :
    V m c main_v1 (ix2 R C) = (m ((c : Thread nD τ).loc main_arg1) : FVec Ideal S128x8x4x64 .f32) (ix4 ⟨R.val / 8, by omega⟩ ⟨R.val % 8, by omega⟩ ⟨C.val / 64, by omega⟩ ⟨C.val % 64, by omega⟩) := by
  have e : V m c main_v1 = shapeCast S1024x256 (m ((c : Thread nD τ).loc main_arg1)) shapeCasts_S128x8x4x64_S1024x256 := by
    unfold_abbrev_sides
    after_results
    rfl
  rw [e]
  generalize m ((c : Thread nD τ).loc main_arg1) = x
  exact (show ∀ x : FVec Ideal S128x8x4x64 .f32, shapeCast S1024x256 x shapeCasts_S128x8x4x64_S1024x256 (ix2 R C) = x (ix4 ⟨R.val / 8, by omega⟩ ⟨R.val % 8, by omega⟩ ⟨C.val / 64, by omega⟩ ⟨C.val % 64, by omega⟩) from fun x => by pointwise []) x

/-- The sample's values, as rows. -/
theorem V_v (c : Dev nD) (R : Fin 1024) (C : Fin 256) :
    V m c main_v2 (ix2 R C) = (m ((c : Thread nD τ).loc main_arg2) : FVec Ideal S128x8x4x64 .f32) (ix4 ⟨R.val / 8, by omega⟩ ⟨R.val % 8, by omega⟩ ⟨C.val / 64, by omega⟩ ⟨C.val % 64, by omega⟩) := by
  have e : V m c main_v2 = shapeCast S1024x256 (m ((c : Thread nD τ).loc main_arg2)) shapeCasts_S128x8x4x64_S1024x256 := by
    unfold_abbrev_sides
    after_results
    rfl
  rw [e]
  generalize m ((c : Thread nD τ).loc main_arg2) = x
  exact (show ∀ x : FVec Ideal S128x8x4x64 .f32, shapeCast S1024x256 x shapeCasts_S128x8x4x64_S1024x256 (ix2 R C) = x (ix4 ⟨R.val / 8, by omega⟩ ⟨R.val % 8, by omega⟩ ⟨C.val / 64, by omega⟩ ⟨C.val % 64, by omega⟩) from fun x => by pointwise []) x

/-- The buffered keys, their heads joined. -/
theorem V_kb (c : Dev nD) (b p : Fin 128) (C : Fin 256) :
    V m c main_v3 (ix3 b p C) = (m ((c : Thread nD τ).loc main_arg3) : FVec Ideal S128x128x4x64 .f32) (ix4 b p ⟨C.val / 64, by omega⟩ ⟨C.val % 64, by omega⟩) := by
  have e : V m c main_v3 = shapeCast S128x128x256 (m ((c : Thread nD τ).loc main_arg3)) shapeCasts_S128x128x4x64_S128x128x256 := by
    unfold_abbrev_sides
    after_results
    rfl
  rw [e]
  generalize m ((c : Thread nD τ).loc main_arg3) = x
  exact (show ∀ x : FVec Ideal S128x128x4x64 .f32, shapeCast S128x128x256 x shapeCasts_S128x128x4x64_S128x128x256 (ix3 b p C) = x (ix4 b p ⟨C.val / 64, by omega⟩ ⟨C.val % 64, by omega⟩) from fun x => by pointwise []) x

/-- The buffered values, their heads joined. -/
theorem V_vb (c : Dev nD) (b p : Fin 128) (C : Fin 256) :
    V m c main_v4 (ix3 b p C) = (m ((c : Thread nD τ).loc main_arg4) : FVec Ideal S128x128x4x64 .f32) (ix4 b p ⟨C.val / 64, by omega⟩ ⟨C.val % 64, by omega⟩) := by
  have e : V m c main_v4 = shapeCast S128x128x256 (m ((c : Thread nD τ).loc main_arg4)) shapeCasts_S128x128x4x64_S128x128x256 := by
    unfold_abbrev_sides
    after_results
    rfl
  rw [e]
  generalize m ((c : Thread nD τ).loc main_arg4) = x
  exact (show ∀ x : FVec Ideal S128x128x4x64 .f32, shapeCast S128x128x256 x shapeCasts_S128x128x4x64_S128x128x256 (ix3 b p C) = x (ix4 b p ⟨C.val / 64, by omega⟩ ⟨C.val % 64, by omega⟩) from fun x => by pointwise []) x

/-! ## The windows' blocks, at one entry -/

/-- Where block 2 lies at each step. -/
theorem idx2 : ∀ t : Fin cfg0.N, win0_2.index t = ![t.val, 0] := (by decide +kernel : ∀ t : Fin grid0.N, _)
/-- Where block 4 lies at each step. -/
theorem idx4 : ∀ t : Fin cfg0.N, win0_4.index t = ![t.val, 0, 0] := (by decide +kernel : ∀ t : Fin grid0.N, _)
/-- Where block 5 lies at each step. -/
theorem idx5 : ∀ t : Fin cfg0.N, win0_5.index t = ![t.val, 0] := (by decide +kernel : ∀ t : Fin grid0.N, _)
/-- Where block 7 lies at each step. -/
theorem idx7 : ∀ t : Fin cfg0.N, win0_7.index t = ![t.val, 0, 0] := (by decide +kernel : ∀ t : Fin grid0.N, _)
/-- Where block 9 lies at each step. -/
theorem idx9 : ∀ t : Fin cfg0.N, win0_9.index t = ![t.val, 0, 0] := (by decide +kernel : ∀ t : Fin grid0.N, _)
/-- Where block 10 lies at each step. -/
theorem idx10 : ∀ t : Fin cfg0.N, win0_10.index t = ![t.val, 0, 0] := (by decide +kernel : ∀ t : Fin grid0.N, _)
/-- There are 16 steps. -/
theorem pt_lt (t : Fin cfg0.N) : t.val < 16 := (show ∀ t : Fin grid0.N, t.val < 16 by decide +kernel) t

/-- Block 2 at a step, as entries of its array. -/
theorem blk2 (c : Dev nD) (t : Fin cfg0.N) (R : Fin 64) (C : Fin 256) (R' : Fin 1024) (h : R'.val = 64 * t.val + R.val) : iblk m c 2 t (ix2 R C) = V m c main_v1 (ix2 R' C) := by
  refine congrArg (V m c main_v1) ?_
  blk_ext [idx2]
/-- Block 5 at a step, as entries of its array. -/
theorem blk5 (c : Dev nD) (t : Fin cfg0.N) (R : Fin 64) (C : Fin 256) (R' : Fin 1024) (h : R'.val = 64 * t.val + R.val) : iblk m c 5 t (ix2 R C) = V m c main_v2 (ix2 R' C) := by
  refine congrArg (V m c main_v2) ?_
  blk_ext [idx5]
/-- Block 4 at a step, as entries of its array. -/
theorem blk4 (c : Dev nD) (t : Fin cfg0.N) (s : Fin 8) (p : Fin 128) (C : Fin 256) (b : Fin 128) (h : b.val = 8 * t.val + s.val) : iblk m c 4 t (ix3 s p C) = V m c main_v3 (ix3 b p C) := by
  refine congrArg (V m c main_v3) ?_
  blk_ext [idx4]
/-- Block 7 at a step, as entries of its array. -/
theorem blk7 (c : Dev nD) (t : Fin cfg0.N) (s : Fin 8) (p : Fin 128) (C : Fin 256) (b : Fin 128) (h : b.val = 8 * t.val + s.val) : iblk m c 7 t (ix3 s p C) = V m c main_v4 (ix3 b p C) := by
  refine congrArg (V m c main_v4) ?_
  blk_ext [idx7]

/-! ## The results over the arguments -/

/-- An entry of a buffer after the sample: the last 128 rows of the earlier buffer and the sequence's 8 rows. -/
def carryAt (cur : FVec Ideal S128x8x4x64 .f32) (buf : FVec Ideal S128x128x4x64 .f32) (b p : Fin 128) (C : Fin 256) : EReal :=
  if h : p.val < 120 then buf (ix4 b ⟨8 + p.val, by omega⟩ ⟨C.val / 64, by omega⟩ ⟨C.val % 64, by omega⟩)
  else cur (ix4 b ⟨p.val - 120, by omega⟩ ⟨C.val / 64, by omega⟩ ⟨C.val % 64, by omega⟩)

/-- What a step leaves of the keys' buffers, by name. -/
theorem outs9 (c : Dev nD) (t : Fin cfg0.N) : (outsAt0 m c t).2.1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) := by
  simp only [outsAt0]

/-- A step's block of the keys' buffers. -/
theorem step9 (c : Dev nD) (t : Fin cfg0.N) (s : Fin 8) (r : Fin 128) (C : Fin 256) (b : Fin 128) (hb : b.val = 8 * t.val + s.val) :
    (outsAt0 m c t).2.1 (ix3 s r C) = carryAt (m ((c : Thread nD τ).loc main_arg1)) (m ((c : Thread nD τ).loc main_arg3)) b r C := by
  have ht := pt_lt t
  rw [outs9]
  refine (out9_at c _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) s r C).trans ?_
  unfold carry carryAt
  by_cases hr : r.val < 120
  · rw [dif_pos hr, dif_pos hr]
    exact (blk4 m c t s ⟨8 + r.val, by omega⟩ C b hb).trans (V_kb m c b ⟨8 + r.val, by omega⟩ C)
  · rw [dif_neg hr, dif_neg hr]
    refine (blk2 m c t ⟨8 * s.val + (r.val - 120), by omega⟩ C ⟨8 * b.val + (r.val - 120), by omega⟩ (by dsimp only; omega)).trans ((V_k m c _ C).trans ?_)
    generalize (m ((c : Thread nD τ).loc main_arg1) : FVec Ideal S128x8x4x64 .f32) = x
    congr 2 <;> (apply Fin.ext; dsimp only; omega)

/-- The keys' buffers after the run. -/
theorem final9 (c : Dev nD) : (dats m 0 c).arrAt 9 cfg0.N = fun y : S128x128x256.Idx => (carryAt (m ((c : Thread nD τ).loc main_arg1)) (m ((c : Thread nD τ).loc main_arg3)) (y 0) (y 1) (y 2) : Elt Ideal .f32) := by
  refine (dats m 0 c).arrAt_eq_of_covers 9 _ (by decide +kernel) fun t hf y => ?_
  have ht := pt_lt t
  blk_simp
  rw [after0_9]
  obtain ⟨s, r, C, rfl⟩ : ∃ (s : Fin 8) (r : Fin 128) (C : Fin 256), y = ix3 s r C := ⟨y 0, y 1, y 2, ValueIdx.eq_ix3 y⟩
  refine (step9 m c t s r C ⟨8 * t.val + s.val, by omega⟩ rfl).trans ?_
  have e0 : (win0_9.blk t).view.emb (ix3 s r C) 0 = (⟨8 * t.val + s.val, by omega⟩ : Fin 128) := by
    apply Fin.ext
    blk_simp
    have : win0_9.index t 0 = t.val := congrFun (idx9 t) 0
    rw [this]
    show t.val * 8 + s.val = 8 * t.val + s.val
    omega
  have e1 : (win0_9.blk t).view.emb (ix3 s r C) 1 = r := by
    apply Fin.ext
    blk_simp
    have : win0_9.index t 1 = 0 := congrFun (idx9 t) 1
    rw [this]
    exact Nat.zero_add _
  have e2 : (win0_9.blk t).view.emb (ix3 s r C) 2 = C := by
    apply Fin.ext
    blk_simp
    have : win0_9.index t 2 = 0 := congrFun (idx9 t) 2
    rw [this]
    exact Nat.zero_add _
  rw [e0, e1, e2]

/-- What a step leaves of the values' buffers, by name. -/
theorem outs10 (c : Dev nD) (t : Fin cfg0.N) : (outsAt0 m c t).2.2 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) := by
  simp only [outsAt0]

/-- A step's block of the values' buffers. -/
theorem step10 (c : Dev nD) (t : Fin cfg0.N) (s : Fin 8) (r : Fin 128) (C : Fin 256) (b : Fin 128) (hb : b.val = 8 * t.val + s.val) :
    (outsAt0 m c t).2.2 (ix3 s r C) = carryAt (m ((c : Thread nD τ).loc main_arg2)) (m ((c : Thread nD τ).loc main_arg4)) b r C := by
  have ht := pt_lt t
  rw [outs10]
  refine (out10_at c _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) s r C).trans ?_
  unfold carry carryAt
  by_cases hr : r.val < 120
  · rw [dif_pos hr, dif_pos hr]
    exact (blk7 m c t s ⟨8 + r.val, by omega⟩ C b hb).trans (V_vb m c b ⟨8 + r.val, by omega⟩ C)
  · rw [dif_neg hr, dif_neg hr]
    refine (blk5 m c t ⟨8 * s.val + (r.val - 120), by omega⟩ C ⟨8 * b.val + (r.val - 120), by omega⟩ (by dsimp only; omega)).trans ((V_v m c _ C).trans ?_)
    generalize (m ((c : Thread nD τ).loc main_arg2) : FVec Ideal S128x8x4x64 .f32) = x
    congr 2 <;> (apply Fin.ext; dsimp only; omega)

/-- The values' buffers after the run. -/
theorem final10 (c : Dev nD) : (dats m 0 c).arrAt 10 cfg0.N = fun y : S128x128x256.Idx => (carryAt (m ((c : Thread nD τ).loc main_arg2)) (m ((c : Thread nD τ).loc main_arg4)) (y 0) (y 1) (y 2) : Elt Ideal .f32) := by
  refine (dats m 0 c).arrAt_eq_of_covers 10 _ (by decide +kernel) fun t hf y => ?_
  have ht := pt_lt t
  blk_simp
  rw [after0_10]
  obtain ⟨s, r, C, rfl⟩ : ∃ (s : Fin 8) (r : Fin 128) (C : Fin 256), y = ix3 s r C := ⟨y 0, y 1, y 2, ValueIdx.eq_ix3 y⟩
  refine (step10 m c t s r C ⟨8 * t.val + s.val, by omega⟩ rfl).trans ?_
  have e0 : (win0_10.blk t).view.emb (ix3 s r C) 0 = (⟨8 * t.val + s.val, by omega⟩ : Fin 128) := by
    apply Fin.ext
    blk_simp
    have : win0_10.index t 0 = t.val := congrFun (idx10 t) 0
    rw [this]
    show t.val * 8 + s.val = 8 * t.val + s.val
    omega
  have e1 : (win0_10.blk t).view.emb (ix3 s r C) 1 = r := by
    apply Fin.ext
    blk_simp
    have : win0_10.index t 1 = 0 := congrFun (idx10 t) 1
    rw [this]
    exact Nat.zero_add _
  have e2 : (win0_10.blk t).view.emb (ix3 s r C) 2 = C := by
    apply Fin.ext
    blk_simp
    have : win0_10.index t 2 = 0 := congrFun (idx10 t) 2
    rw [this]
    exact Nat.zero_add _
  rw [e0, e1, e2]

end Cert.Kernel5Ideal.Hand

end
-- ==== Proof.RCarry.lean ====
module

public import proofs.«01_k».proof.Proof.Gen.Reference5Ideal.Read
public import proofs.«01_k».proof.Proof.SFinal
public import Idealize.ShloMosaic.Lib.Pointwise

@[expose] public section

set_option maxRecDepth 16384

noncomputable section

namespace Cert.Reference5Ideal.Hand

open Cert.Reference5Ideal Cert.Reference5Ideal.Gen Cert.Reference5Ideal.Read Idealize.ShloMosaic Idealize.ShloMosaic.TcCoe
open Cert.Kernel5Ideal.Hand (carryAt)

/-! ## The fifth reference, operation by operation -/

/-- The keys' buffer. -/
theorem out0_eq (x1 : FVec Ideal S128x8x4x64 .f32) (x3 : FVec Ideal S128x128x4x64 .f32) (i p : Fin 128) (C : Fin 256) :
    val_main_v3 (F := Ideal) x1 x3 (ix3 i p C) = carryAt x1 x3 i p C := by
  have e : val_main_v3 (F := Ideal) x1 x3 (ix3 i p C) = val_main_v0 (F := Ideal) x1 x3 (ix4 i ⟨8 + p.val, by omega⟩ ⟨C.val / 64, by omega⟩ ⟨C.val % 64, by omega⟩) := by
    unfold val_main_v3 val_main_v2
    generalize val_main_v0 (F := Ideal) x1 x3 = x
    pointwise []
  rw [e]
  unfold carryAt val_main_v0
  by_cases h : p.val < 120
  · rw [dif_pos h]
    refine concatenate_pair_apply_left (t := S128x136x4x64) (s₁ := S128x128x4x64) (s₂ := S128x8x4x64) _ _ _ _ _ rfl _ fun a => ?_
    match a with
    | ⟨0, _⟩ => rfl
    | ⟨1, _⟩ => rfl
    | ⟨2, _⟩ => rfl
    | ⟨3, _⟩ => rfl
  · rw [dif_neg h]
    refine concatenate_pair_apply_right (t := S128x136x4x64) (s₁ := S128x128x4x64) (s₂ := S128x8x4x64) _ _ _ _ _ rfl rfl _ (fun a ha => ?_) ?_
    · match a with
      | ⟨0, _⟩ => rfl
      | ⟨1, _⟩ => exact absurd rfl ha
      | ⟨2, _⟩ => rfl
      | ⟨3, _⟩ => rfl
    show p.val - 120 + 128 = 8 + p.val
    omega

/-- The values' buffer. -/
theorem out1_eq (x2 : FVec Ideal S128x8x4x64 .f32) (x4 : FVec Ideal S128x128x4x64 .f32) (i p : Fin 128) (C : Fin 256) :
    val_main_v5 (F := Ideal) x2 x4 (ix3 i p C) = carryAt x2 x4 i p C := by
  have e : val_main_v5 (F := Ideal) x2 x4 (ix3 i p C) = val_main_v1 (F := Ideal) x2 x4 (ix4 i ⟨8 + p.val, by omega⟩ ⟨C.val / 64, by omega⟩ ⟨C.val % 64, by omega⟩) := by
    unfold val_main_v5 val_main_v4
    generalize val_main_v1 (F := Ideal) x2 x4 = x
    pointwise []
  rw [e]
  unfold carryAt val_main_v1
  by_cases h : p.val < 120
  · rw [dif_pos h]
    refine concatenate_pair_apply_left (t := S128x136x4x64) (s₁ := S128x128x4x64) (s₂ := S128x8x4x64) _ _ _ _ _ rfl _ fun a => ?_
    match a with
    | ⟨0, _⟩ => rfl
    | ⟨1, _⟩ => rfl
    | ⟨2, _⟩ => rfl
    | ⟨3, _⟩ => rfl
  · rw [dif_neg h]
    refine concatenate_pair_apply_right (t := S128x136x4x64) (s₁ := S128x128x4x64) (s₂ := S128x8x4x64) _ _ _ _ _ rfl rfl _ (fun a ha => ?_) ?_
    · match a with
      | ⟨0, _⟩ => rfl
      | ⟨1, _⟩ => exact absurd rfl ha
      | ⟨2, _⟩ => rfl
      | ⟨3, _⟩ => rfl
    show p.val - 120 + 128 = 8 + p.val
    omega

end Cert.Reference5Ideal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Equation
public import proofs.«01_k».proof.Proof.Finite
public import proofs.«01_k».proof.Proof.MFinal
public import proofs.«01_k».proof.Proof.RMixEq
public import proofs.«01_k».proof.Proof.FiniteGate
public import proofs.«01_k».proof.Proof.RLast
public import proofs.«01_k».proof.Proof.FiniteLast
public import proofs.«01_k».proof.Proof.RInproj
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel3.Frame
public import proofs.«01_k».proof.Proof.Gen.Kernel4.Frame
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.RCarry
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

instance : Cert.Pre_finite_scores.Facts := Cert.Pre_finite_scores.Hand.facts

instance : Cert.Pre_finite_gate.Facts := Cert.Pre_finite_gate.Hand.facts

instance : Cert.Pre_finite_last.Facts := Cert.Pre_finite_last.Hand.facts

/-- The kernel over the machine's floats runs to the end, leaves its arguments as they were and its semaphores at zero. -/
theorem frame_kernel : Cert.quiescent_Kernel := fun m g _ => Cert.Kernel.Gen.frame m g

/-- The same of the kernel over the extended reals. -/
theorem frame_kernelIdeal : Cert.quiescent_KernelIdeal := fun m g _ => Cert.KernelIdeal.Gen.frame m g

/-- The same where the precondition holds. -/
theorem frame_kernelIdeal_pre : Cert.quiescent_KernelIdeal_pre_finite_scores := fun m g _ => Cert.KernelIdeal.Gen.frame m g

/-- The reference over the extended reals runs to the end and leaves its arguments as they were; it has no semaphore. -/
theorem frame_referenceIdeal : Cert.quiescent_ReferenceIdeal := fun m g _ =>
  (θ_run Cert.ReferenceIdeal.defs _ _).mono (fun r h => ⟨fun c => (h c).2, Idealize.ShloMosaic.sem_eq_zero_of_no_sems (by decide) r.2⟩) (Cert.ReferenceIdeal.Value.run (F := Ideal) m g)

/-- The same where the precondition holds. -/
theorem frame_referenceIdeal_pre : Cert.quiescent_ReferenceIdeal_pre_finite_scores := fun m g _ => frame_referenceIdeal m g trivial

/-- The named constants: each literal of the kernel is the rounding of the real number that its name stands for. -/
theorem constants : Cert.preserves_Kernel_KernelIdeal :=
  ⟨IdealRules.named_const.statement Cert.KernelIdeal.κ "q_scale" .f32 _ _ rfl, IdealRules.named_const.statement Cert.KernelIdeal.κ "log2e" .f32 _ _ rfl⟩

open Cert.KernelIdeal in
/-- The reference's result as a whole is the array that the kernel leaves, on real entries. -/
theorem whole_eq (q : FVec Ideal S16x2048x16x64 .f32) (k v : FVec Ideal S16x2048x4x64 .f32) (kb vb : FVec Ideal S1x128x4x64 .f32) (s : FVec Ideal S1x16 .f32) (h : FVec Ideal S16x2048x1024 .f32)
    (wo : FVec Ideal S1x1024x1024 .f32) (ng : FVec Ideal S2x1024 .f32) (wg wu : FVec Ideal S2x1024x2816 .f32) (wd : FVec Ideal S2x2816x1024 .f32) (gf : FVec Ideal S1024 .f32)
    (hq : ∀ i, ∃ z : ℝ, q i = (z : EReal)) (hk : ∀ i, ∃ z : ℝ, k i = (z : EReal)) (hkb : ∀ i, ∃ z : ℝ, kb i = (z : EReal)) (hs : ∀ i, ∃ z : ℝ, s i = (z : EReal))
    (hn : ∀ i, ∃ z : ℝ, ng i = (z : EReal)) (hw : ∀ i, ∃ z : ℝ, wg i = (z : EReal)) :
    Cert.ReferenceIdeal.Read.val_main_v110 (F := Ideal) q k v kb vb s h wo ng wg wu wd gf = fun y : S32768x1024.Idx => (Cert.KernelIdeal.Hand.kOut q k v kb vb s h wo ng wg wu wd gf
      ⟨(y 0).val / 2048, by have : (y 0).val < 32768 := (y 0).isLt; omega⟩ ⟨(y 0).val % 2048, by omega⟩ (y 1) : Elt Ideal .f32) := by
  funext y
  exact (congrArg (Cert.ReferenceIdeal.Read.val_main_v110 (F := Ideal) q k v kb vb s h wo ng wg wu wd gf) (ValueIdx.eq_ix2 y)).trans (Cert.ReferenceIdeal.Hand.out_eq q k v kb vb s h wo ng wg wu wd gf hq hk hkb hs hn hw (y 0) (y 1))

/-- The kernel's result array and the reference's result are the same array, where the entries that the precondition names are real numbers. -/
theorem result_eq (m : (ℓ : Loc Cert.KernelIdeal.nD Cert.KernelIdeal.τ Cert.KernelIdeal.sig) → Buf (Elt Ideal) ℓ) (hpre : Cert.Pre_KernelIdeal_finite_scores m) (c : Dev Cert.KernelIdeal.nD) :
    Cert.ReferenceIdeal.Read.val_main_v110 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) = (Cert.KernelIdeal.Gen.dats m 0 c).arrAt 15 Cert.KernelIdeal.cfg0.N := by
  obtain ⟨h0, h1, h3, h5, h8, h9⟩ := Cert.Pre_finite_scores.Hand.finite _ _ _ _ _ _ _ _ _ _ _ _ _ (hpre c)
  exact (whole_eq _ _ _ _ _ _ _ _ _ _ _ _ _ h0 h1 h3 h5 h8 h9).trans (Cert.KernelIdeal.Hand.final m c).symm

/-- The kernel and the reference, over the extended reals and from equal arguments, end with equal results. -/
theorem equal : Cert.algebraic_KernelIdeal_ReferenceIdeal_pre_finite_scores := by
  intro m g m' g' hpre hagree
  refine ⟨fun c => (Cert.KernelIdeal.Gen.dats m 0 c).arrAt 15 Cert.KernelIdeal.cfg0.N, Cert.KernelIdeal.Value.run_blocks m g,
    (θ_run Cert.ReferenceIdeal.defs _ _).mono (fun r h c => ⟨?_, (h c).2⟩) (Cert.ReferenceIdeal.Value.run (F := Ideal) m' g')⟩
  refine ((h c).1.trans (Cert.ReferenceIdeal.Read.val_main_v110_eq (StableHlo.launchContents m' c))).trans ?_
  refine Eq.trans ?_ (result_eq m hpre c)
  obtain ⟨e0, e1, e2, e3, e4, e5, e6, e7, e8, e9, e10, e11, e12⟩ := hagree c
  show Cert.ReferenceIdeal.Read.val_main_v110 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) = _
  rw [e0, e1, e2, e3, e4, e5, e6, e7, e8, e9, e10, e11, e12]

/-- The second kernel over the machine's floats runs to the end, leaves its arguments as they were and its semaphores at zero. -/
theorem frame_kernel2 : Cert.quiescent_Kernel2 := fun m g _ => Cert.Kernel2.Gen.frame m g

/-- The same of the second kernel over the extended reals. -/
theorem frame_kernel2Ideal : Cert.quiescent_Kernel2Ideal := fun m g _ => Cert.Kernel2Ideal.Gen.frame m g

/-- The same where the precondition holds. -/
theorem frame_kernel2Ideal_pre : Cert.quiescent_Kernel2Ideal_pre_finite_gate := fun m g _ => Cert.Kernel2Ideal.Gen.frame m g

/-- The second reference over the extended reals runs to the end and leaves its arguments as they were; it has no semaphore. -/
theorem frame_reference2Ideal : Cert.quiescent_Reference2Ideal := fun m g _ =>
  (θ_run Cert.Reference2Ideal.defs _ _).mono (fun r h => ⟨fun c => (h c).2.2.2.2, Idealize.ShloMosaic.sem_eq_zero_of_no_sems (by decide) r.2⟩) (Cert.Reference2Ideal.Value.run (F := Ideal) m g)

/-- The same where the precondition holds. -/
theorem frame_reference2Ideal_pre : Cert.quiescent_Reference2Ideal_pre_finite_gate := fun m g _ => frame_reference2Ideal m g trivial

/-- The second kernel's named constant: its literal is the rounding of the real number that the name stands for. -/
theorem constants2 : Cert.preserves_Kernel2_Kernel2Ideal :=
  IdealRules.named_const.statement Cert.Kernel2Ideal.κ "q_scale" .f32 _ _ rfl

open Cert.Kernel2Ideal in
/-- The second reference's residual stream as a whole are the array that the second kernel leaves, on real gains and gate weights. -/
theorem whole15_eq (h : FVec Ideal S16x2048x1024 .f32) (mx : FVec Ideal S16x2048x2048 .bf16) (wo : FVec Ideal S1x2048x1024 .f32) (ng : FVec Ideal S2x1024 .f32) (wg : FVec Ideal S2x1024x2816 .f32) (wu : FVec Ideal S2x1024x2816 .f32) (wd : FVec Ideal S2x2816x1024 .f32)
    (hn : ∀ i, ∃ z : ℝ, ng i = (z : EReal)) (hw : ∀ i, ∃ z : ℝ, wg i = (z : EReal)) :
    Cert.Reference2Ideal.Read.val_main_v145 (F := Ideal) h mx wo ng wg wu wd = fun y : S32768x1024.Idx => (Cert.Kernel2Ideal.Hand.hAt h mx wo ng wg wu wd
      ⟨(y 0).val / 2048, by have : (y 0).val < 32768 := (y 0).isLt; omega⟩ ⟨(y 0).val % 2048, by omega⟩ (y 1) : Elt Ideal .f32) := by
  funext y
  exact (congrArg (Cert.Reference2Ideal.Read.val_main_v145 (F := Ideal) h mx wo ng wg wu wd) (ValueIdx.eq_ix2 y)).trans (Cert.Reference2Ideal.Hand.out0_eq h mx wo ng wg wu wd hn hw (y 0) (y 1))

/-- The second kernel's array of the residual stream and the second reference's are the same, where the precondition holds. -/
theorem result15_eq (m : (ℓ : Loc Cert.Kernel2Ideal.nD Cert.Kernel2Ideal.τ Cert.Kernel2Ideal.sig) → Buf (Elt Ideal) ℓ) (hpre : Cert.Pre_Kernel2Ideal_finite_gate m) (c : Dev Cert.Kernel2Ideal.nD) :
    Cert.Reference2Ideal.Read.val_main_v145 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) = (Cert.Kernel2Ideal.Gen.dats m 0 c).arrAt 15 Cert.Kernel2Ideal.cfg0.N := by
  obtain ⟨h8, h9⟩ := Cert.Pre_finite_gate.Hand.finite _ _ _ _ _ _ _ _ _ _ _ _ (hpre c)
  exact (whole15_eq _ _ _ _ _ _ _ h8 h9).trans (Cert.Kernel2Ideal.Hand.final15 m c).symm

open Cert.Kernel2Ideal in
/-- The second reference's queries as a whole are the array that the second kernel leaves, on real gains and gate weights. -/
theorem whole16_eq (h : FVec Ideal S16x2048x1024 .f32) (mx : FVec Ideal S16x2048x2048 .bf16) (wo : FVec Ideal S1x2048x1024 .f32) (gq : FVec Ideal S1x1024 .f32) (wq : FVec Ideal S1x1024x1024 .f32) (ng : FVec Ideal S2x1024 .f32) (wg : FVec Ideal S2x1024x2816 .f32) (wu : FVec Ideal S2x1024x2816 .f32) (wd : FVec Ideal S2x2816x1024 .f32)
    (hn : ∀ i, ∃ z : ℝ, ng i = (z : EReal)) (hw : ∀ i, ∃ z : ℝ, wg i = (z : EReal)) :
    Cert.Reference2Ideal.Read.val_main_v147 (F := Ideal) h mx wo gq wq ng wg wu wd = fun y : S32768x1024.Idx => (Cert.Kernel2Ideal.Hand.qAt h mx wo gq wq ng wg wu wd
      ⟨(y 0).val / 2048, by have : (y 0).val < 32768 := (y 0).isLt; omega⟩ ⟨(y 0).val % 2048, by omega⟩ (y 1) : Elt Ideal .bf16) := by
  funext y
  exact (congrArg (Cert.Reference2Ideal.Read.val_main_v147 (F := Ideal) h mx wo gq wq ng wg wu wd) (ValueIdx.eq_ix2 y)).trans (Cert.Reference2Ideal.Hand.out1_eq h mx wo gq wq ng wg wu wd hn hw (y 0) (y 1))

/-- The second kernel's array of the queries and the second reference's are the same, where the precondition holds. -/
theorem result16_eq (m : (ℓ : Loc Cert.Kernel2Ideal.nD Cert.Kernel2Ideal.τ Cert.Kernel2Ideal.sig) → Buf (Elt Ideal) ℓ) (hpre : Cert.Pre_Kernel2Ideal_finite_gate m) (c : Dev Cert.Kernel2Ideal.nD) :
    Cert.Reference2Ideal.Read.val_main_v147 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) = (Cert.Kernel2Ideal.Gen.dats m 0 c).arrAt 16 Cert.Kernel2Ideal.cfg0.N := by
  obtain ⟨h8, h9⟩ := Cert.Pre_finite_gate.Hand.finite _ _ _ _ _ _ _ _ _ _ _ _ (hpre c)
  exact (whole16_eq _ _ _ _ _ _ _ _ _ h8 h9).trans (Cert.Kernel2Ideal.Hand.final16 m c).symm

open Cert.Kernel2Ideal in
/-- The second reference's keys as a whole are the array that the second kernel leaves, on real gains and gate weights. -/
theorem whole17_eq (h : FVec Ideal S16x2048x1024 .f32) (mx : FVec Ideal S16x2048x2048 .bf16) (wo : FVec Ideal S1x2048x1024 .f32) (gkv : FVec Ideal S1024 .f32) (wk : FVec Ideal S1024x256 .f32) (ng : FVec Ideal S2x1024 .f32) (wg : FVec Ideal S2x1024x2816 .f32) (wu : FVec Ideal S2x1024x2816 .f32) (wd : FVec Ideal S2x2816x1024 .f32)
    (hn : ∀ i, ∃ z : ℝ, ng i = (z : EReal)) (hw : ∀ i, ∃ z : ℝ, wg i = (z : EReal)) :
    Cert.Reference2Ideal.Read.val_main_v148 (F := Ideal) h mx wo gkv wk ng wg wu wd = fun y : S32768x256.Idx => (Cert.Kernel2Ideal.Hand.kAt h mx wo gkv wk ng wg wu wd
      ⟨(y 0).val / 2048, by have : (y 0).val < 32768 := (y 0).isLt; omega⟩ ⟨(y 0).val % 2048, by omega⟩ (y 1) : Elt Ideal .f32) := by
  funext y
  exact (congrArg (Cert.Reference2Ideal.Read.val_main_v148 (F := Ideal) h mx wo gkv wk ng wg wu wd) (ValueIdx.eq_ix2 y)).trans (Cert.Reference2Ideal.Hand.out2_eq h mx wo gkv wk ng wg wu wd hn hw (y 0) (y 1))

/-- The second kernel's array of the keys and the second reference's are the same, where the precondition holds. -/
theorem result17_eq (m : (ℓ : Loc Cert.Kernel2Ideal.nD Cert.Kernel2Ideal.τ Cert.Kernel2Ideal.sig) → Buf (Elt Ideal) ℓ) (hpre : Cert.Pre_Kernel2Ideal_finite_gate m) (c : Dev Cert.Kernel2Ideal.nD) :
    Cert.Reference2Ideal.Read.val_main_v148 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) = (Cert.Kernel2Ideal.Gen.dats m 0 c).arrAt 17 Cert.Kernel2Ideal.cfg0.N := by
  obtain ⟨h8, h9⟩ := Cert.Pre_finite_gate.Hand.finite _ _ _ _ _ _ _ _ _ _ _ _ (hpre c)
  exact (whole17_eq _ _ _ _ _ _ _ _ _ h8 h9).trans (Cert.Kernel2Ideal.Hand.final17 m c).symm

open Cert.Kernel2Ideal in
/-- The second reference's values as a whole are the array that the second kernel leaves, on real gains and gate weights. -/
theorem whole18_eq (h : FVec Ideal S16x2048x1024 .f32) (mx : FVec Ideal S16x2048x2048 .bf16) (wo : FVec Ideal S1x2048x1024 .f32) (gkv : FVec Ideal S1024 .f32) (wv : FVec Ideal S1024x256 .f32) (ng : FVec Ideal S2x1024 .f32) (wg : FVec Ideal S2x1024x2816 .f32) (wu : FVec Ideal S2x1024x2816 .f32) (wd : FVec Ideal S2x2816x1024 .f32)
    (hn : ∀ i, ∃ z : ℝ, ng i = (z : EReal)) (hw : ∀ i, ∃ z : ℝ, wg i = (z : EReal)) :
    Cert.Reference2Ideal.Read.val_main_v149 (F := Ideal) h mx wo gkv wv ng wg wu wd = fun y : S32768x256.Idx => (Cert.Kernel2Ideal.Hand.vAt h mx wo gkv wv ng wg wu wd
      ⟨(y 0).val / 2048, by have : (y 0).val < 32768 := (y 0).isLt; omega⟩ ⟨(y 0).val % 2048, by omega⟩ (y 1) : Elt Ideal .f32) := by
  funext y
  exact (congrArg (Cert.Reference2Ideal.Read.val_main_v149 (F := Ideal) h mx wo gkv wv ng wg wu wd) (ValueIdx.eq_ix2 y)).trans (Cert.Reference2Ideal.Hand.out3_eq h mx wo gkv wv ng wg wu wd hn hw (y 0) (y 1))

/-- The second kernel's array of the values and the second reference's are the same, where the precondition holds. -/
theorem result18_eq (m : (ℓ : Loc Cert.Kernel2Ideal.nD Cert.Kernel2Ideal.τ Cert.Kernel2Ideal.sig) → Buf (Elt Ideal) ℓ) (hpre : Cert.Pre_Kernel2Ideal_finite_gate m) (c : Dev Cert.Kernel2Ideal.nD) :
    Cert.Reference2Ideal.Read.val_main_v149 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) = (Cert.Kernel2Ideal.Gen.dats m 0 c).arrAt 18 Cert.Kernel2Ideal.cfg0.N := by
  obtain ⟨h8, h9⟩ := Cert.Pre_finite_gate.Hand.finite _ _ _ _ _ _ _ _ _ _ _ _ (hpre c)
  exact (whole18_eq _ _ _ _ _ _ _ _ _ h8 h9).trans (Cert.Kernel2Ideal.Hand.final18 m c).symm

/-- The second kernel and the second reference, over the extended reals and from equal arguments, end with equal results. -/
theorem equal2 : Cert.algebraic_Kernel2Ideal_Reference2Ideal_pre_finite_gate := by
  intro m g m' g' hpre hagree
  refine ⟨fun c => (Cert.Kernel2Ideal.Gen.dats m 0 c).arrAt 15 Cert.Kernel2Ideal.cfg0.N, fun c => (Cert.Kernel2Ideal.Gen.dats m 0 c).arrAt 16 Cert.Kernel2Ideal.cfg0.N, fun c => (Cert.Kernel2Ideal.Gen.dats m 0 c).arrAt 17 Cert.Kernel2Ideal.cfg0.N, fun c => (Cert.Kernel2Ideal.Gen.dats m 0 c).arrAt 18 Cert.Kernel2Ideal.cfg0.N, Cert.Kernel2Ideal.Value.run_blocks m g,
    (θ_run Cert.Reference2Ideal.defs _ _).mono (fun r h c => ⟨?_, ?_, ?_, ?_, (h c).2.2.2.2⟩) (Cert.Reference2Ideal.Value.run (F := Ideal) m' g')⟩
  · refine ((h c).1.trans (Cert.Reference2Ideal.Read.val_main_v145_eq (StableHlo.launchContents m' c))).trans ?_
    refine Eq.trans ?_ (result15_eq m hpre c)
    obtain ⟨e0, e1, e2, e3, e4, e5, e6, e7, e8, e9, e10, e11⟩ := hagree c
    show Cert.Reference2Ideal.Read.val_main_v145 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) = _
    rw [e0, e1, e2, e8, e9, e10, e11]
  · refine ((h c).2.1.trans (Cert.Reference2Ideal.Read.val_main_v147_eq (StableHlo.launchContents m' c))).trans ?_
    refine Eq.trans ?_ (result16_eq m hpre c)
    obtain ⟨e0, e1, e2, e3, e4, e5, e6, e7, e8, e9, e10, e11⟩ := hagree c
    show Cert.Reference2Ideal.Read.val_main_v147 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) = _
    rw [e0, e1, e2, e6, e7, e8, e9, e10, e11]
  · refine ((h c).2.2.1.trans (Cert.Reference2Ideal.Read.val_main_v148_eq (StableHlo.launchContents m' c))).trans ?_
    refine Eq.trans ?_ (result17_eq m hpre c)
    obtain ⟨e0, e1, e2, e3, e4, e5, e6, e7, e8, e9, e10, e11⟩ := hagree c
    show Cert.Reference2Ideal.Read.val_main_v148 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) = _
    rw [e0, e1, e2, e3, e4, e8, e9, e10, e11]
  · refine ((h c).2.2.2.1.trans (Cert.Reference2Ideal.Read.val_main_v149_eq (StableHlo.launchContents m' c))).trans ?_
    refine Eq.trans ?_ (result18_eq m hpre c)
    obtain ⟨e0, e1, e2, e3, e4, e5, e6, e7, e8, e9, e10, e11⟩ := hagree c
    show Cert.Reference2Ideal.Read.val_main_v149 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) = _
    rw [e0, e1, e2, e3, e5, e8, e9, e10, e11]

/-- The third kernel over the machine's floats runs to the end, leaves its arguments as they were and its semaphores at zero. -/
theorem frame_kernel3 : Cert.quiescent_Kernel3 := fun m g _ => Cert.Kernel3.Gen.frame m g

/-- The same of the third kernel over the extended reals. -/
theorem frame_kernel3Ideal : Cert.quiescent_Kernel3Ideal := fun m g _ => Cert.Kernel3Ideal.Gen.frame m g

/-- The same where the precondition holds. -/
theorem frame_kernel3Ideal_pre : Cert.quiescent_Kernel3Ideal_pre_finite_last := fun m g _ => Cert.Kernel3Ideal.Gen.frame m g

/-- The third reference over the extended reals runs to the end and leaves its arguments as they were; it has no semaphore. -/
theorem frame_reference3Ideal : Cert.quiescent_Reference3Ideal := fun m g _ =>
  (θ_run Cert.Reference3Ideal.defs _ _).mono (fun r h => ⟨fun c => (h c).2, Idealize.ShloMosaic.sem_eq_zero_of_no_sems (by decide) r.2⟩) (Cert.Reference3Ideal.Value.run (F := Ideal) m g)

/-- The same where the precondition holds. -/
theorem frame_reference3Ideal_pre : Cert.quiescent_Reference3Ideal_pre_finite_last := fun m g _ => frame_reference3Ideal m g trivial

/-- The third kernel is idealized as it stands: no constant of it has a name. -/
theorem constants3 : Cert.preserves_Kernel3_Kernel3Ideal := trivial

open Cert.Kernel3Ideal in
/-- The third reference's result as a whole is the array that the third kernel leaves, on real gains and gate weights. -/
theorem whole3_8_eq (o : FVec Ideal S128x8x1024 .f32) (h : FVec Ideal S128x8x1024 .f32) (wo : FVec Ideal S1x1024x1024 .f32) (ng : FVec Ideal S2x1024 .f32) (wg : FVec Ideal S2x1024x2816 .f32) (wu : FVec Ideal S2x1024x2816 .f32) (wd : FVec Ideal S2x2816x1024 .f32) (gf : FVec Ideal S1024 .f32)
    (hn : ∀ i, ∃ z : ℝ, ng i = (z : EReal)) (hw : ∀ i, ∃ z : ℝ, wg i = (z : EReal)) :
    Cert.Reference3Ideal.Read.val_main_v43 (F := Ideal) o h wo ng wg wu wd gf = fun y : S1024x1024.Idx => (Cert.Kernel3Ideal.Hand.yAt o h wo ng wg wu wd gf ⟨(y 0).val / 8, by have : (y 0).val < 1024 := (y 0).isLt; omega⟩ ⟨(y 0).val % 8, by omega⟩ (y 1) : Elt Ideal .f32) := by
  funext y
  exact (congrArg (Cert.Reference3Ideal.Read.val_main_v43 (F := Ideal) o h wo ng wg wu wd gf) (ValueIdx.eq_ix2 y)).trans (Cert.Reference3Ideal.Hand.out_eq o h wo ng wg wu wd gf hn hw (y 0) (y 1))

/-- The third kernel's array of the result and the third reference's are the same, where the precondition holds. -/
theorem result3_8_eq (m : (ℓ : Loc Cert.Kernel3Ideal.nD Cert.Kernel3Ideal.τ Cert.Kernel3Ideal.sig) → Buf (Elt Ideal) ℓ) (hpre : Cert.Pre_Kernel3Ideal_finite_last m) (c : Dev Cert.Kernel3Ideal.nD) :
    Cert.Reference3Ideal.Read.val_main_v43 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) = (Cert.Kernel3Ideal.Gen.dats m 0 c).arrAt 8 Cert.Kernel3Ideal.cfg0.N := by
  obtain ⟨hn, hw⟩ := Cert.Pre_finite_last.Hand.finite _ _ _ _ _ _ _ _ (hpre c)
  exact (whole3_8_eq _ _ _ _ _ _ _ _ hn hw).trans (Cert.Kernel3Ideal.Hand.final8 m c).symm

/-- The third kernel and the third reference, over the extended reals and from equal arguments, end with equal results. -/
theorem equal3 : Cert.algebraic_Kernel3Ideal_Reference3Ideal_pre_finite_last := by
  intro m g m' g' hpre hagree
  refine ⟨fun c => (Cert.Kernel3Ideal.Gen.dats m 0 c).arrAt 8 Cert.Kernel3Ideal.cfg0.N, Cert.Kernel3Ideal.Value.run_blocks m g,
    (θ_run Cert.Reference3Ideal.defs _ _).mono (fun r h c => ⟨?_, (h c).2⟩) (Cert.Reference3Ideal.Value.run (F := Ideal) m' g')⟩
  · refine ((h c).1.trans (Cert.Reference3Ideal.Read.val_main_v43_eq m' c)).trans ?_
    refine Eq.trans ?_ (result3_8_eq m hpre c)
    obtain ⟨e0, e1, e2, e3, e4, e5, e6, e7⟩ := hagree c
    show Cert.Reference3Ideal.Read.val_main_v43 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) = _
    rw [e0, e1, e2, e3, e4, e5, e6, e7]

/-- The fourth kernel over the machine's floats runs to the end, leaves its arguments as they were and its semaphores at zero. -/
theorem frame_kernel4 : Cert.quiescent_Kernel4 := fun m g _ => Cert.Kernel4.Gen.frame m g

/-- The same of the fourth kernel over the extended reals. -/
theorem frame_kernel4Ideal : Cert.quiescent_Kernel4Ideal := fun m g _ => Cert.Kernel4Ideal.Gen.frame m g

/-- The fourth reference over the extended reals runs to the end and leaves its arguments as they were; it has no semaphore. -/
theorem frame_reference4Ideal : Cert.quiescent_Reference4Ideal := fun m g _ =>
  (θ_run Cert.Reference4Ideal.defs _ _).mono (fun r h => ⟨fun c => (h c).2.2.2, Idealize.ShloMosaic.sem_eq_zero_of_no_sems (by decide) r.2⟩) (Cert.Reference4Ideal.Value.run (F := Ideal) m g)

/-- The fourth kernel is idealized as it stands: no constant of it has a name. -/
theorem constants4 : Cert.preserves_Kernel4_Kernel4Ideal := trivial

open Cert.Kernel4Ideal in
/-- The fourth reference's gate as a whole is the array that the fourth kernel leaves. -/
theorem whole4_3_eq (h : FVec Ideal S128x8x1024 .f32) (g : FVec Ideal S1x1024 .f32) (w : FVec Ideal S1x1024x5152 .f32) :
    Cert.Reference4Ideal.Read.val_main_v21 (F := Ideal) h g w = fun y : S1024x2048.Idx => (Cert.Kernel4Ideal.Hand.pAt h g w ⟨(y 0).val / 8, by have : (y 0).val < 1024 := (y 0).isLt; omega⟩ ⟨(y 0).val % 8, by omega⟩ (Cert.Kernel4Ideal.Hand.colZ (y 1)) : Elt Ideal .f32) := by
  funext y
  exact (congrArg (Cert.Reference4Ideal.Read.val_main_v21 (F := Ideal) h g w) (ValueIdx.eq_ix2 y)).trans (Cert.Reference4Ideal.Hand.out0_eq h g w (y 0) (y 1))

/-- The fourth kernel's array of the gate and the fourth reference's are the same. -/
theorem result4_3_eq (m : (ℓ : Loc Cert.Kernel4Ideal.nD Cert.Kernel4Ideal.τ Cert.Kernel4Ideal.sig) → Buf (Elt Ideal) ℓ) (c : Dev Cert.Kernel4Ideal.nD) :
    Cert.Reference4Ideal.Read.val_main_v21 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) = (Cert.Kernel4Ideal.Gen.dats m 0 c).arrAt 3 Cert.Kernel4Ideal.cfg0.N := by
  exact (whole4_3_eq _ _ _ ).trans (Cert.Kernel4Ideal.Hand.final3 m c).symm

open Cert.Kernel4Ideal in
/-- The fourth reference's convolution's input as a whole is the array that the fourth kernel leaves. -/
theorem whole4_4_eq (h : FVec Ideal S128x8x1024 .f32) (g : FVec Ideal S1x1024 .f32) (w : FVec Ideal S1x1024x5152 .f32) :
    Cert.Reference4Ideal.Read.val_main_v22 (F := Ideal) h g w = fun y : S1024x3072.Idx => (Cert.Kernel4Ideal.Hand.pAt h g w ⟨(y 0).val / 8, by have : (y 0).val < 1024 := (y 0).isLt; omega⟩ ⟨(y 0).val % 8, by omega⟩ (Cert.Kernel4Ideal.Hand.colX (y 1)) : Elt Ideal .f32) := by
  funext y
  exact (congrArg (Cert.Reference4Ideal.Read.val_main_v22 (F := Ideal) h g w) (ValueIdx.eq_ix2 y)).trans (Cert.Reference4Ideal.Hand.out1_eq h g w (y 0) (y 1))

/-- The fourth kernel's array of the convolution's input and the fourth reference's are the same. -/
theorem result4_4_eq (m : (ℓ : Loc Cert.Kernel4Ideal.nD Cert.Kernel4Ideal.τ Cert.Kernel4Ideal.sig) → Buf (Elt Ideal) ℓ) (c : Dev Cert.Kernel4Ideal.nD) :
    Cert.Reference4Ideal.Read.val_main_v22 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) = (Cert.Kernel4Ideal.Gen.dats m 0 c).arrAt 4 Cert.Kernel4Ideal.cfg0.N := by
  exact (whole4_4_eq _ _ _ ).trans (Cert.Kernel4Ideal.Hand.final4 m c).symm

open Cert.Kernel4Ideal in
/-- The fourth reference's step sizes as a whole is the array that the fourth kernel leaves. -/
theorem whole4_5_eq (h : FVec Ideal S128x8x1024 .f32) (g : FVec Ideal S1x1024 .f32) (w : FVec Ideal S1x1024x5152 .f32) :
    Cert.Reference4Ideal.Read.val_main_v20 (F := Ideal) h g w = fun y : S1024x128.Idx => (Cert.Kernel4Ideal.Hand.dAt h g w ⟨(y 0).val / 8, by have : (y 0).val < 1024 := (y 0).isLt; omega⟩ ⟨(y 0).val % 8, by omega⟩ (y 1) : Elt Ideal .f32) := by
  funext y
  exact (congrArg (Cert.Reference4Ideal.Read.val_main_v20 (F := Ideal) h g w) (ValueIdx.eq_ix2 y)).trans (Cert.Reference4Ideal.Hand.out2_eq h g w (y 0) (y 1))

/-- The fourth kernel's array of the step sizes and the fourth reference's are the same. -/
theorem result4_5_eq (m : (ℓ : Loc Cert.Kernel4Ideal.nD Cert.Kernel4Ideal.τ Cert.Kernel4Ideal.sig) → Buf (Elt Ideal) ℓ) (c : Dev Cert.Kernel4Ideal.nD) :
    Cert.Reference4Ideal.Read.val_main_v20 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) = (Cert.Kernel4Ideal.Gen.dats m 0 c).arrAt 5 Cert.Kernel4Ideal.cfg0.N := by
  exact (whole4_5_eq _ _ _ ).trans (Cert.Kernel4Ideal.Hand.final5 m c).symm

/-- The fourth kernel and the fourth reference, over the extended reals and from equal arguments, end with equal results. -/
theorem equal4 : Cert.algebraic_Kernel4Ideal_Reference4Ideal := by
  intro m g m' g' _ hagree
  refine ⟨fun c => (Cert.Kernel4Ideal.Gen.dats m 0 c).arrAt 3 Cert.Kernel4Ideal.cfg0.N, fun c => (Cert.Kernel4Ideal.Gen.dats m 0 c).arrAt 4 Cert.Kernel4Ideal.cfg0.N, fun c => (Cert.Kernel4Ideal.Gen.dats m 0 c).arrAt 5 Cert.Kernel4Ideal.cfg0.N, Cert.Kernel4Ideal.Value.run_blocks m g,
    (θ_run Cert.Reference4Ideal.defs _ _).mono (fun r h c => ⟨?_, ?_, ?_, (h c).2.2.2⟩) (Cert.Reference4Ideal.Value.run (F := Ideal) m' g')⟩
  · refine ((h c).1.trans (Cert.Reference4Ideal.Read.val_main_v21_eq _ _ _)).trans ?_
    refine Eq.trans ?_ (result4_3_eq m c)
    obtain ⟨e0, e1, e2⟩ := hagree c
    show Cert.Reference4Ideal.Read.val_main_v21 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) = _
    rw [e0, e1, e2]
  · refine ((h c).2.1.trans (Cert.Reference4Ideal.Read.val_main_v22_eq _ _ _)).trans ?_
    refine Eq.trans ?_ (result4_4_eq m c)
    obtain ⟨e0, e1, e2⟩ := hagree c
    show Cert.Reference4Ideal.Read.val_main_v22 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) = _
    rw [e0, e1, e2]
  · refine ((h c).2.2.1.trans (Cert.Reference4Ideal.Read.val_main_v20_eq _ _ _)).trans ?_
    refine Eq.trans ?_ (result4_5_eq m c)
    obtain ⟨e0, e1, e2⟩ := hagree c
    show Cert.Reference4Ideal.Read.val_main_v20 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) = _
    rw [e0, e1, e2]

/-- The fifth kernel over the machine's floats runs to the end, leaves its arguments as they were and its semaphores at zero. -/
theorem frame_kernel5 : Cert.quiescent_Kernel5 := fun m g _ => Cert.Kernel5.Gen.frame m g

/-- The same of the fifth kernel over the extended reals. -/
theorem frame_kernel5Ideal : Cert.quiescent_Kernel5Ideal := fun m g _ => Cert.Kernel5Ideal.Gen.frame m g

/-- The fifth reference over the extended reals runs to the end and leaves its arguments as they were; it has no semaphore. -/
theorem frame_reference5Ideal : Cert.quiescent_Reference5Ideal := fun m g _ =>
  (θ_run Cert.Reference5Ideal.defs _ _).mono (fun r h => ⟨fun c => (h c).2.2, Idealize.ShloMosaic.sem_eq_zero_of_no_sems (by decide) r.2⟩) (Cert.Reference5Ideal.Value.run (F := Ideal) m g)

/-- The fifth kernel is idealized as it stands: no constant of it has a name. -/
theorem constants5 : Cert.preserves_Kernel5_Kernel5Ideal := trivial

open Cert.Kernel5Ideal in
/-- The fifth reference's buffer of the keys as a whole is the array that the fifth kernel leaves. -/
theorem whole5_9_eq (cur : FVec Ideal S128x8x4x64 .f32) (buf : FVec Ideal S128x128x4x64 .f32) :
    Cert.Reference5Ideal.Read.val_main_v3 (F := Ideal) cur buf = fun y : S128x128x256.Idx => (Cert.Kernel5Ideal.Hand.carryAt cur buf (y 0) (y 1) (y 2) : Elt Ideal .f32) := by
  funext y
  exact (congrArg (Cert.Reference5Ideal.Read.val_main_v3 (F := Ideal) cur buf) (ValueIdx.eq_ix3 y)).trans (Cert.Reference5Ideal.Hand.out0_eq cur buf (y 0) (y 1) (y 2))

/-- The fifth kernel's array of the keys and the fifth reference's are the same. -/
theorem result5_9_eq (m : (ℓ : Loc Cert.Kernel5Ideal.nD Cert.Kernel5Ideal.τ Cert.Kernel5Ideal.sig) → Buf (Elt Ideal) ℓ) (c : Dev Cert.Kernel5Ideal.nD) :
    Cert.Reference5Ideal.Read.val_main_v3 (F := Ideal) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg3)) = (Cert.Kernel5Ideal.Gen.dats m 0 c).arrAt 9 Cert.Kernel5Ideal.cfg0.N :=
  (whole5_9_eq _ _).trans (Cert.Kernel5Ideal.Hand.final9 m c).symm

open Cert.Kernel5Ideal in
/-- The fifth reference's buffer of the values as a whole is the array that the fifth kernel leaves. -/
theorem whole5_10_eq (cur : FVec Ideal S128x8x4x64 .f32) (buf : FVec Ideal S128x128x4x64 .f32) :
    Cert.Reference5Ideal.Read.val_main_v5 (F := Ideal) cur buf = fun y : S128x128x256.Idx => (Cert.Kernel5Ideal.Hand.carryAt cur buf (y 0) (y 1) (y 2) : Elt Ideal .f32) := by
  funext y
  exact (congrArg (Cert.Reference5Ideal.Read.val_main_v5 (F := Ideal) cur buf) (ValueIdx.eq_ix3 y)).trans (Cert.Reference5Ideal.Hand.out1_eq cur buf (y 0) (y 1) (y 2))

/-- The fifth kernel's array of the values and the fifth reference's are the same. -/
theorem result5_10_eq (m : (ℓ : Loc Cert.Kernel5Ideal.nD Cert.Kernel5Ideal.τ Cert.Kernel5Ideal.sig) → Buf (Elt Ideal) ℓ) (c : Dev Cert.Kernel5Ideal.nD) :
    Cert.Reference5Ideal.Read.val_main_v5 (F := Ideal) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg4)) = (Cert.Kernel5Ideal.Gen.dats m 0 c).arrAt 10 Cert.Kernel5Ideal.cfg0.N :=
  (whole5_10_eq _ _).trans (Cert.Kernel5Ideal.Hand.final10 m c).symm

/-- The fifth kernel and the fifth reference, over the extended reals and from equal arguments, end with equal results. -/
theorem equal5 : Cert.algebraic_Kernel5Ideal_Reference5Ideal := by
  intro m g m' g' _ hagree
  refine ⟨fun c => (Cert.Kernel5Ideal.Gen.dats m 0 c).arrAt 9 Cert.Kernel5Ideal.cfg0.N, fun c => (Cert.Kernel5Ideal.Gen.dats m 0 c).arrAt 10 Cert.Kernel5Ideal.cfg0.N, (θ_run Cert.Kernel5Ideal.defs _ _).mono (fun r h c => (h c).2) (Cert.Kernel5Ideal.Value.run_blocks m g),
    (θ_run Cert.Reference5Ideal.defs _ _).mono (fun r h c => ⟨?_, ?_, (h c).2.2⟩) (Cert.Reference5Ideal.Value.run (F := Ideal) m' g')⟩
  · refine ((h c).1.trans (Cert.Reference5Ideal.Read.val_main_v3_eq _ _)).trans ?_
    refine Eq.trans ?_ (result5_9_eq m c)
    obtain ⟨e0, e1, e2, e3, e4, e5⟩ := hagree c
    show Cert.Reference5Ideal.Read.val_main_v3 (F := Ideal) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg3)) = _
    rw [e1, e3]
  · refine ((h c).2.1.trans (Cert.Reference5Ideal.Read.val_main_v5_eq _ _)).trans ?_
    refine Eq.trans ?_ (result5_10_eq m c)
    obtain ⟨e0, e1, e2, e3, e4, e5⟩ := hagree c
    show Cert.Reference5Ideal.Read.val_main_v5 (F := Ideal) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg4)) = _
    rw [e2, e4]

/-- The certificate's claim. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite_scores.Hand.facts, Cert.Pre_finite_gate.Hand.facts, Cert.Pre_finite_last.Hand.facts,
    frame_kernel, frame_kernelIdeal, frame_kernelIdeal_pre, frame_referenceIdeal, frame_referenceIdeal_pre,
    frame_kernel2, frame_kernel2Ideal, frame_kernel2Ideal_pre, frame_reference2Ideal, frame_reference2Ideal_pre,
    frame_kernel3, frame_kernel3Ideal, frame_kernel3Ideal_pre, frame_reference3Ideal, frame_reference3Ideal_pre,
    frame_kernel4, frame_kernel4Ideal, frame_reference4Ideal,
    frame_kernel5, frame_kernel5Ideal, frame_reference5Ideal,
    constants, equal, constants2, equal2, constants3, equal3, constants4, equal4, constants5, equal5⟩

end Cert.Proof

end
